-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_inputs_finite [hPre_router_inputs_finite : Cert.Pre_router_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_inputs_finite [hPre_router_inputs_finite : Cert.Pre_router_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_router_inputs_finite [hKernelIdeal : Cert.KernelIdeal.Facts] [hPre_router_inputs_finite : Cert.Pre_router_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_router_inputs_finite [hReferenceIdeal : Cert.ReferenceIdeal.Facts] [hPre_router_inputs_finite : Cert.Pre_router_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_router_inputs_finite [hKernelIdeal : Cert.KernelIdeal.Facts] [hReferenceIdeal : Cert.ReferenceIdeal.Facts] [hPre_router_inputs_finite : Cert.Pre_router_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v348)) (v1 : (c : Dev Cert.KernelIdeal.nD) → Buf (Elt Ideal) ((c.tc : Thread Cert.KernelIdeal.nD Cert.KernelIdeal.τ).loc Cert.KernelIdeal.main_v349)) (v2 : (c : Dev Cert.KernelIdeal.nD) → Buf (Elt Ideal) ((c.tc : Thread Cert.KernelIdeal.nD Cert.KernelIdeal.τ).loc Cert.KernelIdeal.main_v350)) (v3 : (c : Dev Cert.KernelIdeal.nD) → Buf (Elt Ideal) ((c.tc : Thread Cert.KernelIdeal.nD Cert.KernelIdeal.τ).loc Cert.KernelIdeal.main_v351)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v348) = v0 c
          ∧ r.2.mem ((c.tc : Thread Cert.KernelIdeal.nD Cert.KernelIdeal.τ).loc Cert.KernelIdeal.main_v349) = v1 c
          ∧ r.2.mem ((c.tc : Thread Cert.KernelIdeal.nD Cert.KernelIdeal.τ).loc Cert.KernelIdeal.main_v350) = v2 c
          ∧ r.2.mem ((c.tc : Thread Cert.KernelIdeal.nD Cert.KernelIdeal.τ).loc Cert.KernelIdeal.main_v351) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v985) = v0 c
          ∧ r.2.mem ((c.tc : Thread Cert.ReferenceIdeal.nD Cert.ReferenceIdeal.τ).loc Cert.ReferenceIdeal.main_v809) = v1 c
          ∧ r.2.mem ((c.tc : Thread Cert.ReferenceIdeal.nD Cert.ReferenceIdeal.τ).loc Cert.ReferenceIdeal.main_v483) = v2 c
          ∧ r.2.mem ((c.tc : Thread Cert.ReferenceIdeal.nD Cert.ReferenceIdeal.τ).loc Cert.ReferenceIdeal.main_v517) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_router_inputs_finite : Cert.Pre_router_inputs_finite.Facts),
    quiescent_Kernel (hKernel := hKernel)
    ∧ quiescent_KernelIdeal (hKernelIdeal := hKernelIdeal)
    ∧ quiescent_KernelIdeal_pre_router_inputs_finite (hKernelIdeal := hKernelIdeal) (hPre_router_inputs_finite := hPre_router_inputs_finite)
    ∧ quiescent_ReferenceIdeal (hReferenceIdeal := hReferenceIdeal)
    ∧ quiescent_ReferenceIdeal_pre_router_inputs_finite (hReferenceIdeal := hReferenceIdeal) (hPre_router_inputs_finite := hPre_router_inputs_finite)
    ∧ preserves_Kernel_KernelIdeal
    ∧ algebraic_KernelIdeal_ReferenceIdeal_pre_router_inputs_finite (hKernelIdeal := hKernelIdeal) (hReferenceIdeal := hReferenceIdeal) (hPre_router_inputs_finite := hPre_router_inputs_finite)
-- ==== Pre_router_inputs_finite.lean ====
abbrev S2x1x224x224 : Shape := ⟨4, ![2, 1, 224, 224]⟩
abbrev S2x64x224x224 : Shape := ⟨4, ![2, 64, 224, 224]⟩
abbrev S64x1x3x3 : Shape := ⟨4, ![64, 1, 3, 3]⟩
abbrev S64 : Shape := ⟨1, ![64]⟩
abbrev S2x64x64x3x3 : Shape := ⟨5, ![2, 64, 64, 3, 3]⟩
abbrev S2x64 : Shape := ⟨2, ![2, 64]⟩
abbrev S64x64x3x3 : Shape := ⟨4, ![64, 64, 3, 3]⟩
abbrev S64x3 : Shape := ⟨2, ![64, 3]⟩
abbrev S3 : Shape := ⟨1, ![3]⟩
abbrev S3x64x64x3x3 : Shape := ⟨5, ![3, 64, 64, 3, 3]⟩
abbrev S3x64 : Shape := ⟨2, ![3, 64]⟩
abbrev S1x64x3x3 : Shape := ⟨4, ![1, 64, 3, 3]⟩
abbrev S1 : Shape := ⟨1, ![1]⟩
abbrev S_ : Shape := ⟨0, ![]⟩

class Facts : Prop where
  bcast_S_S2x1x224x224 : S_.BroadcastsInDim S2x1x224x224 (![] : Fin 0 → Fin S2x1x224x224.rank)
  bcast_S_S2x64x224x224 : S_.BroadcastsInDim S2x64x224x224 (![] : Fin 0 → Fin S2x64x224x224.rank)
  bcast_S_S64x1x3x3 : S_.BroadcastsInDim S64x1x3x3 (![] : Fin 0 → Fin S64x1x3x3.rank)
  bcast_S_S64 : S_.BroadcastsInDim S64 (![] : Fin 0 → Fin S64.rank)
  bcast_S_S2x64x64x3x3 : S_.BroadcastsInDim S2x64x64x3x3 (![] : Fin 0 → Fin S2x64x64x3x3.rank)
  bcast_S_S2x64 : S_.BroadcastsInDim S2x64 (![] : Fin 0 → Fin S2x64.rank)
  bcast_S_S64x64x3x3 : S_.BroadcastsInDim S64x64x3x3 (![] : Fin 0 → Fin S64x64x3x3.rank)
  bcast_S_S64x3 : S_.BroadcastsInDim S64x3 (![] : Fin 0 → Fin S64x3.rank)
  bcast_S_S3 : S_.BroadcastsInDim S3 (![] : Fin 0 → Fin S3.rank)

variable [Facts]

def fn_part1 {F : FTy → Type} [FloatOps F] (main_arg6 : FVec F S64x64x3x3 .f32) (main_arg7 : FVec F S64 .f32) (main_arg8 : FVec F S64x64x3x3 .f32) (main_arg9 : FVec F S64 .f32) (main_arg10 : FVec F S64x3 .f32) (main_arg11 : FVec F S3 .f32) (main_v2 : IVec S2x1x224x224 1) (main_v5 : IVec S2x64x224x224 1) (main_v8 : IVec S64x1x3x3 1) (main_v11 : IVec S64 1) (main_v14 : IVec S2x64x64x3x3 1) (main_v17 : IVec S2x64 1) : IVec S2x1x224x224 1 × IVec S2x64x224x224 1 × IVec S64x1x3x3 1 × IVec S64 1 × IVec S2x64x64x3x3 1 × IVec S2x64 1 × IVec S64x64x3x3 1 × IVec S64 1 × IVec S64x64x3x3 1 × IVec S64 1 × IVec S64x3 1 × IVec S3 1 :=
  let main_v18 : FVec F S64x64x3x3 .f32 := Host.absf main_arg6
  let main_cst_5 : FVec F S_ .f32 := constant S_ .f32 0x7F800000#32
  let main_v19 : FVec F S64x64x3x3 .f32 := broadcastInDim S64x64x3x3 ![] bcast_S_S64x64x3x3 main_cst_5
  let main_v20 : IVec S64x64x3x3 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64x64x3x3 .f32 := Host.absf main_arg8
  let main_cst_7 : FVec F S_ .f32 := constant S_ .f32 0x7F800000#32
  let main_v25 : FVec F S64x64x3x3 .f32 := broadcastInDim S64x64x3x3 ![] bcast_S_S64x64x3x3 main_cst_7
  let main_v26 : IVec S64x64x3x3 1 := cmpf .olt main_v24 main_v25
  let main_v27 : FVec F S64 .f32 := Host.absf main_arg9
  let main_cst_8 : FVec F S_ .f32 := constant S_ .f32 0x7F800000#32
  let main_v28 : FVec F S64 .f32 := broadcastInDim S64 ![] bcast_S_S64 main_cst_8
  let main_v29 : IVec S64 1 := cmpf .olt main_v27 main_v28
  let main_v30 : FVec F S64x3 .f32 := Host.absf main_arg10
  let main_cst_9 : FVec F S_ .f32 := constant S_ .f32 0x7F800000#32
  let main_v31 : FVec F S64x3 .f32 := broadcastInDim S64x3 ![] bcast_S_S64x3 main_cst_9
  let main_v32 : IVec S64x3 1 := cmpf .olt main_v30 main_v31
  let main_v33 : FVec F S3 .f32 := Host.absf main_arg11
  let main_cst_10 : FVec F S_ .f32 := constant S_ .f32 0x7F800000#32
  let main_v34 : FVec F S3 .f32 := broadcastInDim S3 ![] bcast_S_S3 main_cst_10
  let main_v35 : IVec S3 1 := cmpf .olt main_v33 main_v34
  (main_v2, main_v5, main_v8, main_v11, main_v14, main_v17, main_v20, main_v23, main_v26, main_v29, main_v32, main_v35)

def fn {F : FTy → Type} [FloatOps F] (main_arg0 : FVec F S2x1x224x224 .f32) (main_arg1 : FVec F S2x64x224x224 .f32) (main_arg2 : FVec F S64x1x3x3 .f32) (main_arg3 : FVec F S64 .f32) (main_arg4 : FVec F S2x64x64x3x3 .f32) (main_arg5 : FVec F S2x64 .f32) (main_arg6 : FVec F S64x64x3x3 .f32) (main_arg7 : FVec F S64 .f32) (main_arg8 : FVec F S64x64x3x3 .f32) (main_arg9 : FVec F S64 .f32) (main_arg10 : FVec F S64x3 .f32) (main_arg11 : FVec F S3 .f32) (main_arg12 : FVec F S3x64x64x3x3 .f32) (main_arg13 : FVec F S3x64 .f32) (main_arg14 : FVec F S3x64x64x3x3 .f32) (main_arg15 : FVec F S3x64 .f32) (main_arg16 : FVec F S1x64x3x3 .f32) (main_arg17 : FVec F S1 .f32) (main_arg18 : FVec F S64x1x3x3 .f32) (main_arg19 : FVec F S64 .f32) (main_arg20 : FVec F S3x64x64x3x3 .f32) (main_arg21 : FVec F S3x64 .f32) (main_arg22 : FVec F S1x64x3x3 .f32) (main_arg23 : FVec F S1 .f32) : IVec S2x1x224x224 1 × IVec S2x64x224x224 1 × IVec S64x1x3x3 1 × IVec S64 1 × IVec S2x64x64x3x3 1 × IVec S2x64 1 × IVec S64x64x3x3 1 × IVec S64 1 × IVec S64x64x3x3 1 × IVec S64 1 × IVec S64x3 1 × IVec S3 1 :=
  let main_v0 : FVec F S2x1x224x224 .f32 := Host.absf main_arg0
  let main_cst : FVec F S_ .f32 := constant S_ .f32 0x7F800000#32
  let main_v1 : FVec F S2x1x224x224 .f32 := broadcastInDim S2x1x224x224 ![] bcast_S_S2x1x224x224 main_cst
  let main_v2 : IVec S2x1x224x224 1 := cmpf .olt main_v0 main_v1
  let main_v3 : FVec F S2x64x224x224 .f32 := Host.absf main_arg1
  let main_cst_0 : FVec F S_ .f32 := constant S_ .f32 0x7F800000#32
  let main_v4 : FVec F S2x64x224x224 .f32 := broadcastInDim S2x64x224x224 ![] bcast_S_S2x64x224x224 main_cst_0
  let main_v5 : IVec S2x64x224x224 1 := cmpf .olt main_v3 main_v4
  let main_v6 : FVec F S64x1x3x3 .f32 := Host.absf main_arg2
  let main_cst_1 : FVec F S_ .f32 := constant S_ .f32 0x7F800000#32
  let main_v7 : FVec F S64x1x3x3 .f32 := broadcastInDim S64x1x3x3 ![] bcast_S_S64x1x3x3 main_cst_1
  let main_v8 : IVec S64x1x3x3 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S2x64x64x3x3 .f32 := Host.absf main_arg4
  let main_cst_3 : FVec F S_ .f32 := constant S_ .f32 0x7F800000#32
  let main_v13 : FVec F S2x64x64x3x3 .f32 := broadcastInDim S2x64x64x3x3 ![] bcast_S_S2x64x64x3x3 main_cst_3
  let main_v14 : IVec S2x64x64x3x3 1 := cmpf .olt main_v12 main_v13
  let main_v15 : FVec F S2x64 .f32 := Host.absf main_arg5
  let main_cst_4 : FVec F S_ .f32 := constant S_ .f32 0x7F800000#32
  let main_v16 : FVec F S2x64 .f32 := broadcastInDim S2x64 ![] bcast_S_S2x64 main_cst_4
  let main_v17 : IVec S2x64 1 := cmpf .olt main_v15 main_v16
  fn_part1 (F := F) main_arg6 main_arg7 main_arg8 main_arg9 main_arg10 main_arg11 main_v2 main_v5 main_v8 main_v11 main_v14 main_v17
-- ==== Kernel.lean ====
abbrev S2x1x224x224 : Shape := ⟨4, ![2, 1, 224, 224]⟩
abbrev S2x64x224x224 : Shape := ⟨4, ![2, 64, 224, 224]⟩
abbrev S64x1x3x3 : Shape := ⟨4, ![64, 1, 3, 3]⟩
abbrev S64 : Shape := ⟨1, ![64]⟩
abbrev S2x64x64x3x3 : Shape := ⟨5, ![2, 64, 64, 3, 3]⟩
abbrev S2x64 : Shape := ⟨2, ![2, 64]⟩
abbrev S64x64x3x3 : Shape := ⟨4, ![64, 64, 3, 3]⟩
abbrev S64x3 : Shape := ⟨2, ![64, 3]⟩
abbrev S3 : Shape := ⟨1, ![3]⟩
abbrev S3x64x64x3x3 : Shape := ⟨5, ![3, 64, 64, 3, 3]⟩
abbrev S3x64 : Shape := ⟨2, ![3, 64]⟩
abbrev S1x64x3x3 : Shape := ⟨4, ![1, 64, 3, 3]⟩
abbrev S1 : Shape := ⟨1, ![1]⟩
abbrev S2x224x224x1 : Shape := ⟨4, ![2, 224, 224, 1]⟩
abbrev S2x224x224x64 : Shape := ⟨4, ![2, 224, 224, 64]⟩
abbrev S3x3x1x64 : Shape := ⟨4, ![3, 3, 1, 64]⟩
abbrev S_ : Shape := ⟨0, ![]⟩
abbrev S2x226x226x1 : Shape := ⟨4, ![2, 226, 226, 1]⟩
abbrev S2x30x226x1 : Shape := ⟨4, ![2, 30, 226, 1]⟩
abbrev S2x1x30x226x1 : Shape := ⟨5, ![2, 1, 30, 226, 1]⟩
abbrev S2x8x30x226x1 : Shape := ⟨5, ![2, 8, 30, 226, 1]⟩
abbrev S1x64 : Shape := ⟨2, ![1, 64]⟩
abbrev S2x1x64 : Shape := ⟨3, ![2, 1, 64]⟩
abbrev S1x1x30x226x1 : Shape := ⟨5, ![1, 1, 30, 226, 1]⟩
abbrev S1x1x64 : Shape := ⟨3, ![1, 1, 64]⟩
abbrev S1x28x224x64 : Shape := ⟨4, ![1, 28, 224, 64]⟩
abbrev S30x226x1 : Shape := ⟨3, ![30, 226, 1]⟩
abbrev S28x224x1 : Shape := ⟨3, ![28, 224, 1]⟩
abbrev S6272x1 : Shape := ⟨2, ![6272, 1]⟩
abbrev S1x1x1x64 : Shape := ⟨4, ![1, 1, 1, 64]⟩
abbrev S6272x64 : Shape := ⟨2, ![6272, 64]⟩
abbrev S1x64x64x3x3 : Shape := ⟨5, ![1, 64, 64, 3, 3]⟩
abbrev S3x3x64x64 : Shape := ⟨4, ![3, 3, 64, 64]⟩
abbrev S2x226x226x64 : Shape := ⟨4, ![2, 226, 226, 64]⟩
abbrev S2x30x226x64 : Shape := ⟨4, ![2, 30, 226, 64]⟩
abbrev S2x1x30x226x64 : Shape := ⟨5, ![2, 1, 30, 226, 64]⟩
abbrev S2x8x30x226x64 : Shape := ⟨5, ![2, 8, 30, 226, 64]⟩
abbrev S1x1x30x226x64 : Shape := ⟨5, ![1, 1, 30, 226, 64]⟩
abbrev S30x226x64 : Shape := ⟨3, ![30, 226, 64]⟩
abbrev S28x224x64 : Shape := ⟨3, ![28, 224, 64]⟩
abbrev S1x1x64x64 : Shape := ⟨4, ![1, 1, 64, 64]⟩
abbrev S64x64 : Shape := ⟨2, ![64, 64]⟩
abbrev S3x3x64x128 : Shape := ⟨4, ![3, 3, 64, 128]⟩
abbrev S1x1x64x128 : Shape := ⟨4, ![1, 1, 64, 128]⟩
abbrev S64x128 : Shape := ⟨2, ![64, 128]⟩
abbrev S6272x128 : Shape := ⟨2, ![6272, 128]⟩
abbrev S2x3 : Shape := ⟨2, ![2, 3]⟩
abbrev S1x3 : Shape := ⟨2, ![1, 3]⟩
abbrev S2x2 : Shape := ⟨2, ![2, 2]⟩
abbrev S2 : Shape := ⟨1, ![2]⟩
abbrev S2x1 : Shape := ⟨2, ![2, 1]⟩
abbrev S3x3x3x64x64 : Shape := ⟨5, ![3, 3, 3, 64, 64]⟩
abbrev S2x2x1 : Shape := ⟨3, ![2, 2, 1]⟩
abbrev S2x2x3x3x64x64 : Shape := ⟨6, ![2, 2, 3, 3, 64, 64]⟩
abbrev S2x3x3x64x2x64 : Shape := ⟨6, ![2, 3, 3, 64, 2, 64]⟩
abbrev S2x3x3x64x128 : Shape := ⟨5, ![2, 3, 3, 64, 128]⟩
abbrev S2x2x64 : Shape := ⟨3, ![2, 2, 64]⟩
abbrev S2x128 : Shape := ⟨2, ![2, 128]⟩
abbrev S2x2x1x1x1x1 : Shape := ⟨6, ![2, 2, 1, 1, 1, 1]⟩
abbrev S2x3x3x2x64x64 : Shape := ⟨6, ![2, 3, 3, 2, 64, 64]⟩
abbrev S2x3x3x128x64 : Shape := ⟨5, ![2, 3, 3, 128, 64]⟩
abbrev S2x1x128 : Shape := ⟨3, ![2, 1, 128]⟩
abbrev S2x224x224x128 : Shape := ⟨4, ![2, 224, 224, 128]⟩
abbrev S1x3x3x64x128 : Shape := ⟨5, ![1, 3, 3, 64, 128]⟩
abbrev S1x1x128 : Shape := ⟨3, ![1, 1, 128]⟩
abbrev S1x28x224x128 : Shape := ⟨4, ![1, 28, 224, 128]⟩
abbrev S1x1x1x64x128 : Shape := ⟨5, ![1, 1, 1, 64, 128]⟩
abbrev S1x128 : Shape := ⟨2, ![1, 128]⟩
abbrev S2x226x226x128 : Shape := ⟨4, ![2, 226, 226, 128]⟩
abbrev S2x30x226x128 : Shape := ⟨4, ![2, 30, 226, 128]⟩
abbrev S2x1x30x226x128 : Shape := ⟨5, ![2, 1, 30, 226, 128]⟩
abbrev S2x8x30x226x128 : Shape := ⟨5, ![2, 8, 30, 226, 128]⟩
abbrev S1x1x30x226x128 : Shape := ⟨5, ![1, 1, 30, 226, 128]⟩
abbrev S1x3x3x128x64 : Shape := ⟨5, ![1, 3, 3, 128, 64]⟩
abbrev S30x226x128 : Shape := ⟨3, ![30, 226, 128]⟩
abbrev S28x224x128 : Shape := ⟨3, ![28, 224, 128]⟩
abbrev S1x1x1x128x64 : Shape := ⟨5, ![1, 1, 1, 128, 64]⟩
abbrev S128x64 : Shape := ⟨2, ![128, 64]⟩
abbrev S3x3x64x1 : Shape := ⟨4, ![3, 3, 64, 1]⟩
abbrev S1x1 : Shape := ⟨2, ![1, 1]⟩
abbrev S1x28x224x1 : Shape := ⟨4, ![1, 28, 224, 1]⟩
abbrev S1x1x64x1 : Shape := ⟨4, ![1, 1, 64, 1]⟩
abbrev S64x1 : Shape := ⟨2, ![64, 1]⟩
abbrev S2x1x1 : Shape := ⟨3, ![2, 1, 1]⟩
abbrev S1x1x1 : Shape := ⟨3, ![1, 1, 1]⟩

abbrev nBuf : Space → Nat
  | .hbm => 418
  | .vmem => 97
  | .smem => 0
  | _ => 0

abbrev hbmTy0_0 (i : Nat) : BufTy := match i % 128 with
  | 0 => ⟨S2x1x224x224, .f32⟩
  | 1 => ⟨S2x64x224x224, .f32⟩
  | 2 => ⟨S64x1x3x3, .f32⟩
  | 3 => ⟨S64, .f32⟩
  | 4 => ⟨S2x64x64x3x3, .f32⟩
  | 5 => ⟨S2x64, .f32⟩
  | 6 => ⟨S64x64x3x3, .f32⟩
  | 7 => ⟨S64, .f32⟩
  | 8 => ⟨S64x64x3x3, .f32⟩
  | 9 => ⟨S64, .f32⟩
  | 10 => ⟨S64x3, .f32⟩
  | 11 => ⟨S3, .f32⟩
  | 12 => ⟨S3x64x64x3x3, .f32⟩
  | 13 => ⟨S3x64, .f32⟩
  | 14 => ⟨S3x64x64x3x3, .f32⟩
  | 15 => ⟨S3x64, .f32⟩
  | 16 => ⟨S1x64x3x3, .f32⟩
  | 17 => ⟨S1, .f32⟩
  | 18 => ⟨S64x1x3x3, .f32⟩
  | 19 => ⟨S64, .f32⟩
  | 20 => ⟨S3x64x64x3x3, .f32⟩
  | 21 => ⟨S3x64, .f32⟩
  | 22 => ⟨S1x64x3x3, .f32⟩
  | 23 => ⟨S1, .f32⟩
  | 24 => ⟨S2x224x224x1, .f32⟩
  | 25 => ⟨S2x224x224x64, .f32⟩
  | 26 => ⟨S3x3x1x64, .f32⟩
  | 27 => ⟨S_, .i32⟩
  | 28 => ⟨S_, .f32⟩
  | 29 => ⟨S2x226x226x1, .f32⟩
  | 30 => ⟨S2x30x226x1, .f32⟩
  | 31 => ⟨S2x30x226x1, .f32⟩
  | 32 => ⟨S2x30x226x1, .f32⟩
  | 33 => ⟨S2x30x226x1, .f32⟩
  | 34 => ⟨S2x30x226x1, .f32⟩
  | 35 => ⟨S2x30x226x1, .f32⟩
  | 36 => ⟨S2x30x226x1, .f32⟩
  | 37 => ⟨S2x30x226x1, .f32⟩
  | 38 => ⟨S2x1x30x226x1, .f32⟩
  | 39 => ⟨S2x1x30x226x1, .f32⟩
  | 40 => ⟨S2x1x30x226x1, .f32⟩
  | 41 => ⟨S2x1x30x226x1, .f32⟩
  | 42 => ⟨S2x1x30x226x1, .f32⟩
  | 43 => ⟨S2x1x30x226x1, .f32⟩
  | 44 => ⟨S2x1x30x226x1, .f32⟩
  | 45 => ⟨S2x1x30x226x1, .f32⟩
  | 46 => ⟨S2x8x30x226x1, .f32⟩
  | 47 => ⟨S1x64, .f32⟩
  | 48 => ⟨S2x64, .f32⟩
  | 49 => ⟨S2x1x64, .f32⟩
  | 50 => ⟨S2x224x224x64, .f32⟩
  | 51 => ⟨S1x64x64x3x3, .f32⟩
  | 52 => ⟨S64x64x3x3, .f32⟩
  | 53 => ⟨S3x3x64x64, .f32⟩
  | 54 => ⟨S1x64, .f32⟩
  | 55 => ⟨S64, .f32⟩
  | 56 => ⟨S_, .i32⟩
  | 57 => ⟨S_, .f32⟩
  | 58 => ⟨S2x226x226x64, .f32⟩
  | 59 => ⟨S2x30x226x64, .f32⟩
  | 60 => ⟨S2x30x226x64, .f32⟩
  | 61 => ⟨S2x30x226x64, .f32⟩
  | 62 => ⟨S2x30x226x64, .f32⟩
  | 63 => ⟨S2x30x226x64, .f32⟩
  | 64 => ⟨S2x30x226x64, .f32⟩
  | 65 => ⟨S2x30x226x64, .f32⟩
  | 66 => ⟨S2x30x226x64, .f32⟩
  | 67 => ⟨S2x1x30x226x64, .f32⟩
  | 68 => ⟨S2x1x30x226x64, .f32⟩
  | 69 => ⟨S2x1x30x226x64, .f32⟩
  | 70 => ⟨S2x1x30x226x64, .f32⟩
  | 71 => ⟨S2x1x30x226x64, .f32⟩
  | 72 => ⟨S2x1x30x226x64, .f32⟩
  | 73 => ⟨S2x1x30x226x64, .f32⟩
  | 74 => ⟨S2x1x30x226x64, .f32⟩
  | 75 => ⟨S2x8x30x226x64, .f32⟩
  | 76 => ⟨S1x64, .f32⟩
  | 77 => ⟨S2x64, .f32⟩
  | 78 => ⟨S2x1x64, .f32⟩
  | 79 => ⟨S2x224x224x64, .f32⟩
  | 80 => ⟨S1x64x64x3x3, .f32⟩
  | 81 => ⟨S64x64x3x3, .f32⟩
  | 82 => ⟨S3x3x64x64, .f32⟩
  | 83 => ⟨S1x64, .f32⟩
  | 84 => ⟨S64, .f32⟩
  | 85 => ⟨S_, .i32⟩
  | 86 => ⟨S_, .f32⟩
  | 87 => ⟨S2x226x226x64, .f32⟩
  | 88 => ⟨S2x30x226x64, .f32⟩
  | 89 => ⟨S2x30x226x64, .f32⟩
  | 90 => ⟨S2x30x226x64, .f32⟩
  | 91 => ⟨S2x30x226x64, .f32⟩
  | 92 => ⟨S2x30x226x64, .f32⟩
  | 93 => ⟨S2x30x226x64, .f32⟩
  | 94 => ⟨S2x30x226x64, .f32⟩
  | 95 => ⟨S2x30x226x64, .f32⟩
  | 96 => ⟨S2x1x30x226x64, .f32⟩
  | 97 => ⟨S2x1x30x226x64, .f32⟩
  | 98 => ⟨S2x1x30x226x64, .f32⟩
  | 99 => ⟨S2x1x30x226x64, .f32⟩
  | 100 => ⟨S2x1x30x226x64, .f32⟩
  | 101 => ⟨S2x1x30x226x64, .f32⟩
  | 102 => ⟨S2x1x30x226x64, .f32⟩
  | 103 => ⟨S2x1x30x226x64, .f32⟩
  | 104 => ⟨S2x8x30x226x64, .f32⟩
  | 105 => ⟨S1x64, .f32⟩
  | 106 => ⟨S2x64, .f32⟩
  | 107 => ⟨S2x1x64, .f32⟩
  | 108 => ⟨S2x224x224x64, .f32⟩
  | 109 => ⟨S3x3x64x64, .f32⟩
  | 110 => ⟨S3x3x64x64, .f32⟩
  | 111 => ⟨S3x3x64x128, .f32⟩
  | 112 => ⟨S_, .i32⟩
  | 113 => ⟨S_, .f32⟩
  | 114 => ⟨S2x226x226x64, .f32⟩
  | 115 => ⟨S2x30x226x64, .f32⟩
  | 116 => ⟨S2x30x226x64, .f32⟩
  | 117 => ⟨S2x30x226x64, .f32⟩
  | 118 => ⟨S2x30x226x64, .f32⟩
  | 119 => ⟨S2x30x226x64, .f32⟩
  | 120 => ⟨S2x30x226x64, .f32⟩
  | 121 => ⟨S2x30x226x64, .f32⟩
  | 122 => ⟨S2x30x226x64, .f32⟩
  | 123 => ⟨S2x1x30x226x64, .f32⟩
  | 124 => ⟨S2x1x30x226x64, .f32⟩
  | 125 => ⟨S2x1x30x226x64, .f32⟩
  | 126 => ⟨S2x1x30x226x64, .f32⟩
  | 127 => ⟨S2x1x30x226x64, .f32⟩
  | _ => ⟨S2x1x224x224, .f32⟩

abbrev hbmTy0_1 (i : Nat) : BufTy := match i % 128 with
  | 0 => ⟨S2x1x30x226x64, .f32⟩
  | 1 => ⟨S2x1x30x226x64, .f32⟩
  | 2 => ⟨S2x1x30x226x64, .f32⟩
  | 3 => ⟨S2x8x30x226x64, .f32⟩
  | 4 => ⟨S1x64, .f32⟩
  | 5 => ⟨S1x64, .f32⟩
  | 6 => ⟨S2x224x224x64, .f32⟩
  | 7 => ⟨S2x224x224x64, .f32⟩
  | 8 => ⟨S2x224x224x64, .f32⟩
  | 9 => ⟨S2x1x64, .f32⟩
  | 10 => ⟨S2x64, .f32⟩
  | 11 => ⟨S_, .f32⟩
  | 12 => ⟨S2x64, .f32⟩
  | 13 => ⟨S2x64, .f32⟩
  | 14 => ⟨S2x3, .f32⟩
  | 15 => ⟨S1x3, .f32⟩
  | 16 => ⟨S2x3, .f32⟩
  | 17 => ⟨S2x3, .f32⟩
  | 18 => ⟨S2x2, .f32⟩
  | 19 => ⟨S2x2, .i32⟩
  | 20 => ⟨S_, .f32⟩
  | 21 => ⟨S2, .f32⟩
  | 22 => ⟨S_, .f32⟩
  | 23 => ⟨S2, .f32⟩
  | 24 => ⟨S2, .f32⟩
  | 25 => ⟨S2x1, .f32⟩
  | 26 => ⟨S2x2, .f32⟩
  | 27 => ⟨S2x2, .f32⟩
  | 28 => ⟨S2x2, .f32⟩
  | 29 => ⟨S_, .f32⟩
  | 30 => ⟨S2, .f32⟩
  | 31 => ⟨S2x1, .f32⟩
  | 32 => ⟨S2x2, .f32⟩
  | 33 => ⟨S2x2, .f32⟩
  | 34 => ⟨S3x3x3x64x64, .f32⟩
  | 35 => ⟨S3x3x3x64x64, .f32⟩
  | 36 => ⟨S_, .i32⟩
  | 37 => ⟨S2x2, .i32⟩
  | 38 => ⟨S2x2, .i1⟩
  | 39 => ⟨S_, .i32⟩
  | 40 => ⟨S2x2, .i32⟩
  | 41 => ⟨S2x2, .i32⟩
  | 42 => ⟨S2x2, .i32⟩
  | 43 => ⟨S2x2x1, .i32⟩
  | 44 => ⟨S2x2x3x3x64x64, .f32⟩
  | 45 => ⟨S2x3x3x64x2x64, .f32⟩
  | 46 => ⟨S2x3x3x64x128, .f32⟩
  | 47 => ⟨S_, .i32⟩
  | 48 => ⟨S2x2, .i32⟩
  | 49 => ⟨S2x2, .i1⟩
  | 50 => ⟨S_, .i32⟩
  | 51 => ⟨S2x2, .i32⟩
  | 52 => ⟨S2x2, .i32⟩
  | 53 => ⟨S2x2, .i32⟩
  | 54 => ⟨S2x2x1, .i32⟩
  | 55 => ⟨S2x2x64, .f32⟩
  | 56 => ⟨S2x128, .f32⟩
  | 57 => ⟨S_, .i32⟩
  | 58 => ⟨S2x2, .i32⟩
  | 59 => ⟨S2x2, .i1⟩
  | 60 => ⟨S_, .i32⟩
  | 61 => ⟨S2x2, .i32⟩
  | 62 => ⟨S2x2, .i32⟩
  | 63 => ⟨S2x2, .i32⟩
  | 64 => ⟨S2x2x1, .i32⟩
  | 65 => ⟨S2x2x3x3x64x64, .f32⟩
  | 66 => ⟨S2x2x1x1x1x1, .f32⟩
  | 67 => ⟨S2x2x3x3x64x64, .f32⟩
  | 68 => ⟨S2x2x3x3x64x64, .f32⟩
  | 69 => ⟨S2x3x3x2x64x64, .f32⟩
  | 70 => ⟨S2x3x3x128x64, .f32⟩
  | 71 => ⟨S_, .i32⟩
  | 72 => ⟨S2x2, .i32⟩
  | 73 => ⟨S2x2, .i1⟩
  | 74 => ⟨S_, .i32⟩
  | 75 => ⟨S2x2, .i32⟩
  | 76 => ⟨S2x2, .i32⟩
  | 77 => ⟨S2x2, .i32⟩
  | 78 => ⟨S2x2x1, .i32⟩
  | 79 => ⟨S2x2x64, .f32⟩
  | 80 => ⟨S2x64, .f32⟩
  | 81 => ⟨S_, .i32⟩
  | 82 => ⟨S_, .f32⟩
  | 83 => ⟨S2x226x226x64, .f32⟩
  | 84 => ⟨S2x30x226x64, .f32⟩
  | 85 => ⟨S2x30x226x64, .f32⟩
  | 86 => ⟨S2x30x226x64, .f32⟩
  | 87 => ⟨S2x30x226x64, .f32⟩
  | 88 => ⟨S2x30x226x64, .f32⟩
  | 89 => ⟨S2x30x226x64, .f32⟩
  | 90 => ⟨S2x30x226x64, .f32⟩
  | 91 => ⟨S2x30x226x64, .f32⟩
  | 92 => ⟨S2x1x30x226x64, .f32⟩
  | 93 => ⟨S2x1x30x226x64, .f32⟩
  | 94 => ⟨S2x1x30x226x64, .f32⟩
  | 95 => ⟨S2x1x30x226x64, .f32⟩
  | 96 => ⟨S2x1x30x226x64, .f32⟩
  | 97 => ⟨S2x1x30x226x64, .f32⟩
  | 98 => ⟨S2x1x30x226x64, .f32⟩
  | 99 => ⟨S2x1x30x226x64, .f32⟩
  | 100 => ⟨S2x8x30x226x64, .f32⟩
  | 101 => ⟨S2x1x128, .f32⟩
  | 102 => ⟨S2x224x224x128, .f32⟩
  | 103 => ⟨S_, .i32⟩
  | 104 => ⟨S_, .f32⟩
  | 105 => ⟨S2x226x226x128, .f32⟩
  | 106 => ⟨S2x30x226x128, .f32⟩
  | 107 => ⟨S2x30x226x128, .f32⟩
  | 108 => ⟨S2x30x226x128, .f32⟩
  | 109 => ⟨S2x30x226x128, .f32⟩
  | 110 => ⟨S2x30x226x128, .f32⟩
  | 111 => ⟨S2x30x226x128, .f32⟩
  | 112 => ⟨S2x30x226x128, .f32⟩
  | 113 => ⟨S2x30x226x128, .f32⟩
  | 114 => ⟨S2x1x30x226x128, .f32⟩
  | 115 => ⟨S2x1x30x226x128, .f32⟩
  | 116 => ⟨S2x1x30x226x128, .f32⟩
  | 117 => ⟨S2x1x30x226x128, .f32⟩
  | 118 => ⟨S2x1x30x226x128, .f32⟩
  | 119 => ⟨S2x1x30x226x128, .f32⟩
  | 120 => ⟨S2x1x30x226x128, .f32⟩
  | 121 => ⟨S2x1x30x226x128, .f32⟩
  | 122 => ⟨S2x8x30x226x128, .f32⟩
  | 123 => ⟨S2x1x64, .f32⟩
  | 124 => ⟨S2x224x224x64, .f32⟩
  | 125 => ⟨S3x3x64x1, .f32⟩
  | 126 => ⟨S_, .i32⟩
  | 127 => ⟨S_, .f32⟩
  | _ => ⟨S2x1x224x224, .f32⟩

abbrev hbmTy0_2 (i : Nat) : BufTy := match i % 128 with
  | 0 => ⟨S2x226x226x64, .f32⟩
  | 1 => ⟨S2x30x226x64, .f32⟩
  | 2 => ⟨S2x30x226x64, .f32⟩
  | 3 => ⟨S2x30x226x64, .f32⟩
  | 4 => ⟨S2x30x226x64, .f32⟩
  | 5 => ⟨S2x30x226x64, .f32⟩
  | 6 => ⟨S2x30x226x64, .f32⟩
  | 7 => ⟨S2x30x226x64, .f32⟩
  | 8 => ⟨S2x30x226x64, .f32⟩
  | 9 => ⟨S2x1x30x226x64, .f32⟩
  | 10 => ⟨S2x1x30x226x64, .f32⟩
  | 11 => ⟨S2x1x30x226x64, .f32⟩
  | 12 => ⟨S2x1x30x226x64, .f32⟩
  | 13 => ⟨S2x1x30x226x64, .f32⟩
  | 14 => ⟨S2x1x30x226x64, .f32⟩
  | 15 => ⟨S2x1x30x226x64, .f32⟩
  | 16 => ⟨S2x1x30x226x64, .f32⟩
  | 17 => ⟨S2x8x30x226x64, .f32⟩
  | 18 => ⟨S1x1, .f32⟩
  | 19 => ⟨S2x224x224x1, .f32⟩
  | 20 => ⟨S2x224x224x1, .f32⟩
  | 21 => ⟨S3x3x1x64, .f32⟩
  | 22 => ⟨S_, .i32⟩
  | 23 => ⟨S_, .f32⟩
  | 24 => ⟨S2x226x226x1, .f32⟩
  | 25 => ⟨S2x30x226x1, .f32⟩
  | 26 => ⟨S2x30x226x1, .f32⟩
  | 27 => ⟨S2x30x226x1, .f32⟩
  | 28 => ⟨S2x30x226x1, .f32⟩
  | 29 => ⟨S2x30x226x1, .f32⟩
  | 30 => ⟨S2x30x226x1, .f32⟩
  | 31 => ⟨S2x30x226x1, .f32⟩
  | 32 => ⟨S2x30x226x1, .f32⟩
  | 33 => ⟨S2x1x30x226x1, .f32⟩
  | 34 => ⟨S2x1x30x226x1, .f32⟩
  | 35 => ⟨S2x1x30x226x1, .f32⟩
  | 36 => ⟨S2x1x30x226x1, .f32⟩
  | 37 => ⟨S2x1x30x226x1, .f32⟩
  | 38 => ⟨S2x1x30x226x1, .f32⟩
  | 39 => ⟨S2x1x30x226x1, .f32⟩
  | 40 => ⟨S2x1x30x226x1, .f32⟩
  | 41 => ⟨S2x8x30x226x1, .f32⟩
  | 42 => ⟨S1x64, .f32⟩
  | 43 => ⟨S2x64, .f32⟩
  | 44 => ⟨S2x1x64, .f32⟩
  | 45 => ⟨S2x224x224x64, .f32⟩
  | 46 => ⟨S1x64x64x3x3, .f32⟩
  | 47 => ⟨S64x64x3x3, .f32⟩
  | 48 => ⟨S3x3x64x64, .f32⟩
  | 49 => ⟨S1x64, .f32⟩
  | 50 => ⟨S64, .f32⟩
  | 51 => ⟨S_, .i32⟩
  | 52 => ⟨S_, .f32⟩
  | 53 => ⟨S2x226x226x64, .f32⟩
  | 54 => ⟨S2x30x226x64, .f32⟩
  | 55 => ⟨S2x30x226x64, .f32⟩
  | 56 => ⟨S2x30x226x64, .f32⟩
  | 57 => ⟨S2x30x226x64, .f32⟩
  | 58 => ⟨S2x30x226x64, .f32⟩
  | 59 => ⟨S2x30x226x64, .f32⟩
  | 60 => ⟨S2x30x226x64, .f32⟩
  | 61 => ⟨S2x30x226x64, .f32⟩
  | 62 => ⟨S2x1x30x226x64, .f32⟩
  | 63 => ⟨S2x1x30x226x64, .f32⟩
  | 64 => ⟨S2x1x30x226x64, .f32⟩
  | 65 => ⟨S2x1x30x226x64, .f32⟩
  | 66 => ⟨S2x1x30x226x64, .f32⟩
  | 67 => ⟨S2x1x30x226x64, .f32⟩
  | 68 => ⟨S2x1x30x226x64, .f32⟩
  | 69 => ⟨S2x1x30x226x64, .f32⟩
  | 70 => ⟨S2x8x30x226x64, .f32⟩
  | 71 => ⟨S1x64, .f32⟩
  | 72 => ⟨S2x64, .f32⟩
  | 73 => ⟨S2x1x64, .f32⟩
  | 74 => ⟨S2x224x224x64, .f32⟩
  | 75 => ⟨S1x64x64x3x3, .f32⟩
  | 76 => ⟨S64x64x3x3, .f32⟩
  | 77 => ⟨S3x3x64x64, .f32⟩
  | 78 => ⟨S1x64, .f32⟩
  | 79 => ⟨S64, .f32⟩
  | 80 => ⟨S_, .i32⟩
  | 81 => ⟨S_, .f32⟩
  | 82 => ⟨S2x226x226x64, .f32⟩
  | 83 => ⟨S2x30x226x64, .f32⟩
  | 84 => ⟨S2x30x226x64, .f32⟩
  | 85 => ⟨S2x30x226x64, .f32⟩
  | 86 => ⟨S2x30x226x64, .f32⟩
  | 87 => ⟨S2x30x226x64, .f32⟩
  | 88 => ⟨S2x30x226x64, .f32⟩
  | 89 => ⟨S2x30x226x64, .f32⟩
  | 90 => ⟨S2x30x226x64, .f32⟩
  | 91 => ⟨S2x1x30x226x64, .f32⟩
  | 92 => ⟨S2x1x30x226x64, .f32⟩
  | 93 => ⟨S2x1x30x226x64, .f32⟩
  | 94 => ⟨S2x1x30x226x64, .f32⟩
  | 95 => ⟨S2x1x30x226x64, .f32⟩
  | 96 => ⟨S2x1x30x226x64, .f32⟩
  | 97 => ⟨S2x1x30x226x64, .f32⟩
  | 98 => ⟨S2x1x30x226x64, .f32⟩
  | 99 => ⟨S2x8x30x226x64, .f32⟩
  | 100 => ⟨S1x64, .f32⟩
  | 101 => ⟨S2x64, .f32⟩
  | 102 => ⟨S2x1x64, .f32⟩
  | 103 => ⟨S2x224x224x64, .f32⟩
  | 104 => ⟨S1x64x64x3x3, .f32⟩
  | 105 => ⟨S64x64x3x3, .f32⟩
  | 106 => ⟨S3x3x64x64, .f32⟩
  | 107 => ⟨S1x64, .f32⟩
  | 108 => ⟨S64, .f32⟩
  | 109 => ⟨S_, .i32⟩
  | 110 => ⟨S_, .f32⟩
  | 111 => ⟨S2x226x226x64, .f32⟩
  | 112 => ⟨S2x30x226x64, .f32⟩
  | 113 => ⟨S2x30x226x64, .f32⟩
  | 114 => ⟨S2x30x226x64, .f32⟩
  | 115 => ⟨S2x30x226x64, .f32⟩
  | 116 => ⟨S2x30x226x64, .f32⟩
  | 117 => ⟨S2x30x226x64, .f32⟩
  | 118 => ⟨S2x30x226x64, .f32⟩
  | 119 => ⟨S2x30x226x64, .f32⟩
  | 120 => ⟨S2x1x30x226x64, .f32⟩
  | 121 => ⟨S2x1x30x226x64, .f32⟩
  | 122 => ⟨S2x1x30x226x64, .f32⟩
  | 123 => ⟨S2x1x30x226x64, .f32⟩
  | 124 => ⟨S2x1x30x226x64, .f32⟩
  | 125 => ⟨S2x1x30x226x64, .f32⟩
  | 126 => ⟨S2x1x30x226x64, .f32⟩
  | 127 => ⟨S2x1x30x226x64, .f32⟩
  | _ => ⟨S2x1x224x224, .f32⟩

abbrev hbmTy0_3 (i : Nat) : BufTy := match i % 128 with
  | 0 => ⟨S2x8x30x226x64, .f32⟩
  | 1 => ⟨S1x64, .f32⟩
  | 2 => ⟨S2x64, .f32⟩
  | 3 => ⟨S2x1x64, .f32⟩
  | 4 => ⟨S2x224x224x64, .f32⟩
  | 5 => ⟨S3x3x64x1, .f32⟩
  | 6 => ⟨S_, .i32⟩
  | 7 => ⟨S_, .f32⟩
  | 8 => ⟨S2x226x226x64, .f32⟩
  | 9 => ⟨S2x30x226x64, .f32⟩
  | 10 => ⟨S2x30x226x64, .f32⟩
  | 11 => ⟨S2x30x226x64, .f32⟩
  | 12 => ⟨S2x30x226x64, .f32⟩
  | 13 => ⟨S2x30x226x64, .f32⟩
  | 14 => ⟨S2x30x226x64, .f32⟩
  | 15 => ⟨S2x30x226x64, .f32⟩
  | 16 => ⟨S2x30x226x64, .f32⟩
  | 17 => ⟨S2x1x30x226x64, .f32⟩
  | 18 => ⟨S2x1x30x226x64, .f32⟩
  | 19 => ⟨S2x1x30x226x64, .f32⟩
  | 20 => ⟨S2x1x30x226x64, .f32⟩
  | 21 => ⟨S2x1x30x226x64, .f32⟩
  | 22 => ⟨S2x1x30x226x64, .f32⟩
  | 23 => ⟨S2x1x30x226x64, .f32⟩
  | 24 => ⟨S2x1x30x226x64, .f32⟩
  | 25 => ⟨S2x8x30x226x64, .f32⟩
  | 26 => ⟨S1x1, .f32⟩
  | 27 => ⟨S2x1, .f32⟩
  | 28 => ⟨S2x1x1, .f32⟩
  | 29 => ⟨S2x224x224x1, .f32⟩
  | 30 => ⟨S2x1x224x224, .f32⟩
  | 31 => ⟨S2x1x224x224, .f32⟩
  | 32 => ⟨S2x64x224x224, .f32⟩
  | 33 => ⟨S2x64x224x224, .f32⟩
  | _ => ⟨S2x1x224x224, .f32⟩

abbrev hbmTy (i : Nat) : BufTy := match i / 128 with
  | 0 => hbmTy0_0 i
  | 1 => hbmTy0_1 i
  | 2 => hbmTy0_2 i
  | 3 => hbmTy0_3 i
  | _ => ⟨S2x1x224x224, .f32⟩

abbrev bufTy : (tb : Table) → Fin (tcTables nBuf tb) → BufTy
  | .hbm, ⟨i, _⟩ => hbmTy i
  | .local _ .vmem, ⟨0, _⟩ => ⟨S1x1x30x226x1, .f32⟩
  | .local _ .vmem, ⟨1, _⟩ => ⟨S1x1x30x226x1, .f32⟩
  | .local _ .vmem, ⟨2, _⟩ => ⟨S3x3x1x64, .f32⟩
  | .local _ .vmem, ⟨3, _⟩ => ⟨S1x1x64, .f32⟩
  | .local _ .vmem, ⟨4, _⟩ => ⟨S1x1x64, .f32⟩
  | .local _ .vmem, ⟨5, _⟩ => ⟨S1x28x224x64, .f32⟩
  | .local _ .vmem, ⟨6, _⟩ => ⟨S1x28x224x64, .f32⟩
  | .local _ .vmem, ⟨7, _⟩ => ⟨S1x1x30x226x64, .f32⟩
  | .local _ .vmem, ⟨8, _⟩ => ⟨S1x1x30x226x64, .f32⟩
  | .local _ .vmem, ⟨9, _⟩ => ⟨S3x3x64x64, .f32⟩
  | .local _ .vmem, ⟨10, _⟩ => ⟨S1x1x64, .f32⟩
  | .local _ .vmem, ⟨11, _⟩ => ⟨S1x1x64, .f32⟩
  | .local _ .vmem, ⟨12, _⟩ => ⟨S1x28x224x64, .f32⟩
  | .local _ .vmem, ⟨13, _⟩ => ⟨S1x28x224x64, .f32⟩
  | .local _ .vmem, ⟨14, _⟩ => ⟨S1x1x30x226x64, .f32⟩
  | .local _ .vmem, ⟨15, _⟩ => ⟨S1x1x30x226x64, .f32⟩
  | .local _ .vmem, ⟨16, _⟩ => ⟨S3x3x64x64, .f32⟩
  | .local _ .vmem, ⟨17, _⟩ => ⟨S1x1x64, .f32⟩
  | .local _ .vmem, ⟨18, _⟩ => ⟨S1x1x64, .f32⟩
  | .local _ .vmem, ⟨19, _⟩ => ⟨S1x28x224x64, .f32⟩
  | .local _ .vmem, ⟨20, _⟩ => ⟨S1x28x224x64, .f32⟩
  | .local _ .vmem, ⟨21, _⟩ => ⟨S1x1x30x226x64, .f32⟩
  | .local _ .vmem, ⟨22, _⟩ => ⟨S1x1x30x226x64, .f32⟩
  | .local _ .vmem, ⟨23, _⟩ => ⟨S3x3x64x128, .f32⟩
  | .local _ .vmem, ⟨24, _⟩ => ⟨S1x64, .f32⟩
  | .local _ .vmem, ⟨25, _⟩ => ⟨S1x64, .f32⟩
  | .local _ .vmem, ⟨26, _⟩ => ⟨S1x28x224x64, .f32⟩
  | .local _ .vmem, ⟨27, _⟩ => ⟨S1x28x224x64, .f32⟩
  | .local _ .vmem, ⟨28, _⟩ => ⟨S1x28x224x64, .f32⟩
  | .local _ .vmem, ⟨29, _⟩ => ⟨S1x28x224x64, .f32⟩
  | .local _ .vmem, ⟨30, _⟩ => ⟨S1x28x224x64, .f32⟩
  | .local _ .vmem, ⟨31, _⟩ => ⟨S1x28x224x64, .f32⟩
  | .local _ .vmem, ⟨32, _⟩ => ⟨S1x28x224x64, .f32⟩
  | .local _ .vmem, ⟨33, _⟩ => ⟨S1x28x224x64, .f32⟩
  | .local _ .vmem, ⟨34, _⟩ => ⟨S1x1x64, .f32⟩
  | .local _ .vmem, ⟨35, _⟩ => ⟨S1x1x64, .f32⟩
  | .local _ .vmem, ⟨36, _⟩ => ⟨S1x1x30x226x64, .f32⟩
  | .local _ .vmem, ⟨37, _⟩ => ⟨S1x1x30x226x64, .f32⟩
  | .local _ .vmem, ⟨38, _⟩ => ⟨S1x3x3x64x128, .f32⟩
  | .local _ .vmem, ⟨39, _⟩ => ⟨S1x3x3x64x128, .f32⟩
  | .local _ .vmem, ⟨40, _⟩ => ⟨S1x1x128, .f32⟩
  | .local _ .vmem, ⟨41, _⟩ => ⟨S1x1x128, .f32⟩
  | .local _ .vmem, ⟨42, _⟩ => ⟨S1x28x224x128, .f32⟩
  | .local _ .vmem, ⟨43, _⟩ => ⟨S1x28x224x128, .f32⟩
  | .local _ .vmem, ⟨44, _⟩ => ⟨S1x1x30x226x128, .f32⟩
  | .local _ .vmem, ⟨45, _⟩ => ⟨S1x1x30x226x128, .f32⟩
  | .local _ .vmem, ⟨46, _⟩ => ⟨S1x3x3x128x64, .f32⟩
  | .local _ .vmem, ⟨47, _⟩ => ⟨S1x3x3x128x64, .f32⟩
  | .local _ .vmem, ⟨48, _⟩ => ⟨S1x1x64, .f32⟩
  | .local _ .vmem, ⟨49, _⟩ => ⟨S1x1x64, .f32⟩
  | .local _ .vmem, ⟨50, _⟩ => ⟨S1x28x224x64, .f32⟩
  | .local _ .vmem, ⟨51, _⟩ => ⟨S1x28x224x64, .f32⟩
  | .local _ .vmem, ⟨52, _⟩ => ⟨S1x1x30x226x64, .f32⟩
  | .local _ .vmem, ⟨53, _⟩ => ⟨S1x1x30x226x64, .f32⟩
  | .local _ .vmem, ⟨54, _⟩ => ⟨S3x3x64x1, .f32⟩
  | .local _ .vmem, ⟨55, _⟩ => ⟨S1x1, .f32⟩
  | .local _ .vmem, ⟨56, _⟩ => ⟨S1x28x224x1, .f32⟩
  | .local _ .vmem, ⟨57, _⟩ => ⟨S1x28x224x1, .f32⟩
  | .local _ .vmem, ⟨58, _⟩ => ⟨S1x28x224x1, .f32⟩
  | .local _ .vmem, ⟨59, _⟩ => ⟨S1x28x224x1, .f32⟩
  | .local _ .vmem, ⟨60, _⟩ => ⟨S1x28x224x1, .f32⟩
  | .local _ .vmem, ⟨61, _⟩ => ⟨S1x28x224x1, .f32⟩
  | .local _ .vmem, ⟨62, _⟩ => ⟨S1x1x30x226x1, .f32⟩
  | .local _ .vmem, ⟨63, _⟩ => ⟨S1x1x30x226x1, .f32⟩
  | .local _ .vmem, ⟨64, _⟩ => ⟨S3x3x1x64, .f32⟩
  | .local _ .vmem, ⟨65, _⟩ => ⟨S1x1x64, .f32⟩
  | .local _ .vmem, ⟨66, _⟩ => ⟨S1x1x64, .f32⟩
  | .local _ .vmem, ⟨67, _⟩ => ⟨S1x28x224x64, .f32⟩
  | .local _ .vmem, ⟨68, _⟩ => ⟨S1x28x224x64, .f32⟩
  | .local _ .vmem, ⟨69, _⟩ => ⟨S1x1x30x226x64, .f32⟩
  | .local _ .vmem, ⟨70, _⟩ => ⟨S1x1x30x226x64, .f32⟩
  | .local _ .vmem, ⟨71, _⟩ => ⟨S3x3x64x64, .f32⟩
  | .local _ .vmem, ⟨72, _⟩ => ⟨S1x1x64, .f32⟩
  | .local _ .vmem, ⟨73, _⟩ => ⟨S1x1x64, .f32⟩
  | .local _ .vmem, ⟨74, _⟩ => ⟨S1x28x224x64, .f32⟩
  | .local _ .vmem, ⟨75, _⟩ => ⟨S1x28x224x64, .f32⟩
  | .local _ .vmem, ⟨76, _⟩ => ⟨S1x1x30x226x64, .f32⟩
  | .local _ .vmem, ⟨77, _⟩ => ⟨S1x1x30x226x64, .f32⟩
  | .local _ .vmem, ⟨78, _⟩ => ⟨S3x3x64x64, .f32⟩
  | .local _ .vmem, ⟨79, _⟩ => ⟨S1x1x64, .f32⟩
  | .local _ .vmem, ⟨80, _⟩ => ⟨S1x1x64, .f32⟩
  | .local _ .vmem, ⟨81, _⟩ => ⟨S1x28x224x64, .f32⟩
  | .local _ .vmem, ⟨82, _⟩ => ⟨S1x28x224x64, .f32⟩
  | .local _ .vmem, ⟨83, _⟩ => ⟨S1x1x30x226x64, .f32⟩
  | .local _ .vmem, ⟨84, _⟩ => ⟨S1x1x30x226x64, .f32⟩
  | .local _ .vmem, ⟨85, _⟩ => ⟨S3x3x64x64, .f32⟩
  | .local _ .vmem, ⟨86, _⟩ => ⟨S1x1x64, .f32⟩
  | .local _ .vmem, ⟨87, _⟩ => ⟨S1x1x64, .f32⟩
  | .local _ .vmem, ⟨88, _⟩ => ⟨S1x28x224x64, .f32⟩
  | .local _ .vmem, ⟨89, _⟩ => ⟨S1x28x224x64, .f32⟩
  | .local _ .vmem, ⟨90, _⟩ => ⟨S1x1x30x226x64, .f32⟩
  | .local _ .vmem, ⟨91, _⟩ => ⟨S1x1x30x226x64, .f32⟩
  | .local _ .vmem, ⟨92, _⟩ => ⟨S3x3x64x1, .f32⟩
  | .local _ .vmem, ⟨93, _⟩ => ⟨S1x1x1, .f32⟩
  | .local _ .vmem, ⟨94, _⟩ => ⟨S1x1x1, .f32⟩
  | .local _ .vmem, ⟨95, _⟩ => ⟨S1x28x224x1, .f32⟩
  | .local _ .vmem, ⟨96, _⟩ => ⟨S1x28x224x1, .f32⟩
  | _, _ => ⟨S2x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_call0_v0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_0 : Ref sig .tc := ⟨.hbm, 56, rfl⟩
abbrev main_call1_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_1 : Ref sig .tc := ⟨.hbm, 85, rfl⟩
abbrev main_call2_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_2 : Ref sig .tc := ⟨.hbm, 112, rfl⟩
abbrev main_call3_v0 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102_0 : Ref sig .tc := ⟨.hbm, 134, rfl⟩
abbrev main_v102_1 : Ref sig .tc := ⟨.hbm, 135, rfl⟩
abbrev main_v102_2 : Ref sig .tc := ⟨.hbm, 136, rfl⟩
abbrev main_v102_3 : Ref sig .tc := ⟨.hbm, 137, rfl⟩
abbrev main_v103 : Ref sig .tc := ⟨.hbm, 138, rfl⟩
abbrev main_cst : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_values : Ref sig .tc := ⟨.hbm, 146, rfl⟩
abbrev main_indices : Ref sig .tc := ⟨.hbm, 147, rfl⟩
abbrev main_cst_3 : Ref sig .tc := ⟨.hbm, 148, rfl⟩
abbrev main_v110 : Ref sig .tc := ⟨.hbm, 149, rfl⟩
abbrev main_cst_4 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_5 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_c_6 : Ref sig .tc := ⟨.hbm, 164, rfl⟩
abbrev main_v123 : Ref sig .tc := ⟨.hbm, 165, rfl⟩
abbrev main_v124 : Ref sig .tc := ⟨.hbm, 166, rfl⟩
abbrev main_c_7 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_c_8 : Ref sig .tc := ⟨.hbm, 175, rfl⟩
abbrev main_v132 : Ref sig .tc := ⟨.hbm, 176, rfl⟩
abbrev main_v133 : Ref sig .tc := ⟨.hbm, 177, rfl⟩
abbrev main_c_9 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_c_10 : Ref sig .tc := ⟨.hbm, 185, rfl⟩
abbrev main_v140 : Ref sig .tc := ⟨.hbm, 186, rfl⟩
abbrev main_v141 : Ref sig .tc := ⟨.hbm, 187, rfl⟩
abbrev main_c_11 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_c_12 : Ref sig .tc := ⟨.hbm, 199, rfl⟩
abbrev main_v152 : Ref sig .tc := ⟨.hbm, 200, rfl⟩
abbrev main_v153 : Ref sig .tc := ⟨.hbm, 201, rfl⟩
abbrev main_c_13 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_c_14 : Ref sig .tc := ⟨.hbm, 209, rfl⟩
abbrev main_call4_v0 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_c_15 : Ref sig .tc := ⟨.hbm, 231, rfl⟩
abbrev main_call5_v0 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_c_16 : Ref sig .tc := ⟨.hbm, 254, rfl⟩
abbrev main_call6_v0 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220_0 : Ref sig .tc := ⟨.hbm, 275, rfl⟩
abbrev main_v220_1 : Ref sig .tc := ⟨.hbm, 276, rfl⟩
abbrev main_v221 : Ref sig .tc := ⟨.hbm, 277, rfl⟩
abbrev main_c_17 : Ref sig .tc := ⟨.hbm, 278, rfl⟩
abbrev main_call7_v0 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_c_18 : Ref sig .tc := ⟨.hbm, 307, rfl⟩
abbrev main_call8_v0 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_c_19 : Ref sig .tc := ⟨.hbm, 336, rfl⟩
abbrev main_call9_v0 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_c_20 : Ref sig .tc := ⟨.hbm, 365, rfl⟩
abbrev main_call10_v0 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_v313 : Ref sig .tc := ⟨.hbm, 377, rfl⟩
abbrev main_v314 : Ref sig .tc := ⟨.hbm, 378, rfl⟩
abbrev main_v315 : Ref sig .tc := ⟨.hbm, 379, rfl⟩
abbrev main_v316 : Ref sig .tc := ⟨.hbm, 380, rfl⟩
abbrev main_v317 : Ref sig .tc := ⟨.hbm, 381, rfl⟩
abbrev main_v318 : Ref sig .tc := ⟨.hbm, 382, rfl⟩
abbrev main_v319 : Ref sig .tc := ⟨.hbm, 383, rfl⟩
abbrev main_v320 : Ref sig .tc := ⟨.hbm, 384, rfl⟩
abbrev main_v321 : Ref sig .tc := ⟨.hbm, 385, rfl⟩
abbrev main_v322 : Ref sig .tc := ⟨.hbm, 386, rfl⟩
abbrev main_v323 : Ref sig .tc := ⟨.hbm, 387, rfl⟩
abbrev main_v324 : Ref sig .tc := ⟨.hbm, 388, rfl⟩
abbrev main_v325 : Ref sig .tc := ⟨.hbm, 389, rfl⟩
abbrev main_c_21 : Ref sig .tc := ⟨.hbm, 390, rfl⟩
abbrev main_call11_v0 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_v330 : Ref sig .tc := ⟨.hbm, 396, rfl⟩
abbrev main_v331 : Ref sig .tc := ⟨.hbm, 397, rfl⟩
abbrev main_v332 : Ref sig .tc := ⟨.hbm, 398, rfl⟩
abbrev main_v333 : Ref sig .tc := ⟨.hbm, 399, rfl⟩
abbrev main_v334 : Ref sig .tc := ⟨.hbm, 400, rfl⟩
abbrev main_v335 : Ref sig .tc := ⟨.hbm, 401, rfl⟩
abbrev main_v336 : Ref sig .tc := ⟨.hbm, 402, rfl⟩
abbrev main_v337 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_v346 : Ref sig .tc := ⟨.hbm, 412, rfl⟩
abbrev main_v347 : Ref sig .tc := ⟨.hbm, 413, rfl⟩
abbrev main_v348 : Ref sig .tc := ⟨.hbm, 414, rfl⟩
abbrev main_v349 : Ref sig .tc := ⟨.hbm, 415, rfl⟩
abbrev main_v350 : Ref sig .tc := ⟨.hbm, 416, rfl⟩
abbrev main_v351 : Ref sig .tc := ⟨.hbm, 417, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc3_stg7_0 : Ref sig .tc := ⟨.vmem, 32, rfl⟩
abbrev cc3_stg7_1 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg3_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc6_stg4_0 : Ref sig .tc := ⟨.vmem, 58, rfl⟩
abbrev cc6_stg4_1 : Ref sig .tc := ⟨.vmem, 59, rfl⟩
abbrev cc6_stg5_0 : Ref sig .tc := ⟨.vmem, 60, rfl⟩
abbrev cc6_stg5_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg2_1 : Ref sig .tc := ⟨.vmem, 66, rfl⟩
abbrev cc7_stg3_0 : Ref sig .tc := ⟨.vmem, 67, rfl⟩
abbrev cc7_stg3_1 : Ref sig .tc := ⟨.vmem, 68, rfl⟩
abbrev cc8_stg0_0 : Ref sig .tc := ⟨.vmem, 69, rfl⟩
abbrev cc8_stg0_1 : Ref sig .tc := ⟨.vmem, 70, rfl⟩
abbrev cc8_stg1_0 : Ref sig .tc := ⟨.vmem, 71, rfl⟩
abbrev cc8_stg2_0 : Ref sig .tc := ⟨.vmem, 72, rfl⟩
abbrev cc8_stg2_1 : Ref sig .tc := ⟨.vmem, 73, rfl⟩
abbrev cc8_stg3_0 : Ref sig .tc := ⟨.vmem, 74, rfl⟩
abbrev cc8_stg3_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg2_1 : Ref sig .tc := ⟨.vmem, 80, rfl⟩
abbrev cc9_stg3_0 : Ref sig .tc := ⟨.vmem, 81, rfl⟩
abbrev cc9_stg3_1 : Ref sig .tc := ⟨.vmem, 82, rfl⟩
abbrev cc10_stg0_0 : Ref sig .tc := ⟨.vmem, 83, rfl⟩
abbrev cc10_stg0_1 : Ref sig .tc := ⟨.vmem, 84, rfl⟩
abbrev cc10_stg1_0 : Ref sig .tc := ⟨.vmem, 85, rfl⟩
abbrev cc10_stg2_0 : Ref sig .tc := ⟨.vmem, 86, rfl⟩
abbrev cc10_stg2_1 : Ref sig .tc := ⟨.vmem, 87, rfl⟩
abbrev cc10_stg3_0 : Ref sig .tc := ⟨.vmem, 88, rfl⟩
abbrev cc10_stg3_1 : Ref sig .tc := ⟨.vmem, 89, rfl⟩
abbrev cc11_stg0_0 : Ref sig .tc := ⟨.vmem, 90, rfl⟩
abbrev cc11_stg0_1 : Ref sig .tc := ⟨.vmem, 91, rfl⟩
abbrev cc11_stg1_0 : Ref sig .tc := ⟨.vmem, 92, rfl⟩
abbrev cc11_stg2_0 : Ref sig .tc := ⟨.vmem, 93, rfl⟩
abbrev cc11_stg2_1 : Ref sig .tc := ⟨.vmem, 94, rfl⟩
abbrev cc11_stg3_0 : Ref sig .tc := ⟨.vmem, 95, rfl⟩
abbrev cc11_stg3_1 : Ref sig .tc := ⟨.vmem, 96, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31
abbrev cc3_sem7_0 : DmaSem sig := 32
abbrev cc3_sem7_1 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem3_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57
abbrev cc6_sem4_0 : DmaSem sig := 58
abbrev cc6_sem4_1 : DmaSem sig := 59
abbrev cc6_sem5_0 : DmaSem sig := 60
abbrev cc6_sem5_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem2_1 : DmaSem sig := 66
abbrev cc7_sem3_0 : DmaSem sig := 67
abbrev cc7_sem3_1 : DmaSem sig := 68
abbrev cc8_sem0_0 : DmaSem sig := 69
abbrev cc8_sem0_1 : DmaSem sig := 70
abbrev cc8_sem1_0 : DmaSem sig := 71
abbrev cc8_sem2_0 : DmaSem sig := 72
abbrev cc8_sem2_1 : DmaSem sig := 73
abbrev cc8_sem3_0 : DmaSem sig := 74
abbrev cc8_sem3_1 : DmaSem sig := 75
abbrev cc9_sem0_0 : DmaSem sig := 76
abbrev cc9_sem0_1 : DmaSem sig := 77
abbrev cc9_sem1_0 : DmaSem sig := 78
abbrev cc9_sem2_0 : DmaSem sig := 79
abbrev cc9_sem2_1 : DmaSem sig := 80
abbrev cc9_sem3_0 : DmaSem sig := 81
abbrev cc9_sem3_1 : DmaSem sig := 82
abbrev cc10_sem0_0 : DmaSem sig := 83
abbrev cc10_sem0_1 : DmaSem sig := 84
abbrev cc10_sem1_0 : DmaSem sig := 85
abbrev cc10_sem2_0 : DmaSem sig := 86
abbrev cc10_sem2_1 : DmaSem sig := 87
abbrev cc10_sem3_0 : DmaSem sig := 88
abbrev cc10_sem3_1 : DmaSem sig := 89
abbrev cc11_sem0_0 : DmaSem sig := 90
abbrev cc11_sem0_1 : DmaSem sig := 91
abbrev cc11_sem1_0 : DmaSem sig := 92
abbrev cc11_sem2_0 : DmaSem sig := 93
abbrev cc11_sem2_1 : DmaSem sig := 94
abbrev cc11_sem3_0 : DmaSem sig := 95
abbrev cc11_sem3_1 : DmaSem sig := 96

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x30x226x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x3x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x28x224x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 8], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x30x226x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S3x3x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x28x224x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 8], ![false, false]⟩

def cc2_transform_0 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1x30x226x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S3x3x64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x1x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x28x224x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![2, 8], ![false, false]⟩

def cc3_transform_0 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_6 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_7 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x30x226x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S3x3x64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x28x224x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x28x224x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x28x224x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x28x224x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x1x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev grid4 : Pipeline.Grid := ⟨2, ![2, 8], ![false, false]⟩

def cc4_transform_0 (i : grid4.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc4_transform_1 (i : grid4.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x1x30x226x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x3x3x64x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x28x224x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![2, 8], ![false, false]⟩

def cc5_transform_0 (i : grid5.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc5_transform_1 (i : grid5.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x1x30x226x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x3x3x128x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x1x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x28x224x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![2, 8], ![false, false]⟩

def cc6_transform_0 (i : grid6.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc6_transform_1 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc6_transform_4 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc6_transform_5 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage6_0 : Fin 2 → Memref sig .tc .vmem S1x1x30x226x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S3x3x64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1x28x224x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S1x28x224x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S1x28x224x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev grid7 : Pipeline.Grid := ⟨2, ![2, 8], ![false, false]⟩

def cc7_transform_0 (i : grid7.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc7_transform_1 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage7_0 : Fin 2 → Memref sig .tc .vmem S1x1x30x226x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S3x3x1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 2 → Memref sig .tc .vmem S1x1x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1x28x224x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![2, 8], ![false, false]⟩

def cc8_transform_0 (i : grid8.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc8_transform_1 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage8_0 : Fin 2 → Memref sig .tc .vmem S1x1x30x226x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S3x3x64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 2 → Memref sig .tc .vmem S1x1x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S1x28x224x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨2, ![2, 8], ![false, false]⟩

def cc9_transform_0 (i : grid9.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc9_transform_1 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc9_transform_2 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_3 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage9_0 : Fin 2 → Memref sig .tc .vmem S1x1x30x226x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S3x3x64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 2 → Memref sig .tc .vmem S1x1x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S1x28x224x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨2, ![2, 8], ![false, false]⟩

def cc10_transform_0 (i : grid10.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc10_transform_1 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_3 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage10_0 : Fin 2 → Memref sig .tc .vmem S1x1x30x226x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 1 → Memref sig .tc .vmem S3x3x64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, false]

abbrev stage10_2 : Fin 2 → Memref sig .tc .vmem S1x1x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev stage10_3 : Fin 2 → Memref sig .tc .vmem S1x28x224x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev grid11 : Pipeline.Grid := ⟨2, ![2, 8], ![false, false]⟩

def cc11_transform_0 (i : grid11.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc11_transform_1 (i : grid11.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc11_transform_2 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_3 (i : grid11.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage11_0 : Fin 2 → Memref sig .tc .vmem S1x1x30x226x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 1 → Memref sig .tc .vmem S3x3x64x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, false]

abbrev stage11_2 : Fin 2 → Memref sig .tc .vmem S1x1x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev stage11_3 : Fin 2 → Memref sig .tc .vmem S1x28x224x1 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]
-- ==== ReferenceIdeal.lean ====
abbrev S2x1x224x224 : Shape := ⟨4, ![2, 1, 224, 224]⟩
abbrev S2x64x224x224 : Shape := ⟨4, ![2, 64, 224, 224]⟩
abbrev S64x1x3x3 : Shape := ⟨4, ![64, 1, 3, 3]⟩
abbrev S64 : Shape := ⟨1, ![64]⟩
abbrev S2x64x64x3x3 : Shape := ⟨5, ![2, 64, 64, 3, 3]⟩
abbrev S2x64 : Shape := ⟨2, ![2, 64]⟩
abbrev S64x64x3x3 : Shape := ⟨4, ![64, 64, 3, 3]⟩
abbrev S64x3 : Shape := ⟨2, ![64, 3]⟩
abbrev S3 : Shape := ⟨1, ![3]⟩
abbrev S3x64x64x3x3 : Shape := ⟨5, ![3, 64, 64, 3, 3]⟩
abbrev S3x64 : Shape := ⟨2, ![3, 64]⟩
abbrev S1x64x3x3 : Shape := ⟨4, ![1, 64, 3, 3]⟩
abbrev S1 : Shape := ⟨1, ![1]⟩
abbrev S64x1x9 : Shape := ⟨3, ![64, 1, 9]⟩
abbrev S64x1x1 : Shape := ⟨3, ![64, 1, 1]⟩
abbrev S64x1 : Shape := ⟨2, ![64, 1]⟩
abbrev S1x64x64x3x3 : Shape := ⟨5, ![1, 64, 64, 3, 3]⟩
abbrev S64x64x9 : Shape := ⟨3, ![64, 64, 9]⟩
abbrev S64x64x1 : Shape := ⟨3, ![64, 64, 1]⟩
abbrev S64x64 : Shape := ⟨2, ![64, 64]⟩
abbrev S1x64x9 : Shape := ⟨3, ![1, 64, 9]⟩
abbrev S1x64x1 : Shape := ⟨3, ![1, 64, 1]⟩
abbrev S1x64 : Shape := ⟨2, ![1, 64]⟩
abbrev S_ : Shape := ⟨0, ![]⟩
abbrev S2x1x226x226 : Shape := ⟨4, ![2, 1, 226, 226]⟩
abbrev S2x224x224x64 : Shape := ⟨4, ![2, 224, 224, 64]⟩
abbrev S1x64x1x1 : Shape := ⟨4, ![1, 64, 1, 1]⟩
abbrev S2x64x226x226 : Shape := ⟨4, ![2, 64, 226, 226]⟩
abbrev S2x3 : Shape := ⟨2, ![2, 3]⟩
abbrev S1x3 : Shape := ⟨2, ![1, 3]⟩
abbrev S2x2 : Shape := ⟨2, ![2, 2]⟩
abbrev S2 : Shape := ⟨1, ![2]⟩
abbrev S2x1 : Shape := ⟨2, ![2, 1]⟩
abbrev S2x2x1 : Shape := ⟨3, ![2, 2, 1]⟩
abbrev S2x2x2 : Shape := ⟨3, ![2, 2, 2]⟩
abbrev S1x2x64x224x224 : Shape := ⟨5, ![1, 2, 64, 224, 224]⟩
abbrev S3x2x64x224x224 : Shape := ⟨5, ![3, 2, 64, 224, 224]⟩
abbrev S2x224x224x1 : Shape := ⟨4, ![2, 224, 224, 1]⟩
abbrev S1x1x1x1 : Shape := ⟨4, ![1, 1, 1, 1]⟩

abbrev nBuf : Space → Nat
  | .hbm => 1094
  | .vmem => 0
  | .smem => 0
  | _ => 0

abbrev hbmTy0_0 (i : Nat) : BufTy := match i % 128 with
  | 0 => ⟨S2x1x224x224, .f32⟩
  | 1 => ⟨S2x64x224x224, .f32⟩
  | 2 => ⟨S64x1x3x3, .f32⟩
  | 3 => ⟨S64, .f32⟩
  | 4 => ⟨S2x64x64x3x3, .f32⟩
  | 5 => ⟨S2x64, .f32⟩
  | 6 => ⟨S64x64x3x3, .f32⟩
  | 7 => ⟨S64, .f32⟩
  | 8 => ⟨S64x64x3x3, .f32⟩
  | 9 => ⟨S64, .f32⟩
  | 10 => ⟨S64x3, .f32⟩
  | 11 => ⟨S3, .f32⟩
  | 12 => ⟨S3x64x64x3x3, .f32⟩
  | 13 => ⟨S3x64, .f32⟩
  | 14 => ⟨S3x64x64x3x3, .f32⟩
  | 15 => ⟨S3x64, .f32⟩
  | 16 => ⟨S1x64x3x3, .f32⟩
  | 17 => ⟨S1, .f32⟩
  | 18 => ⟨S64x1x3x3, .f32⟩
  | 19 => ⟨S64, .f32⟩
  | 20 => ⟨S3x64x64x3x3, .f32⟩
  | 21 => ⟨S3x64, .f32⟩
  | 22 => ⟨S1x64x3x3, .f32⟩
  | 23 => ⟨S1, .f32⟩
  | 24 => ⟨S64x1x9, .f32⟩
  | 25 => ⟨S64x1x1, .f32⟩
  | 26 => ⟨S64x1, .f32⟩
  | 27 => ⟨S64x1x1, .f32⟩
  | 28 => ⟨S64x1, .f32⟩
  | 29 => ⟨S64x1x1, .f32⟩
  | 30 => ⟨S64x1, .f32⟩
  | 31 => ⟨S64x1x1, .f32⟩
  | 32 => ⟨S64x1, .f32⟩
  | 33 => ⟨S64x1x1, .f32⟩
  | 34 => ⟨S64x1, .f32⟩
  | 35 => ⟨S64x1x1, .f32⟩
  | 36 => ⟨S64x1, .f32⟩
  | 37 => ⟨S64x1x1, .f32⟩
  | 38 => ⟨S64x1, .f32⟩
  | 39 => ⟨S64x1x1, .f32⟩
  | 40 => ⟨S64x1, .f32⟩
  | 41 => ⟨S64x1x1, .f32⟩
  | 42 => ⟨S64x1, .f32⟩
  | 43 => ⟨S1x64x64x3x3, .f32⟩
  | 44 => ⟨S64x64x3x3, .f32⟩
  | 45 => ⟨S64x64x9, .f32⟩
  | 46 => ⟨S64x64x1, .f32⟩
  | 47 => ⟨S64x64, .f32⟩
  | 48 => ⟨S64x64x1, .f32⟩
  | 49 => ⟨S64x64, .f32⟩
  | 50 => ⟨S64x64x1, .f32⟩
  | 51 => ⟨S64x64, .f32⟩
  | 52 => ⟨S64x64x1, .f32⟩
  | 53 => ⟨S64x64, .f32⟩
  | 54 => ⟨S64x64x1, .f32⟩
  | 55 => ⟨S64x64, .f32⟩
  | 56 => ⟨S64x64x1, .f32⟩
  | 57 => ⟨S64x64, .f32⟩
  | 58 => ⟨S64x64x1, .f32⟩
  | 59 => ⟨S64x64, .f32⟩
  | 60 => ⟨S64x64x1, .f32⟩
  | 61 => ⟨S64x64, .f32⟩
  | 62 => ⟨S64x64x1, .f32⟩
  | 63 => ⟨S64x64, .f32⟩
  | 64 => ⟨S1x64x64x3x3, .f32⟩
  | 65 => ⟨S64x64x3x3, .f32⟩
  | 66 => ⟨S64x64x9, .f32⟩
  | 67 => ⟨S64x64x1, .f32⟩
  | 68 => ⟨S64x64, .f32⟩
  | 69 => ⟨S64x64x1, .f32⟩
  | 70 => ⟨S64x64, .f32⟩
  | 71 => ⟨S64x64x1, .f32⟩
  | 72 => ⟨S64x64, .f32⟩
  | 73 => ⟨S64x64x1, .f32⟩
  | 74 => ⟨S64x64, .f32⟩
  | 75 => ⟨S64x64x1, .f32⟩
  | 76 => ⟨S64x64, .f32⟩
  | 77 => ⟨S64x64x1, .f32⟩
  | 78 => ⟨S64x64, .f32⟩
  | 79 => ⟨S64x64x1, .f32⟩
  | 80 => ⟨S64x64, .f32⟩
  | 81 => ⟨S64x64x1, .f32⟩
  | 82 => ⟨S64x64, .f32⟩
  | 83 => ⟨S64x64x1, .f32⟩
  | 84 => ⟨S64x64, .f32⟩
  | 85 => ⟨S64x64x9, .f32⟩
  | 86 => ⟨S64x64x1, .f32⟩
  | 87 => ⟨S64x64, .f32⟩
  | 88 => ⟨S64x64x1, .f32⟩
  | 89 => ⟨S64x64, .f32⟩
  | 90 => ⟨S64x64x1, .f32⟩
  | 91 => ⟨S64x64, .f32⟩
  | 92 => ⟨S64x64x1, .f32⟩
  | 93 => ⟨S64x64, .f32⟩
  | 94 => ⟨S64x64x1, .f32⟩
  | 95 => ⟨S64x64, .f32⟩
  | 96 => ⟨S64x64x1, .f32⟩
  | 97 => ⟨S64x64, .f32⟩
  | 98 => ⟨S64x64x1, .f32⟩
  | 99 => ⟨S64x64, .f32⟩
  | 100 => ⟨S64x64x1, .f32⟩
  | 101 => ⟨S64x64, .f32⟩
  | 102 => ⟨S64x64x1, .f32⟩
  | 103 => ⟨S64x64, .f32⟩
  | 104 => ⟨S64x64x9, .f32⟩
  | 105 => ⟨S64x64x1, .f32⟩
  | 106 => ⟨S64x64, .f32⟩
  | 107 => ⟨S64x64x1, .f32⟩
  | 108 => ⟨S64x64, .f32⟩
  | 109 => ⟨S64x64x1, .f32⟩
  | 110 => ⟨S64x64, .f32⟩
  | 111 => ⟨S64x64x1, .f32⟩
  | 112 => ⟨S64x64, .f32⟩
  | 113 => ⟨S64x64x1, .f32⟩
  | 114 => ⟨S64x64, .f32⟩
  | 115 => ⟨S64x64x1, .f32⟩
  | 116 => ⟨S64x64, .f32⟩
  | 117 => ⟨S64x64x1, .f32⟩
  | 118 => ⟨S64x64, .f32⟩
  | 119 => ⟨S64x64x1, .f32⟩
  | 120 => ⟨S64x64, .f32⟩
  | 121 => ⟨S64x64x1, .f32⟩
  | 122 => ⟨S64x64, .f32⟩
  | 123 => ⟨S1x64x64x3x3, .f32⟩
  | 124 => ⟨S64x64x3x3, .f32⟩
  | 125 => ⟨S64x64x9, .f32⟩
  | 126 => ⟨S64x64x1, .f32⟩
  | 127 => ⟨S64x64, .f32⟩
  | _ => ⟨S2x1x224x224, .f32⟩

abbrev hbmTy0_1 (i : Nat) : BufTy := match i % 128 with
  | 0 => ⟨S64x64x1, .f32⟩
  | 1 => ⟨S64x64, .f32⟩
  | 2 => ⟨S64x64x1, .f32⟩
  | 3 => ⟨S64x64, .f32⟩
  | 4 => ⟨S64x64x1, .f32⟩
  | 5 => ⟨S64x64, .f32⟩
  | 6 => ⟨S64x64x1, .f32⟩
  | 7 => ⟨S64x64, .f32⟩
  | 8 => ⟨S64x64x1, .f32⟩
  | 9 => ⟨S64x64, .f32⟩
  | 10 => ⟨S64x64x1, .f32⟩
  | 11 => ⟨S64x64, .f32⟩
  | 12 => ⟨S64x64x1, .f32⟩
  | 13 => ⟨S64x64, .f32⟩
  | 14 => ⟨S64x64x1, .f32⟩
  | 15 => ⟨S64x64, .f32⟩
  | 16 => ⟨S1x64x64x3x3, .f32⟩
  | 17 => ⟨S64x64x3x3, .f32⟩
  | 18 => ⟨S64x64x9, .f32⟩
  | 19 => ⟨S64x64x1, .f32⟩
  | 20 => ⟨S64x64, .f32⟩
  | 21 => ⟨S64x64x1, .f32⟩
  | 22 => ⟨S64x64, .f32⟩
  | 23 => ⟨S64x64x1, .f32⟩
  | 24 => ⟨S64x64, .f32⟩
  | 25 => ⟨S64x64x1, .f32⟩
  | 26 => ⟨S64x64, .f32⟩
  | 27 => ⟨S64x64x1, .f32⟩
  | 28 => ⟨S64x64, .f32⟩
  | 29 => ⟨S64x64x1, .f32⟩
  | 30 => ⟨S64x64, .f32⟩
  | 31 => ⟨S64x64x1, .f32⟩
  | 32 => ⟨S64x64, .f32⟩
  | 33 => ⟨S64x64x1, .f32⟩
  | 34 => ⟨S64x64, .f32⟩
  | 35 => ⟨S64x64x1, .f32⟩
  | 36 => ⟨S64x64, .f32⟩
  | 37 => ⟨S1x64x64x3x3, .f32⟩
  | 38 => ⟨S64x64x3x3, .f32⟩
  | 39 => ⟨S64x64x9, .f32⟩
  | 40 => ⟨S64x64x1, .f32⟩
  | 41 => ⟨S64x64, .f32⟩
  | 42 => ⟨S64x64x1, .f32⟩
  | 43 => ⟨S64x64, .f32⟩
  | 44 => ⟨S64x64x1, .f32⟩
  | 45 => ⟨S64x64, .f32⟩
  | 46 => ⟨S64x64x1, .f32⟩
  | 47 => ⟨S64x64, .f32⟩
  | 48 => ⟨S64x64x1, .f32⟩
  | 49 => ⟨S64x64, .f32⟩
  | 50 => ⟨S64x64x1, .f32⟩
  | 51 => ⟨S64x64, .f32⟩
  | 52 => ⟨S64x64x1, .f32⟩
  | 53 => ⟨S64x64, .f32⟩
  | 54 => ⟨S64x64x1, .f32⟩
  | 55 => ⟨S64x64, .f32⟩
  | 56 => ⟨S64x64x1, .f32⟩
  | 57 => ⟨S64x64, .f32⟩
  | 58 => ⟨S1x64x64x3x3, .f32⟩
  | 59 => ⟨S64x64x3x3, .f32⟩
  | 60 => ⟨S64x64x9, .f32⟩
  | 61 => ⟨S64x64x1, .f32⟩
  | 62 => ⟨S64x64, .f32⟩
  | 63 => ⟨S64x64x1, .f32⟩
  | 64 => ⟨S64x64, .f32⟩
  | 65 => ⟨S64x64x1, .f32⟩
  | 66 => ⟨S64x64, .f32⟩
  | 67 => ⟨S64x64x1, .f32⟩
  | 68 => ⟨S64x64, .f32⟩
  | 69 => ⟨S64x64x1, .f32⟩
  | 70 => ⟨S64x64, .f32⟩
  | 71 => ⟨S64x64x1, .f32⟩
  | 72 => ⟨S64x64, .f32⟩
  | 73 => ⟨S64x64x1, .f32⟩
  | 74 => ⟨S64x64, .f32⟩
  | 75 => ⟨S64x64x1, .f32⟩
  | 76 => ⟨S64x64, .f32⟩
  | 77 => ⟨S64x64x1, .f32⟩
  | 78 => ⟨S64x64, .f32⟩
  | 79 => ⟨S1x64x64x3x3, .f32⟩
  | 80 => ⟨S64x64x3x3, .f32⟩
  | 81 => ⟨S64x64x9, .f32⟩
  | 82 => ⟨S64x64x1, .f32⟩
  | 83 => ⟨S64x64, .f32⟩
  | 84 => ⟨S64x64x1, .f32⟩
  | 85 => ⟨S64x64, .f32⟩
  | 86 => ⟨S64x64x1, .f32⟩
  | 87 => ⟨S64x64, .f32⟩
  | 88 => ⟨S64x64x1, .f32⟩
  | 89 => ⟨S64x64, .f32⟩
  | 90 => ⟨S64x64x1, .f32⟩
  | 91 => ⟨S64x64, .f32⟩
  | 92 => ⟨S64x64x1, .f32⟩
  | 93 => ⟨S64x64, .f32⟩
  | 94 => ⟨S64x64x1, .f32⟩
  | 95 => ⟨S64x64, .f32⟩
  | 96 => ⟨S64x64x1, .f32⟩
  | 97 => ⟨S64x64, .f32⟩
  | 98 => ⟨S64x64x1, .f32⟩
  | 99 => ⟨S64x64, .f32⟩
  | 100 => ⟨S1x64x64x3x3, .f32⟩
  | 101 => ⟨S64x64x3x3, .f32⟩
  | 102 => ⟨S64x64x9, .f32⟩
  | 103 => ⟨S64x64x1, .f32⟩
  | 104 => ⟨S64x64, .f32⟩
  | 105 => ⟨S64x64x1, .f32⟩
  | 106 => ⟨S64x64, .f32⟩
  | 107 => ⟨S64x64x1, .f32⟩
  | 108 => ⟨S64x64, .f32⟩
  | 109 => ⟨S64x64x1, .f32⟩
  | 110 => ⟨S64x64, .f32⟩
  | 111 => ⟨S64x64x1, .f32⟩
  | 112 => ⟨S64x64, .f32⟩
  | 113 => ⟨S64x64x1, .f32⟩
  | 114 => ⟨S64x64, .f32⟩
  | 115 => ⟨S64x64x1, .f32⟩
  | 116 => ⟨S64x64, .f32⟩
  | 117 => ⟨S64x64x1, .f32⟩
  | 118 => ⟨S64x64, .f32⟩
  | 119 => ⟨S64x64x1, .f32⟩
  | 120 => ⟨S64x64, .f32⟩
  | 121 => ⟨S1x64x9, .f32⟩
  | 122 => ⟨S1x64x1, .f32⟩
  | 123 => ⟨S1x64, .f32⟩
  | 124 => ⟨S1x64x1, .f32⟩
  | 125 => ⟨S1x64, .f32⟩
  | 126 => ⟨S1x64x1, .f32⟩
  | 127 => ⟨S1x64, .f32⟩
  | _ => ⟨S2x1x224x224, .f32⟩

abbrev hbmTy0_2 (i : Nat) : BufTy := match i % 128 with
  | 0 => ⟨S1x64x1, .f32⟩
  | 1 => ⟨S1x64, .f32⟩
  | 2 => ⟨S1x64x1, .f32⟩
  | 3 => ⟨S1x64, .f32⟩
  | 4 => ⟨S1x64x1, .f32⟩
  | 5 => ⟨S1x64, .f32⟩
  | 6 => ⟨S1x64x1, .f32⟩
  | 7 => ⟨S1x64, .f32⟩
  | 8 => ⟨S1x64x1, .f32⟩
  | 9 => ⟨S1x64, .f32⟩
  | 10 => ⟨S1x64x1, .f32⟩
  | 11 => ⟨S1x64, .f32⟩
  | 12 => ⟨S64x1x9, .f32⟩
  | 13 => ⟨S64x1x1, .f32⟩
  | 14 => ⟨S64x1, .f32⟩
  | 15 => ⟨S64x1x1, .f32⟩
  | 16 => ⟨S64x1, .f32⟩
  | 17 => ⟨S64x1x1, .f32⟩
  | 18 => ⟨S64x1, .f32⟩
  | 19 => ⟨S64x1x1, .f32⟩
  | 20 => ⟨S64x1, .f32⟩
  | 21 => ⟨S64x1x1, .f32⟩
  | 22 => ⟨S64x1, .f32⟩
  | 23 => ⟨S64x1x1, .f32⟩
  | 24 => ⟨S64x1, .f32⟩
  | 25 => ⟨S64x1x1, .f32⟩
  | 26 => ⟨S64x1, .f32⟩
  | 27 => ⟨S64x1x1, .f32⟩
  | 28 => ⟨S64x1, .f32⟩
  | 29 => ⟨S64x1x1, .f32⟩
  | 30 => ⟨S64x1, .f32⟩
  | 31 => ⟨S1x64x64x3x3, .f32⟩
  | 32 => ⟨S64x64x3x3, .f32⟩
  | 33 => ⟨S64x64x9, .f32⟩
  | 34 => ⟨S64x64x1, .f32⟩
  | 35 => ⟨S64x64, .f32⟩
  | 36 => ⟨S64x64x1, .f32⟩
  | 37 => ⟨S64x64, .f32⟩
  | 38 => ⟨S64x64x1, .f32⟩
  | 39 => ⟨S64x64, .f32⟩
  | 40 => ⟨S64x64x1, .f32⟩
  | 41 => ⟨S64x64, .f32⟩
  | 42 => ⟨S64x64x1, .f32⟩
  | 43 => ⟨S64x64, .f32⟩
  | 44 => ⟨S64x64x1, .f32⟩
  | 45 => ⟨S64x64, .f32⟩
  | 46 => ⟨S64x64x1, .f32⟩
  | 47 => ⟨S64x64, .f32⟩
  | 48 => ⟨S64x64x1, .f32⟩
  | 49 => ⟨S64x64, .f32⟩
  | 50 => ⟨S64x64x1, .f32⟩
  | 51 => ⟨S64x64, .f32⟩
  | 52 => ⟨S1x64x64x3x3, .f32⟩
  | 53 => ⟨S64x64x3x3, .f32⟩
  | 54 => ⟨S64x64x9, .f32⟩
  | 55 => ⟨S64x64x1, .f32⟩
  | 56 => ⟨S64x64, .f32⟩
  | 57 => ⟨S64x64x1, .f32⟩
  | 58 => ⟨S64x64, .f32⟩
  | 59 => ⟨S64x64x1, .f32⟩
  | 60 => ⟨S64x64, .f32⟩
  | 61 => ⟨S64x64x1, .f32⟩
  | 62 => ⟨S64x64, .f32⟩
  | 63 => ⟨S64x64x1, .f32⟩
  | 64 => ⟨S64x64, .f32⟩
  | 65 => ⟨S64x64x1, .f32⟩
  | 66 => ⟨S64x64, .f32⟩
  | 67 => ⟨S64x64x1, .f32⟩
  | 68 => ⟨S64x64, .f32⟩
  | 69 => ⟨S64x64x1, .f32⟩
  | 70 => ⟨S64x64, .f32⟩
  | 71 => ⟨S64x64x1, .f32⟩
  | 72 => ⟨S64x64, .f32⟩
  | 73 => ⟨S1x64x64x3x3, .f32⟩
  | 74 => ⟨S64x64x3x3, .f32⟩
  | 75 => ⟨S64x64x9, .f32⟩
  | 76 => ⟨S64x64x1, .f32⟩
  | 77 => ⟨S64x64, .f32⟩
  | 78 => ⟨S64x64x1, .f32⟩
  | 79 => ⟨S64x64, .f32⟩
  | 80 => ⟨S64x64x1, .f32⟩
  | 81 => ⟨S64x64, .f32⟩
  | 82 => ⟨S64x64x1, .f32⟩
  | 83 => ⟨S64x64, .f32⟩
  | 84 => ⟨S64x64x1, .f32⟩
  | 85 => ⟨S64x64, .f32⟩
  | 86 => ⟨S64x64x1, .f32⟩
  | 87 => ⟨S64x64, .f32⟩
  | 88 => ⟨S64x64x1, .f32⟩
  | 89 => ⟨S64x64, .f32⟩
  | 90 => ⟨S64x64x1, .f32⟩
  | 91 => ⟨S64x64, .f32⟩
  | 92 => ⟨S64x64x1, .f32⟩
  | 93 => ⟨S64x64, .f32⟩
  | 94 => ⟨S1x64x9, .f32⟩
  | 95 => ⟨S1x64x1, .f32⟩
  | 96 => ⟨S1x64, .f32⟩
  | 97 => ⟨S1x64x1, .f32⟩
  | 98 => ⟨S1x64, .f32⟩
  | 99 => ⟨S1x64x1, .f32⟩
  | 100 => ⟨S1x64, .f32⟩
  | 101 => ⟨S1x64x1, .f32⟩
  | 102 => ⟨S1x64, .f32⟩
  | 103 => ⟨S1x64x1, .f32⟩
  | 104 => ⟨S1x64, .f32⟩
  | 105 => ⟨S1x64x1, .f32⟩
  | 106 => ⟨S1x64, .f32⟩
  | 107 => ⟨S1x64x1, .f32⟩
  | 108 => ⟨S1x64, .f32⟩
  | 109 => ⟨S1x64x1, .f32⟩
  | 110 => ⟨S1x64, .f32⟩
  | 111 => ⟨S1x64x1, .f32⟩
  | 112 => ⟨S1x64, .f32⟩
  | 113 => ⟨S_, .i32⟩
  | 114 => ⟨S_, .f32⟩
  | 115 => ⟨S2x1x226x226, .f32⟩
  | 116 => ⟨S2x1x224x224, .f32⟩
  | 117 => ⟨S2x224x224x64, .f32⟩
  | 118 => ⟨S_, .f32⟩
  | 119 => ⟨S2x224x224x64, .f32⟩
  | 120 => ⟨S2x224x224x64, .f32⟩
  | 121 => ⟨S2x1x224x224, .f32⟩
  | 122 => ⟨S2x224x224x64, .f32⟩
  | 123 => ⟨S2x224x224x64, .f32⟩
  | 124 => ⟨S2x1x224x224, .f32⟩
  | 125 => ⟨S2x224x224x64, .f32⟩
  | 126 => ⟨S2x224x224x64, .f32⟩
  | 127 => ⟨S2x1x224x224, .f32⟩
  | _ => ⟨S2x1x224x224, .f32⟩

abbrev hbmTy0_3 (i : Nat) : BufTy := match i % 128 with
  | 0 => ⟨S2x224x224x64, .f32⟩
  | 1 => ⟨S2x224x224x64, .f32⟩
  | 2 => ⟨S2x1x224x224, .f32⟩
  | 3 => ⟨S2x224x224x64, .f32⟩
  | 4 => ⟨S2x224x224x64, .f32⟩
  | 5 => ⟨S2x1x224x224, .f32⟩
  | 6 => ⟨S2x224x224x64, .f32⟩
  | 7 => ⟨S2x224x224x64, .f32⟩
  | 8 => ⟨S2x1x224x224, .f32⟩
  | 9 => ⟨S2x224x224x64, .f32⟩
  | 10 => ⟨S2x224x224x64, .f32⟩
  | 11 => ⟨S2x1x224x224, .f32⟩
  | 12 => ⟨S2x224x224x64, .f32⟩
  | 13 => ⟨S2x224x224x64, .f32⟩
  | 14 => ⟨S2x1x224x224, .f32⟩
  | 15 => ⟨S2x224x224x64, .f32⟩
  | 16 => ⟨S2x224x224x64, .f32⟩
  | 17 => ⟨S2x64x224x224, .f32⟩
  | 18 => ⟨S1x64x1x1, .f32⟩
  | 19 => ⟨S2x64x224x224, .f32⟩
  | 20 => ⟨S2x64x224x224, .f32⟩
  | 21 => ⟨S_, .f32⟩
  | 22 => ⟨S2x64x224x224, .f32⟩
  | 23 => ⟨S2x64x224x224, .f32⟩
  | 24 => ⟨S1x64, .f32⟩
  | 25 => ⟨S64, .f32⟩
  | 26 => ⟨S_, .i32⟩
  | 27 => ⟨S_, .f32⟩
  | 28 => ⟨S2x64x226x226, .f32⟩
  | 29 => ⟨S2x64x224x224, .f32⟩
  | 30 => ⟨S2x224x224x64, .f32⟩
  | 31 => ⟨S_, .f32⟩
  | 32 => ⟨S2x224x224x64, .f32⟩
  | 33 => ⟨S2x224x224x64, .f32⟩
  | 34 => ⟨S2x64x224x224, .f32⟩
  | 35 => ⟨S2x224x224x64, .f32⟩
  | 36 => ⟨S2x224x224x64, .f32⟩
  | 37 => ⟨S2x64x224x224, .f32⟩
  | 38 => ⟨S2x224x224x64, .f32⟩
  | 39 => ⟨S2x224x224x64, .f32⟩
  | 40 => ⟨S2x64x224x224, .f32⟩
  | 41 => ⟨S2x224x224x64, .f32⟩
  | 42 => ⟨S2x224x224x64, .f32⟩
  | 43 => ⟨S2x64x224x224, .f32⟩
  | 44 => ⟨S2x224x224x64, .f32⟩
  | 45 => ⟨S2x224x224x64, .f32⟩
  | 46 => ⟨S2x64x224x224, .f32⟩
  | 47 => ⟨S2x224x224x64, .f32⟩
  | 48 => ⟨S2x224x224x64, .f32⟩
  | 49 => ⟨S2x64x224x224, .f32⟩
  | 50 => ⟨S2x224x224x64, .f32⟩
  | 51 => ⟨S2x224x224x64, .f32⟩
  | 52 => ⟨S2x64x224x224, .f32⟩
  | 53 => ⟨S2x224x224x64, .f32⟩
  | 54 => ⟨S2x224x224x64, .f32⟩
  | 55 => ⟨S2x64x224x224, .f32⟩
  | 56 => ⟨S2x224x224x64, .f32⟩
  | 57 => ⟨S2x224x224x64, .f32⟩
  | 58 => ⟨S2x64x224x224, .f32⟩
  | 59 => ⟨S1x64x1x1, .f32⟩
  | 60 => ⟨S2x64x224x224, .f32⟩
  | 61 => ⟨S2x64x224x224, .f32⟩
  | 62 => ⟨S_, .f32⟩
  | 63 => ⟨S2x64x224x224, .f32⟩
  | 64 => ⟨S2x64x224x224, .f32⟩
  | 65 => ⟨S1x64, .f32⟩
  | 66 => ⟨S64, .f32⟩
  | 67 => ⟨S_, .i32⟩
  | 68 => ⟨S_, .f32⟩
  | 69 => ⟨S2x64x226x226, .f32⟩
  | 70 => ⟨S2x64x224x224, .f32⟩
  | 71 => ⟨S2x224x224x64, .f32⟩
  | 72 => ⟨S_, .f32⟩
  | 73 => ⟨S2x224x224x64, .f32⟩
  | 74 => ⟨S2x224x224x64, .f32⟩
  | 75 => ⟨S2x64x224x224, .f32⟩
  | 76 => ⟨S2x224x224x64, .f32⟩
  | 77 => ⟨S2x224x224x64, .f32⟩
  | 78 => ⟨S2x64x224x224, .f32⟩
  | 79 => ⟨S2x224x224x64, .f32⟩
  | 80 => ⟨S2x224x224x64, .f32⟩
  | 81 => ⟨S2x64x224x224, .f32⟩
  | 82 => ⟨S2x224x224x64, .f32⟩
  | 83 => ⟨S2x224x224x64, .f32⟩
  | 84 => ⟨S2x64x224x224, .f32⟩
  | 85 => ⟨S2x224x224x64, .f32⟩
  | 86 => ⟨S2x224x224x64, .f32⟩
  | 87 => ⟨S2x64x224x224, .f32⟩
  | 88 => ⟨S2x224x224x64, .f32⟩
  | 89 => ⟨S2x224x224x64, .f32⟩
  | 90 => ⟨S2x64x224x224, .f32⟩
  | 91 => ⟨S2x224x224x64, .f32⟩
  | 92 => ⟨S2x224x224x64, .f32⟩
  | 93 => ⟨S2x64x224x224, .f32⟩
  | 94 => ⟨S2x224x224x64, .f32⟩
  | 95 => ⟨S2x224x224x64, .f32⟩
  | 96 => ⟨S2x64x224x224, .f32⟩
  | 97 => ⟨S2x224x224x64, .f32⟩
  | 98 => ⟨S2x224x224x64, .f32⟩
  | 99 => ⟨S2x64x224x224, .f32⟩
  | 100 => ⟨S1x64x1x1, .f32⟩
  | 101 => ⟨S2x64x224x224, .f32⟩
  | 102 => ⟨S2x64x224x224, .f32⟩
  | 103 => ⟨S_, .f32⟩
  | 104 => ⟨S2x64x224x224, .f32⟩
  | 105 => ⟨S2x64x224x224, .f32⟩
  | 106 => ⟨S_, .i32⟩
  | 107 => ⟨S_, .f32⟩
  | 108 => ⟨S2x64x226x226, .f32⟩
  | 109 => ⟨S2x64x224x224, .f32⟩
  | 110 => ⟨S2x224x224x64, .f32⟩
  | 111 => ⟨S_, .f32⟩
  | 112 => ⟨S2x224x224x64, .f32⟩
  | 113 => ⟨S2x224x224x64, .f32⟩
  | 114 => ⟨S2x64x224x224, .f32⟩
  | 115 => ⟨S2x224x224x64, .f32⟩
  | 116 => ⟨S2x224x224x64, .f32⟩
  | 117 => ⟨S2x64x224x224, .f32⟩
  | 118 => ⟨S2x224x224x64, .f32⟩
  | 119 => ⟨S2x224x224x64, .f32⟩
  | 120 => ⟨S2x64x224x224, .f32⟩
  | 121 => ⟨S2x224x224x64, .f32⟩
  | 122 => ⟨S2x224x224x64, .f32⟩
  | 123 => ⟨S2x64x224x224, .f32⟩
  | 124 => ⟨S2x224x224x64, .f32⟩
  | 125 => ⟨S2x224x224x64, .f32⟩
  | 126 => ⟨S2x64x224x224, .f32⟩
  | 127 => ⟨S2x224x224x64, .f32⟩
  | _ => ⟨S2x1x224x224, .f32⟩

abbrev hbmTy0_4 (i : Nat) : BufTy := match i % 128 with
  | 0 => ⟨S2x224x224x64, .f32⟩
  | 1 => ⟨S2x64x224x224, .f32⟩
  | 2 => ⟨S2x224x224x64, .f32⟩
  | 3 => ⟨S2x224x224x64, .f32⟩
  | 4 => ⟨S2x64x224x224, .f32⟩
  | 5 => ⟨S2x224x224x64, .f32⟩
  | 6 => ⟨S2x224x224x64, .f32⟩
  | 7 => ⟨S2x64x224x224, .f32⟩
  | 8 => ⟨S2x224x224x64, .f32⟩
  | 9 => ⟨S2x224x224x64, .f32⟩
  | 10 => ⟨S2x64x224x224, .f32⟩
  | 11 => ⟨S1x64x1x1, .f32⟩
  | 12 => ⟨S2x64x224x224, .f32⟩
  | 13 => ⟨S2x64x224x224, .f32⟩
  | 14 => ⟨S_, .i32⟩
  | 15 => ⟨S_, .f32⟩
  | 16 => ⟨S2x64x226x226, .f32⟩
  | 17 => ⟨S2x64x224x224, .f32⟩
  | 18 => ⟨S2x224x224x64, .f32⟩
  | 19 => ⟨S_, .f32⟩
  | 20 => ⟨S2x224x224x64, .f32⟩
  | 21 => ⟨S2x224x224x64, .f32⟩
  | 22 => ⟨S2x64x224x224, .f32⟩
  | 23 => ⟨S2x224x224x64, .f32⟩
  | 24 => ⟨S2x224x224x64, .f32⟩
  | 25 => ⟨S2x64x224x224, .f32⟩
  | 26 => ⟨S2x224x224x64, .f32⟩
  | 27 => ⟨S2x224x224x64, .f32⟩
  | 28 => ⟨S2x64x224x224, .f32⟩
  | 29 => ⟨S2x224x224x64, .f32⟩
  | 30 => ⟨S2x224x224x64, .f32⟩
  | 31 => ⟨S2x64x224x224, .f32⟩
  | 32 => ⟨S2x224x224x64, .f32⟩
  | 33 => ⟨S2x224x224x64, .f32⟩
  | 34 => ⟨S2x64x224x224, .f32⟩
  | 35 => ⟨S2x224x224x64, .f32⟩
  | 36 => ⟨S2x224x224x64, .f32⟩
  | 37 => ⟨S2x64x224x224, .f32⟩
  | 38 => ⟨S2x224x224x64, .f32⟩
  | 39 => ⟨S2x224x224x64, .f32⟩
  | 40 => ⟨S2x64x224x224, .f32⟩
  | 41 => ⟨S2x224x224x64, .f32⟩
  | 42 => ⟨S2x224x224x64, .f32⟩
  | 43 => ⟨S2x64x224x224, .f32⟩
  | 44 => ⟨S2x224x224x64, .f32⟩
  | 45 => ⟨S2x224x224x64, .f32⟩
  | 46 => ⟨S2x64x224x224, .f32⟩
  | 47 => ⟨S1x64x1x1, .f32⟩
  | 48 => ⟨S2x64x224x224, .f32⟩
  | 49 => ⟨S2x64x224x224, .f32⟩
  | 50 => ⟨S2x64x224x224, .f32⟩
  | 51 => ⟨S2x64x224x224, .f32⟩
  | 52 => ⟨S_, .f32⟩
  | 53 => ⟨S2x64x224x224, .f32⟩
  | 54 => ⟨S2x64x224x224, .f32⟩
  | 55 => ⟨S2x64x224x224, .f32⟩
  | 56 => ⟨S2x64x224x224, .f32⟩
  | 57 => ⟨S_, .f32⟩
  | 58 => ⟨S2x64, .f32⟩
  | 59 => ⟨S_, .f32⟩
  | 60 => ⟨S2x64, .f32⟩
  | 61 => ⟨S2x64, .f32⟩
  | 62 => ⟨S2x3, .f32⟩
  | 63 => ⟨S1x3, .f32⟩
  | 64 => ⟨S2x3, .f32⟩
  | 65 => ⟨S2x3, .f32⟩
  | 66 => ⟨S2x2, .f32⟩
  | 67 => ⟨S2x2, .i32⟩
  | 68 => ⟨S_, .f32⟩
  | 69 => ⟨S2, .f32⟩
  | 70 => ⟨S_, .f32⟩
  | 71 => ⟨S2, .f32⟩
  | 72 => ⟨S2, .f32⟩
  | 73 => ⟨S2x1, .f32⟩
  | 74 => ⟨S2x2, .f32⟩
  | 75 => ⟨S2x2, .f32⟩
  | 76 => ⟨S2x2, .f32⟩
  | 77 => ⟨S_, .f32⟩
  | 78 => ⟨S2, .f32⟩
  | 79 => ⟨S2x1, .f32⟩
  | 80 => ⟨S2x2, .f32⟩
  | 81 => ⟨S2x2, .f32⟩
  | 82 => ⟨S_, .f32⟩
  | 83 => ⟨S2x3, .f32⟩
  | 84 => ⟨S2, .i32⟩
  | 85 => ⟨S2x1, .i32⟩
  | 86 => ⟨S_, .i32⟩
  | 87 => ⟨S2x1, .i32⟩
  | 88 => ⟨S2x1, .i1⟩
  | 89 => ⟨S_, .i32⟩
  | 90 => ⟨S2x1, .i32⟩
  | 91 => ⟨S2x1, .i32⟩
  | 92 => ⟨S2x1, .i32⟩
  | 93 => ⟨S_, .i32⟩
  | 94 => ⟨S2x2, .i32⟩
  | 95 => ⟨S2x2, .i1⟩
  | 96 => ⟨S_, .i32⟩
  | 97 => ⟨S2x2, .i32⟩
  | 98 => ⟨S2x2, .i32⟩
  | 99 => ⟨S2x2, .i32⟩
  | 100 => ⟨S2x2, .i32⟩
  | 101 => ⟨S2x2x1, .i32⟩
  | 102 => ⟨S2x2x1, .i32⟩
  | 103 => ⟨S2x2x2, .i32⟩
  | 104 => ⟨S2x3, .f32⟩
  | 105 => ⟨S1x64, .f32⟩
  | 106 => ⟨S64, .f32⟩
  | 107 => ⟨S_, .i32⟩
  | 108 => ⟨S_, .f32⟩
  | 109 => ⟨S2x64x226x226, .f32⟩
  | 110 => ⟨S2x64x224x224, .f32⟩
  | 111 => ⟨S2x224x224x64, .f32⟩
  | 112 => ⟨S_, .f32⟩
  | 113 => ⟨S2x224x224x64, .f32⟩
  | 114 => ⟨S2x224x224x64, .f32⟩
  | 115 => ⟨S2x64x224x224, .f32⟩
  | 116 => ⟨S2x224x224x64, .f32⟩
  | 117 => ⟨S2x224x224x64, .f32⟩
  | 118 => ⟨S2x64x224x224, .f32⟩
  | 119 => ⟨S2x224x224x64, .f32⟩
  | 120 => ⟨S2x224x224x64, .f32⟩
  | 121 => ⟨S2x64x224x224, .f32⟩
  | 122 => ⟨S2x224x224x64, .f32⟩
  | 123 => ⟨S2x224x224x64, .f32⟩
  | 124 => ⟨S2x64x224x224, .f32⟩
  | 125 => ⟨S2x224x224x64, .f32⟩
  | 126 => ⟨S2x224x224x64, .f32⟩
  | 127 => ⟨S2x64x224x224, .f32⟩
  | _ => ⟨S2x1x224x224, .f32⟩

abbrev hbmTy0_5 (i : Nat) : BufTy := match i % 128 with
  | 0 => ⟨S2x224x224x64, .f32⟩
  | 1 => ⟨S2x224x224x64, .f32⟩
  | 2 => ⟨S2x64x224x224, .f32⟩
  | 3 => ⟨S2x224x224x64, .f32⟩
  | 4 => ⟨S2x224x224x64, .f32⟩
  | 5 => ⟨S2x64x224x224, .f32⟩
  | 6 => ⟨S2x224x224x64, .f32⟩
  | 7 => ⟨S2x224x224x64, .f32⟩
  | 8 => ⟨S2x64x224x224, .f32⟩
  | 9 => ⟨S2x224x224x64, .f32⟩
  | 10 => ⟨S2x224x224x64, .f32⟩
  | 11 => ⟨S2x64x224x224, .f32⟩
  | 12 => ⟨S1x64x1x1, .f32⟩
  | 13 => ⟨S2x64x224x224, .f32⟩
  | 14 => ⟨S2x64x224x224, .f32⟩
  | 15 => ⟨S_, .f32⟩
  | 16 => ⟨S2x64x224x224, .f32⟩
  | 17 => ⟨S2x64x224x224, .f32⟩
  | 18 => ⟨S1x64, .f32⟩
  | 19 => ⟨S64, .f32⟩
  | 20 => ⟨S_, .i32⟩
  | 21 => ⟨S_, .f32⟩
  | 22 => ⟨S2x64x226x226, .f32⟩
  | 23 => ⟨S2x64x224x224, .f32⟩
  | 24 => ⟨S2x224x224x64, .f32⟩
  | 25 => ⟨S_, .f32⟩
  | 26 => ⟨S2x224x224x64, .f32⟩
  | 27 => ⟨S2x224x224x64, .f32⟩
  | 28 => ⟨S2x64x224x224, .f32⟩
  | 29 => ⟨S2x224x224x64, .f32⟩
  | 30 => ⟨S2x224x224x64, .f32⟩
  | 31 => ⟨S2x64x224x224, .f32⟩
  | 32 => ⟨S2x224x224x64, .f32⟩
  | 33 => ⟨S2x224x224x64, .f32⟩
  | 34 => ⟨S2x64x224x224, .f32⟩
  | 35 => ⟨S2x224x224x64, .f32⟩
  | 36 => ⟨S2x224x224x64, .f32⟩
  | 37 => ⟨S2x64x224x224, .f32⟩
  | 38 => ⟨S2x224x224x64, .f32⟩
  | 39 => ⟨S2x224x224x64, .f32⟩
  | 40 => ⟨S2x64x224x224, .f32⟩
  | 41 => ⟨S2x224x224x64, .f32⟩
  | 42 => ⟨S2x224x224x64, .f32⟩
  | 43 => ⟨S2x64x224x224, .f32⟩
  | 44 => ⟨S2x224x224x64, .f32⟩
  | 45 => ⟨S2x224x224x64, .f32⟩
  | 46 => ⟨S2x64x224x224, .f32⟩
  | 47 => ⟨S2x224x224x64, .f32⟩
  | 48 => ⟨S2x224x224x64, .f32⟩
  | 49 => ⟨S2x64x224x224, .f32⟩
  | 50 => ⟨S2x224x224x64, .f32⟩
  | 51 => ⟨S2x224x224x64, .f32⟩
  | 52 => ⟨S2x64x224x224, .f32⟩
  | 53 => ⟨S1x64x1x1, .f32⟩
  | 54 => ⟨S2x64x224x224, .f32⟩
  | 55 => ⟨S2x64x224x224, .f32⟩
  | 56 => ⟨S1x64, .f32⟩
  | 57 => ⟨S64, .f32⟩
  | 58 => ⟨S_, .i32⟩
  | 59 => ⟨S_, .f32⟩
  | 60 => ⟨S2x64x226x226, .f32⟩
  | 61 => ⟨S2x64x224x224, .f32⟩
  | 62 => ⟨S2x224x224x64, .f32⟩
  | 63 => ⟨S_, .f32⟩
  | 64 => ⟨S2x224x224x64, .f32⟩
  | 65 => ⟨S2x224x224x64, .f32⟩
  | 66 => ⟨S2x64x224x224, .f32⟩
  | 67 => ⟨S2x224x224x64, .f32⟩
  | 68 => ⟨S2x224x224x64, .f32⟩
  | 69 => ⟨S2x64x224x224, .f32⟩
  | 70 => ⟨S2x224x224x64, .f32⟩
  | 71 => ⟨S2x224x224x64, .f32⟩
  | 72 => ⟨S2x64x224x224, .f32⟩
  | 73 => ⟨S2x224x224x64, .f32⟩
  | 74 => ⟨S2x224x224x64, .f32⟩
  | 75 => ⟨S2x64x224x224, .f32⟩
  | 76 => ⟨S2x224x224x64, .f32⟩
  | 77 => ⟨S2x224x224x64, .f32⟩
  | 78 => ⟨S2x64x224x224, .f32⟩
  | 79 => ⟨S2x224x224x64, .f32⟩
  | 80 => ⟨S2x224x224x64, .f32⟩
  | 81 => ⟨S2x64x224x224, .f32⟩
  | 82 => ⟨S2x224x224x64, .f32⟩
  | 83 => ⟨S2x224x224x64, .f32⟩
  | 84 => ⟨S2x64x224x224, .f32⟩
  | 85 => ⟨S2x224x224x64, .f32⟩
  | 86 => ⟨S2x224x224x64, .f32⟩
  | 87 => ⟨S2x64x224x224, .f32⟩
  | 88 => ⟨S2x224x224x64, .f32⟩
  | 89 => ⟨S2x224x224x64, .f32⟩
  | 90 => ⟨S2x64x224x224, .f32⟩
  | 91 => ⟨S1x64x1x1, .f32⟩
  | 92 => ⟨S2x64x224x224, .f32⟩
  | 93 => ⟨S2x64x224x224, .f32⟩
  | 94 => ⟨S_, .f32⟩
  | 95 => ⟨S2x64x224x224, .f32⟩
  | 96 => ⟨S2x64x224x224, .f32⟩
  | 97 => ⟨S1x64, .f32⟩
  | 98 => ⟨S64, .f32⟩
  | 99 => ⟨S_, .i32⟩
  | 100 => ⟨S_, .f32⟩
  | 101 => ⟨S2x64x226x226, .f32⟩
  | 102 => ⟨S2x64x224x224, .f32⟩
  | 103 => ⟨S2x224x224x64, .f32⟩
  | 104 => ⟨S_, .f32⟩
  | 105 => ⟨S2x224x224x64, .f32⟩
  | 106 => ⟨S2x224x224x64, .f32⟩
  | 107 => ⟨S2x64x224x224, .f32⟩
  | 108 => ⟨S2x224x224x64, .f32⟩
  | 109 => ⟨S2x224x224x64, .f32⟩
  | 110 => ⟨S2x64x224x224, .f32⟩
  | 111 => ⟨S2x224x224x64, .f32⟩
  | 112 => ⟨S2x224x224x64, .f32⟩
  | 113 => ⟨S2x64x224x224, .f32⟩
  | 114 => ⟨S2x224x224x64, .f32⟩
  | 115 => ⟨S2x224x224x64, .f32⟩
  | 116 => ⟨S2x64x224x224, .f32⟩
  | 117 => ⟨S2x224x224x64, .f32⟩
  | 118 => ⟨S2x224x224x64, .f32⟩
  | 119 => ⟨S2x64x224x224, .f32⟩
  | 120 => ⟨S2x224x224x64, .f32⟩
  | 121 => ⟨S2x224x224x64, .f32⟩
  | 122 => ⟨S2x64x224x224, .f32⟩
  | 123 => ⟨S2x224x224x64, .f32⟩
  | 124 => ⟨S2x224x224x64, .f32⟩
  | 125 => ⟨S2x64x224x224, .f32⟩
  | 126 => ⟨S2x224x224x64, .f32⟩
  | 127 => ⟨S2x224x224x64, .f32⟩
  | _ => ⟨S2x1x224x224, .f32⟩

abbrev hbmTy0_6 (i : Nat) : BufTy := match i % 128 with
  | 0 => ⟨S2x64x224x224, .f32⟩
  | 1 => ⟨S2x224x224x64, .f32⟩
  | 2 => ⟨S2x224x224x64, .f32⟩
  | 3 => ⟨S2x64x224x224, .f32⟩
  | 4 => ⟨S1x64x1x1, .f32⟩
  | 5 => ⟨S2x64x224x224, .f32⟩
  | 6 => ⟨S2x64x224x224, .f32⟩
  | 7 => ⟨S1x64, .f32⟩
  | 8 => ⟨S64, .f32⟩
  | 9 => ⟨S_, .i32⟩
  | 10 => ⟨S_, .f32⟩
  | 11 => ⟨S2x64x226x226, .f32⟩
  | 12 => ⟨S2x64x224x224, .f32⟩
  | 13 => ⟨S2x224x224x64, .f32⟩
  | 14 => ⟨S_, .f32⟩
  | 15 => ⟨S2x224x224x64, .f32⟩
  | 16 => ⟨S2x224x224x64, .f32⟩
  | 17 => ⟨S2x64x224x224, .f32⟩
  | 18 => ⟨S2x224x224x64, .f32⟩
  | 19 => ⟨S2x224x224x64, .f32⟩
  | 20 => ⟨S2x64x224x224, .f32⟩
  | 21 => ⟨S2x224x224x64, .f32⟩
  | 22 => ⟨S2x224x224x64, .f32⟩
  | 23 => ⟨S2x64x224x224, .f32⟩
  | 24 => ⟨S2x224x224x64, .f32⟩
  | 25 => ⟨S2x224x224x64, .f32⟩
  | 26 => ⟨S2x64x224x224, .f32⟩
  | 27 => ⟨S2x224x224x64, .f32⟩
  | 28 => ⟨S2x224x224x64, .f32⟩
  | 29 => ⟨S2x64x224x224, .f32⟩
  | 30 => ⟨S2x224x224x64, .f32⟩
  | 31 => ⟨S2x224x224x64, .f32⟩
  | 32 => ⟨S2x64x224x224, .f32⟩
  | 33 => ⟨S2x224x224x64, .f32⟩
  | 34 => ⟨S2x224x224x64, .f32⟩
  | 35 => ⟨S2x64x224x224, .f32⟩
  | 36 => ⟨S2x224x224x64, .f32⟩
  | 37 => ⟨S2x224x224x64, .f32⟩
  | 38 => ⟨S2x64x224x224, .f32⟩
  | 39 => ⟨S2x224x224x64, .f32⟩
  | 40 => ⟨S2x224x224x64, .f32⟩
  | 41 => ⟨S2x64x224x224, .f32⟩
  | 42 => ⟨S1x64x1x1, .f32⟩
  | 43 => ⟨S2x64x224x224, .f32⟩
  | 44 => ⟨S2x64x224x224, .f32⟩
  | 45 => ⟨S_, .f32⟩
  | 46 => ⟨S2x64x224x224, .f32⟩
  | 47 => ⟨S2x64x224x224, .f32⟩
  | 48 => ⟨S1x64, .f32⟩
  | 49 => ⟨S64, .f32⟩
  | 50 => ⟨S_, .i32⟩
  | 51 => ⟨S_, .f32⟩
  | 52 => ⟨S2x64x226x226, .f32⟩
  | 53 => ⟨S2x64x224x224, .f32⟩
  | 54 => ⟨S2x224x224x64, .f32⟩
  | 55 => ⟨S_, .f32⟩
  | 56 => ⟨S2x224x224x64, .f32⟩
  | 57 => ⟨S2x224x224x64, .f32⟩
  | 58 => ⟨S2x64x224x224, .f32⟩
  | 59 => ⟨S2x224x224x64, .f32⟩
  | 60 => ⟨S2x224x224x64, .f32⟩
  | 61 => ⟨S2x64x224x224, .f32⟩
  | 62 => ⟨S2x224x224x64, .f32⟩
  | 63 => ⟨S2x224x224x64, .f32⟩
  | 64 => ⟨S2x64x224x224, .f32⟩
  | 65 => ⟨S2x224x224x64, .f32⟩
  | 66 => ⟨S2x224x224x64, .f32⟩
  | 67 => ⟨S2x64x224x224, .f32⟩
  | 68 => ⟨S2x224x224x64, .f32⟩
  | 69 => ⟨S2x224x224x64, .f32⟩
  | 70 => ⟨S2x64x224x224, .f32⟩
  | 71 => ⟨S2x224x224x64, .f32⟩
  | 72 => ⟨S2x224x224x64, .f32⟩
  | 73 => ⟨S2x64x224x224, .f32⟩
  | 74 => ⟨S2x224x224x64, .f32⟩
  | 75 => ⟨S2x224x224x64, .f32⟩
  | 76 => ⟨S2x64x224x224, .f32⟩
  | 77 => ⟨S2x224x224x64, .f32⟩
  | 78 => ⟨S2x224x224x64, .f32⟩
  | 79 => ⟨S2x64x224x224, .f32⟩
  | 80 => ⟨S2x224x224x64, .f32⟩
  | 81 => ⟨S2x224x224x64, .f32⟩
  | 82 => ⟨S2x64x224x224, .f32⟩
  | 83 => ⟨S1x64x1x1, .f32⟩
  | 84 => ⟨S2x64x224x224, .f32⟩
  | 85 => ⟨S2x64x224x224, .f32⟩
  | 86 => ⟨S1x2x64x224x224, .f32⟩
  | 87 => ⟨S1x2x64x224x224, .f32⟩
  | 88 => ⟨S1x2x64x224x224, .f32⟩
  | 89 => ⟨S3x2x64x224x224, .f32⟩
  | 90 => ⟨S2x64x224x224, .f32⟩
  | 91 => ⟨S_, .i32⟩
  | 92 => ⟨S_, .f32⟩
  | 93 => ⟨S2x64x226x226, .f32⟩
  | 94 => ⟨S2x64x224x224, .f32⟩
  | 95 => ⟨S2x224x224x1, .f32⟩
  | 96 => ⟨S_, .f32⟩
  | 97 => ⟨S2x224x224x1, .f32⟩
  | 98 => ⟨S2x224x224x1, .f32⟩
  | 99 => ⟨S2x64x224x224, .f32⟩
  | 100 => ⟨S2x224x224x1, .f32⟩
  | 101 => ⟨S2x224x224x1, .f32⟩
  | 102 => ⟨S2x64x224x224, .f32⟩
  | 103 => ⟨S2x224x224x1, .f32⟩
  | 104 => ⟨S2x224x224x1, .f32⟩
  | 105 => ⟨S2x64x224x224, .f32⟩
  | 106 => ⟨S2x224x224x1, .f32⟩
  | 107 => ⟨S2x224x224x1, .f32⟩
  | 108 => ⟨S2x64x224x224, .f32⟩
  | 109 => ⟨S2x224x224x1, .f32⟩
  | 110 => ⟨S2x224x224x1, .f32⟩
  | 111 => ⟨S2x64x224x224, .f32⟩
  | 112 => ⟨S2x224x224x1, .f32⟩
  | 113 => ⟨S2x224x224x1, .f32⟩
  | 114 => ⟨S2x64x224x224, .f32⟩
  | 115 => ⟨S2x224x224x1, .f32⟩
  | 116 => ⟨S2x224x224x1, .f32⟩
  | 117 => ⟨S2x64x224x224, .f32⟩
  | 118 => ⟨S2x224x224x1, .f32⟩
  | 119 => ⟨S2x224x224x1, .f32⟩
  | 120 => ⟨S2x64x224x224, .f32⟩
  | 121 => ⟨S2x224x224x1, .f32⟩
  | 122 => ⟨S2x224x224x1, .f32⟩
  | 123 => ⟨S2x1x224x224, .f32⟩
  | 124 => ⟨S1x1x1x1, .f32⟩
  | 125 => ⟨S2x1x224x224, .f32⟩
  | 126 => ⟨S2x1x224x224, .f32⟩
  | 127 => ⟨S2x1x224x224, .f32⟩
  | _ => ⟨S2x1x224x224, .f32⟩

abbrev hbmTy0_7 (i : Nat) : BufTy := match i % 128 with
  | 0 => ⟨S_, .i32⟩
  | 1 => ⟨S_, .f32⟩
  | 2 => ⟨S2x1x226x226, .f32⟩
  | 3 => ⟨S2x1x224x224, .f32⟩
  | 4 => ⟨S2x224x224x64, .f32⟩
  | 5 => ⟨S_, .f32⟩
  | 6 => ⟨S2x224x224x64, .f32⟩
  | 7 => ⟨S2x224x224x64, .f32⟩
  | 8 => ⟨S2x1x224x224, .f32⟩
  | 9 => ⟨S2x224x224x64, .f32⟩
  | 10 => ⟨S2x224x224x64, .f32⟩
  | 11 => ⟨S2x1x224x224, .f32⟩
  | 12 => ⟨S2x224x224x64, .f32⟩
  | 13 => ⟨S2x224x224x64, .f32⟩
  | 14 => ⟨S2x1x224x224, .f32⟩
  | 15 => ⟨S2x224x224x64, .f32⟩
  | 16 => ⟨S2x224x224x64, .f32⟩
  | 17 => ⟨S2x1x224x224, .f32⟩
  | 18 => ⟨S2x224x224x64, .f32⟩
  | 19 => ⟨S2x224x224x64, .f32⟩
  | 20 => ⟨S2x1x224x224, .f32⟩
  | 21 => ⟨S2x224x224x64, .f32⟩
  | 22 => ⟨S2x224x224x64, .f32⟩
  | 23 => ⟨S2x1x224x224, .f32⟩
  | 24 => ⟨S2x224x224x64, .f32⟩
  | 25 => ⟨S2x224x224x64, .f32⟩
  | 26 => ⟨S2x1x224x224, .f32⟩
  | 27 => ⟨S2x224x224x64, .f32⟩
  | 28 => ⟨S2x224x224x64, .f32⟩
  | 29 => ⟨S2x1x224x224, .f32⟩
  | 30 => ⟨S2x224x224x64, .f32⟩
  | 31 => ⟨S2x224x224x64, .f32⟩
  | 32 => ⟨S2x64x224x224, .f32⟩
  | 33 => ⟨S1x64x1x1, .f32⟩
  | 34 => ⟨S2x64x224x224, .f32⟩
  | 35 => ⟨S2x64x224x224, .f32⟩
  | 36 => ⟨S_, .f32⟩
  | 37 => ⟨S2x64x224x224, .f32⟩
  | 38 => ⟨S2x64x224x224, .f32⟩
  | 39 => ⟨S1x64, .f32⟩
  | 40 => ⟨S64, .f32⟩
  | 41 => ⟨S_, .i32⟩
  | 42 => ⟨S_, .f32⟩
  | 43 => ⟨S2x64x226x226, .f32⟩
  | 44 => ⟨S2x64x224x224, .f32⟩
  | 45 => ⟨S2x224x224x64, .f32⟩
  | 46 => ⟨S_, .f32⟩
  | 47 => ⟨S2x224x224x64, .f32⟩
  | 48 => ⟨S2x224x224x64, .f32⟩
  | 49 => ⟨S2x64x224x224, .f32⟩
  | 50 => ⟨S2x224x224x64, .f32⟩
  | 51 => ⟨S2x224x224x64, .f32⟩
  | 52 => ⟨S2x64x224x224, .f32⟩
  | 53 => ⟨S2x224x224x64, .f32⟩
  | 54 => ⟨S2x224x224x64, .f32⟩
  | 55 => ⟨S2x64x224x224, .f32⟩
  | 56 => ⟨S2x224x224x64, .f32⟩
  | 57 => ⟨S2x224x224x64, .f32⟩
  | 58 => ⟨S2x64x224x224, .f32⟩
  | 59 => ⟨S2x224x224x64, .f32⟩
  | 60 => ⟨S2x224x224x64, .f32⟩
  | 61 => ⟨S2x64x224x224, .f32⟩
  | 62 => ⟨S2x224x224x64, .f32⟩
  | 63 => ⟨S2x224x224x64, .f32⟩
  | 64 => ⟨S2x64x224x224, .f32⟩
  | 65 => ⟨S2x224x224x64, .f32⟩
  | 66 => ⟨S2x224x224x64, .f32⟩
  | 67 => ⟨S2x64x224x224, .f32⟩
  | 68 => ⟨S2x224x224x64, .f32⟩
  | 69 => ⟨S2x224x224x64, .f32⟩
  | 70 => ⟨S2x64x224x224, .f32⟩
  | 71 => ⟨S2x224x224x64, .f32⟩
  | 72 => ⟨S2x224x224x64, .f32⟩
  | 73 => ⟨S2x64x224x224, .f32⟩
  | 74 => ⟨S1x64x1x1, .f32⟩
  | 75 => ⟨S2x64x224x224, .f32⟩
  | 76 => ⟨S2x64x224x224, .f32⟩
  | 77 => ⟨S_, .f32⟩
  | 78 => ⟨S2x64x224x224, .f32⟩
  | 79 => ⟨S2x64x224x224, .f32⟩
  | 80 => ⟨S1x64, .f32⟩
  | 81 => ⟨S64, .f32⟩
  | 82 => ⟨S_, .i32⟩
  | 83 => ⟨S_, .f32⟩
  | 84 => ⟨S2x64x226x226, .f32⟩
  | 85 => ⟨S2x64x224x224, .f32⟩
  | 86 => ⟨S2x224x224x64, .f32⟩
  | 87 => ⟨S_, .f32⟩
  | 88 => ⟨S2x224x224x64, .f32⟩
  | 89 => ⟨S2x224x224x64, .f32⟩
  | 90 => ⟨S2x64x224x224, .f32⟩
  | 91 => ⟨S2x224x224x64, .f32⟩
  | 92 => ⟨S2x224x224x64, .f32⟩
  | 93 => ⟨S2x64x224x224, .f32⟩
  | 94 => ⟨S2x224x224x64, .f32⟩
  | 95 => ⟨S2x224x224x64, .f32⟩
  | 96 => ⟨S2x64x224x224, .f32⟩
  | 97 => ⟨S2x224x224x64, .f32⟩
  | 98 => ⟨S2x224x224x64, .f32⟩
  | 99 => ⟨S2x64x224x224, .f32⟩
  | 100 => ⟨S2x224x224x64, .f32⟩
  | 101 => ⟨S2x224x224x64, .f32⟩
  | 102 => ⟨S2x64x224x224, .f32⟩
  | 103 => ⟨S2x224x224x64, .f32⟩
  | 104 => ⟨S2x224x224x64, .f32⟩
  | 105 => ⟨S2x64x224x224, .f32⟩
  | 106 => ⟨S2x224x224x64, .f32⟩
  | 107 => ⟨S2x224x224x64, .f32⟩
  | 108 => ⟨S2x64x224x224, .f32⟩
  | 109 => ⟨S2x224x224x64, .f32⟩
  | 110 => ⟨S2x224x224x64, .f32⟩
  | 111 => ⟨S2x64x224x224, .f32⟩
  | 112 => ⟨S2x224x224x64, .f32⟩
  | 113 => ⟨S2x224x224x64, .f32⟩
  | 114 => ⟨S2x64x224x224, .f32⟩
  | 115 => ⟨S1x64x1x1, .f32⟩
  | 116 => ⟨S2x64x224x224, .f32⟩
  | 117 => ⟨S2x64x224x224, .f32⟩
  | 118 => ⟨S_, .f32⟩
  | 119 => ⟨S2x64x224x224, .f32⟩
  | 120 => ⟨S2x64x224x224, .f32⟩
  | 121 => ⟨S1x64, .f32⟩
  | 122 => ⟨S64, .f32⟩
  | 123 => ⟨S_, .i32⟩
  | 124 => ⟨S_, .f32⟩
  | 125 => ⟨S2x64x226x226, .f32⟩
  | 126 => ⟨S2x64x224x224, .f32⟩
  | 127 => ⟨S2x224x224x64, .f32⟩
  | _ => ⟨S2x1x224x224, .f32⟩

abbrev hbmTy0_8 (i : Nat) : BufTy := match i % 128 with
  | 0 => ⟨S_, .f32⟩
  | 1 => ⟨S2x224x224x64, .f32⟩
  | 2 => ⟨S2x224x224x64, .f32⟩
  | 3 => ⟨S2x64x224x224, .f32⟩
  | 4 => ⟨S2x224x224x64, .f32⟩
  | 5 => ⟨S2x224x224x64, .f32⟩
  | 6 => ⟨S2x64x224x224, .f32⟩
  | 7 => ⟨S2x224x224x64, .f32⟩
  | 8 => ⟨S2x224x224x64, .f32⟩
  | 9 => ⟨S2x64x224x224, .f32⟩
  | 10 => ⟨S2x224x224x64, .f32⟩
  | 11 => ⟨S2x224x224x64, .f32⟩
  | 12 => ⟨S2x64x224x224, .f32⟩
  | 13 => ⟨S2x224x224x64, .f32⟩
  | 14 => ⟨S2x224x224x64, .f32⟩
  | 15 => ⟨S2x64x224x224, .f32⟩
  | 16 => ⟨S2x224x224x64, .f32⟩
  | 17 => ⟨S2x224x224x64, .f32⟩
  | 18 => ⟨S2x64x224x224, .f32⟩
  | 19 => ⟨S2x224x224x64, .f32⟩
  | 20 => ⟨S2x224x224x64, .f32⟩
  | 21 => ⟨S2x64x224x224, .f32⟩
  | 22 => ⟨S2x224x224x64, .f32⟩
  | 23 => ⟨S2x224x224x64, .f32⟩
  | 24 => ⟨S2x64x224x224, .f32⟩
  | 25 => ⟨S2x224x224x64, .f32⟩
  | 26 => ⟨S2x224x224x64, .f32⟩
  | 27 => ⟨S2x64x224x224, .f32⟩
  | 28 => ⟨S1x64x1x1, .f32⟩
  | 29 => ⟨S2x64x224x224, .f32⟩
  | 30 => ⟨S2x64x224x224, .f32⟩
  | 31 => ⟨S_, .f32⟩
  | 32 => ⟨S2x64x224x224, .f32⟩
  | 33 => ⟨S2x64x224x224, .f32⟩
  | 34 => ⟨S_, .i32⟩
  | 35 => ⟨S_, .f32⟩
  | 36 => ⟨S2x64x226x226, .f32⟩
  | 37 => ⟨S2x64x224x224, .f32⟩
  | 38 => ⟨S2x224x224x1, .f32⟩
  | 39 => ⟨S_, .f32⟩
  | 40 => ⟨S2x224x224x1, .f32⟩
  | 41 => ⟨S2x224x224x1, .f32⟩
  | 42 => ⟨S2x64x224x224, .f32⟩
  | 43 => ⟨S2x224x224x1, .f32⟩
  | 44 => ⟨S2x224x224x1, .f32⟩
  | 45 => ⟨S2x64x224x224, .f32⟩
  | 46 => ⟨S2x224x224x1, .f32⟩
  | 47 => ⟨S2x224x224x1, .f32⟩
  | 48 => ⟨S2x64x224x224, .f32⟩
  | 49 => ⟨S2x224x224x1, .f32⟩
  | 50 => ⟨S2x224x224x1, .f32⟩
  | 51 => ⟨S2x64x224x224, .f32⟩
  | 52 => ⟨S2x224x224x1, .f32⟩
  | 53 => ⟨S2x224x224x1, .f32⟩
  | 54 => ⟨S2x64x224x224, .f32⟩
  | 55 => ⟨S2x224x224x1, .f32⟩
  | 56 => ⟨S2x224x224x1, .f32⟩
  | 57 => ⟨S2x64x224x224, .f32⟩
  | 58 => ⟨S2x224x224x1, .f32⟩
  | 59 => ⟨S2x224x224x1, .f32⟩
  | 60 => ⟨S2x64x224x224, .f32⟩
  | 61 => ⟨S2x224x224x1, .f32⟩
  | 62 => ⟨S2x224x224x1, .f32⟩
  | 63 => ⟨S2x64x224x224, .f32⟩
  | 64 => ⟨S2x224x224x1, .f32⟩
  | 65 => ⟨S2x224x224x1, .f32⟩
  | 66 => ⟨S2x1x224x224, .f32⟩
  | 67 => ⟨S1x1x1x1, .f32⟩
  | 68 => ⟨S2x1x224x224, .f32⟩
  | 69 => ⟨S2x1x224x224, .f32⟩
  | _ => ⟨S2x1x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2x1x224x224, .f32⟩

abbrev bufTy : (tb : Table) → Fin (tcTables nBuf tb) → BufTy
  | .hbm, ⟨i, _⟩ => hbmTy i
  | _, _ => ⟨S2x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_c : Ref sig .tc := ⟨.hbm, 369, rfl⟩
abbrev main_call0_v0 : Ref sig .tc := ⟨.hbm, 370, rfl⟩
abbrev main_v345 : Ref sig .tc := ⟨.hbm, 371, rfl⟩
abbrev main_v346 : Ref sig .tc := ⟨.hbm, 372, rfl⟩
abbrev main_v347 : Ref sig .tc := ⟨.hbm, 373, rfl⟩
abbrev main_cst : Ref sig .tc := ⟨.hbm, 374, rfl⟩
abbrev main_v348 : Ref sig .tc := ⟨.hbm, 375, rfl⟩
abbrev main_v349 : Ref sig .tc := ⟨.hbm, 376, rfl⟩
abbrev main_v350 : Ref sig .tc := ⟨.hbm, 377, rfl⟩
abbrev main_v351 : Ref sig .tc := ⟨.hbm, 378, rfl⟩
abbrev main_v352 : Ref sig .tc := ⟨.hbm, 379, rfl⟩
abbrev main_v353 : Ref sig .tc := ⟨.hbm, 380, rfl⟩
abbrev main_v354 : Ref sig .tc := ⟨.hbm, 381, rfl⟩
abbrev main_v355 : Ref sig .tc := ⟨.hbm, 382, rfl⟩
abbrev main_v356 : Ref sig .tc := ⟨.hbm, 383, rfl⟩
abbrev main_v357 : Ref sig .tc := ⟨.hbm, 384, rfl⟩
abbrev main_v358 : Ref sig .tc := ⟨.hbm, 385, rfl⟩
abbrev main_v359 : Ref sig .tc := ⟨.hbm, 386, rfl⟩
abbrev main_v360 : Ref sig .tc := ⟨.hbm, 387, rfl⟩
abbrev main_v361 : Ref sig .tc := ⟨.hbm, 388, rfl⟩
abbrev main_v362 : Ref sig .tc := ⟨.hbm, 389, rfl⟩
abbrev main_v363 : Ref sig .tc := ⟨.hbm, 390, rfl⟩
abbrev main_v364 : Ref sig .tc := ⟨.hbm, 391, rfl⟩
abbrev main_v365 : Ref sig .tc := ⟨.hbm, 392, rfl⟩
abbrev main_v366 : Ref sig .tc := ⟨.hbm, 393, rfl⟩
abbrev main_v367 : Ref sig .tc := ⟨.hbm, 394, rfl⟩
abbrev main_v368 : Ref sig .tc := ⟨.hbm, 395, rfl⟩
abbrev main_v369 : Ref sig .tc := ⟨.hbm, 396, rfl⟩
abbrev main_v370 : Ref sig .tc := ⟨.hbm, 397, rfl⟩
abbrev main_v371 : Ref sig .tc := ⟨.hbm, 398, rfl⟩
abbrev main_v372 : Ref sig .tc := ⟨.hbm, 399, rfl⟩
abbrev main_v373 : Ref sig .tc := ⟨.hbm, 400, rfl⟩
abbrev main_v374 : Ref sig .tc := ⟨.hbm, 401, rfl⟩
abbrev main_v375 : Ref sig .tc := ⟨.hbm, 402, rfl⟩
abbrev main_v376 : Ref sig .tc := ⟨.hbm, 403, rfl⟩
abbrev main_v377 : Ref sig .tc := ⟨.hbm, 404, rfl⟩
abbrev main_call1_cst : Ref sig .tc := ⟨.hbm, 405, rfl⟩
abbrev main_call1_v0 : Ref sig .tc := ⟨.hbm, 406, rfl⟩
abbrev main_v378 : Ref sig .tc := ⟨.hbm, 407, rfl⟩
abbrev main_v379 : Ref sig .tc := ⟨.hbm, 408, rfl⟩
abbrev main_v380 : Ref sig .tc := ⟨.hbm, 409, rfl⟩
abbrev main_c_0 : Ref sig .tc := ⟨.hbm, 410, rfl⟩
abbrev main_call2_v0 : Ref sig .tc := ⟨.hbm, 411, rfl⟩
abbrev main_v381 : Ref sig .tc := ⟨.hbm, 412, rfl⟩
abbrev main_v382 : Ref sig .tc := ⟨.hbm, 413, rfl⟩
abbrev main_v383 : Ref sig .tc := ⟨.hbm, 414, rfl⟩
abbrev main_cst_1 : Ref sig .tc := ⟨.hbm, 415, rfl⟩
abbrev main_v384 : Ref sig .tc := ⟨.hbm, 416, rfl⟩
abbrev main_v385 : Ref sig .tc := ⟨.hbm, 417, rfl⟩
abbrev main_v386 : Ref sig .tc := ⟨.hbm, 418, rfl⟩
abbrev main_v387 : Ref sig .tc := ⟨.hbm, 419, rfl⟩
abbrev main_v388 : Ref sig .tc := ⟨.hbm, 420, rfl⟩
abbrev main_v389 : Ref sig .tc := ⟨.hbm, 421, rfl⟩
abbrev main_v390 : Ref sig .tc := ⟨.hbm, 422, rfl⟩
abbrev main_v391 : Ref sig .tc := ⟨.hbm, 423, rfl⟩
abbrev main_v392 : Ref sig .tc := ⟨.hbm, 424, rfl⟩
abbrev main_v393 : Ref sig .tc := ⟨.hbm, 425, rfl⟩
abbrev main_v394 : Ref sig .tc := ⟨.hbm, 426, rfl⟩
abbrev main_v395 : Ref sig .tc := ⟨.hbm, 427, rfl⟩
abbrev main_v396 : Ref sig .tc := ⟨.hbm, 428, rfl⟩
abbrev main_v397 : Ref sig .tc := ⟨.hbm, 429, rfl⟩
abbrev main_v398 : Ref sig .tc := ⟨.hbm, 430, rfl⟩
abbrev main_v399 : Ref sig .tc := ⟨.hbm, 431, rfl⟩
abbrev main_v400 : Ref sig .tc := ⟨.hbm, 432, rfl⟩
abbrev main_v401 : Ref sig .tc := ⟨.hbm, 433, rfl⟩
abbrev main_v402 : Ref sig .tc := ⟨.hbm, 434, rfl⟩
abbrev main_v403 : Ref sig .tc := ⟨.hbm, 435, rfl⟩
abbrev main_v404 : Ref sig .tc := ⟨.hbm, 436, rfl⟩
abbrev main_v405 : Ref sig .tc := ⟨.hbm, 437, rfl⟩
abbrev main_v406 : Ref sig .tc := ⟨.hbm, 438, rfl⟩
abbrev main_v407 : Ref sig .tc := ⟨.hbm, 439, rfl⟩
abbrev main_v408 : Ref sig .tc := ⟨.hbm, 440, rfl⟩
abbrev main_v409 : Ref sig .tc := ⟨.hbm, 441, rfl⟩
abbrev main_v410 : Ref sig .tc := ⟨.hbm, 442, rfl⟩
abbrev main_v411 : Ref sig .tc := ⟨.hbm, 443, rfl⟩
abbrev main_v412 : Ref sig .tc := ⟨.hbm, 444, rfl⟩
abbrev main_v413 : Ref sig .tc := ⟨.hbm, 445, rfl⟩
abbrev main_call3_cst : Ref sig .tc := ⟨.hbm, 446, rfl⟩
abbrev main_call3_v0 : Ref sig .tc := ⟨.hbm, 447, rfl⟩
abbrev main_v414 : Ref sig .tc := ⟨.hbm, 448, rfl⟩
abbrev main_v415 : Ref sig .tc := ⟨.hbm, 449, rfl⟩
abbrev main_v416 : Ref sig .tc := ⟨.hbm, 450, rfl⟩
abbrev main_c_2 : Ref sig .tc := ⟨.hbm, 451, rfl⟩
abbrev main_call4_v0 : Ref sig .tc := ⟨.hbm, 452, rfl⟩
abbrev main_v417 : Ref sig .tc := ⟨.hbm, 453, rfl⟩
abbrev main_v418 : Ref sig .tc := ⟨.hbm, 454, rfl⟩
abbrev main_v419 : Ref sig .tc := ⟨.hbm, 455, rfl⟩
abbrev main_cst_3 : Ref sig .tc := ⟨.hbm, 456, rfl⟩
abbrev main_v420 : Ref sig .tc := ⟨.hbm, 457, rfl⟩
abbrev main_v421 : Ref sig .tc := ⟨.hbm, 458, rfl⟩
abbrev main_v422 : Ref sig .tc := ⟨.hbm, 459, rfl⟩
abbrev main_v423 : Ref sig .tc := ⟨.hbm, 460, rfl⟩
abbrev main_v424 : Ref sig .tc := ⟨.hbm, 461, rfl⟩
abbrev main_v425 : Ref sig .tc := ⟨.hbm, 462, rfl⟩
abbrev main_v426 : Ref sig .tc := ⟨.hbm, 463, rfl⟩
abbrev main_v427 : Ref sig .tc := ⟨.hbm, 464, rfl⟩
abbrev main_v428 : Ref sig .tc := ⟨.hbm, 465, rfl⟩
abbrev main_v429 : Ref sig .tc := ⟨.hbm, 466, rfl⟩
abbrev main_v430 : Ref sig .tc := ⟨.hbm, 467, rfl⟩
abbrev main_v431 : Ref sig .tc := ⟨.hbm, 468, rfl⟩
abbrev main_v432 : Ref sig .tc := ⟨.hbm, 469, rfl⟩
abbrev main_v433 : Ref sig .tc := ⟨.hbm, 470, rfl⟩
abbrev main_v434 : Ref sig .tc := ⟨.hbm, 471, rfl⟩
abbrev main_v435 : Ref sig .tc := ⟨.hbm, 472, rfl⟩
abbrev main_v436 : Ref sig .tc := ⟨.hbm, 473, rfl⟩
abbrev main_v437 : Ref sig .tc := ⟨.hbm, 474, rfl⟩
abbrev main_v438 : Ref sig .tc := ⟨.hbm, 475, rfl⟩
abbrev main_v439 : Ref sig .tc := ⟨.hbm, 476, rfl⟩
abbrev main_v440 : Ref sig .tc := ⟨.hbm, 477, rfl⟩
abbrev main_v441 : Ref sig .tc := ⟨.hbm, 478, rfl⟩
abbrev main_v442 : Ref sig .tc := ⟨.hbm, 479, rfl⟩
abbrev main_v443 : Ref sig .tc := ⟨.hbm, 480, rfl⟩
abbrev main_v444 : Ref sig .tc := ⟨.hbm, 481, rfl⟩
abbrev main_v445 : Ref sig .tc := ⟨.hbm, 482, rfl⟩
abbrev main_v446 : Ref sig .tc := ⟨.hbm, 483, rfl⟩
abbrev main_v447 : Ref sig .tc := ⟨.hbm, 484, rfl⟩
abbrev main_v448 : Ref sig .tc := ⟨.hbm, 485, rfl⟩
abbrev main_v449 : Ref sig .tc := ⟨.hbm, 486, rfl⟩
abbrev main_call5_cst : Ref sig .tc := ⟨.hbm, 487, rfl⟩
abbrev main_call5_v0 : Ref sig .tc := ⟨.hbm, 488, rfl⟩
abbrev main_v450 : Ref sig .tc := ⟨.hbm, 489, rfl⟩
abbrev main_c_4 : Ref sig .tc := ⟨.hbm, 490, rfl⟩
abbrev main_call6_v0 : Ref sig .tc := ⟨.hbm, 491, rfl⟩
abbrev main_v451 : Ref sig .tc := ⟨.hbm, 492, rfl⟩
abbrev main_v452 : Ref sig .tc := ⟨.hbm, 493, rfl⟩
abbrev main_v453 : Ref sig .tc := ⟨.hbm, 494, rfl⟩
abbrev main_cst_5 : Ref sig .tc := ⟨.hbm, 495, rfl⟩
abbrev main_v454 : Ref sig .tc := ⟨.hbm, 496, rfl⟩
abbrev main_v455 : Ref sig .tc := ⟨.hbm, 497, rfl⟩
abbrev main_v456 : Ref sig .tc := ⟨.hbm, 498, rfl⟩
abbrev main_v457 : Ref sig .tc := ⟨.hbm, 499, rfl⟩
abbrev main_v458 : Ref sig .tc := ⟨.hbm, 500, rfl⟩
abbrev main_v459 : Ref sig .tc := ⟨.hbm, 501, rfl⟩
abbrev main_v460 : Ref sig .tc := ⟨.hbm, 502, rfl⟩
abbrev main_v461 : Ref sig .tc := ⟨.hbm, 503, rfl⟩
abbrev main_v462 : Ref sig .tc := ⟨.hbm, 504, rfl⟩
abbrev main_v463 : Ref sig .tc := ⟨.hbm, 505, rfl⟩
abbrev main_v464 : Ref sig .tc := ⟨.hbm, 506, rfl⟩
abbrev main_v465 : Ref sig .tc := ⟨.hbm, 507, rfl⟩
abbrev main_v466 : Ref sig .tc := ⟨.hbm, 508, rfl⟩
abbrev main_v467 : Ref sig .tc := ⟨.hbm, 509, rfl⟩
abbrev main_v468 : Ref sig .tc := ⟨.hbm, 510, rfl⟩
abbrev main_v469 : Ref sig .tc := ⟨.hbm, 511, rfl⟩
abbrev main_v470 : Ref sig .tc := ⟨.hbm, 512, rfl⟩
abbrev main_v471 : Ref sig .tc := ⟨.hbm, 513, rfl⟩
abbrev main_v472 : Ref sig .tc := ⟨.hbm, 514, rfl⟩
abbrev main_v473 : Ref sig .tc := ⟨.hbm, 515, rfl⟩
abbrev main_v474 : Ref sig .tc := ⟨.hbm, 516, rfl⟩
abbrev main_v475 : Ref sig .tc := ⟨.hbm, 517, rfl⟩
abbrev main_v476 : Ref sig .tc := ⟨.hbm, 518, rfl⟩
abbrev main_v477 : Ref sig .tc := ⟨.hbm, 519, rfl⟩
abbrev main_v478 : Ref sig .tc := ⟨.hbm, 520, rfl⟩
abbrev main_v479 : Ref sig .tc := ⟨.hbm, 521, rfl⟩
abbrev main_v480 : Ref sig .tc := ⟨.hbm, 522, rfl⟩
abbrev main_v481 : Ref sig .tc := ⟨.hbm, 523, rfl⟩
abbrev main_v482 : Ref sig .tc := ⟨.hbm, 524, rfl⟩
abbrev main_v483 : Ref sig .tc := ⟨.hbm, 525, rfl⟩
abbrev main_c_6 : Ref sig .tc := ⟨.hbm, 526, rfl⟩
abbrev main_call7_v0 : Ref sig .tc := ⟨.hbm, 527, rfl⟩
abbrev main_v484 : Ref sig .tc := ⟨.hbm, 528, rfl⟩
abbrev main_v485 : Ref sig .tc := ⟨.hbm, 529, rfl⟩
abbrev main_v486 : Ref sig .tc := ⟨.hbm, 530, rfl⟩
abbrev main_cst_7 : Ref sig .tc := ⟨.hbm, 531, rfl⟩
abbrev main_v487 : Ref sig .tc := ⟨.hbm, 532, rfl⟩
abbrev main_v488 : Ref sig .tc := ⟨.hbm, 533, rfl⟩
abbrev main_v489 : Ref sig .tc := ⟨.hbm, 534, rfl⟩
abbrev main_v490 : Ref sig .tc := ⟨.hbm, 535, rfl⟩
abbrev main_v491 : Ref sig .tc := ⟨.hbm, 536, rfl⟩
abbrev main_v492 : Ref sig .tc := ⟨.hbm, 537, rfl⟩
abbrev main_v493 : Ref sig .tc := ⟨.hbm, 538, rfl⟩
abbrev main_v494 : Ref sig .tc := ⟨.hbm, 539, rfl⟩
abbrev main_v495 : Ref sig .tc := ⟨.hbm, 540, rfl⟩
abbrev main_v496 : Ref sig .tc := ⟨.hbm, 541, rfl⟩
abbrev main_v497 : Ref sig .tc := ⟨.hbm, 542, rfl⟩
abbrev main_v498 : Ref sig .tc := ⟨.hbm, 543, rfl⟩
abbrev main_v499 : Ref sig .tc := ⟨.hbm, 544, rfl⟩
abbrev main_v500 : Ref sig .tc := ⟨.hbm, 545, rfl⟩
abbrev main_v501 : Ref sig .tc := ⟨.hbm, 546, rfl⟩
abbrev main_v502 : Ref sig .tc := ⟨.hbm, 547, rfl⟩
abbrev main_v503 : Ref sig .tc := ⟨.hbm, 548, rfl⟩
abbrev main_v504 : Ref sig .tc := ⟨.hbm, 549, rfl⟩
abbrev main_v505 : Ref sig .tc := ⟨.hbm, 550, rfl⟩
abbrev main_v506 : Ref sig .tc := ⟨.hbm, 551, rfl⟩
abbrev main_v507 : Ref sig .tc := ⟨.hbm, 552, rfl⟩
abbrev main_v508 : Ref sig .tc := ⟨.hbm, 553, rfl⟩
abbrev main_v509 : Ref sig .tc := ⟨.hbm, 554, rfl⟩
abbrev main_v510 : Ref sig .tc := ⟨.hbm, 555, rfl⟩
abbrev main_v511 : Ref sig .tc := ⟨.hbm, 556, rfl⟩
abbrev main_v512 : Ref sig .tc := ⟨.hbm, 557, rfl⟩
abbrev main_v513 : Ref sig .tc := ⟨.hbm, 558, rfl⟩
abbrev main_v514 : Ref sig .tc := ⟨.hbm, 559, rfl⟩
abbrev main_v515 : Ref sig .tc := ⟨.hbm, 560, rfl⟩
abbrev main_v516 : Ref sig .tc := ⟨.hbm, 561, rfl⟩
abbrev main_v517 : Ref sig .tc := ⟨.hbm, 562, rfl⟩
abbrev main_v518 : Ref sig .tc := ⟨.hbm, 563, rfl⟩
abbrev main_cst_8 : Ref sig .tc := ⟨.hbm, 564, rfl⟩
abbrev main_v519 : Ref sig .tc := ⟨.hbm, 565, rfl⟩
abbrev main_v520 : Ref sig .tc := ⟨.hbm, 566, rfl⟩
abbrev main_v521 : Ref sig .tc := ⟨.hbm, 567, rfl⟩
abbrev main_v522 : Ref sig .tc := ⟨.hbm, 568, rfl⟩
abbrev main_cst_9 : Ref sig .tc := ⟨.hbm, 569, rfl⟩
abbrev main_v523 : Ref sig .tc := ⟨.hbm, 570, rfl⟩
abbrev main_cst_10 : Ref sig .tc := ⟨.hbm, 571, rfl⟩
abbrev main_v524 : Ref sig .tc := ⟨.hbm, 572, rfl⟩
abbrev main_v525 : Ref sig .tc := ⟨.hbm, 573, rfl⟩
abbrev main_v526 : Ref sig .tc := ⟨.hbm, 574, rfl⟩
abbrev main_v527 : Ref sig .tc := ⟨.hbm, 575, rfl⟩
abbrev main_v528 : Ref sig .tc := ⟨.hbm, 576, rfl⟩
abbrev main_v529 : Ref sig .tc := ⟨.hbm, 577, rfl⟩
abbrev main_values : Ref sig .tc := ⟨.hbm, 578, rfl⟩
abbrev main_indices : Ref sig .tc := ⟨.hbm, 579, rfl⟩
abbrev main_cst_11 : Ref sig .tc := ⟨.hbm, 580, rfl⟩
abbrev main_v530 : Ref sig .tc := ⟨.hbm, 581, rfl⟩
abbrev main_cst_12 : Ref sig .tc := ⟨.hbm, 582, rfl⟩
abbrev main_v531 : Ref sig .tc := ⟨.hbm, 583, rfl⟩
abbrev main_v532 : Ref sig .tc := ⟨.hbm, 584, rfl⟩
abbrev main_v533 : Ref sig .tc := ⟨.hbm, 585, rfl⟩
abbrev main_v534 : Ref sig .tc := ⟨.hbm, 586, rfl⟩
abbrev main_v535 : Ref sig .tc := ⟨.hbm, 587, rfl⟩
abbrev main_v536 : Ref sig .tc := ⟨.hbm, 588, rfl⟩
abbrev main_cst_13 : Ref sig .tc := ⟨.hbm, 589, rfl⟩
abbrev main_v537 : Ref sig .tc := ⟨.hbm, 590, rfl⟩
abbrev main_v538 : Ref sig .tc := ⟨.hbm, 591, rfl⟩
abbrev main_v539 : Ref sig .tc := ⟨.hbm, 592, rfl⟩
abbrev main_v540 : Ref sig .tc := ⟨.hbm, 593, rfl⟩
abbrev main_cst_14 : Ref sig .tc := ⟨.hbm, 594, rfl⟩
abbrev main_v541 : Ref sig .tc := ⟨.hbm, 595, rfl⟩
abbrev main_v542 : Ref sig .tc := ⟨.hbm, 596, rfl⟩
abbrev main_v543 : Ref sig .tc := ⟨.hbm, 597, rfl⟩
abbrev main_c_15 : Ref sig .tc := ⟨.hbm, 598, rfl⟩
abbrev main_v544 : Ref sig .tc := ⟨.hbm, 599, rfl⟩
abbrev main_v545 : Ref sig .tc := ⟨.hbm, 600, rfl⟩
abbrev main_c_16 : Ref sig .tc := ⟨.hbm, 601, rfl⟩
abbrev main_v546 : Ref sig .tc := ⟨.hbm, 602, rfl⟩
abbrev main_v547 : Ref sig .tc := ⟨.hbm, 603, rfl⟩
abbrev main_v548 : Ref sig .tc := ⟨.hbm, 604, rfl⟩
abbrev main_c_17 : Ref sig .tc := ⟨.hbm, 605, rfl⟩
abbrev main_v549 : Ref sig .tc := ⟨.hbm, 606, rfl⟩
abbrev main_v550 : Ref sig .tc := ⟨.hbm, 607, rfl⟩
abbrev main_c_18 : Ref sig .tc := ⟨.hbm, 608, rfl⟩
abbrev main_v551 : Ref sig .tc := ⟨.hbm, 609, rfl⟩
abbrev main_v552 : Ref sig .tc := ⟨.hbm, 610, rfl⟩
abbrev main_v553 : Ref sig .tc := ⟨.hbm, 611, rfl⟩
abbrev main_v554 : Ref sig .tc := ⟨.hbm, 612, rfl⟩
abbrev main_v555 : Ref sig .tc := ⟨.hbm, 613, rfl⟩
abbrev main_v556 : Ref sig .tc := ⟨.hbm, 614, rfl⟩
abbrev main_v557 : Ref sig .tc := ⟨.hbm, 615, rfl⟩
abbrev main_v558 : Ref sig .tc := ⟨.hbm, 616, rfl⟩
abbrev main_v559 : Ref sig .tc := ⟨.hbm, 617, rfl⟩
abbrev main_v560 : Ref sig .tc := ⟨.hbm, 618, rfl⟩
abbrev main_c_19 : Ref sig .tc := ⟨.hbm, 619, rfl⟩
abbrev main_call8_v0 : Ref sig .tc := ⟨.hbm, 620, rfl⟩
abbrev main_v561 : Ref sig .tc := ⟨.hbm, 621, rfl⟩
abbrev main_v562 : Ref sig .tc := ⟨.hbm, 622, rfl⟩
abbrev main_v563 : Ref sig .tc := ⟨.hbm, 623, rfl⟩
abbrev main_cst_20 : Ref sig .tc := ⟨.hbm, 624, rfl⟩
abbrev main_v564 : Ref sig .tc := ⟨.hbm, 625, rfl⟩
abbrev main_v565 : Ref sig .tc := ⟨.hbm, 626, rfl⟩
abbrev main_v566 : Ref sig .tc := ⟨.hbm, 627, rfl⟩
abbrev main_v567 : Ref sig .tc := ⟨.hbm, 628, rfl⟩
abbrev main_v568 : Ref sig .tc := ⟨.hbm, 629, rfl⟩
abbrev main_v569 : Ref sig .tc := ⟨.hbm, 630, rfl⟩
abbrev main_v570 : Ref sig .tc := ⟨.hbm, 631, rfl⟩
abbrev main_v571 : Ref sig .tc := ⟨.hbm, 632, rfl⟩
abbrev main_v572 : Ref sig .tc := ⟨.hbm, 633, rfl⟩
abbrev main_v573 : Ref sig .tc := ⟨.hbm, 634, rfl⟩
abbrev main_v574 : Ref sig .tc := ⟨.hbm, 635, rfl⟩
abbrev main_v575 : Ref sig .tc := ⟨.hbm, 636, rfl⟩
abbrev main_v576 : Ref sig .tc := ⟨.hbm, 637, rfl⟩
abbrev main_v577 : Ref sig .tc := ⟨.hbm, 638, rfl⟩
abbrev main_v578 : Ref sig .tc := ⟨.hbm, 639, rfl⟩
abbrev main_v579 : Ref sig .tc := ⟨.hbm, 640, rfl⟩
abbrev main_v580 : Ref sig .tc := ⟨.hbm, 641, rfl⟩
abbrev main_v581 : Ref sig .tc := ⟨.hbm, 642, rfl⟩
abbrev main_v582 : Ref sig .tc := ⟨.hbm, 643, rfl⟩
abbrev main_v583 : Ref sig .tc := ⟨.hbm, 644, rfl⟩
abbrev main_v584 : Ref sig .tc := ⟨.hbm, 645, rfl⟩
abbrev main_v585 : Ref sig .tc := ⟨.hbm, 646, rfl⟩
abbrev main_v586 : Ref sig .tc := ⟨.hbm, 647, rfl⟩
abbrev main_v587 : Ref sig .tc := ⟨.hbm, 648, rfl⟩
abbrev main_v588 : Ref sig .tc := ⟨.hbm, 649, rfl⟩
abbrev main_v589 : Ref sig .tc := ⟨.hbm, 650, rfl⟩
abbrev main_v590 : Ref sig .tc := ⟨.hbm, 651, rfl⟩
abbrev main_v591 : Ref sig .tc := ⟨.hbm, 652, rfl⟩
abbrev main_v592 : Ref sig .tc := ⟨.hbm, 653, rfl⟩
abbrev main_v593 : Ref sig .tc := ⟨.hbm, 654, rfl⟩
abbrev main_call9_cst : Ref sig .tc := ⟨.hbm, 655, rfl⟩
abbrev main_call9_v0 : Ref sig .tc := ⟨.hbm, 656, rfl⟩
abbrev main_v594 : Ref sig .tc := ⟨.hbm, 657, rfl⟩
abbrev main_v595 : Ref sig .tc := ⟨.hbm, 658, rfl⟩
abbrev main_v596 : Ref sig .tc := ⟨.hbm, 659, rfl⟩
abbrev main_c_21 : Ref sig .tc := ⟨.hbm, 660, rfl⟩
abbrev main_call10_v0 : Ref sig .tc := ⟨.hbm, 661, rfl⟩
abbrev main_v597 : Ref sig .tc := ⟨.hbm, 662, rfl⟩
abbrev main_v598 : Ref sig .tc := ⟨.hbm, 663, rfl⟩
abbrev main_v599 : Ref sig .tc := ⟨.hbm, 664, rfl⟩
abbrev main_cst_22 : Ref sig .tc := ⟨.hbm, 665, rfl⟩
abbrev main_v600 : Ref sig .tc := ⟨.hbm, 666, rfl⟩
abbrev main_v601 : Ref sig .tc := ⟨.hbm, 667, rfl⟩
abbrev main_v602 : Ref sig .tc := ⟨.hbm, 668, rfl⟩
abbrev main_v603 : Ref sig .tc := ⟨.hbm, 669, rfl⟩
abbrev main_v604 : Ref sig .tc := ⟨.hbm, 670, rfl⟩
abbrev main_v605 : Ref sig .tc := ⟨.hbm, 671, rfl⟩
abbrev main_v606 : Ref sig .tc := ⟨.hbm, 672, rfl⟩
abbrev main_v607 : Ref sig .tc := ⟨.hbm, 673, rfl⟩
abbrev main_v608 : Ref sig .tc := ⟨.hbm, 674, rfl⟩
abbrev main_v609 : Ref sig .tc := ⟨.hbm, 675, rfl⟩
abbrev main_v610 : Ref sig .tc := ⟨.hbm, 676, rfl⟩
abbrev main_v611 : Ref sig .tc := ⟨.hbm, 677, rfl⟩
abbrev main_v612 : Ref sig .tc := ⟨.hbm, 678, rfl⟩
abbrev main_v613 : Ref sig .tc := ⟨.hbm, 679, rfl⟩
abbrev main_v614 : Ref sig .tc := ⟨.hbm, 680, rfl⟩
abbrev main_v615 : Ref sig .tc := ⟨.hbm, 681, rfl⟩
abbrev main_v616 : Ref sig .tc := ⟨.hbm, 682, rfl⟩
abbrev main_v617 : Ref sig .tc := ⟨.hbm, 683, rfl⟩
abbrev main_v618 : Ref sig .tc := ⟨.hbm, 684, rfl⟩
abbrev main_v619 : Ref sig .tc := ⟨.hbm, 685, rfl⟩
abbrev main_v620 : Ref sig .tc := ⟨.hbm, 686, rfl⟩
abbrev main_v621 : Ref sig .tc := ⟨.hbm, 687, rfl⟩
abbrev main_v622 : Ref sig .tc := ⟨.hbm, 688, rfl⟩
abbrev main_v623 : Ref sig .tc := ⟨.hbm, 689, rfl⟩
abbrev main_v624 : Ref sig .tc := ⟨.hbm, 690, rfl⟩
abbrev main_v625 : Ref sig .tc := ⟨.hbm, 691, rfl⟩
abbrev main_v626 : Ref sig .tc := ⟨.hbm, 692, rfl⟩
abbrev main_v627 : Ref sig .tc := ⟨.hbm, 693, rfl⟩
abbrev main_v628 : Ref sig .tc := ⟨.hbm, 694, rfl⟩
abbrev main_v629 : Ref sig .tc := ⟨.hbm, 695, rfl⟩
abbrev main_v630 : Ref sig .tc := ⟨.hbm, 696, rfl⟩
abbrev main_v631 : Ref sig .tc := ⟨.hbm, 697, rfl⟩
abbrev main_c_23 : Ref sig .tc := ⟨.hbm, 698, rfl⟩
abbrev main_call11_v0 : Ref sig .tc := ⟨.hbm, 699, rfl⟩
abbrev main_v632 : Ref sig .tc := ⟨.hbm, 700, rfl⟩
abbrev main_v633 : Ref sig .tc := ⟨.hbm, 701, rfl⟩
abbrev main_v634 : Ref sig .tc := ⟨.hbm, 702, rfl⟩
abbrev main_cst_24 : Ref sig .tc := ⟨.hbm, 703, rfl⟩
abbrev main_v635 : Ref sig .tc := ⟨.hbm, 704, rfl⟩
abbrev main_v636 : Ref sig .tc := ⟨.hbm, 705, rfl⟩
abbrev main_v637 : Ref sig .tc := ⟨.hbm, 706, rfl⟩
abbrev main_v638 : Ref sig .tc := ⟨.hbm, 707, rfl⟩
abbrev main_v639 : Ref sig .tc := ⟨.hbm, 708, rfl⟩
abbrev main_v640 : Ref sig .tc := ⟨.hbm, 709, rfl⟩
abbrev main_v641 : Ref sig .tc := ⟨.hbm, 710, rfl⟩
abbrev main_v642 : Ref sig .tc := ⟨.hbm, 711, rfl⟩
abbrev main_v643 : Ref sig .tc := ⟨.hbm, 712, rfl⟩
abbrev main_v644 : Ref sig .tc := ⟨.hbm, 713, rfl⟩
abbrev main_v645 : Ref sig .tc := ⟨.hbm, 714, rfl⟩
abbrev main_v646 : Ref sig .tc := ⟨.hbm, 715, rfl⟩
abbrev main_v647 : Ref sig .tc := ⟨.hbm, 716, rfl⟩
abbrev main_v648 : Ref sig .tc := ⟨.hbm, 717, rfl⟩
abbrev main_v649 : Ref sig .tc := ⟨.hbm, 718, rfl⟩
abbrev main_v650 : Ref sig .tc := ⟨.hbm, 719, rfl⟩
abbrev main_v651 : Ref sig .tc := ⟨.hbm, 720, rfl⟩
abbrev main_v652 : Ref sig .tc := ⟨.hbm, 721, rfl⟩
abbrev main_v653 : Ref sig .tc := ⟨.hbm, 722, rfl⟩
abbrev main_v654 : Ref sig .tc := ⟨.hbm, 723, rfl⟩
abbrev main_v655 : Ref sig .tc := ⟨.hbm, 724, rfl⟩
abbrev main_v656 : Ref sig .tc := ⟨.hbm, 725, rfl⟩
abbrev main_v657 : Ref sig .tc := ⟨.hbm, 726, rfl⟩
abbrev main_v658 : Ref sig .tc := ⟨.hbm, 727, rfl⟩
abbrev main_v659 : Ref sig .tc := ⟨.hbm, 728, rfl⟩
abbrev main_v660 : Ref sig .tc := ⟨.hbm, 729, rfl⟩
abbrev main_v661 : Ref sig .tc := ⟨.hbm, 730, rfl⟩
abbrev main_v662 : Ref sig .tc := ⟨.hbm, 731, rfl⟩
abbrev main_v663 : Ref sig .tc := ⟨.hbm, 732, rfl⟩
abbrev main_v664 : Ref sig .tc := ⟨.hbm, 733, rfl⟩
abbrev main_call12_cst : Ref sig .tc := ⟨.hbm, 734, rfl⟩
abbrev main_call12_v0 : Ref sig .tc := ⟨.hbm, 735, rfl⟩
abbrev main_v665 : Ref sig .tc := ⟨.hbm, 736, rfl⟩
abbrev main_v666 : Ref sig .tc := ⟨.hbm, 737, rfl⟩
abbrev main_v667 : Ref sig .tc := ⟨.hbm, 738, rfl⟩
abbrev main_c_25 : Ref sig .tc := ⟨.hbm, 739, rfl⟩
abbrev main_call13_v0 : Ref sig .tc := ⟨.hbm, 740, rfl⟩
abbrev main_v668 : Ref sig .tc := ⟨.hbm, 741, rfl⟩
abbrev main_v669 : Ref sig .tc := ⟨.hbm, 742, rfl⟩
abbrev main_v670 : Ref sig .tc := ⟨.hbm, 743, rfl⟩
abbrev main_cst_26 : Ref sig .tc := ⟨.hbm, 744, rfl⟩
abbrev main_v671 : Ref sig .tc := ⟨.hbm, 745, rfl⟩
abbrev main_v672 : Ref sig .tc := ⟨.hbm, 746, rfl⟩
abbrev main_v673 : Ref sig .tc := ⟨.hbm, 747, rfl⟩
abbrev main_v674 : Ref sig .tc := ⟨.hbm, 748, rfl⟩
abbrev main_v675 : Ref sig .tc := ⟨.hbm, 749, rfl⟩
abbrev main_v676 : Ref sig .tc := ⟨.hbm, 750, rfl⟩
abbrev main_v677 : Ref sig .tc := ⟨.hbm, 751, rfl⟩
abbrev main_v678 : Ref sig .tc := ⟨.hbm, 752, rfl⟩
abbrev main_v679 : Ref sig .tc := ⟨.hbm, 753, rfl⟩
abbrev main_v680 : Ref sig .tc := ⟨.hbm, 754, rfl⟩
abbrev main_v681 : Ref sig .tc := ⟨.hbm, 755, rfl⟩
abbrev main_v682 : Ref sig .tc := ⟨.hbm, 756, rfl⟩
abbrev main_v683 : Ref sig .tc := ⟨.hbm, 757, rfl⟩
abbrev main_v684 : Ref sig .tc := ⟨.hbm, 758, rfl⟩
abbrev main_v685 : Ref sig .tc := ⟨.hbm, 759, rfl⟩
abbrev main_v686 : Ref sig .tc := ⟨.hbm, 760, rfl⟩
abbrev main_v687 : Ref sig .tc := ⟨.hbm, 761, rfl⟩
abbrev main_v688 : Ref sig .tc := ⟨.hbm, 762, rfl⟩
abbrev main_v689 : Ref sig .tc := ⟨.hbm, 763, rfl⟩
abbrev main_v690 : Ref sig .tc := ⟨.hbm, 764, rfl⟩
abbrev main_v691 : Ref sig .tc := ⟨.hbm, 765, rfl⟩
abbrev main_v692 : Ref sig .tc := ⟨.hbm, 766, rfl⟩
abbrev main_v693 : Ref sig .tc := ⟨.hbm, 767, rfl⟩
abbrev main_v694 : Ref sig .tc := ⟨.hbm, 768, rfl⟩
abbrev main_v695 : Ref sig .tc := ⟨.hbm, 769, rfl⟩
abbrev main_v696 : Ref sig .tc := ⟨.hbm, 770, rfl⟩
abbrev main_v697 : Ref sig .tc := ⟨.hbm, 771, rfl⟩
abbrev main_v698 : Ref sig .tc := ⟨.hbm, 772, rfl⟩
abbrev main_v699 : Ref sig .tc := ⟨.hbm, 773, rfl⟩
abbrev main_v700 : Ref sig .tc := ⟨.hbm, 774, rfl⟩
abbrev main_v701 : Ref sig .tc := ⟨.hbm, 775, rfl⟩
abbrev main_v702 : Ref sig .tc := ⟨.hbm, 776, rfl⟩
abbrev main_c_27 : Ref sig .tc := ⟨.hbm, 777, rfl⟩
abbrev main_call14_v0 : Ref sig .tc := ⟨.hbm, 778, rfl⟩
abbrev main_v703 : Ref sig .tc := ⟨.hbm, 779, rfl⟩
abbrev main_v704 : Ref sig .tc := ⟨.hbm, 780, rfl⟩
abbrev main_v705 : Ref sig .tc := ⟨.hbm, 781, rfl⟩
abbrev main_cst_28 : Ref sig .tc := ⟨.hbm, 782, rfl⟩
abbrev main_v706 : Ref sig .tc := ⟨.hbm, 783, rfl⟩
abbrev main_v707 : Ref sig .tc := ⟨.hbm, 784, rfl⟩
abbrev main_v708 : Ref sig .tc := ⟨.hbm, 785, rfl⟩
abbrev main_v709 : Ref sig .tc := ⟨.hbm, 786, rfl⟩
abbrev main_v710 : Ref sig .tc := ⟨.hbm, 787, rfl⟩
abbrev main_v711 : Ref sig .tc := ⟨.hbm, 788, rfl⟩
abbrev main_v712 : Ref sig .tc := ⟨.hbm, 789, rfl⟩
abbrev main_v713 : Ref sig .tc := ⟨.hbm, 790, rfl⟩
abbrev main_v714 : Ref sig .tc := ⟨.hbm, 791, rfl⟩
abbrev main_v715 : Ref sig .tc := ⟨.hbm, 792, rfl⟩
abbrev main_v716 : Ref sig .tc := ⟨.hbm, 793, rfl⟩
abbrev main_v717 : Ref sig .tc := ⟨.hbm, 794, rfl⟩
abbrev main_v718 : Ref sig .tc := ⟨.hbm, 795, rfl⟩
abbrev main_v719 : Ref sig .tc := ⟨.hbm, 796, rfl⟩
abbrev main_v720 : Ref sig .tc := ⟨.hbm, 797, rfl⟩
abbrev main_v721 : Ref sig .tc := ⟨.hbm, 798, rfl⟩
abbrev main_v722 : Ref sig .tc := ⟨.hbm, 799, rfl⟩
abbrev main_v723 : Ref sig .tc := ⟨.hbm, 800, rfl⟩
abbrev main_v724 : Ref sig .tc := ⟨.hbm, 801, rfl⟩
abbrev main_v725 : Ref sig .tc := ⟨.hbm, 802, rfl⟩
abbrev main_v726 : Ref sig .tc := ⟨.hbm, 803, rfl⟩
abbrev main_v727 : Ref sig .tc := ⟨.hbm, 804, rfl⟩
abbrev main_v728 : Ref sig .tc := ⟨.hbm, 805, rfl⟩
abbrev main_v729 : Ref sig .tc := ⟨.hbm, 806, rfl⟩
abbrev main_v730 : Ref sig .tc := ⟨.hbm, 807, rfl⟩
abbrev main_v731 : Ref sig .tc := ⟨.hbm, 808, rfl⟩
abbrev main_v732 : Ref sig .tc := ⟨.hbm, 809, rfl⟩
abbrev main_v733 : Ref sig .tc := ⟨.hbm, 810, rfl⟩
abbrev main_v734 : Ref sig .tc := ⟨.hbm, 811, rfl⟩
abbrev main_v735 : Ref sig .tc := ⟨.hbm, 812, rfl⟩
abbrev main_call15_cst : Ref sig .tc := ⟨.hbm, 813, rfl⟩
abbrev main_call15_v0 : Ref sig .tc := ⟨.hbm, 814, rfl⟩
abbrev main_v736 : Ref sig .tc := ⟨.hbm, 815, rfl⟩
abbrev main_v737 : Ref sig .tc := ⟨.hbm, 816, rfl⟩
abbrev main_v738 : Ref sig .tc := ⟨.hbm, 817, rfl⟩
abbrev main_c_29 : Ref sig .tc := ⟨.hbm, 818, rfl⟩
abbrev main_call16_v0 : Ref sig .tc := ⟨.hbm, 819, rfl⟩
abbrev main_v739 : Ref sig .tc := ⟨.hbm, 820, rfl⟩
abbrev main_v740 : Ref sig .tc := ⟨.hbm, 821, rfl⟩
abbrev main_v741 : Ref sig .tc := ⟨.hbm, 822, rfl⟩
abbrev main_cst_30 : Ref sig .tc := ⟨.hbm, 823, rfl⟩
abbrev main_v742 : Ref sig .tc := ⟨.hbm, 824, rfl⟩
abbrev main_v743 : Ref sig .tc := ⟨.hbm, 825, rfl⟩
abbrev main_v744 : Ref sig .tc := ⟨.hbm, 826, rfl⟩
abbrev main_v745 : Ref sig .tc := ⟨.hbm, 827, rfl⟩
abbrev main_v746 : Ref sig .tc := ⟨.hbm, 828, rfl⟩
abbrev main_v747 : Ref sig .tc := ⟨.hbm, 829, rfl⟩
abbrev main_v748 : Ref sig .tc := ⟨.hbm, 830, rfl⟩
abbrev main_v749 : Ref sig .tc := ⟨.hbm, 831, rfl⟩
abbrev main_v750 : Ref sig .tc := ⟨.hbm, 832, rfl⟩
abbrev main_v751 : Ref sig .tc := ⟨.hbm, 833, rfl⟩
abbrev main_v752 : Ref sig .tc := ⟨.hbm, 834, rfl⟩
abbrev main_v753 : Ref sig .tc := ⟨.hbm, 835, rfl⟩
abbrev main_v754 : Ref sig .tc := ⟨.hbm, 836, rfl⟩
abbrev main_v755 : Ref sig .tc := ⟨.hbm, 837, rfl⟩
abbrev main_v756 : Ref sig .tc := ⟨.hbm, 838, rfl⟩
abbrev main_v757 : Ref sig .tc := ⟨.hbm, 839, rfl⟩
abbrev main_v758 : Ref sig .tc := ⟨.hbm, 840, rfl⟩
abbrev main_v759 : Ref sig .tc := ⟨.hbm, 841, rfl⟩
abbrev main_v760 : Ref sig .tc := ⟨.hbm, 842, rfl⟩
abbrev main_v761 : Ref sig .tc := ⟨.hbm, 843, rfl⟩
abbrev main_v762 : Ref sig .tc := ⟨.hbm, 844, rfl⟩
abbrev main_v763 : Ref sig .tc := ⟨.hbm, 845, rfl⟩
abbrev main_v764 : Ref sig .tc := ⟨.hbm, 846, rfl⟩
abbrev main_v765 : Ref sig .tc := ⟨.hbm, 847, rfl⟩
abbrev main_v766 : Ref sig .tc := ⟨.hbm, 848, rfl⟩
abbrev main_v767 : Ref sig .tc := ⟨.hbm, 849, rfl⟩
abbrev main_v768 : Ref sig .tc := ⟨.hbm, 850, rfl⟩
abbrev main_v769 : Ref sig .tc := ⟨.hbm, 851, rfl⟩
abbrev main_v770 : Ref sig .tc := ⟨.hbm, 852, rfl⟩
abbrev main_v771 : Ref sig .tc := ⟨.hbm, 853, rfl⟩
abbrev main_v772 : Ref sig .tc := ⟨.hbm, 854, rfl⟩
abbrev main_v773 : Ref sig .tc := ⟨.hbm, 855, rfl⟩
abbrev main_v774 : Ref sig .tc := ⟨.hbm, 856, rfl⟩
abbrev main_v775 : Ref sig .tc := ⟨.hbm, 857, rfl⟩
abbrev main_v776 : Ref sig .tc := ⟨.hbm, 858, rfl⟩
abbrev main_c_31 : Ref sig .tc := ⟨.hbm, 859, rfl⟩
abbrev main_call17_v0 : Ref sig .tc := ⟨.hbm, 860, rfl⟩
abbrev main_v777 : Ref sig .tc := ⟨.hbm, 861, rfl⟩
abbrev main_v778 : Ref sig .tc := ⟨.hbm, 862, rfl⟩
abbrev main_v779 : Ref sig .tc := ⟨.hbm, 863, rfl⟩
abbrev main_cst_32 : Ref sig .tc := ⟨.hbm, 864, rfl⟩
abbrev main_v780 : Ref sig .tc := ⟨.hbm, 865, rfl⟩
abbrev main_v781 : Ref sig .tc := ⟨.hbm, 866, rfl⟩
abbrev main_v782 : Ref sig .tc := ⟨.hbm, 867, rfl⟩
abbrev main_v783 : Ref sig .tc := ⟨.hbm, 868, rfl⟩
abbrev main_v784 : Ref sig .tc := ⟨.hbm, 869, rfl⟩
abbrev main_v785 : Ref sig .tc := ⟨.hbm, 870, rfl⟩
abbrev main_v786 : Ref sig .tc := ⟨.hbm, 871, rfl⟩
abbrev main_v787 : Ref sig .tc := ⟨.hbm, 872, rfl⟩
abbrev main_v788 : Ref sig .tc := ⟨.hbm, 873, rfl⟩
abbrev main_v789 : Ref sig .tc := ⟨.hbm, 874, rfl⟩
abbrev main_v790 : Ref sig .tc := ⟨.hbm, 875, rfl⟩
abbrev main_v791 : Ref sig .tc := ⟨.hbm, 876, rfl⟩
abbrev main_v792 : Ref sig .tc := ⟨.hbm, 877, rfl⟩
abbrev main_v793 : Ref sig .tc := ⟨.hbm, 878, rfl⟩
abbrev main_v794 : Ref sig .tc := ⟨.hbm, 879, rfl⟩
abbrev main_v795 : Ref sig .tc := ⟨.hbm, 880, rfl⟩
abbrev main_v796 : Ref sig .tc := ⟨.hbm, 881, rfl⟩
abbrev main_v797 : Ref sig .tc := ⟨.hbm, 882, rfl⟩
abbrev main_v798 : Ref sig .tc := ⟨.hbm, 883, rfl⟩
abbrev main_v799 : Ref sig .tc := ⟨.hbm, 884, rfl⟩
abbrev main_v800 : Ref sig .tc := ⟨.hbm, 885, rfl⟩
abbrev main_v801 : Ref sig .tc := ⟨.hbm, 886, rfl⟩
abbrev main_v802 : Ref sig .tc := ⟨.hbm, 887, rfl⟩
abbrev main_v803 : Ref sig .tc := ⟨.hbm, 888, rfl⟩
abbrev main_v804 : Ref sig .tc := ⟨.hbm, 889, rfl⟩
abbrev main_v805 : Ref sig .tc := ⟨.hbm, 890, rfl⟩
abbrev main_v806 : Ref sig .tc := ⟨.hbm, 891, rfl⟩
abbrev main_v807 : Ref sig .tc := ⟨.hbm, 892, rfl⟩
abbrev main_v808 : Ref sig .tc := ⟨.hbm, 893, rfl⟩
abbrev main_v809 : Ref sig .tc := ⟨.hbm, 894, rfl⟩
abbrev main_v810 : Ref sig .tc := ⟨.hbm, 895, rfl⟩
abbrev main_c_33 : Ref sig .tc := ⟨.hbm, 896, rfl⟩
abbrev main_call18_v0 : Ref sig .tc := ⟨.hbm, 897, rfl⟩
abbrev main_v811 : Ref sig .tc := ⟨.hbm, 898, rfl⟩
abbrev main_v812 : Ref sig .tc := ⟨.hbm, 899, rfl⟩
abbrev main_v813 : Ref sig .tc := ⟨.hbm, 900, rfl⟩
abbrev main_cst_34 : Ref sig .tc := ⟨.hbm, 901, rfl⟩
abbrev main_v814 : Ref sig .tc := ⟨.hbm, 902, rfl⟩
abbrev main_v815 : Ref sig .tc := ⟨.hbm, 903, rfl⟩
abbrev main_v816 : Ref sig .tc := ⟨.hbm, 904, rfl⟩
abbrev main_v817 : Ref sig .tc := ⟨.hbm, 905, rfl⟩
abbrev main_v818 : Ref sig .tc := ⟨.hbm, 906, rfl⟩
abbrev main_v819 : Ref sig .tc := ⟨.hbm, 907, rfl⟩
abbrev main_v820 : Ref sig .tc := ⟨.hbm, 908, rfl⟩
abbrev main_v821 : Ref sig .tc := ⟨.hbm, 909, rfl⟩
abbrev main_v822 : Ref sig .tc := ⟨.hbm, 910, rfl⟩
abbrev main_v823 : Ref sig .tc := ⟨.hbm, 911, rfl⟩
abbrev main_v824 : Ref sig .tc := ⟨.hbm, 912, rfl⟩
abbrev main_v825 : Ref sig .tc := ⟨.hbm, 913, rfl⟩
abbrev main_v826 : Ref sig .tc := ⟨.hbm, 914, rfl⟩
abbrev main_v827 : Ref sig .tc := ⟨.hbm, 915, rfl⟩
abbrev main_v828 : Ref sig .tc := ⟨.hbm, 916, rfl⟩
abbrev main_v829 : Ref sig .tc := ⟨.hbm, 917, rfl⟩
abbrev main_v830 : Ref sig .tc := ⟨.hbm, 918, rfl⟩
abbrev main_v831 : Ref sig .tc := ⟨.hbm, 919, rfl⟩
abbrev main_v832 : Ref sig .tc := ⟨.hbm, 920, rfl⟩
abbrev main_v833 : Ref sig .tc := ⟨.hbm, 921, rfl⟩
abbrev main_v834 : Ref sig .tc := ⟨.hbm, 922, rfl⟩
abbrev main_v835 : Ref sig .tc := ⟨.hbm, 923, rfl⟩
abbrev main_v836 : Ref sig .tc := ⟨.hbm, 924, rfl⟩
abbrev main_v837 : Ref sig .tc := ⟨.hbm, 925, rfl⟩
abbrev main_v838 : Ref sig .tc := ⟨.hbm, 926, rfl⟩
abbrev main_v839 : Ref sig .tc := ⟨.hbm, 927, rfl⟩
abbrev main_v840 : Ref sig .tc := ⟨.hbm, 928, rfl⟩
abbrev main_v841 : Ref sig .tc := ⟨.hbm, 929, rfl⟩
abbrev main_v842 : Ref sig .tc := ⟨.hbm, 930, rfl⟩
abbrev main_v843 : Ref sig .tc := ⟨.hbm, 931, rfl⟩
abbrev main_call19_cst : Ref sig .tc := ⟨.hbm, 932, rfl⟩
abbrev main_call19_v0 : Ref sig .tc := ⟨.hbm, 933, rfl⟩
abbrev main_v844 : Ref sig .tc := ⟨.hbm, 934, rfl⟩
abbrev main_v845 : Ref sig .tc := ⟨.hbm, 935, rfl⟩
abbrev main_v846 : Ref sig .tc := ⟨.hbm, 936, rfl⟩
abbrev main_c_35 : Ref sig .tc := ⟨.hbm, 937, rfl⟩
abbrev main_call20_v0 : Ref sig .tc := ⟨.hbm, 938, rfl⟩
abbrev main_v847 : Ref sig .tc := ⟨.hbm, 939, rfl⟩
abbrev main_v848 : Ref sig .tc := ⟨.hbm, 940, rfl⟩
abbrev main_v849 : Ref sig .tc := ⟨.hbm, 941, rfl⟩
abbrev main_cst_36 : Ref sig .tc := ⟨.hbm, 942, rfl⟩
abbrev main_v850 : Ref sig .tc := ⟨.hbm, 943, rfl⟩
abbrev main_v851 : Ref sig .tc := ⟨.hbm, 944, rfl⟩
abbrev main_v852 : Ref sig .tc := ⟨.hbm, 945, rfl⟩
abbrev main_v853 : Ref sig .tc := ⟨.hbm, 946, rfl⟩
abbrev main_v854 : Ref sig .tc := ⟨.hbm, 947, rfl⟩
abbrev main_v855 : Ref sig .tc := ⟨.hbm, 948, rfl⟩
abbrev main_v856 : Ref sig .tc := ⟨.hbm, 949, rfl⟩
abbrev main_v857 : Ref sig .tc := ⟨.hbm, 950, rfl⟩
abbrev main_v858 : Ref sig .tc := ⟨.hbm, 951, rfl⟩
abbrev main_v859 : Ref sig .tc := ⟨.hbm, 952, rfl⟩
abbrev main_v860 : Ref sig .tc := ⟨.hbm, 953, rfl⟩
abbrev main_v861 : Ref sig .tc := ⟨.hbm, 954, rfl⟩
abbrev main_v862 : Ref sig .tc := ⟨.hbm, 955, rfl⟩
abbrev main_v863 : Ref sig .tc := ⟨.hbm, 956, rfl⟩
abbrev main_v864 : Ref sig .tc := ⟨.hbm, 957, rfl⟩
abbrev main_v865 : Ref sig .tc := ⟨.hbm, 958, rfl⟩
abbrev main_v866 : Ref sig .tc := ⟨.hbm, 959, rfl⟩
abbrev main_v867 : Ref sig .tc := ⟨.hbm, 960, rfl⟩
abbrev main_v868 : Ref sig .tc := ⟨.hbm, 961, rfl⟩
abbrev main_v869 : Ref sig .tc := ⟨.hbm, 962, rfl⟩
abbrev main_v870 : Ref sig .tc := ⟨.hbm, 963, rfl⟩
abbrev main_v871 : Ref sig .tc := ⟨.hbm, 964, rfl⟩
abbrev main_v872 : Ref sig .tc := ⟨.hbm, 965, rfl⟩
abbrev main_v873 : Ref sig .tc := ⟨.hbm, 966, rfl⟩
abbrev main_v874 : Ref sig .tc := ⟨.hbm, 967, rfl⟩
abbrev main_v875 : Ref sig .tc := ⟨.hbm, 968, rfl⟩
abbrev main_v876 : Ref sig .tc := ⟨.hbm, 969, rfl⟩
abbrev main_v877 : Ref sig .tc := ⟨.hbm, 970, rfl⟩
abbrev main_v878 : Ref sig .tc := ⟨.hbm, 971, rfl⟩
abbrev main_v879 : Ref sig .tc := ⟨.hbm, 972, rfl⟩
abbrev main_call21_cst : Ref sig .tc := ⟨.hbm, 973, rfl⟩
abbrev main_call21_v0 : Ref sig .tc := ⟨.hbm, 974, rfl⟩
abbrev main_v880 : Ref sig .tc := ⟨.hbm, 975, rfl⟩
abbrev main_v881 : Ref sig .tc := ⟨.hbm, 976, rfl⟩
abbrev main_v882 : Ref sig .tc := ⟨.hbm, 977, rfl⟩
abbrev main_c_37 : Ref sig .tc := ⟨.hbm, 978, rfl⟩
abbrev main_call22_v0 : Ref sig .tc := ⟨.hbm, 979, rfl⟩
abbrev main_v883 : Ref sig .tc := ⟨.hbm, 980, rfl⟩
abbrev main_v884 : Ref sig .tc := ⟨.hbm, 981, rfl⟩
abbrev main_v885 : Ref sig .tc := ⟨.hbm, 982, rfl⟩
abbrev main_cst_38 : Ref sig .tc := ⟨.hbm, 983, rfl⟩
abbrev main_v886 : Ref sig .tc := ⟨.hbm, 984, rfl⟩
abbrev main_v887 : Ref sig .tc := ⟨.hbm, 985, rfl⟩
abbrev main_v888 : Ref sig .tc := ⟨.hbm, 986, rfl⟩
abbrev main_v889 : Ref sig .tc := ⟨.hbm, 987, rfl⟩
abbrev main_v890 : Ref sig .tc := ⟨.hbm, 988, rfl⟩
abbrev main_v891 : Ref sig .tc := ⟨.hbm, 989, rfl⟩
abbrev main_v892 : Ref sig .tc := ⟨.hbm, 990, rfl⟩
abbrev main_v893 : Ref sig .tc := ⟨.hbm, 991, rfl⟩
abbrev main_v894 : Ref sig .tc := ⟨.hbm, 992, rfl⟩
abbrev main_v895 : Ref sig .tc := ⟨.hbm, 993, rfl⟩
abbrev main_v896 : Ref sig .tc := ⟨.hbm, 994, rfl⟩
abbrev main_v897 : Ref sig .tc := ⟨.hbm, 995, rfl⟩
abbrev main_v898 : Ref sig .tc := ⟨.hbm, 996, rfl⟩
abbrev main_v899 : Ref sig .tc := ⟨.hbm, 997, rfl⟩
abbrev main_v900 : Ref sig .tc := ⟨.hbm, 998, rfl⟩
abbrev main_v901 : Ref sig .tc := ⟨.hbm, 999, rfl⟩
abbrev main_v902 : Ref sig .tc := ⟨.hbm, 1000, rfl⟩
abbrev main_v903 : Ref sig .tc := ⟨.hbm, 1001, rfl⟩
abbrev main_v904 : Ref sig .tc := ⟨.hbm, 1002, rfl⟩
abbrev main_v905 : Ref sig .tc := ⟨.hbm, 1003, rfl⟩
abbrev main_v906 : Ref sig .tc := ⟨.hbm, 1004, rfl⟩
abbrev main_v907 : Ref sig .tc := ⟨.hbm, 1005, rfl⟩
abbrev main_v908 : Ref sig .tc := ⟨.hbm, 1006, rfl⟩
abbrev main_v909 : Ref sig .tc := ⟨.hbm, 1007, rfl⟩
abbrev main_v910 : Ref sig .tc := ⟨.hbm, 1008, rfl⟩
abbrev main_v911 : Ref sig .tc := ⟨.hbm, 1009, rfl⟩
abbrev main_v912 : Ref sig .tc := ⟨.hbm, 1010, rfl⟩
abbrev main_v913 : Ref sig .tc := ⟨.hbm, 1011, rfl⟩
abbrev main_v914 : Ref sig .tc := ⟨.hbm, 1012, rfl⟩
abbrev main_v915 : Ref sig .tc := ⟨.hbm, 1013, rfl⟩
abbrev main_call23_cst : Ref sig .tc := ⟨.hbm, 1014, rfl⟩
abbrev main_call23_v0 : Ref sig .tc := ⟨.hbm, 1015, rfl⟩
abbrev main_v916 : Ref sig .tc := ⟨.hbm, 1016, rfl⟩
abbrev main_v917 : Ref sig .tc := ⟨.hbm, 1017, rfl⟩
abbrev main_v918 : Ref sig .tc := ⟨.hbm, 1018, rfl⟩
abbrev main_c_39 : Ref sig .tc := ⟨.hbm, 1019, rfl⟩
abbrev main_call24_v0 : Ref sig .tc := ⟨.hbm, 1020, rfl⟩
abbrev main_v919 : Ref sig .tc := ⟨.hbm, 1021, rfl⟩
abbrev main_v920 : Ref sig .tc := ⟨.hbm, 1022, rfl⟩
abbrev main_v921 : Ref sig .tc := ⟨.hbm, 1023, rfl⟩
abbrev main_cst_40 : Ref sig .tc := ⟨.hbm, 1024, rfl⟩
abbrev main_v922 : Ref sig .tc := ⟨.hbm, 1025, rfl⟩
abbrev main_v923 : Ref sig .tc := ⟨.hbm, 1026, rfl⟩
abbrev main_v924 : Ref sig .tc := ⟨.hbm, 1027, rfl⟩
abbrev main_v925 : Ref sig .tc := ⟨.hbm, 1028, rfl⟩
abbrev main_v926 : Ref sig .tc := ⟨.hbm, 1029, rfl⟩
abbrev main_v927 : Ref sig .tc := ⟨.hbm, 1030, rfl⟩
abbrev main_v928 : Ref sig .tc := ⟨.hbm, 1031, rfl⟩
abbrev main_v929 : Ref sig .tc := ⟨.hbm, 1032, rfl⟩
abbrev main_v930 : Ref sig .tc := ⟨.hbm, 1033, rfl⟩
abbrev main_v931 : Ref sig .tc := ⟨.hbm, 1034, rfl⟩
abbrev main_v932 : Ref sig .tc := ⟨.hbm, 1035, rfl⟩
abbrev main_v933 : Ref sig .tc := ⟨.hbm, 1036, rfl⟩
abbrev main_v934 : Ref sig .tc := ⟨.hbm, 1037, rfl⟩
abbrev main_v935 : Ref sig .tc := ⟨.hbm, 1038, rfl⟩
abbrev main_v936 : Ref sig .tc := ⟨.hbm, 1039, rfl⟩
abbrev main_v937 : Ref sig .tc := ⟨.hbm, 1040, rfl⟩
abbrev main_v938 : Ref sig .tc := ⟨.hbm, 1041, rfl⟩
abbrev main_v939 : Ref sig .tc := ⟨.hbm, 1042, rfl⟩
abbrev main_v940 : Ref sig .tc := ⟨.hbm, 1043, rfl⟩
abbrev main_v941 : Ref sig .tc := ⟨.hbm, 1044, rfl⟩
abbrev main_v942 : Ref sig .tc := ⟨.hbm, 1045, rfl⟩
abbrev main_v943 : Ref sig .tc := ⟨.hbm, 1046, rfl⟩
abbrev main_v944 : Ref sig .tc := ⟨.hbm, 1047, rfl⟩
abbrev main_v945 : Ref sig .tc := ⟨.hbm, 1048, rfl⟩
abbrev main_v946 : Ref sig .tc := ⟨.hbm, 1049, rfl⟩
abbrev main_v947 : Ref sig .tc := ⟨.hbm, 1050, rfl⟩
abbrev main_v948 : Ref sig .tc := ⟨.hbm, 1051, rfl⟩
abbrev main_v949 : Ref sig .tc := ⟨.hbm, 1052, rfl⟩
abbrev main_v950 : Ref sig .tc := ⟨.hbm, 1053, rfl⟩
abbrev main_v951 : Ref sig .tc := ⟨.hbm, 1054, rfl⟩
abbrev main_call25_cst : Ref sig .tc := ⟨.hbm, 1055, rfl⟩
abbrev main_call25_v0 : Ref sig .tc := ⟨.hbm, 1056, rfl⟩
abbrev main_v952 : Ref sig .tc := ⟨.hbm, 1057, rfl⟩
abbrev main_c_41 : Ref sig .tc := ⟨.hbm, 1058, rfl⟩
abbrev main_call26_v0 : Ref sig .tc := ⟨.hbm, 1059, rfl⟩
abbrev main_v953 : Ref sig .tc := ⟨.hbm, 1060, rfl⟩
abbrev main_v954 : Ref sig .tc := ⟨.hbm, 1061, rfl⟩
abbrev main_v955 : Ref sig .tc := ⟨.hbm, 1062, rfl⟩
abbrev main_cst_42 : Ref sig .tc := ⟨.hbm, 1063, rfl⟩
abbrev main_v956 : Ref sig .tc := ⟨.hbm, 1064, rfl⟩
abbrev main_v957 : Ref sig .tc := ⟨.hbm, 1065, rfl⟩
abbrev main_v958 : Ref sig .tc := ⟨.hbm, 1066, rfl⟩
abbrev main_v959 : Ref sig .tc := ⟨.hbm, 1067, rfl⟩
abbrev main_v960 : Ref sig .tc := ⟨.hbm, 1068, rfl⟩
abbrev main_v961 : Ref sig .tc := ⟨.hbm, 1069, rfl⟩
abbrev main_v962 : Ref sig .tc := ⟨.hbm, 1070, rfl⟩
abbrev main_v963 : Ref sig .tc := ⟨.hbm, 1071, rfl⟩
abbrev main_v964 : Ref sig .tc := ⟨.hbm, 1072, rfl⟩
abbrev main_v965 : Ref sig .tc := ⟨.hbm, 1073, rfl⟩
abbrev main_v966 : Ref sig .tc := ⟨.hbm, 1074, rfl⟩
abbrev main_v967 : Ref sig .tc := ⟨.hbm, 1075, rfl⟩
abbrev main_v968 : Ref sig .tc := ⟨.hbm, 1076, rfl⟩
abbrev main_v969 : Ref sig .tc := ⟨.hbm, 1077, rfl⟩
abbrev main_v970 : Ref sig .tc := ⟨.hbm, 1078, rfl⟩
abbrev main_v971 : Ref sig .tc := ⟨.hbm, 1079, rfl⟩
abbrev main_v972 : Ref sig .tc := ⟨.hbm, 1080, rfl⟩
abbrev main_v973 : Ref sig .tc := ⟨.hbm, 1081, rfl⟩
abbrev main_v974 : Ref sig .tc := ⟨.hbm, 1082, rfl⟩
abbrev main_v975 : Ref sig .tc := ⟨.hbm, 1083, rfl⟩
abbrev main_v976 : Ref sig .tc := ⟨.hbm, 1084, rfl⟩
abbrev main_v977 : Ref sig .tc := ⟨.hbm, 1085, rfl⟩
abbrev main_v978 : Ref sig .tc := ⟨.hbm, 1086, rfl⟩
abbrev main_v979 : Ref sig .tc := ⟨.hbm, 1087, rfl⟩
abbrev main_v980 : Ref sig .tc := ⟨.hbm, 1088, rfl⟩
abbrev main_v981 : Ref sig .tc := ⟨.hbm, 1089, rfl⟩
abbrev main_v982 : Ref sig .tc := ⟨.hbm, 1090, rfl⟩
abbrev main_v983 : Ref sig .tc := ⟨.hbm, 1091, rfl⟩
abbrev main_v984 : Ref sig .tc := ⟨.hbm, 1092, rfl⟩
abbrev main_v985 : Ref sig .tc := ⟨.hbm, 1093, rfl⟩

abbrev nD : Nat := 1
abbrev τ : Topo := Topo.v7x

variable {F : FTy → Type} [FloatOps F]
-- ==== Proof.Spec.lean ====
module

public import Idealize.ShloMosaic.Lib.Pointwise

/-! The nine-tap sum of a 3×3 convolution at one output position, over the extended reals, and its input read from an
    image or from overlapping tiles of one. -/

@[expose] public section

noncomputable section

namespace Conv

open Idealize.ShloMosaic

/-- The nine taps at one output position: `f dy dx c` the input under tap `(dy, dx)` in channel `c`, `W` the weights. -/
def taps {C : ℕ} (f W : Fin 3 → Fin 3 → Fin C → EReal) : EReal := ∑ dy, ∑ dx, ∑ c, f dy dx c * W dy dx c

/-- The nine taps written out, added from the left. -/
theorem taps_nine {C : ℕ} (f W : Fin 3 → Fin 3 → Fin C → EReal) : taps f W =
    ∑ c, f 0 0 c * W 0 0 c + ∑ c, f 0 1 c * W 0 1 c + ∑ c, f 0 2 c * W 0 2 c
      + ∑ c, f 1 0 c * W 1 0 c + ∑ c, f 1 1 c * W 1 1 c + ∑ c, f 1 2 c * W 1 2 c
      + ∑ c, f 2 0 c * W 2 0 c + ∑ c, f 2 1 c * W 2 1 c + ∑ c, f 2 2 c * W 2 2 c := by
  simp only [taps, Fin.sum_univ_three, add_assoc]

/-- The input under the taps at row `r` and column `w` of one overlapping tile. -/
def tile {C : ℕ} (x : (⟨5, ![1, 1, 30, 226, C]⟩ : Shape).Idx → EReal) (r : Fin 28) (w : Fin 224) :
    Fin 3 → Fin 3 → Fin C → EReal :=
  fun dy dx c => x (ix5 0 0 ⟨dy + r, by omega⟩ ⟨dx + w, by omega⟩ c)

/-- The input under the taps at `(h, w)` of image `b`, read from the array of eight overlapping tiles of 28 rows. -/
def tileAt {C : ℕ} (xo : (⟨5, ![2, 8, 30, 226, C]⟩ : Shape).Idx → EReal) (b : Fin 2) (h w : Fin 224) :
    Fin 3 → Fin 3 → Fin C → EReal :=
  fun dy dx c => xo (ix5 b ⟨h / 28, by omega⟩ ⟨dy + h % 28, by omega⟩ ⟨dx + w, by omega⟩ c)

/-- Row `r` of tile `t` is row `28 t + r` of the image. -/
theorem tileAt_row {C : ℕ} (xo : (⟨5, ![2, 8, 30, 226, C]⟩ : Shape).Idx → EReal) (b : Fin 2) (t : Fin 8) (r : Fin 28)
    (w : Fin 224) : tileAt xo b ⟨t * 28 + r, by omega⟩ w
      = fun (dy dx : Fin 3) c => xo (ix5 b t ⟨dy + r, by omega⟩ ⟨dx + w, by omega⟩ c) := by
  funext dy dx c
  unfold tileAt
  congr 2
  · exact Fin.ext (by show (t.val * 28 + r.val) / 28 = t.val; omega)
  · exact Fin.ext (by show dy.val + (t.val * 28 + r.val) % 28 = dy.val + r.val; omega)

end Conv
end
-- ==== Proof.Img.lean ====
module

public import proofs.«01_k».proof.Proof.Spec

/-! Images as functions of image number, line, column and channel, and the 3×3 convolution of one, over the extended
    reals. -/

@[expose] public section

noncomputable section

namespace Conv

open Idealize.ShloMosaic

/-- Two images of 224 lines and columns with `C` channels. -/
abbrev Img (C : ℕ) := Fin 2 → Fin 224 → Fin 224 → Fin C → EReal

/-- The weights of a 3×3 convolution. -/
abbrev Wts (C O : ℕ) := Fin 3 → Fin 3 → Fin C → Fin O → EReal

/-- The input under the taps at `(h, w)`: zero outside the image. -/
def win {C : ℕ} (x : Img C) (b : Fin 2) (h w : Fin 224) : Fin 3 → Fin 3 → Fin C → EReal := fun dy dx c =>
  if hh : (1 ≤ dy.val + h.val ∧ dy.val + h.val - 1 < 224) ∧ 1 ≤ dx.val + w.val ∧ dx.val + w.val - 1 < 224 then
    x b ⟨dy.val + h.val - 1, hh.1.2⟩ ⟨dx.val + w.val - 1, hh.2.2⟩ c else 0

/-- The 3×3 convolution of an image, with a bias per channel. -/
def conv {C O : ℕ} (x : Img C) (W : Wts C O) (B : Fin O → EReal) : Img O := fun b h w o =>
  taps (win x b h w) (fun dy dx c => W dy dx c o) + B o

/-- Negative values to zero. -/
def relu {C : ℕ} (x : Img C) : Img C := fun b h w c => max (x b h w c) 0

/-- An array with the channels last, as an image. -/
def im {C : ℕ} (x : (⟨4, ![2, 224, 224, C]⟩ : Shape).Idx → EReal) : Img C := fun b h w c => x (ix4 b h w c)

/-- An array with the channels before the lines, as an image. -/
def imc {C : ℕ} (x : (⟨4, ![2, C, 224, 224]⟩ : Shape).Idx → EReal) : Img C := fun b h w c => x (ix4 b c h w)

/-- Weights stored by output channel, input channel, line and column. -/
def oihw {C O : ℕ} (w : (⟨4, ![O, C, 3, 3]⟩ : Shape).Idx → EReal) : Wts C O := fun dy dx c o => w (ix4 o c dy dx)

/-- Member `e` of a stack of weights stored by output channel, input channel, line and column. -/
def oihwOf {E C O : ℕ} (w : (⟨5, ![E, O, C, 3, 3]⟩ : Shape).Idx → EReal) (e : Fin E) : Wts C O :=
  fun dy dx c o => w (ix5 e o c dy dx)

/-- A bias vector. -/
def vec {O : ℕ} (b : (⟨1, ![O]⟩ : Shape).Idx → EReal) : Fin O → EReal := fun o => b (ix1 o)

/-- Member `e` of a stack of bias vectors. -/
def vecOf {E O : ℕ} (b : (⟨2, ![E, O]⟩ : Shape).Idx → EReal) (e : Fin E) : Fin O → EReal := fun o => b (ix2 e o)

end Conv
end
-- ==== Proof.Rout.lean ====
module

public import proofs.«01_k».proof.Proof.Img
public import Idealize.ShloMosaic.Lib.SortFacts
public import Idealize.ShloMosaic.Lib.ValueIdxCore

/-! The two greatest of three logits, and the rows of a table they name. -/

@[expose] public section

set_option maxRecDepth 16384

noncomputable section

namespace Conv

open Idealize.ShloMosaic

abbrev T23 : Shape := ⟨2, ![2, 3]⟩
abbrev T22 : Shape := ⟨2, ![2, 2]⟩

/-- In each row the two greatest of three elements stand at two different places, and those places are what
    the indices say. -/
theorem two_of_three {α : Type} (gt : α → α → BitVec 1) (x : T23.Idx → α) (h : T23.Slices (fun _ => 0) T22) :
    ∃ σ : Fin 2 → Fin 2 → Fin 3, (∀ b, Function.Injective (σ b))
      ∧ (∀ b k, (Host.topK T22 1 gt x h).1 (ix2 b k) = x (ix2 b (σ b k)))
      ∧ (∀ b k, (Host.topK T22 1 gt x h).2 (ix2 b k) = BitVec.ofNat 32 (σ b k).val) := by
  let πb (b : Fin 2) (i : Fin 3) : Fin 3 :=
    sortedFrom (n := 3) (fun k k' => gt (x (ix2 b k)) (x (ix2 b k')) == 1#1) i
  have al : ∀ (b : Fin 2) (i k : Fin 3), (ix2 b i : T23.Idx).along 1 k = ix2 b k := by
    intro b i k
    funext a
    match a with
    | ⟨0, _⟩ => rfl
    | ⟨1, _⟩ => rfl
  have sl : ∀ {β : Type} (y : T23.Idx → β) (b k : Fin 2),
      extractStridedSlice T22 (fun _ => 0) y h (ix2 b k) = y (ix2 b ⟨k.val, by omega⟩) := by
    intro β y b k
    simp only [extractStridedSlice]
    congr 1
    funext a
    match a with
    | ⟨0, _⟩ => exact Fin.ext (Nat.zero_add _)
    | ⟨1, _⟩ => exact Fin.ext (Nat.zero_add _)
  have hπ : ∀ (b : Fin 2) (i : Fin 3),
      sortedFrom (n := 3) (fun k k' => gt (x ((ix2 b i : T23.Idx).along 1 k)) (x ((ix2 b i : T23.Idx).along 1 k')) == 1#1) i = πb b i := by
    intro b i
    simp only [al, πb]
  refine ⟨fun b k => πb b ⟨k.val, by omega⟩, fun b k k' e => ?_, fun b k => ?_, fun b k => ?_⟩
  · have := sortedFrom_injective _ e
    exact Fin.ext (Fin.mk.inj this)
  · unfold Host.topK Host.sort2
    simp only [show 1 < T23.rank from by decide, ↓reduceDIte]
    refine (sl _ b k).trans ?_
    exact congrArg x ((al b _ _).trans (congrArg (ix2 b) (hπ b ⟨k.val, by omega⟩)))
  · unfold Host.topK Host.sort2
    simp only [show 1 < T23.rank from by decide, ↓reduceDIte]
    refine (sl _ b k).trans ?_
    exact congrArg (fun q : Fin 3 => BitVec.ofNat 32 q.val) (hπ b ⟨k.val, by omega⟩)

/-- The bound under every number. -/
abbrev low : EReal := Ideal.ofBits .f32 4286578688#32

/-- The weights of a pair of logits: their exponentials over the sum of both, the greater taken away first. -/
def prob (u : Fin 2 → EReal) (k : Fin 2) : EReal :=
  Ideal.div (Ideal.exp (u k - max low (Finset.fold max low u Finset.univ)))
    (∑ x, Ideal.exp (u x - max low (Finset.fold max low u Finset.univ)))

/-- The logits: the mean of the latent draw through a linear layer, given the sums over the image. -/
def logit (S : Fin 2 → Fin 64 → EReal) (G : Fin 64 → Fin 3 → EReal) (g : Fin 3 → EReal) : T23.Idx → EReal :=
  fun j => ∑ c, Ideal.div (S (j 0) c) (Ideal.ofBits .f32 1195638784#32) * G c (j 1) + g (j 1)

theorem fits : T23.Slices (fun _ => 0) T22 := by decide

/-- The two experts each image is sent to. -/
def pick (x : T23.Idx → EReal) : Fin 2 → Fin 2 → Fin 3 :=
  Classical.choose (two_of_three (FloatOps.cmpfTotal (F := Ideal) (φ := .f32) .gt) x fits)

theorem pick_inj (x : T23.Idx → EReal) (b : Fin 2) : Function.Injective (pick x b) :=
  (Classical.choose_spec (two_of_three (FloatOps.cmpfTotal (F := Ideal) (φ := .f32) .gt) x fits)).1 b

theorem pick_val (x : T23.Idx → EReal) (h : T23.Slices (fun _ => 0) T22) (b k : Fin 2) :
    (Host.topK T22 1 (FloatOps.cmpfTotal (F := Ideal) (φ := .f32) .gt) x h).1 (ix2 b k) = x (ix2 b (pick x b k)) :=
  (Classical.choose_spec (two_of_three (FloatOps.cmpfTotal (F := Ideal) (φ := .f32) .gt) x fits)).2.1 b k

theorem pick_idx (x : T23.Idx → EReal) (h : T23.Slices (fun _ => 0) T22) (b k : Fin 2) :
    (Host.topK T22 1 (FloatOps.cmpfTotal (F := Ideal) (φ := .f32) .gt) x h).2 (ix2 b k) = BitVec.ofNat 32 (pick x b k).val :=
  (Classical.choose_spec (two_of_three (FloatOps.cmpfTotal (F := Ideal) (φ := .f32) .gt) x fits)).2.2 b k

/-- The weights of the two experts of each image. -/
def gate (x : T23.Idx → EReal) (b : Fin 2) (k : Fin 2) : EReal := prob (fun k => x (ix2 b (pick x b k))) k

end Conv
-- ==== Proof.Net.lean ====
module

public import proofs.«01_k».proof.Proof.Rout

/-! The denoiser on images: encoder, latent draw, two experts out of three for each image, and the refinement of
    the image less its noise. The experts are mixed in two ways: the chosen two side by side as one wide
    layer, or all three weighted, the weight of the one not chosen being zero. -/

@[expose] public section

noncomputable section

namespace Conv

open Idealize.ShloMosaic

/-- Images, noise, weights and biases. -/
structure Net where
  img : Img 1
  eps : Img 64
  w2 : Wts 1 64
  b3 : Fin 64 → EReal
  w4 : Fin 2 → Wts 64 64
  b5 : Fin 2 → Fin 64 → EReal
  w6 : Wts 64 64
  b7 : Fin 64 → EReal
  w8 : Wts 64 64
  b9 : Fin 64 → EReal
  w10 : Fin 64 → Fin 3 → EReal
  b11 : Fin 3 → EReal
  w12 : Fin 3 → Wts 64 64
  b13 : Fin 3 → Fin 64 → EReal
  w14 : Fin 3 → Wts 64 64
  b15 : Fin 3 → Fin 64 → EReal
  w16 : Wts 64 1
  b17 : Fin 1 → EReal
  w18 : Wts 1 64
  b19 : Fin 64 → EReal
  w20 : Fin 3 → Wts 64 64
  b21 : Fin 3 → Fin 64 → EReal
  w22 : Wts 64 1
  b23 : Fin 1 → EReal

namespace Net

variable (N : Net)

/-- The encoder's features. -/
def feat : Img 64 :=
  relu (conv (relu (conv (relu (conv N.img N.w2 N.b3)) (N.w4 0) (N.b5 0))) (N.w4 1) (N.b5 1))

/-- The latent mean. -/
def mean : Img 64 := conv N.feat N.w6 N.b7

/-- The logarithm of the latent variance. -/
def logvar : Img 64 := conv N.feat N.w8 N.b9

/-- The latent variance. -/
def variance : Img 64 := fun b h w o => Ideal.exp (N.logvar b h w o)

/-- The latent draw, its deviation the exponential of half the logarithm of the variance. -/
def drawHalf : Img 64 := fun b h w o =>
  N.mean b h w o + Ideal.exp (Ideal.ofBits .f32 1056964608#32 * N.logvar b h w o) * N.eps b h w o

/-- The latent draw, its deviation the root of the variance. -/
def drawRoot : Img 64 := fun b h w o =>
  N.mean b h w o + Ideal.ofBits .f32 1065353216#32 * Ideal.sqrt (N.variance b h w o) * N.eps b h w o

/-- The logits of a latent draw. -/
def logits (z : Img 64) : T23.Idx → EReal := logit (fun b c => ∑ h, ∑ w, z b h w c) N.w10 N.b11

/-- The first layers of an image's two experts, side by side. -/
def wide (z : Img 64) (x : T23.Idx → EReal) : Img 128 := fun b h w o =>
  max (taps (win z b h w) (fun dy dx i => N.w12 (pick x b ⟨o.val / 64, by omega⟩) dy dx i ⟨o.val % 64, by omega⟩)
    + N.b13 (pick x b ⟨o.val / 64, by omega⟩) ⟨o.val % 64, by omega⟩) 0

/-- The second layers of an image's two experts as one layer over both first layers. -/
def mixWide (z : Img 64) (x : T23.Idx → EReal) : Img 64 := fun b h w o =>
  taps (win (N.wide z x) b h w)
      (fun dy dx i => N.w14 (pick x b ⟨i.val / 64, by omega⟩) dy dx ⟨i.val % 64, by omega⟩ o * gate x b ⟨i.val / 64, by omega⟩)
    + ∑ k : Fin 2, gate x b k * N.b15 (pick x b k) o

/-- One expert. -/
def expert (z : Img 64) (e : Fin 3) : Img 64 := conv (relu (conv z (N.w12 e) (N.b13 e))) (N.w14 e) (N.b15 e)

/-- The weight of each of the three experts: zero for the one not chosen. -/
def gates (x : T23.Idx → EReal) (b : Fin 2) (e : Fin 3) : EReal :=
  if e = pick x b 0 then gate x b 0 else if e = pick x b 1 then gate x b 1 else 0

/-- All three experts, weighted. -/
def mixAll (z : Img 64) (x : T23.Idx → EReal) : Img 64 := fun b h w o =>
  ∑ e : Fin 3, gates x b e * N.expert z e b h w o

/-- The noise estimate. -/
def noise (y : Img 64) : Img 1 := conv y N.w16 N.b17

/-- The image less its noise. -/
def clean (y : Img 64) : Img 1 := fun b h w o => N.img b h w o - N.noise y b h w o

/-- The refined image. -/
def refine (y : Img 64) : Img 1 :=
  conv (relu (conv (relu (conv (relu (conv (relu (conv (N.clean y) N.w18 N.b19)) (N.w20 0) (N.b21 0))) (N.w20 1) (N.b21 1)))
    (N.w20 2) (N.b21 2))) N.w22 N.b23

end Net

end Conv
end
-- ==== Proof.Mix.lean ====
module

public import proofs.«01_k».proof.Proof.Net
public import Idealize.ShloMosaic.Lib.IdealHost

/-! The two ways of mixing the experts agree when the logits are real numbers, and so do the two ways of taking the
    deviation. -/

@[expose] public section

noncomputable section

namespace Conv

open Idealize.ShloMosaic

/-- A real number. -/
def Rl (x : EReal) : Prop := ∃ r : ℝ, x = (r : EReal)

theorem Rl.zero : Rl 0 := ⟨0, EReal.coe_zero.symm⟩

theorem Rl.add {x y : EReal} (hx : Rl x) (hy : Rl y) : Rl (x + y) := by
  obtain ⟨a, rfl⟩ := hx
  obtain ⟨b, rfl⟩ := hy
  exact ⟨a + b, (EReal.coe_add a b).symm⟩

theorem Rl.mul {x y : EReal} (hx : Rl x) (hy : Rl y) : Rl (x * y) := by
  obtain ⟨a, rfl⟩ := hx
  obtain ⟨b, rfl⟩ := hy
  exact ⟨a * b, (EReal.coe_mul a b).symm⟩

theorem Rl.max {x y : EReal} (hx : Rl x) (hy : Rl y) : Rl (max x y) := by
  rcases max_choice x y with h | h <;> rw [h] <;> assumption

theorem Rl.sum {ι : Type} (s : Finset ι) (f : ι → EReal) (h : ∀ i, Rl (f i)) : Rl (∑ i ∈ s, f i) := by
  classical
  induction s using Finset.induction_on with
  | empty => simpa using Rl.zero
  | insert a s ha ih => rw [Finset.sum_insert ha]; exact (h a).add ih

theorem Rl.sub {x y : EReal} (hx : Rl x) (hy : Rl y) : Rl (x - y) := by
  obtain ⟨a, rfl⟩ := hx
  obtain ⟨b, rfl⟩ := hy
  exact ⟨a - b, (EReal.coe_sub a b).symm⟩

/-- An image of real numbers. -/
def RlI {C : ℕ} (x : Img C) : Prop := ∀ b h w o, Rl (x b h w o)

theorem RlI.win {C : ℕ} {x : Img C} (hx : RlI x) (b : Fin 2) (h w : Fin 224) (dy dx : Fin 3) (c : Fin C) : Rl (win x b h w dy dx c) := by
  unfold Conv.win
  split
  · exact hx _ _ _ _
  · exact Rl.zero

theorem RlI.conv {C O : ℕ} {x : Img C} (hx : RlI x) {W : Wts C O} (hW : ∀ dy dx c o, Rl (W dy dx c o)) {B : Fin O → EReal}
    (hB : ∀ o, Rl (B o)) : RlI (conv x W B) := fun b h w o =>
  Rl.add (Rl.sum _ _ fun _ => Rl.sum _ _ fun _ => Rl.sum _ _ fun _ => (hx.win b h w _ _ _).mul (hW _ _ _ _)) (hB o)

theorem RlI.relu {C : ℕ} {x : Img C} (hx : RlI x) : RlI (relu x) := fun b h w o => (hx b h w o).max Rl.zero

theorem one_f32 : Ideal.ofBits .f32 1065353216#32 = 1 := Ideal.ofBits_one_f32

theorem half_f32 : Ideal.ofBits .f32 1056964608#32 = (((1 : ℝ) / 2 : ℝ) : EReal) := by
  simp [Ideal.ofBits, Ideal.ieee, -EReal.coe_mul]; norm_num

theorem area_f32 : Ideal.ofBits .f32 1195638784#32 = ((50176 : ℝ) : EReal) := by
  simp [Ideal.ofBits, Ideal.ieee, -EReal.coe_mul]; norm_num

theorem low_bot : low = ⊥ := by
  simp [low, Ideal.ofBits, Ideal.ieee]

/-- The root of an exponential is the exponential of the half. -/
theorem sqrt_exp {l : EReal} (hl : Rl l) : Ideal.sqrt (Ideal.exp l) = Ideal.exp (Ideal.ofBits .f32 1056964608#32 * l) := by
  obtain ⟨r, rfl⟩ := hl
  rw [half_f32, ← EReal.coe_mul]
  show (if Real.exp r < 0 then (⊥ : EReal) else ((Real.sqrt (Real.exp r) : ℝ) : EReal)) = ((Real.exp (1 / 2 * r) : ℝ) : EReal)
  rw [if_neg (not_lt.mpr (Real.exp_pos r).le)]
  congr 1
  rw [Real.sqrt_eq_iff_mul_self_eq (Real.exp_pos r).le (Real.exp_pos _).le, ← Real.exp_add]
  congr 1
  ring

theorem Rl.exp_pos {x : EReal} (hx : Rl x) : ∃ r : ℝ, 0 < r ∧ Ideal.exp x = (r : EReal) := by
  obtain ⟨a, rfl⟩ := hx
  exact ⟨Real.exp a, Real.exp_pos a, rfl⟩

/-- Weights of real logits are real numbers, and not negative. -/
theorem prob_real {u : Fin 2 → EReal} (hu : ∀ k, Rl (u k)) (k : Fin 2) : ∃ r : ℝ, 0 ≤ r ∧ prob u k = (r : EReal) := by
  have hM : Rl (max low (Finset.fold max low u Finset.univ)) := by
    have : Finset.fold max low u Finset.univ = max (u 0) (max (u 1) low) := by
      rw [show (Finset.univ : Finset (Fin 2)) = {0, 1} from rfl, Finset.fold_insert (by decide), Finset.fold_singleton]
    rw [this, low_bot, max_bot_right, max_bot_left]
    exact (hu 0).max (hu 1)
  obtain ⟨a, ha, ea⟩ := ((hu 0).sub hM).exp_pos
  obtain ⟨b, hb, eb⟩ := ((hu 1).sub hM).exp_pos
  obtain ⟨c, hc, ec⟩ := ((hu k).sub hM).exp_pos
  unfold prob
  rw [Fin.sum_univ_two, ea, eb, ec, ← EReal.coe_add]
  refine ⟨c * (a + b)⁻¹, by positivity, ?_⟩
  unfold Ideal.div
  rw [if_neg (by exact_mod_cast (add_pos ha hb).ne'), ← EReal.coe_inv, ← EReal.coe_mul]

/-- A mean over the image of real numbers is a real number. -/
theorem div_area {x : EReal} (hx : Rl x) : Rl (Ideal.div x (Ideal.ofBits .f32 1195638784#32)) := by
  obtain ⟨a, rfl⟩ := hx
  rw [area_f32]
  unfold Ideal.div
  rw [if_neg (by exact_mod_cast (by norm_num : (50176 : ℝ) ≠ 0)), ← EReal.coe_inv, ← EReal.coe_mul]
  exact ⟨_, rfl⟩

/-- A number that is real and not negative goes into a sum. -/
theorem mul_sum_real {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- Weighting a layer's weights and bias weights the layer. -/
theorem taps_weighted {C : ℕ} (f W : Fin 3 → Fin 3 → Fin C → EReal) (r : ℝ) (hr : 0 ≤ r) :
    taps f (fun dy dx c => W dy dx c * (r : EReal)) = (r : EReal) * taps f W := by
  unfold taps
  rw [mul_sum_real _ _ r hr]
  refine Finset.sum_congr rfl fun dy _ => ?_
  rw [mul_sum_real _ _ r hr]
  refine Finset.sum_congr rfl fun dx _ => ?_
  rw [mul_sum_real _ _ r hr]
  refine Finset.sum_congr rfl fun c _ => ?_
  rw [← mul_assoc, mul_comm]

/-- A sum over 128 channels, the first 64 and the last 64. -/
theorem sum_halves (f : Fin 128 → EReal) :
    ∑ c, f c = ∑ i : Fin 64, f ⟨i.val, by omega⟩ + ∑ i : Fin 64, f ⟨64 + i.val, by omega⟩ :=
  Fin.sum_univ_add (a := 64) (b := 64) f

theorem taps_halves (f W : Fin 3 → Fin 3 → Fin 128 → EReal) : taps f W
    = taps (C := 64) (fun dy dx i => f dy dx ⟨i.val, by omega⟩) (fun dy dx i => W dy dx ⟨i.val, by omega⟩)
      + taps (C := 64) (fun dy dx i => f dy dx ⟨64 + i.val, by omega⟩) (fun dy dx i => W dy dx ⟨64 + i.val, by omega⟩) := by
  unfold taps
  simp only [sum_halves, Finset.sum_add_distrib]

/-- Two of three terms are left of a sum whose third has weight zero. -/
theorem sum_two (p q : EReal) (i j : Fin 3) (hij : i ≠ j) (X : Fin 3 → EReal) :
    ∑ e : Fin 3, (if e = i then p else if e = j then q else 0) * X e = p * X i + q * X j := by
  rw [Fin.sum_univ_three]
  fin_cases i <;> fin_cases j <;> first | exact absurd rfl hij | (simp; try abel)

namespace Net

variable (N : Net)

theorem drawRoot_eq (h : RlI N.logvar) : N.drawRoot = N.drawHalf := by
  funext b y x o
  unfold drawRoot drawHalf variance
  rw [one_f32, one_mul, sqrt_exp (h b y x o)]

/-- The wide layer's channels are the chosen experts' first layers. -/
theorem wide_win (z : Img 64) (x : T23.Idx → EReal) (b : Fin 2) (h w : Fin 224) (dy dx : Fin 3) (k : Fin 2) (i : Fin 64) (c : Fin 128)
    (hk : c.val / 64 = k.val) (hi : c.val % 64 = i.val) :
    win (N.wide z x) b h w dy dx c = win (relu (conv z (N.w12 (pick x b k)) (N.b13 (pick x b k)))) b h w dy dx i := by
  rw [show k = ⟨c.val / 64, Nat.div_lt_of_lt_mul c.isLt⟩ from Fin.ext hk.symm,
    show i = ⟨c.val % 64, Nat.mod_lt _ (by decide)⟩ from Fin.ext hi.symm]
  rfl

/-- Mixing the chosen two side by side is mixing all three with their gates. -/
theorem mix_eq (z : Img 64) (x : T23.Idx → EReal) (hx : ∀ j, Rl (x j)) : N.mixWide z x = N.mixAll z x := by
  funext b h w o
  obtain ⟨p, hp, ep⟩ : ∃ r : ℝ, 0 ≤ r ∧ gate x b 0 = (r : EReal) := prob_real (fun k => hx _) 0
  obtain ⟨q, hq, eq⟩ : ∃ r : ℝ, 0 ≤ r ∧ gate x b 1 = (r : EReal) := prob_real (fun k => hx _) 1
  unfold mixWide mixAll gates
  rw [sum_two _ _ _ _ (fun e => absurd (pick_inj x b e) (by decide)), taps_halves, Fin.sum_univ_two]
  have t0 : taps (C := 64) (fun dy dx i => win (N.wide z x) b h w dy dx ⟨i.val, by omega⟩)
      (fun dy dx i => N.w14 (pick x b ⟨i.val / 64, by omega⟩) dy dx ⟨i.val % 64, by omega⟩ o * gate x b ⟨i.val / 64, by omega⟩)
      = gate x b 0 * taps (win (relu (conv z (N.w12 (pick x b 0)) (N.b13 (pick x b 0)))) b h w) (fun dy dx i => N.w14 (pick x b 0) dy dx i o) := by
    rw [ep, ← taps_weighted _ _ p hp, ← ep]
    congr 1
    · funext dy dx i
      exact N.wide_win z x b h w dy dx 0 i _ (by show i.val / 64 = 0; omega) (by show i.val % 64 = i.val; omega)
    · funext dy dx i
      have e0 : (⟨i.val / 64, by omega⟩ : Fin 2) = 0 := Fin.ext (by show i.val / 64 = 0; omega)
      have e1 : (⟨i.val % 64, by omega⟩ : Fin 64) = i := Fin.ext (by show i.val % 64 = i.val; omega)
      rw [e0, e1]
  have t1 : taps (C := 64) (fun dy dx i => win (N.wide z x) b h w dy dx ⟨64 + i.val, by omega⟩)
      (fun dy dx i => N.w14 (pick x b ⟨(64 + i.val) / 64, by omega⟩) dy dx ⟨(64 + i.val) % 64, by omega⟩ o * gate x b ⟨(64 + i.val) / 64, by omega⟩)
      = gate x b 1 * taps (win (relu (conv z (N.w12 (pick x b 1)) (N.b13 (pick x b 1)))) b h w) (fun dy dx i => N.w14 (pick x b 1) dy dx i o) := by
    rw [eq, ← taps_weighted _ _ q hq, ← eq]
    congr 1
    · funext dy dx i
      exact N.wide_win z x b h w dy dx 1 i _ (by show (64 + i.val) / 64 = 1; omega) (by show (64 + i.val) % 64 = i.val; omega)
    · funext dy dx i
      have e0 : (⟨(64 + i.val) / 64, by omega⟩ : Fin 2) = 1 := Fin.ext (by show (64 + i.val) / 64 = 1; omega)
      have e1 : (⟨(64 + i.val) % 64, by omega⟩ : Fin 64) = i := Fin.ext (by show (64 + i.val) % 64 = i.val; omega)
      rw [e0, e1]
  refine (congrArg₂ (fun s t : EReal => s + t + _) t0 t1).trans ?_
  unfold expert
  rw [ep, eq]
  show _ = (p : EReal) * (taps _ _ + _) + (q : EReal) * (taps _ _ + _)
  rw [EReal.left_distrib_of_nonneg_of_ne_top (by exact_mod_cast hp) (EReal.coe_ne_top p),
    EReal.left_distrib_of_nonneg_of_ne_top (by exact_mod_cast hq) (EReal.coe_ne_top q)]
  abel

/-- Image, noise, encoder and router hold real numbers. -/
structure Real : Prop where
  img : RlI N.img
  eps : RlI N.eps
  w2 : ∀ dy dx c o, Rl (N.w2 dy dx c o)
  b3 : ∀ o, Rl (N.b3 o)
  w4 : ∀ e dy dx c o, Rl (N.w4 e dy dx c o)
  b5 : ∀ e o, Rl (N.b5 e o)
  w6 : ∀ dy dx c o, Rl (N.w6 dy dx c o)
  b7 : ∀ o, Rl (N.b7 o)
  w8 : ∀ dy dx c o, Rl (N.w8 dy dx c o)
  b9 : ∀ o, Rl (N.b9 o)
  w10 : ∀ c o, Rl (N.w10 c o)
  b11 : ∀ o, Rl (N.b11 o)

variable {N}

theorem Real.feat (H : N.Real) : RlI N.feat :=
  (RlI.conv (RlI.relu (RlI.conv (RlI.relu (RlI.conv H.img H.w2 H.b3)) (H.w4 0) (H.b5 0))) (H.w4 1) (H.b5 1)).relu

theorem Real.mean (H : N.Real) : RlI N.mean := RlI.conv H.feat H.w6 H.b7

theorem Real.logvar (H : N.Real) : RlI N.logvar := RlI.conv H.feat H.w8 H.b9

theorem Real.draw (H : N.Real) : RlI N.drawHalf := fun b h w o => by
  obtain ⟨r, _, e⟩ := (Rl.mul ⟨_, half_f32⟩ (H.logvar b h w o)).exp_pos
  exact (H.mean b h w o).add (Rl.mul ⟨r, e⟩ (H.eps b h w o))

theorem Real.logits (H : N.Real) (j : T23.Idx) : Rl (N.logits N.drawHalf j) :=
  Rl.add (Rl.sum _ _ fun _ => (div_area (Rl.sum _ _ fun _ => Rl.sum _ _ fun _ => H.draw _ _ _ _)).mul (H.w10 _ _)) (H.b11 _)

/-- On real inputs both mixtures of both draws are one. -/
theorem Real.mix (H : N.Real) : N.mixWide N.drawHalf (N.logits N.drawHalf) = N.mixAll N.drawRoot (N.logits N.drawRoot) := by
  rw [N.drawRoot_eq H.logvar]
  exact N.mix_eq _ _ H.logits

end Net

end Conv
end
-- ==== Proof.PreFin.lean ====
module

public import proofs.«01_k».proof.Proof.Mix
public import proofs.«01_k».proof.Pre_router_inputs_finite

/-! What the precondition says: every entry of the arrays it tests is a real number. -/

@[expose] public section

noncomputable section

namespace Cert.Pre_router_inputs_finite

open Idealize.ShloMosaic Conv

/-- The scalar's broadcasts. -/
theorem facts : Facts where
  bcast_S_S2x1x224x224 := by decide
  bcast_S_S2x64x224x224 := by decide
  bcast_S_S64x1x3x3 := by decide
  bcast_S_S64 := by decide
  bcast_S_S2x64x64x3x3 := by decide
  bcast_S_S2x64 := by decide
  bcast_S_S64x64x3x3 := by decide
  bcast_S_S64x3 := by decide
  bcast_S_S3 := by decide

theorem top_f32 : Ideal.ofBits .f32 0x7F800000#32 = ⊤ := by simp [Ideal.ofBits, Ideal.ieee]

/-- Less than infinity in size is real. -/
theorem rl_of_test (x : EReal) (h : Ideal.cmp .olt (max x (-x)) (Ideal.ofBits .f32 0x7F800000#32) = 1#1) : Rl x := by
  rw [top_f32] at h
  induction x with
  | bot => simp [Ideal.cmp] at h
  | top => simp [Ideal.cmp] at h
  | coe r => exact ⟨r, rfl⟩

/-- An array whose entries pass the test holds real numbers. -/
theorem rl_of_ones {s : Shape} (hb : S_.BroadcastsInDim s (![] : Fin 0 → Fin s.rank)) (x : FVec Ideal s .f32)
    (h : cmpf .olt (Host.absf x) (broadcastInDim s ![] hb (constant (F := Ideal) S_ .f32 0x7F800000#32)) = fun _ => 1#1) (j : s.Idx) : Rl (x j) :=
  rl_of_test (x j) (congrFun h j)

end Cert.Pre_router_inputs_finite
end
-- ==== Proof.Tiles.lean ====
module

public import proofs.«01_k».proof.Proof.Gen.KernelIdeal.Frame.Fold0
public import proofs.«01_k».proof.Proof.Img
public import Idealize.ShloMosaic.Lib.Pointwise

/-! The overlapping tiles the host cuts from an image hold, under the nine taps, the zero-padded image. -/

@[expose] public section

set_option maxRecDepth 16384

noncomputable section

namespace Cert.KernelIdeal.Val

open Idealize.ShloMosaic Idealize.ShloMosaic.TcCoe
open Cert.KernelIdeal Cert.KernelIdeal.Gen Conv

/-- The integer zero as a real. -/
theorem zero_of_int : (FloatOps.sitofp FTy.f32 0#32 : Ideal .f32) = 0 := by
  show (((0#32).toInt : ℝ) : EReal) = 0
  simp

/-- The image with a border of zeros. -/
def pad1 (x : FVec Ideal S2x224x224x1 .f32) : FVec Ideal S2x226x226x1 .f32 :=
  pad S2x226x226x1 ![0, 1, 1, 0] ![0, 1, 1, 0] ![0, 0, 0, 0] x (sitofp (F := Ideal) .f32 (constantI S_ 32 0#32)) pads_S2x224x224x1_S2x226x226x1_000_110_110_000 h_S_

/-- The eight overlapping tiles of a padded image. -/
def tiles1 (x : FVec Ideal S2x226x226x1 .f32) : FVec Ideal S2x8x30x226x1 .f32 :=
  concatenate S2x8x30x226x1 1 [⟨S2x1x30x226x1, broadcastInDim S2x1x30x226x1 ![0, 2, 3, 4] bcast_S2x30x226x1_S2x1x30x226x1_0_2_3_4 (extractStridedSlice S2x30x226x1 ![0, 0, 0, 0] x slices_S2x226x226x1_S2x30x226x1_0_0_0_0)⟩, ⟨S2x1x30x226x1, broadcastInDim S2x1x30x226x1 ![0, 2, 3, 4] bcast_S2x30x226x1_S2x1x30x226x1_0_2_3_4 (extractStridedSlice S2x30x226x1 ![0, 28, 0, 0] x slices_S2x226x226x1_S2x30x226x1_0_28_0_0)⟩, ⟨S2x1x30x226x1, broadcastInDim S2x1x30x226x1 ![0, 2, 3, 4] bcast_S2x30x226x1_S2x1x30x226x1_0_2_3_4 (extractStridedSlice S2x30x226x1 ![0, 56, 0, 0] x slices_S2x226x226x1_S2x30x226x1_0_56_0_0)⟩, ⟨S2x1x30x226x1, broadcastInDim S2x1x30x226x1 ![0, 2, 3, 4] bcast_S2x30x226x1_S2x1x30x226x1_0_2_3_4 (extractStridedSlice S2x30x226x1 ![0, 84, 0, 0] x slices_S2x226x226x1_S2x30x226x1_0_84_0_0)⟩, ⟨S2x1x30x226x1, broadcastInDim S2x1x30x226x1 ![0, 2, 3, 4] bcast_S2x30x226x1_S2x1x30x226x1_0_2_3_4 (extractStridedSlice S2x30x226x1 ![0, 112, 0, 0] x slices_S2x226x226x1_S2x30x226x1_0_112_0_0)⟩, ⟨S2x1x30x226x1, broadcastInDim S2x1x30x226x1 ![0, 2, 3, 4] bcast_S2x30x226x1_S2x1x30x226x1_0_2_3_4 (extractStridedSlice S2x30x226x1 ![0, 140, 0, 0] x slices_S2x226x226x1_S2x30x226x1_0_140_0_0)⟩, ⟨S2x1x30x226x1, broadcastInDim S2x1x30x226x1 ![0, 2, 3, 4] bcast_S2x30x226x1_S2x1x30x226x1_0_2_3_4 (extractStridedSlice S2x30x226x1 ![0, 168, 0, 0] x slices_S2x226x226x1_S2x30x226x1_0_168_0_0)⟩, ⟨S2x1x30x226x1, broadcastInDim S2x1x30x226x1 ![0, 2, 3, 4] bcast_S2x30x226x1_S2x1x30x226x1_0_2_3_4 (extractStridedSlice S2x30x226x1 ![0, 196, 0, 0] x slices_S2x226x226x1_S2x30x226x1_0_196_0_0)⟩]
    concatenates_S2x1x30x226x1_S2x1x30x226x1_S2x1x30x226x1_S2x1x30x226x1_S2x1x30x226x1_S2x1x30x226x1_S2x1x30x226x1_S2x1x30x226x1_S2x8x30x226x1_d1

theorem pad1_at (x : FVec Ideal S2x224x224x1 .f32) (b : Fin 2) (h w : Fin 226) (o : Fin 1) : pad1 x (ix4 b h w o)
    = if hh : (1 ≤ h.val ∧ h.val - 1 < 224) ∧ 1 ≤ w.val ∧ w.val - 1 < 224 then
        x (ix4 b ⟨h.val - 1, hh.1.2⟩ ⟨w.val - 1, hh.2.2⟩ o) else 0 := by
  obtain rfl : o = 0 := Subsingleton.elim _ _
  pointwise [pad1]
  congr 1
  funext _
  exact zero_of_int

theorem tiles1_at (x : FVec Ideal S2x226x226x1 .f32) (b : Fin 2) (t : Fin 8) (r : Fin 30) (w : Fin 226) (o : Fin 1) :
    tiles1 x (ix5 b t r w o) = x (ix4 b ⟨t.val * 28 + r, by omega⟩ w o) := by
  obtain rfl : o = 0 := Subsingleton.elim _ _
  pointwise [tiles1]
  fin_vals t with hk
  all_goals simp only [hk, Nat.reduceSub, Nat.reduceLT, ↓reduceDIte]
  all_goals refine congrArg (fun a => x (ix4 b a w _)) (Fin.ext ?_)
  all_goals try dsimp only
  all_goals omega

/-- The tiles hold the input under the taps. -/
theorem win1 (x : FVec Ideal S2x224x224x1 .f32) (b : Fin 2) (h w : Fin 224) :
    tileAt (tiles1 (pad1 x)) b h w = win (im x) b h w := by
  funext dy dx c
  unfold tileAt win im
  rw [tiles1_at, pad1_at]
  have e : h.val / 28 * 28 + (dy.val + h.val % 28) = dy.val + h.val := by omega
  simp only [e]

/-- The image with a border of zeros. -/
def pad64 (x : FVec Ideal S2x224x224x64 .f32) : FVec Ideal S2x226x226x64 .f32 :=
  pad S2x226x226x64 ![0, 1, 1, 0] ![0, 1, 1, 0] ![0, 0, 0, 0] x (sitofp (F := Ideal) .f32 (constantI S_ 32 0#32)) pads_S2x224x224x64_S2x226x226x64_000_110_110_000 h_S_

/-- The eight overlapping tiles of a padded image. -/
def tiles64 (x : FVec Ideal S2x226x226x64 .f32) : FVec Ideal S2x8x30x226x64 .f32 :=
  concatenate S2x8x30x226x64 1 [⟨S2x1x30x226x64, broadcastInDim S2x1x30x226x64 ![0, 2, 3, 4] bcast_S2x30x226x64_S2x1x30x226x64_0_2_3_4 (extractStridedSlice S2x30x226x64 ![0, 0, 0, 0] x slices_S2x226x226x64_S2x30x226x64_0_0_0_0)⟩, ⟨S2x1x30x226x64, broadcastInDim S2x1x30x226x64 ![0, 2, 3, 4] bcast_S2x30x226x64_S2x1x30x226x64_0_2_3_4 (extractStridedSlice S2x30x226x64 ![0, 28, 0, 0] x slices_S2x226x226x64_S2x30x226x64_0_28_0_0)⟩, ⟨S2x1x30x226x64, broadcastInDim S2x1x30x226x64 ![0, 2, 3, 4] bcast_S2x30x226x64_S2x1x30x226x64_0_2_3_4 (extractStridedSlice S2x30x226x64 ![0, 56, 0, 0] x slices_S2x226x226x64_S2x30x226x64_0_56_0_0)⟩, ⟨S2x1x30x226x64, broadcastInDim S2x1x30x226x64 ![0, 2, 3, 4] bcast_S2x30x226x64_S2x1x30x226x64_0_2_3_4 (extractStridedSlice S2x30x226x64 ![0, 84, 0, 0] x slices_S2x226x226x64_S2x30x226x64_0_84_0_0)⟩, ⟨S2x1x30x226x64, broadcastInDim S2x1x30x226x64 ![0, 2, 3, 4] bcast_S2x30x226x64_S2x1x30x226x64_0_2_3_4 (extractStridedSlice S2x30x226x64 ![0, 112, 0, 0] x slices_S2x226x226x64_S2x30x226x64_0_112_0_0)⟩, ⟨S2x1x30x226x64, broadcastInDim S2x1x30x226x64 ![0, 2, 3, 4] bcast_S2x30x226x64_S2x1x30x226x64_0_2_3_4 (extractStridedSlice S2x30x226x64 ![0, 140, 0, 0] x slices_S2x226x226x64_S2x30x226x64_0_140_0_0)⟩, ⟨S2x1x30x226x64, broadcastInDim S2x1x30x226x64 ![0, 2, 3, 4] bcast_S2x30x226x64_S2x1x30x226x64_0_2_3_4 (extractStridedSlice S2x30x226x64 ![0, 168, 0, 0] x slices_S2x226x226x64_S2x30x226x64_0_168_0_0)⟩, ⟨S2x1x30x226x64, broadcastInDim S2x1x30x226x64 ![0, 2, 3, 4] bcast_S2x30x226x64_S2x1x30x226x64_0_2_3_4 (extractStridedSlice S2x30x226x64 ![0, 196, 0, 0] x slices_S2x226x226x64_S2x30x226x64_0_196_0_0)⟩]
    concatenates_S2x1x30x226x64_S2x1x30x226x64_S2x1x30x226x64_S2x1x30x226x64_S2x1x30x226x64_S2x1x30x226x64_S2x1x30x226x64_S2x1x30x226x64_S2x8x30x226x64_d1

theorem pad64_at (x : FVec Ideal S2x224x224x64 .f32) (b : Fin 2) (h w : Fin 226) (o : Fin 64) : pad64 x (ix4 b h w o)
    = if hh : (1 ≤ h.val ∧ h.val - 1 < 224) ∧ 1 ≤ w.val ∧ w.val - 1 < 224 then
        x (ix4 b ⟨h.val - 1, hh.1.2⟩ ⟨w.val - 1, hh.2.2⟩ o) else 0 := by
  pointwise [pad64]
  congr 1
  funext _
  exact zero_of_int

theorem tiles64_at (x : FVec Ideal S2x226x226x64 .f32) (b : Fin 2) (t : Fin 8) (r : Fin 30) (w : Fin 226) (o : Fin 64) :
    tiles64 x (ix5 b t r w o) = x (ix4 b ⟨t.val * 28 + r, by omega⟩ w o) := by
  pointwise [tiles64]
  fin_vals t with hk
  all_goals simp only [hk, Nat.reduceSub, Nat.reduceLT, ↓reduceDIte]
  all_goals refine congrArg (fun a => x (ix4 b a w _)) (Fin.ext ?_)
  all_goals try dsimp only
  all_goals omega

/-- The tiles hold the input under the taps. -/
theorem win64 (x : FVec Ideal S2x224x224x64 .f32) (b : Fin 2) (h w : Fin 224) :
    tileAt (tiles64 (pad64 x)) b h w = win (im x) b h w := by
  funext dy dx c
  unfold tileAt win im
  rw [tiles64_at, pad64_at]
  have e : h.val / 28 * 28 + (dy.val + h.val % 28) = dy.val + h.val := by omega
  simp only [e]

/-- The image with a border of zeros. -/
def pad128 (x : FVec Ideal S2x224x224x128 .f32) : FVec Ideal S2x226x226x128 .f32 :=
  pad S2x226x226x128 ![0, 1, 1, 0] ![0, 1, 1, 0] ![0, 0, 0, 0] x (sitofp (F := Ideal) .f32 (constantI S_ 32 0#32)) pads_S2x224x224x128_S2x226x226x128_000_110_110_000 h_S_

/-- The eight overlapping tiles of a padded image. -/
def tiles128 (x : FVec Ideal S2x226x226x128 .f32) : FVec Ideal S2x8x30x226x128 .f32 :=
  concatenate S2x8x30x226x128 1 [⟨S2x1x30x226x128, broadcastInDim S2x1x30x226x128 ![0, 2, 3, 4] bcast_S2x30x226x128_S2x1x30x226x128_0_2_3_4 (extractStridedSlice S2x30x226x128 ![0, 0, 0, 0] x slices_S2x226x226x128_S2x30x226x128_0_0_0_0)⟩, ⟨S2x1x30x226x128, broadcastInDim S2x1x30x226x128 ![0, 2, 3, 4] bcast_S2x30x226x128_S2x1x30x226x128_0_2_3_4 (extractStridedSlice S2x30x226x128 ![0, 28, 0, 0] x slices_S2x226x226x128_S2x30x226x128_0_28_0_0)⟩, ⟨S2x1x30x226x128, broadcastInDim S2x1x30x226x128 ![0, 2, 3, 4] bcast_S2x30x226x128_S2x1x30x226x128_0_2_3_4 (extractStridedSlice S2x30x226x128 ![0, 56, 0, 0] x slices_S2x226x226x128_S2x30x226x128_0_56_0_0)⟩, ⟨S2x1x30x226x128, broadcastInDim S2x1x30x226x128 ![0, 2, 3, 4] bcast_S2x30x226x128_S2x1x30x226x128_0_2_3_4 (extractStridedSlice S2x30x226x128 ![0, 84, 0, 0] x slices_S2x226x226x128_S2x30x226x128_0_84_0_0)⟩, ⟨S2x1x30x226x128, broadcastInDim S2x1x30x226x128 ![0, 2, 3, 4] bcast_S2x30x226x128_S2x1x30x226x128_0_2_3_4 (extractStridedSlice S2x30x226x128 ![0, 112, 0, 0] x slices_S2x226x226x128_S2x30x226x128_0_112_0_0)⟩, ⟨S2x1x30x226x128, broadcastInDim S2x1x30x226x128 ![0, 2, 3, 4] bcast_S2x30x226x128_S2x1x30x226x128_0_2_3_4 (extractStridedSlice S2x30x226x128 ![0, 140, 0, 0] x slices_S2x226x226x128_S2x30x226x128_0_140_0_0)⟩, ⟨S2x1x30x226x128, broadcastInDim S2x1x30x226x128 ![0, 2, 3, 4] bcast_S2x30x226x128_S2x1x30x226x128_0_2_3_4 (extractStridedSlice S2x30x226x128 ![0, 168, 0, 0] x slices_S2x226x226x128_S2x30x226x128_0_168_0_0)⟩, ⟨S2x1x30x226x128, broadcastInDim S2x1x30x226x128 ![0, 2, 3, 4] bcast_S2x30x226x128_S2x1x30x226x128_0_2_3_4 (extractStridedSlice S2x30x226x128 ![0, 196, 0, 0] x slices_S2x226x226x128_S2x30x226x128_0_196_0_0)⟩]
    concatenates_S2x1x30x226x128_S2x1x30x226x128_S2x1x30x226x128_S2x1x30x226x128_S2x1x30x226x128_S2x1x30x226x128_S2x1x30x226x128_S2x1x30x226x128_S2x8x30x226x128_d1

theorem pad128_at (x : FVec Ideal S2x224x224x128 .f32) (b : Fin 2) (h w : Fin 226) (o : Fin 128) : pad128 x (ix4 b h w o)
    = if hh : (1 ≤ h.val ∧ h.val - 1 < 224) ∧ 1 ≤ w.val ∧ w.val - 1 < 224 then
        x (ix4 b ⟨h.val - 1, hh.1.2⟩ ⟨w.val - 1, hh.2.2⟩ o) else 0 := by
  pointwise [pad128]
  congr 1
  funext _
  exact zero_of_int

theorem tiles128_at (x : FVec Ideal S2x226x226x128 .f32) (b : Fin 2) (t : Fin 8) (r : Fin 30) (w : Fin 226) (o : Fin 128) :
    tiles128 x (ix5 b t r w o) = x (ix4 b ⟨t.val * 28 + r, by omega⟩ w o) := by
  pointwise [tiles128]
  fin_vals t with hk
  all_goals simp only [hk, Nat.reduceSub, Nat.reduceLT, ↓reduceDIte]
  all_goals refine congrArg (fun a => x (ix4 b a w _)) (Fin.ext ?_)
  all_goals try dsimp only
  all_goals omega

/-- The tiles hold the input under the taps. -/
theorem win128 (x : FVec Ideal S2x224x224x128 .f32) (b : Fin 2) (h w : Fin 224) :
    tileAt (tiles128 (pad128 x)) b h w = win (im x) b h w := by
  funext dy dx c
  unfold tileAt win im
  rw [tiles128_at, pad128_at]
  have e : h.val / 28 * 28 + (dy.val + h.val % 28) = dy.val + h.val := by omega
  simp only [e]

end Cert.KernelIdeal.Val
end
-- ==== Proof.Reg0.lean ====
module

public import proofs.«01_k».proof.Proof.Gen.KernelIdeal.Frame.Region0
public import proofs.«01_k».proof.Proof.Spec
public import Idealize.ShloMosaic.Lib.Pointwise
public import Idealize.ShloMosaic.Lib.Pipeline.ValueKit

/-! What region 0 of the kernel, the encoder's first convolution, leaves in its result array. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The body's output block at row `r`, column `w`, channel `o`: the nine taps over its tile, plus the bias. -/
theorem out0_at (x : FVec Ideal S1x1x30x226x1 .f32) (wt : FVec Ideal S3x3x1x64 .f32)
    (b : FVec Ideal S1x1x64 .f32) (r : Fin 28) (w : Fin 224) (o : Fin 64) :
    out0_3 (F := Ideal) x wt b (ix4 0 r w o)
      = max (taps (tile x r w) (fun dy dx c => wt (ix4 dy dx c o)) + b (ix3 0 0 o)) 0 := by
  unfold out0_3
  rw [View.canon_unit_zero (show (![0, 0, 0, 0] : Fin 4 → Nat) = fun _ => 0 from funext fun a => by fin_cases a <;> rfl), taps_nine]
  pointwise [k0_pay1, k0_pay2, k0_pay3, k0_pay4, k0_pay5]
  simp only [tile, Fin.val_zero, Fin.val_one, Fin.val_two, Nat.zero_add, Fin.sum_univ_one]

/-- The whole result array: the convolution of the tiled input. -/
def G0 (xo : FVec Ideal S2x8x30x226x1 .f32) (wt : FVec Ideal S3x3x1x64 .f32) (b : FVec Ideal S2x1x64 .f32) :
    FVec Ideal S2x224x224x64 .f32 := fun i =>
  max (taps (tileAt xo (i 0) (i 1) (i 2)) (fun dy dx c => wt (ix4 dy dx c (i 3))) + b (ix3 (i 0) 0 (i 3))) 0

variable (V : (c : Dev nD) → (b : Ref sig .tc) → Buf (Elt Ideal) ((c : Thread nD τ).loc b))

theorem idx0_0 : ∀ t : Fin cfg0.N, win0_0.index t = ![t.val / 8, t.val % 8, 0, 0, 0] := by decide +kernel
theorem idx0_1 : ∀ t : Fin cfg0.N, win0_1.index t = ![0, 0, 0, 0] := by decide +kernel
theorem idx0_2 : ∀ t : Fin cfg0.N, win0_2.index t = ![t.val / 8, 0, 0] := by decide +kernel
theorem idx0_3 : ∀ t : Fin cfg0.N, win0_3.index t = ![t.val / 8, t.val % 8, 0, 0] := by decide +kernel

/-- The tile at point `t` is tile `t % 8` of image `t / 8`. -/
theorem blk0_0 (c : Dev nD) (t : Fin cfg0.N) (ht : t.val < 16) (a : Fin 30) (b : Fin 226) (d : Fin 1) :
    iblk0 V c 0 t (ix5 0 0 a b d) = V c main_v20 (ix5 (⟨t.val / 8, by omega⟩ : Fin 2) (⟨t.val % 8, by omega⟩ : Fin 8) a b d) := by
  blk_simp [iblk0]
  refine congrArg _ (funext fun e => Fin.ext ?_)
  blk_simp [idx0_0]
  fin_cases e <;> simp

/-- The weights at every point are the whole array. -/
theorem blk0_1 (c : Dev nD) (t : Fin cfg0.N) (y : S3x3x1x64.Idx) :
    iblk0 V c 1 t y = V c main_v2 y := by
  blk_simp [iblk0]
  refine congrArg _ (funext fun e => Fin.ext ?_)
  blk_simp [idx0_1]
  fin_cases e <;> simp

/-- The bias at point `t` is image `t / 8`'s. -/
theorem blk0_2 (c : Dev nD) (t : Fin cfg0.N) (ht : t.val < 16) (d : Fin 64) :
    iblk0 V c 2 t (ix3 0 0 d) = V c main_v23 (ix3 (⟨t.val / 8, by omega⟩ : Fin 2) 0 d) := by
  blk_simp [iblk0]
  refine congrArg _ (funext fun e => Fin.ext ?_)
  blk_simp [idx0_2]
  fin_cases e <;> simp

/-- Where the output block of point `t` sits in the result array. -/
theorem emb0_3 (t : Fin cfg0.N) (ht : t.val < 16) (r : Fin 28) (w : Fin 224) (o : Fin 64) :
    ((win0_3.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx0_3]
  fin_cases e <;> simp

/-- The result array after the region: the convolution of the region's inputs. -/
theorem arr0 (c : Dev nD) : (dat0 V c).arrAt 3 cfg0.N
    = G0 (V c main_v20) (V c main_v2) (V c main_v23) := by
  refine (dat0 V c).arrAt_eq_of_covers 3 _ (by decide +kernel) fun t hf y => ?_
  blk_simp
  rw [after0_3]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine (out0_at _ _ _ r w o).trans ?_
  refine Eq.trans ?_ (congrArg _ (emb0_3 t ht r w o).symm)
  unfold tile
  simp only [blk0_0 V c t ht, blk0_1, blk0_2 V c t ht]
  have e := tileAt_row (V c main_v20) (⟨t.val / 8, by omega⟩ : Fin 2) (⟨t.val % 8, by omega⟩ : Fin 8) r w
  unfold G0
  rw [show tileAt (V c main_v20) ((ix4 (⟨t.val / 8, by omega⟩ : Fin 2) (⟨t.val % 8 * 28 + r, by omega⟩ : Fin 224) w o : S2x224x224x64.Idx) 0) ((ix4 (⟨t.val / 8, by omega⟩ : Fin 2) (⟨t.val % 8 * 28 + r, by omega⟩ : Fin 224) w o : S2x224x224x64.Idx) 1) ((ix4 (⟨t.val / 8, by omega⟩ : Fin 2) (⟨t.val % 8 * 28 + r, by omega⟩ : Fin 224) w o : S2x224x224x64.Idx) 2) = _ from e]
  rfl

end Cert.KernelIdeal.Val
end
-- ==== Proof.Reg1.lean ====
module

public import proofs.«01_k».proof.Proof.Gen.KernelIdeal.Frame.Region1
public import proofs.«01_k».proof.Proof.Spec
public import Idealize.ShloMosaic.Lib.Pointwise
public import Idealize.ShloMosaic.Lib.Pipeline.ValueKit

/-! What region 1 of the kernel, an encoder block, leaves in its result array. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The body's output block at row `r`, column `w`, channel `o`: the nine taps over its tile, plus the bias. -/
theorem out1_at (x : FVec Ideal S1x1x30x226x64 .f32) (wt : FVec Ideal S3x3x64x64 .f32)
    (b : FVec Ideal S1x1x64 .f32) (r : Fin 28) (w : Fin 224) (o : Fin 64) :
    out1_3 (F := Ideal) x wt b (ix4 0 r w o)
      = max (taps (tile x r w) (fun dy dx c => wt (ix4 dy dx c o)) + b (ix3 0 0 o)) 0 := by
  unfold out1_3
  rw [View.canon_unit_zero (show (![0, 0, 0, 0] : Fin 4 → Nat) = fun _ => 0 from funext fun a => by fin_cases a <;> rfl), taps_nine]
  pointwise [k1_pay1, k1_pay2, k1_pay3, k1_pay4, k1_pay5]
  simp only [tile, Fin.val_zero, Fin.val_one, Fin.val_two, Nat.zero_add]

/-- The whole result array: the convolution of the tiled input. -/
def G1 (xo : FVec Ideal S2x8x30x226x64 .f32) (wt : FVec Ideal S3x3x64x64 .f32) (b : FVec Ideal S2x1x64 .f32) :
    FVec Ideal S2x224x224x64 .f32 := fun i =>
  max (taps (tileAt xo (i 0) (i 1) (i 2)) (fun dy dx c => wt (ix4 dy dx c (i 3))) + b (ix3 (i 0) 0 (i 3))) 0

variable (V : (c : Dev nD) → (b : Ref sig .tc) → Buf (Elt Ideal) ((c : Thread nD τ).loc b))

theorem idx1_0 : ∀ t : Fin cfg1.N, win1_0.index t = ![t.val / 8, t.val % 8, 0, 0, 0] := by decide +kernel
theorem idx1_1 : ∀ t : Fin cfg1.N, win1_1.index t = ![0, 0, 0, 0] := by decide +kernel
theorem idx1_2 : ∀ t : Fin cfg1.N, win1_2.index t = ![t.val / 8, 0, 0] := by decide +kernel
theorem idx1_3 : ∀ t : Fin cfg1.N, win1_3.index t = ![t.val / 8, t.val % 8, 0, 0] := by decide +kernel

/-- The tile at point `t` is tile `t % 8` of image `t / 8`. -/
theorem blk1_0 (c : Dev nD) (t : Fin cfg1.N) (ht : t.val < 16) (a : Fin 30) (b : Fin 226) (d : Fin 64) :
    iblk1 V c 0 t (ix5 0 0 a b d) = V c main_v47 (ix5 (⟨t.val / 8, by omega⟩ : Fin 2) (⟨t.val % 8, by omega⟩ : Fin 8) a b d) := by
  blk_simp [iblk1]
  refine congrArg _ (funext fun e => Fin.ext ?_)
  blk_simp [idx1_0]
  fin_cases e <;> simp

/-- The weights at every point are the whole array. -/
theorem blk1_1 (c : Dev nD) (t : Fin cfg1.N) (y : S3x3x64x64.Idx) :
    iblk1 V c 1 t y = V c main_v27 y := by
  blk_simp [iblk1]
  refine congrArg _ (funext fun e => Fin.ext ?_)
  blk_simp [idx1_1]
  fin_cases e <;> simp

/-- The bias at point `t` is image `t / 8`'s. -/
theorem blk1_2 (c : Dev nD) (t : Fin cfg1.N) (ht : t.val < 16) (d : Fin 64) :
    iblk1 V c 2 t (ix3 0 0 d) = V c main_v50 (ix3 (⟨t.val / 8, by omega⟩ : Fin 2) 0 d) := by
  blk_simp [iblk1]
  refine congrArg _ (funext fun e => Fin.ext ?_)
  blk_simp [idx1_2]
  fin_cases e <;> simp

/-- Where the output block of point `t` sits in the result array. -/
theorem emb1_3 (t : Fin cfg1.N) (ht : t.val < 16) (r : Fin 28) (w : Fin 224) (o : Fin 64) :
    ((win1_3.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx1_3]
  fin_cases e <;> simp

/-- The result array after the region: the convolution of the region's inputs. -/
theorem arr1 (c : Dev nD) : (dat1 V c).arrAt 3 cfg1.N
    = G1 (V c main_v47) (V c main_v27) (V c main_v50) := by
  refine (dat1 V c).arrAt_eq_of_covers 3 _ (by decide +kernel) fun t hf y => ?_
  blk_simp
  rw [after1_3]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine (out1_at _ _ _ r w o).trans ?_
  refine Eq.trans ?_ (congrArg _ (emb1_3 t ht r w o).symm)
  unfold tile
  simp only [blk1_0 V c t ht, blk1_1, blk1_2 V c t ht]
  have e := tileAt_row (V c main_v47) (⟨t.val / 8, by omega⟩ : Fin 2) (⟨t.val % 8, by omega⟩ : Fin 8) r w
  unfold G1
  rw [show tileAt (V c main_v47) ((ix4 (⟨t.val / 8, by omega⟩ : Fin 2) (⟨t.val % 8 * 28 + r, by omega⟩ : Fin 224) w o : S2x224x224x64.Idx) 0) ((ix4 (⟨t.val / 8, by omega⟩ : Fin 2) (⟨t.val % 8 * 28 + r, by omega⟩ : Fin 224) w o : S2x224x224x64.Idx) 1) ((ix4 (⟨t.val / 8, by omega⟩ : Fin 2) (⟨t.val % 8 * 28 + r, by omega⟩ : Fin 224) w o : S2x224x224x64.Idx) 2) = _ from e]
  rfl

end Cert.KernelIdeal.Val
end
-- ==== Proof.Reg2.lean ====
module

public import proofs.«01_k».proof.Proof.Gen.KernelIdeal.Frame.Region2
public import proofs.«01_k».proof.Proof.Spec
public import Idealize.ShloMosaic.Lib.Pointwise
public import Idealize.ShloMosaic.Lib.Pipeline.ValueKit

/-! What region 2 of the kernel, an encoder block, leaves in its result array. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The body's output block at row `r`, column `w`, channel `o`: the nine taps over its tile, plus the bias. -/
theorem out2_at (x : FVec Ideal S1x1x30x226x64 .f32) (wt : FVec Ideal S3x3x64x64 .f32)
    (b : FVec Ideal S1x1x64 .f32) (r : Fin 28) (w : Fin 224) (o : Fin 64) :
    out2_3 (F := Ideal) x wt b (ix4 0 r w o)
      = max (taps (tile x r w) (fun dy dx c => wt (ix4 dy dx c o)) + b (ix3 0 0 o)) 0 := by
  unfold out2_3
  rw [View.canon_unit_zero (show (![0, 0, 0, 0] : Fin 4 → Nat) = fun _ => 0 from funext fun a => by fin_cases a <;> rfl), taps_nine]
  pointwise [k2_pay1, k2_pay2, k2_pay3, k2_pay4, k2_pay5]
  simp only [tile, Fin.val_zero, Fin.val_one, Fin.val_two, Nat.zero_add]

/-- The whole result array: the convolution of the tiled input. -/
def G2 (xo : FVec Ideal S2x8x30x226x64 .f32) (wt : FVec Ideal S3x3x64x64 .f32) (b : FVec Ideal S2x1x64 .f32) :
    FVec Ideal S2x224x224x64 .f32 := fun i =>
  max (taps (tileAt xo (i 0) (i 1) (i 2)) (fun dy dx c => wt (ix4 dy dx c (i 3))) + b (ix3 (i 0) 0 (i 3))) 0

variable (V : (c : Dev nD) → (b : Ref sig .tc) → Buf (Elt Ideal) ((c : Thread nD τ).loc b))

theorem idx2_0 : ∀ t : Fin cfg2.N, win2_0.index t = ![t.val / 8, t.val % 8, 0, 0, 0] := by decide +kernel
theorem idx2_1 : ∀ t : Fin cfg2.N, win2_1.index t = ![0, 0, 0, 0] := by decide +kernel
theorem idx2_2 : ∀ t : Fin cfg2.N, win2_2.index t = ![t.val / 8, 0, 0] := by decide +kernel
theorem idx2_3 : ∀ t : Fin cfg2.N, win2_3.index t = ![t.val / 8, t.val % 8, 0, 0] := by decide +kernel

/-- The tile at point `t` is tile `t % 8` of image `t / 8`. -/
theorem blk2_0 (c : Dev nD) (t : Fin cfg2.N) (ht : t.val < 16) (a : Fin 30) (b : Fin 226) (d : Fin 64) :
    iblk2 V c 0 t (ix5 0 0 a b d) = V c main_v74 (ix5 (⟨t.val / 8, by omega⟩ : Fin 2) (⟨t.val % 8, by omega⟩ : Fin 8) a b d) := by
  blk_simp [iblk2]
  refine congrArg _ (funext fun e => Fin.ext ?_)
  blk_simp [idx2_0]
  fin_cases e <;> simp

/-- The weights at every point are the whole array. -/
theorem blk2_1 (c : Dev nD) (t : Fin cfg2.N) (y : S3x3x64x64.Idx) :
    iblk2 V c 1 t y = V c main_v54 y := by
  blk_simp [iblk2]
  refine congrArg _ (funext fun e => Fin.ext ?_)
  blk_simp [idx2_1]
  fin_cases e <;> simp

/-- The bias at point `t` is image `t / 8`'s. -/
theorem blk2_2 (c : Dev nD) (t : Fin cfg2.N) (ht : t.val < 16) (d : Fin 64) :
    iblk2 V c 2 t (ix3 0 0 d) = V c main_v77 (ix3 (⟨t.val / 8, by omega⟩ : Fin 2) 0 d) := by
  blk_simp [iblk2]
  refine congrArg _ (funext fun e => Fin.ext ?_)
  blk_simp [idx2_2]
  fin_cases e <;> simp

/-- Where the output block of point `t` sits in the result array. -/
theorem emb2_3 (t : Fin cfg2.N) (ht : t.val < 16) (r : Fin 28) (w : Fin 224) (o : Fin 64) :
    ((win2_3.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx2_3]
  fin_cases e <;> simp

/-- The result array after the region: the convolution of the region's inputs. -/
theorem arr2 (c : Dev nD) : (dat2 V c).arrAt 3 cfg2.N
    = G2 (V c main_v74) (V c main_v54) (V c main_v77) := by
  refine (dat2 V c).arrAt_eq_of_covers 3 _ (by decide +kernel) fun t hf y => ?_
  blk_simp
  rw [after2_3]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine (out2_at _ _ _ r w o).trans ?_
  refine Eq.trans ?_ (congrArg _ (emb2_3 t ht r w o).symm)
  unfold tile
  simp only [blk2_0 V c t ht, blk2_1, blk2_2 V c t ht]
  have e := tileAt_row (V c main_v74) (⟨t.val / 8, by omega⟩ : Fin 2) (⟨t.val % 8, by omega⟩ : Fin 8) r w
  unfold G2
  rw [show tileAt (V c main_v74) ((ix4 (⟨t.val / 8, by omega⟩ : Fin 2) (⟨t.val % 8 * 28 + r, by omega⟩ : Fin 224) w o : S2x224x224x64.Idx) 0) ((ix4 (⟨t.val / 8, by omega⟩ : Fin 2) (⟨t.val % 8 * 28 + r, by omega⟩ : Fin 224) w o : S2x224x224x64.Idx) 1) ((ix4 (⟨t.val / 8, by omega⟩ : Fin 2) (⟨t.val % 8 * 28 + r, by omega⟩ : Fin 224) w o : S2x224x224x64.Idx) 2) = _ from e]
  rfl

end Cert.KernelIdeal.Val
end
-- ==== Proof.ChainA.lean ====
module

public import proofs.«01_k».proof.Proof.Tiles
public import proofs.«01_k».proof.Proof.Reg0
public import proofs.«01_k».proof.Proof.Reg1
public import proofs.«01_k».proof.Proof.Reg2
public import Idealize.ShloMosaic.Lib.Claim

/-! What the encoder's three regions leave, over the arguments. -/

@[expose] public section

set_option maxRecDepth 16384

noncomputable section

namespace Cert.KernelIdeal.Val

open Idealize.ShloMosaic Idealize.ShloMosaic.TcCoe Idealize.SL.Sem
open Cert.KernelIdeal Cert.KernelIdeal.Gen Conv

/-- The image with its channel last. -/
theorem im0 (v : Valuation τ sig (Elt Ideal)) (b : Fin 2) (h w : Fin 224) (i : Fin 1) :
    StableHlo.after hostOps0 v (Proc.devRef .tc main_v0) (ix4 b h w i) = v (Proc.devRef .tc main_arg0) (ix4 b i h w) := by
  obtain rfl : i = 0 := Subsingleton.elim _ _
  after_results
  pointwise []

/-- The padding constant before region 0. -/
theorem cst0 (v : Valuation τ sig (Elt Ideal)) : StableHlo.after hostOps0 v (Proc.devRef .tc main_c) = constantI S_ 32 0#32 := by
  after_results

theorem padded0 (v : Valuation τ sig (Elt Ideal)) (h : v (Proc.devRef .tc main_c) = constantI S_ 32 0#32) :
    StableHlo.after hostOps0_1 v (Proc.devRef .tc main_v3) = pad1 (v (Proc.devRef .tc main_v0)) := by
  after_results
  unfold pad1
  rw [← h]
  rfl

theorem cut0 (v : Valuation τ sig (Elt Ideal)) : StableHlo.after hostOps0_2 v (Proc.devRef .tc main_v20) = tiles1 (v (Proc.devRef .tc main_v3)) := by
  after_results
  rfl

/-- Region 0's tiles at its entry. -/
theorem entry0 (v : Valuation τ sig (Elt Ideal)) :
    StableHlo.after hostOps0_2 (StableHlo.after hostOps0_1 (StableHlo.after hostOps0 v)) (Proc.devRef .tc main_v20)
      = tiles1 (pad1 (StableHlo.after hostOps0 v (Proc.devRef .tc main_v0))) := by
  rw [cut0, padded0 _ (cst0 v)]

theorem wt0 (v : Valuation τ sig (Elt Ideal)) (dy dx : Fin 3) (i : Fin 1) (o : Fin 64) :
    StableHlo.after hostOps0_2 (StableHlo.after hostOps0_1 (StableHlo.after hostOps0 v)) (Proc.devRef .tc main_v2) (ix4 dy dx i o) = v (Proc.devRef .tc main_arg2) (ix4 o i dy dx) := by
  rw [StableHlo.after_of_writes_sub hostOps0_2 _ hostOps0_2_writes (show main_v2 ∉ hostOps0_2_W by decide),
    StableHlo.after_of_writes_sub hostOps0_1 _ hostOps0_1_writes (show main_v2 ∉ hostOps0_1_W by decide)]
  after_results
  obtain rfl : i = 0 := Subsingleton.elim _ _
  pointwise []

theorem bs0 (v : Valuation τ sig (Elt Ideal)) (b : Fin 2) (o : Fin 64) :
    StableHlo.after hostOps0_2 (StableHlo.after hostOps0_1 (StableHlo.after hostOps0 v)) (Proc.devRef .tc main_v23) (ix3 b 0 o) = v (Proc.devRef .tc main_arg3) (ix1 o) := by
  have e (u : Valuation τ sig (Elt Ideal)) : StableHlo.after hostOps0_2 u (Proc.devRef .tc main_v23) (ix3 b 0 o) = u (Proc.devRef .tc main_arg3) (ix1 o) := by
    after_results
    pointwise []
  rw [e, StableHlo.after_of_writes_sub hostOps0_1 _ hostOps0_1_writes (show main_arg3 ∉ hostOps0_1_W by decide),
    StableHlo.after_of_writes_sub hostOps0 _ hostOps0_writes (show main_arg3 ∉ hostOps0_W by decide)]

/-- The padding constant before region 1. -/
theorem cst1 (v : Valuation τ sig (Elt Ideal)) : StableHlo.after hostOps1 v (Proc.devRef .tc main_c_0) = constantI S_ 32 0#32 := by
  after_results

theorem padded1 (v : Valuation τ sig (Elt Ideal)) (h : v (Proc.devRef .tc main_c_0) = constantI S_ 32 0#32) :
    StableHlo.after hostOps1_1 v (Proc.devRef .tc main_v30) = pad64 (v (Proc.devRef .tc main_v24)) := by
  after_results
  unfold pad64
  rw [← h]
  rfl

theorem cut1 (v : Valuation τ sig (Elt Ideal)) : StableHlo.after hostOps1_2 v (Proc.devRef .tc main_v47) = tiles64 (v (Proc.devRef .tc main_v30)) := by
  after_results
  rfl

/-- Region 1's tiles at its entry. -/
theorem entry1 (v : Valuation τ sig (Elt Ideal)) :
    StableHlo.after hostOps1_2 (StableHlo.after hostOps1_1 (StableHlo.after hostOps1 v)) (Proc.devRef .tc main_v47)
      = tiles64 (pad64 (StableHlo.after hostOps1 v (Proc.devRef .tc main_v24))) := by
  rw [cut1, padded1 _ (cst1 v)]

theorem wt1 (v : Valuation τ sig (Elt Ideal)) (dy dx : Fin 3) (i : Fin 64) (o : Fin 64) :
    StableHlo.after hostOps1_2 (StableHlo.after hostOps1_1 (StableHlo.after hostOps1 v)) (Proc.devRef .tc main_v27) (ix4 dy dx i o) = v (Proc.devRef .tc main_arg4) (ix5 (0 : Fin 2) o i dy dx) := by
  rw [StableHlo.after_of_writes_sub hostOps1_2 _ hostOps1_2_writes (show main_v27 ∉ hostOps1_2_W by decide),
    StableHlo.after_of_writes_sub hostOps1_1 _ hostOps1_1_writes (show main_v27 ∉ hostOps1_1_W by decide)]
  after_results
  pointwise []

theorem bs1 (v : Valuation τ sig (Elt Ideal)) (b : Fin 2) (o : Fin 64) :
    StableHlo.after hostOps1_2 (StableHlo.after hostOps1_1 (StableHlo.after hostOps1 v)) (Proc.devRef .tc main_v50) (ix3 b 0 o) = v (Proc.devRef .tc main_arg5) (ix2 (0 : Fin 2) o) := by
  have e (u : Valuation τ sig (Elt Ideal)) : StableHlo.after hostOps1_2 u (Proc.devRef .tc main_v50) (ix3 b 0 o) = u (Proc.devRef .tc main_v29) (ix1 o) := by
    after_results
    pointwise []
  rw [e, StableHlo.after_of_writes_sub hostOps1_1 _ hostOps1_1_writes (show main_v29 ∉ hostOps1_1_W by decide)]
  after_results
  pointwise []

/-- The padding constant before region 2. -/
theorem cst2 (v : Valuation τ sig (Elt Ideal)) : StableHlo.after hostOps2 v (Proc.devRef .tc main_c_1) = constantI S_ 32 0#32 := by
  after_results

theorem padded2 (v : Valuation τ sig (Elt Ideal)) (h : v (Proc.devRef .tc main_c_1) = constantI S_ 32 0#32) :
    StableHlo.after hostOps2_1 v (Proc.devRef .tc main_v57) = pad64 (v (Proc.devRef .tc main_v51)) := by
  after_results
  unfold pad64
  rw [← h]
  rfl

theorem cut2 (v : Valuation τ sig (Elt Ideal)) : StableHlo.after hostOps2_2 v (Proc.devRef .tc main_v74) = tiles64 (v (Proc.devRef .tc main_v57)) := by
  after_results
  rfl

/-- Region 2's tiles at its entry. -/
theorem entry2 (v : Valuation τ sig (Elt Ideal)) :
    StableHlo.after hostOps2_2 (StableHlo.after hostOps2_1 (StableHlo.after hostOps2 v)) (Proc.devRef .tc main_v74)
      = tiles64 (pad64 (StableHlo.after hostOps2 v (Proc.devRef .tc main_v51))) := by
  rw [cut2, padded2 _ (cst2 v)]

theorem wt2 (v : Valuation τ sig (Elt Ideal)) (dy dx : Fin 3) (i : Fin 64) (o : Fin 64) :
    StableHlo.after hostOps2_2 (StableHlo.after hostOps2_1 (StableHlo.after hostOps2 v)) (Proc.devRef .tc main_v54) (ix4 dy dx i o) = v (Proc.devRef .tc main_arg4) (ix5 (1 : Fin 2) o i dy dx) := by
  rw [StableHlo.after_of_writes_sub hostOps2_2 _ hostOps2_2_writes (show main_v54 ∉ hostOps2_2_W by decide),
    StableHlo.after_of_writes_sub hostOps2_1 _ hostOps2_1_writes (show main_v54 ∉ hostOps2_1_W by decide)]
  after_results
  pointwise []

theorem bs2 (v : Valuation τ sig (Elt Ideal)) (b : Fin 2) (o : Fin 64) :
    StableHlo.after hostOps2_2 (StableHlo.after hostOps2_1 (StableHlo.after hostOps2 v)) (Proc.devRef .tc main_v77) (ix3 b 0 o) = v (Proc.devRef .tc main_arg5) (ix2 (1 : Fin 2) o) := by
  have e (u : Valuation τ sig (Elt Ideal)) : StableHlo.after hostOps2_2 u (Proc.devRef .tc main_v77) (ix3 b 0 o) = u (Proc.devRef .tc main_v56) (ix1 o) := by
    after_results
    pointwise []
  rw [e, StableHlo.after_of_writes_sub hostOps2_1 _ hostOps2_1_writes (show main_v56 ∉ hostOps2_1_W by decide)]
  after_results
  pointwise []

variable (m : (ℓ : Loc nD τ sig) → Buf (Elt Ideal) ℓ) (ρ : Dev nD → PrngReg)

/-- What region 0 leaves: the convolution of its input. -/
theorem out0 (c : Dev nD) : im (W4 m ρ c (Proc.devRef .tc main_v24)) = relu (conv (imc (m ((c : Thread nD τ).loc main_arg0))) (oihw (m ((c : Thread nD τ).loc main_arg2))) (vec (m ((c : Thread nD τ).loc main_arg3)))) := by
  funext b h w o
  refine (congrFun ((W4_arr m ρ c 3).trans (arr0 (V3 m ρ) c)) (ix4 b h w o)).trans ?_
  have et : tileAt (W3 m ρ c (Proc.devRef .tc main_v20)) b h w = win (imc (m ((c : Thread nD τ).loc main_arg0))) b h w := by
    refine (congrArg (fun x => tileAt x b h w) (entry0 (W0 m ρ c))).trans ((win1 _ b h w).trans ?_)
    have ei : im (C := 1) (StableHlo.after hostOps0 (W0 m ρ c) (Proc.devRef .tc main_v0)) = (imc (m ((c : Thread nD τ).loc main_arg0))) := by
      funext b h w c'
      exact im0 (W0 m ρ c) b h w c'
    exact congrArg (fun x => win x b h w) ei
  have ew : (fun (dy dx : Fin 3) (i : Fin 1) => W3 m ρ c (Proc.devRef .tc main_v2) (ix4 dy dx i o)) = fun dy dx i => (oihw (m ((c : Thread nD τ).loc main_arg2))) dy dx i o := by
    funext dy dx i
    exact (wt0 (W0 m ρ c) dy dx i o).trans (congrFun (W0_args m ρ c main_arg2 (by decide)) _)
  have eb : W3 m ρ c (Proc.devRef .tc main_v23) (ix3 b 0 o) = (vec (m ((c : Thread nD τ).loc main_arg3))) o :=
    (bs0 (W0 m ρ c) b o).trans (congrFun (W0_args m ρ c main_arg3 (by decide)) _)
  show max (taps (tileAt (W3 m ρ c (Proc.devRef .tc main_v20)) b h w) (fun (dy dx : Fin 3) (i : Fin 1) => W3 m ρ c (Proc.devRef .tc main_v2) (ix4 dy dx i o)) + W3 m ρ c (Proc.devRef .tc main_v23) (ix3 b 0 o)) 0 = _
  rw [et, ew, eb]
  rfl

/-- What region 1 leaves: the convolution of its input. -/
theorem out1 (c : Dev nD) : im (W8 m ρ c (Proc.devRef .tc main_v51)) = relu (conv (im (W4 m ρ c (Proc.devRef .tc main_v24))) (oihwOf (m ((c : Thread nD τ).loc main_arg4)) (0 : Fin 2)) (vecOf (m ((c : Thread nD τ).loc main_arg5)) (0 : Fin 2))) := by
  funext b h w o
  refine (congrFun ((W8_arr m ρ c 3).trans (arr1 (V7 m ρ) c)) (ix4 b h w o)).trans ?_
  have et : tileAt (W7 m ρ c (Proc.devRef .tc main_v47)) b h w = win (im (W4 m ρ c (Proc.devRef .tc main_v24))) b h w := by
    refine (congrArg (fun x => tileAt x b h w) (entry1 (W4 m ρ c))).trans ((win64 _ b h w).trans ?_)
    have ei : im (C := 64) (StableHlo.after hostOps1 (W4 m ρ c) (Proc.devRef .tc main_v24)) = (im (W4 m ρ c (Proc.devRef .tc main_v24))) := by
      rw [StableHlo.after_of_writes_sub hostOps1 _ hostOps1_writes (show main_v24 ∉ hostOps1_W by decide)]
    exact congrArg (fun x => win x b h w) ei
  have ew : (fun (dy dx : Fin 3) (i : Fin 64) => W7 m ρ c (Proc.devRef .tc main_v27) (ix4 dy dx i o)) = fun dy dx i => (oihwOf (m ((c : Thread nD τ).loc main_arg4)) (0 : Fin 2)) dy dx i o := by
    funext dy dx i
    exact (wt1 (W4 m ρ c) dy dx i o).trans (congrFun (W4_args m ρ c main_arg4 (by decide)) _)
  have eb : W7 m ρ c (Proc.devRef .tc main_v50) (ix3 b 0 o) = (vecOf (m ((c : Thread nD τ).loc main_arg5)) (0 : Fin 2)) o :=
    (bs1 (W4 m ρ c) b o).trans (congrFun (W4_args m ρ c main_arg5 (by decide)) _)
  show max (taps (tileAt (W7 m ρ c (Proc.devRef .tc main_v47)) b h w) (fun (dy dx : Fin 3) (i : Fin 64) => W7 m ρ c (Proc.devRef .tc main_v27) (ix4 dy dx i o)) + W7 m ρ c (Proc.devRef .tc main_v50) (ix3 b 0 o)) 0 = _
  rw [et, ew, eb]
  rfl

/-- What region 2 leaves: the convolution of its input. -/
theorem out2 (c : Dev nD) : im (W12 m ρ c (Proc.devRef .tc main_v78)) = relu (conv (im (W8 m ρ c (Proc.devRef .tc main_v51))) (oihwOf (m ((c : Thread nD τ).loc main_arg4)) (1 : Fin 2)) (vecOf (m ((c : Thread nD τ).loc main_arg5)) (1 : Fin 2))) := by
  funext b h w o
  refine (congrFun ((W12_arr m ρ c 3).trans (arr2 (V11 m ρ) c)) (ix4 b h w o)).trans ?_
  have et : tileAt (W11 m ρ c (Proc.devRef .tc main_v74)) b h w = win (im (W8 m ρ c (Proc.devRef .tc main_v51))) b h w := by
    refine (congrArg (fun x => tileAt x b h w) (entry2 (W8 m ρ c))).trans ((win64 _ b h w).trans ?_)
    have ei : im (C := 64) (StableHlo.after hostOps2 (W8 m ρ c) (Proc.devRef .tc main_v51)) = (im (W8 m ρ c (Proc.devRef .tc main_v51))) := by
      rw [StableHlo.after_of_writes_sub hostOps2 _ hostOps2_writes (show main_v51 ∉ hostOps2_W by decide)]
    exact congrArg (fun x => win x b h w) ei
  have ew : (fun (dy dx : Fin 3) (i : Fin 64) => W11 m ρ c (Proc.devRef .tc main_v54) (ix4 dy dx i o)) = fun dy dx i => (oihwOf (m ((c : Thread nD τ).loc main_arg4)) (1 : Fin 2)) dy dx i o := by
    funext dy dx i
    exact (wt2 (W8 m ρ c) dy dx i o).trans (congrFun (W8_args m ρ c main_arg4 (by decide)) _)
  have eb : W11 m ρ c (Proc.devRef .tc main_v77) (ix3 b 0 o) = (vecOf (m ((c : Thread nD τ).loc main_arg5)) (1 : Fin 2)) o :=
    (bs2 (W8 m ρ c) b o).trans (congrFun (W8_args m ρ c main_arg5 (by decide)) _)
  show max (taps (tileAt (W11 m ρ c (Proc.devRef .tc main_v74)) b h w) (fun (dy dx : Fin 3) (i : Fin 64) => W11 m ρ c (Proc.devRef .tc main_v54) (ix4 dy dx i o)) + W11 m ρ c (Proc.devRef .tc main_v77) (ix3 b 0 o)) 0 = _
  rw [et, ew, eb]
  rfl

end Cert.KernelIdeal.Val
end
-- ==== Proof.Reg3.lean ====
module

public import proofs.«01_k».proof.Proof.Gen.KernelIdeal.Frame.Region3
public import proofs.«01_k».proof.Proof.Spec
public import Idealize.ShloMosaic.Lib.Pointwise
public import Idealize.ShloMosaic.Lib.Pipeline.ValueKit

/-! What region 3 of the kernel, the variational latent, leaves in its result arrays. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The weights of tap (0, 0). -/
abbrev q3_00 : Rect S3x3x64x128 := Rect.unit ![0, 0, 0, 0] ![1, 1, 64, 128] inb_S3x3x64x128_S1x1x64x128_0_0_0_0
/-- The weights of tap (0, 1). -/
abbrev q3_01 : Rect S3x3x64x128 := Rect.unit ![0, 1, 0, 0] ![1, 1, 64, 128] inb_S3x3x64x128_S1x1x64x128_0_1_0_0
/-- The weights of tap (0, 2). -/
abbrev q3_02 : Rect S3x3x64x128 := Rect.unit ![0, 2, 0, 0] ![1, 1, 64, 128] inb_S3x3x64x128_S1x1x64x128_0_2_0_0
/-- The weights of tap (1, 0). -/
abbrev q3_10 : Rect S3x3x64x128 := Rect.unit ![1, 0, 0, 0] ![1, 1, 64, 128] inb_S3x3x64x128_S1x1x64x128_1_0_0_0
/-- The weights of tap (1, 1). -/
abbrev q3_11 : Rect S3x3x64x128 := Rect.unit ![1, 1, 0, 0] ![1, 1, 64, 128] inb_S3x3x64x128_S1x1x64x128_1_1_0_0
/-- The weights of tap (1, 2). -/
abbrev q3_12 : Rect S3x3x64x128 := Rect.unit ![1, 2, 0, 0] ![1, 1, 64, 128] inb_S3x3x64x128_S1x1x64x128_1_2_0_0
/-- The weights of tap (2, 0). -/
abbrev q3_20 : Rect S3x3x64x128 := Rect.unit ![2, 0, 0, 0] ![1, 1, 64, 128] inb_S3x3x64x128_S1x1x64x128_2_0_0_0
/-- The weights of tap (2, 1). -/
abbrev q3_21 : Rect S3x3x64x128 := Rect.unit ![2, 1, 0, 0] ![1, 1, 64, 128] inb_S3x3x64x128_S1x1x64x128_2_1_0_0
/-- The weights of tap (2, 2). -/
abbrev q3_22 : Rect S3x3x64x128 := Rect.unit ![2, 2, 0, 0] ![1, 1, 64, 128] inb_S3x3x64x128_S1x1x64x128_2_2_0_0

/-- The mean's rows of a block, over the loaded blocks. -/
def mu3 (x : Vec Ideal S1x1x30x226x64 .f32) (wt : Vec Ideal S3x3x64x128 .f32) (b : FVec Ideal S1x64 .f32) : FVec Ideal S6272x64 .f32 :=
  k3_pay6 (k3_pay1 x) (k3_pay2 x (View.ld wt q3_00) (View.ld wt q3_01) (View.ld wt q3_02) (View.ld wt q3_10)) (k3_pay3 x)
    (k3_pay4 (View.ld wt q3_11)) (View.ld wt q3_12) (View.ld wt q3_20) (View.ld wt q3_21) (View.ld wt q3_22) b

/-- The log-variance's rows of a block before the bias, over the loaded blocks. -/
def lv3 (x : Vec Ideal S1x1x30x226x64 .f32) (wt : Vec Ideal S3x3x64x128 .f32) : FVec Ideal S6272x64 .f32 :=
  k3_pay7 (k3_pay1 x) (k3_pay2 x (View.ld wt q3_00) (View.ld wt q3_01) (View.ld wt q3_02) (View.ld wt q3_10)) (k3_pay3 x)
    (k3_pay4 (View.ld wt q3_11)) (View.ld wt q3_12) (View.ld wt q3_20) (View.ld wt q3_21) (View.ld wt q3_22)

/-- A row of the mean is the nine taps plus the bias. -/
theorem mu3_at (x : FVec Ideal S1x1x30x226x64 .f32) (wt : FVec Ideal S3x3x64x128 .f32) (b : FVec Ideal S1x64 .f32)
    (r : Fin 28) (w : Fin 224) (o : Fin 64) (h : r.val * 224 + w.val < 6272) : mu3 x wt b (ix2 ⟨r.val * 224 + w.val, h⟩ o)
      = taps (tile x r w) (fun dy dx c => wt (ix4 dy dx c ⟨o, by omega⟩)) + b (ix2 0 o) := by
  rw [taps_nine]
  pointwise [mu3, k3_pay1, k3_pay2, k3_pay3, k3_pay4, k3_pay5, k3_pay6]
  simp only [tile, Fin.val_zero, Fin.val_one, Fin.val_two, Nat.zero_add]

/-- A row of the log-variance before the bias is the nine taps. -/
theorem lv3_at (x : FVec Ideal S1x1x30x226x64 .f32) (wt : FVec Ideal S3x3x64x128 .f32)
    (r : Fin 28) (w : Fin 224) (o : Fin 64) (h : r.val * 224 + w.val < 6272) : lv3 x wt (ix2 ⟨r.val * 224 + w.val, h⟩ o)
      = taps (tile x r w) (fun dy dx c => wt (ix4 dy dx c ⟨64 + o, by omega⟩)) := by
  rw [taps_nine]
  pointwise [lv3, k3_pay1, k3_pay2, k3_pay3, k3_pay4, k3_pay5, k3_pay7]
  simp only [tile, Fin.val_zero, Fin.val_one, Fin.val_two, Nat.zero_add]

/-- A sum over the rows of a tile is a sum over its lines and columns. -/
theorem sum_rows (f : Fin 6272 → EReal) :
    ∑ p, f p = ∑ r : Fin 28, ∑ w : Fin 224, f ⟨r.val * 224 + w.val, by omega⟩ := by
  rw [← Fintype.sum_prod_type' (f := fun (r : Fin 28) (w : Fin 224) => f ⟨r.val * 224 + w.val, by omega⟩)]
  refine (Fintype.sum_equiv (finProdFinEquiv (m := 28) (n := 224)) _ _ fun x => congrArg f (Fin.ext ?_)).symm
  simp [finProdFinEquiv]; omega

/-- A latent draw: the mean plus the deviation times the noise. -/
def zval (m l e : EReal) : EReal := m + Ideal.exp (Ideal.ofBits .f32 1056964608#32 * l) * e

theorem s3_at (l : FVec Ideal S6272x64 .f32) (b : FVec Ideal S1x64 .f32) (r : Fin 28) (w : Fin 224) (o : Fin 64) :
    k3_pay12 l (k3_pay8 b) (ix4 0 r w o) = Ideal.exp (l (ix2 ⟨r.val * 224 + w.val, by omega⟩ o) + b (ix2 0 o)) := by
  pointwise [k3_pay8, k3_pay9, k3_pay12]

theorem m3_at (m : FVec Ideal S6272x64 .f32) (r : Fin 28) (w : Fin 224) (o : Fin 64) :
    k3_pay11 m (ix4 0 r w o) = m (ix2 ⟨r.val * 224 + w.val, by omega⟩ o) := by
  pointwise [k3_pay11]

theorem z3_at (m l : FVec Ideal S6272x64 .f32) (b : FVec Ideal S1x64 .f32) (e : FVec Ideal S1x28x224x64 .f32)
    (r : Fin 28) (w : Fin 224) (o : Fin 64) : k3_pay13 m l (k3_pay8 b) e (ix4 0 r w o)
      = zval (m (ix2 ⟨r.val * 224 + w.val, by omega⟩ o)) (l (ix2 ⟨r.val * 224 + w.val, by omega⟩ o) + b (ix2 0 o)) (e (ix4 0 r w o)) := by
  unfold zval
  pointwise [k3_pay8, k3_pay9, k3_pay10, k3_pay13]

theorem ps3_at (m l : FVec Ideal S6272x64 .f32) (b : FVec Ideal S1x64 .f32) (e : FVec Ideal S1x28x224x64 .f32)
    (acc : FVec Ideal S1x1x64 .f32) (o : Fin 64) : k3_pay15 m l (k3_pay8 b) e acc (ix3 0 0 o)
      = acc (ix3 0 0 o) + ∑ r : Fin 28, ∑ w : Fin 224,
          zval (m (ix2 ⟨r.val * 224 + w.val, by omega⟩ o)) (l (ix2 ⟨r.val * 224 + w.val, by omega⟩ o) + b (ix2 0 o)) (e (ix4 0 r w o)) := by
  unfold zval
  pointwise [k3_pay8, k3_pay9, k3_pay10, k3_pay15]
  rw [sum_rows]
  refine congrArg _ (Finset.sum_congr rfl fun r _ => Finset.sum_congr rfl fun w _ => ?_)
  have h1 : (⟨(r.val * 224 + w.val) / 224, by omega⟩ : Fin 28) = r := Fin.ext (by simp only []; omega)
  have h2 : (⟨(r.val * 224 + w.val) % 224, by omega⟩ : Fin 224) = w := Fin.ext (by simp only []; omega)
  simp only [h1, h2]

theorem zero3_at (o : Fin 64) : k3_pay14 (F := Ideal) (ix3 0 0 o) = 0 := by
  pointwise [k3_pay14]

/-- The mean's array, from the region's inputs. -/
def M3 (xo : FVec Ideal S2x8x30x226x64 .f32) (wt : FVec Ideal S3x3x64x128 .f32) (b : FVec Ideal S1x64 .f32) (i : S2x224x224x64.Idx) : EReal :=
  taps (tileAt xo (i 0) (i 1) (i 2)) (fun dy dx c => wt (ix4 dy dx c ⟨(i 3).val, (show (i 3).val < 64 from (i 3).isLt).trans (by decide)⟩)) + b (ix2 0 (i 3))

/-- The log-variance's array, from the region's inputs. -/
def L3 (xo : FVec Ideal S2x8x30x226x64 .f32) (wt : FVec Ideal S3x3x64x128 .f32) (b : FVec Ideal S1x64 .f32) (i : S2x224x224x64.Idx) : EReal :=
  taps (tileAt xo (i 0) (i 1) (i 2)) (fun dy dx c => wt (ix4 dy dx c ⟨64 + (i 3).val, Nat.add_lt_add_left (show (i 3).val < 64 from (i 3).isLt) 64⟩)) + b (ix2 0 (i 3))

variable (V : (c : Dev nD) → (b : Ref sig .tc) → Buf (Elt Ideal) ((c : Thread nD τ).loc b))

theorem idx3_0 : ∀ t : Fin cfg3.N, win3_0.index t = ![t.val / 8, t.val % 8, 0, 0, 0] := by decide +kernel
theorem idx3_1 : ∀ t : Fin cfg3.N, win3_1.index t = ![0, 0, 0, 0] := by decide +kernel
theorem idx3_2 : ∀ t : Fin cfg3.N, win3_2.index t = ![0, 0] := by decide +kernel
theorem idx3_3 : ∀ t : Fin cfg3.N, win3_3.index t = ![0, 0] := by decide +kernel
theorem idx3_4 : ∀ t : Fin cfg3.N, win3_4.index t = ![t.val / 8, t.val % 8, 0, 0] := by decide +kernel
theorem idx3_5 : ∀ t : Fin cfg3.N, win3_5.index t = ![t.val / 8, t.val % 8, 0, 0] := by decide +kernel
theorem idx3_6 : ∀ t : Fin cfg3.N, win3_6.index t = ![t.val / 8, t.val % 8, 0, 0] := by decide +kernel
theorem idx3_7 : ∀ t : Fin cfg3.N, win3_7.index t = ![t.val / 8, t.val % 8, 0, 0] := by decide +kernel
theorem idx3_8 : ∀ t : Fin cfg3.N, win3_8.index t = ![t.val / 8, 0, 0] := by decide +kernel

/-- The tile at point `t` is tile `t % 8` of image `t / 8`. -/
theorem blk3_0 (c : Dev nD) (t : Fin cfg3.N) (ht : t.val < 16) (a : Fin 30) (b : Fin 226) (d : Fin 64) :
    iblk3 V c 0 t (ix5 0 0 a b d) = V c main_v99 (ix5 (⟨t.val / 8, by omega⟩ : Fin 2) (⟨t.val % 8, by omega⟩ : Fin 8) a b d) := by
  blk_simp [iblk3]
  refine congrArg _ (funext fun e => Fin.ext ?_)
  blk_simp [idx3_0]
  fin_cases e <;> simp

/-- The weights at every point are the whole array. -/
theorem blk3_1 (c : Dev nD) (t : Fin cfg3.N) (y : S3x3x64x128.Idx) : iblk3 V c 1 t y = V c main_v81 y := by
  blk_simp [iblk3]
  refine congrArg _ (funext fun e => Fin.ext ?_)
  blk_simp [idx3_1]
  fin_cases e <;> simp

/-- The mean's bias at every point is the whole array. -/
theorem blk3_2 (c : Dev nD) (t : Fin cfg3.N) (y : S1x64.Idx) : iblk3 V c 2 t y = V c main_v100 y := by
  blk_simp [iblk3]
  refine congrArg _ (funext fun e => Fin.ext ?_)
  blk_simp [idx3_2]
  fin_cases e <;> simp

/-- The log-variance's bias at every point is the whole array. -/
theorem blk3_3 (c : Dev nD) (t : Fin cfg3.N) (y : S1x64.Idx) : iblk3 V c 3 t y = V c main_v101 y := by
  blk_simp [iblk3]
  refine congrArg _ (funext fun e => Fin.ext ?_)
  blk_simp [idx3_3]
  fin_cases e <;> simp

/-- The noise at point `t` is the rows of tile `t % 8` of image `t / 8`. -/
theorem blk3_4 (c : Dev nD) (t : Fin cfg3.N) (ht : t.val < 16) (r : Fin 28) (w : Fin 224) (o : Fin 64) :
    iblk3 V c 4 t (ix4 0 r w o) = V c main_v1 (ix4 (⟨t.val / 8, by omega⟩ : Fin 2) (⟨t.val % 8 * 28 + r, by omega⟩ : Fin 224) w o) := by
  blk_simp [iblk3]
  refine congrArg _ (funext fun e => Fin.ext ?_)
  blk_simp [idx3_4]
  fin_cases e <;> simp

/-- Where the output block 5 of point `t` sits in its array. -/
theorem emb3_5 (t : Fin cfg3.N) (ht : t.val < 16) (r : Fin 28) (w : Fin 224) (o : Fin 64) :
    ((win3_5.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx3_5]
  fin_cases e <;> simp

/-- Where the output block 6 of point `t` sits in its array. -/
theorem emb3_6 (t : Fin cfg3.N) (ht : t.val < 16) (r : Fin 28) (w : Fin 224) (o : Fin 64) :
    ((win3_6.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx3_6]
  fin_cases e <;> simp

/-- Where the output block 7 of point `t` sits in its array. -/
theorem emb3_7 (t : Fin cfg3.N) (ht : t.val < 16) (r : Fin 28) (w : Fin 224) (o : Fin 64) :
    ((win3_7.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx3_7]
  fin_cases e <;> simp

/-- Where the sums' block of point `t` sits in its array. -/
theorem emb3_8 (t : Fin cfg3.N) (ht : t.val < 16) (o : Fin 64) :
    ((win3_8.blk t).view.emb (ix3 0 0 o : S1x1x64.Idx) : S2x1x64.Idx) = ix3 (⟨t.val / 8, by omega⟩ : Fin 2) 0 o := by
  refine (funext fun e => Fin.ext ?_)
  blk_simp [idx3_8]
  fin_cases e <;> simp

/-- The mean's row at point `t`, over the region's inputs. -/
theorem mu3_blk (c : Dev nD) (t : Fin cfg3.N) (ht : t.val < 16) (r : Fin 28) (w : Fin 224) (o : Fin 64) :
    mu3 (iblk3 V c 0 t) (iblk3 V c 1 t) (iblk3 V c 2 t) (ix2 ⟨r.val * 224 + w.val, by omega⟩ o)
      = M3 (V c main_v99) (V c main_v81) (V c main_v100) (ix4 (⟨t.val / 8, by omega⟩ : Fin 2) (⟨t.val % 8 * 28 + r, by omega⟩ : Fin 224) w o) := by
  refine (mu3_at _ _ _ r w o _).trans ?_
  unfold tile
  simp only [blk3_0 V c t ht, blk3_1, blk3_2]
  have e := tileAt_row (V c main_v99) (⟨t.val / 8, by omega⟩ : Fin 2) (⟨t.val % 8, by omega⟩ : Fin 8) r w
  rw [← e]
  rfl

/-- The log-variance's row at point `t`, over the region's inputs. -/
theorem lv3_blk (c : Dev nD) (t : Fin cfg3.N) (ht : t.val < 16) (r : Fin 28) (w : Fin 224) (o : Fin 64) :
    lv3 (iblk3 V c 0 t) (iblk3 V c 1 t) (ix2 ⟨r.val * 224 + w.val, by omega⟩ o) + iblk3 V c 3 t (ix2 0 o : S1x64.Idx)
      = L3 (V c main_v99) (V c main_v81) (V c main_v101) (ix4 (⟨t.val / 8, by omega⟩ : Fin 2) (⟨t.val % 8 * 28 + r, by omega⟩ : Fin 224) w o) := by
  refine (congrArg (· + _) (lv3_at _ _ r w o _)).trans ?_
  unfold tile
  simp only [blk3_0 V c t ht, blk3_1, blk3_3]
  have e := tileAt_row (V c main_v99) (⟨t.val / 8, by omega⟩ : Fin 2) (⟨t.val % 8, by omega⟩ : Fin 8) r w
  rw [← e]
  rfl

/-- What point `t` writes to the first three output blocks. -/
theorem outs3_5 (c : Dev nD) (t : Fin cfg3.N) :
    (outsAt3 V c t.val t.isLt).1 = k3_pay11 (mu3 (iblk3 V c 0 t) (iblk3 V c 1 t) (iblk3 V c 2 t)) := by
  by_cases h : t.val % 8 = 0
  · rw [outsAt3_A V c t h]; frame_out; rfl
  · rw [outsAt3_B V c t h]; frame_out; rfl

theorem outs3_6 (c : Dev nD) (t : Fin cfg3.N) : (outsAt3 V c t.val t.isLt).2.1
    = k3_pay12 (lv3 (iblk3 V c 0 t) (iblk3 V c 1 t)) (k3_pay8 (iblk3 V c 3 t)) := by
  by_cases h : t.val % 8 = 0
  · rw [outsAt3_A V c t h]; frame_out; rfl
  · rw [outsAt3_B V c t h]; frame_out; rfl

theorem outs3_7 (c : Dev nD) (t : Fin cfg3.N) : (outsAt3 V c t.val t.isLt).2.2.1
    = k3_pay13 (mu3 (iblk3 V c 0 t) (iblk3 V c 1 t) (iblk3 V c 2 t)) (lv3 (iblk3 V c 0 t) (iblk3 V c 1 t)) (k3_pay8 (iblk3 V c 3 t)) (iblk3 V c 4 t) := by
  by_cases h : t.val % 8 = 0
  · rw [outsAt3_A V c t h]; frame_out; rfl
  · rw [outsAt3_B V c t h]; frame_out; rfl

/-- The latent draw's array, from the region's inputs. -/
def Z3 (xo : FVec Ideal S2x8x30x226x64 .f32) (wt : FVec Ideal S3x3x64x128 .f32) (b b' : FVec Ideal S1x64 .f32)
    (e : FVec Ideal S2x224x224x64 .f32) (i : S2x224x224x64.Idx) : EReal := zval (M3 xo wt b i) (L3 xo wt b' i) (e i)

/-- The output array 5 after the region. -/
theorem arr3_5 (c : Dev nD) : (dat3 V c).arrAt 5 cfg3.N = M3 (V c main_v99) (V c main_v81) (V c main_v100) := by
  refine (dat3 V c).arrAt_eq_of_covers 5 _ (by decide +kernel) fun t hf y => ?_
  blk_simp
  rw [after3_5, outs3_5]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine ((m3_at _ r w o).trans (mu3_blk V c t ht r w o)).trans ?_
  exact congrArg _ (emb3_5 t ht r w o).symm

/-- The output array 6 after the region. -/
theorem arr3_6 (c : Dev nD) : (dat3 V c).arrAt 6 cfg3.N = fun i => Ideal.exp (L3 (V c main_v99) (V c main_v81) (V c main_v101) i) := by
  refine (dat3 V c).arrAt_eq_of_covers 6 _ (by decide +kernel) fun t hf y => ?_
  blk_simp
  rw [after3_6, outs3_6]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine ((s3_at _ _ r w o).trans (congrArg Ideal.exp (lv3_blk V c t ht r w o))).trans ?_
  exact congrArg (fun i => Ideal.exp (L3 (V c main_v99) (V c main_v81) (V c main_v101) i)) (emb3_6 t ht r w o).symm

/-- The output array 7 after the region. -/
theorem arr3_7 (c : Dev nD) : (dat3 V c).arrAt 7 cfg3.N = Z3 (V c main_v99) (V c main_v81) (V c main_v100) (V c main_v101) (V c main_v1) := by
  refine (dat3 V c).arrAt_eq_of_covers 7 _ (by decide +kernel) fun t hf y => ?_
  blk_simp
  rw [after3_7, outs3_7]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine ((z3_at _ _ _ _ r w o).trans (congr (congr (congrArg zval (mu3_blk V c t ht r w o)) (lv3_blk V c t ht r w o)) (blk3_4 V c t ht r w o))).trans ?_
  exact congrArg (Z3 (V c main_v99) (V c main_v81) (V c main_v100) (V c main_v101) (V c main_v1)) (emb3_7 t ht r w o).symm

/-- What point `t` adds to the sums. -/
theorem ps3_blk (c : Dev nD) (t : Fin cfg3.N) (ht : t.val < 16) (acc : FVec Ideal S1x1x64 .f32) (o : Fin 64) :
    k3_pay15 (mu3 (iblk3 V c 0 t) (iblk3 V c 1 t) (iblk3 V c 2 t)) (lv3 (iblk3 V c 0 t) (iblk3 V c 1 t)) (k3_pay8 (iblk3 V c 3 t)) (iblk3 V c 4 t) acc (ix3 0 0 o)
      = acc (ix3 0 0 o) + ∑ r : Fin 28, ∑ w : Fin 224, Z3 (V c main_v99) (V c main_v81) (V c main_v100) (V c main_v101) (V c main_v1)
          (ix4 (⟨t.val / 8, by omega⟩ : Fin 2) (⟨t.val % 8 * 28 + r, by omega⟩ : Fin 224) w o) := by
  refine (ps3_at _ _ _ _ _ o).trans (congrArg _ (Finset.sum_congr rfl fun r _ => Finset.sum_congr rfl fun w _ => ?_))
  exact congr (congr (congrArg zval (mu3_blk V c t ht r w o)) (lv3_blk V c t ht r w o)) (blk3_4 V c t ht r w o)

/-- A sum over the eight tiles' lines is a sum over the image's lines. -/
theorem sum_tiles (f : Fin 224 → EReal) : ∑ s : Fin 8, ∑ r : Fin 28, f ⟨s.val * 28 + r.val, by omega⟩ = ∑ h, f h := by
  rw [← Fintype.sum_prod_type' (f := fun (s : Fin 8) (r : Fin 28) => f ⟨s.val * 28 + r.val, by omega⟩)]
  refine Fintype.sum_equiv (finProdFinEquiv (m := 8) (n := 28)) _ _ fun x => congrArg f (Fin.ext ?_)
  simp [finProdFinEquiv]; omega

/-- An index of a block of sums is one channel. -/
theorem ix_sums (y : S1x1x64.Idx) : y = (ix3 0 0 (y 2) : S1x1x64.Idx) := by
  refine funext fun e => ?_
  fin_cases e
  · exact Subsingleton.elim (α := Fin 1) _ _
  · exact Subsingleton.elim (α := Fin 1) _ _
  · rfl

/-- One tile's part of the sums. -/
def part3 (c : Dev nD) (t : Fin cfg3.N) (j : S1x1x64.Idx) : EReal :=
  ∑ r : Fin 28, ∑ w : Fin 224, Z3 (V c main_v99) (V c main_v81) (V c main_v100) (V c main_v101) (V c main_v1)
    (ix4 (⟨t.val / 8, by have : t.val < 16 := t.isLt; omega⟩ : Fin 2) (⟨t.val % 8 * 28 + r, by omega⟩ : Fin 224) w (j 2))

theorem outs3_8A (c : Dev nD) (t : Fin cfg3.N) (h : t.val % 8 = 0) (j : S1x1x64.Idx) :
    (outsAt3 V c t.val t.isLt).2.2.2 j = 0 + part3 V c t j := by
  rw [outsAt3_A V c t h]; frame_out
  rw [ix_sums j]
  refine (ps3_blk V c t t.isLt _ _).trans ?_
  exact congrArg (· + _) (zero3_at (j 2))

theorem outs3_8B (c : Dev nD) (t : Fin cfg3.N) (h : ¬ t.val % 8 = 0) (j : S1x1x64.Idx) :
    (outsAt3 V c t.val t.isLt).2.2.2 j
      = (outsAt3 V c (t.val - 1) (Nat.lt_of_le_of_lt (Nat.sub_le _ _) t.isLt)).2.2.2 j + part3 V c t j := by
  rw [outsAt3_B V c t h]; frame_out
  rw [ix_sums j]
  refine (ps3_blk V c t t.isLt _ _).trans ?_
  rfl

/-- The sums' array: each channel of each image summed over the image. -/
def P3 (z : S2x224x224x64.Idx → EReal) (i : S2x1x64.Idx) : EReal := ∑ h : Fin 224, ∑ w : Fin 224, z (ix4 (i 0) h w (i 2))

/-- The sums' array after the region: each channel of each image summed over the image. -/
theorem arr3_8 (c : Dev nD) : (dat3 V c).arrAt 8 cfg3.N
    = P3 (Z3 (V c main_v99) (V c main_v81) (V c main_v100) (V c main_v101) (V c main_v1)) := by
  refine (dat3 V c).arrAt_eq_of_covers 8 _ (by decide +kernel) fun t hf y => ?_
  blk_simp
  have ht : t.val < 16 := t.isLt
  obtain ⟨o, rfl⟩ : ∃ o, y = (ix3 0 0 o : S1x1x64.Idx) := ⟨_, ix_sums y⟩
  refine Eq.trans ?_ (congrArg (P3 (Z3 (V c main_v99) (V c main_v81) (V c main_v100) (V c main_v101) (V c main_v1))) (emb3_8 t ht o).symm)
  rw [after3_8, Pipeline.eq_sum_fin_of_reset_step_apply_of_flush (fun n h => (outsAt3 V c n h).2.2.2) 8 (fun _ => 0)
    (part3 V c) (outs3_8A V c) (outs3_8B V c) t ((flush3_8 t).mp hf) _, zero_add]
  have key : (∑ s : Fin 8, part3 V c ⟨8 * (t.val / 8) + s.val, Pipeline.run_point_lt_of_flush t ((flush3_8 t).mp hf) s⟩ (ix3 0 0 o))
      = P3 (Z3 (V c main_v99) (V c main_v81) (V c main_v100) (V c main_v101) (V c main_v1)) (ix3 (⟨t.val / 8, by omega⟩ : Fin 2) 0 o) := by
    unfold part3 P3
    refine Eq.trans ?_ (sum_tiles (fun h => ∑ w : Fin 224, Z3 (V c main_v99) (V c main_v81) (V c main_v100) (V c main_v101) (V c main_v1)
      (ix4 (⟨t.val / 8, by omega⟩ : Fin 2) h w o)))
    refine Finset.sum_congr rfl fun s _ => Finset.sum_congr rfl fun r _ => Finset.sum_congr rfl fun w _ => ?_
    congr 1
    refine congr (congr (congr (congrArg ix4 (Fin.ext ?_)) (Fin.ext ?_)) rfl) rfl
    · show (8 * (t.val / 8) + s.val) / 8 = t.val / 8
      omega
    · show (8 * (t.val / 8) + s.val) % 8 * 28 + r.val = s.val * 28 + r.val
      omega
  exact key

end Cert.KernelIdeal.Val
end
-- ==== Proof.ChainB.lean ====
module

public import proofs.«01_k».proof.Proof.Tiles
public import proofs.«01_k».proof.Proof.Reg3
public import Idealize.ShloMosaic.Lib.Claim

/-! What the variational latent's region leaves, over the arguments and the encoder's result. -/

@[expose] public section

set_option maxRecDepth 16384

noncomputable section

namespace Cert.KernelIdeal.Val

open Idealize.ShloMosaic Idealize.ShloMosaic.TcCoe Idealize.SL.Sem
open Cert.KernelIdeal Cert.KernelIdeal.Gen Conv

/-- The padding constant before region 3. -/
theorem cst3 (v : Valuation τ sig (Elt Ideal)) : StableHlo.after hostOps3 v (Proc.devRef .tc main_c_2) = constantI S_ 32 0#32 := by
  after_results

theorem padded3 (v : Valuation τ sig (Elt Ideal)) (h : v (Proc.devRef .tc main_c_2) = constantI S_ 32 0#32) :
    StableHlo.after hostOps3_1 v (Proc.devRef .tc main_v82) = pad64 (v (Proc.devRef .tc main_v78)) := by
  after_results
  unfold pad64
  rw [← h]
  rfl

theorem cut3 (v : Valuation τ sig (Elt Ideal)) : StableHlo.after hostOps3_2 v (Proc.devRef .tc main_v99) = tiles64 (v (Proc.devRef .tc main_v82)) := by
  after_results
  rfl

/-- Region 3's tiles at its entry. -/
theorem entry3 (v : Valuation τ sig (Elt Ideal)) :
    StableHlo.after hostOps3_2 (StableHlo.after hostOps3_1 (StableHlo.after hostOps3 v)) (Proc.devRef .tc main_v99)
      = tiles64 (pad64 (StableHlo.after hostOps3 v (Proc.devRef .tc main_v78))) := by
  rw [cut3, padded3 _ (cst3 v)]

/-- The mean's weights are the first half of region 3's weights. -/
theorem wt3m (v : Valuation τ sig (Elt Ideal)) (dy dx : Fin 3) (i : Fin 64) (o : Fin 64) :
    StableHlo.after hostOps3_2 (StableHlo.after hostOps3_1 (StableHlo.after hostOps3 v)) (Proc.devRef .tc main_v81) (ix4 dy dx i (⟨o, by omega⟩ : Fin 128)) = v (Proc.devRef .tc main_arg6) (ix4 o i dy dx) := by
  rw [StableHlo.after_of_writes_sub hostOps3_2 _ hostOps3_2_writes (show main_v81 ∉ hostOps3_2_W by decide),
    StableHlo.after_of_writes_sub hostOps3_1 _ hostOps3_1_writes (show main_v81 ∉ hostOps3_1_W by decide)]
  after_results
  pointwise []

/-- The log-variance's weights are the second half of region 3's weights. -/
theorem wt3l (v : Valuation τ sig (Elt Ideal)) (dy dx : Fin 3) (i : Fin 64) (o : Fin 64) :
    StableHlo.after hostOps3_2 (StableHlo.after hostOps3_1 (StableHlo.after hostOps3 v)) (Proc.devRef .tc main_v81) (ix4 dy dx i (⟨64 + o, by omega⟩ : Fin 128)) = v (Proc.devRef .tc main_arg8) (ix4 o i dy dx) := by
  rw [StableHlo.after_of_writes_sub hostOps3_2 _ hostOps3_2_writes (show main_v81 ∉ hostOps3_2_W by decide),
    StableHlo.after_of_writes_sub hostOps3_1 _ hostOps3_1_writes (show main_v81 ∉ hostOps3_1_W by decide)]
  after_results
  pointwise []

theorem bs3m (v : Valuation τ sig (Elt Ideal)) (o : Fin 64) :
    StableHlo.after hostOps3_2 (StableHlo.after hostOps3_1 (StableHlo.after hostOps3 v)) (Proc.devRef .tc main_v100) (ix2 0 o) = v (Proc.devRef .tc main_arg7) (ix1 o) := by
  have e (u : Valuation τ sig (Elt Ideal)) : StableHlo.after hostOps3_2 u (Proc.devRef .tc main_v100) (ix2 0 o) = u (Proc.devRef .tc main_arg7) (ix1 o) := by
    after_results
    pointwise []
  rw [e, StableHlo.after_of_writes_sub hostOps3_1 _ hostOps3_1_writes (show main_arg7 ∉ hostOps3_1_W by decide),
    StableHlo.after_of_writes_sub hostOps3 _ hostOps3_writes (show main_arg7 ∉ hostOps3_W by decide)]

theorem bs3l (v : Valuation τ sig (Elt Ideal)) (o : Fin 64) :
    StableHlo.after hostOps3_2 (StableHlo.after hostOps3_1 (StableHlo.after hostOps3 v)) (Proc.devRef .tc main_v101) (ix2 0 o) = v (Proc.devRef .tc main_arg9) (ix1 o) := by
  have e (u : Valuation τ sig (Elt Ideal)) : StableHlo.after hostOps3_2 u (Proc.devRef .tc main_v101) (ix2 0 o) = u (Proc.devRef .tc main_arg9) (ix1 o) := by
    after_results
    pointwise []
  rw [e, StableHlo.after_of_writes_sub hostOps3_1 _ hostOps3_1_writes (show main_arg9 ∉ hostOps3_1_W by decide),
    StableHlo.after_of_writes_sub hostOps3 _ hostOps3_writes (show main_arg9 ∉ hostOps3_W by decide)]

/-- The noise with its channels last. -/
theorem im1 (v : Valuation τ sig (Elt Ideal)) (b : Fin 2) (h w : Fin 224) (i : Fin 64) :
    StableHlo.after hostOps0 v (Proc.devRef .tc main_v1) (ix4 b h w i) = v (Proc.devRef .tc main_arg1) (ix4 b i h w) := by
  after_results
  pointwise []

variable (m : (ℓ : Loc nD τ sig) → Buf (Elt Ideal) ℓ) (ρ : Dev nD → PrngReg)

/-- The image of means. -/
abbrev muI (c : Dev nD) : Img 64 := conv (im (W12 m ρ c (Proc.devRef .tc main_v78))) (oihw (m ((c : Thread nD τ).loc main_arg6))) (vec (m ((c : Thread nD τ).loc main_arg7)))

/-- The image of log-variances. -/
abbrev lvI (c : Dev nD) : Img 64 := conv (im (W12 m ρ c (Proc.devRef .tc main_v78))) (oihw (m ((c : Thread nD τ).loc main_arg8))) (vec (m ((c : Thread nD τ).loc main_arg9)))

/-- The image of latent draws. -/
abbrev zI (c : Dev nD) : Img 64 := fun b h w o => zval (muI m ρ c b h w o) (lvI m ρ c b h w o) (imc (m ((c : Thread nD τ).loc main_arg1)) b h w o)

theorem tile3 (c : Dev nD) (b : Fin 2) (h w : Fin 224) : tileAt (W15 m ρ c (Proc.devRef .tc main_v99)) b h w = win (im (W12 m ρ c (Proc.devRef .tc main_v78))) b h w := by
  refine (congrArg (fun x => tileAt x b h w) (entry3 (W12 m ρ c))).trans ((win64 _ b h w).trans ?_)
  have ei : im (C := 64) (StableHlo.after hostOps3 (W12 m ρ c) (Proc.devRef .tc main_v78)) = (im (W12 m ρ c (Proc.devRef .tc main_v78))) := by
    rw [StableHlo.after_of_writes_sub hostOps3 _ hostOps3_writes (show main_v78 ∉ hostOps3_W by decide)]
  exact congrArg (fun x => win x b h w) ei

/-- Region 3's mean is the convolution. -/
theorem m3_eq (c : Dev nD) (b : Fin 2) (h w : Fin 224) (o : Fin 64) :
    M3 (W15 m ρ c (Proc.devRef .tc main_v99)) (W15 m ρ c (Proc.devRef .tc main_v81)) (W15 m ρ c (Proc.devRef .tc main_v100)) (ix4 b h w o) = muI m ρ c b h w o := by
  have ew : (fun (dy dx : Fin 3) (i : Fin 64) => W15 m ρ c (Proc.devRef .tc main_v81) (ix4 dy dx i (⟨o, by omega⟩ : Fin 128))) = fun dy dx i => oihw (m ((c : Thread nD τ).loc main_arg6)) dy dx i o := by
    funext dy dx i
    exact (wt3m (W12 m ρ c) dy dx i o).trans (congrFun (W12_args m ρ c main_arg6 (by decide)) _)
  have eb : W15 m ρ c (Proc.devRef .tc main_v100) (ix2 0 o) = vec (m ((c : Thread nD τ).loc main_arg7)) o :=
    (bs3m (W12 m ρ c) o).trans (congrFun (W12_args m ρ c main_arg7 (by decide)) _)
  show taps (tileAt (W15 m ρ c (Proc.devRef .tc main_v99)) b h w) (fun (dy dx : Fin 3) (i : Fin 64) => W15 m ρ c (Proc.devRef .tc main_v81) (ix4 dy dx i (⟨o, by omega⟩ : Fin 128))) + W15 m ρ c (Proc.devRef .tc main_v100) (ix2 0 o) = _
  rw [tile3, ew, eb]
  rfl

/-- Region 3's log-variance is the convolution. -/
theorem l3_eq (c : Dev nD) (b : Fin 2) (h w : Fin 224) (o : Fin 64) :
    L3 (W15 m ρ c (Proc.devRef .tc main_v99)) (W15 m ρ c (Proc.devRef .tc main_v81)) (W15 m ρ c (Proc.devRef .tc main_v101)) (ix4 b h w o) = lvI m ρ c b h w o := by
  have ew : (fun (dy dx : Fin 3) (i : Fin 64) => W15 m ρ c (Proc.devRef .tc main_v81) (ix4 dy dx i (⟨64 + o, by omega⟩ : Fin 128))) = fun dy dx i => oihw (m ((c : Thread nD τ).loc main_arg8)) dy dx i o := by
    funext dy dx i
    exact (wt3l (W12 m ρ c) dy dx i o).trans (congrFun (W12_args m ρ c main_arg8 (by decide)) _)
  have eb : W15 m ρ c (Proc.devRef .tc main_v101) (ix2 0 o) = vec (m ((c : Thread nD τ).loc main_arg9)) o :=
    (bs3l (W12 m ρ c) o).trans (congrFun (W12_args m ρ c main_arg9 (by decide)) _)
  show taps (tileAt (W15 m ρ c (Proc.devRef .tc main_v99)) b h w) (fun (dy dx : Fin 3) (i : Fin 64) => W15 m ρ c (Proc.devRef .tc main_v81) (ix4 dy dx i (⟨64 + o, by omega⟩ : Fin 128))) + W15 m ρ c (Proc.devRef .tc main_v101) (ix2 0 o) = _
  rw [tile3, ew, eb]
  rfl

/-- The noise at region 3's entry. -/
theorem eps3 (c : Dev nD) (b : Fin 2) (h w : Fin 224) (o : Fin 64) : W15 m ρ c (Proc.devRef .tc main_v1) (ix4 b h w o) = imc (m ((c : Thread nD τ).loc main_arg1)) b h w o :=
  (congrFun ((W15_of m ρ c main_v1 (by decide)).trans ((W14_of m ρ c main_v1 (by decide)).trans ((W13_of m ρ c main_v1 (by decide)).trans ((W12_of m ρ c main_v1 (by decide +kernel)).trans ((W11_of m ρ c main_v1 (by decide)).trans ((W10_of m ρ c main_v1 (by decide)).trans ((W9_of m ρ c main_v1 (by decide)).trans ((W8_of m ρ c main_v1 (by decide +kernel)).trans ((W7_of m ρ c main_v1 (by decide)).trans ((W6_of m ρ c main_v1 (by decide)).trans ((W5_of m ρ c main_v1 (by decide)).trans ((W4_of m ρ c main_v1 (by decide +kernel)).trans ((W3_of m ρ c main_v1 (by decide)).trans (W2_of m ρ c main_v1 (by decide))))))))))))))) _).trans (im1 (W0 m ρ c) b h w o)

theorem z3_eq (c : Dev nD) (b : Fin 2) (h w : Fin 224) (o : Fin 64) :
    Z3 (W15 m ρ c (Proc.devRef .tc main_v99)) (W15 m ρ c (Proc.devRef .tc main_v81)) (W15 m ρ c (Proc.devRef .tc main_v100)) (W15 m ρ c (Proc.devRef .tc main_v101)) (W15 m ρ c (Proc.devRef .tc main_v1)) (ix4 b h w o)
      = zI m ρ c b h w o :=
  congr (congr (congrArg zval (m3_eq m ρ c b h w o)) (l3_eq m ρ c b h w o)) (eps3 m ρ c b h w o)

/-- What region 3 leaves: the mean, -/
theorem out3_mu (c : Dev nD) : im (W16 m ρ c (Proc.devRef .tc main_v102_0)) = muI m ρ c := by
  funext b h w o
  exact (congrFun ((W16_arr m ρ c 5).trans (arr3_5 (V15 m ρ) c)) (ix4 b h w o)).trans (m3_eq m ρ c b h w o)

/-- the variance, -/
theorem out3_s2 (c : Dev nD) : im (W16 m ρ c (Proc.devRef .tc main_v102_1)) = fun b h w o => Ideal.exp (lvI m ρ c b h w o) := by
  funext b h w o
  exact (congrFun ((W16_arr m ρ c 6).trans (arr3_6 (V15 m ρ) c)) (ix4 b h w o)).trans (congrArg Ideal.exp (l3_eq m ρ c b h w o))

/-- the latent draw, -/
theorem out3_z (c : Dev nD) : im (W16 m ρ c (Proc.devRef .tc main_v102_2)) = zI m ρ c := by
  funext b h w o
  exact (congrFun ((W16_arr m ρ c 7).trans (arr3_7 (V15 m ρ) c)) (ix4 b h w o)).trans (z3_eq m ρ c b h w o)

/-- and the draw's sums over each image. -/
theorem out3_ps (c : Dev nD) (b : Fin 2) (o : Fin 64) :
    W16 m ρ c (Proc.devRef .tc main_v102_3) (ix3 b 0 o) = ∑ h, ∑ w, zI m ρ c b h w o := by
  have key : P3 (Z3 (W15 m ρ c (Proc.devRef .tc main_v99)) (W15 m ρ c (Proc.devRef .tc main_v81)) (W15 m ρ c (Proc.devRef .tc main_v100)) (W15 m ρ c (Proc.devRef .tc main_v101)) (W15 m ρ c (Proc.devRef .tc main_v1))) (ix3 b 0 o)
      = ∑ h, ∑ w, zI m ρ c b h w o :=
    Finset.sum_congr rfl fun h _ => Finset.sum_congr rfl fun w _ => z3_eq m ρ c b h w o
  exact (congrFun ((W16_arr m ρ c 8).trans (arr3_8 (V15 m ρ) c)) (ix3 b 0 o)).trans key

end Cert.KernelIdeal.Val
end
-- ==== Proof.Reg4.lean ====
module

public import proofs.«01_k».proof.Proof.Gen.KernelIdeal.Frame.Region4
public import proofs.«01_k».proof.Proof.Spec
public import Idealize.ShloMosaic.Lib.Pointwise
public import Idealize.ShloMosaic.Lib.Pipeline.ValueKit

/-! What region 4 of the kernel, the two chosen experts' first convolutions, stacked, leaves in its result array. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The body's output block at row `r`, column `w`, channel `o`: the nine taps over its tile, plus the bias. -/
theorem out4_at (x : FVec Ideal S1x1x30x226x64 .f32) (wt : FVec Ideal S1x3x3x64x128 .f32)
    (b : FVec Ideal S1x1x128 .f32) (r : Fin 28) (w : Fin 224) (o : Fin 128) :
    out4_3 (F := Ideal) x wt b (ix4 0 r w o)
      = max (taps (tile x r w) (fun dy dx c => wt (ix5 0 dy dx c o)) + b (ix3 0 0 o)) 0 := by
  unfold out4_3
  rw [View.canon_unit_zero (show (![0, 0, 0, 0] : Fin 4 → Nat) = fun _ => 0 from funext fun a => by fin_cases a <;> rfl), taps_nine]
  pointwise [k4_pay1, k4_pay2, k4_pay3, k4_pay4, k4_pay5]
  simp only [tile, Fin.val_zero, Fin.val_one, Fin.val_two, Nat.zero_add]

/-- The whole result array: the convolution of the tiled input. -/
def G4 (xo : FVec Ideal S2x8x30x226x64 .f32) (wt : FVec Ideal S2x3x3x64x128 .f32) (b : FVec Ideal S2x1x128 .f32) :
    FVec Ideal S2x224x224x128 .f32 := fun i =>
  max (taps (tileAt xo (i 0) (i 1) (i 2)) (fun dy dx c => wt (ix5 (i 0) dy dx c (i 3))) + b (ix3 (i 0) 0 (i 3))) 0

variable (V : (c : Dev nD) → (b : Ref sig .tc) → Buf (Elt Ideal) ((c : Thread nD τ).loc b))

theorem idx4_0 : ∀ t : Fin cfg4.N, win4_0.index t = ![t.val / 8, t.val % 8, 0, 0, 0] := by decide +kernel
theorem idx4_1 : ∀ t : Fin cfg4.N, win4_1.index t = ![t.val / 8, 0, 0, 0, 0] := by decide +kernel
theorem idx4_2 : ∀ t : Fin cfg4.N, win4_2.index t = ![t.val / 8, 0, 0] := by decide +kernel
theorem idx4_3 : ∀ t : Fin cfg4.N, win4_3.index t = ![t.val / 8, t.val % 8, 0, 0] := by decide +kernel

/-- The tile at point `t` is tile `t % 8` of image `t / 8`. -/
theorem blk4_0 (c : Dev nD) (t : Fin cfg4.N) (ht : t.val < 16) (a : Fin 30) (b : Fin 226) (d : Fin 64) :
    iblk4 V c 0 t (ix5 0 0 a b d) = V c main_v177 (ix5 (⟨t.val / 8, by omega⟩ : Fin 2) (⟨t.val % 8, by omega⟩ : Fin 8) a b d) := by
  blk_simp [iblk4]
  refine congrArg _ (funext fun e => Fin.ext ?_)
  blk_simp [idx4_0]
  fin_cases e <;> simp

/-- The weights at point `t` are image `t / 8`'s. -/
theorem blk4_1 (c : Dev nD) (t : Fin cfg4.N) (ht : t.val < 16) (p q : Fin 3) (a : Fin 64) (d : Fin 128) :
    iblk4 V c 1 t (ix5 0 p q a d) = V c main_v131 (ix5 (⟨t.val / 8, by omega⟩ : Fin 2) p q a d) := by
  blk_simp [iblk4]
  refine congrArg _ (funext fun e => Fin.ext ?_)
  blk_simp [idx4_1]
  fin_cases e <;> simp

/-- The bias at point `t` is image `t / 8`'s. -/
theorem blk4_2 (c : Dev nD) (t : Fin cfg4.N) (ht : t.val < 16) (d : Fin 128) :
    iblk4 V c 2 t (ix3 0 0 d) = V c main_v178 (ix3 (⟨t.val / 8, by omega⟩ : Fin 2) 0 d) := by
  blk_simp [iblk4]
  refine congrArg _ (funext fun e => Fin.ext ?_)
  blk_simp [idx4_2]
  fin_cases e <;> simp

/-- Where the output block of point `t` sits in the result array. -/
theorem emb4_3 (t : Fin cfg4.N) (ht : t.val < 16) (r : Fin 28) (w : Fin 224) (o : Fin 128) :
    ((win4_3.blk t).view.emb (ix4 0 r w o : S1x28x224x128.Idx) : S2x224x224x128.Idx)
      = ix4 (⟨t.val / 8, by omega⟩ : Fin 2) (⟨t.val % 8 * 28 + r, by omega⟩ : Fin 224) w o := by
  refine (funext fun e => Fin.ext ?_)
  blk_simp [idx4_3]
  fin_cases e <;> simp

/-- The result array after the region: the convolution of the region's inputs. -/
theorem arr4 (c : Dev nD) : (dat4 V c).arrAt 3 cfg4.N
    = G4 (V c main_v177) (V c main_v131) (V c main_v178) := by
  refine (dat4 V c).arrAt_eq_of_covers 3 _ (by decide +kernel) fun t hf y => ?_
  blk_simp
  rw [after4_3]
  have ht : t.val < 16 := t.isLt
  obtain ⟨r, w, o, rfl⟩ : ∃ r w o, y = (ix4 0 r w o : S1x28x224x128.Idx) :=
    ⟨y 1, y 2, y 3, (eq_ix4 _).trans (congrArg (fun a : Fin 1 => (ix4 a (y 1) (y 2) (y 3) : S1x28x224x128.Idx)) (Subsingleton.elim (α := Fin 1) _ _))⟩
  refine (out4_at _ _ _ r w o).trans ?_
  refine Eq.trans ?_ (congrArg _ (emb4_3 t ht r w o).symm)
  unfold tile
  simp only [blk4_0 V c t ht, blk4_1 V c t ht, blk4_2 V c t ht]
  have e := tileAt_row (V c main_v177) (⟨t.val / 8, by omega⟩ : Fin 2) (⟨t.val % 8, by omega⟩ : Fin 8) r w
  unfold G4
  rw [show tileAt (V c main_v177) ((ix4 (⟨t.val / 8, by omega⟩ : Fin 2) (⟨t.val % 8 * 28 + r, by omega⟩ : Fin 224) w o : S2x224x224x128.Idx) 0) ((ix4 (⟨t.val / 8, by omega⟩ : Fin 2) (⟨t.val % 8 * 28 + r, by omega⟩ : Fin 224) w o : S2x224x224x128.Idx) 1) ((ix4 (⟨t.val / 8, by omega⟩ : Fin 2) (⟨t.val % 8 * 28 + r, by omega⟩ : Fin 224) w o : S2x224x224x128.Idx) 2) = _ from e]
  rfl

end Cert.KernelIdeal.Val
end
-- ==== Proof.Reg5.lean ====
module

public import proofs.«01_k».proof.Proof.Gen.KernelIdeal.Frame.Region5
public import proofs.«01_k».proof.Proof.Spec
public import Idealize.ShloMosaic.Lib.Pointwise
public import Idealize.ShloMosaic.Lib.Pipeline.ValueKit

/-! What region 5 of the kernel, the two chosen experts' second convolutions, weighted and added, leaves in its result array. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The body's output block at row `r`, column `w`, channel `o`: the nine taps over its tile, plus the bias. -/
theorem out5_at (x : FVec Ideal S1x1x30x226x128 .f32) (wt : FVec Ideal S1x3x3x128x64 .f32)
    (b : FVec Ideal S1x1x64 .f32) (r : Fin 28) (w : Fin 224) (o : Fin 64) :
    out5_3 (F := Ideal) x wt b (ix4 0 r w o)
      = taps (tile x r w) (fun dy dx c => wt (ix5 0 dy dx c o)) + b (ix3 0 0 o) := by
  unfold out5_3
  rw [View.canon_unit_zero (show (![0, 0, 0, 0] : Fin 4 → Nat) = fun _ => 0 from funext fun a => by fin_cases a <;> rfl), taps_nine]
  pointwise [k5_pay1, k5_pay2, k5_pay3, k5_pay4, k5_pay5]
  simp only [tile, Fin.val_zero, Fin.val_one, Fin.val_two, Nat.zero_add]

/-- The whole result array: the convolution of the tiled input. -/
def G5 (xo : FVec Ideal S2x8x30x226x128 .f32) (wt : FVec Ideal S2x3x3x128x64 .f32) (b : FVec Ideal S2x1x64 .f32) :
    FVec Ideal S2x224x224x64 .f32 := fun i =>
  taps (tileAt xo (i 0) (i 1) (i 2)) (fun dy dx c => wt (ix5 (i 0) dy dx c (i 3))) + b (ix3 (i 0) 0 (i 3))

variable (V : (c : Dev nD) → (b : Ref sig .tc) → Buf (Elt Ideal) ((c : Thread nD τ).loc b))

theorem idx5_0 : ∀ t : Fin cfg5.N, win5_0.index t = ![t.val / 8, t.val % 8, 0, 0, 0] := by decide +kernel
theorem idx5_1 : ∀ t : Fin cfg5.N, win5_1.index t = ![t.val / 8, 0, 0, 0, 0] := by decide +kernel
theorem idx5_2 : ∀ t : Fin cfg5.N, win5_2.index t = ![t.val / 8, 0, 0] := by decide +kernel
theorem idx5_3 : ∀ t : Fin cfg5.N, win5_3.index t = ![t.val / 8, t.val % 8, 0, 0] := by decide +kernel

/-- The tile at point `t` is tile `t % 8` of image `t / 8`. -/
theorem blk5_0 (c : Dev nD) (t : Fin cfg5.N) (ht : t.val < 16) (a : Fin 30) (b : Fin 226) (d : Fin 128) :
    iblk5 V c 0 t (ix5 0 0 a b d) = V c main_v197 (ix5 (⟨t.val / 8, by omega⟩ : Fin 2) (⟨t.val % 8, by omega⟩ : Fin 8) a b d) := by
  blk_simp [iblk5]
  refine congrArg _ (funext fun e => Fin.ext ?_)
  blk_simp [idx5_0]
  fin_cases e <;> simp

/-- The weights at point `t` are image `t / 8`'s. -/
theorem blk5_1 (c : Dev nD) (t : Fin cfg5.N) (ht : t.val < 16) (p q : Fin 3) (a : Fin 128) (d : Fin 64) :
    iblk5 V c 1 t (ix5 0 p q a d) = V c main_v151 (ix5 (⟨t.val / 8, by omega⟩ : Fin 2) p q a d) := by
  blk_simp [iblk5]
  refine congrArg _ (funext fun e => Fin.ext ?_)
  blk_simp [idx5_1]
  fin_cases e <;> simp

/-- The bias at point `t` is image `t / 8`'s. -/
theorem blk5_2 (c : Dev nD) (t : Fin cfg5.N) (ht : t.val < 16) (d : Fin 64) :
    iblk5 V c 2 t (ix3 0 0 d) = V c main_v198 (ix3 (⟨t.val / 8, by omega⟩ : Fin 2) 0 d) := by
  blk_simp [iblk5]
  refine congrArg _ (funext fun e => Fin.ext ?_)
  blk_simp [idx5_2]
  fin_cases e <;> simp

/-- Where the output block of point `t` sits in the result array. -/
theorem emb5_3 (t : Fin cfg5.N) (ht : t.val < 16) (r : Fin 28) (w : Fin 224) (o : Fin 64) :
    ((win5_3.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx5_3]
  fin_cases e <;> simp

/-- The result array after the region: the convolution of the region's inputs. -/
theorem arr5 (c : Dev nD) : (dat5 V c).arrAt 3 cfg5.N
    = G5 (V c main_v197) (V c main_v151) (V c main_v198) := by
  refine (dat5 V c).arrAt_eq_of_covers 3 _ (by decide +kernel) fun t hf y => ?_
  blk_simp
  rw [after5_3]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine (out5_at _ _ _ r w o).trans ?_
  refine Eq.trans ?_ (congrArg _ (emb5_3 t ht r w o).symm)
  unfold tile
  simp only [blk5_0 V c t ht, blk5_1 V c t ht, blk5_2 V c t ht]
  have e := tileAt_row (V c main_v197) (⟨t.val / 8, by omega⟩ : Fin 2) (⟨t.val % 8, by omega⟩ : Fin 8) r w
  unfold G5
  rw [show tileAt (V c main_v197) ((ix4 (⟨t.val / 8, by omega⟩ : Fin 2) (⟨t.val % 8 * 28 + r, by omega⟩ : Fin 224) w o : S2x224x224x64.Idx) 0) ((ix4 (⟨t.val / 8, by omega⟩ : Fin 2) (⟨t.val % 8 * 28 + r, by omega⟩ : Fin 224) w o : S2x224x224x64.Idx) 1) ((ix4 (⟨t.val / 8, by omega⟩ : Fin 2) (⟨t.val % 8 * 28 + r, by omega⟩ : Fin 224) w o : S2x224x224x64.Idx) 2) = _ from e]
  rfl

end Cert.KernelIdeal.Val
end
-- ==== Proof.Reg6.lean ====
module

public import proofs.«01_k».proof.Proof.Gen.KernelIdeal.Frame.Region6
public import proofs.«01_k».proof.Proof.Spec
public import Idealize.ShloMosaic.Lib.Pointwise
public import Idealize.ShloMosaic.Lib.Pipeline.ValueKit

/-! What region 6 of the kernel, the noise decoder, leaves in its result arrays. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The noise block at row `r` and column `w`: the nine taps over its tile, plus the bias. -/
theorem out6_n (x : FVec Ideal S1x1x30x226x64 .f32) (wt : FVec Ideal S3x3x64x1 .f32)
    (b : FVec Ideal S1x1 .f32) (im : FVec Ideal S1x28x224x1 .f32) (r : Fin 28) (w : Fin 224) :
    out6_4 (F := Ideal) x wt b im (ix4 0 r w 0) = taps (tile x r w) (fun dy dx c => wt (ix4 dy dx c 0)) + b (ix2 0 0) := by
  unfold out6_4
  rw [View.canon_unit_zero (show (![0, 0, 0, 0] : Fin 4 → Nat) = fun _ => 0 from funext fun a => by fin_cases a <;> rfl), taps_nine]
  pointwise [k6_pay1, k6_pay3, k6_pay4, k6_pay5, k6_pay6, k6_pay7, k6_pay9]
  simp only [tile, Fin.val_zero, Fin.val_one, Fin.val_two, Nat.zero_add]

/-- The cleaned block at row `r` and column `w`: the image less the noise. -/
theorem out6_c (x : FVec Ideal S1x1x30x226x64 .f32) (wt : FVec Ideal S3x3x64x1 .f32)
    (b : FVec Ideal S1x1 .f32) (im : FVec Ideal S1x28x224x1 .f32) (r : Fin 28) (w : Fin 224) :
    out6_5 (F := Ideal) x wt b im (ix4 0 r w 0)
      = im (ix4 0 r w 0) - (taps (tile x r w) (fun dy dx c => wt (ix4 dy dx c 0)) + b (ix2 0 0)) := by
  unfold out6_5
  rw [View.canon_unit_zero (show (![0, 0, 0, 0] : Fin 4 → Nat) = fun _ => 0 from funext fun a => by fin_cases a <;> rfl), taps_nine]
  pointwise [k6_pay1, k6_pay2, k6_pay3, k6_pay4, k6_pay5, k6_pay6, k6_pay7, k6_pay8, k6_pay9]
  simp only [tile, Fin.val_zero, Fin.val_one, Fin.val_two, Nat.zero_add]

/-- The noise array: the convolution of the tiled input. -/
def G6 (xo : FVec Ideal S2x8x30x226x64 .f32) (wt : FVec Ideal S3x3x64x1 .f32) (b : FVec Ideal S1x1 .f32) :
    FVec Ideal S2x224x224x1 .f32 := fun i =>
  taps (tileAt xo (i 0) (i 1) (i 2)) (fun dy dx c => wt (ix4 dy dx c 0)) + b (ix2 0 0)

/-- The cleaned array: the image less the noise. -/
def H6 (xo : FVec Ideal S2x8x30x226x64 .f32) (wt : FVec Ideal S3x3x64x1 .f32) (b : FVec Ideal S1x1 .f32)
    (im : FVec Ideal S2x224x224x1 .f32) : FVec Ideal S2x224x224x1 .f32 := fun i => im i - G6 xo wt b i

variable (V : (c : Dev nD) → (b : Ref sig .tc) → Buf (Elt Ideal) ((c : Thread nD τ).loc b))

theorem idx6_0 : ∀ t : Fin cfg6.N, win6_0.index t = ![t.val / 8, t.val % 8, 0, 0, 0] := by decide +kernel
theorem idx6_1 : ∀ t : Fin cfg6.N, win6_1.index t = ![0, 0, 0, 0] := by decide +kernel
theorem idx6_2 : ∀ t : Fin cfg6.N, win6_2.index t = ![0, 0] := by decide +kernel
theorem idx6_3 : ∀ t : Fin cfg6.N, win6_3.index t = ![t.val / 8, t.val % 8, 0, 0] := by decide +kernel
theorem idx6_4 : ∀ t : Fin cfg6.N, win6_4.index t = ![t.val / 8, t.val % 8, 0, 0] := by decide +kernel
theorem idx6_5 : ∀ t : Fin cfg6.N, win6_5.index t = ![t.val / 8, t.val % 8, 0, 0] := by decide +kernel

/-- The tile at point `t` is tile `t % 8` of image `t / 8`. -/
theorem blk6_0 (c : Dev nD) (t : Fin cfg6.N) (ht : t.val < 16) (a : Fin 30) (b : Fin 226) (d : Fin 64) :
    iblk6 V c 0 t (ix5 0 0 a b d) = V c main_v218 (ix5 (⟨t.val / 8, by omega⟩ : Fin 2) (⟨t.val % 8, by omega⟩ : Fin 8) a b d) := by
  blk_simp [iblk6]
  refine congrArg _ (funext fun e => Fin.ext ?_)
  blk_simp [idx6_0]
  fin_cases e <;> simp

/-- The weights at every point are the whole array. -/
theorem blk6_1 (c : Dev nD) (t : Fin cfg6.N) (y : S3x3x64x1.Idx) : iblk6 V c 1 t y = V c main_v200 y := by
  blk_simp [iblk6]
  refine congrArg _ (funext fun e => Fin.ext ?_)
  blk_simp [idx6_1]
  fin_cases e <;> simp

/-- The bias at every point is the whole array. -/
theorem blk6_2 (c : Dev nD) (t : Fin cfg6.N) (y : S1x1.Idx) : iblk6 V c 2 t y = V c main_v219 y := by
  blk_simp [iblk6]
  refine congrArg _ (funext fun e => Fin.ext ?_)
  blk_simp [idx6_2]
  fin_cases e <;> simp

/-- The image block at point `t` is the rows of tile `t % 8` of image `t / 8`. -/
theorem blk6_3 (c : Dev nD) (t : Fin cfg6.N) (ht : t.val < 16) (r : Fin 28) (w : Fin 224) (o : Fin 1) :
    iblk6 V c 3 t (ix4 0 r w o) = V c main_v0 (ix4 (⟨t.val / 8, by omega⟩ : Fin 2) (⟨t.val % 8 * 28 + r, by omega⟩ : Fin 224) w o) := by
  blk_simp [iblk6]
  refine congrArg _ (funext fun e => Fin.ext ?_)
  blk_simp [idx6_3]
  fin_cases e <;> simp

/-- Where the output block 4 of point `t` sits in its array. -/
theorem emb6_4 (t : Fin cfg6.N) (ht : t.val < 16) (r : Fin 28) (w : Fin 224) (o : Fin 1) :
    ((win6_4.blk t).view.emb (ix4 0 r w o : S1x28x224x1.Idx) : S2x224x224x1.Idx)
      = ix4 (⟨t.val / 8, by omega⟩ : Fin 2) (⟨t.val % 8 * 28 + r, by omega⟩ : Fin 224) w o := by
  refine (funext fun e => Fin.ext ?_)
  blk_simp [idx6_4]
  fin_cases e <;> simp

/-- Where the output block 5 of point `t` sits in its array. -/
theorem emb6_5 (t : Fin cfg6.N) (ht : t.val < 16) (r : Fin 28) (w : Fin 224) (o : Fin 1) :
    ((win6_5.blk t).view.emb (ix4 0 r w o : S1x28x224x1.Idx) : S2x224x224x1.Idx)
      = ix4 (⟨t.val / 8, by omega⟩ : Fin 2) (⟨t.val % 8 * 28 + r, by omega⟩ : Fin 224) w o := by
  refine (funext fun e => Fin.ext ?_)
  blk_simp [idx6_5]
  fin_cases e <;> simp

/-- The output array 4 after the region. -/
theorem arr6_4 (c : Dev nD) : (dat6 V c).arrAt 4 cfg6.N = G6 (V c main_v218) (V c main_v200) (V c main_v219) := by
  refine (dat6 V c).arrAt_eq_of_covers 4 _ (by decide +kernel) fun t hf y => ?_
  blk_simp
  rw [after6_4]
  have ht : t.val < 16 := t.isLt
  obtain ⟨r, w, o, rfl⟩ : ∃ r w o, y = (ix4 0 r w o : S1x28x224x1.Idx) :=
    ⟨y 1, y 2, y 3, (eq_ix4 _).trans (congrArg (fun a : Fin 1 => (ix4 a (y 1) (y 2) (y 3) : S1x28x224x1.Idx)) (Subsingleton.elim (α := Fin 1) _ _))⟩
  obtain rfl : o = 0 := Subsingleton.elim _ _
  refine (out6_n _ _ _ _ r w).trans ?_
  refine Eq.trans ?_ (congrArg (G6 (V c main_v218) (V c main_v200) (V c main_v219)) (emb6_4 t ht r w 0).symm)
  unfold tile
  simp only [blk6_0 V c t ht, blk6_1, blk6_2, blk6_3 V c t ht]
  have e := tileAt_row (V c main_v218) (⟨t.val / 8, by omega⟩ : Fin 2) (⟨t.val % 8, by omega⟩ : Fin 8) r w
  rw [← e]
  rfl

/-- The output array 5 after the region. -/
theorem arr6_5 (c : Dev nD) : (dat6 V c).arrAt 5 cfg6.N = H6 (V c main_v218) (V c main_v200) (V c main_v219) (V c main_v0) := by
  refine (dat6 V c).arrAt_eq_of_covers 5 _ (by decide +kernel) fun t hf y => ?_
  blk_simp
  rw [after6_5]
  have ht : t.val < 16 := t.isLt
  obtain ⟨r, w, o, rfl⟩ : ∃ r w o, y = (ix4 0 r w o : S1x28x224x1.Idx) :=
    ⟨y 1, y 2, y 3, (eq_ix4 _).trans (congrArg (fun a : Fin 1 => (ix4 a (y 1) (y 2) (y 3) : S1x28x224x1.Idx)) (Subsingleton.elim (α := Fin 1) _ _))⟩
  obtain rfl : o = 0 := Subsingleton.elim _ _
  refine (out6_c _ _ _ _ r w).trans ?_
  refine Eq.trans ?_ (congrArg (H6 (V c main_v218) (V c main_v200) (V c main_v219) (V c main_v0)) (emb6_5 t ht r w 0).symm)
  unfold tile
  simp only [blk6_0 V c t ht, blk6_1, blk6_2, blk6_3 V c t ht]
  have e := tileAt_row (V c main_v218) (⟨t.val / 8, by omega⟩ : Fin 2) (⟨t.val % 8, by omega⟩ : Fin 8) r w
  rw [← e]
  rfl

end Cert.KernelIdeal.Val
end
-- ==== Proof.ChainC.lean ====
module

public import proofs.«01_k».proof.Proof.Tiles
public import proofs.«01_k».proof.Proof.Reg4
public import proofs.«01_k».proof.Proof.Reg5
public import proofs.«01_k».proof.Proof.Reg6
public import Idealize.ShloMosaic.Lib.Claim

/-! What the expert regions and the decoder leave, over the arguments, the latent draw and the router's weights. -/

@[expose] public section

set_option maxRecDepth 16384

noncomputable section

namespace Cert.KernelIdeal.Val

open Idealize.ShloMosaic Idealize.ShloMosaic.TcCoe Idealize.SL.Sem
open Cert.KernelIdeal Cert.KernelIdeal.Gen Conv

/-- The padding constant before region 4. -/
theorem cst4 (v : Valuation τ sig (Elt Ideal)) : StableHlo.after hostOps4 v (Proc.devRef .tc main_c_14) = constantI S_ 32 0#32 := by
  after_results

theorem padded4 (v : Valuation τ sig (Elt Ideal)) (h : v (Proc.devRef .tc main_c_14) = constantI S_ 32 0#32) :
    StableHlo.after hostOps4_1 v (Proc.devRef .tc main_v160) = pad64 (v (Proc.devRef .tc main_v102_2)) := by
  after_results
  unfold pad64
  rw [← h]
  rfl

theorem cut4 (v : Valuation τ sig (Elt Ideal)) : StableHlo.after hostOps4_2 v (Proc.devRef .tc main_v177) = tiles64 (v (Proc.devRef .tc main_v160)) := by
  after_results
  rfl

/-- Region 4's tiles at its entry. -/
theorem entry4 (v : Valuation τ sig (Elt Ideal)) :
    StableHlo.after hostOps4_2 (StableHlo.after hostOps4_1 (StableHlo.after hostOps4 v)) (Proc.devRef .tc main_v177)
      = tiles64 (pad64 (StableHlo.after hostOps4 v (Proc.devRef .tc main_v102_2))) := by
  rw [cut4, padded4 _ (cst4 v)]

/-- The padding constant before region 5. -/
theorem cst5 (v : Valuation τ sig (Elt Ideal)) : StableHlo.after hostOps5 v (Proc.devRef .tc main_c_15) = constantI S_ 32 0#32 := by
  after_results

theorem padded5 (v : Valuation τ sig (Elt Ideal)) (h : v (Proc.devRef .tc main_c_15) = constantI S_ 32 0#32) :
    StableHlo.after hostOps5_1 v (Proc.devRef .tc main_v180) = pad128 (v (Proc.devRef .tc main_v179)) := by
  after_results
  unfold pad128
  rw [← h]
  rfl

theorem cut5 (v : Valuation τ sig (Elt Ideal)) : StableHlo.after hostOps5_2 v (Proc.devRef .tc main_v197) = tiles128 (v (Proc.devRef .tc main_v180)) := by
  after_results
  rfl

/-- Region 5's tiles at its entry. -/
theorem entry5 (v : Valuation τ sig (Elt Ideal)) :
    StableHlo.after hostOps5_2 (StableHlo.after hostOps5_1 (StableHlo.after hostOps5 v)) (Proc.devRef .tc main_v197)
      = tiles128 (pad128 (StableHlo.after hostOps5 v (Proc.devRef .tc main_v179))) := by
  rw [cut5, padded5 _ (cst5 v)]

/-- The padding constant before region 6. -/
theorem cst6 (v : Valuation τ sig (Elt Ideal)) : StableHlo.after hostOps6 v (Proc.devRef .tc main_c_16) = constantI S_ 32 0#32 := by
  after_results

theorem padded6 (v : Valuation τ sig (Elt Ideal)) (h : v (Proc.devRef .tc main_c_16) = constantI S_ 32 0#32) :
    StableHlo.after hostOps6_1 v (Proc.devRef .tc main_v201) = pad64 (v (Proc.devRef .tc main_v199)) := by
  after_results
  unfold pad64
  rw [← h]
  rfl

theorem cut6 (v : Valuation τ sig (Elt Ideal)) : StableHlo.after hostOps6_2 v (Proc.devRef .tc main_v218) = tiles64 (v (Proc.devRef .tc main_v201)) := by
  after_results
  rfl

/-- Region 6's tiles at its entry. -/
theorem entry6 (v : Valuation τ sig (Elt Ideal)) :
    StableHlo.after hostOps6_2 (StableHlo.after hostOps6_1 (StableHlo.after hostOps6 v)) (Proc.devRef .tc main_v218)
      = tiles64 (pad64 (StableHlo.after hostOps6 v (Proc.devRef .tc main_v199))) := by
  rw [cut6, padded6 _ (cst6 v)]

/-- The image with its channel last. -/
theorem im0' (v : Valuation τ sig (Elt Ideal)) (b : Fin 2) (h w : Fin 224) :
    StableHlo.after hostOps0 v (Proc.devRef .tc main_v0) (ix4 b h w 0) = v (Proc.devRef .tc main_arg0) (ix4 b 0 h w) := by
  after_results
  pointwise []

/-- Region 4's bias is the chosen experts' first biases, stacked. -/
theorem bs4 (v : Valuation τ sig (Elt Ideal)) (b : Fin 2) (o : Fin 128) : StableHlo.after hostOps4_2 v (Proc.devRef .tc main_v178) (ix3 b 0 o)
    = v (Proc.devRef .tc main_v139) (ix2 b o) := by
  after_results
  pointwise []

/-- Region 5's bias is the chosen experts' second biases, weighted and added. -/
theorem bs5 (v : Valuation τ sig (Elt Ideal)) (b : Fin 2) (o : Fin 64) : StableHlo.after hostOps5_2 v (Proc.devRef .tc main_v198) (ix3 b 0 o)
    = v (Proc.devRef .tc main_v159) (ix2 b o) := by
  after_results
  pointwise []

/-- The decoder's weights. -/
theorem wt6 (v : Valuation τ sig (Elt Ideal)) (dy dx : Fin 3) (i : Fin 64) :
    StableHlo.after hostOps6_2 (StableHlo.after hostOps6_1 (StableHlo.after hostOps6 v)) (Proc.devRef .tc main_v200) (ix4 dy dx i 0) = v (Proc.devRef .tc main_arg16) (ix4 0 i dy dx) := by
  rw [StableHlo.after_of_writes_sub hostOps6_2 _ hostOps6_2_writes (show main_v200 ∉ hostOps6_2_W by decide),
    StableHlo.after_of_writes_sub hostOps6_1 _ hostOps6_1_writes (show main_v200 ∉ hostOps6_1_W by decide)]
  after_results
  pointwise []

/-- The decoder's bias. -/
theorem bs6 (v : Valuation τ sig (Elt Ideal)) :
    StableHlo.after hostOps6_2 (StableHlo.after hostOps6_1 (StableHlo.after hostOps6 v)) (Proc.devRef .tc main_v219) (ix2 0 0) = v (Proc.devRef .tc main_arg17) (ix1 0) := by
  have e (u : Valuation τ sig (Elt Ideal)) : StableHlo.after hostOps6_2 u (Proc.devRef .tc main_v219) (ix2 0 0) = u (Proc.devRef .tc main_arg17) (ix1 0) := by
    after_results
    pointwise []
  rw [e, StableHlo.after_of_writes_sub hostOps6_1 _ hostOps6_1_writes (show main_arg17 ∉ hostOps6_1_W by decide),
    StableHlo.after_of_writes_sub hostOps6 _ hostOps6_writes (show main_arg17 ∉ hostOps6_W by decide)]

variable (m : (ℓ : Loc nD τ sig) → Buf (Elt Ideal) ℓ) (ρ : Dev nD → PrngReg)

theorem tile4 (c : Dev nD) (b : Fin 2) (h w : Fin 224) : tileAt (W19 m ρ c (Proc.devRef .tc main_v177)) b h w = win (im (W16 m ρ c (Proc.devRef .tc main_v102_2))) b h w := by
  refine (congrArg (fun x => tileAt x b h w) (entry4 (W16 m ρ c))).trans ((win64 _ b h w).trans ?_)
  have ei : im (C := 64) (StableHlo.after hostOps4 (W16 m ρ c) (Proc.devRef .tc main_v102_2)) = im (W16 m ρ c (Proc.devRef .tc main_v102_2)) := by
    rw [StableHlo.after_of_writes_sub hostOps4 _ hostOps4_writes (show main_v102_2 ∉ hostOps4_W by decide)]
  exact congrArg (fun x => win x b h w) ei

theorem tile5 (c : Dev nD) (b : Fin 2) (h w : Fin 224) : tileAt (W23 m ρ c (Proc.devRef .tc main_v197)) b h w = win (im (W20 m ρ c (Proc.devRef .tc main_v179))) b h w := by
  refine (congrArg (fun x => tileAt x b h w) (entry5 (W20 m ρ c))).trans ((win128 _ b h w).trans ?_)
  have ei : im (C := 128) (StableHlo.after hostOps5 (W20 m ρ c) (Proc.devRef .tc main_v179)) = im (W20 m ρ c (Proc.devRef .tc main_v179)) := by
    rw [StableHlo.after_of_writes_sub hostOps5 _ hostOps5_writes (show main_v179 ∉ hostOps5_W by decide)]
  exact congrArg (fun x => win x b h w) ei

theorem tile6 (c : Dev nD) (b : Fin 2) (h w : Fin 224) : tileAt (W27 m ρ c (Proc.devRef .tc main_v218)) b h w = win (im (W24 m ρ c (Proc.devRef .tc main_v199))) b h w := by
  refine (congrArg (fun x => tileAt x b h w) (entry6 (W24 m ρ c))).trans ((win64 _ b h w).trans ?_)
  have ei : im (C := 64) (StableHlo.after hostOps6 (W24 m ρ c) (Proc.devRef .tc main_v199)) = im (W24 m ρ c (Proc.devRef .tc main_v199)) := by
    rw [StableHlo.after_of_writes_sub hostOps6 _ hostOps6_writes (show main_v199 ∉ hostOps6_W by decide)]
  exact congrArg (fun x => win x b h w) ei

/-- What region 4 leaves: the chosen experts' hidden layers, stacked. -/
theorem out4 (c : Dev nD) (b : Fin 2) (h w : Fin 224) (o : Fin 128) : W20 m ρ c (Proc.devRef .tc main_v179) (ix4 b h w o)
    = max (taps (win (im (W16 m ρ c (Proc.devRef .tc main_v102_2))) b h w) (fun (dy dx : Fin 3) (i : Fin 64) => W17 m ρ c (Proc.devRef .tc main_v131) (ix5 b dy dx i o))
        + W17 m ρ c (Proc.devRef .tc main_v139) (ix2 b o)) 0 := by
  refine (congrFun ((W20_arr m ρ c 3).trans (arr4 (V19 m ρ) c)) (ix4 b h w o)).trans ?_
  have ew : W19 m ρ c (Proc.devRef .tc main_v131) = W17 m ρ c (Proc.devRef .tc main_v131) := ((W19_of m ρ c main_v131 (by decide)).trans (W18_of m ρ c main_v131 (by decide)))
  have eb : W19 m ρ c (Proc.devRef .tc main_v178) (ix3 b 0 o) = W17 m ρ c (Proc.devRef .tc main_v139) (ix2 b o) :=
    (bs4 (W18 m ρ c) b o).trans (congrFun (W18_of m ρ c main_v139 (by decide)) _)
  show max (taps (tileAt (W19 m ρ c (Proc.devRef .tc main_v177)) b h w) (fun (dy dx : Fin 3) (i : Fin 64) => W19 m ρ c (Proc.devRef .tc main_v131) (ix5 b dy dx i o))
    + W19 m ρ c (Proc.devRef .tc main_v178) (ix3 b 0 o)) 0 = _
  rw [tile4, ew, eb]

/-- What region 5 leaves: the chosen experts' results, weighted and added. -/
theorem out5 (c : Dev nD) (b : Fin 2) (h w : Fin 224) (o : Fin 64) : W24 m ρ c (Proc.devRef .tc main_v199) (ix4 b h w o)
    = taps (win (im (W20 m ρ c (Proc.devRef .tc main_v179))) b h w) (fun (dy dx : Fin 3) (i : Fin 128) => W17 m ρ c (Proc.devRef .tc main_v151) (ix5 b dy dx i o))
        + W17 m ρ c (Proc.devRef .tc main_v159) (ix2 b o) := by
  refine (congrFun ((W24_arr m ρ c 3).trans (arr5 (V23 m ρ) c)) (ix4 b h w o)).trans ?_
  have ew : W23 m ρ c (Proc.devRef .tc main_v151) = W17 m ρ c (Proc.devRef .tc main_v151) := ((W23_of m ρ c main_v151 (by decide)).trans ((W22_of m ρ c main_v151 (by decide)).trans ((W21_of m ρ c main_v151 (by decide)).trans ((W20_of m ρ c main_v151 (by decide +kernel)).trans ((W19_of m ρ c main_v151 (by decide)).trans (W18_of m ρ c main_v151 (by decide)))))))
  have eb : W23 m ρ c (Proc.devRef .tc main_v198) (ix3 b 0 o) = W17 m ρ c (Proc.devRef .tc main_v159) (ix2 b o) :=
    (bs5 (W22 m ρ c) b o).trans (congrFun ((W22_of m ρ c main_v159 (by decide)).trans ((W21_of m ρ c main_v159 (by decide)).trans ((W20_of m ρ c main_v159 (by decide +kernel)).trans ((W19_of m ρ c main_v159 (by decide)).trans (W18_of m ρ c main_v159 (by decide)))))) _)
  show taps (tileAt (W23 m ρ c (Proc.devRef .tc main_v197)) b h w) (fun (dy dx : Fin 3) (i : Fin 128) => W23 m ρ c (Proc.devRef .tc main_v151) (ix5 b dy dx i o))
    + W23 m ρ c (Proc.devRef .tc main_v198) (ix3 b 0 o) = _
  rw [tile5, ew, eb]

/-- The decoder's sum is the convolution. -/
theorem dec6 (c : Dev nD) (b : Fin 2) (h w : Fin 224) :
    G6 (W27 m ρ c (Proc.devRef .tc main_v218)) (W27 m ρ c (Proc.devRef .tc main_v200)) (W27 m ρ c (Proc.devRef .tc main_v219)) (ix4 b h w 0)
      = conv (im (W24 m ρ c (Proc.devRef .tc main_v199))) (oihw (m ((c : Thread nD τ).loc main_arg16))) (vec (m ((c : Thread nD τ).loc main_arg17))) b h w 0 := by
  have ew : (fun (dy dx : Fin 3) (i : Fin 64) => W27 m ρ c (Proc.devRef .tc main_v200) (ix4 dy dx i 0)) = fun dy dx i => oihw (m ((c : Thread nD τ).loc main_arg16)) dy dx i 0 := by
    funext dy dx i
    exact (wt6 (W24 m ρ c) dy dx i).trans (congrFun (W24_args m ρ c main_arg16 (by decide)) _)
  have eb : W27 m ρ c (Proc.devRef .tc main_v219) (ix2 0 0) = vec (m ((c : Thread nD τ).loc main_arg17)) 0 :=
    (bs6 (W24 m ρ c)).trans (congrFun (W24_args m ρ c main_arg17 (by decide)) _)
  show taps (tileAt (W27 m ρ c (Proc.devRef .tc main_v218)) b h w) (fun (dy dx : Fin 3) (i : Fin 64) => W27 m ρ c (Proc.devRef .tc main_v200) (ix4 dy dx i 0)) + W27 m ρ c (Proc.devRef .tc main_v219) (ix2 0 0) = _
  rw [tile6, ew, eb]
  rfl

/-- What region 6 leaves: the noise, -/
theorem out6_noise (c : Dev nD) : im (W28 m ρ c (Proc.devRef .tc main_v220_0))
    = conv (im (W24 m ρ c (Proc.devRef .tc main_v199))) (oihw (m ((c : Thread nD τ).loc main_arg16))) (vec (m ((c : Thread nD τ).loc main_arg17))) := by
  funext b h w o
  obtain rfl : o = 0 := Subsingleton.elim _ _
  refine (congrFun ((W28_arr m ρ c 4).trans (arr6_4 (V27 m ρ) c)) (ix4 b h w 0)).trans ?_
  exact dec6 m ρ c b h w

/-- and the image less the noise. -/
theorem out6_ic (c : Dev nD) : im (W28 m ρ c (Proc.devRef .tc main_v220_1)) = fun b h w o => imc (m ((c : Thread nD τ).loc main_arg0)) b h w o
    - conv (im (W24 m ρ c (Proc.devRef .tc main_v199))) (oihw (m ((c : Thread nD τ).loc main_arg16))) (vec (m ((c : Thread nD τ).loc main_arg17))) b h w o := by
  funext b h w o
  obtain rfl : o = 0 := Subsingleton.elim _ _
  refine (congrFun ((W28_arr m ρ c 5).trans (arr6_5 (V27 m ρ) c)) (ix4 b h w 0)).trans ?_
  refine congr (congrArg HSub.hSub ?_) (dec6 m ρ c b h w)
  exact (congrFun ((W27_of m ρ c main_v0 (by decide)).trans ((W26_of m ρ c main_v0 (by decide)).trans ((W25_of m ρ c main_v0 (by decide)).trans ((W24_of m ρ c main_v0 (by decide +kernel)).trans ((W23_of m ρ c main_v0 (by decide)).trans ((W22_of m ρ c main_v0 (by decide)).trans ((W21_of m ρ c main_v0 (by decide)).trans ((W20_of m ρ c main_v0 (by decide +kernel)).trans ((W19_of m ρ c main_v0 (by decide)).trans ((W18_of m ρ c main_v0 (by decide)).trans ((W17_of m ρ c main_v0 (by decide)).trans ((W16_of m ρ c main_v0 (by decide +kernel)).trans ((W15_of m ρ c main_v0 (by decide)).trans ((W14_of m ρ c main_v0 (by decide)).trans ((W13_of m ρ c main_v0 (by decide)).trans ((W12_of m ρ c main_v0 (by decide +kernel)).trans ((W11_of m ρ c main_v0 (by decide)).trans ((W10_of m ρ c main_v0 (by decide)).trans ((W9_of m ρ c main_v0 (by decide)).trans ((W8_of m ρ c main_v0 (by decide +kernel)).trans ((W7_of m ρ c main_v0 (by decide)).trans ((W6_of m ρ c main_v0 (by decide)).trans ((W5_of m ρ c main_v0 (by decide)).trans ((W4_of m ρ c main_v0 (by decide +kernel)).trans ((W3_of m ρ c main_v0 (by decide)).trans (W2_of m ρ c main_v0 (by decide))))))))))))))))))))))))))) _).trans (im0' (W0 m ρ c) b h w)

end Cert.KernelIdeal.Val
end
-- ==== Proof.Reg7.lean ====
module

public import proofs.«01_k».proof.Proof.Gen.KernelIdeal.Frame.Region7
public import proofs.«01_k».proof.Proof.Spec
public import Idealize.ShloMosaic.Lib.Pointwise
public import Idealize.ShloMosaic.Lib.Pipeline.ValueKit

/-! What region 7 of the kernel, the fusion network's first convolution, leaves in its result array. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The body's output block at row `r`, column `w`, channel `o`: the nine taps over its tile, plus the bias. -/
theorem out7_at (x : FVec Ideal S1x1x30x226x1 .f32) (wt : FVec Ideal S3x3x1x64 .f32)
    (b : FVec Ideal S1x1x64 .f32) (r : Fin 28) (w : Fin 224) (o : Fin 64) :
    out7_3 (F := Ideal) x wt b (ix4 0 r w o)
      = max (taps (tile x r w) (fun dy dx c => wt (ix4 dy dx c o)) + b (ix3 0 0 o)) 0 := by
  unfold out7_3
  rw [View.canon_unit_zero (show (![0, 0, 0, 0] : Fin 4 → Nat) = fun _ => 0 from funext fun a => by fin_cases a <;> rfl), taps_nine]
  pointwise [k7_pay1, k7_pay2, k7_pay3, k7_pay4, k7_pay5]
  simp only [tile, Fin.val_zero, Fin.val_one, Fin.val_two, Nat.zero_add, Fin.sum_univ_one]

/-- The whole result array: the convolution of the tiled input. -/
def G7 (xo : FVec Ideal S2x8x30x226x1 .f32) (wt : FVec Ideal S3x3x1x64 .f32) (b : FVec Ideal S2x1x64 .f32) :
    FVec Ideal S2x224x224x64 .f32 := fun i =>
  max (taps (tileAt xo (i 0) (i 1) (i 2)) (fun dy dx c => wt (ix4 dy dx c (i 3))) + b (ix3 (i 0) 0 (i 3))) 0

variable (V : (c : Dev nD) → (b : Ref sig .tc) → Buf (Elt Ideal) ((c : Thread nD τ).loc b))

theorem idx7_0 : ∀ t : Fin cfg7.N, win7_0.index t = ![t.val / 8, t.val % 8, 0, 0, 0] := by decide +kernel
theorem idx7_1 : ∀ t : Fin cfg7.N, win7_1.index t = ![0, 0, 0, 0] := by decide +kernel
theorem idx7_2 : ∀ t : Fin cfg7.N, win7_2.index t = ![t.val / 8, 0, 0] := by decide +kernel
theorem idx7_3 : ∀ t : Fin cfg7.N, win7_3.index t = ![t.val / 8, t.val % 8, 0, 0] := by decide +kernel

/-- The tile at point `t` is tile `t % 8` of image `t / 8`. -/
theorem blk7_0 (c : Dev nD) (t : Fin cfg7.N) (ht : t.val < 16) (a : Fin 30) (b : Fin 226) (d : Fin 1) :
    iblk7 V c 0 t (ix5 0 0 a b d) = V c main_v239 (ix5 (⟨t.val / 8, by omega⟩ : Fin 2) (⟨t.val % 8, by omega⟩ : Fin 8) a b d) := by
  blk_simp [iblk7]
  refine congrArg _ (funext fun e => Fin.ext ?_)
  blk_simp [idx7_0]
  fin_cases e <;> simp

/-- The weights at every point are the whole array. -/
theorem blk7_1 (c : Dev nD) (t : Fin cfg7.N) (y : S3x3x1x64.Idx) :
    iblk7 V c 1 t y = V c main_v221 y := by
  blk_simp [iblk7]
  refine congrArg _ (funext fun e => Fin.ext ?_)
  blk_simp [idx7_1]
  fin_cases e <;> simp

/-- The bias at point `t` is image `t / 8`'s. -/
theorem blk7_2 (c : Dev nD) (t : Fin cfg7.N) (ht : t.val < 16) (d : Fin 64) :
    iblk7 V c 2 t (ix3 0 0 d) = V c main_v242 (ix3 (⟨t.val / 8, by omega⟩ : Fin 2) 0 d) := by
  blk_simp [iblk7]
  refine congrArg _ (funext fun e => Fin.ext ?_)
  blk_simp [idx7_2]
  fin_cases e <;> simp

/-- Where the output block of point `t` sits in the result array. -/
theorem emb7_3 (t : Fin cfg7.N) (ht : t.val < 16) (r : Fin 28) (w : Fin 224) (o : Fin 64) :
    ((win7_3.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx7_3]
  fin_cases e <;> simp

/-- The result array after the region: the convolution of the region's inputs. -/
theorem arr7 (c : Dev nD) : (dat7 V c).arrAt 3 cfg7.N
    = G7 (V c main_v239) (V c main_v221) (V c main_v242) := by
  refine (dat7 V c).arrAt_eq_of_covers 3 _ (by decide +kernel) fun t hf y => ?_
  blk_simp
  rw [after7_3]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine (out7_at _ _ _ r w o).trans ?_
  refine Eq.trans ?_ (congrArg _ (emb7_3 t ht r w o).symm)
  unfold tile
  simp only [blk7_0 V c t ht, blk7_1, blk7_2 V c t ht]
  have e := tileAt_row (V c main_v239) (⟨t.val / 8, by omega⟩ : Fin 2) (⟨t.val % 8, by omega⟩ : Fin 8) r w
  unfold G7
  rw [show tileAt (V c main_v239) ((ix4 (⟨t.val / 8, by omega⟩ : Fin 2) (⟨t.val % 8 * 28 + r, by omega⟩ : Fin 224) w o : S2x224x224x64.Idx) 0) ((ix4 (⟨t.val / 8, by omega⟩ : Fin 2) (⟨t.val % 8 * 28 + r, by omega⟩ : Fin 224) w o : S2x224x224x64.Idx) 1) ((ix4 (⟨t.val / 8, by omega⟩ : Fin 2) (⟨t.val % 8 * 28 + r, by omega⟩ : Fin 224) w o : S2x224x224x64.Idx) 2) = _ from e]
  rfl

end Cert.KernelIdeal.Val
end
-- ==== Proof.Reg8.lean ====
module

public import proofs.«01_k».proof.Proof.Gen.KernelIdeal.Frame.Region8
public import proofs.«01_k».proof.Proof.Spec
public import Idealize.ShloMosaic.Lib.Pointwise
public import Idealize.ShloMosaic.Lib.Pipeline.ValueKit

/-! What region 8 of the kernel, a fusion block, leaves in its result array. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The body's output block at row `r`, column `w`, channel `o`: the nine taps over its tile, plus the bias. -/
theorem out8_at (x : FVec Ideal S1x1x30x226x64 .f32) (wt : FVec Ideal S3x3x64x64 .f32)
    (b : FVec Ideal S1x1x64 .f32) (r : Fin 28) (w : Fin 224) (o : Fin 64) :
    out8_3 (F := Ideal) x wt b (ix4 0 r w o)
      = max (taps (tile x r w) (fun dy dx c => wt (ix4 dy dx c o)) + b (ix3 0 0 o)) 0 := by
  unfold out8_3
  rw [View.canon_unit_zero (show (![0, 0, 0, 0] : Fin 4 → Nat) = fun _ => 0 from funext fun a => by fin_cases a <;> rfl), taps_nine]
  pointwise [k8_pay1, k8_pay2, k8_pay3, k8_pay4, k8_pay5]
  simp only [tile, Fin.val_zero, Fin.val_one, Fin.val_two, Nat.zero_add]

/-- The whole result array: the convolution of the tiled input. -/
def G8 (xo : FVec Ideal S2x8x30x226x64 .f32) (wt : FVec Ideal S3x3x64x64 .f32) (b : FVec Ideal S2x1x64 .f32) :
    FVec Ideal S2x224x224x64 .f32 := fun i =>
  max (taps (tileAt xo (i 0) (i 1) (i 2)) (fun dy dx c => wt (ix4 dy dx c (i 3))) + b (ix3 (i 0) 0 (i 3))) 0

variable (V : (c : Dev nD) → (b : Ref sig .tc) → Buf (Elt Ideal) ((c : Thread nD τ).loc b))

theorem idx8_0 : ∀ t : Fin cfg8.N, win8_0.index t = ![t.val / 8, t.val % 8, 0, 0, 0] := by decide +kernel
theorem idx8_1 : ∀ t : Fin cfg8.N, win8_1.index t = ![0, 0, 0, 0] := by decide +kernel
theorem idx8_2 : ∀ t : Fin cfg8.N, win8_2.index t = ![t.val / 8, 0, 0] := by decide +kernel
theorem idx8_3 : ∀ t : Fin cfg8.N, win8_3.index t = ![t.val / 8, t.val % 8, 0, 0] := by decide +kernel

/-- The tile at point `t` is tile `t % 8` of image `t / 8`. -/
theorem blk8_0 (c : Dev nD) (t : Fin cfg8.N) (ht : t.val < 16) (a : Fin 30) (b : Fin 226) (d : Fin 64) :
    iblk8 V c 0 t (ix5 0 0 a b d) = V c main_v266 (ix5 (⟨t.val / 8, by omega⟩ : Fin 2) (⟨t.val % 8, by omega⟩ : Fin 8) a b d) := by
  blk_simp [iblk8]
  refine congrArg _ (funext fun e => Fin.ext ?_)
  blk_simp [idx8_0]
  fin_cases e <;> simp

/-- The weights at every point are the whole array. -/
theorem blk8_1 (c : Dev nD) (t : Fin cfg8.N) (y : S3x3x64x64.Idx) :
    iblk8 V c 1 t y = V c main_v246 y := by
  blk_simp [iblk8]
  refine congrArg _ (funext fun e => Fin.ext ?_)
  blk_simp [idx8_1]
  fin_cases e <;> simp

/-- The bias at point `t` is image `t / 8`'s. -/
theorem blk8_2 (c : Dev nD) (t : Fin cfg8.N) (ht : t.val < 16) (d : Fin 64) :
    iblk8 V c 2 t (ix3 0 0 d) = V c main_v269 (ix3 (⟨t.val / 8, by omega⟩ : Fin 2) 0 d) := by
  blk_simp [iblk8]
  refine congrArg _ (funext fun e => Fin.ext ?_)
  blk_simp [idx8_2]
  fin_cases e <;> simp

/-- Where the output block of point `t` sits in the result array. -/
theorem emb8_3 (t : Fin cfg8.N) (ht : t.val < 16) (r : Fin 28) (w : Fin 224) (o : Fin 64) :
    ((win8_3.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx8_3]
  fin_cases e <;> simp

/-- The result array after the region: the convolution of the region's inputs. -/
theorem arr8 (c : Dev nD) : (dat8 V c).arrAt 3 cfg8.N
    = G8 (V c main_v266) (V c main_v246) (V c main_v269) := by
  refine (dat8 V c).arrAt_eq_of_covers 3 _ (by decide +kernel) fun t hf y => ?_
  blk_simp
  rw [after8_3]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine (out8_at _ _ _ r w o).trans ?_
  refine Eq.trans ?_ (congrArg _ (emb8_3 t ht r w o).symm)
  unfold tile
  simp only [blk8_0 V c t ht, blk8_1, blk8_2 V c t ht]
  have e := tileAt_row (V c main_v266) (⟨t.val / 8, by omega⟩ : Fin 2) (⟨t.val % 8, by omega⟩ : Fin 8) r w
  unfold G8
  rw [show tileAt (V c main_v266) ((ix4 (⟨t.val / 8, by omega⟩ : Fin 2) (⟨t.val % 8 * 28 + r, by omega⟩ : Fin 224) w o : S2x224x224x64.Idx) 0) ((ix4 (⟨t.val / 8, by omega⟩ : Fin 2) (⟨t.val % 8 * 28 + r, by omega⟩ : Fin 224) w o : S2x224x224x64.Idx) 1) ((ix4 (⟨t.val / 8, by omega⟩ : Fin 2) (⟨t.val % 8 * 28 + r, by omega⟩ : Fin 224) w o : S2x224x224x64.Idx) 2) = _ from e]
  rfl

end Cert.KernelIdeal.Val
end
-- ==== Proof.Reg9.lean ====
module

public import proofs.«01_k».proof.Proof.Gen.KernelIdeal.Frame.Region9
public import proofs.«01_k».proof.Proof.Spec
public import Idealize.ShloMosaic.Lib.Pointwise
public import Idealize.ShloMosaic.Lib.Pipeline.ValueKit

/-! What region 9 of the kernel, a fusion block, leaves in its result array. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The body's output block at row `r`, column `w`, channel `o`: the nine taps over its tile, plus the bias. -/
theorem out9_at (x : FVec Ideal S1x1x30x226x64 .f32) (wt : FVec Ideal S3x3x64x64 .f32)
    (b : FVec Ideal S1x1x64 .f32) (r : Fin 28) (w : Fin 224) (o : Fin 64) :
    out9_3 (F := Ideal) x wt b (ix4 0 r w o)
      = max (taps (tile x r w) (fun dy dx c => wt (ix4 dy dx c o)) + b (ix3 0 0 o)) 0 := by
  unfold out9_3
  rw [View.canon_unit_zero (show (![0, 0, 0, 0] : Fin 4 → Nat) = fun _ => 0 from funext fun a => by fin_cases a <;> rfl), taps_nine]
  pointwise [k9_pay1, k9_pay2, k9_pay3, k9_pay4, k9_pay5]
  simp only [tile, Fin.val_zero, Fin.val_one, Fin.val_two, Nat.zero_add]

/-- The whole result array: the convolution of the tiled input. -/
def G9 (xo : FVec Ideal S2x8x30x226x64 .f32) (wt : FVec Ideal S3x3x64x64 .f32) (b : FVec Ideal S2x1x64 .f32) :
    FVec Ideal S2x224x224x64 .f32 := fun i =>
  max (taps (tileAt xo (i 0) (i 1) (i 2)) (fun dy dx c => wt (ix4 dy dx c (i 3))) + b (ix3 (i 0) 0 (i 3))) 0

variable (V : (c : Dev nD) → (b : Ref sig .tc) → Buf (Elt Ideal) ((c : Thread nD τ).loc b))

theorem idx9_0 : ∀ t : Fin cfg9.N, win9_0.index t = ![t.val / 8, t.val % 8, 0, 0, 0] := by decide +kernel
theorem idx9_1 : ∀ t : Fin cfg9.N, win9_1.index t = ![0, 0, 0, 0] := by decide +kernel
theorem idx9_2 : ∀ t : Fin cfg9.N, win9_2.index t = ![t.val / 8, 0, 0] := by decide +kernel
theorem idx9_3 : ∀ t : Fin cfg9.N, win9_3.index t = ![t.val / 8, t.val % 8, 0, 0] := by decide +kernel

/-- The tile at point `t` is tile `t % 8` of image `t / 8`. -/
theorem blk9_0 (c : Dev nD) (t : Fin cfg9.N) (ht : t.val < 16) (a : Fin 30) (b : Fin 226) (d : Fin 64) :
    iblk9 V c 0 t (ix5 0 0 a b d) = V c main_v293 (ix5 (⟨t.val / 8, by omega⟩ : Fin 2) (⟨t.val % 8, by omega⟩ : Fin 8) a b d) := by
  blk_simp [iblk9]
  refine congrArg _ (funext fun e => Fin.ext ?_)
  blk_simp [idx9_0]
  fin_cases e <;> simp

/-- The weights at every point are the whole array. -/
theorem blk9_1 (c : Dev nD) (t : Fin cfg9.N) (y : S3x3x64x64.Idx) :
    iblk9 V c 1 t y = V c main_v273 y := by
  blk_simp [iblk9]
  refine congrArg _ (funext fun e => Fin.ext ?_)
  blk_simp [idx9_1]
  fin_cases e <;> simp

/-- The bias at point `t` is image `t / 8`'s. -/
theorem blk9_2 (c : Dev nD) (t : Fin cfg9.N) (ht : t.val < 16) (d : Fin 64) :
    iblk9 V c 2 t (ix3 0 0 d) = V c main_v296 (ix3 (⟨t.val / 8, by omega⟩ : Fin 2) 0 d) := by
  blk_simp [iblk9]
  refine congrArg _ (funext fun e => Fin.ext ?_)
  blk_simp [idx9_2]
  fin_cases e <;> simp

/-- Where the output block of point `t` sits in the result array. -/
theorem emb9_3 (t : Fin cfg9.N) (ht : t.val < 16) (r : Fin 28) (w : Fin 224) (o : Fin 64) :
    ((win9_3.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx9_3]
  fin_cases e <;> simp

/-- The result array after the region: the convolution of the region's inputs. -/
theorem arr9 (c : Dev nD) : (dat9 V c).arrAt 3 cfg9.N
    = G9 (V c main_v293) (V c main_v273) (V c main_v296) := by
  refine (dat9 V c).arrAt_eq_of_covers 3 _ (by decide +kernel) fun t hf y => ?_
  blk_simp
  rw [after9_3]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine (out9_at _ _ _ r w o).trans ?_
  refine Eq.trans ?_ (congrArg _ (emb9_3 t ht r w o).symm)
  unfold tile
  simp only [blk9_0 V c t ht, blk9_1, blk9_2 V c t ht]
  have e := tileAt_row (V c main_v293) (⟨t.val / 8, by omega⟩ : Fin 2) (⟨t.val % 8, by omega⟩ : Fin 8) r w
  unfold G9
  rw [show tileAt (V c main_v293) ((ix4 (⟨t.val / 8, by omega⟩ : Fin 2) (⟨t.val % 8 * 28 + r, by omega⟩ : Fin 224) w o : S2x224x224x64.Idx) 0) ((ix4 (⟨t.val / 8, by omega⟩ : Fin 2) (⟨t.val % 8 * 28 + r, by omega⟩ : Fin 224) w o : S2x224x224x64.Idx) 1) ((ix4 (⟨t.val / 8, by omega⟩ : Fin 2) (⟨t.val % 8 * 28 + r, by omega⟩ : Fin 224) w o : S2x224x224x64.Idx) 2) = _ from e]
  rfl

end Cert.KernelIdeal.Val
end
-- ==== Proof.Reg10.lean ====
module

public import proofs.«01_k».proof.Proof.Gen.KernelIdeal.Frame.Region10
public import proofs.«01_k».proof.Proof.Spec
public import Idealize.ShloMosaic.Lib.Pointwise
public import Idealize.ShloMosaic.Lib.Pipeline.ValueKit

/-! What region 10 of the kernel, a fusion block, leaves in its result array. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The body's output block at row `r`, column `w`, channel `o`: the nine taps over its tile, plus the bias. -/
theorem out10_at (x : FVec Ideal S1x1x30x226x64 .f32) (wt : FVec Ideal S3x3x64x64 .f32)
    (b : FVec Ideal S1x1x64 .f32) (r : Fin 28) (w : Fin 224) (o : Fin 64) :
    out10_3 (F := Ideal) x wt b (ix4 0 r w o)
      = max (taps (tile x r w) (fun dy dx c => wt (ix4 dy dx c o)) + b (ix3 0 0 o)) 0 := by
  unfold out10_3
  rw [View.canon_unit_zero (show (![0, 0, 0, 0] : Fin 4 → Nat) = fun _ => 0 from funext fun a => by fin_cases a <;> rfl), taps_nine]
  pointwise [k10_pay1, k10_pay2, k10_pay3, k10_pay4, k10_pay5]
  simp only [tile, Fin.val_zero, Fin.val_one, Fin.val_two, Nat.zero_add]

/-- The whole result array: the convolution of the tiled input. -/
def G10 (xo : FVec Ideal S2x8x30x226x64 .f32) (wt : FVec Ideal S3x3x64x64 .f32) (b : FVec Ideal S2x1x64 .f32) :
    FVec Ideal S2x224x224x64 .f32 := fun i =>
  max (taps (tileAt xo (i 0) (i 1) (i 2)) (fun dy dx c => wt (ix4 dy dx c (i 3))) + b (ix3 (i 0) 0 (i 3))) 0

variable (V : (c : Dev nD) → (b : Ref sig .tc) → Buf (Elt Ideal) ((c : Thread nD τ).loc b))

theorem idx10_0 : ∀ t : Fin cfg10.N, win10_0.index t = ![t.val / 8, t.val % 8, 0, 0, 0] := by decide +kernel
theorem idx10_1 : ∀ t : Fin cfg10.N, win10_1.index t = ![0, 0, 0, 0] := by decide +kernel
theorem idx10_2 : ∀ t : Fin cfg10.N, win10_2.index t = ![t.val / 8, 0, 0] := by decide +kernel
theorem idx10_3 : ∀ t : Fin cfg10.N, win10_3.index t = ![t.val / 8, t.val % 8, 0, 0] := by decide +kernel

/-- The tile at point `t` is tile `t % 8` of image `t / 8`. -/
theorem blk10_0 (c : Dev nD) (t : Fin cfg10.N) (ht : t.val < 16) (a : Fin 30) (b : Fin 226) (d : Fin 64) :
    iblk10 V c 0 t (ix5 0 0 a b d) = V c main_v320 (ix5 (⟨t.val / 8, by omega⟩ : Fin 2) (⟨t.val % 8, by omega⟩ : Fin 8) a b d) := by
  blk_simp [iblk10]
  refine congrArg _ (funext fun e => Fin.ext ?_)
  blk_simp [idx10_0]
  fin_cases e <;> simp

/-- The weights at every point are the whole array. -/
theorem blk10_1 (c : Dev nD) (t : Fin cfg10.N) (y : S3x3x64x64.Idx) :
    iblk10 V c 1 t y = V c main_v300 y := by
  blk_simp [iblk10]
  refine congrArg _ (funext fun e => Fin.ext ?_)
  blk_simp [idx10_1]
  fin_cases e <;> simp

/-- The bias at point `t` is image `t / 8`'s. -/
theorem blk10_2 (c : Dev nD) (t : Fin cfg10.N) (ht : t.val < 16) (d : Fin 64) :
    iblk10 V c 2 t (ix3 0 0 d) = V c main_v323 (ix3 (⟨t.val / 8, by omega⟩ : Fin 2) 0 d) := by
  blk_simp [iblk10]
  refine congrArg _ (funext fun e => Fin.ext ?_)
  blk_simp [idx10_2]
  fin_cases e <;> simp

/-- Where the output block of point `t` sits in the result array. -/
theorem emb10_3 (t : Fin cfg10.N) (ht : t.val < 16) (r : Fin 28) (w : Fin 224) (o : Fin 64) :
    ((win10_3.blk t).view.emb (ix4 0 r w o : S1x28x224x64.Idx) : S2x224x224x64.Idx)
      = ix4 (⟨t.val / 8, by omega⟩ : Fin 2) (⟨t.val % 8 * 28 + r, by omega⟩ : Fin 224) w o := by
  refine (funext fun e => Fin.ext ?_)
  blk_simp [idx10_3]
  fin_cases e <;> simp

/-- The result array after the region: the convolution of the region's inputs. -/
theorem arr10 (c : Dev nD) : (dat10 V c).arrAt 3 cfg10.N
    = G10 (V c main_v320) (V c main_v300) (V c main_v323) := by
  refine (dat10 V c).arrAt_eq_of_covers 3 _ (by decide +kernel) fun t hf y => ?_
  blk_simp
  rw [after10_3]
  have ht : t.val < 16 := t.isLt
  obtain ⟨r, w, o, rfl⟩ : ∃ r w o, y = (ix4 0 r w o : S1x28x224x64.Idx) :=
    ⟨y 1, y 2, y 3, (eq_ix4 _).trans (congrArg (fun a : Fin 1 => (ix4 a (y 1) (y 2) (y 3) : S1x28x224x64.Idx)) (Subsingleton.elim (α := Fin 1) _ _))⟩
  refine (out10_at _ _ _ r w o).trans ?_
  refine Eq.trans ?_ (congrArg _ (emb10_3 t ht r w o).symm)
  unfold tile
  simp only [blk10_0 V c t ht, blk10_1, blk10_2 V c t ht]
  have e := tileAt_row (V c main_v320) (⟨t.val / 8, by omega⟩ : Fin 2) (⟨t.val % 8, by omega⟩ : Fin 8) r w
  unfold G10
  rw [show tileAt (V c main_v320) ((ix4 (⟨t.val / 8, by omega⟩ : Fin 2) (⟨t.val % 8 * 28 + r, by omega⟩ : Fin 224) w o : S2x224x224x64.Idx) 0) ((ix4 (⟨t.val / 8, by omega⟩ : Fin 2) (⟨t.val % 8 * 28 + r, by omega⟩ : Fin 224) w o : S2x224x224x64.Idx) 1) ((ix4 (⟨t.val / 8, by omega⟩ : Fin 2) (⟨t.val % 8 * 28 + r, by omega⟩ : Fin 224) w o : S2x224x224x64.Idx) 2) = _ from e]
  rfl

end Cert.KernelIdeal.Val
end
-- ==== Proof.Reg11.lean ====
module

public import proofs.«01_k».proof.Proof.Gen.KernelIdeal.Frame.Region11
public import proofs.«01_k».proof.Proof.Spec
public import Idealize.ShloMosaic.Lib.Pointwise
public import Idealize.ShloMosaic.Lib.Pipeline.ValueKit

/-! What region 11 of the kernel, the fusion network's last convolution, leaves in its result array. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Conv

/-- The body's output block at row `r`, column `w`, channel `o`: the nine taps over its tile, plus the bias. -/
theorem out11_at (x : FVec Ideal S1x1x30x226x64 .f32) (wt : FVec Ideal S3x3x64x1 .f32)
    (b : FVec Ideal S1x1x1 .f32) (r : Fin 28) (w : Fin 224) (o : Fin 1) :
    out11_3 (F := Ideal) x wt b (ix4 0 r w o)
      = taps (tile x r w) (fun dy dx c => wt (ix4 dy dx c o)) + b (ix3 0 0 o) := by
  obtain rfl : o = 0 := Subsingleton.elim _ _
  unfold out11_3
  rw [View.canon_unit_zero (show (![0, 0, 0, 0] : Fin 4 → Nat) = fun _ => 0 from funext fun a => by fin_cases a <;> rfl), taps_nine]
  pointwise [k11_pay1, k11_pay2, k11_pay3, k11_pay4, k11_pay5]
  simp only [tile, Fin.val_zero, Fin.val_one, Fin.val_two, Nat.zero_add]

/-- The whole result array: the convolution of the tiled input. -/
def G11 (xo : FVec Ideal S2x8x30x226x64 .f32) (wt : FVec Ideal S3x3x64x1 .f32) (b : FVec Ideal S2x1x1 .f32) :
    FVec Ideal S2x224x224x1 .f32 := fun i =>
  taps (tileAt xo (i 0) (i 1) (i 2)) (fun dy dx c => wt (ix4 dy dx c (i 3))) + b (ix3 (i 0) 0 (i 3))

variable (V : (c : Dev nD) → (b : Ref sig .tc) → Buf (Elt Ideal) ((c : Thread nD τ).loc b))

theorem idx11_0 : ∀ t : Fin cfg11.N, win11_0.index t = ![t.val / 8, t.val % 8, 0, 0, 0] := by decide +kernel
theorem idx11_1 : ∀ t : Fin cfg11.N, win11_1.index t = ![0, 0, 0, 0] := by decide +kernel
theorem idx11_2 : ∀ t : Fin cfg11.N, win11_2.index t = ![t.val / 8, 0, 0] := by decide +kernel
theorem idx11_3 : ∀ t : Fin cfg11.N, win11_3.index t = ![t.val / 8, t.val % 8, 0, 0] := by decide +kernel

/-- The tile at point `t` is tile `t % 8` of image `t / 8`. -/
theorem blk11_0 (c : Dev nD) (t : Fin cfg11.N) (ht : t.val < 16) (a : Fin 30) (b : Fin 226) (d : Fin 64) :
    iblk11 V c 0 t (ix5 0 0 a b d) = V c main_v343 (ix5 (⟨t.val / 8, by omega⟩ : Fin 2) (⟨t.val % 8, by omega⟩ : Fin 8) a b d) := by
  blk_simp [iblk11]
  refine congrArg _ (funext fun e => Fin.ext ?_)
  blk_simp [idx11_0]
  fin_cases e <;> simp

/-- The weights at every point are the whole array. -/
theorem blk11_1 (c : Dev nD) (t : Fin cfg11.N) (y : S3x3x64x1.Idx) :
    iblk11 V c 1 t y = V c main_v325 y := by
  blk_simp [iblk11]
  refine congrArg _ (funext fun e => Fin.ext ?_)
  blk_simp [idx11_1]
  fin_cases e <;> simp

/-- The bias at point `t` is image `t / 8`'s. -/
theorem blk11_2 (c : Dev nD) (t : Fin cfg11.N) (ht : t.val < 16) (d : Fin 1) :
    iblk11 V c 2 t (ix3 0 0 d) = V c main_v346 (ix3 (⟨t.val / 8, by omega⟩ : Fin 2) 0 d) := by
  blk_simp [iblk11]
  refine congrArg _ (funext fun e => Fin.ext ?_)
  blk_simp [idx11_2]
  fin_cases e <;> simp

/-- Where the output block of point `t` sits in the result array. -/
theorem emb11_3 (t : Fin cfg11.N) (ht : t.val < 16) (r : Fin 28) (w : Fin 224) (o : Fin 1) :
    ((win11_3.blk t).view.emb (ix4 0 r w o : S1x28x224x1.Idx) : S2x224x224x1.Idx)
      = ix4 (⟨t.val / 8, by omega⟩ : Fin 2) (⟨t.val % 8 * 28 + r, by omega⟩ : Fin 224) w o := by
  refine (funext fun e => Fin.ext ?_)
  blk_simp [idx11_3]
  fin_cases e <;> simp

/-- The result array after the region: the convolution of the region's inputs. -/
theorem arr11 (c : Dev nD) : (dat11 V c).arrAt 3 cfg11.N
    = G11 (V c main_v343) (V c main_v325) (V c main_v346) := by
  refine (dat11 V c).arrAt_eq_of_covers 3 _ (by decide +kernel) fun t hf y => ?_
  blk_simp
  rw [after11_3]
  have ht : t.val < 16 := t.isLt
  obtain ⟨r, w, o, rfl⟩ : ∃ r w o, y = (ix4 0 r w o : S1x28x224x1.Idx) :=
    ⟨y 1, y 2, y 3, (eq_ix4 _).trans (congrArg (fun a : Fin 1 => (ix4 a (y 1) (y 2) (y 3) : S1x28x224x1.Idx)) (Subsingleton.elim (α := Fin 1) _ _))⟩
  refine (out11_at _ _ _ r w o).trans ?_
  refine Eq.trans ?_ (congrArg _ (emb11_3 t ht r w o).symm)
  unfold tile
  simp only [blk11_0 V c t ht, blk11_1, blk11_2 V c t ht]
  have e := tileAt_row (V c main_v343) (⟨t.val / 8, by omega⟩ : Fin 2) (⟨t.val % 8, by omega⟩ : Fin 8) r w
  unfold G11
  rw [show tileAt (V c main_v343) ((ix4 (⟨t.val / 8, by omega⟩ : Fin 2) (⟨t.val % 8 * 28 + r, by omega⟩ : Fin 224) w o : S2x224x224x1.Idx) 0) ((ix4 (⟨t.val / 8, by omega⟩ : Fin 2) (⟨t.val % 8 * 28 + r, by omega⟩ : Fin 224) w o : S2x224x224x1.Idx) 1) ((ix4 (⟨t.val / 8, by omega⟩ : Fin 2) (⟨t.val % 8 * 28 + r, by omega⟩ : Fin 224) w o : S2x224x224x1.Idx) 2) = _ from e]
  rfl

end Cert.KernelIdeal.Val
end
-- ==== Proof.ChainD.lean ====
module

public import proofs.«01_k».proof.Proof.Tiles
public import proofs.«01_k».proof.Proof.Reg7
public import proofs.«01_k».proof.Proof.Reg8
public import proofs.«01_k».proof.Proof.Reg9
public import proofs.«01_k».proof.Proof.Reg10
public import proofs.«01_k».proof.Proof.Reg11
public import Idealize.ShloMosaic.Lib.Claim

/-! What the fusion network's five regions leave, over the arguments and the cleaned image. -/

@[expose] public section

set_option maxRecDepth 16384

noncomputable section

namespace Cert.KernelIdeal.Val

open Idealize.ShloMosaic Idealize.ShloMosaic.TcCoe Idealize.SL.Sem
open Cert.KernelIdeal Cert.KernelIdeal.Gen Conv

/-- The padding constant before region 7. -/
theorem cst7 (v : Valuation τ sig (Elt Ideal)) : StableHlo.after hostOps7 v (Proc.devRef .tc main_c_17) = constantI S_ 32 0#32 := by
  after_results

theorem padded7 (v : Valuation τ sig (Elt Ideal)) (h : v (Proc.devRef .tc main_c_17) = constantI S_ 32 0#32) :
    StableHlo.after hostOps7_1 v (Proc.devRef .tc main_v222) = pad1 (v (Proc.devRef .tc main_v220_1)) := by
  after_results
  unfold pad1
  rw [← h]
  rfl

theorem cut7 (v : Valuation τ sig (Elt Ideal)) : StableHlo.after hostOps7_2 v (Proc.devRef .tc main_v239) = tiles1 (v (Proc.devRef .tc main_v222)) := by
  after_results
  rfl

/-- Region 7's tiles at its entry. -/
theorem entry7 (v : Valuation τ sig (Elt Ideal)) :
    StableHlo.after hostOps7_2 (StableHlo.after hostOps7_1 (StableHlo.after hostOps7 v)) (Proc.devRef .tc main_v239)
      = tiles1 (pad1 (StableHlo.after hostOps7 v (Proc.devRef .tc main_v220_1))) := by
  rw [cut7, padded7 _ (cst7 v)]

theorem wt7 (v : Valuation τ sig (Elt Ideal)) (dy dx : Fin 3) (i : Fin 1) (o : Fin 64) :
    StableHlo.after hostOps7_2 (StableHlo.after hostOps7_1 (StableHlo.after hostOps7 v)) (Proc.devRef .tc main_v221) (ix4 dy dx i o) = v (Proc.devRef .tc main_arg18) (ix4 o i dy dx) := by
  rw [StableHlo.after_of_writes_sub hostOps7_2 _ hostOps7_2_writes (show main_v221 ∉ hostOps7_2_W by decide),
    StableHlo.after_of_writes_sub hostOps7_1 _ hostOps7_1_writes (show main_v221 ∉ hostOps7_1_W by decide)]
  after_results
  obtain rfl : i = 0 := Subsingleton.elim _ _
  pointwise []

theorem bs7 (v : Valuation τ sig (Elt Ideal)) (b : Fin 2) (o : Fin 64) :
    StableHlo.after hostOps7_2 (StableHlo.after hostOps7_1 (StableHlo.after hostOps7 v)) (Proc.devRef .tc main_v242) (ix3 b 0 o) = v (Proc.devRef .tc main_arg19) (ix1 o) := by
  have e (u : Valuation τ sig (Elt Ideal)) : StableHlo.after hostOps7_2 u (Proc.devRef .tc main_v242) (ix3 b 0 o) = u (Proc.devRef .tc main_arg19) (ix1 o) := by
    after_results
    pointwise []
  rw [e, StableHlo.after_of_writes_sub hostOps7_1 _ hostOps7_1_writes (show main_arg19 ∉ hostOps7_1_W by decide),
    StableHlo.after_of_writes_sub hostOps7 _ hostOps7_writes (show main_arg19 ∉ hostOps7_W by decide)]

/-- The padding constant before region 8. -/
theorem cst8 (v : Valuation τ sig (Elt Ideal)) : StableHlo.after hostOps8 v (Proc.devRef .tc main_c_18) = constantI S_ 32 0#32 := by
  after_results

theorem padded8 (v : Valuation τ sig (Elt Ideal)) (h : v (Proc.devRef .tc main_c_18) = constantI S_ 32 0#32) :
    StableHlo.after hostOps8_1 v (Proc.devRef .tc main_v249) = pad64 (v (Proc.devRef .tc main_v243)) := by
  after_results
  unfold pad64
  rw [← h]
  rfl

theorem cut8 (v : Valuation τ sig (Elt Ideal)) : StableHlo.after hostOps8_2 v (Proc.devRef .tc main_v266) = tiles64 (v (Proc.devRef .tc main_v249)) := by
  after_results
  rfl

/-- Region 8's tiles at its entry. -/
theorem entry8 (v : Valuation τ sig (Elt Ideal)) :
    StableHlo.after hostOps8_2 (StableHlo.after hostOps8_1 (StableHlo.after hostOps8 v)) (Proc.devRef .tc main_v266)
      = tiles64 (pad64 (StableHlo.after hostOps8 v (Proc.devRef .tc main_v243))) := by
  rw [cut8, padded8 _ (cst8 v)]

theorem wt8 (v : Valuation τ sig (Elt Ideal)) (dy dx : Fin 3) (i : Fin 64) (o : Fin 64) :
    StableHlo.after hostOps8_2 (StableHlo.after hostOps8_1 (StableHlo.after hostOps8 v)) (Proc.devRef .tc main_v246) (ix4 dy dx i o) = v (Proc.devRef .tc main_arg20) (ix5 (0 : Fin 3) o i dy dx) := by
  rw [StableHlo.after_of_writes_sub hostOps8_2 _ hostOps8_2_writes (show main_v246 ∉ hostOps8_2_W by decide),
    StableHlo.after_of_writes_sub hostOps8_1 _ hostOps8_1_writes (show main_v246 ∉ hostOps8_1_W by decide)]
  after_results
  pointwise []

theorem bs8 (v : Valuation τ sig (Elt Ideal)) (b : Fin 2) (o : Fin 64) :
    StableHlo.after hostOps8_2 (StableHlo.after hostOps8_1 (StableHlo.after hostOps8 v)) (Proc.devRef .tc main_v269) (ix3 b 0 o) = v (Proc.devRef .tc main_arg21) (ix2 (0 : Fin 3) o) := by
  have e (u : Valuation τ sig (Elt Ideal)) : StableHlo.after hostOps8_2 u (Proc.devRef .tc main_v269) (ix3 b 0 o) = u (Proc.devRef .tc main_v248) (ix1 o) := by
    after_results
    pointwise []
  rw [e, StableHlo.after_of_writes_sub hostOps8_1 _ hostOps8_1_writes (show main_v248 ∉ hostOps8_1_W by decide)]
  after_results
  pointwise []

/-- The padding constant before region 9. -/
theorem cst9 (v : Valuation τ sig (Elt Ideal)) : StableHlo.after hostOps9 v (Proc.devRef .tc main_c_19) = constantI S_ 32 0#32 := by
  after_results

theorem padded9 (v : Valuation τ sig (Elt Ideal)) (h : v (Proc.devRef .tc main_c_19) = constantI S_ 32 0#32) :
    StableHlo.after hostOps9_1 v (Proc.devRef .tc main_v276) = pad64 (v (Proc.devRef .tc main_v270)) := by
  after_results
  unfold pad64
  rw [← h]
  rfl

theorem cut9 (v : Valuation τ sig (Elt Ideal)) : StableHlo.after hostOps9_2 v (Proc.devRef .tc main_v293) = tiles64 (v (Proc.devRef .tc main_v276)) := by
  after_results
  rfl

/-- Region 9's tiles at its entry. -/
theorem entry9 (v : Valuation τ sig (Elt Ideal)) :
    StableHlo.after hostOps9_2 (StableHlo.after hostOps9_1 (StableHlo.after hostOps9 v)) (Proc.devRef .tc main_v293)
      = tiles64 (pad64 (StableHlo.after hostOps9 v (Proc.devRef .tc main_v270))) := by
  rw [cut9, padded9 _ (cst9 v)]

theorem wt9 (v : Valuation τ sig (Elt Ideal)) (dy dx : Fin 3) (i : Fin 64) (o : Fin 64) :
    StableHlo.after hostOps9_2 (StableHlo.after hostOps9_1 (StableHlo.after hostOps9 v)) (Proc.devRef .tc main_v273) (ix4 dy dx i o) = v (Proc.devRef .tc main_arg20) (ix5 (1 : Fin 3) o i dy dx) := by
  rw [StableHlo.after_of_writes_sub hostOps9_2 _ hostOps9_2_writes (show main_v273 ∉ hostOps9_2_W by decide),
    StableHlo.after_of_writes_sub hostOps9_1 _ hostOps9_1_writes (show main_v273 ∉ hostOps9_1_W by decide)]
  after_results
  pointwise []

theorem bs9 (v : Valuation τ sig (Elt Ideal)) (b : Fin 2) (o : Fin 64) :
    StableHlo.after hostOps9_2 (StableHlo.after hostOps9_1 (StableHlo.after hostOps9 v)) (Proc.devRef .tc main_v296) (ix3 b 0 o) = v (Proc.devRef .tc main_arg21) (ix2 (1 : Fin 3) o) := by
  have e (u : Valuation τ sig (Elt Ideal)) : StableHlo.after hostOps9_2 u (Proc.devRef .tc main_v296) (ix3 b 0 o) = u (Proc.devRef .tc main_v275) (ix1 o) := by
    after_results
    pointwise []
  rw [e, StableHlo.after_of_writes_sub hostOps9_1 _ hostOps9_1_writes (show main_v275 ∉ hostOps9_1_W by decide)]
  after_results
  pointwise []

/-- The padding constant before region 10. -/
theorem cst10 (v : Valuation τ sig (Elt Ideal)) : StableHlo.after hostOps10 v (Proc.devRef .tc main_c_20) = constantI S_ 32 0#32 := by
  after_results

theorem padded10 (v : Valuation τ sig (Elt Ideal)) (h : v (Proc.devRef .tc main_c_20) = constantI S_ 32 0#32) :
    StableHlo.after hostOps10_1 v (Proc.devRef .tc main_v303) = pad64 (v (Proc.devRef .tc main_v297)) := by
  after_results
  unfold pad64
  rw [← h]
  rfl

theorem cut10 (v : Valuation τ sig (Elt Ideal)) : StableHlo.after hostOps10_2 v (Proc.devRef .tc main_v320) = tiles64 (v (Proc.devRef .tc main_v303)) := by
  after_results
  rfl

/-- Region 10's tiles at its entry. -/
theorem entry10 (v : Valuation τ sig (Elt Ideal)) :
    StableHlo.after hostOps10_2 (StableHlo.after hostOps10_1 (StableHlo.after hostOps10 v)) (Proc.devRef .tc main_v320)
      = tiles64 (pad64 (StableHlo.after hostOps10 v (Proc.devRef .tc main_v297))) := by
  rw [cut10, padded10 _ (cst10 v)]

theorem wt10 (v : Valuation τ sig (Elt Ideal)) (dy dx : Fin 3) (i : Fin 64) (o : Fin 64) :
    StableHlo.after hostOps10_2 (StableHlo.after hostOps10_1 (StableHlo.after hostOps10 v)) (Proc.devRef .tc main_v300) (ix4 dy dx i o) = v (Proc.devRef .tc main_arg20) (ix5 (2 : Fin 3) o i dy dx) := by
  rw [StableHlo.after_of_writes_sub hostOps10_2 _ hostOps10_2_writes (show main_v300 ∉ hostOps10_2_W by decide),
    StableHlo.after_of_writes_sub hostOps10_1 _ hostOps10_1_writes (show main_v300 ∉ hostOps10_1_W by decide)]
  after_results
  pointwise []

theorem bs10 (v : Valuation τ sig (Elt Ideal)) (b : Fin 2) (o : Fin 64) :
    StableHlo.after hostOps10_2 (StableHlo.after hostOps10_1 (StableHlo.after hostOps10 v)) (Proc.devRef .tc main_v323) (ix3 b 0 o) = v (Proc.devRef .tc main_arg21) (ix2 (2 : Fin 3) o) := by
  have e (u : Valuation τ sig (Elt Ideal)) : StableHlo.after hostOps10_2 u (Proc.devRef .tc main_v323) (ix3 b 0 o) = u (Proc.devRef .tc main_v302) (ix1 o) := by
    after_results
    pointwise []
  rw [e, StableHlo.after_of_writes_sub hostOps10_1 _ hostOps10_1_writes (show main_v302 ∉ hostOps10_1_W by decide)]
  after_results
  pointwise []

/-- The padding constant before region 11. -/
theorem cst11 (v : Valuation τ sig (Elt Ideal)) : StableHlo.after hostOps11 v (Proc.devRef .tc main_c_21) = constantI S_ 32 0#32 := by
  after_results

theorem padded11 (v : Valuation τ sig (Elt Ideal)) (h : v (Proc.devRef .tc main_c_21) = constantI S_ 32 0#32) :
    StableHlo.after hostOps11_1 v (Proc.devRef .tc main_v326) = pad64 (v (Proc.devRef .tc main_v324)) := by
  after_results
  unfold pad64
  rw [← h]
  rfl

theorem cut11 (v : Valuation τ sig (Elt Ideal)) : StableHlo.after hostOps11_2 v (Proc.devRef .tc main_v343) = tiles64 (v (Proc.devRef .tc main_v326)) := by
  after_results
  rfl

/-- Region 11's tiles at its entry. -/
theorem entry11 (v : Valuation τ sig (Elt Ideal)) :
    StableHlo.after hostOps11_2 (StableHlo.after hostOps11_1 (StableHlo.after hostOps11 v)) (Proc.devRef .tc main_v343)
      = tiles64 (pad64 (StableHlo.after hostOps11 v (Proc.devRef .tc main_v324))) := by
  rw [cut11, padded11 _ (cst11 v)]

theorem wt11 (v : Valuation τ sig (Elt Ideal)) (dy dx : Fin 3) (i : Fin 64) (o : Fin 1) :
    StableHlo.after hostOps11_2 (StableHlo.after hostOps11_1 (StableHlo.after hostOps11 v)) (Proc.devRef .tc main_v325) (ix4 dy dx i o) = v (Proc.devRef .tc main_arg22) (ix4 o i dy dx) := by
  rw [StableHlo.after_of_writes_sub hostOps11_2 _ hostOps11_2_writes (show main_v325 ∉ hostOps11_2_W by decide),
    StableHlo.after_of_writes_sub hostOps11_1 _ hostOps11_1_writes (show main_v325 ∉ hostOps11_1_W by decide)]
  after_results
  obtain rfl : o = 0 := Subsingleton.elim _ _
  pointwise []

theorem bs11 (v : Valuation τ sig (Elt Ideal)) (b : Fin 2) (o : Fin 1) :
    StableHlo.after hostOps11_2 (StableHlo.after hostOps11_1 (StableHlo.after hostOps11 v)) (Proc.devRef .tc main_v346) (ix3 b 0 o) = v (Proc.devRef .tc main_arg23) (ix1 o) := by
  have e (u : Valuation τ sig (Elt Ideal)) : StableHlo.after hostOps11_2 u (Proc.devRef .tc main_v346) (ix3 b 0 o) = u (Proc.devRef .tc main_arg23) (ix1 o) := by
    after_results
    obtain rfl : o = 0 := Subsingleton.elim _ _
    pointwise []
  rw [e, StableHlo.after_of_writes_sub hostOps11_1 _ hostOps11_1_writes (show main_arg23 ∉ hostOps11_1_W by decide),
    StableHlo.after_of_writes_sub hostOps11 _ hostOps11_writes (show main_arg23 ∉ hostOps11_W by decide)]

variable (m : (ℓ : Loc nD τ sig) → Buf (Elt Ideal) ℓ) (ρ : Dev nD → PrngReg)

/-- What region 7 leaves: the convolution of its input. -/
theorem out7 (c : Dev nD) : im (W32 m ρ c (Proc.devRef .tc main_v243)) = relu (conv (im (W28 m ρ c (Proc.devRef .tc main_v220_1))) (oihw (m ((c : Thread nD τ).loc main_arg18))) (vec (m ((c : Thread nD τ).loc main_arg19)))) := by
  funext b h w o
  refine (congrFun ((W32_arr m ρ c 3).trans (arr7 (V31 m ρ) c)) (ix4 b h w o)).trans ?_
  have et : tileAt (W31 m ρ c (Proc.devRef .tc main_v239)) b h w = win (im (W28 m ρ c (Proc.devRef .tc main_v220_1))) b h w := by
    refine (congrArg (fun x => tileAt x b h w) (entry7 (W28 m ρ c))).trans ((win1 _ b h w).trans ?_)
    have ei : im (C := 1) (StableHlo.after hostOps7 (W28 m ρ c) (Proc.devRef .tc main_v220_1)) = (im (W28 m ρ c (Proc.devRef .tc main_v220_1))) := by
      rw [StableHlo.after_of_writes_sub hostOps7 _ hostOps7_writes (show main_v220_1 ∉ hostOps7_W by decide)]
    exact congrArg (fun x => win x b h w) ei
  have ew : (fun (dy dx : Fin 3) (i : Fin 1) => W31 m ρ c (Proc.devRef .tc main_v221) (ix4 dy dx i o)) = fun dy dx i => (oihw (m ((c : Thread nD τ).loc main_arg18))) dy dx i o := by
    funext dy dx i
    exact (wt7 (W28 m ρ c) dy dx i o).trans (congrFun (W28_args m ρ c main_arg18 (by decide)) _)
  have eb : W31 m ρ c (Proc.devRef .tc main_v242) (ix3 b 0 o) = (vec (m ((c : Thread nD τ).loc main_arg19))) o :=
    (bs7 (W28 m ρ c) b o).trans (congrFun (W28_args m ρ c main_arg19 (by decide)) _)
  show max (taps (tileAt (W31 m ρ c (Proc.devRef .tc main_v239)) b h w) (fun (dy dx : Fin 3) (i : Fin 1) => W31 m ρ c (Proc.devRef .tc main_v221) (ix4 dy dx i o)) + W31 m ρ c (Proc.devRef .tc main_v242) (ix3 b 0 o)) 0 = _
  rw [et, ew, eb]
  rfl

/-- What region 8 leaves: the convolution of its input. -/
theorem out8 (c : Dev nD) : im (W36 m ρ c (Proc.devRef .tc main_v270)) = relu (conv (im (W32 m ρ c (Proc.devRef .tc main_v243))) (oihwOf (m ((c : Thread nD τ).loc main_arg20)) (0 : Fin 3)) (vecOf (m ((c : Thread nD τ).loc main_arg21)) (0 : Fin 3))) := by
  funext b h w o
  refine (congrFun ((W36_arr m ρ c 3).trans (arr8 (V35 m ρ) c)) (ix4 b h w o)).trans ?_
  have et : tileAt (W35 m ρ c (Proc.devRef .tc main_v266)) b h w = win (im (W32 m ρ c (Proc.devRef .tc main_v243))) b h w := by
    refine (congrArg (fun x => tileAt x b h w) (entry8 (W32 m ρ c))).trans ((win64 _ b h w).trans ?_)
    have ei : im (C := 64) (StableHlo.after hostOps8 (W32 m ρ c) (Proc.devRef .tc main_v243)) = (im (W32 m ρ c (Proc.devRef .tc main_v243))) := by
      rw [StableHlo.after_of_writes_sub hostOps8 _ hostOps8_writes (show main_v243 ∉ hostOps8_W by decide)]
    exact congrArg (fun x => win x b h w) ei
  have ew : (fun (dy dx : Fin 3) (i : Fin 64) => W35 m ρ c (Proc.devRef .tc main_v246) (ix4 dy dx i o)) = fun dy dx i => (oihwOf (m ((c : Thread nD τ).loc main_arg20)) (0 : Fin 3)) dy dx i o := by
    funext dy dx i
    exact (wt8 (W32 m ρ c) dy dx i o).trans (congrFun (W32_args m ρ c main_arg20 (by decide)) _)
  have eb : W35 m ρ c (Proc.devRef .tc main_v269) (ix3 b 0 o) = (vecOf (m ((c : Thread nD τ).loc main_arg21)) (0 : Fin 3)) o :=
    (bs8 (W32 m ρ c) b o).trans (congrFun (W32_args m ρ c main_arg21 (by decide)) _)
  show max (taps (tileAt (W35 m ρ c (Proc.devRef .tc main_v266)) b h w) (fun (dy dx : Fin 3) (i : Fin 64) => W35 m ρ c (Proc.devRef .tc main_v246) (ix4 dy dx i o)) + W35 m ρ c (Proc.devRef .tc main_v269) (ix3 b 0 o)) 0 = _
  rw [et, ew, eb]
  rfl

/-- What region 9 leaves: the convolution of its input. -/
theorem out9 (c : Dev nD) : im (W40 m ρ c (Proc.devRef .tc main_v297)) = relu (conv (im (W36 m ρ c (Proc.devRef .tc main_v270))) (oihwOf (m ((c : Thread nD τ).loc main_arg20)) (1 : Fin 3)) (vecOf (m ((c : Thread nD τ).loc main_arg21)) (1 : Fin 3))) := by
  funext b h w o
  refine (congrFun ((W40_arr m ρ c 3).trans (arr9 (V39 m ρ) c)) (ix4 b h w o)).trans ?_
  have et : tileAt (W39 m ρ c (Proc.devRef .tc main_v293)) b h w = win (im (W36 m ρ c (Proc.devRef .tc main_v270))) b h w := by
    refine (congrArg (fun x => tileAt x b h w) (entry9 (W36 m ρ c))).trans ((win64 _ b h w).trans ?_)
    have ei : im (C := 64) (StableHlo.after hostOps9 (W36 m ρ c) (Proc.devRef .tc main_v270)) = (im (W36 m ρ c (Proc.devRef .tc main_v270))) := by
      rw [StableHlo.after_of_writes_sub hostOps9 _ hostOps9_writes (show main_v270 ∉ hostOps9_W by decide)]
    exact congrArg (fun x => win x b h w) ei
  have ew : (fun (dy dx : Fin 3) (i : Fin 64) => W39 m ρ c (Proc.devRef .tc main_v273) (ix4 dy dx i o)) = fun dy dx i => (oihwOf (m ((c : Thread nD τ).loc main_arg20)) (1 : Fin 3)) dy dx i o := by
    funext dy dx i
    exact (wt9 (W36 m ρ c) dy dx i o).trans (congrFun (W36_args m ρ c main_arg20 (by decide)) _)
  have eb : W39 m ρ c (Proc.devRef .tc main_v296) (ix3 b 0 o) = (vecOf (m ((c : Thread nD τ).loc main_arg21)) (1 : Fin 3)) o :=
    (bs9 (W36 m ρ c) b o).trans (congrFun (W36_args m ρ c main_arg21 (by decide)) _)
  show max (taps (tileAt (W39 m ρ c (Proc.devRef .tc main_v293)) b h w) (fun (dy dx : Fin 3) (i : Fin 64) => W39 m ρ c (Proc.devRef .tc main_v273) (ix4 dy dx i o)) + W39 m ρ c (Proc.devRef .tc main_v296) (ix3 b 0 o)) 0 = _
  rw [et, ew, eb]
  rfl

/-- What region 10 leaves: the convolution of its input. -/
theorem out10 (c : Dev nD) : im (W44 m ρ c (Proc.devRef .tc main_v324)) = relu (conv (im (W40 m ρ c (Proc.devRef .tc main_v297))) (oihwOf (m ((c : Thread nD τ).loc main_arg20)) (2 : Fin 3)) (vecOf (m ((c : Thread nD τ).loc main_arg21)) (2 : Fin 3))) := by
  funext b h w o
  refine (congrFun ((W44_arr m ρ c 3).trans (arr10 (V43 m ρ) c)) (ix4 b h w o)).trans ?_
  have et : tileAt (W43 m ρ c (Proc.devRef .tc main_v320)) b h w = win (im (W40 m ρ c (Proc.devRef .tc main_v297))) b h w := by
    refine (congrArg (fun x => tileAt x b h w) (entry10 (W40 m ρ c))).trans ((win64 _ b h w).trans ?_)
    have ei : im (C := 64) (StableHlo.after hostOps10 (W40 m ρ c) (Proc.devRef .tc main_v297)) = (im (W40 m ρ c (Proc.devRef .tc main_v297))) := by
      rw [StableHlo.after_of_writes_sub hostOps10 _ hostOps10_writes (show main_v297 ∉ hostOps10_W by decide)]
    exact congrArg (fun x => win x b h w) ei
  have ew : (fun (dy dx : Fin 3) (i : Fin 64) => W43 m ρ c (Proc.devRef .tc main_v300) (ix4 dy dx i o)) = fun dy dx i => (oihwOf (m ((c : Thread nD τ).loc main_arg20)) (2 : Fin 3)) dy dx i o := by
    funext dy dx i
    exact (wt10 (W40 m ρ c) dy dx i o).trans (congrFun (W40_args m ρ c main_arg20 (by decide)) _)
  have eb : W43 m ρ c (Proc.devRef .tc main_v323) (ix3 b 0 o) = (vecOf (m ((c : Thread nD τ).loc main_arg21)) (2 : Fin 3)) o :=
    (bs10 (W40 m ρ c) b o).trans (congrFun (W40_args m ρ c main_arg21 (by decide)) _)
  show max (taps (tileAt (W43 m ρ c (Proc.devRef .tc main_v320)) b h w) (fun (dy dx : Fin 3) (i : Fin 64) => W43 m ρ c (Proc.devRef .tc main_v300) (ix4 dy dx i o)) + W43 m ρ c (Proc.devRef .tc main_v323) (ix3 b 0 o)) 0 = _
  rw [et, ew, eb]
  rfl

/-- What region 11 leaves: the convolution of its input. -/
theorem out11 (c : Dev nD) : im (W48 m ρ c (Proc.devRef .tc main_v347)) = conv (im (W44 m ρ c (Proc.devRef .tc main_v324))) (oihw (m ((c : Thread nD τ).loc main_arg22))) (vec (m ((c : Thread nD τ).loc main_arg23))) := by
  funext b h w o
  refine (congrFun ((W48_arr m ρ c 3).trans (arr11 (V47 m ρ) c)) (ix4 b h w o)).trans ?_
  have et : tileAt (W47 m ρ c (Proc.devRef .tc main_v343)) b h w = win (im (W44 m ρ c (Proc.devRef .tc main_v324))) b h w := by
    refine (congrArg (fun x => tileAt x b h w) (entry11 (W44 m ρ c))).trans ((win64 _ b h w).trans ?_)
    have ei : im (C := 64) (StableHlo.after hostOps11 (W44 m ρ c) (Proc.devRef .tc main_v324)) = (im (W44 m ρ c (Proc.devRef .tc main_v324))) := by
      rw [StableHlo.after_of_writes_sub hostOps11 _ hostOps11_writes (show main_v324 ∉ hostOps11_W by decide)]
    exact congrArg (fun x => win x b h w) ei
  have ew : (fun (dy dx : Fin 3) (i : Fin 64) => W47 m ρ c (Proc.devRef .tc main_v325) (ix4 dy dx i o)) = fun dy dx i => (oihw (m ((c : Thread nD τ).loc main_arg22))) dy dx i o := by
    funext dy dx i
    exact (wt11 (W44 m ρ c) dy dx i o).trans (congrFun (W44_args m ρ c main_arg22 (by decide)) _)
  have eb : W47 m ρ c (Proc.devRef .tc main_v346) (ix3 b 0 o) = (vec (m ((c : Thread nD τ).loc main_arg23))) o :=
    (bs11 (W44 m ρ c) b o).trans (congrFun (W44_args m ρ c main_arg23 (by decide)) _)
  show taps (tileAt (W47 m ρ c (Proc.devRef .tc main_v343)) b h w) (fun (dy dx : Fin 3) (i : Fin 64) => W47 m ρ c (Proc.devRef .tc main_v325) (ix4 dy dx i o)) + W47 m ρ c (Proc.devRef .tc main_v346) (ix3 b 0 o) = _
  rw [et, ew, eb]
  rfl

end Cert.KernelIdeal.Val
end
-- ==== Proof.Router.lean ====
module

public import proofs.«01_k».proof.Proof.Rout
public import proofs.«01_k».proof.Proof.Tiles
public import Idealize.ShloMosaic.Lib.Claim

/-! The router's stretch: the logits, the rows of the expert tables the two greatest name, and their weights. -/

@[expose] public section

set_option maxRecDepth 16384

noncomputable section

namespace Cert.KernelIdeal.Val

open Idealize.ShloMosaic Idealize.ShloMosaic.TcCoe Idealize.SL.Sem
open Cert.KernelIdeal Cert.KernelIdeal.Gen Conv

/-- Gathering whole kernels by index: entry `(b, k)` is the kernel its index names. -/
theorem gather6 (x : S3x3x3x64x64.Idx → EReal) (idx : IVec S2x2x1 32) (b k : Fin 2) (e : Fin 3)
    (h : idx (ix3 b k 0) = BitVec.ofNat 32 e.val) (dy dx : Fin 3) (i o : Fin 64) :
    Host.gather gather_S3x3x3x64x64_S2x2x1_S2x2x3x3x64x64_2345_0_n_n_0_2_1336464 x idx (ix6 b k dy dx i o) = x (ix5 e dy dx i o) := by
  unfold Host.gather
  congr 1
  funext a
  refine Fin.ext ?_
  have hsi : ∀ c, (gather_S3x3x3x64x64_S2x2x1_S2x2x3x3x64x64_2345_0_n_n_0_2_1336464).siIdx (ix6 b k dy dx i o) c = (ix3 b k 0) := by
    intro c
    funext q
    match q with
    | ⟨0, _⟩ => rfl
    | ⟨1, _⟩ => rfl
    | ⟨2, _⟩ => exact Subsingleton.elim (α := Fin 1) _ _
  show (gather_S3x3x3x64x64_S2x2x1_S2x2x3x3x64x64_2345_0_n_n_0_2_1336464).start _ idx a + (gather_S3x3x3x64x64_S2x2x1_S2x2x3x3x64x64_2345_0_n_n_0_2_1336464).batchCoord _ a + (gather_S3x3x3x64x64_S2x2x1_S2x2x3x3x64x64_2345_0_n_n_0_2_1336464).offCoord _ a = _
  rw [GatherDims.batchCoord_eq_zero _ _ _ List.not_mem_nil]
  match a with
  | ⟨0, _⟩ =>
    unfold GatherDims.start
    rw [dif_pos (show (⟨0, by decide⟩ : Fin _) ∈ (gather_S3x3x3x64x64_S2x2x1_S2x2x3x3x64x64_2345_0_n_n_0_2_1336464).startIndexMap from List.mem_singleton.mpr rfl), hsi, h]
    revert e
    intro e _
    match e with
    | 0 => rfl
    | 1 => rfl
    | 2 => rfl
  | ⟨1, _⟩ => exact Nat.zero_add _
  | ⟨2, _⟩ => exact Nat.zero_add _
  | ⟨3, _⟩ => exact Nat.zero_add _
  | ⟨4, _⟩ => exact Nat.zero_add _

/-- Gathering whole bias rows by index. -/
theorem gather3 (x : S3x64.Idx → EReal) (idx : IVec S2x2x1 32) (b k : Fin 2) (e : Fin 3)
    (h : idx (ix3 b k 0) = BitVec.ofNat 32 e.val) (o : Fin 64) :
    Host.gather gather_S3x64_S2x2x1_S2x2x64_2_0_n_n_0_2_164 x idx (ix3 b k o) = x (ix2 e o) := by
  unfold Host.gather
  congr 1
  funext a
  refine Fin.ext ?_
  have hsi : ∀ c, (gather_S3x64_S2x2x1_S2x2x64_2_0_n_n_0_2_164).siIdx (ix3 b k o) c = (ix3 b k 0) := by
    intro c
    funext q
    match q with
    | ⟨0, _⟩ => rfl
    | ⟨1, _⟩ => rfl
    | ⟨2, _⟩ => exact Subsingleton.elim (α := Fin 1) _ _
  show (gather_S3x64_S2x2x1_S2x2x64_2_0_n_n_0_2_164).start _ idx a + (gather_S3x64_S2x2x1_S2x2x64_2_0_n_n_0_2_164).batchCoord _ a + (gather_S3x64_S2x2x1_S2x2x64_2_0_n_n_0_2_164).offCoord _ a = _
  rw [GatherDims.batchCoord_eq_zero _ _ _ List.not_mem_nil]
  match a with
  | ⟨0, _⟩ =>
    unfold GatherDims.start
    rw [dif_pos (show (⟨0, by decide⟩ : Fin _) ∈ (gather_S3x64_S2x2x1_S2x2x64_2_0_n_n_0_2_164).startIndexMap from List.mem_singleton.mpr rfl), hsi, h]
    revert e
    intro e _
    match e with
    | 0 => rfl
    | 1 => rfl
    | 2 => rfl
  | ⟨1, _⟩ => exact Nat.zero_add _

section
variable (v : Valuation τ sig (Elt Ideal))

/-- The logits of a valuation. -/
def lgOf : T23.Idx → EReal :=
  logit (fun b c => v (Proc.devRef .tc main_v102_3) (ix3 b 0 c)) (fun c e => v (Proc.devRef .tc main_arg10) (ix2 c e))
    (fun e => v (Proc.devRef .tc main_arg11) (ix1 e))

theorem v109_eq : StableHlo.after hostOps4 v (Proc.devRef .tc main_v109) = lgOf v := by
  funext j
  obtain ⟨b, e, rfl⟩ : ∃ (b : Fin 2) (e : Fin 3), j = ix2 b e := ⟨j 0, j 1, by funext a; match a with | ⟨0, _⟩ => rfl | ⟨1, _⟩ => rfl⟩
  after_results
  pointwise []
  rfl

theorem ids_eq (b k : Fin 2) : StableHlo.after hostOps4 v (Proc.devRef .tc main_indices) (ix2 b k) = BitVec.ofNat 32 (pick (lgOf v) b k).val := by
  have h : StableHlo.after hostOps4 v (Proc.devRef .tc main_indices)
      = (Host.topK T22 1 (FloatOps.cmpfTotal (F := Ideal) (φ := .f32) .gt) (StableHlo.after hostOps4 v (Proc.devRef .tc main_v109) : T23.Idx → EReal) sliceFits_S2x3_S2x2).2 := by
    after_results
  rw [h, v109_eq]
  exact pick_idx _ _ b k

theorem vals_eq (b k : Fin 2) : StableHlo.after hostOps4 v (Proc.devRef .tc main_values) (ix2 b k) = lgOf v (ix2 b (pick (lgOf v) b k)) := by
  have h : StableHlo.after hostOps4 v (Proc.devRef .tc main_values)
      = (Host.topK T22 1 (FloatOps.cmpfTotal (F := Ideal) (φ := .f32) .gt) (StableHlo.after hostOps4 v (Proc.devRef .tc main_v109) : T23.Idx → EReal) sliceFits_S2x3_S2x2).1 := by
    after_results
  rw [h, v109_eq]
  exact pick_val _ _ b k

/-- The weights of the chosen pair. -/
theorem v120_eq (b k : Fin 2) : StableHlo.after hostOps4 v (Proc.devRef .tc main_v120) (ix2 b k) = gate (lgOf v) b k := by
  have h : StableHlo.after hostOps4 v (Proc.devRef .tc main_v120) (ix2 b k)
      = prob (fun k => StableHlo.after hostOps4 v (Proc.devRef .tc main_values) (ix2 b k)) k := by
    after_results
    generalize Host.topK _ _ _ _ _ = T
    pointwise []
    rfl
  rw [h]
  exact congrArg (prob · k) (funext fun k => vals_eq v b k)

/-- A small non-negative index is left as it is by the wrap of negative ones. -/
theorem wrap_at (e : Fin 3) :
    Scalar.select (IntOp.cmpi .slt (BitVec.ofNat 32 e.val) 0#32) (IntOp.addi (BitVec.ofNat 32 e.val) 3#32) (BitVec.ofNat 32 e.val) = BitVec.ofNat 32 e.val := by
  revert e; decide

theorem v128_eq (b k : Fin 2) : StableHlo.after hostOps4 v (Proc.devRef .tc main_v128) (ix3 b k 0) = BitVec.ofNat 32 (pick (lgOf v) b k).val := by
  have h : StableHlo.after hostOps4 v (Proc.devRef .tc main_v128) (ix3 b k 0)
      = Scalar.select (IntOp.cmpi .slt (StableHlo.after hostOps4 v (Proc.devRef .tc main_indices) (ix2 b k)) 0#32)
        (IntOp.addi (StableHlo.after hostOps4 v (Proc.devRef .tc main_indices) (ix2 b k)) 3#32)
        (StableHlo.after hostOps4 v (Proc.devRef .tc main_indices) (ix2 b k)) := by
    after_results
    generalize Host.topK _ _ _ _ _ = T
    pointwise []
  rw [h, ids_eq]
  exact wrap_at _

theorem v137_eq (b k : Fin 2) : StableHlo.after hostOps4 v (Proc.devRef .tc main_v137) (ix3 b k 0) = BitVec.ofNat 32 (pick (lgOf v) b k).val := by
  have h : StableHlo.after hostOps4 v (Proc.devRef .tc main_v137) (ix3 b k 0)
      = Scalar.select (IntOp.cmpi .slt (StableHlo.after hostOps4 v (Proc.devRef .tc main_indices) (ix2 b k)) 0#32)
        (IntOp.addi (StableHlo.after hostOps4 v (Proc.devRef .tc main_indices) (ix2 b k)) 3#32)
        (StableHlo.after hostOps4 v (Proc.devRef .tc main_indices) (ix2 b k)) := by
    after_results
    generalize Host.topK _ _ _ _ _ = T
    pointwise []
  rw [h, ids_eq]
  exact wrap_at _

theorem v145_eq (b k : Fin 2) : StableHlo.after hostOps4 v (Proc.devRef .tc main_v145) (ix3 b k 0) = BitVec.ofNat 32 (pick (lgOf v) b k).val := by
  have h : StableHlo.after hostOps4 v (Proc.devRef .tc main_v145) (ix3 b k 0)
      = Scalar.select (IntOp.cmpi .slt (StableHlo.after hostOps4 v (Proc.devRef .tc main_indices) (ix2 b k)) 0#32)
        (IntOp.addi (StableHlo.after hostOps4 v (Proc.devRef .tc main_indices) (ix2 b k)) 3#32)
        (StableHlo.after hostOps4 v (Proc.devRef .tc main_indices) (ix2 b k)) := by
    after_results
    generalize Host.topK _ _ _ _ _ = T
    pointwise []
  rw [h, ids_eq]
  exact wrap_at _

theorem v157_eq (b k : Fin 2) : StableHlo.after hostOps4 v (Proc.devRef .tc main_v157) (ix3 b k 0) = BitVec.ofNat 32 (pick (lgOf v) b k).val := by
  have h : StableHlo.after hostOps4 v (Proc.devRef .tc main_v157) (ix3 b k 0)
      = Scalar.select (IntOp.cmpi .slt (StableHlo.after hostOps4 v (Proc.devRef .tc main_indices) (ix2 b k)) 0#32)
        (IntOp.addi (StableHlo.after hostOps4 v (Proc.devRef .tc main_indices) (ix2 b k)) 3#32)
        (StableHlo.after hostOps4 v (Proc.devRef .tc main_indices) (ix2 b k)) := by
    after_results
    generalize Host.topK _ _ _ _ _ = T
    pointwise []
  rw [h, ids_eq]
  exact wrap_at _

/-- The first stage's kernels: the chosen experts' side by side. -/
theorem v131_eq (b : Fin 2) (dy dx : Fin 3) (i : Fin 64) (o : Fin 128) :
    StableHlo.after hostOps4 v (Proc.devRef .tc main_v131) (ix5 b dy dx i o)
      = v (Proc.devRef .tc main_arg12) (ix5 (pick (lgOf v) b ⟨o.val / 64, by omega⟩) ⟨o.val % 64, by omega⟩ i dy dx) := by
  have h : StableHlo.after hostOps4 v (Proc.devRef .tc main_v131) (ix5 b dy dx i o)
      = Host.gather gather_S3x3x3x64x64_S2x2x1_S2x2x3x3x64x64_2345_0_n_n_0_2_1336464
        (transpose S3x3x3x64x64 [0, 3, 4, 2, 1] (v (Proc.devRef .tc main_arg12)) transposes_S3x64x64x3x3_S3x3x3x64x64_0_3_4_2_1)
        (StableHlo.after hostOps4 v (Proc.devRef .tc main_v128)) (ix6 b ⟨o.val / 64, by omega⟩ dy dx i ⟨o.val % 64, by omega⟩) := by
    after_results
    generalize Host.topK _ _ _ _ _ = T
    generalize hG : Host.gather _ _ _ = G
    pointwise []
  rw [h, gather6 _ _ _ _ _ (v128_eq v _ _)]
  pointwise []

/-- The first stage's biases: the chosen experts' side by side. -/
theorem v139_eq (b : Fin 2) (o : Fin 128) :
    StableHlo.after hostOps4 v (Proc.devRef .tc main_v139) (ix2 b o)
      = v (Proc.devRef .tc main_arg13) (ix2 (pick (lgOf v) b ⟨o.val / 64, by omega⟩) ⟨o.val % 64, by omega⟩) := by
  have h : StableHlo.after hostOps4 v (Proc.devRef .tc main_v139) (ix2 b o)
      = Host.gather gather_S3x64_S2x2x1_S2x2x64_2_0_n_n_0_2_164 (v (Proc.devRef .tc main_arg13))
        (StableHlo.after hostOps4 v (Proc.devRef .tc main_v137)) (ix3 b ⟨o.val / 64, by omega⟩ ⟨o.val % 64, by omega⟩) := by
    after_results
    generalize Host.topK _ _ _ _ _ = T
    generalize hG : Host.gather _ _ _ = G
    pointwise []
  rw [h]
  exact gather3 _ _ _ _ _ (v137_eq v _ _) _

/-- The second stage's kernels: the chosen experts' one below the other, each times its weight. -/
theorem v151_eq (b : Fin 2) (dy dx : Fin 3) (i : Fin 128) (o : Fin 64) :
    StableHlo.after hostOps4 v (Proc.devRef .tc main_v151) (ix5 b dy dx i o)
      = oihwOf (v (Proc.devRef .tc main_arg14)) (pick (lgOf v) b ⟨i.val / 64, by omega⟩) dy dx ⟨i.val % 64, by omega⟩ o
        * gate (lgOf v) b ⟨i.val / 64, by omega⟩ := by
  have h : StableHlo.after hostOps4 v (Proc.devRef .tc main_v151) (ix5 b dy dx i o)
      = (Host.gather (α := EReal) gather_S3x3x3x64x64_S2x2x1_S2x2x3x3x64x64_2345_0_n_n_0_2_1336464
        (transpose S3x3x3x64x64 [0, 3, 4, 2, 1] (v (Proc.devRef .tc main_arg14)) transposes_S3x64x64x3x3_S3x3x3x64x64_0_3_4_2_1)
        (StableHlo.after hostOps4 v (Proc.devRef .tc main_v145)) (ix6 b ⟨i.val / 64, by omega⟩ dy dx ⟨i.val % 64, by omega⟩ o) : EReal)
        * vecOf (StableHlo.after hostOps4 v (Proc.devRef .tc main_v120)) b (⟨i.val / 64, by omega⟩ : Fin 2) := by
    unfold vecOf
    after_results
    generalize Host.topK _ _ _ _ _ = T
    generalize hG : Host.gather _ _ _ = G
    pointwise []
  rw [h, show vecOf (StableHlo.after hostOps4 v (Proc.devRef .tc main_v120)) b (⟨i.val / 64, by omega⟩ : Fin 2) = _ from v120_eq v _ _]
  refine congrArg (· * _) ?_
  rw [gather6 _ _ _ _ _ (v145_eq v _ _)]
  pointwise []
  rfl

/-- The second stage's bias: the weighted sum of the chosen experts'. -/
theorem v159_eq (b : Fin 2) (o : Fin 64) :
    StableHlo.after hostOps4 v (Proc.devRef .tc main_v159) (ix2 b o)
      = ∑ k : Fin 2, gate (lgOf v) b k * vecOf (v (Proc.devRef .tc main_arg15)) (pick (lgOf v) b k) o := by
  have h : StableHlo.after hostOps4 v (Proc.devRef .tc main_v159) (ix2 b o)
      = ∑ k : Fin 2, vecOf (StableHlo.after hostOps4 v (Proc.devRef .tc main_v120)) b k
        * Host.gather (α := EReal) gather_S3x64_S2x2x1_S2x2x64_2_0_n_n_0_2_164 (v (Proc.devRef .tc main_arg15))
        (StableHlo.after hostOps4 v (Proc.devRef .tc main_v157)) (ix3 b k o) := by
    unfold vecOf
    after_results
    generalize Host.topK _ _ _ _ _ = T
    generalize hG : Host.gather _ _ _ = G
    pointwise []
  have key : (∑ k : Fin 2, vecOf (StableHlo.after hostOps4 v (Proc.devRef .tc main_v120)) b k
        * Host.gather (α := EReal) gather_S3x64_S2x2x1_S2x2x64_2_0_n_n_0_2_164 (v (Proc.devRef .tc main_arg15))
        (StableHlo.after hostOps4 v (Proc.devRef .tc main_v157)) (ix3 b k o))
      = ∑ k : Fin 2, gate (lgOf v) b k * vecOf (v (Proc.devRef .tc main_arg15)) (pick (lgOf v) b k) o :=
    Finset.sum_congr rfl fun k _ => congrArg₂ (fun p q : EReal => p * q) (v120_eq v b k) (gather3 _ _ _ _ _ (v157_eq v _ _) _)
  exact h.trans key
end

end Cert.KernelIdeal.Val
-- ==== Proof.KerNet.lean ====
module

public import proofs.«01_k».proof.Proof.Net
public import proofs.«01_k».proof.Proof.ChainA
public import proofs.«01_k».proof.Proof.ChainB
public import proofs.«01_k».proof.Proof.ChainC
public import proofs.«01_k».proof.Proof.ChainD
public import proofs.«01_k».proof.Proof.Router
public import Idealize.ShloMosaic.Lib.Claim

/-! The kernel's twelve regions and the stretches between them, composed: the denoiser that mixes the two chosen experts side by
    side. -/

@[expose] public section

set_option maxRecDepth 16384

noncomputable section

namespace Cert.KernelIdeal.Val

open Idealize.ShloMosaic Idealize.ShloMosaic.TcCoe Idealize.SL.Sem
open Cert.KernelIdeal Cert.KernelIdeal.Gen Conv

variable (m : (ℓ : Loc nD τ sig) → Buf (Elt Ideal) ℓ) (ρ : Dev nD → PrngReg)

/-- The denoiser of the kernel's arguments. -/
def netK (c : Dev nD) : Net where
  img := imc (m ((c : Thread nD τ).loc main_arg0))
  eps := imc (m ((c : Thread nD τ).loc main_arg1))
  w2 := oihw (m ((c : Thread nD τ).loc main_arg2))
  b3 := vec (m ((c : Thread nD τ).loc main_arg3))
  w4 := oihwOf (m ((c : Thread nD τ).loc main_arg4))
  b5 := vecOf (m ((c : Thread nD τ).loc main_arg5))
  w6 := oihw (m ((c : Thread nD τ).loc main_arg6))
  b7 := vec (m ((c : Thread nD τ).loc main_arg7))
  w8 := oihw (m ((c : Thread nD τ).loc main_arg8))
  b9 := vec (m ((c : Thread nD τ).loc main_arg9))
  w10 := vecOf (m ((c : Thread nD τ).loc main_arg10))
  b11 := vec (m ((c : Thread nD τ).loc main_arg11))
  w12 := oihwOf (m ((c : Thread nD τ).loc main_arg12))
  b13 := vecOf (m ((c : Thread nD τ).loc main_arg13))
  w14 := oihwOf (m ((c : Thread nD τ).loc main_arg14))
  b15 := vecOf (m ((c : Thread nD τ).loc main_arg15))
  w16 := oihw (m ((c : Thread nD τ).loc main_arg16))
  b17 := vec (m ((c : Thread nD τ).loc main_arg17))
  w18 := oihw (m ((c : Thread nD τ).loc main_arg18))
  b19 := vec (m ((c : Thread nD τ).loc main_arg19))
  w20 := oihwOf (m ((c : Thread nD τ).loc main_arg20))
  b21 := vecOf (m ((c : Thread nD τ).loc main_arg21))
  w22 := oihw (m ((c : Thread nD τ).loc main_arg22))
  b23 := vec (m ((c : Thread nD τ).loc main_arg23))

theorem kfeat (c : Dev nD) : im (W12 m ρ c (Proc.devRef .tc main_v78)) = (netK m c).feat := by
  rw [out2, out1, out0]; rfl

theorem kmean (c : Dev nD) : muI m ρ c = (netK m c).mean := by
  unfold muI
  rw [kfeat]; rfl

theorem klogvar (c : Dev nD) : lvI m ρ c = (netK m c).logvar := by
  unfold lvI
  rw [kfeat]; rfl

theorem kdraw (c : Dev nD) : zI m ρ c = (netK m c).drawHalf := by
  funext b h w o
  unfold zI
  rw [kmean, klogvar]; rfl

/-- The logits are the denoiser's. -/
theorem klogits (c : Dev nD) : lgOf (W16 m ρ c) = (netK m c).logits (netK m c).drawHalf := by
  have es : (fun (b : Fin 2) (i : Fin 64) => W16 m ρ c (Proc.devRef .tc main_v102_3) (ix3 b 0 i))
      = fun b i => ∑ h, ∑ w, (netK m c).drawHalf b h w i := by
    funext b i
    exact (out3_ps m ρ c b i).trans (by rw [kdraw])
  have eg : (fun (i : Fin 64) (e : Fin 3) => W16 m ρ c (Proc.devRef .tc main_arg10) (ix2 i e)) = (netK m c).w10 := by
    funext i e
    exact congrFun (W16_args m ρ c main_arg10 (by decide)) _
  have eb : (fun (e : Fin 3) => W16 m ρ c (Proc.devRef .tc main_arg11) (ix1 e)) = (netK m c).b11 := by
    funext e
    exact congrFun (W16_args m ρ c main_arg11 (by decide)) _
  unfold lgOf Net.logits
  rw [← eg, ← eb, ← es]

/-- The chosen experts' first layers. -/
theorem kwide (c : Dev nD) : im (W20 m ρ c (Proc.devRef .tc main_v179)) = (netK m c).wide (netK m c).drawHalf (lgOf (W16 m ρ c)) := by
  funext b h w o
  refine (out4 m ρ c b h w o).trans ?_
  have ez : im (W16 m ρ c (Proc.devRef .tc main_v102_2)) = (netK m c).drawHalf := (out3_z m ρ c).trans (kdraw m ρ c)
  have ew : (fun (dy dx : Fin 3) (i : Fin 64) => W17 m ρ c (Proc.devRef .tc main_v131) (ix5 b dy dx i o))
      = fun dy dx i => (netK m c).w12 (pick (lgOf (W16 m ρ c)) b ⟨o.val / 64, by omega⟩) dy dx i ⟨o.val % 64, by omega⟩ := by
    funext dy dx i
    exact (v131_eq (W16 m ρ c) b dy dx i o).trans (congrFun (W16_args m ρ c main_arg12 (by decide)) _)
  have eb : W17 m ρ c (Proc.devRef .tc main_v139) (ix2 b o)
      = (netK m c).b13 (pick (lgOf (W16 m ρ c)) b ⟨o.val / 64, by omega⟩) ⟨o.val % 64, by omega⟩ :=
    (v139_eq (W16 m ρ c) b o).trans (congrFun (W16_args m ρ c main_arg13 (by decide)) _)
  rw [ez, ew, eb]
  rfl

/-- The chosen experts' mixture. -/
theorem kmix (c : Dev nD) : im (W24 m ρ c (Proc.devRef .tc main_v199)) = (netK m c).mixWide (netK m c).drawHalf (lgOf (W16 m ρ c)) := by
  funext b h w o
  refine (out5 m ρ c b h w o).trans ?_
  have ew : (fun (dy dx : Fin 3) (i : Fin 128) => W17 m ρ c (Proc.devRef .tc main_v151) (ix5 b dy dx i o))
      = fun dy dx i => (netK m c).w14 (pick (lgOf (W16 m ρ c)) b ⟨i.val / 64, by omega⟩) dy dx ⟨i.val % 64, by omega⟩ o
        * gate (lgOf (W16 m ρ c)) b ⟨i.val / 64, by omega⟩ := by
    funext dy dx i
    have ea : oihwOf (W16 m ρ c (Proc.devRef .tc main_arg14)) = (netK m c).w14 :=
      congrArg oihwOf (W16_args m ρ c main_arg14 (by decide))
    exact (v151_eq (W16 m ρ c) b dy dx i o).trans (by rw [ea])
  have eb : W17 m ρ c (Proc.devRef .tc main_v159) (ix2 b o)
      = ∑ k : Fin 2, gate (lgOf (W16 m ρ c)) b k * (netK m c).b15 (pick (lgOf (W16 m ρ c)) b k) o := by
    have ea : vecOf (W16 m ρ c (Proc.devRef .tc main_arg15)) = (netK m c).b15 :=
      congrArg vecOf (W16_args m ρ c main_arg15 (by decide))
    exact (v159_eq (W16 m ρ c) b o).trans (by rw [ea])
  rw [kwide, ew, eb]
  rfl

/-- The kernel's mixture. -/
def mixK (c : Dev nD) : Img 64 := (netK m c).mixWide (netK m c).drawHalf ((netK m c).logits (netK m c).drawHalf)

theorem kmix' (c : Dev nD) : im (W24 m ρ c (Proc.devRef .tc main_v199)) = mixK m c := by
  rw [kmix, klogits]; rfl

theorem knoise (c : Dev nD) : im (W28 m ρ c (Proc.devRef .tc main_v220_0)) = (netK m c).noise (mixK m c) := by
  rw [out6_noise, kmix']; rfl

theorem kclean (c : Dev nD) : im (W28 m ρ c (Proc.devRef .tc main_v220_1)) = (netK m c).clean (mixK m c) := by
  rw [out6_ic, kmix']; rfl

theorem krefine (c : Dev nD) : im (W48 m ρ c (Proc.devRef .tc main_v347)) = (netK m c).refine (mixK m c) := by
  rw [out11, out10, out9, out8, out7, kclean]; rfl

/-- Result `v348` has the channels before the lines. -/
theorem last_v348 (v : Valuation τ sig (Elt Ideal)) : imc (C := 1) (StableHlo.after hostOps12 v (Proc.devRef .tc main_v348)) = im (C := 1) (v (Proc.devRef .tc main_v347)) := by
  funext b h w o
  have key : StableHlo.after hostOps12 v (Proc.devRef .tc main_v348) (ix4 b o h w) = v (Proc.devRef .tc main_v347) (ix4 b h w o) := by
    after_results
    obtain rfl : o = 0 := Subsingleton.elim _ _
    pointwise []
  exact key

/-- Result `v349` has the channels before the lines. -/
theorem last_v349 (v : Valuation τ sig (Elt Ideal)) : imc (C := 1) (StableHlo.after hostOps12 v (Proc.devRef .tc main_v349)) = im (C := 1) (v (Proc.devRef .tc main_v220_0)) := by
  funext b h w o
  have key : StableHlo.after hostOps12 v (Proc.devRef .tc main_v349) (ix4 b o h w) = v (Proc.devRef .tc main_v220_0) (ix4 b h w o) := by
    after_results
    obtain rfl : o = 0 := Subsingleton.elim _ _
    pointwise []
  exact key

/-- Result `v350` has the channels before the lines. -/
theorem last_v350 (v : Valuation τ sig (Elt Ideal)) : imc (C := 64) (StableHlo.after hostOps12 v (Proc.devRef .tc main_v350)) = im (C := 64) (v (Proc.devRef .tc main_v102_0)) := by
  funext b h w o
  have key : StableHlo.after hostOps12 v (Proc.devRef .tc main_v350) (ix4 b o h w) = v (Proc.devRef .tc main_v102_0) (ix4 b h w o) := by
    after_results
    pointwise []
  exact key

/-- Result `v351` has the channels before the lines. -/
theorem last_v351 (v : Valuation τ sig (Elt Ideal)) : imc (C := 64) (StableHlo.after hostOps12 v (Proc.devRef .tc main_v351)) = im (C := 64) (v (Proc.devRef .tc main_v102_1)) := by
  funext b h w o
  have key : StableHlo.after hostOps12 v (Proc.devRef .tc main_v351) (ix4 b o h w) = v (Proc.devRef .tc main_v102_1) (ix4 b h w o) := by
    after_results
    pointwise []
  exact key

/-- The kernel's result `v348`. -/
theorem end_v348 (c : Dev nD) : imc (C := 1) (W49 m ρ c (Proc.devRef .tc main_v348)) = (netK m c).refine (mixK m c) :=
  (last_v348 (W48 m ρ c)).trans (krefine m ρ c)

/-- The kernel's result `v349`. -/
theorem end_v349 (c : Dev nD) : imc (C := 1) (W49 m ρ c (Proc.devRef .tc main_v349)) = (netK m c).noise (mixK m c) :=
  (last_v349 (W48 m ρ c)).trans ((congrArg (im (C := 1)) (((W48_of m ρ c main_v220_0 (by decide +kernel)).trans ((W47_of m ρ c main_v220_0 (by decide)).trans ((W46_of m ρ c main_v220_0 (by decide)).trans ((W45_of m ρ c main_v220_0 (by decide)).trans ((W44_of m ρ c main_v220_0 (by decide +kernel)).trans ((W43_of m ρ c main_v220_0 (by decide)).trans ((W42_of m ρ c main_v220_0 (by decide)).trans ((W41_of m ρ c main_v220_0 (by decide)).trans ((W40_of m ρ c main_v220_0 (by decide +kernel)).trans ((W39_of m ρ c main_v220_0 (by decide)).trans ((W38_of m ρ c main_v220_0 (by decide)).trans ((W37_of m ρ c main_v220_0 (by decide)).trans ((W36_of m ρ c main_v220_0 (by decide +kernel)).trans ((W35_of m ρ c main_v220_0 (by decide)).trans ((W34_of m ρ c main_v220_0 (by decide)).trans ((W33_of m ρ c main_v220_0 (by decide)).trans ((W32_of m ρ c main_v220_0 (by decide +kernel)).trans ((W31_of m ρ c main_v220_0 (by decide)).trans ((W30_of m ρ c main_v220_0 (by decide)).trans (W29_of m ρ c main_v220_0 (by decide))))))))))))))))))))))).trans (knoise m ρ c))

/-- The kernel's result `v350`. -/
theorem end_v350 (c : Dev nD) : imc (C := 64) (W49 m ρ c (Proc.devRef .tc main_v350)) = (netK m c).mean :=
  (last_v350 (W48 m ρ c)).trans ((congrArg (im (C := 64)) (((W48_of m ρ c main_v102_0 (by decide +kernel)).trans ((W47_of m ρ c main_v102_0 (by decide)).trans ((W46_of m ρ c main_v102_0 (by decide)).trans ((W45_of m ρ c main_v102_0 (by decide)).trans ((W44_of m ρ c main_v102_0 (by decide +kernel)).trans ((W43_of m ρ c main_v102_0 (by decide)).trans ((W42_of m ρ c main_v102_0 (by decide)).trans ((W41_of m ρ c main_v102_0 (by decide)).trans ((W40_of m ρ c main_v102_0 (by decide +kernel)).trans ((W39_of m ρ c main_v102_0 (by decide)).trans ((W38_of m ρ c main_v102_0 (by decide)).trans ((W37_of m ρ c main_v102_0 (by decide)).trans ((W36_of m ρ c main_v102_0 (by decide +kernel)).trans ((W35_of m ρ c main_v102_0 (by decide)).trans ((W34_of m ρ c main_v102_0 (by decide)).trans ((W33_of m ρ c main_v102_0 (by decide)).trans ((W32_of m ρ c main_v102_0 (by decide +kernel)).trans ((W31_of m ρ c main_v102_0 (by decide)).trans ((W30_of m ρ c main_v102_0 (by decide)).trans ((W29_of m ρ c main_v102_0 (by decide)).trans ((W28_of m ρ c main_v102_0 (by decide +kernel)).trans ((W27_of m ρ c main_v102_0 (by decide)).trans ((W26_of m ρ c main_v102_0 (by decide)).trans ((W25_of m ρ c main_v102_0 (by decide)).trans ((W24_of m ρ c main_v102_0 (by decide +kernel)).trans ((W23_of m ρ c main_v102_0 (by decide)).trans ((W22_of m ρ c main_v102_0 (by decide)).trans ((W21_of m ρ c main_v102_0 (by decide)).trans ((W20_of m ρ c main_v102_0 (by decide +kernel)).trans ((W19_of m ρ c main_v102_0 (by decide)).trans ((W18_of m ρ c main_v102_0 (by decide)).trans (W17_of m ρ c main_v102_0 (by decide))))))))))))))))))))))))))))))))))).trans ((out3_mu m ρ c).trans (kmean m ρ c)))

/-- The kernel's result `v351`. -/
theorem end_v351 (c : Dev nD) : imc (C := 64) (W49 m ρ c (Proc.devRef .tc main_v351)) = (netK m c).variance :=
  (last_v351 (W48 m ρ c)).trans ((congrArg (im (C := 64)) (((W48_of m ρ c main_v102_1 (by decide +kernel)).trans ((W47_of m ρ c main_v102_1 (by decide)).trans ((W46_of m ρ c main_v102_1 (by decide)).trans ((W45_of m ρ c main_v102_1 (by decide)).trans ((W44_of m ρ c main_v102_1 (by decide +kernel)).trans ((W43_of m ρ c main_v102_1 (by decide)).trans ((W42_of m ρ c main_v102_1 (by decide)).trans ((W41_of m ρ c main_v102_1 (by decide)).trans ((W40_of m ρ c main_v102_1 (by decide +kernel)).trans ((W39_of m ρ c main_v102_1 (by decide)).trans ((W38_of m ρ c main_v102_1 (by decide)).trans ((W37_of m ρ c main_v102_1 (by decide)).trans ((W36_of m ρ c main_v102_1 (by decide +kernel)).trans ((W35_of m ρ c main_v102_1 (by decide)).trans ((W34_of m ρ c main_v102_1 (by decide)).trans ((W33_of m ρ c main_v102_1 (by decide)).trans ((W32_of m ρ c main_v102_1 (by decide +kernel)).trans ((W31_of m ρ c main_v102_1 (by decide)).trans ((W30_of m ρ c main_v102_1 (by decide)).trans ((W29_of m ρ c main_v102_1 (by decide)).trans ((W28_of m ρ c main_v102_1 (by decide +kernel)).trans ((W27_of m ρ c main_v102_1 (by decide)).trans ((W26_of m ρ c main_v102_1 (by decide)).trans ((W25_of m ρ c main_v102_1 (by decide)).trans ((W24_of m ρ c main_v102_1 (by decide +kernel)).trans ((W23_of m ρ c main_v102_1 (by decide)).trans ((W22_of m ρ c main_v102_1 (by decide)).trans ((W21_of m ρ c main_v102_1 (by decide)).trans ((W20_of m ρ c main_v102_1 (by decide +kernel)).trans ((W19_of m ρ c main_v102_1 (by decide)).trans ((W18_of m ρ c main_v102_1 (by decide)).trans (W17_of m ρ c main_v102_1 (by decide))))))))))))))))))))))))))))))))))).trans ((out3_s2 m ρ c).trans (by rw [klogvar]; rfl)))

end Cert.KernelIdeal.Val
end
-- ==== Proof.KerRun.lean ====
module

public import proofs.«01_k».proof.Proof.Gen.KernelIdeal.Frame

/-! The kernel's run, reading its four results off the last boundary. -/

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

variable (m : (ℓ : Loc nD τ sig) → Buf (Elt F) ℓ) (ρ : Dev nD → PrngReg)

set_option backward.isDefEq.respectTransparency.types false in
/-- Every run ends, the four results as the last boundary has them and every argument as launched. -/
theorem run_ker : θ_run defs (onTc (τ := τ) (main (F := F))) ⟨m, fun _ => 0, ρ⟩ (fun r => ∀ c : Dev nD,
      r.2.mem ((c.tc : Thread nD τ).loc main_v348) = W49 m ρ c (Proc.devRef .tc main_v348)
      ∧ r.2.mem ((c.tc : Thread nD τ).loc main_v349) = W49 m ρ c (Proc.devRef .tc main_v349)
      ∧ r.2.mem ((c.tc : Thread nD τ).loc main_v350) = W49 m ρ c (Proc.devRef .tc main_v350)
      ∧ r.2.mem ((c.tc : Thread nD τ).loc main_v351) = W49 m ρ c (Proc.devRef .tc main_v351)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W49 m ρ c b)
    (hfin := fun c s' => by
      iintro ⟨⟨Hh, -⟩, HSI⟩
      unfold StableHlo.held
      imodintro
      iapply (pointsTo_read_all (Pipeline.ucRefs τ sig) (fun b => (((c : Thread nD τ)).1, b)) (W49 m ρ c) s')
      isplitl [Hh] <;> iassumption)
    (hQ := fun s h _ => fun c =>
      ⟨h c _ (mem_uc main_v348 (by decide)), h c _ (mem_uc main_v349 (by decide)), h c _ (mem_uc main_v350 (by decide)),
       h c _ (mem_uc main_v351 (by decide)), (h c _ (mem_uc main_arg0 (by decide))).trans (W49_main_arg0 m ρ c),
       (h c _ (mem_uc main_arg1 (by decide))).trans (W49_main_arg1 m ρ c),
       (h c _ (mem_uc main_arg2 (by decide))).trans (W49_main_arg2 m ρ c),
       (h c _ (mem_uc main_arg3 (by decide))).trans (W49_main_arg3 m ρ c),
       (h c _ (mem_uc main_arg4 (by decide))).trans (W49_main_arg4 m ρ c),
       (h c _ (mem_uc main_arg5 (by decide))).trans (W49_main_arg5 m ρ c),
       (h c _ (mem_uc main_arg6 (by decide))).trans (W49_main_arg6 m ρ c),
       (h c _ (mem_uc main_arg7 (by decide))).trans (W49_main_arg7 m ρ c),
       (h c _ (mem_uc main_arg8 (by decide))).trans (W49_main_arg8 m ρ c),
       (h c _ (mem_uc main_arg9 (by decide))).trans (W49_main_arg9 m ρ c),
       (h c _ (mem_uc main_arg10 (by decide))).trans (W49_main_arg10 m ρ c),
       (h c _ (mem_uc main_arg11 (by decide))).trans (W49_main_arg11 m ρ c),
       (h c _ (mem_uc main_arg12 (by decide))).trans (W49_main_arg12 m ρ c),
       (h c _ (mem_uc main_arg13 (by decide))).trans (W49_main_arg13 m ρ c),
       (h c _ (mem_uc main_arg14 (by decide))).trans (W49_main_arg14 m ρ c),
       (h c _ (mem_uc main_arg15 (by decide))).trans (W49_main_arg15 m ρ c),
       (h c _ (mem_uc main_arg16 (by decide))).trans (W49_main_arg16 m ρ c),
       (h c _ (mem_uc main_arg17 (by decide))).trans (W49_main_arg17 m ρ c),
       (h c _ (mem_uc main_arg18 (by decide))).trans (W49_main_arg18 m ρ c),
       (h c _ (mem_uc main_arg19 (by decide))).trans (W49_main_arg19 m ρ c),
       (h c _ (mem_uc main_arg20 (by decide))).trans (W49_main_arg20 m ρ c),
       (h c _ (mem_uc main_arg21 (by decide))).trans (W49_main_arg21 m ρ c),
       (h c _ (mem_uc main_arg22 (by decide))).trans (W49_main_arg22 m ρ c),
       (h c _ (mem_uc main_arg23 (by decide))).trans (W49_main_arg23 m ρ c)⟩)

end Cert.KernelIdeal.Val
end
-- ==== Proof.RefOps.lean ====
/- The reference as a list of operations, split into short stretches. -/
module

public import proofs.«01_k».proof.Proof.Gen.ReferenceIdeal
public import Idealize.ShloMosaic.Lib.StableHlo.Run
public import Idealize.ShloMosaic.Lib.Pipeline.Frame

@[expose] public section

set_option maxRecDepth 8192
set_option maxHeartbeats 4000000

noncomputable section

namespace Cert.RefNet

open Cert.ReferenceIdeal Cert.ReferenceIdeal.Gen Idealize.ShloMosaic Idealize.ShloMosaic.TcCoe Idealize.SL.Sem Idealize.ShloMosaic.StableHlo

variable (F : FTy → Type) [FloatOps F]

/-- The contents of a buffer of floats of one shape. -/
abbrev C (F : FTy → Type) [FloatOps F] (s : Shape) : Type := (⟨s, .f32⟩ : BufTy).Contents (Elt F)
abbrev ad (s : Shape) : C F s → C F s → C F s := addf
abbrev s1x64x1_0 (w : C F S1x64x9) : C F S1x64x1 := extractStridedSlice S1x64x1 ![0, 0, 0] w slices_S1x64x9_S1x64x1_0_0_0
abbrev t1x64x1_0 (w : C F S1x64x9) : C F S1x64 := shapeCast _ (s1x64x1_0 F w) shapeCasts_S1x64x1_S1x64
abbrev s1x64x1_1 (w : C F S1x64x9) : C F S1x64x1 := extractStridedSlice S1x64x1 ![0, 0, 1] w slices_S1x64x9_S1x64x1_0_0_1
abbrev t1x64x1_1 (w : C F S1x64x9) : C F S1x64 := shapeCast _ (s1x64x1_1 F w) shapeCasts_S1x64x1_S1x64
abbrev s1x64x1_2 (w : C F S1x64x9) : C F S1x64x1 := extractStridedSlice S1x64x1 ![0, 0, 2] w slices_S1x64x9_S1x64x1_0_0_2
abbrev t1x64x1_2 (w : C F S1x64x9) : C F S1x64 := shapeCast _ (s1x64x1_2 F w) shapeCasts_S1x64x1_S1x64
abbrev s1x64x1_3 (w : C F S1x64x9) : C F S1x64x1 := extractStridedSlice S1x64x1 ![0, 0, 3] w slices_S1x64x9_S1x64x1_0_0_3
abbrev t1x64x1_3 (w : C F S1x64x9) : C F S1x64 := shapeCast _ (s1x64x1_3 F w) shapeCasts_S1x64x1_S1x64
abbrev s1x64x1_4 (w : C F S1x64x9) : C F S1x64x1 := extractStridedSlice S1x64x1 ![0, 0, 4] w slices_S1x64x9_S1x64x1_0_0_4
abbrev t1x64x1_4 (w : C F S1x64x9) : C F S1x64 := shapeCast _ (s1x64x1_4 F w) shapeCasts_S1x64x1_S1x64
abbrev s1x64x1_5 (w : C F S1x64x9) : C F S1x64x1 := extractStridedSlice S1x64x1 ![0, 0, 5] w slices_S1x64x9_S1x64x1_0_0_5
abbrev t1x64x1_5 (w : C F S1x64x9) : C F S1x64 := shapeCast _ (s1x64x1_5 F w) shapeCasts_S1x64x1_S1x64
abbrev s1x64x1_6 (w : C F S1x64x9) : C F S1x64x1 := extractStridedSlice S1x64x1 ![0, 0, 6] w slices_S1x64x9_S1x64x1_0_0_6
abbrev t1x64x1_6 (w : C F S1x64x9) : C F S1x64 := shapeCast _ (s1x64x1_6 F w) shapeCasts_S1x64x1_S1x64
abbrev s1x64x1_7 (w : C F S1x64x9) : C F S1x64x1 := extractStridedSlice S1x64x1 ![0, 0, 7] w slices_S1x64x9_S1x64x1_0_0_7
abbrev t1x64x1_7 (w : C F S1x64x9) : C F S1x64 := shapeCast _ (s1x64x1_7 F w) shapeCasts_S1x64x1_S1x64
abbrev s1x64x1_8 (w : C F S1x64x9) : C F S1x64x1 := extractStridedSlice S1x64x1 ![0, 0, 8] w slices_S1x64x9_S1x64x1_0_0_8
abbrev t1x64x1_8 (w : C F S1x64x9) : C F S1x64 := shapeCast _ (s1x64x1_8 F w) shapeCasts_S1x64x1_S1x64
abbrev s64x1x1_0 (w : C F S64x1x9) : C F S64x1x1 := extractStridedSlice S64x1x1 ![0, 0, 0] w slices_S64x1x9_S64x1x1_0_0_0
abbrev t64x1x1_0 (w : C F S64x1x9) : C F S64x1 := shapeCast _ (s64x1x1_0 F w) shapeCasts_S64x1x1_S64x1
abbrev s64x1x1_1 (w : C F S64x1x9) : C F S64x1x1 := extractStridedSlice S64x1x1 ![0, 0, 1] w slices_S64x1x9_S64x1x1_0_0_1
abbrev t64x1x1_1 (w : C F S64x1x9) : C F S64x1 := shapeCast _ (s64x1x1_1 F w) shapeCasts_S64x1x1_S64x1
abbrev s64x1x1_2 (w : C F S64x1x9) : C F S64x1x1 := extractStridedSlice S64x1x1 ![0, 0, 2] w slices_S64x1x9_S64x1x1_0_0_2
abbrev t64x1x1_2 (w : C F S64x1x9) : C F S64x1 := shapeCast _ (s64x1x1_2 F w) shapeCasts_S64x1x1_S64x1
abbrev s64x1x1_3 (w : C F S64x1x9) : C F S64x1x1 := extractStridedSlice S64x1x1 ![0, 0, 3] w slices_S64x1x9_S64x1x1_0_0_3
abbrev t64x1x1_3 (w : C F S64x1x9) : C F S64x1 := shapeCast _ (s64x1x1_3 F w) shapeCasts_S64x1x1_S64x1
abbrev s64x1x1_4 (w : C F S64x1x9) : C F S64x1x1 := extractStridedSlice S64x1x1 ![0, 0, 4] w slices_S64x1x9_S64x1x1_0_0_4
abbrev t64x1x1_4 (w : C F S64x1x9) : C F S64x1 := shapeCast _ (s64x1x1_4 F w) shapeCasts_S64x1x1_S64x1
abbrev s64x1x1_5 (w : C F S64x1x9) : C F S64x1x1 := extractStridedSlice S64x1x1 ![0, 0, 5] w slices_S64x1x9_S64x1x1_0_0_5
abbrev t64x1x1_5 (w : C F S64x1x9) : C F S64x1 := shapeCast _ (s64x1x1_5 F w) shapeCasts_S64x1x1_S64x1
abbrev s64x1x1_6 (w : C F S64x1x9) : C F S64x1x1 := extractStridedSlice S64x1x1 ![0, 0, 6] w slices_S64x1x9_S64x1x1_0_0_6
abbrev t64x1x1_6 (w : C F S64x1x9) : C F S64x1 := shapeCast _ (s64x1x1_6 F w) shapeCasts_S64x1x1_S64x1
abbrev s64x1x1_7 (w : C F S64x1x9) : C F S64x1x1 := extractStridedSlice S64x1x1 ![0, 0, 7] w slices_S64x1x9_S64x1x1_0_0_7
abbrev t64x1x1_7 (w : C F S64x1x9) : C F S64x1 := shapeCast _ (s64x1x1_7 F w) shapeCasts_S64x1x1_S64x1
abbrev s64x1x1_8 (w : C F S64x1x9) : C F S64x1x1 := extractStridedSlice S64x1x1 ![0, 0, 8] w slices_S64x1x9_S64x1x1_0_0_8
abbrev t64x1x1_8 (w : C F S64x1x9) : C F S64x1 := shapeCast _ (s64x1x1_8 F w) shapeCasts_S64x1x1_S64x1
abbrev s64x64x1_0 (w : C F S64x64x9) : C F S64x64x1 := extractStridedSlice S64x64x1 ![0, 0, 0] w slices_S64x64x9_S64x64x1_0_0_0
abbrev t64x64x1_0 (w : C F S64x64x9) : C F S64x64 := shapeCast _ (s64x64x1_0 F w) shapeCasts_S64x64x1_S64x64
abbrev s64x64x1_1 (w : C F S64x64x9) : C F S64x64x1 := extractStridedSlice S64x64x1 ![0, 0, 1] w slices_S64x64x9_S64x64x1_0_0_1
abbrev t64x64x1_1 (w : C F S64x64x9) : C F S64x64 := shapeCast _ (s64x64x1_1 F w) shapeCasts_S64x64x1_S64x64
abbrev s64x64x1_2 (w : C F S64x64x9) : C F S64x64x1 := extractStridedSlice S64x64x1 ![0, 0, 2] w slices_S64x64x9_S64x64x1_0_0_2
abbrev t64x64x1_2 (w : C F S64x64x9) : C F S64x64 := shapeCast _ (s64x64x1_2 F w) shapeCasts_S64x64x1_S64x64
abbrev s64x64x1_3 (w : C F S64x64x9) : C F S64x64x1 := extractStridedSlice S64x64x1 ![0, 0, 3] w slices_S64x64x9_S64x64x1_0_0_3
abbrev t64x64x1_3 (w : C F S64x64x9) : C F S64x64 := shapeCast _ (s64x64x1_3 F w) shapeCasts_S64x64x1_S64x64
abbrev s64x64x1_4 (w : C F S64x64x9) : C F S64x64x1 := extractStridedSlice S64x64x1 ![0, 0, 4] w slices_S64x64x9_S64x64x1_0_0_4
abbrev t64x64x1_4 (w : C F S64x64x9) : C F S64x64 := shapeCast _ (s64x64x1_4 F w) shapeCasts_S64x64x1_S64x64
abbrev s64x64x1_5 (w : C F S64x64x9) : C F S64x64x1 := extractStridedSlice S64x64x1 ![0, 0, 5] w slices_S64x64x9_S64x64x1_0_0_5
abbrev t64x64x1_5 (w : C F S64x64x9) : C F S64x64 := shapeCast _ (s64x64x1_5 F w) shapeCasts_S64x64x1_S64x64
abbrev s64x64x1_6 (w : C F S64x64x9) : C F S64x64x1 := extractStridedSlice S64x64x1 ![0, 0, 6] w slices_S64x64x9_S64x64x1_0_0_6
abbrev t64x64x1_6 (w : C F S64x64x9) : C F S64x64 := shapeCast _ (s64x64x1_6 F w) shapeCasts_S64x64x1_S64x64
abbrev s64x64x1_7 (w : C F S64x64x9) : C F S64x64x1 := extractStridedSlice S64x64x1 ![0, 0, 7] w slices_S64x64x9_S64x64x1_0_0_7
abbrev t64x64x1_7 (w : C F S64x64x9) : C F S64x64 := shapeCast _ (s64x64x1_7 F w) shapeCasts_S64x64x1_S64x64
abbrev s64x64x1_8 (w : C F S64x64x9) : C F S64x64x1 := extractStridedSlice S64x64x1 ![0, 0, 8] w slices_S64x64x9_S64x64x1_0_0_8
abbrev t64x64x1_8 (w : C F S64x64x9) : C F S64x64 := shapeCast _ (s64x64x1_8 F w) shapeCasts_S64x64x1_S64x64
abbrev p1_00 (x : C F S2x1x226x226) : C F S2x1x224x224 := extractStridedSlice S2x1x224x224 ![0, 0, 0, 0] x slices_S2x1x226x226_S2x1x224x224_0_0_0_0
abbrev p1_01 (x : C F S2x1x226x226) : C F S2x1x224x224 := extractStridedSlice S2x1x224x224 ![0, 0, 0, 1] x slices_S2x1x226x226_S2x1x224x224_0_0_0_1
abbrev p1_02 (x : C F S2x1x226x226) : C F S2x1x224x224 := extractStridedSlice S2x1x224x224 ![0, 0, 0, 2] x slices_S2x1x226x226_S2x1x224x224_0_0_0_2
abbrev p1_10 (x : C F S2x1x226x226) : C F S2x1x224x224 := extractStridedSlice S2x1x224x224 ![0, 0, 1, 0] x slices_S2x1x226x226_S2x1x224x224_0_0_1_0
abbrev p1_11 (x : C F S2x1x226x226) : C F S2x1x224x224 := extractStridedSlice S2x1x224x224 ![0, 0, 1, 1] x slices_S2x1x226x226_S2x1x224x224_0_0_1_1
abbrev p1_12 (x : C F S2x1x226x226) : C F S2x1x224x224 := extractStridedSlice S2x1x224x224 ![0, 0, 1, 2] x slices_S2x1x226x226_S2x1x224x224_0_0_1_2
abbrev p1_20 (x : C F S2x1x226x226) : C F S2x1x224x224 := extractStridedSlice S2x1x224x224 ![0, 0, 2, 0] x slices_S2x1x226x226_S2x1x224x224_0_0_2_0
abbrev p1_21 (x : C F S2x1x226x226) : C F S2x1x224x224 := extractStridedSlice S2x1x224x224 ![0, 0, 2, 1] x slices_S2x1x226x226_S2x1x224x224_0_0_2_1
abbrev p1_22 (x : C F S2x1x226x226) : C F S2x1x224x224 := extractStridedSlice S2x1x224x224 ![0, 0, 2, 2] x slices_S2x1x226x226_S2x1x224x224_0_0_2_2
abbrev p64_00 (x : C F S2x64x226x226) : C F S2x64x224x224 := extractStridedSlice S2x64x224x224 ![0, 0, 0, 0] x slices_S2x64x226x226_S2x64x224x224_0_0_0_0
abbrev p64_01 (x : C F S2x64x226x226) : C F S2x64x224x224 := extractStridedSlice S2x64x224x224 ![0, 0, 0, 1] x slices_S2x64x226x226_S2x64x224x224_0_0_0_1
abbrev p64_02 (x : C F S2x64x226x226) : C F S2x64x224x224 := extractStridedSlice S2x64x224x224 ![0, 0, 0, 2] x slices_S2x64x226x226_S2x64x224x224_0_0_0_2
abbrev p64_10 (x : C F S2x64x226x226) : C F S2x64x224x224 := extractStridedSlice S2x64x224x224 ![0, 0, 1, 0] x slices_S2x64x226x226_S2x64x224x224_0_0_1_0
abbrev p64_11 (x : C F S2x64x226x226) : C F S2x64x224x224 := extractStridedSlice S2x64x224x224 ![0, 0, 1, 1] x slices_S2x64x226x226_S2x64x224x224_0_0_1_1
abbrev p64_12 (x : C F S2x64x226x226) : C F S2x64x224x224 := extractStridedSlice S2x64x224x224 ![0, 0, 1, 2] x slices_S2x64x226x226_S2x64x224x224_0_0_1_2
abbrev p64_20 (x : C F S2x64x226x226) : C F S2x64x224x224 := extractStridedSlice S2x64x224x224 ![0, 0, 2, 0] x slices_S2x64x226x226_S2x64x224x224_0_0_2_0
abbrev p64_21 (x : C F S2x64x226x226) : C F S2x64x224x224 := extractStridedSlice S2x64x224x224 ![0, 0, 2, 1] x slices_S2x64x226x226_S2x64x224x224_0_0_2_1
abbrev p64_22 (x : C F S2x64x226x226) : C F S2x64x224x224 := extractStridedSlice S2x64x224x224 ![0, 0, 2, 2] x slices_S2x64x226x226_S2x64x224x224_0_0_2_2
abbrev d64_64 (l : C F S2x64x224x224) (r : C F S64x64) : C F S2x224x224x64 := Host.dotGeneral dot_S2x64x224x224_S64x64_S2x224x224x64_1_1_023_0_n_n none l r
abbrev d64_1 (l : C F S2x64x224x224) (r : C F S1x64) : C F S2x224x224x1 := Host.dotGeneral dot_S2x64x224x224_S1x64_S2x224x224x1_1_1_023_0_n_n none l r
abbrev d1_64 (l : C F S2x1x224x224) (r : C F S64x1) : C F S2x224x224x64 := Host.dotGeneral dot_S2x1x224x224_S64x1_S2x224x224x64_1_1_023_0_n_n none l r
abbrev z64 : C F S2x224x224x64 := broadcastInDim S2x224x224x64 ![] bcast_S_S2x224x224x64 (constant S_ .f32 0x00000000#32)
abbrev z1 : C F S2x224x224x1 := broadcastInDim S2x224x224x1 ![] bcast_S_S2x224x224x1 (constant S_ .f32 0x00000000#32)
variable {F}

/-- A stretch of the reference. -/
abbrev Ops (F : FTy → Type) [FloatOps F] : Type _ := List (HloOp τ sig (Elt F))

def fn_main_v557 : (⟨S2x2x1, .i32⟩ : BufTy).Contents (Elt F) → (⟨S2x2x1, .i32⟩ : BufTy).Contents (Elt F) → (⟨S2x2x2, .i32⟩ : BufTy).Contents (Elt F) :=
  (fun a b => concatenate S2x2x2 2 [⟨S2x2x1, a⟩, ⟨S2x2x1, b⟩] concatenates_S2x2x1_S2x2x1_S2x2x2_d2)
def fn_main_v775 : (main_v772 : Ref sig .tc).ty.Contents (Elt F) → (main_v773 : Ref sig .tc).ty.Contents (Elt F) → (main_v774 : Ref sig .tc).ty.Contents (Elt F) → (main_v775 : Ref sig .tc).ty.Contents (Elt F) :=
  (fun u0 u1 u2 => (concatenate S3x2x64x224x224 0 [⟨S1x2x64x224x224, (u0 : C F S1x2x64x224x224)⟩, ⟨S1x2x64x224x224, (u1 : C F S1x2x64x224x224)⟩, ⟨S1x2x64x224x224, (u2 : C F S1x2x64x224x224)⟩] concatenates_S1x2x64x224x224_S1x2x64x224x224_S1x2x64x224x224_S3x2x64x224x224_d0 : C F S3x2x64x224x224))
abbrev o0_0 : Ops F :=
  [ reshape main_arg2 main_v0 rfl shapeCasts_S64x1x3x3_S64x1x9,
 unary main_v0 main_v1 (s64x1x1_0 F),
 reshape main_v1 main_v2 rfl shapeCasts_S64x1x1_S64x1,
 unary main_v0 main_v3 (s64x1x1_1 F),
 reshape main_v3 main_v4 rfl shapeCasts_S64x1x1_S64x1,
 unary main_v0 main_v5 (s64x1x1_2 F),
 reshape main_v5 main_v6 rfl shapeCasts_S64x1x1_S64x1,
 unary main_v0 main_v7 (s64x1x1_3 F),
 reshape main_v7 main_v8 rfl shapeCasts_S64x1x1_S64x1,
 unary main_v0 main_v9 (s64x1x1_4 F),
 reshape main_v9 main_v10 rfl shapeCasts_S64x1x1_S64x1,
 unary main_v0 main_v11 (s64x1x1_5 F),
 reshape main_v11 main_v12 rfl shapeCasts_S64x1x1_S64x1,
 unary main_v0 main_v13 (s64x1x1_6 F),
 reshape main_v13 main_v14 rfl shapeCasts_S64x1x1_S64x1,
 unary main_v0 main_v15 (s64x1x1_7 F),
 reshape main_v15 main_v16 rfl shapeCasts_S64x1x1_S64x1,
 unary main_v0 main_v17 (s64x1x1_8 F),
 reshape main_v17 main_v18 rfl shapeCasts_S64x1x1_S64x1 ]
abbrev o0_1 : Ops F :=
  [ unary main_arg4 main_v19 ((extractStridedSlice S1x64x64x3x3 ![0, 0, 0, 0, 0] · slices_S2x64x64x3x3_S1x64x64x3x3_0_0_0_0_0) : C F S2x64x64x3x3 → C F S1x64x64x3x3),
 reshape main_v19 main_v20 rfl shapeCasts_S1x64x64x3x3_S64x64x3x3,
 reshape main_v20 main_v21 rfl shapeCasts_S64x64x3x3_S64x64x9,
 unary main_v21 main_v22 (s64x64x1_0 F),
 reshape main_v22 main_v23 rfl shapeCasts_S64x64x1_S64x64,
 unary main_v21 main_v24 (s64x64x1_1 F),
 reshape main_v24 main_v25 rfl shapeCasts_S64x64x1_S64x64,
 unary main_v21 main_v26 (s64x64x1_2 F),
 reshape main_v26 main_v27 rfl shapeCasts_S64x64x1_S64x64,
 unary main_v21 main_v28 (s64x64x1_3 F),
 reshape main_v28 main_v29 rfl shapeCasts_S64x64x1_S64x64,
 unary main_v21 main_v30 (s64x64x1_4 F),
 reshape main_v30 main_v31 rfl shapeCasts_S64x64x1_S64x64,
 unary main_v21 main_v32 (s64x64x1_5 F),
 reshape main_v32 main_v33 rfl shapeCasts_S64x64x1_S64x64,
 unary main_v21 main_v34 (s64x64x1_6 F),
 reshape main_v34 main_v35 rfl shapeCasts_S64x64x1_S64x64,
 unary main_v21 main_v36 (s64x64x1_7 F),
 reshape main_v36 main_v37 rfl shapeCasts_S64x64x1_S64x64,
 unary main_v21 main_v38 (s64x64x1_8 F),
 reshape main_v38 main_v39 rfl shapeCasts_S64x64x1_S64x64 ]
abbrev o0_2 : Ops F :=
  [ unary main_arg4 main_v40 ((extractStridedSlice S1x64x64x3x3 ![1, 0, 0, 0, 0] · slices_S2x64x64x3x3_S1x64x64x3x3_1_0_0_0_0) : C F S2x64x64x3x3 → C F S1x64x64x3x3),
 reshape main_v40 main_v41 rfl shapeCasts_S1x64x64x3x3_S64x64x3x3,
 reshape main_v41 main_v42 rfl shapeCasts_S64x64x3x3_S64x64x9,
 unary main_v42 main_v43 (s64x64x1_0 F),
 reshape main_v43 main_v44 rfl shapeCasts_S64x64x1_S64x64,
 unary main_v42 main_v45 (s64x64x1_1 F),
 reshape main_v45 main_v46 rfl shapeCasts_S64x64x1_S64x64,
 unary main_v42 main_v47 (s64x64x1_2 F),
 reshape main_v47 main_v48 rfl shapeCasts_S64x64x1_S64x64,
 unary main_v42 main_v49 (s64x64x1_3 F),
 reshape main_v49 main_v50 rfl shapeCasts_S64x64x1_S64x64,
 unary main_v42 main_v51 (s64x64x1_4 F),
 reshape main_v51 main_v52 rfl shapeCasts_S64x64x1_S64x64,
 unary main_v42 main_v53 (s64x64x1_5 F),
 reshape main_v53 main_v54 rfl shapeCasts_S64x64x1_S64x64,
 unary main_v42 main_v55 (s64x64x1_6 F),
 reshape main_v55 main_v56 rfl shapeCasts_S64x64x1_S64x64,
 unary main_v42 main_v57 (s64x64x1_7 F),
 reshape main_v57 main_v58 rfl shapeCasts_S64x64x1_S64x64,
 unary main_v42 main_v59 (s64x64x1_8 F) ]
abbrev o1_0 : Ops F :=
  [ reshape main_v59 main_v60 rfl shapeCasts_S64x64x1_S64x64 ]
abbrev o1_1 : Ops F :=
  [ reshape main_arg6 main_v61 rfl shapeCasts_S64x64x3x3_S64x64x9,
 unary main_v61 main_v62 (s64x64x1_0 F),
 reshape main_v62 main_v63 rfl shapeCasts_S64x64x1_S64x64,
 unary main_v61 main_v64 (s64x64x1_1 F),
 reshape main_v64 main_v65 rfl shapeCasts_S64x64x1_S64x64,
 unary main_v61 main_v66 (s64x64x1_2 F),
 reshape main_v66 main_v67 rfl shapeCasts_S64x64x1_S64x64,
 unary main_v61 main_v68 (s64x64x1_3 F),
 reshape main_v68 main_v69 rfl shapeCasts_S64x64x1_S64x64,
 unary main_v61 main_v70 (s64x64x1_4 F),
 reshape main_v70 main_v71 rfl shapeCasts_S64x64x1_S64x64,
 unary main_v61 main_v72 (s64x64x1_5 F),
 reshape main_v72 main_v73 rfl shapeCasts_S64x64x1_S64x64,
 unary main_v61 main_v74 (s64x64x1_6 F),
 reshape main_v74 main_v75 rfl shapeCasts_S64x64x1_S64x64,
 unary main_v61 main_v76 (s64x64x1_7 F),
 reshape main_v76 main_v77 rfl shapeCasts_S64x64x1_S64x64,
 unary main_v61 main_v78 (s64x64x1_8 F),
 reshape main_v78 main_v79 rfl shapeCasts_S64x64x1_S64x64 ]
abbrev o1_2 : Ops F :=
  [ reshape main_arg8 main_v80 rfl shapeCasts_S64x64x3x3_S64x64x9,
 unary main_v80 main_v81 (s64x64x1_0 F),
 reshape main_v81 main_v82 rfl shapeCasts_S64x64x1_S64x64,
 unary main_v80 main_v83 (s64x64x1_1 F),
 reshape main_v83 main_v84 rfl shapeCasts_S64x64x1_S64x64,
 unary main_v80 main_v85 (s64x64x1_2 F),
 reshape main_v85 main_v86 rfl shapeCasts_S64x64x1_S64x64,
 unary main_v80 main_v87 (s64x64x1_3 F),
 reshape main_v87 main_v88 rfl shapeCasts_S64x64x1_S64x64,
 unary main_v80 main_v89 (s64x64x1_4 F),
 reshape main_v89 main_v90 rfl shapeCasts_S64x64x1_S64x64,
 unary main_v80 main_v91 (s64x64x1_5 F),
 reshape main_v91 main_v92 rfl shapeCasts_S64x64x1_S64x64,
 unary main_v80 main_v93 (s64x64x1_6 F),
 reshape main_v93 main_v94 rfl shapeCasts_S64x64x1_S64x64,
 unary main_v80 main_v95 (s64x64x1_7 F),
 reshape main_v95 main_v96 rfl shapeCasts_S64x64x1_S64x64,
 unary main_v80 main_v97 (s64x64x1_8 F),
 reshape main_v97 main_v98 rfl shapeCasts_S64x64x1_S64x64 ]
abbrev o1_3 : Ops F :=
  [ unary main_arg12 main_v99 ((extractStridedSlice S1x64x64x3x3 ![0, 0, 0, 0, 0] · slices_S3x64x64x3x3_S1x64x64x3x3_0_0_0_0_0) : C F S3x64x64x3x3 → C F S1x64x64x3x3),
 reshape main_v99 main_v100 rfl shapeCasts_S1x64x64x3x3_S64x64x3x3,
 reshape main_v100 main_v101 rfl shapeCasts_S64x64x3x3_S64x64x9,
 unary main_v101 main_v102 (s64x64x1_0 F),
 reshape main_v102 main_v103 rfl shapeCasts_S64x64x1_S64x64,
 unary main_v101 main_v104 (s64x64x1_1 F),
 reshape main_v104 main_v105 rfl shapeCasts_S64x64x1_S64x64,
 unary main_v101 main_v106 (s64x64x1_2 F),
 reshape main_v106 main_v107 rfl shapeCasts_S64x64x1_S64x64,
 unary main_v101 main_v108 (s64x64x1_3 F),
 reshape main_v108 main_v109 rfl shapeCasts_S64x64x1_S64x64,
 unary main_v101 main_v110 (s64x64x1_4 F),
 reshape main_v110 main_v111 rfl shapeCasts_S64x64x1_S64x64,
 unary main_v101 main_v112 (s64x64x1_5 F),
 reshape main_v112 main_v113 rfl shapeCasts_S64x64x1_S64x64,
 unary main_v101 main_v114 (s64x64x1_6 F),
 reshape main_v114 main_v115 rfl shapeCasts_S64x64x1_S64x64,
 unary main_v101 main_v116 (s64x64x1_7 F),
 reshape main_v116 main_v117 rfl shapeCasts_S64x64x1_S64x64,
 unary main_v101 main_v118 (s64x64x1_8 F),
 reshape main_v118 main_v119 rfl shapeCasts_S64x64x1_S64x64 ]
abbrev o2_0 : Ops F :=
  [ unary main_arg12 main_v120 ((extractStridedSlice S1x64x64x3x3 ![1, 0, 0, 0, 0] · slices_S3x64x64x3x3_S1x64x64x3x3_1_0_0_0_0) : C F S3x64x64x3x3 → C F S1x64x64x3x3),
 reshape main_v120 main_v121 rfl shapeCasts_S1x64x64x3x3_S64x64x3x3,
 reshape main_v121 main_v122 rfl shapeCasts_S64x64x3x3_S64x64x9,
 unary main_v122 main_v123 (s64x64x1_0 F),
 reshape main_v123 main_v124 rfl shapeCasts_S64x64x1_S64x64,
 unary main_v122 main_v125 (s64x64x1_1 F),
 reshape main_v125 main_v126 rfl shapeCasts_S64x64x1_S64x64,
 unary main_v122 main_v127 (s64x64x1_2 F),
 reshape main_v127 main_v128 rfl shapeCasts_S64x64x1_S64x64,
 unary main_v122 main_v129 (s64x64x1_3 F),
 reshape main_v129 main_v130 rfl shapeCasts_S64x64x1_S64x64,
 unary main_v122 main_v131 (s64x64x1_4 F),
 reshape main_v131 main_v132 rfl shapeCasts_S64x64x1_S64x64,
 unary main_v122 main_v133 (s64x64x1_5 F),
 reshape main_v133 main_v134 rfl shapeCasts_S64x64x1_S64x64,
 unary main_v122 main_v135 (s64x64x1_6 F),
 reshape main_v135 main_v136 rfl shapeCasts_S64x64x1_S64x64,
 unary main_v122 main_v137 (s64x64x1_7 F),
 reshape main_v137 main_v138 rfl shapeCasts_S64x64x1_S64x64,
 unary main_v122 main_v139 (s64x64x1_8 F),
 reshape main_v139 main_v140 rfl shapeCasts_S64x64x1_S64x64 ]
abbrev o2_1 : Ops F :=
  [ unary main_arg12 main_v141 ((extractStridedSlice S1x64x64x3x3 ![2, 0, 0, 0, 0] · slices_S3x64x64x3x3_S1x64x64x3x3_2_0_0_0_0) : C F S3x64x64x3x3 → C F S1x64x64x3x3),
 reshape main_v141 main_v142 rfl shapeCasts_S1x64x64x3x3_S64x64x3x3,
 reshape main_v142 main_v143 rfl shapeCasts_S64x64x3x3_S64x64x9,
 unary main_v143 main_v144 (s64x64x1_0 F),
 reshape main_v144 main_v145 rfl shapeCasts_S64x64x1_S64x64,
 unary main_v143 main_v146 (s64x64x1_1 F),
 reshape main_v146 main_v147 rfl shapeCasts_S64x64x1_S64x64,
 unary main_v143 main_v148 (s64x64x1_2 F),
 reshape main_v148 main_v149 rfl shapeCasts_S64x64x1_S64x64,
 unary main_v143 main_v150 (s64x64x1_3 F),
 reshape main_v150 main_v151 rfl shapeCasts_S64x64x1_S64x64,
 unary main_v143 main_v152 (s64x64x1_4 F),
 reshape main_v152 main_v153 rfl shapeCasts_S64x64x1_S64x64,
 unary main_v143 main_v154 (s64x64x1_5 F),
 reshape main_v154 main_v155 rfl shapeCasts_S64x64x1_S64x64,
 unary main_v143 main_v156 (s64x64x1_6 F),
 reshape main_v156 main_v157 rfl shapeCasts_S64x64x1_S64x64,
 unary main_v143 main_v158 (s64x64x1_7 F),
 reshape main_v158 main_v159 rfl shapeCasts_S64x64x1_S64x64,
 unary main_v143 main_v160 (s64x64x1_8 F),
 reshape main_v160 main_v161 rfl shapeCasts_S64x64x1_S64x64 ]
abbrev o2_2 : Ops F :=
  [ unary main_arg14 main_v162 ((extractStridedSlice S1x64x64x3x3 ![0, 0, 0, 0, 0] · slices_S3x64x64x3x3_S1x64x64x3x3_0_0_0_0_0) : C F S3x64x64x3x3 → C F S1x64x64x3x3),
 reshape main_v162 main_v163 rfl shapeCasts_S1x64x64x3x3_S64x64x3x3,
 reshape main_v163 main_v164 rfl shapeCasts_S64x64x3x3_S64x64x9,
 unary main_v164 main_v165 (s64x64x1_0 F),
 reshape main_v165 main_v166 rfl shapeCasts_S64x64x1_S64x64,
 unary main_v164 main_v167 (s64x64x1_1 F),
 reshape main_v167 main_v168 rfl shapeCasts_S64x64x1_S64x64,
 unary main_v164 main_v169 (s64x64x1_2 F),
 reshape main_v169 main_v170 rfl shapeCasts_S64x64x1_S64x64,
 unary main_v164 main_v171 (s64x64x1_3 F),
 reshape main_v171 main_v172 rfl shapeCasts_S64x64x1_S64x64,
 unary main_v164 main_v173 (s64x64x1_4 F),
 reshape main_v173 main_v174 rfl shapeCasts_S64x64x1_S64x64,
 unary main_v164 main_v175 (s64x64x1_5 F),
 reshape main_v175 main_v176 rfl shapeCasts_S64x64x1_S64x64,
 unary main_v164 main_v177 (s64x64x1_6 F),
 reshape main_v177 main_v178 rfl shapeCasts_S64x64x1_S64x64,
 unary main_v164 main_v179 (s64x64x1_7 F) ]
abbrev o3_0 : Ops F :=
  [ reshape main_v179 main_v180 rfl shapeCasts_S64x64x1_S64x64,
 unary main_v164 main_v181 (s64x64x1_8 F),
 reshape main_v181 main_v182 rfl shapeCasts_S64x64x1_S64x64 ]
abbrev o3_1 : Ops F :=
  [ unary main_arg14 main_v183 ((extractStridedSlice S1x64x64x3x3 ![1, 0, 0, 0, 0] · slices_S3x64x64x3x3_S1x64x64x3x3_1_0_0_0_0) : C F S3x64x64x3x3 → C F S1x64x64x3x3),
 reshape main_v183 main_v184 rfl shapeCasts_S1x64x64x3x3_S64x64x3x3,
 reshape main_v184 main_v185 rfl shapeCasts_S64x64x3x3_S64x64x9,
 unary main_v185 main_v186 (s64x64x1_0 F),
 reshape main_v186 main_v187 rfl shapeCasts_S64x64x1_S64x64,
 unary main_v185 main_v188 (s64x64x1_1 F),
 reshape main_v188 main_v189 rfl shapeCasts_S64x64x1_S64x64,
 unary main_v185 main_v190 (s64x64x1_2 F),
 reshape main_v190 main_v191 rfl shapeCasts_S64x64x1_S64x64,
 unary main_v185 main_v192 (s64x64x1_3 F),
 reshape main_v192 main_v193 rfl shapeCasts_S64x64x1_S64x64,
 unary main_v185 main_v194 (s64x64x1_4 F),
 reshape main_v194 main_v195 rfl shapeCasts_S64x64x1_S64x64,
 unary main_v185 main_v196 (s64x64x1_5 F),
 reshape main_v196 main_v197 rfl shapeCasts_S64x64x1_S64x64,
 unary main_v185 main_v198 (s64x64x1_6 F),
 reshape main_v198 main_v199 rfl shapeCasts_S64x64x1_S64x64,
 unary main_v185 main_v200 (s64x64x1_7 F),
 reshape main_v200 main_v201 rfl shapeCasts_S64x64x1_S64x64,
 unary main_v185 main_v202 (s64x64x1_8 F),
 reshape main_v202 main_v203 rfl shapeCasts_S64x64x1_S64x64 ]
abbrev o3_2 : Ops F :=
  [ unary main_arg14 main_v204 ((extractStridedSlice S1x64x64x3x3 ![2, 0, 0, 0, 0] · slices_S3x64x64x3x3_S1x64x64x3x3_2_0_0_0_0) : C F S3x64x64x3x3 → C F S1x64x64x3x3),
 reshape main_v204 main_v205 rfl shapeCasts_S1x64x64x3x3_S64x64x3x3,
 reshape main_v205 main_v206 rfl shapeCasts_S64x64x3x3_S64x64x9,
 unary main_v206 main_v207 (s64x64x1_0 F),
 reshape main_v207 main_v208 rfl shapeCasts_S64x64x1_S64x64,
 unary main_v206 main_v209 (s64x64x1_1 F),
 reshape main_v209 main_v210 rfl shapeCasts_S64x64x1_S64x64,
 unary main_v206 main_v211 (s64x64x1_2 F),
 reshape main_v211 main_v212 rfl shapeCasts_S64x64x1_S64x64,
 unary main_v206 main_v213 (s64x64x1_3 F),
 reshape main_v213 main_v214 rfl shapeCasts_S64x64x1_S64x64,
 unary main_v206 main_v215 (s64x64x1_4 F),
 reshape main_v215 main_v216 rfl shapeCasts_S64x64x1_S64x64,
 unary main_v206 main_v217 (s64x64x1_5 F),
 reshape main_v217 main_v218 rfl shapeCasts_S64x64x1_S64x64,
 unary main_v206 main_v219 (s64x64x1_6 F),
 reshape main_v219 main_v220 rfl shapeCasts_S64x64x1_S64x64,
 unary main_v206 main_v221 (s64x64x1_7 F),
 reshape main_v221 main_v222 rfl shapeCasts_S64x64x1_S64x64,
 unary main_v206 main_v223 (s64x64x1_8 F),
 reshape main_v223 main_v224 rfl shapeCasts_S64x64x1_S64x64 ]
abbrev o3_3 : Ops F :=
  [ reshape main_arg16 main_v225 rfl shapeCasts_S1x64x3x3_S1x64x9,
 unary main_v225 main_v226 (s1x64x1_0 F),
 reshape main_v226 main_v227 rfl shapeCasts_S1x64x1_S1x64,
 unary main_v225 main_v228 (s1x64x1_1 F),
 reshape main_v228 main_v229 rfl shapeCasts_S1x64x1_S1x64,
 unary main_v225 main_v230 (s1x64x1_2 F),
 reshape main_v230 main_v231 rfl shapeCasts_S1x64x1_S1x64,
 unary main_v225 main_v232 (s1x64x1_3 F),
 reshape main_v232 main_v233 rfl shapeCasts_S1x64x1_S1x64,
 unary main_v225 main_v234 (s1x64x1_4 F),
 reshape main_v234 main_v235 rfl shapeCasts_S1x64x1_S1x64,
 unary main_v225 main_v236 (s1x64x1_5 F),
 reshape main_v236 main_v237 rfl shapeCasts_S1x64x1_S1x64,
 unary main_v225 main_v238 (s1x64x1_6 F),
 reshape main_v238 main_v239 rfl shapeCasts_S1x64x1_S1x64 ]
abbrev o4_0 : Ops F :=
  [ unary main_v225 main_v240 (s1x64x1_7 F),
 reshape main_v240 main_v241 rfl shapeCasts_S1x64x1_S1x64,
 unary main_v225 main_v242 (s1x64x1_8 F),
 reshape main_v242 main_v243 rfl shapeCasts_S1x64x1_S1x64 ]
abbrev o4_1 : Ops F :=
  [ reshape main_arg18 main_v244 rfl shapeCasts_S64x1x3x3_S64x1x9,
 unary main_v244 main_v245 (s64x1x1_0 F),
 reshape main_v245 main_v246 rfl shapeCasts_S64x1x1_S64x1,
 unary main_v244 main_v247 (s64x1x1_1 F),
 reshape main_v247 main_v248 rfl shapeCasts_S64x1x1_S64x1,
 unary main_v244 main_v249 (s64x1x1_2 F),
 reshape main_v249 main_v250 rfl shapeCasts_S64x1x1_S64x1,
 unary main_v244 main_v251 (s64x1x1_3 F),
 reshape main_v251 main_v252 rfl shapeCasts_S64x1x1_S64x1,
 unary main_v244 main_v253 (s64x1x1_4 F),
 reshape main_v253 main_v254 rfl shapeCasts_S64x1x1_S64x1,
 unary main_v244 main_v255 (s64x1x1_5 F),
 reshape main_v255 main_v256 rfl shapeCasts_S64x1x1_S64x1,
 unary main_v244 main_v257 (s64x1x1_6 F),
 reshape main_v257 main_v258 rfl shapeCasts_S64x1x1_S64x1,
 unary main_v244 main_v259 (s64x1x1_7 F),
 reshape main_v259 main_v260 rfl shapeCasts_S64x1x1_S64x1,
 unary main_v244 main_v261 (s64x1x1_8 F),
 reshape main_v261 main_v262 rfl shapeCasts_S64x1x1_S64x1 ]
abbrev o4_2 : Ops F :=
  [ unary main_arg20 main_v263 ((extractStridedSlice S1x64x64x3x3 ![0, 0, 0, 0, 0] · slices_S3x64x64x3x3_S1x64x64x3x3_0_0_0_0_0) : C F S3x64x64x3x3 → C F S1x64x64x3x3),
 reshape main_v263 main_v264 rfl shapeCasts_S1x64x64x3x3_S64x64x3x3,
 reshape main_v264 main_v265 rfl shapeCasts_S64x64x3x3_S64x64x9,
 unary main_v265 main_v266 (s64x64x1_0 F),
 reshape main_v266 main_v267 rfl shapeCasts_S64x64x1_S64x64,
 unary main_v265 main_v268 (s64x64x1_1 F),
 reshape main_v268 main_v269 rfl shapeCasts_S64x64x1_S64x64,
 unary main_v265 main_v270 (s64x64x1_2 F),
 reshape main_v270 main_v271 rfl shapeCasts_S64x64x1_S64x64,
 unary main_v265 main_v272 (s64x64x1_3 F),
 reshape main_v272 main_v273 rfl shapeCasts_S64x64x1_S64x64,
 unary main_v265 main_v274 (s64x64x1_4 F),
 reshape main_v274 main_v275 rfl shapeCasts_S64x64x1_S64x64,
 unary main_v265 main_v276 (s64x64x1_5 F),
 reshape main_v276 main_v277 rfl shapeCasts_S64x64x1_S64x64,
 unary main_v265 main_v278 (s64x64x1_6 F),
 reshape main_v278 main_v279 rfl shapeCasts_S64x64x1_S64x64,
 unary main_v265 main_v280 (s64x64x1_7 F),
 reshape main_v280 main_v281 rfl shapeCasts_S64x64x1_S64x64,
 unary main_v265 main_v282 (s64x64x1_8 F),
 reshape main_v282 main_v283 rfl shapeCasts_S64x64x1_S64x64 ]
abbrev o4_3 : Ops F :=
  [ unary main_arg20 main_v284 ((extractStridedSlice S1x64x64x3x3 ![1, 0, 0, 0, 0] · slices_S3x64x64x3x3_S1x64x64x3x3_1_0_0_0_0) : C F S3x64x64x3x3 → C F S1x64x64x3x3),
 reshape main_v284 main_v285 rfl shapeCasts_S1x64x64x3x3_S64x64x3x3,
 reshape main_v285 main_v286 rfl shapeCasts_S64x64x3x3_S64x64x9,
 unary main_v286 main_v287 (s64x64x1_0 F),
 reshape main_v287 main_v288 rfl shapeCasts_S64x64x1_S64x64,
 unary main_v286 main_v289 (s64x64x1_1 F),
 reshape main_v289 main_v290 rfl shapeCasts_S64x64x1_S64x64,
 unary main_v286 main_v291 (s64x64x1_2 F),
 reshape main_v291 main_v292 rfl shapeCasts_S64x64x1_S64x64,
 unary main_v286 main_v293 (s64x64x1_3 F),
 reshape main_v293 main_v294 rfl shapeCasts_S64x64x1_S64x64,
 unary main_v286 main_v295 (s64x64x1_4 F),
 reshape main_v295 main_v296 rfl shapeCasts_S64x64x1_S64x64,
 unary main_v286 main_v297 (s64x64x1_5 F),
 reshape main_v297 main_v298 rfl shapeCasts_S64x64x1_S64x64,
 unary main_v286 main_v299 (s64x64x1_6 F) ]
abbrev o5_0 : Ops F :=
  [ reshape main_v299 main_v300 rfl shapeCasts_S64x64x1_S64x64,
 unary main_v286 main_v301 (s64x64x1_7 F),
 reshape main_v301 main_v302 rfl shapeCasts_S64x64x1_S64x64,
 unary main_v286 main_v303 (s64x64x1_8 F),
 reshape main_v303 main_v304 rfl shapeCasts_S64x64x1_S64x64,
 unary main_arg20 main_v305 ((extractStridedSlice S1x64x64x3x3 ![2, 0, 0, 0, 0] · slices_S3x64x64x3x3_S1x64x64x3x3_2_0_0_0_0) : C F S3x64x64x3x3 → C F S1x64x64x3x3),
 reshape main_v305 main_v306 rfl shapeCasts_S1x64x64x3x3_S64x64x3x3,
 reshape main_v306 main_v307 rfl shapeCasts_S64x64x3x3_S64x64x9,
 unary main_v307 main_v308 (s64x64x1_0 F),
 reshape main_v308 main_v309 rfl shapeCasts_S64x64x1_S64x64,
 unary main_v307 main_v310 (s64x64x1_1 F),
 reshape main_v310 main_v311 rfl shapeCasts_S64x64x1_S64x64,
 unary main_v307 main_v312 (s64x64x1_2 F),
 reshape main_v312 main_v313 rfl shapeCasts_S64x64x1_S64x64,
 unary main_v307 main_v314 (s64x64x1_3 F),
 reshape main_v314 main_v315 rfl shapeCasts_S64x64x1_S64x64,
 unary main_v307 main_v316 (s64x64x1_4 F),
 reshape main_v316 main_v317 rfl shapeCasts_S64x64x1_S64x64,
 unary main_v307 main_v318 (s64x64x1_5 F),
 reshape main_v318 main_v319 rfl shapeCasts_S64x64x1_S64x64,
 unary main_v307 main_v320 (s64x64x1_6 F),
 reshape main_v320 main_v321 rfl shapeCasts_S64x64x1_S64x64,
 unary main_v307 main_v322 (s64x64x1_7 F),
 reshape main_v322 main_v323 rfl shapeCasts_S64x64x1_S64x64,
 unary main_v307 main_v324 (s64x64x1_8 F),
 reshape main_v324 main_v325 rfl shapeCasts_S64x64x1_S64x64,
 reshape main_arg22 main_v326 rfl shapeCasts_S1x64x3x3_S1x64x9,
 unary main_v326 main_v327 (s1x64x1_0 F),
 reshape main_v327 main_v328 rfl shapeCasts_S1x64x1_S1x64,
 unary main_v326 main_v329 (s1x64x1_1 F) ]
abbrev o5_1 : Ops F :=
  [ reshape main_v329 main_v330 rfl shapeCasts_S1x64x1_S1x64,
 unary main_v326 main_v331 (s1x64x1_2 F),
 reshape main_v331 main_v332 rfl shapeCasts_S1x64x1_S1x64,
 unary main_v326 main_v333 (s1x64x1_3 F),
 reshape main_v333 main_v334 rfl shapeCasts_S1x64x1_S1x64,
 unary main_v326 main_v335 (s1x64x1_4 F),
 reshape main_v335 main_v336 rfl shapeCasts_S1x64x1_S1x64,
 unary main_v326 main_v337 (s1x64x1_5 F),
 reshape main_v337 main_v338 rfl shapeCasts_S1x64x1_S1x64,
 unary main_v326 main_v339 (s1x64x1_6 F),
 reshape main_v339 main_v340 rfl shapeCasts_S1x64x1_S1x64,
 unary main_v326 main_v341 (s1x64x1_7 F),
 reshape main_v341 main_v342 rfl shapeCasts_S1x64x1_S1x64,
 unary main_v326 main_v343 (s1x64x1_8 F),
 reshape main_v343 main_v344 rfl shapeCasts_S1x64x1_S1x64,
    nullary main_c (constantI S_ 32 0#32),
    TRef.unary (TRef.of (T := ⟨S_, .i32⟩) main_c) (TRef.of (T := ⟨S_, .f32⟩) main_call0_v0) (sitofp .f32),
    TRef.binary (TRef.of (T := ⟨S2x1x224x224, .f32⟩) main_arg0) (TRef.of (T := ⟨S_, .f32⟩) main_call0_v0) (TRef.of (T := ⟨S2x1x226x226, .f32⟩) main_v345) (fun x v => pad S2x1x226x226 ![0, 0, 1, 1] ![0, 0, 1, 1] ![0, 0, 0, 0] x v pads_S2x1x224x224_S2x1x226x226_000_000_110_110 h_S_),
 unary main_v345 main_v346 (p1_00 F),
 binary main_v346 main_v2 main_v347 (d1_64 F),
    nullary main_cst (constant S_ .f32 0x00000000#32),
 unary main_cst main_v348 (broadcastInDim S2x224x224x64 ![] bcast_S_S2x224x224x64 : C F S_ → C F S2x224x224x64),
 binary main_v348 main_v347 main_v349 (ad F S2x224x224x64),
 unary main_v345 main_v350 (p1_01 F),
 binary main_v350 main_v4 main_v351 (d1_64 F),
 binary main_v349 main_v351 main_v352 (ad F S2x224x224x64),
 unary main_v345 main_v353 (p1_02 F),
 binary main_v353 main_v6 main_v354 (d1_64 F),
 binary main_v352 main_v354 main_v355 (ad F S2x224x224x64),
 unary main_v345 main_v356 (p1_10 F) ]
abbrev o5_2 : Ops F :=
  [ binary main_v356 main_v8 main_v357 (d1_64 F) ]
abbrev o6_0 : Ops F :=
  [ binary main_v355 main_v357 main_v358 (ad F S2x224x224x64),
 unary main_v345 main_v359 (p1_11 F),
 binary main_v359 main_v10 main_v360 (d1_64 F),
 binary main_v358 main_v360 main_v361 (ad F S2x224x224x64),
 unary main_v345 main_v362 (p1_12 F),
 binary main_v362 main_v12 main_v363 (d1_64 F),
 binary main_v361 main_v363 main_v364 (ad F S2x224x224x64),
 unary main_v345 main_v365 (p1_20 F),
 binary main_v365 main_v14 main_v366 (d1_64 F),
 binary main_v364 main_v366 main_v367 (ad F S2x224x224x64),
 unary main_v345 main_v368 (p1_21 F),
 binary main_v368 main_v16 main_v369 (d1_64 F),
 binary main_v367 main_v369 main_v370 (ad F S2x224x224x64),
 unary main_v345 main_v371 (p1_22 F),
 binary main_v371 main_v18 main_v372 (d1_64 F),
 binary main_v370 main_v372 main_v373 (ad F S2x224x224x64),
 unary main_v373 main_v374 ((transpose S2x64x224x224 [0, 3, 1, 2] · transposes_S2x224x224x64_S2x64x224x224_0_3_1_2) : C F S2x224x224x64 → C F S2x64x224x224),
 unary main_arg3 main_v375 (broadcastInDim S1x64x1x1 ![1] bcast_S64_S1x64x1x1_1 : C F S64 → C F S1x64x1x1),
 unary main_v375 main_v376 (broadcastInDim S2x64x224x224 ![0, 1, 2, 3] bcast_S1x64x1x1_S2x64x224x224_0_1_2_3 : C F S1x64x1x1 → C F S2x64x224x224),
 binary main_v374 main_v376 main_v377 (ad F S2x64x224x224),
    TRef.nullary (TRef.of (T := ⟨S_, .f32⟩) main_call1_cst) (constant S_ .f32 0x00000000#32),
    TRef.unary (TRef.of (T := ⟨S_, .f32⟩) main_call1_cst) (TRef.of (T := ⟨S2x64x224x224, .f32⟩) main_call1_v0) (broadcastInDim S2x64x224x224 ![] bcast_S_S2x64x224x224),
    TRef.binary (TRef.of (T := ⟨S2x64x224x224, .f32⟩) main_v377) (TRef.of (T := ⟨S2x64x224x224, .f32⟩) main_call1_v0) (TRef.of (T := ⟨S2x64x224x224, .f32⟩) main_v378) maximumf,
 unary main_arg5 main_v379 ((extractStridedSlice S1x64 ![0, 0] · slices_S2x64_S1x64_0_0) : C F S2x64 → C F S1x64),
 reshape main_v379 main_v380 rfl shapeCasts_S1x64_S64,
    nullary main_c_0 (constantI S_ 32 0#32),
    TRef.unary (TRef.of (T := ⟨S_, .i32⟩) main_c_0) (TRef.of (T := ⟨S_, .f32⟩) main_call2_v0) (sitofp .f32),
    TRef.binary (TRef.of (T := ⟨S2x64x224x224, .f32⟩) main_v378) (TRef.of (T := ⟨S_, .f32⟩) main_call2_v0) (TRef.of (T := ⟨S2x64x226x226, .f32⟩) main_v381) (fun x v => pad S2x64x226x226 ![0, 0, 1, 1] ![0, 0, 1, 1] ![0, 0, 0, 0] x v pads_S2x64x224x224_S2x64x226x226_000_000_110_110 h_S_),
 unary main_v381 main_v382 (p64_00 F),
 binary main_v382 main_v23 main_v383 (d64_64 F) ]
abbrev o6_1 : Ops F :=
  [ nullary main_cst_1 (constant S_ .f32 0x00000000#32),
 unary main_cst_1 main_v384 (broadcastInDim S2x224x224x64 ![] bcast_S_S2x224x224x64 : C F S_ → C F S2x224x224x64),
 binary main_v384 main_v383 main_v385 (ad F S2x224x224x64),
 unary main_v381 main_v386 (p64_01 F),
 binary main_v386 main_v25 main_v387 (d64_64 F),
 binary main_v385 main_v387 main_v388 (ad F S2x224x224x64),
 unary main_v381 main_v389 (p64_02 F),
 binary main_v389 main_v27 main_v390 (d64_64 F),
 binary main_v388 main_v390 main_v391 (ad F S2x224x224x64),
 unary main_v381 main_v392 (p64_10 F),
 binary main_v392 main_v29 main_v393 (d64_64 F),
 binary main_v391 main_v393 main_v394 (ad F S2x224x224x64),
 unary main_v381 main_v395 (p64_11 F),
 binary main_v395 main_v31 main_v396 (d64_64 F),
 binary main_v394 main_v396 main_v397 (ad F S2x224x224x64),
 unary main_v381 main_v398 (p64_12 F),
 binary main_v398 main_v33 main_v399 (d64_64 F),
 binary main_v397 main_v399 main_v400 (ad F S2x224x224x64),
 unary main_v381 main_v401 (p64_20 F),
 binary main_v401 main_v35 main_v402 (d64_64 F),
 binary main_v400 main_v402 main_v403 (ad F S2x224x224x64),
 unary main_v381 main_v404 (p64_21 F),
 binary main_v404 main_v37 main_v405 (d64_64 F),
 binary main_v403 main_v405 main_v406 (ad F S2x224x224x64),
 unary main_v381 main_v407 (p64_22 F),
 binary main_v407 main_v39 main_v408 (d64_64 F),
 binary main_v406 main_v408 main_v409 (ad F S2x224x224x64),
 unary main_v409 main_v410 ((transpose S2x64x224x224 [0, 3, 1, 2] · transposes_S2x224x224x64_S2x64x224x224_0_3_1_2) : C F S2x224x224x64 → C F S2x64x224x224),
 unary main_v380 main_v411 (broadcastInDim S1x64x1x1 ![1] bcast_S64_S1x64x1x1_1 : C F S64 → C F S1x64x1x1),
 unary main_v411 main_v412 (broadcastInDim S2x64x224x224 ![0, 1, 2, 3] bcast_S1x64x1x1_S2x64x224x224_0_1_2_3 : C F S1x64x1x1 → C F S2x64x224x224) ]
abbrev o6_2 : Ops F :=
  [ binary main_v410 main_v412 main_v413 (ad F S2x64x224x224),
    TRef.nullary (TRef.of (T := ⟨S_, .f32⟩) main_call3_cst) (constant S_ .f32 0x00000000#32),
    TRef.unary (TRef.of (T := ⟨S_, .f32⟩) main_call3_cst) (TRef.of (T := ⟨S2x64x224x224, .f32⟩) main_call3_v0) (broadcastInDim S2x64x224x224 ![] bcast_S_S2x64x224x224),
    TRef.binary (TRef.of (T := ⟨S2x64x224x224, .f32⟩) main_v413) (TRef.of (T := ⟨S2x64x224x224, .f32⟩) main_call3_v0) (TRef.of (T := ⟨S2x64x224x224, .f32⟩) main_v414) maximumf,
 unary main_arg5 main_v415 ((extractStridedSlice S1x64 ![1, 0] · slices_S2x64_S1x64_1_0) : C F S2x64 → C F S1x64) ]
abbrev o7_0 : Ops F :=
  [ reshape main_v415 main_v416 rfl shapeCasts_S1x64_S64,
    nullary main_c_2 (constantI S_ 32 0#32),
    TRef.unary (TRef.of (T := ⟨S_, .i32⟩) main_c_2) (TRef.of (T := ⟨S_, .f32⟩) main_call4_v0) (sitofp .f32),
    TRef.binary (TRef.of (T := ⟨S2x64x224x224, .f32⟩) main_v414) (TRef.of (T := ⟨S_, .f32⟩) main_call4_v0) (TRef.of (T := ⟨S2x64x226x226, .f32⟩) main_v417) (fun x v => pad S2x64x226x226 ![0, 0, 1, 1] ![0, 0, 1, 1] ![0, 0, 0, 0] x v pads_S2x64x224x224_S2x64x226x226_000_000_110_110 h_S_),
 unary main_v417 main_v418 (p64_00 F),
 binary main_v418 main_v44 main_v419 (d64_64 F),
    nullary main_cst_3 (constant S_ .f32 0x00000000#32),
 unary main_cst_3 main_v420 (broadcastInDim S2x224x224x64 ![] bcast_S_S2x224x224x64 : C F S_ → C F S2x224x224x64),
 binary main_v420 main_v419 main_v421 (ad F S2x224x224x64),
 unary main_v417 main_v422 (p64_01 F),
 binary main_v422 main_v46 main_v423 (d64_64 F),
 binary main_v421 main_v423 main_v424 (ad F S2x224x224x64),
 unary main_v417 main_v425 (p64_02 F),
 binary main_v425 main_v48 main_v426 (d64_64 F),
 binary main_v424 main_v426 main_v427 (ad F S2x224x224x64),
 unary main_v417 main_v428 (p64_10 F),
 binary main_v428 main_v50 main_v429 (d64_64 F),
 binary main_v427 main_v429 main_v430 (ad F S2x224x224x64),
 unary main_v417 main_v431 (p64_11 F),
 binary main_v431 main_v52 main_v432 (d64_64 F),
 binary main_v430 main_v432 main_v433 (ad F S2x224x224x64),
 unary main_v417 main_v434 (p64_12 F),
 binary main_v434 main_v54 main_v435 (d64_64 F),
 binary main_v433 main_v435 main_v436 (ad F S2x224x224x64),
 unary main_v417 main_v437 (p64_20 F),
 binary main_v437 main_v56 main_v438 (d64_64 F),
 binary main_v436 main_v438 main_v439 (ad F S2x224x224x64),
 unary main_v417 main_v440 (p64_21 F),
 binary main_v440 main_v58 main_v441 (d64_64 F),
 binary main_v439 main_v441 main_v442 (ad F S2x224x224x64) ]
abbrev o7_1 : Ops F :=
  [ unary main_v417 main_v443 (p64_22 F),
 binary main_v443 main_v60 main_v444 (d64_64 F),
 binary main_v442 main_v444 main_v445 (ad F S2x224x224x64),
 unary main_v445 main_v446 ((transpose S2x64x224x224 [0, 3, 1, 2] · transposes_S2x224x224x64_S2x64x224x224_0_3_1_2) : C F S2x224x224x64 → C F S2x64x224x224),
 unary main_v416 main_v447 (broadcastInDim S1x64x1x1 ![1] bcast_S64_S1x64x1x1_1 : C F S64 → C F S1x64x1x1),
 unary main_v447 main_v448 (broadcastInDim S2x64x224x224 ![0, 1, 2, 3] bcast_S1x64x1x1_S2x64x224x224_0_1_2_3 : C F S1x64x1x1 → C F S2x64x224x224),
 binary main_v446 main_v448 main_v449 (ad F S2x64x224x224),
    TRef.nullary (TRef.of (T := ⟨S_, .f32⟩) main_call5_cst) (constant S_ .f32 0x00000000#32),
    TRef.unary (TRef.of (T := ⟨S_, .f32⟩) main_call5_cst) (TRef.of (T := ⟨S2x64x224x224, .f32⟩) main_call5_v0) (broadcastInDim S2x64x224x224 ![] bcast_S_S2x64x224x224),
    TRef.binary (TRef.of (T := ⟨S2x64x224x224, .f32⟩) main_v449) (TRef.of (T := ⟨S2x64x224x224, .f32⟩) main_call5_v0) (TRef.of (T := ⟨S2x64x224x224, .f32⟩) main_v450) maximumf,
    nullary main_c_4 (constantI S_ 32 0#32),
    TRef.unary (TRef.of (T := ⟨S_, .i32⟩) main_c_4) (TRef.of (T := ⟨S_, .f32⟩) main_call6_v0) (sitofp .f32),
    TRef.binary (TRef.of (T := ⟨S2x64x224x224, .f32⟩) main_v450) (TRef.of (T := ⟨S_, .f32⟩) main_call6_v0) (TRef.of (T := ⟨S2x64x226x226, .f32⟩) main_v451) (fun x v => pad S2x64x226x226 ![0, 0, 1, 1] ![0, 0, 1, 1] ![0, 0, 0, 0] x v pads_S2x64x224x224_S2x64x226x226_000_000_110_110 h_S_),
 unary main_v451 main_v452 (p64_00 F),
 binary main_v452 main_v63 main_v453 (d64_64 F),
    nullary main_cst_5 (constant S_ .f32 0x00000000#32),
 unary main_cst_5 main_v454 (broadcastInDim S2x224x224x64 ![] bcast_S_S2x224x224x64 : C F S_ → C F S2x224x224x64),
 binary main_v454 main_v453 main_v455 (ad F S2x224x224x64),
 unary main_v451 main_v456 (p64_01 F),
 binary main_v456 main_v65 main_v457 (d64_64 F),
 binary main_v455 main_v457 main_v458 (ad F S2x224x224x64),
 unary main_v451 main_v459 (p64_02 F),
 binary main_v459 main_v67 main_v460 (d64_64 F),
 binary main_v458 main_v460 main_v461 (ad F S2x224x224x64),
 unary main_v451 main_v462 (p64_10 F),
 binary main_v462 main_v69 main_v463 (d64_64 F),
 binary main_v461 main_v463 main_v464 (ad F S2x224x224x64),
 unary main_v451 main_v465 (p64_11 F),
 binary main_v465 main_v71 main_v466 (d64_64 F),
 binary main_v464 main_v466 main_v467 (ad F S2x224x224x64) ]
abbrev o7_2 : Ops F :=
  [ unary main_v451 main_v468 (p64_12 F),
 binary main_v468 main_v73 main_v469 (d64_64 F),
 binary main_v467 main_v469 main_v470 (ad F S2x224x224x64),
 unary main_v451 main_v471 (p64_20 F) ]
abbrev o8_0 : Ops F :=
  [ binary main_v471 main_v75 main_v472 (d64_64 F),
 binary main_v470 main_v472 main_v473 (ad F S2x224x224x64),
 unary main_v451 main_v474 (p64_21 F),
 binary main_v474 main_v77 main_v475 (d64_64 F),
 binary main_v473 main_v475 main_v476 (ad F S2x224x224x64),
 unary main_v451 main_v477 (p64_22 F),
 binary main_v477 main_v79 main_v478 (d64_64 F),
 binary main_v476 main_v478 main_v479 (ad F S2x224x224x64),
 unary main_v479 main_v480 ((transpose S2x64x224x224 [0, 3, 1, 2] · transposes_S2x224x224x64_S2x64x224x224_0_3_1_2) : C F S2x224x224x64 → C F S2x64x224x224),
 unary main_arg7 main_v481 (broadcastInDim S1x64x1x1 ![1] bcast_S64_S1x64x1x1_1 : C F S64 → C F S1x64x1x1),
 unary main_v481 main_v482 (broadcastInDim S2x64x224x224 ![0, 1, 2, 3] bcast_S1x64x1x1_S2x64x224x224_0_1_2_3 : C F S1x64x1x1 → C F S2x64x224x224),
 binary main_v480 main_v482 main_v483 (ad F S2x64x224x224),
    nullary main_c_6 (constantI S_ 32 0#32),
    TRef.unary (TRef.of (T := ⟨S_, .i32⟩) main_c_6) (TRef.of (T := ⟨S_, .f32⟩) main_call7_v0) (sitofp .f32),
    TRef.binary (TRef.of (T := ⟨S2x64x224x224, .f32⟩) main_v450) (TRef.of (T := ⟨S_, .f32⟩) main_call7_v0) (TRef.of (T := ⟨S2x64x226x226, .f32⟩) main_v484) (fun x v => pad S2x64x226x226 ![0, 0, 1, 1] ![0, 0, 1, 1] ![0, 0, 0, 0] x v pads_S2x64x224x224_S2x64x226x226_000_000_110_110 h_S_),
 unary main_v484 main_v485 (p64_00 F),
 binary main_v485 main_v82 main_v486 (d64_64 F),
    nullary main_cst_7 (constant S_ .f32 0x00000000#32),
 unary main_cst_7 main_v487 (broadcastInDim S2x224x224x64 ![] bcast_S_S2x224x224x64 : C F S_ → C F S2x224x224x64),
 binary main_v487 main_v486 main_v488 (ad F S2x224x224x64),
 unary main_v484 main_v489 (p64_01 F),
 binary main_v489 main_v84 main_v490 (d64_64 F),
 binary main_v488 main_v490 main_v491 (ad F S2x224x224x64),
 unary main_v484 main_v492 (p64_02 F),
 binary main_v492 main_v86 main_v493 (d64_64 F),
 binary main_v491 main_v493 main_v494 (ad F S2x224x224x64),
 unary main_v484 main_v495 (p64_10 F),
 binary main_v495 main_v88 main_v496 (d64_64 F),
 binary main_v494 main_v496 main_v497 (ad F S2x224x224x64),
 unary main_v484 main_v498 (p64_11 F) ]
abbrev o8_1 : Ops F :=
  [ binary main_v498 main_v90 main_v499 (d64_64 F),
 binary main_v497 main_v499 main_v500 (ad F S2x224x224x64),
 unary main_v484 main_v501 (p64_12 F),
 binary main_v501 main_v92 main_v502 (d64_64 F),
 binary main_v500 main_v502 main_v503 (ad F S2x224x224x64),
 unary main_v484 main_v504 (p64_20 F),
 binary main_v504 main_v94 main_v505 (d64_64 F),
 binary main_v503 main_v505 main_v506 (ad F S2x224x224x64),
 unary main_v484 main_v507 (p64_21 F),
 binary main_v507 main_v96 main_v508 (d64_64 F),
 binary main_v506 main_v508 main_v509 (ad F S2x224x224x64),
 unary main_v484 main_v510 (p64_22 F),
 binary main_v510 main_v98 main_v511 (d64_64 F),
 binary main_v509 main_v511 main_v512 (ad F S2x224x224x64),
 unary main_v512 main_v513 ((transpose S2x64x224x224 [0, 3, 1, 2] · transposes_S2x224x224x64_S2x64x224x224_0_3_1_2) : C F S2x224x224x64 → C F S2x64x224x224),
 unary main_arg9 main_v514 (broadcastInDim S1x64x1x1 ![1] bcast_S64_S1x64x1x1_1 : C F S64 → C F S1x64x1x1),
 unary main_v514 main_v515 (broadcastInDim S2x64x224x224 ![0, 1, 2, 3] bcast_S1x64x1x1_S2x64x224x224_0_1_2_3 : C F S1x64x1x1 → C F S2x64x224x224),
 binary main_v513 main_v515 main_v516 (ad F S2x64x224x224),
 unary main_v516 main_v517 (Host.exp : C F S2x64x224x224 → C F S2x64x224x224),
 unary main_v517 main_v518 (Host.sqrt : C F S2x64x224x224 → C F S2x64x224x224),
    nullary main_cst_8 (constant S_ .f32 0x3F800000#32),
 unary main_cst_8 main_v519 (broadcastInDim S2x64x224x224 ![] bcast_S_S2x64x224x224 : C F S_ → C F S2x64x224x224),
 binary main_v519 main_v518 main_v520 (mulf : C F S2x64x224x224 → C F S2x64x224x224 → C F S2x64x224x224),
 binary main_v520 main_arg1 main_v521 (mulf : C F S2x64x224x224 → C F S2x64x224x224 → C F S2x64x224x224),
 binary main_v483 main_v521 main_v522 (ad F S2x64x224x224),
    nullary main_cst_9 (constant S_ .f32 0x00000000#32),
 binary main_v522 main_cst_9 main_v523 ((fun x v => Host.reduceAdd x v reducesTo_S2x64x224x224_S2x64_d2_3 h_S_) : C F S2x64x224x224 → C F S_ → C F S2x64),
    nullary main_cst_10 (constant S_ .f32 0x47440000#32),
 unary main_cst_10 main_v524 (broadcastInDim S2x64 ![] bcast_S_S2x64 : C F S_ → C F S2x64),
 binary main_v523 main_v524 main_v525 (Host.divf : C F S2x64 → C F S2x64 → C F S2x64) ]
abbrev o8_2 : Ops F :=
  [ binary main_v525 main_arg10 main_v526 ((fun l r => Host.dotGeneral dot_S2x64_S64x3_S2x3_1_0_0_1_n_n none l r) : C F S2x64 → C F S64x3 → C F S2x3) ]
abbrev o9_0 : Ops F :=
  [ unary main_arg11 main_v527 (broadcastInDim S1x3 ![1] bcast_S3_S1x3_1 : C F S3 → C F S1x3),
 unary main_v527 main_v528 (broadcastInDim S2x3 ![0, 1] bcast_S1x3_S2x3_0_1 : C F S1x3 → C F S2x3),
 binary main_v526 main_v528 main_v529 (ad F S2x3),
 unary main_v529 main_values ((fun x => (Host.topK S2x2 1 (FloatOps.cmpfTotal .gt) x sliceFits_S2x3_S2x2).1) : C F S2x3 → C F S2x2),
 unary main_v529 main_indices ((fun x => (Host.topK S2x2 1 (FloatOps.cmpfTotal .gt) x sliceFits_S2x3_S2x2).2) : C F S2x3 → (⟨S2x2, .i32⟩ : BufTy).Contents (Elt F)),
    nullary main_cst_11 (constant S_ .f32 0xFF800000#32),
 binary main_values main_cst_11 main_v530 ((fun x v => Host.reduce FloatOps.maximumf x v reducesTo_S2x2_S2_d1 h_S_) : C F S2x2 → C F S_ → C F S2),
    nullary main_cst_12 (constant S_ .f32 0xFF800000#32),
 unary main_cst_12 main_v531 (broadcastInDim S2 ![] bcast_S_S2 : C F S_ → C F S2),
 binary main_v531 main_v530 main_v532 (maximumf : C F S2 → C F S2 → C F S2),
 unary main_v532 main_v533 (broadcastInDim S2x1 ![0] bcast_S2_S2x1_0 : C F S2 → C F S2x1),
 unary main_v533 main_v534 (broadcastInDim S2x2 ![0, 1] bcast_S2x1_S2x2_0_1 : C F S2x1 → C F S2x2),
 binary main_values main_v534 main_v535 (subf : C F S2x2 → C F S2x2 → C F S2x2),
 unary main_v535 main_v536 (Host.exp : C F S2x2 → C F S2x2),
    nullary main_cst_13 (constant S_ .f32 0x00000000#32),
 binary main_v536 main_cst_13 main_v537 ((fun x v => Host.reduceAdd x v reducesTo_S2x2_S2_d1 h_S_) : C F S2x2 → C F S_ → C F S2),
 unary main_v537 main_v538 (broadcastInDim S2x1 ![0] bcast_S2_S2x1_0 : C F S2 → C F S2x1),
 unary main_v538 main_v539 (broadcastInDim S2x2 ![0, 1] bcast_S2x1_S2x2_0_1 : C F S2x1 → C F S2x2),
 binary main_v536 main_v539 main_v540 (Host.divf : C F S2x2 → C F S2x2 → C F S2x2),
    nullary main_cst_14 (constant S_ .f32 0x00000000#32),
 unary main_cst_14 main_v541 (broadcastInDim S2x3 ![] bcast_S_S2x3 : C F S_ → C F S2x3),
    nullary main_v542 (iotaInDim S2 32 0),
 unary main_v542 main_v543 (broadcastInDim S2x1 ![0] bcast_S2_S2x1_0 : (⟨S2, .i32⟩ : BufTy).Contents (Elt F) → (⟨S2x1, .i32⟩ : BufTy).Contents (Elt F)),
    nullary main_c_15 (constantI S_ 32 0#32),
 unary main_c_15 main_v544 (broadcastInDim S2x1 ![] bcast_S_S2x1 : (⟨S_, .i32⟩ : BufTy).Contents (Elt F) → (⟨S2x1, .i32⟩ : BufTy).Contents (Elt F)),
 binary main_v543 main_v544 main_v545 (cmpi .slt : (⟨S2x1, .i32⟩ : BufTy).Contents (Elt F) → (⟨S2x1, .i32⟩ : BufTy).Contents (Elt F) → (⟨S2x1, .i1⟩ : BufTy).Contents (Elt F)),
    nullary main_c_16 (constantI S_ 32 2#32),
 unary main_c_16 main_v546 (broadcastInDim S2x1 ![] bcast_S_S2x1 : (⟨S_, .i32⟩ : BufTy).Contents (Elt F) → (⟨S2x1, .i32⟩ : BufTy).Contents (Elt F)),
 binary main_v543 main_v546 main_v547 (addi : (⟨S2x1, .i32⟩ : BufTy).Contents (Elt F) → (⟨S2x1, .i32⟩ : BufTy).Contents (Elt F) → (⟨S2x1, .i32⟩ : BufTy).Contents (Elt F)),
    ternary main_v545 main_v547 main_v543 main_v548 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F)) ]
abbrev o9_1 : Ops F :=
  [ nullary main_c_17 (constantI S_ 32 0#32),
 unary main_c_17 main_v549 (broadcastInDim S2x2 ![] bcast_S_S2x2 : (⟨S_, .i32⟩ : BufTy).Contents (Elt F) → (⟨S2x2, .i32⟩ : BufTy).Contents (Elt F)),
 binary main_indices main_v549 main_v550 (cmpi .slt : (⟨S2x2, .i32⟩ : BufTy).Contents (Elt F) → (⟨S2x2, .i32⟩ : BufTy).Contents (Elt F) → (⟨S2x2, .i1⟩ : BufTy).Contents (Elt F)),
    nullary main_c_18 (constantI S_ 32 3#32),
 unary main_c_18 main_v551 (broadcastInDim S2x2 ![] bcast_S_S2x2 : (⟨S_, .i32⟩ : BufTy).Contents (Elt F) → (⟨S2x2, .i32⟩ : BufTy).Contents (Elt F)),
 binary main_indices main_v551 main_v552 (addi : (⟨S2x2, .i32⟩ : BufTy).Contents (Elt F) → (⟨S2x2, .i32⟩ : BufTy).Contents (Elt F) → (⟨S2x2, .i32⟩ : BufTy).Contents (Elt F)),
    ternary main_v550 main_v552 main_indices main_v553 (select : (⟨S2x2, .i1⟩ : BufTy).Contents (Elt F) → (⟨S2x2, .i32⟩ : BufTy).Contents (Elt F) → (⟨S2x2, .i32⟩ : BufTy).Contents (Elt F) → (⟨S2x2, .i32⟩ : BufTy).Contents (Elt F)),
 unary main_v548 main_v554 (broadcastInDim S2x2 ![0, 1] bcast_S2x1_S2x2_0_1 : (⟨S2x1, .i32⟩ : BufTy).Contents (Elt F) → (⟨S2x2, .i32⟩ : BufTy).Contents (Elt F)),
 unary main_v554 main_v555 (broadcastInDim S2x2x1 ![0, 1] bcast_S2x2_S2x2x1_0_1 : (⟨S2x2, .i32⟩ : BufTy).Contents (Elt F) → (⟨S2x2x1, .i32⟩ : BufTy).Contents (Elt F)),
 unary main_v553 main_v556 (broadcastInDim S2x2x1 ![0, 1] bcast_S2x2_S2x2x1_0_1 : (⟨S2x2, .i32⟩ : BufTy).Contents (Elt F) → (⟨S2x2x1, .i32⟩ : BufTy).Contents (Elt F)),
 binary main_v555 main_v556 main_v557 (fn_main_v557 (F := F)),
    ternary main_v541 main_v557 main_v540 main_v558 ((fun x i u => Host.scatter scatter_S2x3_S2x2x2_S2x2_n_01_01_2 (fun _ b => b) x i u) : C F S2x3 → (⟨S2x2x2, .i32⟩ : BufTy).Contents (Elt F) → C F S2x2 → C F S2x3),
 unary main_arg13 main_v559 ((extractStridedSlice S1x64 ![0, 0] · slices_S3x64_S1x64_0_0) : C F S3x64 → C F S1x64),
 reshape main_v559 main_v560 rfl shapeCasts_S1x64_S64,
    nullary main_c_19 (constantI S_ 32 0#32),
    TRef.unary (TRef.of (T := ⟨S_, .i32⟩) main_c_19) (TRef.of (T := ⟨S_, .f32⟩) main_call8_v0) (sitofp .f32),
    TRef.binary (TRef.of (T := ⟨S2x64x224x224, .f32⟩) main_v522) (TRef.of (T := ⟨S_, .f32⟩) main_call8_v0) (TRef.of (T := ⟨S2x64x226x226, .f32⟩) main_v561) (fun x v => pad S2x64x226x226 ![0, 0, 1, 1] ![0, 0, 1, 1] ![0, 0, 0, 0] x v pads_S2x64x224x224_S2x64x226x226_000_000_110_110 h_S_),
 unary main_v561 main_v562 (p64_00 F),
 binary main_v562 main_v103 main_v563 (d64_64 F),
    nullary main_cst_20 (constant S_ .f32 0x00000000#32),
 unary main_cst_20 main_v564 (broadcastInDim S2x224x224x64 ![] bcast_S_S2x224x224x64 : C F S_ → C F S2x224x224x64),
 binary main_v564 main_v563 main_v565 (ad F S2x224x224x64),
 unary main_v561 main_v566 (p64_01 F),
 binary main_v566 main_v105 main_v567 (d64_64 F),
 binary main_v565 main_v567 main_v568 (ad F S2x224x224x64),
 unary main_v561 main_v569 (p64_02 F),
 binary main_v569 main_v107 main_v570 (d64_64 F),
 binary main_v568 main_v570 main_v571 (ad F S2x224x224x64),
 unary main_v561 main_v572 (p64_10 F),
 binary main_v572 main_v109 main_v573 (d64_64 F) ]
abbrev o9_2 : Ops F :=
  [ binary main_v571 main_v573 main_v574 (ad F S2x224x224x64) ]
abbrev o10_0 : Ops F :=
  [ unary main_v561 main_v575 (p64_11 F),
 binary main_v575 main_v111 main_v576 (d64_64 F),
 binary main_v574 main_v576 main_v577 (ad F S2x224x224x64),
 unary main_v561 main_v578 (p64_12 F),
 binary main_v578 main_v113 main_v579 (d64_64 F),
 binary main_v577 main_v579 main_v580 (ad F S2x224x224x64),
 unary main_v561 main_v581 (p64_20 F),
 binary main_v581 main_v115 main_v582 (d64_64 F),
 binary main_v580 main_v582 main_v583 (ad F S2x224x224x64),
 unary main_v561 main_v584 (p64_21 F),
 binary main_v584 main_v117 main_v585 (d64_64 F),
 binary main_v583 main_v585 main_v586 (ad F S2x224x224x64),
 unary main_v561 main_v587 (p64_22 F),
 binary main_v587 main_v119 main_v588 (d64_64 F),
 binary main_v586 main_v588 main_v589 (ad F S2x224x224x64),
 unary main_v589 main_v590 ((transpose S2x64x224x224 [0, 3, 1, 2] · transposes_S2x224x224x64_S2x64x224x224_0_3_1_2) : C F S2x224x224x64 → C F S2x64x224x224),
 unary main_v560 main_v591 (broadcastInDim S1x64x1x1 ![1] bcast_S64_S1x64x1x1_1 : C F S64 → C F S1x64x1x1),
 unary main_v591 main_v592 (broadcastInDim S2x64x224x224 ![0, 1, 2, 3] bcast_S1x64x1x1_S2x64x224x224_0_1_2_3 : C F S1x64x1x1 → C F S2x64x224x224),
 binary main_v590 main_v592 main_v593 (ad F S2x64x224x224),
    TRef.nullary (TRef.of (T := ⟨S_, .f32⟩) main_call9_cst) (constant S_ .f32 0x00000000#32),
    TRef.unary (TRef.of (T := ⟨S_, .f32⟩) main_call9_cst) (TRef.of (T := ⟨S2x64x224x224, .f32⟩) main_call9_v0) (broadcastInDim S2x64x224x224 ![] bcast_S_S2x64x224x224),
    TRef.binary (TRef.of (T := ⟨S2x64x224x224, .f32⟩) main_v593) (TRef.of (T := ⟨S2x64x224x224, .f32⟩) main_call9_v0) (TRef.of (T := ⟨S2x64x224x224, .f32⟩) main_v594) maximumf,
 unary main_arg15 main_v595 ((extractStridedSlice S1x64 ![0, 0] · slices_S3x64_S1x64_0_0) : C F S3x64 → C F S1x64),
 reshape main_v595 main_v596 rfl shapeCasts_S1x64_S64,
    nullary main_c_21 (constantI S_ 32 0#32),
    TRef.unary (TRef.of (T := ⟨S_, .i32⟩) main_c_21) (TRef.of (T := ⟨S_, .f32⟩) main_call10_v0) (sitofp .f32),
    TRef.binary (TRef.of (T := ⟨S2x64x224x224, .f32⟩) main_v594) (TRef.of (T := ⟨S_, .f32⟩) main_call10_v0) (TRef.of (T := ⟨S2x64x226x226, .f32⟩) main_v597) (fun x v => pad S2x64x226x226 ![0, 0, 1, 1] ![0, 0, 1, 1] ![0, 0, 0, 0] x v pads_S2x64x224x224_S2x64x226x226_000_000_110_110 h_S_),
 unary main_v597 main_v598 (p64_00 F),
 binary main_v598 main_v166 main_v599 (d64_64 F),
    nullary main_cst_22 (constant S_ .f32 0x00000000#32) ]
abbrev o10_1 : Ops F :=
  [ unary main_cst_22 main_v600 (broadcastInDim S2x224x224x64 ![] bcast_S_S2x224x224x64 : C F S_ → C F S2x224x224x64),
 binary main_v600 main_v599 main_v601 (ad F S2x224x224x64),
 unary main_v597 main_v602 (p64_01 F),
 binary main_v602 main_v168 main_v603 (d64_64 F),
 binary main_v601 main_v603 main_v604 (ad F S2x224x224x64),
 unary main_v597 main_v605 (p64_02 F),
 binary main_v605 main_v170 main_v606 (d64_64 F),
 binary main_v604 main_v606 main_v607 (ad F S2x224x224x64),
 unary main_v597 main_v608 (p64_10 F),
 binary main_v608 main_v172 main_v609 (d64_64 F),
 binary main_v607 main_v609 main_v610 (ad F S2x224x224x64),
 unary main_v597 main_v611 (p64_11 F),
 binary main_v611 main_v174 main_v612 (d64_64 F),
 binary main_v610 main_v612 main_v613 (ad F S2x224x224x64),
 unary main_v597 main_v614 (p64_12 F),
 binary main_v614 main_v176 main_v615 (d64_64 F),
 binary main_v613 main_v615 main_v616 (ad F S2x224x224x64),
 unary main_v597 main_v617 (p64_20 F),
 binary main_v617 main_v178 main_v618 (d64_64 F),
 binary main_v616 main_v618 main_v619 (ad F S2x224x224x64),
 unary main_v597 main_v620 (p64_21 F),
 binary main_v620 main_v180 main_v621 (d64_64 F),
 binary main_v619 main_v621 main_v622 (ad F S2x224x224x64),
 unary main_v597 main_v623 (p64_22 F),
 binary main_v623 main_v182 main_v624 (d64_64 F),
 binary main_v622 main_v624 main_v625 (ad F S2x224x224x64),
 unary main_v625 main_v626 ((transpose S2x64x224x224 [0, 3, 1, 2] · transposes_S2x224x224x64_S2x64x224x224_0_3_1_2) : C F S2x224x224x64 → C F S2x64x224x224),
 unary main_v596 main_v627 (broadcastInDim S1x64x1x1 ![1] bcast_S64_S1x64x1x1_1 : C F S64 → C F S1x64x1x1),
 unary main_v627 main_v628 (broadcastInDim S2x64x224x224 ![0, 1, 2, 3] bcast_S1x64x1x1_S2x64x224x224_0_1_2_3 : C F S1x64x1x1 → C F S2x64x224x224),
 binary main_v626 main_v628 main_v629 (ad F S2x64x224x224) ]
abbrev o10_2 : Ops F :=
  [ unary main_arg13 main_v630 ((extractStridedSlice S1x64 ![1, 0] · slices_S3x64_S1x64_1_0) : C F S3x64 → C F S1x64),
 reshape main_v630 main_v631 rfl shapeCasts_S1x64_S64,
    nullary main_c_23 (constantI S_ 32 0#32) ]
abbrev o11_0 : Ops F :=
  [ TRef.unary (TRef.of (T := ⟨S_, .i32⟩) main_c_23) (TRef.of (T := ⟨S_, .f32⟩) main_call11_v0) (sitofp .f32),
    TRef.binary (TRef.of (T := ⟨S2x64x224x224, .f32⟩) main_v522) (TRef.of (T := ⟨S_, .f32⟩) main_call11_v0) (TRef.of (T := ⟨S2x64x226x226, .f32⟩) main_v632) (fun x v => pad S2x64x226x226 ![0, 0, 1, 1] ![0, 0, 1, 1] ![0, 0, 0, 0] x v pads_S2x64x224x224_S2x64x226x226_000_000_110_110 h_S_),
 unary main_v632 main_v633 (p64_00 F),
 binary main_v633 main_v124 main_v634 (d64_64 F),
    nullary main_cst_24 (constant S_ .f32 0x00000000#32),
 unary main_cst_24 main_v635 (broadcastInDim S2x224x224x64 ![] bcast_S_S2x224x224x64 : C F S_ → C F S2x224x224x64),
 binary main_v635 main_v634 main_v636 (ad F S2x224x224x64),
 unary main_v632 main_v637 (p64_01 F),
 binary main_v637 main_v126 main_v638 (d64_64 F),
 binary main_v636 main_v638 main_v639 (ad F S2x224x224x64),
 unary main_v632 main_v640 (p64_02 F),
 binary main_v640 main_v128 main_v641 (d64_64 F),
 binary main_v639 main_v641 main_v642 (ad F S2x224x224x64),
 unary main_v632 main_v643 (p64_10 F),
 binary main_v643 main_v130 main_v644 (d64_64 F),
 binary main_v642 main_v644 main_v645 (ad F S2x224x224x64),
 unary main_v632 main_v646 (p64_11 F),
 binary main_v646 main_v132 main_v647 (d64_64 F),
 binary main_v645 main_v647 main_v648 (ad F S2x224x224x64),
 unary main_v632 main_v649 (p64_12 F),
 binary main_v649 main_v134 main_v650 (d64_64 F),
 binary main_v648 main_v650 main_v651 (ad F S2x224x224x64),
 unary main_v632 main_v652 (p64_20 F),
 binary main_v652 main_v136 main_v653 (d64_64 F),
 binary main_v651 main_v653 main_v654 (ad F S2x224x224x64),
 unary main_v632 main_v655 (p64_21 F),
 binary main_v655 main_v138 main_v656 (d64_64 F),
 binary main_v654 main_v656 main_v657 (ad F S2x224x224x64),
 unary main_v632 main_v658 (p64_22 F),
 binary main_v658 main_v140 main_v659 (d64_64 F) ]
abbrev o11_1 : Ops F :=
  [ binary main_v657 main_v659 main_v660 (ad F S2x224x224x64),
 unary main_v660 main_v661 ((transpose S2x64x224x224 [0, 3, 1, 2] · transposes_S2x224x224x64_S2x64x224x224_0_3_1_2) : C F S2x224x224x64 → C F S2x64x224x224),
 unary main_v631 main_v662 (broadcastInDim S1x64x1x1 ![1] bcast_S64_S1x64x1x1_1 : C F S64 → C F S1x64x1x1),
 unary main_v662 main_v663 (broadcastInDim S2x64x224x224 ![0, 1, 2, 3] bcast_S1x64x1x1_S2x64x224x224_0_1_2_3 : C F S1x64x1x1 → C F S2x64x224x224),
 binary main_v661 main_v663 main_v664 (ad F S2x64x224x224),
    TRef.nullary (TRef.of (T := ⟨S_, .f32⟩) main_call12_cst) (constant S_ .f32 0x00000000#32),
    TRef.unary (TRef.of (T := ⟨S_, .f32⟩) main_call12_cst) (TRef.of (T := ⟨S2x64x224x224, .f32⟩) main_call12_v0) (broadcastInDim S2x64x224x224 ![] bcast_S_S2x64x224x224),
    TRef.binary (TRef.of (T := ⟨S2x64x224x224, .f32⟩) main_v664) (TRef.of (T := ⟨S2x64x224x224, .f32⟩) main_call12_v0) (TRef.of (T := ⟨S2x64x224x224, .f32⟩) main_v665) maximumf,
 unary main_arg15 main_v666 ((extractStridedSlice S1x64 ![1, 0] · slices_S3x64_S1x64_1_0) : C F S3x64 → C F S1x64),
 reshape main_v666 main_v667 rfl shapeCasts_S1x64_S64,
    nullary main_c_25 (constantI S_ 32 0#32),
    TRef.unary (TRef.of (T := ⟨S_, .i32⟩) main_c_25) (TRef.of (T := ⟨S_, .f32⟩) main_call13_v0) (sitofp .f32),
    TRef.binary (TRef.of (T := ⟨S2x64x224x224, .f32⟩) main_v665) (TRef.of (T := ⟨S_, .f32⟩) main_call13_v0) (TRef.of (T := ⟨S2x64x226x226, .f32⟩) main_v668) (fun x v => pad S2x64x226x226 ![0, 0, 1, 1] ![0, 0, 1, 1] ![0, 0, 0, 0] x v pads_S2x64x224x224_S2x64x226x226_000_000_110_110 h_S_),
 unary main_v668 main_v669 (p64_00 F),
 binary main_v669 main_v187 main_v670 (d64_64 F),
    nullary main_cst_26 (constant S_ .f32 0x00000000#32),
 unary main_cst_26 main_v671 (broadcastInDim S2x224x224x64 ![] bcast_S_S2x224x224x64 : C F S_ → C F S2x224x224x64),
 binary main_v671 main_v670 main_v672 (ad F S2x224x224x64),
 unary main_v668 main_v673 (p64_01 F),
 binary main_v673 main_v189 main_v674 (d64_64 F),
 binary main_v672 main_v674 main_v675 (ad F S2x224x224x64),
 unary main_v668 main_v676 (p64_02 F),
 binary main_v676 main_v191 main_v677 (d64_64 F),
 binary main_v675 main_v677 main_v678 (ad F S2x224x224x64),
 unary main_v668 main_v679 (p64_10 F),
 binary main_v679 main_v193 main_v680 (d64_64 F),
 binary main_v678 main_v680 main_v681 (ad F S2x224x224x64),
 unary main_v668 main_v682 (p64_11 F),
 binary main_v682 main_v195 main_v683 (d64_64 F),
 binary main_v681 main_v683 main_v684 (ad F S2x224x224x64) ]
abbrev o11_2 : Ops F :=
  [ unary main_v668 main_v685 (p64_12 F),
 binary main_v685 main_v197 main_v686 (d64_64 F),
 binary main_v684 main_v686 main_v687 (ad F S2x224x224x64),
 unary main_v668 main_v688 (p64_20 F) ]
abbrev o12_0 : Ops F :=
  [ binary main_v688 main_v199 main_v689 (d64_64 F),
 binary main_v687 main_v689 main_v690 (ad F S2x224x224x64),
 unary main_v668 main_v691 (p64_21 F),
 binary main_v691 main_v201 main_v692 (d64_64 F),
 binary main_v690 main_v692 main_v693 (ad F S2x224x224x64),
 unary main_v668 main_v694 (p64_22 F),
 binary main_v694 main_v203 main_v695 (d64_64 F),
 binary main_v693 main_v695 main_v696 (ad F S2x224x224x64),
 unary main_v696 main_v697 ((transpose S2x64x224x224 [0, 3, 1, 2] · transposes_S2x224x224x64_S2x64x224x224_0_3_1_2) : C F S2x224x224x64 → C F S2x64x224x224),
 unary main_v667 main_v698 (broadcastInDim S1x64x1x1 ![1] bcast_S64_S1x64x1x1_1 : C F S64 → C F S1x64x1x1),
 unary main_v698 main_v699 (broadcastInDim S2x64x224x224 ![0, 1, 2, 3] bcast_S1x64x1x1_S2x64x224x224_0_1_2_3 : C F S1x64x1x1 → C F S2x64x224x224),
 binary main_v697 main_v699 main_v700 (ad F S2x64x224x224),
 unary main_arg13 main_v701 ((extractStridedSlice S1x64 ![2, 0] · slices_S3x64_S1x64_2_0) : C F S3x64 → C F S1x64),
 reshape main_v701 main_v702 rfl shapeCasts_S1x64_S64,
    nullary main_c_27 (constantI S_ 32 0#32),
    TRef.unary (TRef.of (T := ⟨S_, .i32⟩) main_c_27) (TRef.of (T := ⟨S_, .f32⟩) main_call14_v0) (sitofp .f32),
    TRef.binary (TRef.of (T := ⟨S2x64x224x224, .f32⟩) main_v522) (TRef.of (T := ⟨S_, .f32⟩) main_call14_v0) (TRef.of (T := ⟨S2x64x226x226, .f32⟩) main_v703) (fun x v => pad S2x64x226x226 ![0, 0, 1, 1] ![0, 0, 1, 1] ![0, 0, 0, 0] x v pads_S2x64x224x224_S2x64x226x226_000_000_110_110 h_S_),
 unary main_v703 main_v704 (p64_00 F),
 binary main_v704 main_v145 main_v705 (d64_64 F),
    nullary main_cst_28 (constant S_ .f32 0x00000000#32),
 unary main_cst_28 main_v706 (broadcastInDim S2x224x224x64 ![] bcast_S_S2x224x224x64 : C F S_ → C F S2x224x224x64),
 binary main_v706 main_v705 main_v707 (ad F S2x224x224x64),
 unary main_v703 main_v708 (p64_01 F),
 binary main_v708 main_v147 main_v709 (d64_64 F),
 binary main_v707 main_v709 main_v710 (ad F S2x224x224x64),
 unary main_v703 main_v711 (p64_02 F),
 binary main_v711 main_v149 main_v712 (d64_64 F),
 binary main_v710 main_v712 main_v713 (ad F S2x224x224x64),
 unary main_v703 main_v714 (p64_10 F),
 binary main_v714 main_v151 main_v715 (d64_64 F) ]
abbrev o12_1 : Ops F :=
  [ binary main_v713 main_v715 main_v716 (ad F S2x224x224x64),
 unary main_v703 main_v717 (p64_11 F),
 binary main_v717 main_v153 main_v718 (d64_64 F),
 binary main_v716 main_v718 main_v719 (ad F S2x224x224x64),
 unary main_v703 main_v720 (p64_12 F),
 binary main_v720 main_v155 main_v721 (d64_64 F),
 binary main_v719 main_v721 main_v722 (ad F S2x224x224x64),
 unary main_v703 main_v723 (p64_20 F),
 binary main_v723 main_v157 main_v724 (d64_64 F),
 binary main_v722 main_v724 main_v725 (ad F S2x224x224x64),
 unary main_v703 main_v726 (p64_21 F),
 binary main_v726 main_v159 main_v727 (d64_64 F),
 binary main_v725 main_v727 main_v728 (ad F S2x224x224x64),
 unary main_v703 main_v729 (p64_22 F),
 binary main_v729 main_v161 main_v730 (d64_64 F),
 binary main_v728 main_v730 main_v731 (ad F S2x224x224x64),
 unary main_v731 main_v732 ((transpose S2x64x224x224 [0, 3, 1, 2] · transposes_S2x224x224x64_S2x64x224x224_0_3_1_2) : C F S2x224x224x64 → C F S2x64x224x224),
 unary main_v702 main_v733 (broadcastInDim S1x64x1x1 ![1] bcast_S64_S1x64x1x1_1 : C F S64 → C F S1x64x1x1),
 unary main_v733 main_v734 (broadcastInDim S2x64x224x224 ![0, 1, 2, 3] bcast_S1x64x1x1_S2x64x224x224_0_1_2_3 : C F S1x64x1x1 → C F S2x64x224x224),
 binary main_v732 main_v734 main_v735 (ad F S2x64x224x224),
    TRef.nullary (TRef.of (T := ⟨S_, .f32⟩) main_call15_cst) (constant S_ .f32 0x00000000#32),
    TRef.unary (TRef.of (T := ⟨S_, .f32⟩) main_call15_cst) (TRef.of (T := ⟨S2x64x224x224, .f32⟩) main_call15_v0) (broadcastInDim S2x64x224x224 ![] bcast_S_S2x64x224x224),
    TRef.binary (TRef.of (T := ⟨S2x64x224x224, .f32⟩) main_v735) (TRef.of (T := ⟨S2x64x224x224, .f32⟩) main_call15_v0) (TRef.of (T := ⟨S2x64x224x224, .f32⟩) main_v736) maximumf,
 unary main_arg15 main_v737 ((extractStridedSlice S1x64 ![2, 0] · slices_S3x64_S1x64_2_0) : C F S3x64 → C F S1x64),
 reshape main_v737 main_v738 rfl shapeCasts_S1x64_S64,
    nullary main_c_29 (constantI S_ 32 0#32),
    TRef.unary (TRef.of (T := ⟨S_, .i32⟩) main_c_29) (TRef.of (T := ⟨S_, .f32⟩) main_call16_v0) (sitofp .f32),
    TRef.binary (TRef.of (T := ⟨S2x64x224x224, .f32⟩) main_v736) (TRef.of (T := ⟨S_, .f32⟩) main_call16_v0) (TRef.of (T := ⟨S2x64x226x226, .f32⟩) main_v739) (fun x v => pad S2x64x226x226 ![0, 0, 1, 1] ![0, 0, 1, 1] ![0, 0, 0, 0] x v pads_S2x64x224x224_S2x64x226x226_000_000_110_110 h_S_),
 unary main_v739 main_v740 (p64_00 F),
 binary main_v740 main_v208 main_v741 (d64_64 F) ]
abbrev o12_2 : Ops F :=
  [ nullary main_cst_30 (constant S_ .f32 0x00000000#32),
 unary main_cst_30 main_v742 (broadcastInDim S2x224x224x64 ![] bcast_S_S2x224x224x64 : C F S_ → C F S2x224x224x64),
 binary main_v742 main_v741 main_v743 (ad F S2x224x224x64),
 unary main_v739 main_v744 (p64_01 F) ]
abbrev o13_0 : Ops F :=
  [ binary main_v744 main_v210 main_v745 (d64_64 F),
 binary main_v743 main_v745 main_v746 (ad F S2x224x224x64),
 unary main_v739 main_v747 (p64_02 F),
 binary main_v747 main_v212 main_v748 (d64_64 F),
 binary main_v746 main_v748 main_v749 (ad F S2x224x224x64),
 unary main_v739 main_v750 (p64_10 F),
 binary main_v750 main_v214 main_v751 (d64_64 F),
 binary main_v749 main_v751 main_v752 (ad F S2x224x224x64),
 unary main_v739 main_v753 (p64_11 F),
 binary main_v753 main_v216 main_v754 (d64_64 F),
 binary main_v752 main_v754 main_v755 (ad F S2x224x224x64),
 unary main_v739 main_v756 (p64_12 F),
 binary main_v756 main_v218 main_v757 (d64_64 F),
 binary main_v755 main_v757 main_v758 (ad F S2x224x224x64),
 unary main_v739 main_v759 (p64_20 F),
 binary main_v759 main_v220 main_v760 (d64_64 F),
 binary main_v758 main_v760 main_v761 (ad F S2x224x224x64),
 unary main_v739 main_v762 (p64_21 F),
 binary main_v762 main_v222 main_v763 (d64_64 F),
 binary main_v761 main_v763 main_v764 (ad F S2x224x224x64),
 unary main_v739 main_v765 (p64_22 F),
 binary main_v765 main_v224 main_v766 (d64_64 F),
 binary main_v764 main_v766 main_v767 (ad F S2x224x224x64),
 unary main_v767 main_v768 ((transpose S2x64x224x224 [0, 3, 1, 2] · transposes_S2x224x224x64_S2x64x224x224_0_3_1_2) : C F S2x224x224x64 → C F S2x64x224x224),
 unary main_v738 main_v769 (broadcastInDim S1x64x1x1 ![1] bcast_S64_S1x64x1x1_1 : C F S64 → C F S1x64x1x1),
 unary main_v769 main_v770 (broadcastInDim S2x64x224x224 ![0, 1, 2, 3] bcast_S1x64x1x1_S2x64x224x224_0_1_2_3 : C F S1x64x1x1 → C F S2x64x224x224),
 binary main_v768 main_v770 main_v771 (ad F S2x64x224x224),
 unary main_v629 main_v772 (broadcastInDim S1x2x64x224x224 ![1, 2, 3, 4] bcast_S2x64x224x224_S1x2x64x224x224_1_2_3_4 : C F S2x64x224x224 → C F S1x2x64x224x224),
 unary main_v700 main_v773 (broadcastInDim S1x2x64x224x224 ![1, 2, 3, 4] bcast_S2x64x224x224_S1x2x64x224x224_1_2_3_4 : C F S2x64x224x224 → C F S1x2x64x224x224),
 unary main_v771 main_v774 (broadcastInDim S1x2x64x224x224 ![1, 2, 3, 4] bcast_S2x64x224x224_S1x2x64x224x224_1_2_3_4 : C F S2x64x224x224 → C F S1x2x64x224x224) ]
abbrev o13_1 : Ops F :=
  [ nary ![main_v772, main_v773, main_v774] main_v775 (fun u => fn_main_v775 (F := F) (u 0) (u 1) (u 2)),
 binary main_v558 main_v775 main_v776 ((fun l r => Host.dotGeneral dot_S2x3_S3x2x64x224x224_S2x64x224x224_1_0_n_234_0_1 none l r) : C F S2x3 → C F S3x2x64x224x224 → C F S2x64x224x224),
    nullary main_c_31 (constantI S_ 32 0#32),
    TRef.unary (TRef.of (T := ⟨S_, .i32⟩) main_c_31) (TRef.of (T := ⟨S_, .f32⟩) main_call17_v0) (sitofp .f32),
    TRef.binary (TRef.of (T := ⟨S2x64x224x224, .f32⟩) main_v776) (TRef.of (T := ⟨S_, .f32⟩) main_call17_v0) (TRef.of (T := ⟨S2x64x226x226, .f32⟩) main_v777) (fun x v => pad S2x64x226x226 ![0, 0, 1, 1] ![0, 0, 1, 1] ![0, 0, 0, 0] x v pads_S2x64x224x224_S2x64x226x226_000_000_110_110 h_S_),
 unary main_v777 main_v778 (p64_00 F),
 binary main_v778 main_v227 main_v779 (d64_1 F),
    nullary main_cst_32 (constant S_ .f32 0x00000000#32),
 unary main_cst_32 main_v780 (broadcastInDim S2x224x224x1 ![] bcast_S_S2x224x224x1 : C F S_ → C F S2x224x224x1),
 binary main_v780 main_v779 main_v781 (ad F S2x224x224x1),
 unary main_v777 main_v782 (p64_01 F),
 binary main_v782 main_v229 main_v783 (d64_1 F),
 binary main_v781 main_v783 main_v784 (ad F S2x224x224x1),
 unary main_v777 main_v785 (p64_02 F),
 binary main_v785 main_v231 main_v786 (d64_1 F),
 binary main_v784 main_v786 main_v787 (ad F S2x224x224x1),
 unary main_v777 main_v788 (p64_10 F),
 binary main_v788 main_v233 main_v789 (d64_1 F),
 binary main_v787 main_v789 main_v790 (ad F S2x224x224x1),
 unary main_v777 main_v791 (p64_11 F),
 binary main_v791 main_v235 main_v792 (d64_1 F),
 binary main_v790 main_v792 main_v793 (ad F S2x224x224x1),
 unary main_v777 main_v794 (p64_12 F),
 binary main_v794 main_v237 main_v795 (d64_1 F),
 binary main_v793 main_v795 main_v796 (ad F S2x224x224x1),
 unary main_v777 main_v797 (p64_20 F),
 binary main_v797 main_v239 main_v798 (d64_1 F),
 binary main_v796 main_v798 main_v799 (ad F S2x224x224x1),
 unary main_v777 main_v800 (p64_21 F),
 binary main_v800 main_v241 main_v801 (d64_1 F) ]
abbrev o13_2 : Ops F :=
  [ binary main_v799 main_v801 main_v802 (ad F S2x224x224x1) ]
abbrev o14_0 : Ops F :=
  [ unary main_v777 main_v803 (p64_22 F),
 binary main_v803 main_v243 main_v804 (d64_1 F),
 binary main_v802 main_v804 main_v805 (ad F S2x224x224x1),
 unary main_v805 main_v806 ((transpose S2x1x224x224 [0, 3, 1, 2] · transposes_S2x224x224x1_S2x1x224x224_0_3_1_2) : C F S2x224x224x1 → C F S2x1x224x224),
 unary main_arg17 main_v807 (broadcastInDim S1x1x1x1 ![1] bcast_S1_S1x1x1x1_1 : C F S1 → C F S1x1x1x1),
 unary main_v807 main_v808 (broadcastInDim S2x1x224x224 ![0, 1, 2, 3] bcast_S1x1x1x1_S2x1x224x224_0_1_2_3 : C F S1x1x1x1 → C F S2x1x224x224),
 binary main_v806 main_v808 main_v809 (ad F S2x1x224x224),
 binary main_arg0 main_v809 main_v810 (subf : C F S2x1x224x224 → C F S2x1x224x224 → C F S2x1x224x224),
    nullary main_c_33 (constantI S_ 32 0#32),
    TRef.unary (TRef.of (T := ⟨S_, .i32⟩) main_c_33) (TRef.of (T := ⟨S_, .f32⟩) main_call18_v0) (sitofp .f32),
    TRef.binary (TRef.of (T := ⟨S2x1x224x224, .f32⟩) main_v810) (TRef.of (T := ⟨S_, .f32⟩) main_call18_v0) (TRef.of (T := ⟨S2x1x226x226, .f32⟩) main_v811) (fun x v => pad S2x1x226x226 ![0, 0, 1, 1] ![0, 0, 1, 1] ![0, 0, 0, 0] x v pads_S2x1x224x224_S2x1x226x226_000_000_110_110 h_S_),
 unary main_v811 main_v812 (p1_00 F),
 binary main_v812 main_v246 main_v813 (d1_64 F),
    nullary main_cst_34 (constant S_ .f32 0x00000000#32),
 unary main_cst_34 main_v814 (broadcastInDim S2x224x224x64 ![] bcast_S_S2x224x224x64 : C F S_ → C F S2x224x224x64),
 binary main_v814 main_v813 main_v815 (ad F S2x224x224x64),
 unary main_v811 main_v816 (p1_01 F),
 binary main_v816 main_v248 main_v817 (d1_64 F),
 binary main_v815 main_v817 main_v818 (ad F S2x224x224x64),
 unary main_v811 main_v819 (p1_02 F),
 binary main_v819 main_v250 main_v820 (d1_64 F),
 binary main_v818 main_v820 main_v821 (ad F S2x224x224x64),
 unary main_v811 main_v822 (p1_10 F),
 binary main_v822 main_v252 main_v823 (d1_64 F),
 binary main_v821 main_v823 main_v824 (ad F S2x224x224x64),
 unary main_v811 main_v825 (p1_11 F),
 binary main_v825 main_v254 main_v826 (d1_64 F),
 binary main_v824 main_v826 main_v827 (ad F S2x224x224x64),
 unary main_v811 main_v828 (p1_12 F),
 binary main_v828 main_v256 main_v829 (d1_64 F) ]
abbrev o14_1 : Ops F :=
  [ binary main_v827 main_v829 main_v830 (ad F S2x224x224x64),
 unary main_v811 main_v831 (p1_20 F),
 binary main_v831 main_v258 main_v832 (d1_64 F),
 binary main_v830 main_v832 main_v833 (ad F S2x224x224x64),
 unary main_v811 main_v834 (p1_21 F),
 binary main_v834 main_v260 main_v835 (d1_64 F),
 binary main_v833 main_v835 main_v836 (ad F S2x224x224x64),
 unary main_v811 main_v837 (p1_22 F),
 binary main_v837 main_v262 main_v838 (d1_64 F),
 binary main_v836 main_v838 main_v839 (ad F S2x224x224x64),
 unary main_v839 main_v840 ((transpose S2x64x224x224 [0, 3, 1, 2] · transposes_S2x224x224x64_S2x64x224x224_0_3_1_2) : C F S2x224x224x64 → C F S2x64x224x224),
 unary main_arg19 main_v841 (broadcastInDim S1x64x1x1 ![1] bcast_S64_S1x64x1x1_1 : C F S64 → C F S1x64x1x1),
 unary main_v841 main_v842 (broadcastInDim S2x64x224x224 ![0, 1, 2, 3] bcast_S1x64x1x1_S2x64x224x224_0_1_2_3 : C F S1x64x1x1 → C F S2x64x224x224),
 binary main_v840 main_v842 main_v843 (ad F S2x64x224x224),
    TRef.nullary (TRef.of (T := ⟨S_, .f32⟩) main_call19_cst) (constant S_ .f32 0x00000000#32),
    TRef.unary (TRef.of (T := ⟨S_, .f32⟩) main_call19_cst) (TRef.of (T := ⟨S2x64x224x224, .f32⟩) main_call19_v0) (broadcastInDim S2x64x224x224 ![] bcast_S_S2x64x224x224),
    TRef.binary (TRef.of (T := ⟨S2x64x224x224, .f32⟩) main_v843) (TRef.of (T := ⟨S2x64x224x224, .f32⟩) main_call19_v0) (TRef.of (T := ⟨S2x64x224x224, .f32⟩) main_v844) maximumf,
 unary main_arg21 main_v845 ((extractStridedSlice S1x64 ![0, 0] · slices_S3x64_S1x64_0_0) : C F S3x64 → C F S1x64),
 reshape main_v845 main_v846 rfl shapeCasts_S1x64_S64,
    nullary main_c_35 (constantI S_ 32 0#32),
    TRef.unary (TRef.of (T := ⟨S_, .i32⟩) main_c_35) (TRef.of (T := ⟨S_, .f32⟩) main_call20_v0) (sitofp .f32),
    TRef.binary (TRef.of (T := ⟨S2x64x224x224, .f32⟩) main_v844) (TRef.of (T := ⟨S_, .f32⟩) main_call20_v0) (TRef.of (T := ⟨S2x64x226x226, .f32⟩) main_v847) (fun x v => pad S2x64x226x226 ![0, 0, 1, 1] ![0, 0, 1, 1] ![0, 0, 0, 0] x v pads_S2x64x224x224_S2x64x226x226_000_000_110_110 h_S_),
 unary main_v847 main_v848 (p64_00 F),
 binary main_v848 main_v267 main_v849 (d64_64 F),
    nullary main_cst_36 (constant S_ .f32 0x00000000#32),
 unary main_cst_36 main_v850 (broadcastInDim S2x224x224x64 ![] bcast_S_S2x224x224x64 : C F S_ → C F S2x224x224x64),
 binary main_v850 main_v849 main_v851 (ad F S2x224x224x64),
 unary main_v847 main_v852 (p64_01 F),
 binary main_v852 main_v269 main_v853 (d64_64 F),
 binary main_v851 main_v853 main_v854 (ad F S2x224x224x64) ]
abbrev o14_2 : Ops F :=
  [ unary main_v847 main_v855 (p64_02 F),
 binary main_v855 main_v271 main_v856 (d64_64 F),
 binary main_v854 main_v856 main_v857 (ad F S2x224x224x64),
 unary main_v847 main_v858 (p64_10 F) ]
abbrev o15_0 : Ops F :=
  [ binary main_v858 main_v273 main_v859 (d64_64 F),
 binary main_v857 main_v859 main_v860 (ad F S2x224x224x64),
 unary main_v847 main_v861 (p64_11 F),
 binary main_v861 main_v275 main_v862 (d64_64 F),
 binary main_v860 main_v862 main_v863 (ad F S2x224x224x64),
 unary main_v847 main_v864 (p64_12 F),
 binary main_v864 main_v277 main_v865 (d64_64 F),
 binary main_v863 main_v865 main_v866 (ad F S2x224x224x64),
 unary main_v847 main_v867 (p64_20 F),
 binary main_v867 main_v279 main_v868 (d64_64 F),
 binary main_v866 main_v868 main_v869 (ad F S2x224x224x64),
 unary main_v847 main_v870 (p64_21 F),
 binary main_v870 main_v281 main_v871 (d64_64 F),
 binary main_v869 main_v871 main_v872 (ad F S2x224x224x64),
 unary main_v847 main_v873 (p64_22 F),
 binary main_v873 main_v283 main_v874 (d64_64 F),
 binary main_v872 main_v874 main_v875 (ad F S2x224x224x64),
 unary main_v875 main_v876 ((transpose S2x64x224x224 [0, 3, 1, 2] · transposes_S2x224x224x64_S2x64x224x224_0_3_1_2) : C F S2x224x224x64 → C F S2x64x224x224),
 unary main_v846 main_v877 (broadcastInDim S1x64x1x1 ![1] bcast_S64_S1x64x1x1_1 : C F S64 → C F S1x64x1x1),
 unary main_v877 main_v878 (broadcastInDim S2x64x224x224 ![0, 1, 2, 3] bcast_S1x64x1x1_S2x64x224x224_0_1_2_3 : C F S1x64x1x1 → C F S2x64x224x224),
 binary main_v876 main_v878 main_v879 (ad F S2x64x224x224),
    TRef.nullary (TRef.of (T := ⟨S_, .f32⟩) main_call21_cst) (constant S_ .f32 0x00000000#32),
    TRef.unary (TRef.of (T := ⟨S_, .f32⟩) main_call21_cst) (TRef.of (T := ⟨S2x64x224x224, .f32⟩) main_call21_v0) (broadcastInDim S2x64x224x224 ![] bcast_S_S2x64x224x224),
    TRef.binary (TRef.of (T := ⟨S2x64x224x224, .f32⟩) main_v879) (TRef.of (T := ⟨S2x64x224x224, .f32⟩) main_call21_v0) (TRef.of (T := ⟨S2x64x224x224, .f32⟩) main_v880) maximumf,
 unary main_arg21 main_v881 ((extractStridedSlice S1x64 ![1, 0] · slices_S3x64_S1x64_1_0) : C F S3x64 → C F S1x64),
 reshape main_v881 main_v882 rfl shapeCasts_S1x64_S64,
    nullary main_c_37 (constantI S_ 32 0#32),
    TRef.unary (TRef.of (T := ⟨S_, .i32⟩) main_c_37) (TRef.of (T := ⟨S_, .f32⟩) main_call22_v0) (sitofp .f32),
    TRef.binary (TRef.of (T := ⟨S2x64x224x224, .f32⟩) main_v880) (TRef.of (T := ⟨S_, .f32⟩) main_call22_v0) (TRef.of (T := ⟨S2x64x226x226, .f32⟩) main_v883) (fun x v => pad S2x64x226x226 ![0, 0, 1, 1] ![0, 0, 1, 1] ![0, 0, 0, 0] x v pads_S2x64x224x224_S2x64x226x226_000_000_110_110 h_S_),
 unary main_v883 main_v884 (p64_00 F) ]
abbrev o15_1 : Ops F :=
  [ binary main_v884 main_v288 main_v885 (d64_64 F),
    nullary main_cst_38 (constant S_ .f32 0x00000000#32),
 unary main_cst_38 main_v886 (broadcastInDim S2x224x224x64 ![] bcast_S_S2x224x224x64 : C F S_ → C F S2x224x224x64),
 binary main_v886 main_v885 main_v887 (ad F S2x224x224x64),
 unary main_v883 main_v888 (p64_01 F),
 binary main_v888 main_v290 main_v889 (d64_64 F),
 binary main_v887 main_v889 main_v890 (ad F S2x224x224x64),
 unary main_v883 main_v891 (p64_02 F),
 binary main_v891 main_v292 main_v892 (d64_64 F),
 binary main_v890 main_v892 main_v893 (ad F S2x224x224x64),
 unary main_v883 main_v894 (p64_10 F),
 binary main_v894 main_v294 main_v895 (d64_64 F),
 binary main_v893 main_v895 main_v896 (ad F S2x224x224x64),
 unary main_v883 main_v897 (p64_11 F),
 binary main_v897 main_v296 main_v898 (d64_64 F),
 binary main_v896 main_v898 main_v899 (ad F S2x224x224x64),
 unary main_v883 main_v900 (p64_12 F),
 binary main_v900 main_v298 main_v901 (d64_64 F),
 binary main_v899 main_v901 main_v902 (ad F S2x224x224x64),
 unary main_v883 main_v903 (p64_20 F),
 binary main_v903 main_v300 main_v904 (d64_64 F),
 binary main_v902 main_v904 main_v905 (ad F S2x224x224x64),
 unary main_v883 main_v906 (p64_21 F),
 binary main_v906 main_v302 main_v907 (d64_64 F),
 binary main_v905 main_v907 main_v908 (ad F S2x224x224x64),
 unary main_v883 main_v909 (p64_22 F),
 binary main_v909 main_v304 main_v910 (d64_64 F),
 binary main_v908 main_v910 main_v911 (ad F S2x224x224x64),
 unary main_v911 main_v912 ((transpose S2x64x224x224 [0, 3, 1, 2] · transposes_S2x224x224x64_S2x64x224x224_0_3_1_2) : C F S2x224x224x64 → C F S2x64x224x224),
 unary main_v882 main_v913 (broadcastInDim S1x64x1x1 ![1] bcast_S64_S1x64x1x1_1 : C F S64 → C F S1x64x1x1) ]
abbrev o15_2 : Ops F :=
  [ unary main_v913 main_v914 (broadcastInDim S2x64x224x224 ![0, 1, 2, 3] bcast_S1x64x1x1_S2x64x224x224_0_1_2_3 : C F S1x64x1x1 → C F S2x64x224x224),
 binary main_v912 main_v914 main_v915 (ad F S2x64x224x224),
    TRef.nullary (TRef.of (T := ⟨S_, .f32⟩) main_call23_cst) (constant S_ .f32 0x00000000#32),
    TRef.unary (TRef.of (T := ⟨S_, .f32⟩) main_call23_cst) (TRef.of (T := ⟨S2x64x224x224, .f32⟩) main_call23_v0) (broadcastInDim S2x64x224x224 ![] bcast_S_S2x64x224x224),
    TRef.binary (TRef.of (T := ⟨S2x64x224x224, .f32⟩) main_v915) (TRef.of (T := ⟨S2x64x224x224, .f32⟩) main_call23_v0) (TRef.of (T := ⟨S2x64x224x224, .f32⟩) main_v916) maximumf ]
abbrev o16_0 : Ops F :=
  [ unary main_arg21 main_v917 ((extractStridedSlice S1x64 ![2, 0] · slices_S3x64_S1x64_2_0) : C F S3x64 → C F S1x64),
 reshape main_v917 main_v918 rfl shapeCasts_S1x64_S64,
    nullary main_c_39 (constantI S_ 32 0#32),
    TRef.unary (TRef.of (T := ⟨S_, .i32⟩) main_c_39) (TRef.of (T := ⟨S_, .f32⟩) main_call24_v0) (sitofp .f32),
    TRef.binary (TRef.of (T := ⟨S2x64x224x224, .f32⟩) main_v916) (TRef.of (T := ⟨S_, .f32⟩) main_call24_v0) (TRef.of (T := ⟨S2x64x226x226, .f32⟩) main_v919) (fun x v => pad S2x64x226x226 ![0, 0, 1, 1] ![0, 0, 1, 1] ![0, 0, 0, 0] x v pads_S2x64x224x224_S2x64x226x226_000_000_110_110 h_S_),
 unary main_v919 main_v920 (p64_00 F),
 binary main_v920 main_v309 main_v921 (d64_64 F),
    nullary main_cst_40 (constant S_ .f32 0x00000000#32),
 unary main_cst_40 main_v922 (broadcastInDim S2x224x224x64 ![] bcast_S_S2x224x224x64 : C F S_ → C F S2x224x224x64),
 binary main_v922 main_v921 main_v923 (ad F S2x224x224x64),
 unary main_v919 main_v924 (p64_01 F),
 binary main_v924 main_v311 main_v925 (d64_64 F),
 binary main_v923 main_v925 main_v926 (ad F S2x224x224x64),
 unary main_v919 main_v927 (p64_02 F),
 binary main_v927 main_v313 main_v928 (d64_64 F),
 binary main_v926 main_v928 main_v929 (ad F S2x224x224x64),
 unary main_v919 main_v930 (p64_10 F),
 binary main_v930 main_v315 main_v931 (d64_64 F),
 binary main_v929 main_v931 main_v932 (ad F S2x224x224x64),
 unary main_v919 main_v933 (p64_11 F),
 binary main_v933 main_v317 main_v934 (d64_64 F),
 binary main_v932 main_v934 main_v935 (ad F S2x224x224x64),
 unary main_v919 main_v936 (p64_12 F),
 binary main_v936 main_v319 main_v937 (d64_64 F),
 binary main_v935 main_v937 main_v938 (ad F S2x224x224x64),
 unary main_v919 main_v939 (p64_20 F),
 binary main_v939 main_v321 main_v940 (d64_64 F),
 binary main_v938 main_v940 main_v941 (ad F S2x224x224x64),
 unary main_v919 main_v942 (p64_21 F),
 binary main_v942 main_v323 main_v943 (d64_64 F) ]
abbrev o16_1 : Ops F :=
  [ binary main_v941 main_v943 main_v944 (ad F S2x224x224x64),
 unary main_v919 main_v945 (p64_22 F),
 binary main_v945 main_v325 main_v946 (d64_64 F),
 binary main_v944 main_v946 main_v947 (ad F S2x224x224x64),
 unary main_v947 main_v948 ((transpose S2x64x224x224 [0, 3, 1, 2] · transposes_S2x224x224x64_S2x64x224x224_0_3_1_2) : C F S2x224x224x64 → C F S2x64x224x224),
 unary main_v918 main_v949 (broadcastInDim S1x64x1x1 ![1] bcast_S64_S1x64x1x1_1 : C F S64 → C F S1x64x1x1),
 unary main_v949 main_v950 (broadcastInDim S2x64x224x224 ![0, 1, 2, 3] bcast_S1x64x1x1_S2x64x224x224_0_1_2_3 : C F S1x64x1x1 → C F S2x64x224x224),
 binary main_v948 main_v950 main_v951 (ad F S2x64x224x224),
    TRef.nullary (TRef.of (T := ⟨S_, .f32⟩) main_call25_cst) (constant S_ .f32 0x00000000#32),
    TRef.unary (TRef.of (T := ⟨S_, .f32⟩) main_call25_cst) (TRef.of (T := ⟨S2x64x224x224, .f32⟩) main_call25_v0) (broadcastInDim S2x64x224x224 ![] bcast_S_S2x64x224x224),
    TRef.binary (TRef.of (T := ⟨S2x64x224x224, .f32⟩) main_v951) (TRef.of (T := ⟨S2x64x224x224, .f32⟩) main_call25_v0) (TRef.of (T := ⟨S2x64x224x224, .f32⟩) main_v952) maximumf,
    nullary main_c_41 (constantI S_ 32 0#32),
    TRef.unary (TRef.of (T := ⟨S_, .i32⟩) main_c_41) (TRef.of (T := ⟨S_, .f32⟩) main_call26_v0) (sitofp .f32),
    TRef.binary (TRef.of (T := ⟨S2x64x224x224, .f32⟩) main_v952) (TRef.of (T := ⟨S_, .f32⟩) main_call26_v0) (TRef.of (T := ⟨S2x64x226x226, .f32⟩) main_v953) (fun x v => pad S2x64x226x226 ![0, 0, 1, 1] ![0, 0, 1, 1] ![0, 0, 0, 0] x v pads_S2x64x224x224_S2x64x226x226_000_000_110_110 h_S_),
 unary main_v953 main_v954 (p64_00 F),
 binary main_v954 main_v328 main_v955 (d64_1 F),
    nullary main_cst_42 (constant S_ .f32 0x00000000#32),
 unary main_cst_42 main_v956 (broadcastInDim S2x224x224x1 ![] bcast_S_S2x224x224x1 : C F S_ → C F S2x224x224x1),
 binary main_v956 main_v955 main_v957 (ad F S2x224x224x1),
 unary main_v953 main_v958 (p64_01 F),
 binary main_v958 main_v330 main_v959 (d64_1 F),
 binary main_v957 main_v959 main_v960 (ad F S2x224x224x1),
 unary main_v953 main_v961 (p64_02 F),
 binary main_v961 main_v332 main_v962 (d64_1 F),
 binary main_v960 main_v962 main_v963 (ad F S2x224x224x1),
 unary main_v953 main_v964 (p64_10 F),
 binary main_v964 main_v334 main_v965 (d64_1 F),
 binary main_v963 main_v965 main_v966 (ad F S2x224x224x1),
 unary main_v953 main_v967 (p64_11 F),
 binary main_v967 main_v336 main_v968 (d64_1 F) ]
abbrev o16_2 : Ops F :=
  [ binary main_v966 main_v968 main_v969 (ad F S2x224x224x1),
 unary main_v953 main_v970 (p64_12 F),
 binary main_v970 main_v338 main_v971 (d64_1 F),
 binary main_v969 main_v971 main_v972 (ad F S2x224x224x1) ]
abbrev o17 : Ops F :=
  [ unary main_v953 main_v973 (p64_20 F),
 binary main_v973 main_v340 main_v974 (d64_1 F),
 binary main_v972 main_v974 main_v975 (ad F S2x224x224x1),
 unary main_v953 main_v976 (p64_21 F),
 binary main_v976 main_v342 main_v977 (d64_1 F),
 binary main_v975 main_v977 main_v978 (ad F S2x224x224x1),
 unary main_v953 main_v979 (p64_22 F),
 binary main_v979 main_v344 main_v980 (d64_1 F),
 binary main_v978 main_v980 main_v981 (ad F S2x224x224x1),
 unary main_v981 main_v982 ((transpose S2x1x224x224 [0, 3, 1, 2] · transposes_S2x224x224x1_S2x1x224x224_0_3_1_2) : C F S2x224x224x1 → C F S2x1x224x224),
 unary main_arg23 main_v983 (broadcastInDim S1x1x1x1 ![1] bcast_S1_S1x1x1x1_1 : C F S1 → C F S1x1x1x1),
 unary main_v983 main_v984 (broadcastInDim S2x1x224x224 ![0, 1, 2, 3] bcast_S1x1x1x1_S2x1x224x224_0_1_2_3 : C F S1x1x1x1 → C F S2x1x224x224),
 binary main_v982 main_v984 main_v985 (ad F S2x1x224x224) ]
abbrev o0 : Ops F :=
  o0_0 ++ (o0_1 ++ (o0_2))
abbrev o1 : Ops F :=
  o1_0 ++ (o1_1 ++ (o1_2 ++ (o1_3)))
abbrev o2 : Ops F :=
  o2_0 ++ (o2_1 ++ (o2_2))
abbrev o3 : Ops F :=
  o3_0 ++ (o3_1 ++ (o3_2 ++ (o3_3)))
abbrev o4 : Ops F :=
  o4_0 ++ (o4_1 ++ (o4_2 ++ (o4_3)))
abbrev o5 : Ops F :=
  o5_0 ++ (o5_1 ++ (o5_2))
abbrev o6 : Ops F :=
  o6_0 ++ (o6_1 ++ (o6_2))
abbrev o7 : Ops F :=
  o7_0 ++ (o7_1 ++ (o7_2))
abbrev o8 : Ops F :=
  o8_0 ++ (o8_1 ++ (o8_2))
abbrev o9 : Ops F :=
  o9_0 ++ (o9_1 ++ (o9_2))
abbrev o10 : Ops F :=
  o10_0 ++ (o10_1 ++ (o10_2))
abbrev o11 : Ops F :=
  o11_0 ++ (o11_1 ++ (o11_2))
abbrev o12 : Ops F :=
  o12_0 ++ (o12_1 ++ (o12_2))
abbrev o13 : Ops F :=
  o13_0 ++ (o13_1 ++ (o13_2))
abbrev o14 : Ops F :=
  o14_0 ++ (o14_1 ++ (o14_2))
abbrev o15 : Ops F :=
  o15_0 ++ (o15_1 ++ (o15_2))
abbrev o16 : Ops F :=
  o16_0 ++ (o16_1 ++ (o16_2))
/-- The reference's operations, in order. -/
abbrev ops : List (HloOp τ sig (Elt F)) :=
  o0 ++ (o1 ++ (o2 ++ (o3 ++ (o4 ++ (o5 ++ (o6 ++ (o7 ++ (o8 ++ (o9 ++ (o10 ++ (o11 ++ (o12 ++ (o13 ++ (o14 ++ (o15 ++ (o16 ++ (o17)))))))))))))))))
theorem main_part0_eq (c : Dev nD) : main_part0 (F := F) c = seq o0 := rfl
theorem main_part1_eq (c : Dev nD) : main_part1 (F := F) c = seq o1 := rfl
theorem main_part2_eq (c : Dev nD) : main_part2 (F := F) c = seq o2 := rfl
theorem main_part3_eq (c : Dev nD) : main_part3 (F := F) c = seq o3 := rfl
theorem main_part4_eq (c : Dev nD) : main_part4 (F := F) c = seq o4 := rfl
theorem main_part5_eq (c : Dev nD) : main_part5 (F := F) c = seq o5 := rfl
theorem main_part6_eq (c : Dev nD) : main_part6 (F := F) c = seq o6 := rfl
theorem main_part7_eq (c : Dev nD) : main_part7 (F := F) c = seq o7 := rfl
theorem main_part8_eq (c : Dev nD) : main_part8 (F := F) c = seq o8 := rfl
theorem main_part9_eq (c : Dev nD) : main_part9 (F := F) c = seq o9 := rfl
theorem main_part10_eq (c : Dev nD) : main_part10 (F := F) c = seq o10 := rfl
theorem main_part11_eq (c : Dev nD) : main_part11 (F := F) c = seq o11 := rfl
theorem main_part12_eq (c : Dev nD) : main_part12 (F := F) c = seq o12 := rfl
theorem main_part13_eq (c : Dev nD) : main_part13 (F := F) c = seq o13 := rfl
theorem main_part14_eq (c : Dev nD) : main_part14 (F := F) c = seq o14 := rfl
theorem main_part15_eq (c : Dev nD) : main_part15 (F := F) c = seq o15 := rfl
theorem main_part16_eq (c : Dev nD) : main_part16 (F := F) c = seq o16 := rfl
theorem main_part17_eq (c : Dev nD) : main_part17 (F := F) c = seq o17 := rfl
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c]
  rfl

end Cert.RefNet

end
-- ==== Proof.RefKeep.lean ====
/- The contents after each stretch of the reference: what a stretch does not write, it keeps. -/
module

public import proofs.«01_k».proof.Proof.RefOps

@[expose] public section

set_option maxRecDepth 8192
set_option maxHeartbeats 4000000

noncomputable section

namespace Cert.RefNet

open Cert.ReferenceIdeal Cert.ReferenceIdeal.Gen Idealize.ShloMosaic Idealize.ShloMosaic.TcCoe Idealize.SL.Sem Idealize.ShloMosaic.StableHlo

variable {F : FTy → Type} [FloatOps F]

/-- A reference that stands before all of a list is not on the list. -/
theorem not_mem_of_before {W : List (Ref sig .tc)} {n : ℕ} (hW : (W.all fun w => decide (n ≤ w.idx.val)) = true)
    {r : Ref sig .tc} (h : r.idx.val < n) : r ∉ W :=
  fun hm => absurd (of_decide_eq_true (List.all_eq_true.mp hW r hm)) (Nat.not_le.mpr h)

/-- One valuation holds what another holds in the buffers before the given one. -/
abbrev Keeps (v p : Valuation τ sig (Elt F)) (n : ℕ) : Prop :=
  ∀ r : Ref sig .tc, r.idx.val < n → v (Proc.devRef .tc r) = p (Proc.devRef .tc r)

theorem Keeps.trans {u v p : Valuation τ sig (Elt F)} {n m k : ℕ} (h : Keeps u v n) (g : Keeps v p m) (hn : k ≤ n) (hm : k ≤ m) :
    Keeps u p k := fun r hr => (h r (hr.trans_le hn)).trans (g r (hr.trans_le hm))

theorem Keeps.of {W : List (Ref sig .tc)} {n : ℕ} {ops : List (HloOp τ sig (Elt F))} {p : Valuation τ sig (Elt F)}
    (h : ops.Forall fun op => op.writes ⊆ (W.map (Proc.devRef (τ := τ) .tc)).toFinset)
    (hW : (W.all fun w => decide (n ≤ w.idx.val)) = true) : Keeps (after ops p) p n :=
  fun _ hr => after_of_writes_sub ops _ h (not_mem_of_before hW hr)

/-- A stretch writes the listed buffers only. -/
abbrev Writes (ops : List (HloOp τ sig (Elt F))) (W : List (Ref sig .tc)) : Prop :=
  ops.Forall fun op => op.writes ⊆ (W.map (Proc.devRef (τ := τ) .tc)).toFinset

variable (V0 : Valuation τ sig (Elt F))

/-- The contents of all buffers. -/
abbrev Vl (F : FTy → Type) [FloatOps F] : Type _ := Valuation τ sig (Elt F)

/-- The contents at the start. -/
def w0 : Vl F := V0
def w1_s0 : Vl F := after o0_0 (w0 V0)
abbrev o0_0_W : List (Ref sig .tc) := [main_v0, main_v1, main_v2, main_v3, main_v4, main_v5, main_v6, main_v7, main_v8, main_v9, main_v10, main_v11, main_v12, main_v13, main_v14, main_v15, main_v16, main_v17, main_v18]
theorem o0_0_writes : Writes (F := F) o0_0 o0_0_W := forall_writes_sub_of_map rfl
theorem w1_s0_step : Keeps (w1_s0 V0) (w0 V0) 24 := Keeps.of o0_0_writes (by decide)
theorem w1_s0_arg : Keeps (w1_s0 V0) V0 24 := w1_s0_step V0
def w1_s1 : Vl F := after o0_1 (w1_s0 V0)
abbrev o0_1_W : List (Ref sig .tc) := [main_v19, main_v20, main_v21, main_v22, main_v23, main_v24, main_v25, main_v26, main_v27, main_v28, main_v29, main_v30, main_v31, main_v32, main_v33, main_v34, main_v35, main_v36, main_v37, main_v38, main_v39]
theorem o0_1_writes : Writes (F := F) o0_1 o0_1_W := forall_writes_sub_of_map rfl
theorem w1_s1_step : Keeps (w1_s1 V0) (w1_s0 V0) 43 := Keeps.of o0_1_writes (by decide)
theorem w1_s1_arg : Keeps (w1_s1 V0) V0 24 := (w1_s1_step V0).trans (w1_s0_arg V0) (by decide) (by decide)
def w1 : Vl F := after o0_2 (w1_s1 V0)
abbrev o0_2_W : List (Ref sig .tc) := [main_v40, main_v41, main_v42, main_v43, main_v44, main_v45, main_v46, main_v47, main_v48, main_v49, main_v50, main_v51, main_v52, main_v53, main_v54, main_v55, main_v56, main_v57, main_v58, main_v59]
theorem o0_2_writes : Writes (F := F) o0_2 o0_2_W := forall_writes_sub_of_map rfl
theorem w1_step : Keeps (w1 V0) (w1_s1 V0) 64 := Keeps.of o0_2_writes (by decide)
theorem w1_arg : Keeps (w1 V0) V0 24 := (w1_step V0).trans (w1_s1_arg V0) (by decide) (by decide)
def w2_s0 : Vl F := after o1_0 (w1 V0)
abbrev o1_0_W : List (Ref sig .tc) := [main_v60]
theorem o1_0_writes : Writes (F := F) o1_0 o1_0_W := forall_writes_sub_of_map rfl
theorem w2_s0_step : Keeps (w2_s0 V0) (w1 V0) 84 := Keeps.of o1_0_writes (by decide)
theorem w2_s0_arg : Keeps (w2_s0 V0) V0 24 := (w2_s0_step V0).trans (w1_arg V0) (by decide) (by decide)
def w2_s1 : Vl F := after o1_1 (w2_s0 V0)
abbrev o1_1_W : List (Ref sig .tc) := [main_v61, main_v62, main_v63, main_v64, main_v65, main_v66, main_v67, main_v68, main_v69, main_v70, main_v71, main_v72, main_v73, main_v74, main_v75, main_v76, main_v77, main_v78, main_v79]
theorem o1_1_writes : Writes (F := F) o1_1 o1_1_W := forall_writes_sub_of_map rfl
theorem w2_s1_step : Keeps (w2_s1 V0) (w2_s0 V0) 85 := Keeps.of o1_1_writes (by decide)
theorem w2_s1_arg : Keeps (w2_s1 V0) V0 24 := (w2_s1_step V0).trans (w2_s0_arg V0) (by decide) (by decide)
def w2_s2 : Vl F := after o1_2 (w2_s1 V0)
abbrev o1_2_W : List (Ref sig .tc) := [main_v80, main_v81, main_v82, main_v83, main_v84, main_v85, main_v86, main_v87, main_v88, main_v89, main_v90, main_v91, main_v92, main_v93, main_v94, main_v95, main_v96, main_v97, main_v98]
theorem o1_2_writes : Writes (F := F) o1_2 o1_2_W := forall_writes_sub_of_map rfl
theorem w2_s2_step : Keeps (w2_s2 V0) (w2_s1 V0) 104 := Keeps.of o1_2_writes (by decide)
theorem w2_s2_arg : Keeps (w2_s2 V0) V0 24 := (w2_s2_step V0).trans (w2_s1_arg V0) (by decide) (by decide)
def w2 : Vl F := after o1_3 (w2_s2 V0)
abbrev o1_3_W : List (Ref sig .tc) := [main_v99, main_v100, main_v101, main_v102, main_v103, main_v104, main_v105, main_v106, main_v107, main_v108, main_v109, main_v110, main_v111, main_v112, main_v113, main_v114, main_v115, main_v116, main_v117, main_v118, main_v119]
theorem o1_3_writes : Writes (F := F) o1_3 o1_3_W := forall_writes_sub_of_map rfl
theorem w2_step : Keeps (w2 V0) (w2_s2 V0) 123 := Keeps.of o1_3_writes (by decide)
theorem w2_arg : Keeps (w2 V0) V0 24 := (w2_step V0).trans (w2_s2_arg V0) (by decide) (by decide)
def w3_s0 : Vl F := after o2_0 (w2 V0)
abbrev o2_0_W : List (Ref sig .tc) := [main_v120, main_v121, main_v122, main_v123, main_v124, main_v125, main_v126, main_v127, main_v128, main_v129, main_v130, main_v131, main_v132, main_v133, main_v134, main_v135, main_v136, main_v137, main_v138, main_v139, main_v140]
theorem o2_0_writes : Writes (F := F) o2_0 o2_0_W := forall_writes_sub_of_map rfl
theorem w3_s0_step : Keeps (w3_s0 V0) (w2 V0) 144 := Keeps.of o2_0_writes (by decide)
theorem w3_s0_arg : Keeps (w3_s0 V0) V0 24 := (w3_s0_step V0).trans (w2_arg V0) (by decide) (by decide)
def w3_s1 : Vl F := after o2_1 (w3_s0 V0)
abbrev o2_1_W : List (Ref sig .tc) := [main_v141, main_v142, main_v143, main_v144, main_v145, main_v146, main_v147, main_v148, main_v149, main_v150, main_v151, main_v152, main_v153, main_v154, main_v155, main_v156, main_v157, main_v158, main_v159, main_v160, main_v161]
theorem o2_1_writes : Writes (F := F) o2_1 o2_1_W := forall_writes_sub_of_map rfl
theorem w3_s1_step : Keeps (w3_s1 V0) (w3_s0 V0) 165 := Keeps.of o2_1_writes (by decide)
theorem w3_s1_arg : Keeps (w3_s1 V0) V0 24 := (w3_s1_step V0).trans (w3_s0_arg V0) (by decide) (by decide)
def w3 : Vl F := after o2_2 (w3_s1 V0)
abbrev o2_2_W : List (Ref sig .tc) := [main_v162, main_v163, main_v164, main_v165, main_v166, main_v167, main_v168, main_v169, main_v170, main_v171, main_v172, main_v173, main_v174, main_v175, main_v176, main_v177, main_v178, main_v179]
theorem o2_2_writes : Writes (F := F) o2_2 o2_2_W := forall_writes_sub_of_map rfl
theorem w3_step : Keeps (w3 V0) (w3_s1 V0) 186 := Keeps.of o2_2_writes (by decide)
theorem w3_arg : Keeps (w3 V0) V0 24 := (w3_step V0).trans (w3_s1_arg V0) (by decide) (by decide)
def w4_s0 : Vl F := after o3_0 (w3 V0)
abbrev o3_0_W : List (Ref sig .tc) := [main_v180, main_v181, main_v182]
theorem o3_0_writes : Writes (F := F) o3_0 o3_0_W := forall_writes_sub_of_map rfl
theorem w4_s0_step : Keeps (w4_s0 V0) (w3 V0) 204 := Keeps.of o3_0_writes (by decide)
theorem w4_s0_arg : Keeps (w4_s0 V0) V0 24 := (w4_s0_step V0).trans (w3_arg V0) (by decide) (by decide)
def w4_s1 : Vl F := after o3_1 (w4_s0 V0)
abbrev o3_1_W : List (Ref sig .tc) := [main_v183, main_v184, main_v185, main_v186, main_v187, main_v188, main_v189, main_v190, main_v191, main_v192, main_v193, main_v194, main_v195, main_v196, main_v197, main_v198, main_v199, main_v200, main_v201, main_v202, main_v203]
theorem o3_1_writes : Writes (F := F) o3_1 o3_1_W := forall_writes_sub_of_map rfl
theorem w4_s1_step : Keeps (w4_s1 V0) (w4_s0 V0) 207 := Keeps.of o3_1_writes (by decide)
theorem w4_s1_arg : Keeps (w4_s1 V0) V0 24 := (w4_s1_step V0).trans (w4_s0_arg V0) (by decide) (by decide)
def w4_s2 : Vl F := after o3_2 (w4_s1 V0)
abbrev o3_2_W : List (Ref sig .tc) := [main_v204, main_v205, main_v206, main_v207, main_v208, main_v209, main_v210, main_v211, main_v212, main_v213, main_v214, main_v215, main_v216, main_v217, main_v218, main_v219, main_v220, main_v221, main_v222, main_v223, main_v224]
theorem o3_2_writes : Writes (F := F) o3_2 o3_2_W := forall_writes_sub_of_map rfl
theorem w4_s2_step : Keeps (w4_s2 V0) (w4_s1 V0) 228 := Keeps.of o3_2_writes (by decide)
theorem w4_s2_arg : Keeps (w4_s2 V0) V0 24 := (w4_s2_step V0).trans (w4_s1_arg V0) (by decide) (by decide)
def w4 : Vl F := after o3_3 (w4_s2 V0)
abbrev o3_3_W : List (Ref sig .tc) := [main_v225, main_v226, main_v227, main_v228, main_v229, main_v230, main_v231, main_v232, main_v233, main_v234, main_v235, main_v236, main_v237, main_v238, main_v239]
theorem o3_3_writes : Writes (F := F) o3_3 o3_3_W := forall_writes_sub_of_map rfl
theorem w4_step : Keeps (w4 V0) (w4_s2 V0) 249 := Keeps.of o3_3_writes (by decide)
theorem w4_arg : Keeps (w4 V0) V0 24 := (w4_step V0).trans (w4_s2_arg V0) (by decide) (by decide)
def w5_s0 : Vl F := after o4_0 (w4 V0)
abbrev o4_0_W : List (Ref sig .tc) := [main_v240, main_v241, main_v242, main_v243]
theorem o4_0_writes : Writes (F := F) o4_0 o4_0_W := forall_writes_sub_of_map rfl
theorem w5_s0_step : Keeps (w5_s0 V0) (w4 V0) 264 := Keeps.of o4_0_writes (by decide)
theorem w5_s0_arg : Keeps (w5_s0 V0) V0 24 := (w5_s0_step V0).trans (w4_arg V0) (by decide) (by decide)
def w5_s1 : Vl F := after o4_1 (w5_s0 V0)
abbrev o4_1_W : List (Ref sig .tc) := [main_v244, main_v245, main_v246, main_v247, main_v248, main_v249, main_v250, main_v251, main_v252, main_v253, main_v254, main_v255, main_v256, main_v257, main_v258, main_v259, main_v260, main_v261, main_v262]
theorem o4_1_writes : Writes (F := F) o4_1 o4_1_W := forall_writes_sub_of_map rfl
theorem w5_s1_step : Keeps (w5_s1 V0) (w5_s0 V0) 268 := Keeps.of o4_1_writes (by decide)
theorem w5_s1_arg : Keeps (w5_s1 V0) V0 24 := (w5_s1_step V0).trans (w5_s0_arg V0) (by decide) (by decide)
def w5_s2 : Vl F := after o4_2 (w5_s1 V0)
abbrev o4_2_W : List (Ref sig .tc) := [main_v263, main_v264, main_v265, main_v266, main_v267, main_v268, main_v269, main_v270, main_v271, main_v272, main_v273, main_v274, main_v275, main_v276, main_v277, main_v278, main_v279, main_v280, main_v281, main_v282, main_v283]
theorem o4_2_writes : Writes (F := F) o4_2 o4_2_W := forall_writes_sub_of_map rfl
theorem w5_s2_step : Keeps (w5_s2 V0) (w5_s1 V0) 287 := Keeps.of o4_2_writes (by decide)
theorem w5_s2_arg : Keeps (w5_s2 V0) V0 24 := (w5_s2_step V0).trans (w5_s1_arg V0) (by decide) (by decide)
def w5 : Vl F := after o4_3 (w5_s2 V0)
abbrev o4_3_W : List (Ref sig .tc) := [main_v284, main_v285, main_v286, main_v287, main_v288, main_v289, main_v290, main_v291, main_v292, main_v293, main_v294, main_v295, main_v296, main_v297, main_v298, main_v299]
theorem o4_3_writes : Writes (F := F) o4_3 o4_3_W := forall_writes_sub_of_map rfl
theorem w5_step : Keeps (w5 V0) (w5_s2 V0) 308 := Keeps.of o4_3_writes (by decide)
theorem w5_arg : Keeps (w5 V0) V0 24 := (w5_step V0).trans (w5_s2_arg V0) (by decide) (by decide)
def w5_1 : Vl F := after o5_0 (w5 V0)
abbrev o5_0_W : List (Ref sig .tc) := [main_v300, main_v301, main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327, main_v328, main_v329]
theorem o5_0_writes : Writes (F := F) o5_0 o5_0_W := forall_writes_sub_of_map rfl
theorem w5_1_step : Keeps (w5_1 V0) (w5 V0) 324 := Keeps.of o5_0_writes (by decide)
theorem w5_1_arg : Keeps (w5_1 V0) V0 24 := (w5_1_step V0).trans (w5_arg V0) (by decide) (by decide)
def w5_2 : Vl F := after o5_1 (w5_1 V0)
abbrev o5_1_W : List (Ref sig .tc) := [main_v330, main_v331, main_v332, main_v333, main_v334, main_v335, main_v336, main_v337, main_v338, main_v339, main_v340, main_v341, main_v342, main_v343, main_v344, main_c, main_call0_v0, main_v345, main_v346, main_v347, main_cst, main_v348, main_v349, main_v350, main_v351, main_v352, main_v353, main_v354, main_v355, main_v356]
theorem o5_1_writes : Writes (F := F) o5_1 o5_1_W := forall_writes_sub_of_map rfl
theorem w5_2_step : Keeps (w5_2 V0) (w5_1 V0) 354 := Keeps.of o5_1_writes (by decide)
theorem w5_2_arg : Keeps (w5_2 V0) V0 24 := (w5_2_step V0).trans (w5_1_arg V0) (by decide) (by decide)
def w6 : Vl F := after o5_2 (w5_2 V0)
abbrev o5_2_W : List (Ref sig .tc) := [main_v357]
theorem o5_2_writes : Writes (F := F) o5_2 o5_2_W := forall_writes_sub_of_map rfl
theorem w6_step : Keeps (w6 V0) (w5_2 V0) 384 := Keeps.of o5_2_writes (by decide)
theorem w6_arg : Keeps (w6 V0) V0 24 := (w6_step V0).trans (w5_2_arg V0) (by decide) (by decide)
def w6_1 : Vl F := after o6_0 (w6 V0)
abbrev o6_0_W : List (Ref sig .tc) := [main_v358, main_v359, main_v360, main_v361, main_v362, main_v363, main_v364, main_v365, main_v366, main_v367, main_v368, main_v369, main_v370, main_v371, main_v372, main_v373, main_v374, main_v375, main_v376, main_v377, main_call1_cst, main_call1_v0, main_v378, main_v379, main_v380, main_c_0, main_call2_v0, main_v381, main_v382, main_v383]
theorem o6_0_writes : Writes (F := F) o6_0 o6_0_W := forall_writes_sub_of_map rfl
theorem w6_1_step : Keeps (w6_1 V0) (w6 V0) 385 := Keeps.of o6_0_writes (by decide)
theorem w6_1_arg : Keeps (w6_1 V0) V0 24 := (w6_1_step V0).trans (w6_arg V0) (by decide) (by decide)
theorem w6_1_low : Keeps (w6_1 V0) (w6 V0) 369 := fun r h => w6_1_step V0 r (h.trans_le (by decide))
def w6_2 : Vl F := after o6_1 (w6_1 V0)
abbrev o6_1_W : List (Ref sig .tc) := [main_cst_1, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_v412]
theorem o6_1_writes : Writes (F := F) o6_1 o6_1_W := forall_writes_sub_of_map rfl
theorem w6_2_step : Keeps (w6_2 V0) (w6_1 V0) 415 := Keeps.of o6_1_writes (by decide)
theorem w6_2_arg : Keeps (w6_2 V0) V0 24 := (w6_2_step V0).trans (w6_1_arg V0) (by decide) (by decide)
theorem w6_2_low : Keeps (w6_2 V0) (w6 V0) 369 := (w6_2_step V0).trans (w6_1_low V0) (by decide) (by decide)
def w7 : Vl F := after o6_2 (w6_2 V0)
abbrev o6_2_W : List (Ref sig .tc) := [main_v413, main_call3_cst, main_call3_v0, main_v414, main_v415]
theorem o6_2_writes : Writes (F := F) o6_2 o6_2_W := forall_writes_sub_of_map rfl
theorem w7_step : Keeps (w7 V0) (w6_2 V0) 445 := Keeps.of o6_2_writes (by decide)
theorem w7_arg : Keeps (w7 V0) V0 24 := (w7_step V0).trans (w6_2_arg V0) (by decide) (by decide)
theorem w7_low : Keeps (w7 V0) (w6 V0) 369 := (w7_step V0).trans (w6_2_low V0) (by decide) (by decide)
def w7_1 : Vl F := after o7_0 (w7 V0)
abbrev o7_0_W : List (Ref sig .tc) := [main_v416, main_c_2, main_call4_v0, main_v417, main_v418, main_v419, main_cst_3, main_v420, main_v421, main_v422, main_v423, main_v424, main_v425, main_v426, main_v427, main_v428, main_v429, main_v430, main_v431, main_v432, main_v433, main_v434, main_v435, main_v436, main_v437, main_v438, main_v439, main_v440, main_v441, main_v442]
theorem o7_0_writes : Writes (F := F) o7_0 o7_0_W := forall_writes_sub_of_map rfl
theorem w7_1_step : Keeps (w7_1 V0) (w7 V0) 450 := Keeps.of o7_0_writes (by decide)
theorem w7_1_arg : Keeps (w7_1 V0) V0 24 := (w7_1_step V0).trans (w7_arg V0) (by decide) (by decide)
theorem w7_1_low : Keeps (w7_1 V0) (w6 V0) 369 := (w7_1_step V0).trans (w7_low V0) (by decide) (by decide)
def w7_2 : Vl F := after o7_1 (w7_1 V0)
abbrev o7_1_W : List (Ref sig .tc) := [main_v443, main_v444, main_v445, main_v446, main_v447, main_v448, main_v449, main_call5_cst, main_call5_v0, main_v450, main_c_4, main_call6_v0, main_v451, main_v452, main_v453, main_cst_5, main_v454, main_v455, main_v456, main_v457, main_v458, main_v459, main_v460, main_v461, main_v462, main_v463, main_v464, main_v465, main_v466, main_v467]
theorem o7_1_writes : Writes (F := F) o7_1 o7_1_W := forall_writes_sub_of_map rfl
theorem w7_2_step : Keeps (w7_2 V0) (w7_1 V0) 480 := Keeps.of o7_1_writes (by decide)
theorem w7_2_arg : Keeps (w7_2 V0) V0 24 := (w7_2_step V0).trans (w7_1_arg V0) (by decide) (by decide)
theorem w7_2_low : Keeps (w7_2 V0) (w6 V0) 369 := (w7_2_step V0).trans (w7_1_low V0) (by decide) (by decide)
def w8 : Vl F := after o7_2 (w7_2 V0)
abbrev o7_2_W : List (Ref sig .tc) := [main_v468, main_v469, main_v470, main_v471]
theorem o7_2_writes : Writes (F := F) o7_2 o7_2_W := forall_writes_sub_of_map rfl
theorem w8_step : Keeps (w8 V0) (w7_2 V0) 510 := Keeps.of o7_2_writes (by decide)
theorem w8_arg : Keeps (w8 V0) V0 24 := (w8_step V0).trans (w7_2_arg V0) (by decide) (by decide)
theorem w8_low : Keeps (w8 V0) (w6 V0) 369 := (w8_step V0).trans (w7_2_low V0) (by decide) (by decide)
def w8_1 : Vl F := after o8_0 (w8 V0)
abbrev o8_0_W : List (Ref sig .tc) := [main_v472, main_v473, main_v474, main_v475, main_v476, main_v477, main_v478, main_v479, main_v480, main_v481, main_v482, main_v483, main_c_6, main_call7_v0, main_v484, main_v485, main_v486, main_cst_7, main_v487, main_v488, main_v489, main_v490, main_v491, main_v492, main_v493, main_v494, main_v495, main_v496, main_v497, main_v498]
theorem o8_0_writes : Writes (F := F) o8_0 o8_0_W := forall_writes_sub_of_map rfl
theorem w8_1_step : Keeps (w8_1 V0) (w8 V0) 514 := Keeps.of o8_0_writes (by decide)
theorem w8_1_arg : Keeps (w8_1 V0) V0 24 := (w8_1_step V0).trans (w8_arg V0) (by decide) (by decide)
theorem w8_1_low : Keeps (w8_1 V0) (w6 V0) 369 := (w8_1_step V0).trans (w8_low V0) (by decide) (by decide)
def w8_2 : Vl F := after o8_1 (w8_1 V0)
abbrev o8_1_W : List (Ref sig .tc) := [main_v499, main_v500, main_v501, main_v502, main_v503, main_v504, main_v505, main_v506, main_v507, main_v508, main_v509, main_v510, main_v511, main_v512, main_v513, main_v514, main_v515, main_v516, main_v517, main_v518, main_cst_8, main_v519, main_v520, main_v521, main_v522, main_cst_9, main_v523, main_cst_10, main_v524, main_v525]
theorem o8_1_writes : Writes (F := F) o8_1 o8_1_W := forall_writes_sub_of_map rfl
theorem w8_2_step : Keeps (w8_2 V0) (w8_1 V0) 544 := Keeps.of o8_1_writes (by decide)
theorem w8_2_arg : Keeps (w8_2 V0) V0 24 := (w8_2_step V0).trans (w8_1_arg V0) (by decide) (by decide)
theorem w8_2_low : Keeps (w8_2 V0) (w6 V0) 369 := (w8_2_step V0).trans (w8_1_low V0) (by decide) (by decide)
def w9 : Vl F := after o8_2 (w8_2 V0)
abbrev o8_2_W : List (Ref sig .tc) := [main_v526]
theorem o8_2_writes : Writes (F := F) o8_2 o8_2_W := forall_writes_sub_of_map rfl
theorem w9_step : Keeps (w9 V0) (w8_2 V0) 574 := Keeps.of o8_2_writes (by decide)
theorem w9_arg : Keeps (w9 V0) V0 24 := (w9_step V0).trans (w8_2_arg V0) (by decide) (by decide)
theorem w9_low : Keeps (w9 V0) (w6 V0) 369 := (w9_step V0).trans (w8_2_low V0) (by decide) (by decide)
def w9_1 : Vl F := after o9_0 (w9 V0)
abbrev o9_0_W : List (Ref sig .tc) := [main_v527, main_v528, main_v529, main_values, main_indices, main_cst_11, main_v530, main_cst_12, main_v531, main_v532, main_v533, main_v534, main_v535, main_v536, main_cst_13, main_v537, main_v538, main_v539, main_v540, main_cst_14, main_v541, main_v542, main_v543, main_c_15, main_v544, main_v545, main_c_16, main_v546, main_v547, main_v548]
theorem o9_0_writes : Writes (F := F) o9_0 o9_0_W := forall_writes_sub_of_map rfl
theorem w9_1_step : Keeps (w9_1 V0) (w9 V0) 575 := Keeps.of o9_0_writes (by decide)
theorem w9_1_arg : Keeps (w9_1 V0) V0 24 := (w9_1_step V0).trans (w9_arg V0) (by decide) (by decide)
theorem w9_1_low : Keeps (w9_1 V0) (w6 V0) 369 := (w9_1_step V0).trans (w9_low V0) (by decide) (by decide)
def w9_2 : Vl F := after o9_1 (w9_1 V0)
abbrev o9_1_W : List (Ref sig .tc) := [main_c_17, main_v549, main_v550, main_c_18, main_v551, main_v552, main_v553, main_v554, main_v555, main_v556, main_v557, main_v558, main_v559, main_v560, main_c_19, main_call8_v0, main_v561, main_v562, main_v563, main_cst_20, main_v564, main_v565, main_v566, main_v567, main_v568, main_v569, main_v570, main_v571, main_v572, main_v573]
theorem o9_1_writes : Writes (F := F) o9_1 o9_1_W := forall_writes_sub_of_map rfl
theorem w9_2_step : Keeps (w9_2 V0) (w9_1 V0) 605 := Keeps.of o9_1_writes (by decide)
theorem w9_2_arg : Keeps (w9_2 V0) V0 24 := (w9_2_step V0).trans (w9_1_arg V0) (by decide) (by decide)
theorem w9_2_low : Keeps (w9_2 V0) (w6 V0) 369 := (w9_2_step V0).trans (w9_1_low V0) (by decide) (by decide)
def w10 : Vl F := after o9_2 (w9_2 V0)
abbrev o9_2_W : List (Ref sig .tc) := [main_v574]
theorem o9_2_writes : Writes (F := F) o9_2 o9_2_W := forall_writes_sub_of_map rfl
theorem w10_step : Keeps (w10 V0) (w9_2 V0) 635 := Keeps.of o9_2_writes (by decide)
theorem w10_arg : Keeps (w10 V0) V0 24 := (w10_step V0).trans (w9_2_arg V0) (by decide) (by decide)
theorem w10_low : Keeps (w10 V0) (w6 V0) 369 := (w10_step V0).trans (w9_2_low V0) (by decide) (by decide)
def w10_1 : Vl F := after o10_0 (w10 V0)
abbrev o10_0_W : List (Ref sig .tc) := [main_v575, main_v576, main_v577, main_v578, main_v579, main_v580, main_v581, main_v582, main_v583, main_v584, main_v585, main_v586, main_v587, main_v588, main_v589, main_v590, main_v591, main_v592, main_v593, main_call9_cst, main_call9_v0, main_v594, main_v595, main_v596, main_c_21, main_call10_v0, main_v597, main_v598, main_v599, main_cst_22]
theorem o10_0_writes : Writes (F := F) o10_0 o10_0_W := forall_writes_sub_of_map rfl
theorem w10_1_step : Keeps (w10_1 V0) (w10 V0) 636 := Keeps.of o10_0_writes (by decide)
theorem w10_1_arg : Keeps (w10_1 V0) V0 24 := (w10_1_step V0).trans (w10_arg V0) (by decide) (by decide)
theorem w10_1_low : Keeps (w10_1 V0) (w6 V0) 369 := (w10_1_step V0).trans (w10_low V0) (by decide) (by decide)
def w10_2 : Vl F := after o10_1 (w10_1 V0)
abbrev o10_1_W : List (Ref sig .tc) := [main_v600, main_v601, main_v602, main_v603, main_v604, main_v605, main_v606, main_v607, main_v608, main_v609, main_v610, main_v611, main_v612, main_v613, main_v614, main_v615, main_v616, main_v617, main_v618, main_v619, main_v620, main_v621, main_v622, main_v623, main_v624, main_v625, main_v626, main_v627, main_v628, main_v629]
theorem o10_1_writes : Writes (F := F) o10_1 o10_1_W := forall_writes_sub_of_map rfl
theorem w10_2_step : Keeps (w10_2 V0) (w10_1 V0) 666 := Keeps.of o10_1_writes (by decide)
theorem w10_2_arg : Keeps (w10_2 V0) V0 24 := (w10_2_step V0).trans (w10_1_arg V0) (by decide) (by decide)
theorem w10_2_low : Keeps (w10_2 V0) (w6 V0) 369 := (w10_2_step V0).trans (w10_1_low V0) (by decide) (by decide)
def w11 : Vl F := after o10_2 (w10_2 V0)
abbrev o10_2_W : List (Ref sig .tc) := [main_v630, main_v631, main_c_23]
theorem o10_2_writes : Writes (F := F) o10_2 o10_2_W := forall_writes_sub_of_map rfl
theorem w11_step : Keeps (w11 V0) (w10_2 V0) 696 := Keeps.of o10_2_writes (by decide)
theorem w11_arg : Keeps (w11 V0) V0 24 := (w11_step V0).trans (w10_2_arg V0) (by decide) (by decide)
theorem w11_low : Keeps (w11 V0) (w6 V0) 369 := (w11_step V0).trans (w10_2_low V0) (by decide) (by decide)
def w11_1 : Vl F := after o11_0 (w11 V0)
abbrev o11_0_W : List (Ref sig .tc) := [main_call11_v0, main_v632, main_v633, main_v634, main_cst_24, main_v635, main_v636, main_v637, main_v638, main_v639, main_v640, main_v641, main_v642, main_v643, main_v644, main_v645, main_v646, main_v647, main_v648, main_v649, main_v650, main_v651, main_v652, main_v653, main_v654, main_v655, main_v656, main_v657, main_v658, main_v659]
theorem o11_0_writes : Writes (F := F) o11_0 o11_0_W := forall_writes_sub_of_map rfl
theorem w11_1_step : Keeps (w11_1 V0) (w11 V0) 699 := Keeps.of o11_0_writes (by decide)
theorem w11_1_arg : Keeps (w11_1 V0) V0 24 := (w11_1_step V0).trans (w11_arg V0) (by decide) (by decide)
theorem w11_1_low : Keeps (w11_1 V0) (w6 V0) 369 := (w11_1_step V0).trans (w11_low V0) (by decide) (by decide)
def w11_2 : Vl F := after o11_1 (w11_1 V0)
abbrev o11_1_W : List (Ref sig .tc) := [main_v660, main_v661, main_v662, main_v663, main_v664, main_call12_cst, main_call12_v0, main_v665, main_v666, main_v667, main_c_25, main_call13_v0, main_v668, main_v669, main_v670, main_cst_26, main_v671, main_v672, main_v673, main_v674, main_v675, main_v676, main_v677, main_v678, main_v679, main_v680, main_v681, main_v682, main_v683, main_v684]
theorem o11_1_writes : Writes (F := F) o11_1 o11_1_W := forall_writes_sub_of_map rfl
theorem w11_2_step : Keeps (w11_2 V0) (w11_1 V0) 729 := Keeps.of o11_1_writes (by decide)
theorem w11_2_arg : Keeps (w11_2 V0) V0 24 := (w11_2_step V0).trans (w11_1_arg V0) (by decide) (by decide)
theorem w11_2_low : Keeps (w11_2 V0) (w6 V0) 369 := (w11_2_step V0).trans (w11_1_low V0) (by decide) (by decide)
def w12 : Vl F := after o11_2 (w11_2 V0)
abbrev o11_2_W : List (Ref sig .tc) := [main_v685, main_v686, main_v687, main_v688]
theorem o11_2_writes : Writes (F := F) o11_2 o11_2_W := forall_writes_sub_of_map rfl
theorem w12_step : Keeps (w12 V0) (w11_2 V0) 759 := Keeps.of o11_2_writes (by decide)
theorem w12_arg : Keeps (w12 V0) V0 24 := (w12_step V0).trans (w11_2_arg V0) (by decide) (by decide)
theorem w12_low : Keeps (w12 V0) (w6 V0) 369 := (w12_step V0).trans (w11_2_low V0) (by decide) (by decide)
def w12_1 : Vl F := after o12_0 (w12 V0)
abbrev o12_0_W : List (Ref sig .tc) := [main_v689, main_v690, main_v691, main_v692, main_v693, main_v694, main_v695, main_v696, main_v697, main_v698, main_v699, main_v700, main_v701, main_v702, main_c_27, main_call14_v0, main_v703, main_v704, main_v705, main_cst_28, main_v706, main_v707, main_v708, main_v709, main_v710, main_v711, main_v712, main_v713, main_v714, main_v715]
theorem o12_0_writes : Writes (F := F) o12_0 o12_0_W := forall_writes_sub_of_map rfl
theorem w12_1_step : Keeps (w12_1 V0) (w12 V0) 763 := Keeps.of o12_0_writes (by decide)
theorem w12_1_arg : Keeps (w12_1 V0) V0 24 := (w12_1_step V0).trans (w12_arg V0) (by decide) (by decide)
theorem w12_1_low : Keeps (w12_1 V0) (w6 V0) 369 := (w12_1_step V0).trans (w12_low V0) (by decide) (by decide)
def w12_2 : Vl F := after o12_1 (w12_1 V0)
abbrev o12_1_W : List (Ref sig .tc) := [main_v716, main_v717, main_v718, main_v719, main_v720, main_v721, main_v722, main_v723, main_v724, main_v725, main_v726, main_v727, main_v728, main_v729, main_v730, main_v731, main_v732, main_v733, main_v734, main_v735, main_call15_cst, main_call15_v0, main_v736, main_v737, main_v738, main_c_29, main_call16_v0, main_v739, main_v740, main_v741]
theorem o12_1_writes : Writes (F := F) o12_1 o12_1_W := forall_writes_sub_of_map rfl
theorem w12_2_step : Keeps (w12_2 V0) (w12_1 V0) 793 := Keeps.of o12_1_writes (by decide)
theorem w12_2_arg : Keeps (w12_2 V0) V0 24 := (w12_2_step V0).trans (w12_1_arg V0) (by decide) (by decide)
theorem w12_2_low : Keeps (w12_2 V0) (w6 V0) 369 := (w12_2_step V0).trans (w12_1_low V0) (by decide) (by decide)
def w13 : Vl F := after o12_2 (w12_2 V0)
abbrev o12_2_W : List (Ref sig .tc) := [main_cst_30, main_v742, main_v743, main_v744]
theorem o12_2_writes : Writes (F := F) o12_2 o12_2_W := forall_writes_sub_of_map rfl
theorem w13_step : Keeps (w13 V0) (w12_2 V0) 823 := Keeps.of o12_2_writes (by decide)
theorem w13_arg : Keeps (w13 V0) V0 24 := (w13_step V0).trans (w12_2_arg V0) (by decide) (by decide)
theorem w13_low : Keeps (w13 V0) (w6 V0) 369 := (w13_step V0).trans (w12_2_low V0) (by decide) (by decide)
def w13_1 : Vl F := after o13_0 (w13 V0)
abbrev o13_0_W : List (Ref sig .tc) := [main_v745, main_v746, main_v747, main_v748, main_v749, main_v750, main_v751, main_v752, main_v753, main_v754, main_v755, main_v756, main_v757, main_v758, main_v759, main_v760, main_v761, main_v762, main_v763, main_v764, main_v765, main_v766, main_v767, main_v768, main_v769, main_v770, main_v771, main_v772, main_v773, main_v774]
theorem o13_0_writes : Writes (F := F) o13_0 o13_0_W := forall_writes_sub_of_map rfl
theorem w13_1_step : Keeps (w13_1 V0) (w13 V0) 827 := Keeps.of o13_0_writes (by decide)
theorem w13_1_arg : Keeps (w13_1 V0) V0 24 := (w13_1_step V0).trans (w13_arg V0) (by decide) (by decide)
theorem w13_1_low : Keeps (w13_1 V0) (w6 V0) 369 := (w13_1_step V0).trans (w13_low V0) (by decide) (by decide)
def w13_2 : Vl F := after o13_1 (w13_1 V0)
abbrev o13_1_W : List (Ref sig .tc) := [main_v775, main_v776, main_c_31, main_call17_v0, main_v777, main_v778, main_v779, main_cst_32, main_v780, main_v781, main_v782, main_v783, main_v784, main_v785, main_v786, main_v787, main_v788, main_v789, main_v790, main_v791, main_v792, main_v793, main_v794, main_v795, main_v796, main_v797, main_v798, main_v799, main_v800, main_v801]
theorem o13_1_writes : Writes (F := F) o13_1 o13_1_W := forall_writes_sub_of_map rfl
theorem w13_2_step : Keeps (w13_2 V0) (w13_1 V0) 857 := Keeps.of o13_1_writes (by decide)
theorem w13_2_arg : Keeps (w13_2 V0) V0 24 := (w13_2_step V0).trans (w13_1_arg V0) (by decide) (by decide)
theorem w13_2_low : Keeps (w13_2 V0) (w6 V0) 369 := (w13_2_step V0).trans (w13_1_low V0) (by decide) (by decide)
def w14 : Vl F := after o13_2 (w13_2 V0)
abbrev o13_2_W : List (Ref sig .tc) := [main_v802]
theorem o13_2_writes : Writes (F := F) o13_2 o13_2_W := forall_writes_sub_of_map rfl
theorem w14_step : Keeps (w14 V0) (w13_2 V0) 887 := Keeps.of o13_2_writes (by decide)
theorem w14_arg : Keeps (w14 V0) V0 24 := (w14_step V0).trans (w13_2_arg V0) (by decide) (by decide)
theorem w14_low : Keeps (w14 V0) (w6 V0) 369 := (w14_step V0).trans (w13_2_low V0) (by decide) (by decide)
def w14_1 : Vl F := after o14_0 (w14 V0)
abbrev o14_0_W : List (Ref sig .tc) := [main_v803, main_v804, main_v805, main_v806, main_v807, main_v808, main_v809, main_v810, main_c_33, main_call18_v0, main_v811, main_v812, main_v813, main_cst_34, main_v814, main_v815, main_v816, main_v817, main_v818, main_v819, main_v820, main_v821, main_v822, main_v823, main_v824, main_v825, main_v826, main_v827, main_v828, main_v829]
theorem o14_0_writes : Writes (F := F) o14_0 o14_0_W := forall_writes_sub_of_map rfl
theorem w14_1_step : Keeps (w14_1 V0) (w14 V0) 888 := Keeps.of o14_0_writes (by decide)
theorem w14_1_arg : Keeps (w14_1 V0) V0 24 := (w14_1_step V0).trans (w14_arg V0) (by decide) (by decide)
theorem w14_1_low : Keeps (w14_1 V0) (w6 V0) 369 := (w14_1_step V0).trans (w14_low V0) (by decide) (by decide)
def w14_2 : Vl F := after o14_1 (w14_1 V0)
abbrev o14_1_W : List (Ref sig .tc) := [main_v830, main_v831, main_v832, main_v833, main_v834, main_v835, main_v836, main_v837, main_v838, main_v839, main_v840, main_v841, main_v842, main_v843, main_call19_cst, main_call19_v0, main_v844, main_v845, main_v846, main_c_35, main_call20_v0, main_v847, main_v848, main_v849, main_cst_36, main_v850, main_v851, main_v852, main_v853, main_v854]
theorem o14_1_writes : Writes (F := F) o14_1 o14_1_W := forall_writes_sub_of_map rfl
theorem w14_2_step : Keeps (w14_2 V0) (w14_1 V0) 918 := Keeps.of o14_1_writes (by decide)
theorem w14_2_arg : Keeps (w14_2 V0) V0 24 := (w14_2_step V0).trans (w14_1_arg V0) (by decide) (by decide)
theorem w14_2_low : Keeps (w14_2 V0) (w6 V0) 369 := (w14_2_step V0).trans (w14_1_low V0) (by decide) (by decide)
def w15 : Vl F := after o14_2 (w14_2 V0)
abbrev o14_2_W : List (Ref sig .tc) := [main_v855, main_v856, main_v857, main_v858]
theorem o14_2_writes : Writes (F := F) o14_2 o14_2_W := forall_writes_sub_of_map rfl
theorem w15_step : Keeps (w15 V0) (w14_2 V0) 948 := Keeps.of o14_2_writes (by decide)
theorem w15_arg : Keeps (w15 V0) V0 24 := (w15_step V0).trans (w14_2_arg V0) (by decide) (by decide)
theorem w15_low : Keeps (w15 V0) (w6 V0) 369 := (w15_step V0).trans (w14_2_low V0) (by decide) (by decide)
def w15_1 : Vl F := after o15_0 (w15 V0)
abbrev o15_0_W : List (Ref sig .tc) := [main_v859, main_v860, main_v861, main_v862, main_v863, main_v864, main_v865, main_v866, main_v867, main_v868, main_v869, main_v870, main_v871, main_v872, main_v873, main_v874, main_v875, main_v876, main_v877, main_v878, main_v879, main_call21_cst, main_call21_v0, main_v880, main_v881, main_v882, main_c_37, main_call22_v0, main_v883, main_v884]
theorem o15_0_writes : Writes (F := F) o15_0 o15_0_W := forall_writes_sub_of_map rfl
theorem w15_1_step : Keeps (w15_1 V0) (w15 V0) 952 := Keeps.of o15_0_writes (by decide)
theorem w15_1_arg : Keeps (w15_1 V0) V0 24 := (w15_1_step V0).trans (w15_arg V0) (by decide) (by decide)
theorem w15_1_low : Keeps (w15_1 V0) (w6 V0) 369 := (w15_1_step V0).trans (w15_low V0) (by decide) (by decide)
def w15_2 : Vl F := after o15_1 (w15_1 V0)
abbrev o15_1_W : List (Ref sig .tc) := [main_v885, main_cst_38, main_v886, main_v887, main_v888, main_v889, main_v890, main_v891, main_v892, main_v893, main_v894, main_v895, main_v896, main_v897, main_v898, main_v899, main_v900, main_v901, main_v902, main_v903, main_v904, main_v905, main_v906, main_v907, main_v908, main_v909, main_v910, main_v911, main_v912, main_v913]
theorem o15_1_writes : Writes (F := F) o15_1 o15_1_W := forall_writes_sub_of_map rfl
theorem w15_2_step : Keeps (w15_2 V0) (w15_1 V0) 982 := Keeps.of o15_1_writes (by decide)
theorem w15_2_arg : Keeps (w15_2 V0) V0 24 := (w15_2_step V0).trans (w15_1_arg V0) (by decide) (by decide)
theorem w15_2_low : Keeps (w15_2 V0) (w6 V0) 369 := (w15_2_step V0).trans (w15_1_low V0) (by decide) (by decide)
def w16 : Vl F := after o15_2 (w15_2 V0)
abbrev o15_2_W : List (Ref sig .tc) := [main_v914, main_v915, main_call23_cst, main_call23_v0, main_v916]
theorem o15_2_writes : Writes (F := F) o15_2 o15_2_W := forall_writes_sub_of_map rfl
theorem w16_step : Keeps (w16 V0) (w15_2 V0) 1012 := Keeps.of o15_2_writes (by decide)
theorem w16_arg : Keeps (w16 V0) V0 24 := (w16_step V0).trans (w15_2_arg V0) (by decide) (by decide)
theorem w16_low : Keeps (w16 V0) (w6 V0) 369 := (w16_step V0).trans (w15_2_low V0) (by decide) (by decide)
def w16_1 : Vl F := after o16_0 (w16 V0)
abbrev o16_0_W : List (Ref sig .tc) := [main_v917, main_v918, main_c_39, main_call24_v0, main_v919, main_v920, main_v921, main_cst_40, main_v922, main_v923, main_v924, main_v925, main_v926, main_v927, main_v928, main_v929, main_v930, main_v931, main_v932, main_v933, main_v934, main_v935, main_v936, main_v937, main_v938, main_v939, main_v940, main_v941, main_v942, main_v943]
theorem o16_0_writes : Writes (F := F) o16_0 o16_0_W := forall_writes_sub_of_map rfl
theorem w16_1_step : Keeps (w16_1 V0) (w16 V0) 1017 := Keeps.of o16_0_writes (by decide)
theorem w16_1_arg : Keeps (w16_1 V0) V0 24 := (w16_1_step V0).trans (w16_arg V0) (by decide) (by decide)
theorem w16_1_low : Keeps (w16_1 V0) (w6 V0) 369 := (w16_1_step V0).trans (w16_low V0) (by decide) (by decide)
def w16_2 : Vl F := after o16_1 (w16_1 V0)
abbrev o16_1_W : List (Ref sig .tc) := [main_v944, main_v945, main_v946, main_v947, main_v948, main_v949, main_v950, main_v951, main_call25_cst, main_call25_v0, main_v952, main_c_41, main_call26_v0, main_v953, main_v954, main_v955, main_cst_42, main_v956, main_v957, main_v958, main_v959, main_v960, main_v961, main_v962, main_v963, main_v964, main_v965, main_v966, main_v967, main_v968]
theorem o16_1_writes : Writes (F := F) o16_1 o16_1_W := forall_writes_sub_of_map rfl
theorem w16_2_step : Keeps (w16_2 V0) (w16_1 V0) 1047 := Keeps.of o16_1_writes (by decide)
theorem w16_2_arg : Keeps (w16_2 V0) V0 24 := (w16_2_step V0).trans (w16_1_arg V0) (by decide) (by decide)
theorem w16_2_low : Keeps (w16_2 V0) (w6 V0) 369 := (w16_2_step V0).trans (w16_1_low V0) (by decide) (by decide)
def w17 : Vl F := after o16_2 (w16_2 V0)
abbrev o16_2_W : List (Ref sig .tc) := [main_v969, main_v970, main_v971, main_v972]
theorem o16_2_writes : Writes (F := F) o16_2 o16_2_W := forall_writes_sub_of_map rfl
theorem w17_step : Keeps (w17 V0) (w16_2 V0) 1077 := Keeps.of o16_2_writes (by decide)
theorem w17_arg : Keeps (w17 V0) V0 24 := (w17_step V0).trans (w16_2_arg V0) (by decide) (by decide)
theorem w17_low : Keeps (w17 V0) (w6 V0) 369 := (w17_step V0).trans (w16_2_low V0) (by decide) (by decide)
def w18 : Vl F := after o17 (w17 V0)
abbrev o17_W : List (Ref sig .tc) := [main_v973, main_v974, main_v975, main_v976, main_v977, main_v978, main_v979, main_v980, main_v981, main_v982, main_v983, main_v984, main_v985]
theorem o17_writes : Writes (F := F) o17 o17_W := forall_writes_sub_of_map rfl
theorem w18_step : Keeps (w18 V0) (w17 V0) 1081 := Keeps.of o17_writes (by decide)
theorem w18_arg : Keeps (w18 V0) V0 24 := (w18_step V0).trans (w17_arg V0) (by decide) (by decide)
theorem w18_low : Keeps (w18 V0) (w6 V0) 369 := (w18_step V0).trans (w17_low V0) (by decide) (by decide)
theorem w5_2_back : Keeps (w6 V0) (w5_2 V0) 384 := w6_step V0
theorem w5_1_back : Keeps (w6 V0) (w5_1 V0) 354 := (w5_2_back V0).trans (w5_2_step V0) (by decide) (by decide)
theorem w5_back : Keeps (w6 V0) (w5 V0) 324 := (w5_1_back V0).trans (w5_1_step V0) (by decide) (by decide)
theorem w5_s2_back : Keeps (w6 V0) (w5_s2 V0) 308 := (w5_back V0).trans (w5_step V0) (by decide) (by decide)
theorem w5_s1_back : Keeps (w6 V0) (w5_s1 V0) 287 := (w5_s2_back V0).trans (w5_s2_step V0) (by decide) (by decide)
theorem w5_s0_back : Keeps (w6 V0) (w5_s0 V0) 268 := (w5_s1_back V0).trans (w5_s1_step V0) (by decide) (by decide)
theorem w4_back : Keeps (w6 V0) (w4 V0) 264 := (w5_s0_back V0).trans (w5_s0_step V0) (by decide) (by decide)
theorem w4_s2_back : Keeps (w6 V0) (w4_s2 V0) 249 := (w4_back V0).trans (w4_step V0) (by decide) (by decide)
theorem w4_s1_back : Keeps (w6 V0) (w4_s1 V0) 228 := (w4_s2_back V0).trans (w4_s2_step V0) (by decide) (by decide)
theorem w4_s0_back : Keeps (w6 V0) (w4_s0 V0) 207 := (w4_s1_back V0).trans (w4_s1_step V0) (by decide) (by decide)
theorem w3_back : Keeps (w6 V0) (w3 V0) 204 := (w4_s0_back V0).trans (w4_s0_step V0) (by decide) (by decide)
theorem w3_s1_back : Keeps (w6 V0) (w3_s1 V0) 186 := (w3_back V0).trans (w3_step V0) (by decide) (by decide)
theorem w3_s0_back : Keeps (w6 V0) (w3_s0 V0) 165 := (w3_s1_back V0).trans (w3_s1_step V0) (by decide) (by decide)
theorem w2_back : Keeps (w6 V0) (w2 V0) 144 := (w3_s0_back V0).trans (w3_s0_step V0) (by decide) (by decide)
theorem w2_s2_back : Keeps (w6 V0) (w2_s2 V0) 123 := (w2_back V0).trans (w2_step V0) (by decide) (by decide)
theorem w2_s1_back : Keeps (w6 V0) (w2_s1 V0) 104 := (w2_s2_back V0).trans (w2_s2_step V0) (by decide) (by decide)
theorem w2_s0_back : Keeps (w6 V0) (w2_s0 V0) 85 := (w2_s1_back V0).trans (w2_s1_step V0) (by decide) (by decide)
theorem w1_back : Keeps (w6 V0) (w1 V0) 84 := (w2_s0_back V0).trans (w2_s0_step V0) (by decide) (by decide)
theorem w1_s1_back : Keeps (w6 V0) (w1_s1 V0) 64 := (w1_back V0).trans (w1_step V0) (by decide) (by decide)
theorem w1_s0_back : Keeps (w6 V0) (w1_s0 V0) 43 := (w1_s1_back V0).trans (w1_s1_step V0) (by decide) (by decide)
theorem after_ops : after ops V0 = w18 V0 := by
  simp only [ops, o0, o1, o2, o3, o4, o5, o6, o7, o8, o9, o10, o11, o12, o13, o14, o15, o16, after_append]
  rfl

end Cert.RefNet

end
-- ==== Proof.RefTaps.lean ====
/- The reference's values by name, and the taps of its convolutions' weights. -/
module

public import proofs.«01_k».proof.Proof.RefKeep

@[expose] public section

set_option maxRecDepth 8192
set_option maxHeartbeats 4000000

noncomputable section

namespace Cert.RefNet

open Cert.ReferenceIdeal Cert.ReferenceIdeal.Gen Idealize.ShloMosaic Idealize.ShloMosaic.TcCoe Idealize.SL.Sem Idealize.ShloMosaic.StableHlo

variable {F : FTy → Type} [FloatOps F]

/-- The contents of one of the core's buffers. -/
abbrev Dv (F : FTy → Type) [FloatOps F] (r : Ref sig .tc) : Type := (Proc.devRef .tc r : DevRef τ sig).ty.Contents (Elt F)

variable (V0 : Valuation τ sig (Elt F))
def res_main_v0 : Dv F main_v0 :=
  shapeCast _ (V0 (Proc.devRef .tc main_arg2)) shapeCasts_S64x1x3x3_S64x1x9
def res_main_v21 : Dv F main_v21 :=
  shapeCast _ (shapeCast _ (extractStridedSlice S1x64x64x3x3 ![0, 0, 0, 0, 0] (V0 (Proc.devRef .tc main_arg4)) slices_S2x64x64x3x3_S1x64x64x3x3_0_0_0_0_0) shapeCasts_S1x64x64x3x3_S64x64x3x3) shapeCasts_S64x64x3x3_S64x64x9
def res_main_v42 : Dv F main_v42 :=
  shapeCast _ (shapeCast _ (extractStridedSlice S1x64x64x3x3 ![1, 0, 0, 0, 0] (V0 (Proc.devRef .tc main_arg4)) slices_S2x64x64x3x3_S1x64x64x3x3_1_0_0_0_0) shapeCasts_S1x64x64x3x3_S64x64x3x3) shapeCasts_S64x64x3x3_S64x64x9
def res_main_v61 : Dv F main_v61 :=
  shapeCast _ (V0 (Proc.devRef .tc main_arg6)) shapeCasts_S64x64x3x3_S64x64x9
def res_main_v80 : Dv F main_v80 :=
  shapeCast _ (V0 (Proc.devRef .tc main_arg8)) shapeCasts_S64x64x3x3_S64x64x9
def res_main_v101 : Dv F main_v101 :=
  shapeCast _ (shapeCast _ (extractStridedSlice S1x64x64x3x3 ![0, 0, 0, 0, 0] (V0 (Proc.devRef .tc main_arg12)) slices_S3x64x64x3x3_S1x64x64x3x3_0_0_0_0_0) shapeCasts_S1x64x64x3x3_S64x64x3x3) shapeCasts_S64x64x3x3_S64x64x9
def res_main_v122 : Dv F main_v122 :=
  shapeCast _ (shapeCast _ (extractStridedSlice S1x64x64x3x3 ![1, 0, 0, 0, 0] (V0 (Proc.devRef .tc main_arg12)) slices_S3x64x64x3x3_S1x64x64x3x3_1_0_0_0_0) shapeCasts_S1x64x64x3x3_S64x64x3x3) shapeCasts_S64x64x3x3_S64x64x9
def res_main_v143 : Dv F main_v143 :=
  shapeCast _ (shapeCast _ (extractStridedSlice S1x64x64x3x3 ![2, 0, 0, 0, 0] (V0 (Proc.devRef .tc main_arg12)) slices_S3x64x64x3x3_S1x64x64x3x3_2_0_0_0_0) shapeCasts_S1x64x64x3x3_S64x64x3x3) shapeCasts_S64x64x3x3_S64x64x9
def res_main_v164 : Dv F main_v164 :=
  shapeCast _ (shapeCast _ (extractStridedSlice S1x64x64x3x3 ![0, 0, 0, 0, 0] (V0 (Proc.devRef .tc main_arg14)) slices_S3x64x64x3x3_S1x64x64x3x3_0_0_0_0_0) shapeCasts_S1x64x64x3x3_S64x64x3x3) shapeCasts_S64x64x3x3_S64x64x9
def res_main_v185 : Dv F main_v185 :=
  shapeCast _ (shapeCast _ (extractStridedSlice S1x64x64x3x3 ![1, 0, 0, 0, 0] (V0 (Proc.devRef .tc main_arg14)) slices_S3x64x64x3x3_S1x64x64x3x3_1_0_0_0_0) shapeCasts_S1x64x64x3x3_S64x64x3x3) shapeCasts_S64x64x3x3_S64x64x9
def res_main_v206 : Dv F main_v206 :=
  shapeCast _ (shapeCast _ (extractStridedSlice S1x64x64x3x3 ![2, 0, 0, 0, 0] (V0 (Proc.devRef .tc main_arg14)) slices_S3x64x64x3x3_S1x64x64x3x3_2_0_0_0_0) shapeCasts_S1x64x64x3x3_S64x64x3x3) shapeCasts_S64x64x3x3_S64x64x9
def res_main_v225 : Dv F main_v225 :=
  shapeCast _ (V0 (Proc.devRef .tc main_arg16)) shapeCasts_S1x64x3x3_S1x64x9
def res_main_v244 : Dv F main_v244 :=
  shapeCast _ (V0 (Proc.devRef .tc main_arg18)) shapeCasts_S64x1x3x3_S64x1x9
def res_main_v265 : Dv F main_v265 :=
  shapeCast _ (shapeCast _ (extractStridedSlice S1x64x64x3x3 ![0, 0, 0, 0, 0] (V0 (Proc.devRef .tc main_arg20)) slices_S3x64x64x3x3_S1x64x64x3x3_0_0_0_0_0) shapeCasts_S1x64x64x3x3_S64x64x3x3) shapeCasts_S64x64x3x3_S64x64x9
def res_main_v286 : Dv F main_v286 :=
  shapeCast _ (shapeCast _ (extractStridedSlice S1x64x64x3x3 ![1, 0, 0, 0, 0] (V0 (Proc.devRef .tc main_arg20)) slices_S3x64x64x3x3_S1x64x64x3x3_1_0_0_0_0) shapeCasts_S1x64x64x3x3_S64x64x3x3) shapeCasts_S64x64x3x3_S64x64x9
def res_main_v307 : Dv F main_v307 :=
  shapeCast _ (shapeCast _ (extractStridedSlice S1x64x64x3x3 ![2, 0, 0, 0, 0] (V0 (Proc.devRef .tc main_arg20)) slices_S3x64x64x3x3_S1x64x64x3x3_2_0_0_0_0) shapeCasts_S1x64x64x3x3_S64x64x3x3) shapeCasts_S64x64x3x3_S64x64x9
def res_main_v326 : Dv F main_v326 :=
  shapeCast _ (V0 (Proc.devRef .tc main_arg22)) shapeCasts_S1x64x3x3_S1x64x9
def res_main_v345 : Dv F main_v345 :=
  pad S2x1x226x226 ![0, 0, 1, 1] ![0, 0, 1, 1] ![0, 0, 0, 0] (V0 (Proc.devRef .tc main_arg0)) (sitofp .f32 (constantI S_ 32 0#32)) pads_S2x1x224x224_S2x1x226x226_000_000_110_110 h_S_
def res_main_v381 : Dv F main_v381 :=
  pad S2x64x226x226 ![0, 0, 1, 1] ![0, 0, 1, 1] ![0, 0, 0, 0] (maximumf (addf (transpose S2x64x224x224 [0, 3, 1, 2] (addf (addf (addf (addf (addf (addf (addf (addf (addf (z64 F) (d1_64 F (p1_00 F (res_main_v345 V0)) (t64x1x1_0 F (res_main_v0 V0)))) (d1_64 F (p1_01 F (res_main_v345 V0)) (t64x1x1_1 F (res_main_v0 V0)))) (d1_64 F (p1_02 F (res_main_v345 V0)) (t64x1x1_2 F (res_main_v0 V0)))) (d1_64 F (p1_10 F (res_main_v345 V0)) (t64x1x1_3 F (res_main_v0 V0)))) (d1_64 F (p1_11 F (res_main_v345 V0)) (t64x1x1_4 F (res_main_v0 V0)))) (d1_64 F (p1_12 F (res_main_v345 V0)) (t64x1x1_5 F (res_main_v0 V0)))) (d1_64 F (p1_20 F (res_main_v345 V0)) (t64x1x1_6 F (res_main_v0 V0)))) (d1_64 F (p1_21 F (res_main_v345 V0)) (t64x1x1_7 F (res_main_v0 V0)))) (d1_64 F (p1_22 F (res_main_v345 V0)) (t64x1x1_8 F (res_main_v0 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (V0 (Proc.devRef .tc main_arg3))))) (broadcastInDim S2x64x224x224 ![] bcast_S_S2x64x224x224 (constant S_ .f32 0x00000000#32))) (sitofp .f32 (constantI S_ 32 0#32)) pads_S2x64x224x224_S2x64x226x226_000_000_110_110 h_S_
def res_main_v417 : Dv F main_v417 :=
  pad S2x64x226x226 ![0, 0, 1, 1] ![0, 0, 1, 1] ![0, 0, 0, 0] (maximumf (addf (transpose S2x64x224x224 [0, 3, 1, 2] (addf (addf (addf (addf (addf (addf (addf (addf (addf (z64 F) (d64_64 F (p64_00 F (res_main_v381 V0)) (t64x64x1_0 F (res_main_v21 V0)))) (d64_64 F (p64_01 F (res_main_v381 V0)) (t64x64x1_1 F (res_main_v21 V0)))) (d64_64 F (p64_02 F (res_main_v381 V0)) (t64x64x1_2 F (res_main_v21 V0)))) (d64_64 F (p64_10 F (res_main_v381 V0)) (t64x64x1_3 F (res_main_v21 V0)))) (d64_64 F (p64_11 F (res_main_v381 V0)) (t64x64x1_4 F (res_main_v21 V0)))) (d64_64 F (p64_12 F (res_main_v381 V0)) (t64x64x1_5 F (res_main_v21 V0)))) (d64_64 F (p64_20 F (res_main_v381 V0)) (t64x64x1_6 F (res_main_v21 V0)))) (d64_64 F (p64_21 F (res_main_v381 V0)) (t64x64x1_7 F (res_main_v21 V0)))) (d64_64 F (p64_22 F (res_main_v381 V0)) (t64x64x1_8 F (res_main_v21 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![0, 0] (V0 (Proc.devRef .tc main_arg5)) slices_S2x64_S1x64_0_0) shapeCasts_S1x64_S64)))) (broadcastInDim S2x64x224x224 ![] bcast_S_S2x64x224x224 (constant S_ .f32 0x00000000#32))) (sitofp .f32 (constantI S_ 32 0#32)) pads_S2x64x224x224_S2x64x226x226_000_000_110_110 h_S_
def res_main_v450 : Dv F main_v450 :=
  maximumf (addf (transpose S2x64x224x224 [0, 3, 1, 2] (addf (addf (addf (addf (addf (addf (addf (addf (addf (z64 F) (d64_64 F (p64_00 F (res_main_v417 V0)) (t64x64x1_0 F (res_main_v42 V0)))) (d64_64 F (p64_01 F (res_main_v417 V0)) (t64x64x1_1 F (res_main_v42 V0)))) (d64_64 F (p64_02 F (res_main_v417 V0)) (t64x64x1_2 F (res_main_v42 V0)))) (d64_64 F (p64_10 F (res_main_v417 V0)) (t64x64x1_3 F (res_main_v42 V0)))) (d64_64 F (p64_11 F (res_main_v417 V0)) (t64x64x1_4 F (res_main_v42 V0)))) (d64_64 F (p64_12 F (res_main_v417 V0)) (t64x64x1_5 F (res_main_v42 V0)))) (d64_64 F (p64_20 F (res_main_v417 V0)) (t64x64x1_6 F (res_main_v42 V0)))) (d64_64 F (p64_21 F (res_main_v417 V0)) (t64x64x1_7 F (res_main_v42 V0)))) (d64_64 F (p64_22 F (res_main_v417 V0)) (t64x64x1_8 F (res_main_v42 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![1, 0] (V0 (Proc.devRef .tc main_arg5)) slices_S2x64_S1x64_1_0) shapeCasts_S1x64_S64)))) (broadcastInDim S2x64x224x224 ![] bcast_S_S2x64x224x224 (constant S_ .f32 0x00000000#32))
def res_main_v451 : Dv F main_v451 :=
  pad S2x64x226x226 ![0, 0, 1, 1] ![0, 0, 1, 1] ![0, 0, 0, 0] (res_main_v450 V0) (sitofp .f32 (constantI S_ 32 0#32)) pads_S2x64x224x224_S2x64x226x226_000_000_110_110 h_S_
def res_main_v484 : Dv F main_v484 :=
  pad S2x64x226x226 ![0, 0, 1, 1] ![0, 0, 1, 1] ![0, 0, 0, 0] (res_main_v450 V0) (sitofp .f32 (constantI S_ 32 0#32)) pads_S2x64x224x224_S2x64x226x226_000_000_110_110 h_S_
def res_main_v522 : Dv F main_v522 :=
  addf (addf (transpose S2x64x224x224 [0, 3, 1, 2] (addf (addf (addf (addf (addf (addf (addf (addf (addf (z64 F) (d64_64 F (p64_00 F (res_main_v451 V0)) (t64x64x1_0 F (res_main_v61 V0)))) (d64_64 F (p64_01 F (res_main_v451 V0)) (t64x64x1_1 F (res_main_v61 V0)))) (d64_64 F (p64_02 F (res_main_v451 V0)) (t64x64x1_2 F (res_main_v61 V0)))) (d64_64 F (p64_10 F (res_main_v451 V0)) (t64x64x1_3 F (res_main_v61 V0)))) (d64_64 F (p64_11 F (res_main_v451 V0)) (t64x64x1_4 F (res_main_v61 V0)))) (d64_64 F (p64_12 F (res_main_v451 V0)) (t64x64x1_5 F (res_main_v61 V0)))) (d64_64 F (p64_20 F (res_main_v451 V0)) (t64x64x1_6 F (res_main_v61 V0)))) (d64_64 F (p64_21 F (res_main_v451 V0)) (t64x64x1_7 F (res_main_v61 V0)))) (d64_64 F (p64_22 F (res_main_v451 V0)) (t64x64x1_8 F (res_main_v61 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (V0 (Proc.devRef .tc main_arg7))))) (mulf (mulf (broadcastInDim S2x64x224x224 ![] bcast_S_S2x64x224x224 (constant S_ .f32 0x3F800000#32)) (Host.sqrt (Host.exp (addf (transpose S2x64x224x224 [0, 3, 1, 2] (addf (addf (addf (addf (addf (addf (addf (addf (addf (z64 F) (d64_64 F (p64_00 F (res_main_v484 V0)) (t64x64x1_0 F (res_main_v80 V0)))) (d64_64 F (p64_01 F (res_main_v484 V0)) (t64x64x1_1 F (res_main_v80 V0)))) (d64_64 F (p64_02 F (res_main_v484 V0)) (t64x64x1_2 F (res_main_v80 V0)))) (d64_64 F (p64_10 F (res_main_v484 V0)) (t64x64x1_3 F (res_main_v80 V0)))) (d64_64 F (p64_11 F (res_main_v484 V0)) (t64x64x1_4 F (res_main_v80 V0)))) (d64_64 F (p64_12 F (res_main_v484 V0)) (t64x64x1_5 F (res_main_v80 V0)))) (d64_64 F (p64_20 F (res_main_v484 V0)) (t64x64x1_6 F (res_main_v80 V0)))) (d64_64 F (p64_21 F (res_main_v484 V0)) (t64x64x1_7 F (res_main_v80 V0)))) (d64_64 F (p64_22 F (res_main_v484 V0)) (t64x64x1_8 F (res_main_v80 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (V0 (Proc.devRef .tc main_arg9)))))))) (V0 (Proc.devRef .tc main_arg1)))
def res_main_v529 : Dv F main_v529 :=
  addf (Host.dotGeneral dot_S2x64_S64x3_S2x3_1_0_0_1_n_n none (Host.divf (Host.reduceAdd (res_main_v522 V0) (constant S_ .f32 0x00000000#32) reducesTo_S2x64x224x224_S2x64_d2_3 h_S_) (broadcastInDim S2x64 ![] bcast_S_S2x64 (constant S_ .f32 0x47440000#32))) (V0 (Proc.devRef .tc main_arg10))) (broadcastInDim S2x3 ![0, 1] bcast_S1x3_S2x3_0_1 (broadcastInDim S1x3 ![1] bcast_S3_S1x3_1 (V0 (Proc.devRef .tc main_arg11))))
def res_main_values : Dv F main_values :=
  (Host.topK S2x2 1 (FloatOps.cmpfTotal .gt) (res_main_v529 V0) sliceFits_S2x3_S2x2).1
def res_main_indices : Dv F main_indices :=
  (Host.topK S2x2 1 (FloatOps.cmpfTotal .gt) (res_main_v529 V0) sliceFits_S2x3_S2x2).2
def res_main_v536 : Dv F main_v536 :=
  Host.exp (subf (res_main_values V0) (broadcastInDim S2x2 ![0, 1] bcast_S2x1_S2x2_0_1 (broadcastInDim S2x1 ![0] bcast_S2_S2x1_0 (maximumf (broadcastInDim S2 ![] bcast_S_S2 (constant S_ .f32 0xFF800000#32)) (Host.reduce FloatOps.maximumf (res_main_values V0) (constant S_ .f32 0xFF800000#32) reducesTo_S2x2_S2_d1 h_S_)))))
def res_main_v543 (_ : Valuation τ sig (Elt F)) : Dv F main_v543 :=
  broadcastInDim S2x1 ![0] bcast_S2_S2x1_0 (iotaInDim S2 32 0)
def res_main_v561 : Dv F main_v561 :=
  pad S2x64x226x226 ![0, 0, 1, 1] ![0, 0, 1, 1] ![0, 0, 0, 0] (res_main_v522 V0) (sitofp .f32 (constantI S_ 32 0#32)) pads_S2x64x224x224_S2x64x226x226_000_000_110_110 h_S_
def res_main_v597 : Dv F main_v597 :=
  pad S2x64x226x226 ![0, 0, 1, 1] ![0, 0, 1, 1] ![0, 0, 0, 0] (maximumf (addf (transpose S2x64x224x224 [0, 3, 1, 2] (addf (addf (addf (addf (addf (addf (addf (addf (addf (z64 F) (d64_64 F (p64_00 F (res_main_v561 V0)) (t64x64x1_0 F (res_main_v101 V0)))) (d64_64 F (p64_01 F (res_main_v561 V0)) (t64x64x1_1 F (res_main_v101 V0)))) (d64_64 F (p64_02 F (res_main_v561 V0)) (t64x64x1_2 F (res_main_v101 V0)))) (d64_64 F (p64_10 F (res_main_v561 V0)) (t64x64x1_3 F (res_main_v101 V0)))) (d64_64 F (p64_11 F (res_main_v561 V0)) (t64x64x1_4 F (res_main_v101 V0)))) (d64_64 F (p64_12 F (res_main_v561 V0)) (t64x64x1_5 F (res_main_v101 V0)))) (d64_64 F (p64_20 F (res_main_v561 V0)) (t64x64x1_6 F (res_main_v101 V0)))) (d64_64 F (p64_21 F (res_main_v561 V0)) (t64x64x1_7 F (res_main_v101 V0)))) (d64_64 F (p64_22 F (res_main_v561 V0)) (t64x64x1_8 F (res_main_v101 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![0, 0] (V0 (Proc.devRef .tc main_arg13)) slices_S3x64_S1x64_0_0) shapeCasts_S1x64_S64)))) (broadcastInDim S2x64x224x224 ![] bcast_S_S2x64x224x224 (constant S_ .f32 0x00000000#32))) (sitofp .f32 (constantI S_ 32 0#32)) pads_S2x64x224x224_S2x64x226x226_000_000_110_110 h_S_
def res_main_v632 : Dv F main_v632 :=
  pad S2x64x226x226 ![0, 0, 1, 1] ![0, 0, 1, 1] ![0, 0, 0, 0] (res_main_v522 V0) (sitofp .f32 (constantI S_ 32 0#32)) pads_S2x64x224x224_S2x64x226x226_000_000_110_110 h_S_
def res_main_v668 : Dv F main_v668 :=
  pad S2x64x226x226 ![0, 0, 1, 1] ![0, 0, 1, 1] ![0, 0, 0, 0] (maximumf (addf (transpose S2x64x224x224 [0, 3, 1, 2] (addf (addf (addf (addf (addf (addf (addf (addf (addf (z64 F) (d64_64 F (p64_00 F (res_main_v632 V0)) (t64x64x1_0 F (res_main_v122 V0)))) (d64_64 F (p64_01 F (res_main_v632 V0)) (t64x64x1_1 F (res_main_v122 V0)))) (d64_64 F (p64_02 F (res_main_v632 V0)) (t64x64x1_2 F (res_main_v122 V0)))) (d64_64 F (p64_10 F (res_main_v632 V0)) (t64x64x1_3 F (res_main_v122 V0)))) (d64_64 F (p64_11 F (res_main_v632 V0)) (t64x64x1_4 F (res_main_v122 V0)))) (d64_64 F (p64_12 F (res_main_v632 V0)) (t64x64x1_5 F (res_main_v122 V0)))) (d64_64 F (p64_20 F (res_main_v632 V0)) (t64x64x1_6 F (res_main_v122 V0)))) (d64_64 F (p64_21 F (res_main_v632 V0)) (t64x64x1_7 F (res_main_v122 V0)))) (d64_64 F (p64_22 F (res_main_v632 V0)) (t64x64x1_8 F (res_main_v122 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![1, 0] (V0 (Proc.devRef .tc main_arg13)) slices_S3x64_S1x64_1_0) shapeCasts_S1x64_S64)))) (broadcastInDim S2x64x224x224 ![] bcast_S_S2x64x224x224 (constant S_ .f32 0x00000000#32))) (sitofp .f32 (constantI S_ 32 0#32)) pads_S2x64x224x224_S2x64x226x226_000_000_110_110 h_S_
def res_main_v703 : Dv F main_v703 :=
  pad S2x64x226x226 ![0, 0, 1, 1] ![0, 0, 1, 1] ![0, 0, 0, 0] (res_main_v522 V0) (sitofp .f32 (constantI S_ 32 0#32)) pads_S2x64x224x224_S2x64x226x226_000_000_110_110 h_S_
def res_main_v739 : Dv F main_v739 :=
  pad S2x64x226x226 ![0, 0, 1, 1] ![0, 0, 1, 1] ![0, 0, 0, 0] (maximumf (addf (transpose S2x64x224x224 [0, 3, 1, 2] (addf (addf (addf (addf (addf (addf (addf (addf (addf (z64 F) (d64_64 F (p64_00 F (res_main_v703 V0)) (t64x64x1_0 F (res_main_v143 V0)))) (d64_64 F (p64_01 F (res_main_v703 V0)) (t64x64x1_1 F (res_main_v143 V0)))) (d64_64 F (p64_02 F (res_main_v703 V0)) (t64x64x1_2 F (res_main_v143 V0)))) (d64_64 F (p64_10 F (res_main_v703 V0)) (t64x64x1_3 F (res_main_v143 V0)))) (d64_64 F (p64_11 F (res_main_v703 V0)) (t64x64x1_4 F (res_main_v143 V0)))) (d64_64 F (p64_12 F (res_main_v703 V0)) (t64x64x1_5 F (res_main_v143 V0)))) (d64_64 F (p64_20 F (res_main_v703 V0)) (t64x64x1_6 F (res_main_v143 V0)))) (d64_64 F (p64_21 F (res_main_v703 V0)) (t64x64x1_7 F (res_main_v143 V0)))) (d64_64 F (p64_22 F (res_main_v703 V0)) (t64x64x1_8 F (res_main_v143 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![2, 0] (V0 (Proc.devRef .tc main_arg13)) slices_S3x64_S1x64_2_0) shapeCasts_S1x64_S64)))) (broadcastInDim S2x64x224x224 ![] bcast_S_S2x64x224x224 (constant S_ .f32 0x00000000#32))) (sitofp .f32 (constantI S_ 32 0#32)) pads_S2x64x224x224_S2x64x226x226_000_000_110_110 h_S_
def res_main_v775 : Dv F main_v775 :=
  (concatenate S3x2x64x224x224 0 [⟨S1x2x64x224x224, ((broadcastInDim S1x2x64x224x224 ![1, 2, 3, 4] bcast_S2x64x224x224_S1x2x64x224x224_1_2_3_4 (addf (transpose S2x64x224x224 [0, 3, 1, 2] (addf (addf (addf (addf (addf (addf (addf (addf (addf (z64 F) (d64_64 F (p64_00 F (res_main_v597 V0)) (t64x64x1_0 F (res_main_v164 V0)))) (d64_64 F (p64_01 F (res_main_v597 V0)) (t64x64x1_1 F (res_main_v164 V0)))) (d64_64 F (p64_02 F (res_main_v597 V0)) (t64x64x1_2 F (res_main_v164 V0)))) (d64_64 F (p64_10 F (res_main_v597 V0)) (t64x64x1_3 F (res_main_v164 V0)))) (d64_64 F (p64_11 F (res_main_v597 V0)) (t64x64x1_4 F (res_main_v164 V0)))) (d64_64 F (p64_12 F (res_main_v597 V0)) (t64x64x1_5 F (res_main_v164 V0)))) (d64_64 F (p64_20 F (res_main_v597 V0)) (t64x64x1_6 F (res_main_v164 V0)))) (d64_64 F (p64_21 F (res_main_v597 V0)) (t64x64x1_7 F (res_main_v164 V0)))) (d64_64 F (p64_22 F (res_main_v597 V0)) (t64x64x1_8 F (res_main_v164 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![0, 0] (V0 (Proc.devRef .tc main_arg15)) slices_S3x64_S1x64_0_0) shapeCasts_S1x64_S64))))) : (⟨S1x2x64x224x224, .f32⟩ : BufTy).Contents (Elt F))⟩, ⟨S1x2x64x224x224, ((broadcastInDim S1x2x64x224x224 ![1, 2, 3, 4] bcast_S2x64x224x224_S1x2x64x224x224_1_2_3_4 (addf (transpose S2x64x224x224 [0, 3, 1, 2] (addf (addf (addf (addf (addf (addf (addf (addf (addf (z64 F) (d64_64 F (p64_00 F (res_main_v668 V0)) (t64x64x1_0 F (res_main_v185 V0)))) (d64_64 F (p64_01 F (res_main_v668 V0)) (t64x64x1_1 F (res_main_v185 V0)))) (d64_64 F (p64_02 F (res_main_v668 V0)) (t64x64x1_2 F (res_main_v185 V0)))) (d64_64 F (p64_10 F (res_main_v668 V0)) (t64x64x1_3 F (res_main_v185 V0)))) (d64_64 F (p64_11 F (res_main_v668 V0)) (t64x64x1_4 F (res_main_v185 V0)))) (d64_64 F (p64_12 F (res_main_v668 V0)) (t64x64x1_5 F (res_main_v185 V0)))) (d64_64 F (p64_20 F (res_main_v668 V0)) (t64x64x1_6 F (res_main_v185 V0)))) (d64_64 F (p64_21 F (res_main_v668 V0)) (t64x64x1_7 F (res_main_v185 V0)))) (d64_64 F (p64_22 F (res_main_v668 V0)) (t64x64x1_8 F (res_main_v185 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![1, 0] (V0 (Proc.devRef .tc main_arg15)) slices_S3x64_S1x64_1_0) shapeCasts_S1x64_S64))))) : (⟨S1x2x64x224x224, .f32⟩ : BufTy).Contents (Elt F))⟩, ⟨S1x2x64x224x224, ((broadcastInDim S1x2x64x224x224 ![1, 2, 3, 4] bcast_S2x64x224x224_S1x2x64x224x224_1_2_3_4 (addf (transpose S2x64x224x224 [0, 3, 1, 2] (addf (addf (addf (addf (addf (addf (addf (addf (addf (z64 F) (d64_64 F (p64_00 F (res_main_v739 V0)) (t64x64x1_0 F (res_main_v206 V0)))) (d64_64 F (p64_01 F (res_main_v739 V0)) (t64x64x1_1 F (res_main_v206 V0)))) (d64_64 F (p64_02 F (res_main_v739 V0)) (t64x64x1_2 F (res_main_v206 V0)))) (d64_64 F (p64_10 F (res_main_v739 V0)) (t64x64x1_3 F (res_main_v206 V0)))) (d64_64 F (p64_11 F (res_main_v739 V0)) (t64x64x1_4 F (res_main_v206 V0)))) (d64_64 F (p64_12 F (res_main_v739 V0)) (t64x64x1_5 F (res_main_v206 V0)))) (d64_64 F (p64_20 F (res_main_v739 V0)) (t64x64x1_6 F (res_main_v206 V0)))) (d64_64 F (p64_21 F (res_main_v739 V0)) (t64x64x1_7 F (res_main_v206 V0)))) (d64_64 F (p64_22 F (res_main_v739 V0)) (t64x64x1_8 F (res_main_v206 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![2, 0] (V0 (Proc.devRef .tc main_arg15)) slices_S3x64_S1x64_2_0) shapeCasts_S1x64_S64))))) : (⟨S1x2x64x224x224, .f32⟩ : BufTy).Contents (Elt F))⟩] concatenates_S1x2x64x224x224_S1x2x64x224x224_S1x2x64x224x224_S3x2x64x224x224_d0 : (⟨S3x2x64x224x224, .f32⟩ : BufTy).Contents (Elt F))
def res_main_v777 : Dv F main_v777 :=
  pad S2x64x226x226 ![0, 0, 1, 1] ![0, 0, 1, 1] ![0, 0, 0, 0] (Host.dotGeneral dot_S2x3_S3x2x64x224x224_S2x64x224x224_1_0_n_234_0_1 none (Host.scatter scatter_S2x3_S2x2x2_S2x2_n_01_01_2 (fun _ b => b) (broadcastInDim S2x3 ![] bcast_S_S2x3 (constant S_ .f32 0x00000000#32)) (concatenate S2x2x2 2 [⟨S2x2x1, (broadcastInDim S2x2x1 ![0, 1] bcast_S2x2_S2x2x1_0_1 (broadcastInDim S2x2 ![0, 1] bcast_S2x1_S2x2_0_1 (select (cmpi .slt (res_main_v543 V0) (broadcastInDim S2x1 ![] bcast_S_S2x1 (constantI S_ 32 0#32))) (addi (res_main_v543 V0) (broadcastInDim S2x1 ![] bcast_S_S2x1 (constantI S_ 32 2#32))) (res_main_v543 V0))))⟩, ⟨S2x2x1, (broadcastInDim S2x2x1 ![0, 1] bcast_S2x2_S2x2x1_0_1 (select (cmpi .slt (res_main_indices V0) (broadcastInDim S2x2 ![] bcast_S_S2x2 (constantI S_ 32 0#32))) (addi (res_main_indices V0) (broadcastInDim S2x2 ![] bcast_S_S2x2 (constantI S_ 32 3#32))) (res_main_indices V0)))⟩] concatenates_S2x2x1_S2x2x1_S2x2x2_d2) (Host.divf (res_main_v536 V0) (broadcastInDim S2x2 ![0, 1] bcast_S2x1_S2x2_0_1 (broadcastInDim S2x1 ![0] bcast_S2_S2x1_0 (Host.reduceAdd (res_main_v536 V0) (constant S_ .f32 0x00000000#32) reducesTo_S2x2_S2_d1 h_S_))))) (res_main_v775 V0)) (sitofp .f32 (constantI S_ 32 0#32)) pads_S2x64x224x224_S2x64x226x226_000_000_110_110 h_S_
def res_main_v811 : Dv F main_v811 :=
  pad S2x1x226x226 ![0, 0, 1, 1] ![0, 0, 1, 1] ![0, 0, 0, 0] (subf (V0 (Proc.devRef .tc main_arg0)) (addf (transpose S2x1x224x224 [0, 3, 1, 2] (addf (addf (addf (addf (addf (addf (addf (addf (addf (z1 F) (d64_1 F (p64_00 F (res_main_v777 V0)) (t1x64x1_0 F (res_main_v225 V0)))) (d64_1 F (p64_01 F (res_main_v777 V0)) (t1x64x1_1 F (res_main_v225 V0)))) (d64_1 F (p64_02 F (res_main_v777 V0)) (t1x64x1_2 F (res_main_v225 V0)))) (d64_1 F (p64_10 F (res_main_v777 V0)) (t1x64x1_3 F (res_main_v225 V0)))) (d64_1 F (p64_11 F (res_main_v777 V0)) (t1x64x1_4 F (res_main_v225 V0)))) (d64_1 F (p64_12 F (res_main_v777 V0)) (t1x64x1_5 F (res_main_v225 V0)))) (d64_1 F (p64_20 F (res_main_v777 V0)) (t1x64x1_6 F (res_main_v225 V0)))) (d64_1 F (p64_21 F (res_main_v777 V0)) (t1x64x1_7 F (res_main_v225 V0)))) (d64_1 F (p64_22 F (res_main_v777 V0)) (t1x64x1_8 F (res_main_v225 V0)))) transposes_S2x224x224x1_S2x1x224x224_0_3_1_2) (broadcastInDim S2x1x224x224 ![0, 1, 2, 3] bcast_S1x1x1x1_S2x1x224x224_0_1_2_3 (broadcastInDim S1x1x1x1 ![1] bcast_S1_S1x1x1x1_1 (V0 (Proc.devRef .tc main_arg17)))))) (sitofp .f32 (constantI S_ 32 0#32)) pads_S2x1x224x224_S2x1x226x226_000_000_110_110 h_S_
def res_main_v847 : Dv F main_v847 :=
  pad S2x64x226x226 ![0, 0, 1, 1] ![0, 0, 1, 1] ![0, 0, 0, 0] (maximumf (addf (transpose S2x64x224x224 [0, 3, 1, 2] (addf (addf (addf (addf (addf (addf (addf (addf (addf (z64 F) (d1_64 F (p1_00 F (res_main_v811 V0)) (t64x1x1_0 F (res_main_v244 V0)))) (d1_64 F (p1_01 F (res_main_v811 V0)) (t64x1x1_1 F (res_main_v244 V0)))) (d1_64 F (p1_02 F (res_main_v811 V0)) (t64x1x1_2 F (res_main_v244 V0)))) (d1_64 F (p1_10 F (res_main_v811 V0)) (t64x1x1_3 F (res_main_v244 V0)))) (d1_64 F (p1_11 F (res_main_v811 V0)) (t64x1x1_4 F (res_main_v244 V0)))) (d1_64 F (p1_12 F (res_main_v811 V0)) (t64x1x1_5 F (res_main_v244 V0)))) (d1_64 F (p1_20 F (res_main_v811 V0)) (t64x1x1_6 F (res_main_v244 V0)))) (d1_64 F (p1_21 F (res_main_v811 V0)) (t64x1x1_7 F (res_main_v244 V0)))) (d1_64 F (p1_22 F (res_main_v811 V0)) (t64x1x1_8 F (res_main_v244 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (V0 (Proc.devRef .tc main_arg19))))) (broadcastInDim S2x64x224x224 ![] bcast_S_S2x64x224x224 (constant S_ .f32 0x00000000#32))) (sitofp .f32 (constantI S_ 32 0#32)) pads_S2x64x224x224_S2x64x226x226_000_000_110_110 h_S_
def res_main_v883 : Dv F main_v883 :=
  pad S2x64x226x226 ![0, 0, 1, 1] ![0, 0, 1, 1] ![0, 0, 0, 0] (maximumf (addf (transpose S2x64x224x224 [0, 3, 1, 2] (addf (addf (addf (addf (addf (addf (addf (addf (addf (z64 F) (d64_64 F (p64_00 F (res_main_v847 V0)) (t64x64x1_0 F (res_main_v265 V0)))) (d64_64 F (p64_01 F (res_main_v847 V0)) (t64x64x1_1 F (res_main_v265 V0)))) (d64_64 F (p64_02 F (res_main_v847 V0)) (t64x64x1_2 F (res_main_v265 V0)))) (d64_64 F (p64_10 F (res_main_v847 V0)) (t64x64x1_3 F (res_main_v265 V0)))) (d64_64 F (p64_11 F (res_main_v847 V0)) (t64x64x1_4 F (res_main_v265 V0)))) (d64_64 F (p64_12 F (res_main_v847 V0)) (t64x64x1_5 F (res_main_v265 V0)))) (d64_64 F (p64_20 F (res_main_v847 V0)) (t64x64x1_6 F (res_main_v265 V0)))) (d64_64 F (p64_21 F (res_main_v847 V0)) (t64x64x1_7 F (res_main_v265 V0)))) (d64_64 F (p64_22 F (res_main_v847 V0)) (t64x64x1_8 F (res_main_v265 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![0, 0] (V0 (Proc.devRef .tc main_arg21)) slices_S3x64_S1x64_0_0) shapeCasts_S1x64_S64)))) (broadcastInDim S2x64x224x224 ![] bcast_S_S2x64x224x224 (constant S_ .f32 0x00000000#32))) (sitofp .f32 (constantI S_ 32 0#32)) pads_S2x64x224x224_S2x64x226x226_000_000_110_110 h_S_
def res_main_v919 : Dv F main_v919 :=
  pad S2x64x226x226 ![0, 0, 1, 1] ![0, 0, 1, 1] ![0, 0, 0, 0] (maximumf (addf (transpose S2x64x224x224 [0, 3, 1, 2] (addf (addf (addf (addf (addf (addf (addf (addf (addf (z64 F) (d64_64 F (p64_00 F (res_main_v883 V0)) (t64x64x1_0 F (res_main_v286 V0)))) (d64_64 F (p64_01 F (res_main_v883 V0)) (t64x64x1_1 F (res_main_v286 V0)))) (d64_64 F (p64_02 F (res_main_v883 V0)) (t64x64x1_2 F (res_main_v286 V0)))) (d64_64 F (p64_10 F (res_main_v883 V0)) (t64x64x1_3 F (res_main_v286 V0)))) (d64_64 F (p64_11 F (res_main_v883 V0)) (t64x64x1_4 F (res_main_v286 V0)))) (d64_64 F (p64_12 F (res_main_v883 V0)) (t64x64x1_5 F (res_main_v286 V0)))) (d64_64 F (p64_20 F (res_main_v883 V0)) (t64x64x1_6 F (res_main_v286 V0)))) (d64_64 F (p64_21 F (res_main_v883 V0)) (t64x64x1_7 F (res_main_v286 V0)))) (d64_64 F (p64_22 F (res_main_v883 V0)) (t64x64x1_8 F (res_main_v286 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![1, 0] (V0 (Proc.devRef .tc main_arg21)) slices_S3x64_S1x64_1_0) shapeCasts_S1x64_S64)))) (broadcastInDim S2x64x224x224 ![] bcast_S_S2x64x224x224 (constant S_ .f32 0x00000000#32))) (sitofp .f32 (constantI S_ 32 0#32)) pads_S2x64x224x224_S2x64x226x226_000_000_110_110 h_S_
def res_main_v953 : Dv F main_v953 :=
  pad S2x64x226x226 ![0, 0, 1, 1] ![0, 0, 1, 1] ![0, 0, 0, 0] (maximumf (addf (transpose S2x64x224x224 [0, 3, 1, 2] (addf (addf (addf (addf (addf (addf (addf (addf (addf (z64 F) (d64_64 F (p64_00 F (res_main_v919 V0)) (t64x64x1_0 F (res_main_v307 V0)))) (d64_64 F (p64_01 F (res_main_v919 V0)) (t64x64x1_1 F (res_main_v307 V0)))) (d64_64 F (p64_02 F (res_main_v919 V0)) (t64x64x1_2 F (res_main_v307 V0)))) (d64_64 F (p64_10 F (res_main_v919 V0)) (t64x64x1_3 F (res_main_v307 V0)))) (d64_64 F (p64_11 F (res_main_v919 V0)) (t64x64x1_4 F (res_main_v307 V0)))) (d64_64 F (p64_12 F (res_main_v919 V0)) (t64x64x1_5 F (res_main_v307 V0)))) (d64_64 F (p64_20 F (res_main_v919 V0)) (t64x64x1_6 F (res_main_v307 V0)))) (d64_64 F (p64_21 F (res_main_v919 V0)) (t64x64x1_7 F (res_main_v307 V0)))) (d64_64 F (p64_22 F (res_main_v919 V0)) (t64x64x1_8 F (res_main_v307 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![2, 0] (V0 (Proc.devRef .tc main_arg21)) slices_S3x64_S1x64_2_0) shapeCasts_S1x64_S64)))) (broadcastInDim S2x64x224x224 ![] bcast_S_S2x64x224x224 (constant S_ .f32 0x00000000#32))) (sitofp .f32 (constantI S_ 32 0#32)) pads_S2x64x224x224_S2x64x226x226_000_000_110_110 h_S_
theorem w0_arg2 : w0 V0 (no_index (Proc.devRef .tc main_arg2)) = V0 (Proc.devRef .tc main_arg2) := rfl
theorem w1_s0_arg4 : w1_s0 V0 (no_index (Proc.devRef .tc main_arg4)) = V0 (Proc.devRef .tc main_arg4) :=
  w1_s0_arg V0 main_arg4 (by decide)
theorem w1_s0_v18 : w1_s0 V0 (no_index (Proc.devRef .tc main_v18)) = t64x1x1_8 F (res_main_v0 V0) := by
  simp only [w1_s0, o0_0]; after_results_simp; simp only [w0_arg2] <;> rfl
theorem w1_s0_v16 : w1_s0 V0 (no_index (Proc.devRef .tc main_v16)) = t64x1x1_7 F (res_main_v0 V0) := by
  simp only [w1_s0, o0_0]; after_results_simp; simp only [w0_arg2] <;> rfl
theorem w1_s0_v14 : w1_s0 V0 (no_index (Proc.devRef .tc main_v14)) = t64x1x1_6 F (res_main_v0 V0) := by
  simp only [w1_s0, o0_0]; after_results_simp; simp only [w0_arg2] <;> rfl
theorem w1_s0_v12 : w1_s0 V0 (no_index (Proc.devRef .tc main_v12)) = t64x1x1_5 F (res_main_v0 V0) := by
  simp only [w1_s0, o0_0]; after_results_simp; simp only [w0_arg2] <;> rfl
theorem w1_s0_v10 : w1_s0 V0 (no_index (Proc.devRef .tc main_v10)) = t64x1x1_4 F (res_main_v0 V0) := by
  simp only [w1_s0, o0_0]; after_results_simp; simp only [w0_arg2] <;> rfl
theorem w1_s0_v8 : w1_s0 V0 (no_index (Proc.devRef .tc main_v8)) = t64x1x1_3 F (res_main_v0 V0) := by
  simp only [w1_s0, o0_0]; after_results_simp; simp only [w0_arg2] <;> rfl
theorem w1_s0_v6 : w1_s0 V0 (no_index (Proc.devRef .tc main_v6)) = t64x1x1_2 F (res_main_v0 V0) := by
  simp only [w1_s0, o0_0]; after_results_simp; simp only [w0_arg2] <;> rfl
theorem w1_s0_v4 : w1_s0 V0 (no_index (Proc.devRef .tc main_v4)) = t64x1x1_1 F (res_main_v0 V0) := by
  simp only [w1_s0, o0_0]; after_results_simp; simp only [w0_arg2] <;> rfl
theorem w1_s0_v2 : w1_s0 V0 (no_index (Proc.devRef .tc main_v2)) = t64x1x1_0 F (res_main_v0 V0) := by
  simp only [w1_s0, o0_0]; after_results_simp; simp only [w0_arg2] <;> rfl
theorem w1_s1_arg4 : w1_s1 V0 (no_index (Proc.devRef .tc main_arg4)) = V0 (Proc.devRef .tc main_arg4) :=
  w1_s1_arg V0 main_arg4 (by decide)
theorem w1_s1_v39 : w1_s1 V0 (no_index (Proc.devRef .tc main_v39)) = t64x64x1_8 F (res_main_v21 V0) := by
  simp only [w1_s1, o0_1]; after_results_simp; simp only [w1_s0_arg4] <;> rfl
theorem w1_s1_v37 : w1_s1 V0 (no_index (Proc.devRef .tc main_v37)) = t64x64x1_7 F (res_main_v21 V0) := by
  simp only [w1_s1, o0_1]; after_results_simp; simp only [w1_s0_arg4] <;> rfl
theorem w1_s1_v35 : w1_s1 V0 (no_index (Proc.devRef .tc main_v35)) = t64x64x1_6 F (res_main_v21 V0) := by
  simp only [w1_s1, o0_1]; after_results_simp; simp only [w1_s0_arg4] <;> rfl
theorem w1_s1_v33 : w1_s1 V0 (no_index (Proc.devRef .tc main_v33)) = t64x64x1_5 F (res_main_v21 V0) := by
  simp only [w1_s1, o0_1]; after_results_simp; simp only [w1_s0_arg4] <;> rfl
theorem w1_s1_v31 : w1_s1 V0 (no_index (Proc.devRef .tc main_v31)) = t64x64x1_4 F (res_main_v21 V0) := by
  simp only [w1_s1, o0_1]; after_results_simp; simp only [w1_s0_arg4] <;> rfl
theorem w1_s1_v29 : w1_s1 V0 (no_index (Proc.devRef .tc main_v29)) = t64x64x1_3 F (res_main_v21 V0) := by
  simp only [w1_s1, o0_1]; after_results_simp; simp only [w1_s0_arg4] <;> rfl
theorem w1_s1_v27 : w1_s1 V0 (no_index (Proc.devRef .tc main_v27)) = t64x64x1_2 F (res_main_v21 V0) := by
  simp only [w1_s1, o0_1]; after_results_simp; simp only [w1_s0_arg4] <;> rfl
theorem w1_s1_v25 : w1_s1 V0 (no_index (Proc.devRef .tc main_v25)) = t64x64x1_1 F (res_main_v21 V0) := by
  simp only [w1_s1, o0_1]; after_results_simp; simp only [w1_s0_arg4] <;> rfl
theorem w1_s1_v23 : w1_s1 V0 (no_index (Proc.devRef .tc main_v23)) = t64x64x1_0 F (res_main_v21 V0) := by
  simp only [w1_s1, o0_1]; after_results_simp; simp only [w1_s0_arg4] <;> rfl
theorem w1_v59 : w1 V0 (no_index (Proc.devRef .tc main_v59)) = extractStridedSlice S64x64x1 ![0, 0, 8] (res_main_v42 V0) slices_S64x64x9_S64x64x1_0_0_8 := by
  simp only [w1, o0_2]; after_results_simp; simp only [w1_s1_arg4] <;> rfl
theorem w1_v58 : w1 V0 (no_index (Proc.devRef .tc main_v58)) = t64x64x1_7 F (res_main_v42 V0) := by
  simp only [w1, o0_2]; after_results_simp; simp only [w1_s1_arg4] <;> rfl
theorem w1_v56 : w1 V0 (no_index (Proc.devRef .tc main_v56)) = t64x64x1_6 F (res_main_v42 V0) := by
  simp only [w1, o0_2]; after_results_simp; simp only [w1_s1_arg4] <;> rfl
theorem w1_v54 : w1 V0 (no_index (Proc.devRef .tc main_v54)) = t64x64x1_5 F (res_main_v42 V0) := by
  simp only [w1, o0_2]; after_results_simp; simp only [w1_s1_arg4] <;> rfl
theorem w1_v52 : w1 V0 (no_index (Proc.devRef .tc main_v52)) = t64x64x1_4 F (res_main_v42 V0) := by
  simp only [w1, o0_2]; after_results_simp; simp only [w1_s1_arg4] <;> rfl
theorem w1_v50 : w1 V0 (no_index (Proc.devRef .tc main_v50)) = t64x64x1_3 F (res_main_v42 V0) := by
  simp only [w1, o0_2]; after_results_simp; simp only [w1_s1_arg4] <;> rfl
theorem w1_v48 : w1 V0 (no_index (Proc.devRef .tc main_v48)) = t64x64x1_2 F (res_main_v42 V0) := by
  simp only [w1, o0_2]; after_results_simp; simp only [w1_s1_arg4] <;> rfl
theorem w1_v46 : w1 V0 (no_index (Proc.devRef .tc main_v46)) = t64x64x1_1 F (res_main_v42 V0) := by
  simp only [w1, o0_2]; after_results_simp; simp only [w1_s1_arg4] <;> rfl
theorem w1_v44 : w1 V0 (no_index (Proc.devRef .tc main_v44)) = t64x64x1_0 F (res_main_v42 V0) := by
  simp only [w1, o0_2]; after_results_simp; simp only [w1_s1_arg4] <;> rfl
theorem w2_s0_v60 : w2_s0 V0 (no_index (Proc.devRef .tc main_v60)) = t64x64x1_8 F (res_main_v42 V0) := by
  simp only [w2_s0, o1_0]; after_results_simp; simp only [w1_v59] <;> rfl
theorem w2_s0_arg6 : w2_s0 V0 (no_index (Proc.devRef .tc main_arg6)) = V0 (Proc.devRef .tc main_arg6) :=
  w2_s0_arg V0 main_arg6 (by decide)
theorem w2_s1_arg8 : w2_s1 V0 (no_index (Proc.devRef .tc main_arg8)) = V0 (Proc.devRef .tc main_arg8) :=
  w2_s1_arg V0 main_arg8 (by decide)
theorem w2_s1_v79 : w2_s1 V0 (no_index (Proc.devRef .tc main_v79)) = t64x64x1_8 F (res_main_v61 V0) := by
  simp only [w2_s1, o1_1]; after_results_simp; simp only [w2_s0_arg6] <;> rfl
theorem w2_s1_v77 : w2_s1 V0 (no_index (Proc.devRef .tc main_v77)) = t64x64x1_7 F (res_main_v61 V0) := by
  simp only [w2_s1, o1_1]; after_results_simp; simp only [w2_s0_arg6] <;> rfl
theorem w2_s1_v75 : w2_s1 V0 (no_index (Proc.devRef .tc main_v75)) = t64x64x1_6 F (res_main_v61 V0) := by
  simp only [w2_s1, o1_1]; after_results_simp; simp only [w2_s0_arg6] <;> rfl
theorem w2_s1_v73 : w2_s1 V0 (no_index (Proc.devRef .tc main_v73)) = t64x64x1_5 F (res_main_v61 V0) := by
  simp only [w2_s1, o1_1]; after_results_simp; simp only [w2_s0_arg6] <;> rfl
theorem w2_s1_v71 : w2_s1 V0 (no_index (Proc.devRef .tc main_v71)) = t64x64x1_4 F (res_main_v61 V0) := by
  simp only [w2_s1, o1_1]; after_results_simp; simp only [w2_s0_arg6] <;> rfl
theorem w2_s1_v69 : w2_s1 V0 (no_index (Proc.devRef .tc main_v69)) = t64x64x1_3 F (res_main_v61 V0) := by
  simp only [w2_s1, o1_1]; after_results_simp; simp only [w2_s0_arg6] <;> rfl
theorem w2_s1_v67 : w2_s1 V0 (no_index (Proc.devRef .tc main_v67)) = t64x64x1_2 F (res_main_v61 V0) := by
  simp only [w2_s1, o1_1]; after_results_simp; simp only [w2_s0_arg6] <;> rfl
theorem w2_s1_v65 : w2_s1 V0 (no_index (Proc.devRef .tc main_v65)) = t64x64x1_1 F (res_main_v61 V0) := by
  simp only [w2_s1, o1_1]; after_results_simp; simp only [w2_s0_arg6] <;> rfl
theorem w2_s1_v63 : w2_s1 V0 (no_index (Proc.devRef .tc main_v63)) = t64x64x1_0 F (res_main_v61 V0) := by
  simp only [w2_s1, o1_1]; after_results_simp; simp only [w2_s0_arg6] <;> rfl
theorem w2_s2_v98 : w2_s2 V0 (no_index (Proc.devRef .tc main_v98)) = t64x64x1_8 F (res_main_v80 V0) := by
  simp only [w2_s2, o1_2]; after_results_simp; simp only [w2_s1_arg8] <;> rfl
theorem w2_s2_v96 : w2_s2 V0 (no_index (Proc.devRef .tc main_v96)) = t64x64x1_7 F (res_main_v80 V0) := by
  simp only [w2_s2, o1_2]; after_results_simp; simp only [w2_s1_arg8] <;> rfl
theorem w2_s2_v94 : w2_s2 V0 (no_index (Proc.devRef .tc main_v94)) = t64x64x1_6 F (res_main_v80 V0) := by
  simp only [w2_s2, o1_2]; after_results_simp; simp only [w2_s1_arg8] <;> rfl
theorem w2_s2_v92 : w2_s2 V0 (no_index (Proc.devRef .tc main_v92)) = t64x64x1_5 F (res_main_v80 V0) := by
  simp only [w2_s2, o1_2]; after_results_simp; simp only [w2_s1_arg8] <;> rfl
theorem w2_s2_v90 : w2_s2 V0 (no_index (Proc.devRef .tc main_v90)) = t64x64x1_4 F (res_main_v80 V0) := by
  simp only [w2_s2, o1_2]; after_results_simp; simp only [w2_s1_arg8] <;> rfl
theorem w2_s2_v88 : w2_s2 V0 (no_index (Proc.devRef .tc main_v88)) = t64x64x1_3 F (res_main_v80 V0) := by
  simp only [w2_s2, o1_2]; after_results_simp; simp only [w2_s1_arg8] <;> rfl
theorem w2_s2_v86 : w2_s2 V0 (no_index (Proc.devRef .tc main_v86)) = t64x64x1_2 F (res_main_v80 V0) := by
  simp only [w2_s2, o1_2]; after_results_simp; simp only [w2_s1_arg8] <;> rfl
theorem w2_s2_v84 : w2_s2 V0 (no_index (Proc.devRef .tc main_v84)) = t64x64x1_1 F (res_main_v80 V0) := by
  simp only [w2_s2, o1_2]; after_results_simp; simp only [w2_s1_arg8] <;> rfl
theorem w2_s2_v82 : w2_s2 V0 (no_index (Proc.devRef .tc main_v82)) = t64x64x1_0 F (res_main_v80 V0) := by
  simp only [w2_s2, o1_2]; after_results_simp; simp only [w2_s1_arg8] <;> rfl
theorem w2_s2_arg12 : w2_s2 V0 (no_index (Proc.devRef .tc main_arg12)) = V0 (Proc.devRef .tc main_arg12) :=
  w2_s2_arg V0 main_arg12 (by decide)
theorem w2_arg12 : w2 V0 (no_index (Proc.devRef .tc main_arg12)) = V0 (Proc.devRef .tc main_arg12) :=
  w2_arg V0 main_arg12 (by decide)
theorem w2_v119 : w2 V0 (no_index (Proc.devRef .tc main_v119)) = t64x64x1_8 F (res_main_v101 V0) := by
  simp only [w2, o1_3]; after_results_simp; simp only [w2_s2_arg12] <;> rfl
theorem w2_v117 : w2 V0 (no_index (Proc.devRef .tc main_v117)) = t64x64x1_7 F (res_main_v101 V0) := by
  simp only [w2, o1_3]; after_results_simp; simp only [w2_s2_arg12] <;> rfl
theorem w2_v115 : w2 V0 (no_index (Proc.devRef .tc main_v115)) = t64x64x1_6 F (res_main_v101 V0) := by
  simp only [w2, o1_3]; after_results_simp; simp only [w2_s2_arg12] <;> rfl
theorem w2_v113 : w2 V0 (no_index (Proc.devRef .tc main_v113)) = t64x64x1_5 F (res_main_v101 V0) := by
  simp only [w2, o1_3]; after_results_simp; simp only [w2_s2_arg12] <;> rfl
theorem w2_v111 : w2 V0 (no_index (Proc.devRef .tc main_v111)) = t64x64x1_4 F (res_main_v101 V0) := by
  simp only [w2, o1_3]; after_results_simp; simp only [w2_s2_arg12] <;> rfl
theorem w2_v109 : w2 V0 (no_index (Proc.devRef .tc main_v109)) = t64x64x1_3 F (res_main_v101 V0) := by
  simp only [w2, o1_3]; after_results_simp; simp only [w2_s2_arg12] <;> rfl
theorem w2_v107 : w2 V0 (no_index (Proc.devRef .tc main_v107)) = t64x64x1_2 F (res_main_v101 V0) := by
  simp only [w2, o1_3]; after_results_simp; simp only [w2_s2_arg12] <;> rfl
theorem w2_v105 : w2 V0 (no_index (Proc.devRef .tc main_v105)) = t64x64x1_1 F (res_main_v101 V0) := by
  simp only [w2, o1_3]; after_results_simp; simp only [w2_s2_arg12] <;> rfl
theorem w2_v103 : w2 V0 (no_index (Proc.devRef .tc main_v103)) = t64x64x1_0 F (res_main_v101 V0) := by
  simp only [w2, o1_3]; after_results_simp; simp only [w2_s2_arg12] <;> rfl
theorem w3_s0_arg12 : w3_s0 V0 (no_index (Proc.devRef .tc main_arg12)) = V0 (Proc.devRef .tc main_arg12) :=
  w3_s0_arg V0 main_arg12 (by decide)
theorem w3_s0_v140 : w3_s0 V0 (no_index (Proc.devRef .tc main_v140)) = t64x64x1_8 F (res_main_v122 V0) := by
  simp only [w3_s0, o2_0]; after_results_simp; simp only [w2_arg12] <;> rfl
theorem w3_s0_v138 : w3_s0 V0 (no_index (Proc.devRef .tc main_v138)) = t64x64x1_7 F (res_main_v122 V0) := by
  simp only [w3_s0, o2_0]; after_results_simp; simp only [w2_arg12] <;> rfl
theorem w3_s0_v136 : w3_s0 V0 (no_index (Proc.devRef .tc main_v136)) = t64x64x1_6 F (res_main_v122 V0) := by
  simp only [w3_s0, o2_0]; after_results_simp; simp only [w2_arg12] <;> rfl
theorem w3_s0_v134 : w3_s0 V0 (no_index (Proc.devRef .tc main_v134)) = t64x64x1_5 F (res_main_v122 V0) := by
  simp only [w3_s0, o2_0]; after_results_simp; simp only [w2_arg12] <;> rfl
theorem w3_s0_v132 : w3_s0 V0 (no_index (Proc.devRef .tc main_v132)) = t64x64x1_4 F (res_main_v122 V0) := by
  simp only [w3_s0, o2_0]; after_results_simp; simp only [w2_arg12] <;> rfl
theorem w3_s0_v130 : w3_s0 V0 (no_index (Proc.devRef .tc main_v130)) = t64x64x1_3 F (res_main_v122 V0) := by
  simp only [w3_s0, o2_0]; after_results_simp; simp only [w2_arg12] <;> rfl
theorem w3_s0_v128 : w3_s0 V0 (no_index (Proc.devRef .tc main_v128)) = t64x64x1_2 F (res_main_v122 V0) := by
  simp only [w3_s0, o2_0]; after_results_simp; simp only [w2_arg12] <;> rfl
theorem w3_s0_v126 : w3_s0 V0 (no_index (Proc.devRef .tc main_v126)) = t64x64x1_1 F (res_main_v122 V0) := by
  simp only [w3_s0, o2_0]; after_results_simp; simp only [w2_arg12] <;> rfl
theorem w3_s0_v124 : w3_s0 V0 (no_index (Proc.devRef .tc main_v124)) = t64x64x1_0 F (res_main_v122 V0) := by
  simp only [w3_s0, o2_0]; after_results_simp; simp only [w2_arg12] <;> rfl
theorem w3_s1_v161 : w3_s1 V0 (no_index (Proc.devRef .tc main_v161)) = t64x64x1_8 F (res_main_v143 V0) := by
  simp only [w3_s1, o2_1]; after_results_simp; simp only [w3_s0_arg12] <;> rfl
theorem w3_s1_v159 : w3_s1 V0 (no_index (Proc.devRef .tc main_v159)) = t64x64x1_7 F (res_main_v143 V0) := by
  simp only [w3_s1, o2_1]; after_results_simp; simp only [w3_s0_arg12] <;> rfl
theorem w3_s1_v157 : w3_s1 V0 (no_index (Proc.devRef .tc main_v157)) = t64x64x1_6 F (res_main_v143 V0) := by
  simp only [w3_s1, o2_1]; after_results_simp; simp only [w3_s0_arg12] <;> rfl
theorem w3_s1_v155 : w3_s1 V0 (no_index (Proc.devRef .tc main_v155)) = t64x64x1_5 F (res_main_v143 V0) := by
  simp only [w3_s1, o2_1]; after_results_simp; simp only [w3_s0_arg12] <;> rfl
theorem w3_s1_v153 : w3_s1 V0 (no_index (Proc.devRef .tc main_v153)) = t64x64x1_4 F (res_main_v143 V0) := by
  simp only [w3_s1, o2_1]; after_results_simp; simp only [w3_s0_arg12] <;> rfl
theorem w3_s1_v151 : w3_s1 V0 (no_index (Proc.devRef .tc main_v151)) = t64x64x1_3 F (res_main_v143 V0) := by
  simp only [w3_s1, o2_1]; after_results_simp; simp only [w3_s0_arg12] <;> rfl
theorem w3_s1_v149 : w3_s1 V0 (no_index (Proc.devRef .tc main_v149)) = t64x64x1_2 F (res_main_v143 V0) := by
  simp only [w3_s1, o2_1]; after_results_simp; simp only [w3_s0_arg12] <;> rfl
theorem w3_s1_v147 : w3_s1 V0 (no_index (Proc.devRef .tc main_v147)) = t64x64x1_1 F (res_main_v143 V0) := by
  simp only [w3_s1, o2_1]; after_results_simp; simp only [w3_s0_arg12] <;> rfl
theorem w3_s1_v145 : w3_s1 V0 (no_index (Proc.devRef .tc main_v145)) = t64x64x1_0 F (res_main_v143 V0) := by
  simp only [w3_s1, o2_1]; after_results_simp; simp only [w3_s0_arg12] <;> rfl
theorem w3_s1_arg14 : w3_s1 V0 (no_index (Proc.devRef .tc main_arg14)) = V0 (Proc.devRef .tc main_arg14) :=
  w3_s1_arg V0 main_arg14 (by decide)
theorem w3_v179 : w3 V0 (no_index (Proc.devRef .tc main_v179)) = extractStridedSlice S64x64x1 ![0, 0, 7] (res_main_v164 V0) slices_S64x64x9_S64x64x1_0_0_7 := by
  simp only [w3, o2_2]; after_results_simp; simp only [w3_s1_arg14] <;> rfl
theorem w3_v164 : w3 V0 (no_index (Proc.devRef .tc main_v164)) = res_main_v164 V0 := by
  simp only [w3, o2_2]; after_results_simp; simp only [w3_s1_arg14] <;> rfl
theorem w3_v178 : w3 V0 (no_index (Proc.devRef .tc main_v178)) = t64x64x1_6 F (res_main_v164 V0) := by
  simp only [w3, o2_2]; after_results_simp; simp only [w3_s1_arg14] <;> rfl
theorem w3_v176 : w3 V0 (no_index (Proc.devRef .tc main_v176)) = t64x64x1_5 F (res_main_v164 V0) := by
  simp only [w3, o2_2]; after_results_simp; simp only [w3_s1_arg14] <;> rfl
theorem w3_v174 : w3 V0 (no_index (Proc.devRef .tc main_v174)) = t64x64x1_4 F (res_main_v164 V0) := by
  simp only [w3, o2_2]; after_results_simp; simp only [w3_s1_arg14] <;> rfl
theorem w3_v172 : w3 V0 (no_index (Proc.devRef .tc main_v172)) = t64x64x1_3 F (res_main_v164 V0) := by
  simp only [w3, o2_2]; after_results_simp; simp only [w3_s1_arg14] <;> rfl
theorem w3_v170 : w3 V0 (no_index (Proc.devRef .tc main_v170)) = t64x64x1_2 F (res_main_v164 V0) := by
  simp only [w3, o2_2]; after_results_simp; simp only [w3_s1_arg14] <;> rfl
theorem w3_v168 : w3 V0 (no_index (Proc.devRef .tc main_v168)) = t64x64x1_1 F (res_main_v164 V0) := by
  simp only [w3, o2_2]; after_results_simp; simp only [w3_s1_arg14] <;> rfl
theorem w3_v166 : w3 V0 (no_index (Proc.devRef .tc main_v166)) = t64x64x1_0 F (res_main_v164 V0) := by
  simp only [w3, o2_2]; after_results_simp; simp only [w3_s1_arg14] <;> rfl
theorem w4_s0_arg14 : w4_s0 V0 (no_index (Proc.devRef .tc main_arg14)) = V0 (Proc.devRef .tc main_arg14) :=
  w4_s0_arg V0 main_arg14 (by decide)
theorem w4_s0_v182 : w4_s0 V0 (no_index (Proc.devRef .tc main_v182)) = t64x64x1_8 F (res_main_v164 V0) := by
  simp only [w4_s0, o3_0]; after_results_simp; simp only [w3_v179, w3_v164] <;> rfl
theorem w4_s0_v180 : w4_s0 V0 (no_index (Proc.devRef .tc main_v180)) = t64x64x1_7 F (res_main_v164 V0) := by
  simp only [w4_s0, o3_0]; after_results_simp; simp only [w3_v179, w3_v164] <;> rfl
theorem w4_s1_arg14 : w4_s1 V0 (no_index (Proc.devRef .tc main_arg14)) = V0 (Proc.devRef .tc main_arg14) :=
  w4_s1_arg V0 main_arg14 (by decide)
theorem w4_s1_v203 : w4_s1 V0 (no_index (Proc.devRef .tc main_v203)) = t64x64x1_8 F (res_main_v185 V0) := by
  simp only [w4_s1, o3_1]; after_results_simp; simp only [w4_s0_arg14] <;> rfl
theorem w4_s1_v201 : w4_s1 V0 (no_index (Proc.devRef .tc main_v201)) = t64x64x1_7 F (res_main_v185 V0) := by
  simp only [w4_s1, o3_1]; after_results_simp; simp only [w4_s0_arg14] <;> rfl
theorem w4_s1_v199 : w4_s1 V0 (no_index (Proc.devRef .tc main_v199)) = t64x64x1_6 F (res_main_v185 V0) := by
  simp only [w4_s1, o3_1]; after_results_simp; simp only [w4_s0_arg14] <;> rfl
theorem w4_s1_v197 : w4_s1 V0 (no_index (Proc.devRef .tc main_v197)) = t64x64x1_5 F (res_main_v185 V0) := by
  simp only [w4_s1, o3_1]; after_results_simp; simp only [w4_s0_arg14] <;> rfl
theorem w4_s1_v195 : w4_s1 V0 (no_index (Proc.devRef .tc main_v195)) = t64x64x1_4 F (res_main_v185 V0) := by
  simp only [w4_s1, o3_1]; after_results_simp; simp only [w4_s0_arg14] <;> rfl
theorem w4_s1_v193 : w4_s1 V0 (no_index (Proc.devRef .tc main_v193)) = t64x64x1_3 F (res_main_v185 V0) := by
  simp only [w4_s1, o3_1]; after_results_simp; simp only [w4_s0_arg14] <;> rfl
theorem w4_s1_v191 : w4_s1 V0 (no_index (Proc.devRef .tc main_v191)) = t64x64x1_2 F (res_main_v185 V0) := by
  simp only [w4_s1, o3_1]; after_results_simp; simp only [w4_s0_arg14] <;> rfl
theorem w4_s1_v189 : w4_s1 V0 (no_index (Proc.devRef .tc main_v189)) = t64x64x1_1 F (res_main_v185 V0) := by
  simp only [w4_s1, o3_1]; after_results_simp; simp only [w4_s0_arg14] <;> rfl
theorem w4_s1_v187 : w4_s1 V0 (no_index (Proc.devRef .tc main_v187)) = t64x64x1_0 F (res_main_v185 V0) := by
  simp only [w4_s1, o3_1]; after_results_simp; simp only [w4_s0_arg14] <;> rfl
theorem w4_s2_arg16 : w4_s2 V0 (no_index (Proc.devRef .tc main_arg16)) = V0 (Proc.devRef .tc main_arg16) :=
  w4_s2_arg V0 main_arg16 (by decide)
theorem w4_s2_v224 : w4_s2 V0 (no_index (Proc.devRef .tc main_v224)) = t64x64x1_8 F (res_main_v206 V0) := by
  simp only [w4_s2, o3_2]; after_results_simp; simp only [w4_s1_arg14] <;> rfl
theorem w4_s2_v222 : w4_s2 V0 (no_index (Proc.devRef .tc main_v222)) = t64x64x1_7 F (res_main_v206 V0) := by
  simp only [w4_s2, o3_2]; after_results_simp; simp only [w4_s1_arg14] <;> rfl
theorem w4_s2_v220 : w4_s2 V0 (no_index (Proc.devRef .tc main_v220)) = t64x64x1_6 F (res_main_v206 V0) := by
  simp only [w4_s2, o3_2]; after_results_simp; simp only [w4_s1_arg14] <;> rfl
theorem w4_s2_v218 : w4_s2 V0 (no_index (Proc.devRef .tc main_v218)) = t64x64x1_5 F (res_main_v206 V0) := by
  simp only [w4_s2, o3_2]; after_results_simp; simp only [w4_s1_arg14] <;> rfl
theorem w4_s2_v216 : w4_s2 V0 (no_index (Proc.devRef .tc main_v216)) = t64x64x1_4 F (res_main_v206 V0) := by
  simp only [w4_s2, o3_2]; after_results_simp; simp only [w4_s1_arg14] <;> rfl
theorem w4_s2_v214 : w4_s2 V0 (no_index (Proc.devRef .tc main_v214)) = t64x64x1_3 F (res_main_v206 V0) := by
  simp only [w4_s2, o3_2]; after_results_simp; simp only [w4_s1_arg14] <;> rfl
theorem w4_s2_v212 : w4_s2 V0 (no_index (Proc.devRef .tc main_v212)) = t64x64x1_2 F (res_main_v206 V0) := by
  simp only [w4_s2, o3_2]; after_results_simp; simp only [w4_s1_arg14] <;> rfl
theorem w4_s2_v210 : w4_s2 V0 (no_index (Proc.devRef .tc main_v210)) = t64x64x1_1 F (res_main_v206 V0) := by
  simp only [w4_s2, o3_2]; after_results_simp; simp only [w4_s1_arg14] <;> rfl
theorem w4_s2_v208 : w4_s2 V0 (no_index (Proc.devRef .tc main_v208)) = t64x64x1_0 F (res_main_v206 V0) := by
  simp only [w4_s2, o3_2]; after_results_simp; simp only [w4_s1_arg14] <;> rfl
theorem w4_v225 : w4 V0 (no_index (Proc.devRef .tc main_v225)) = res_main_v225 V0 := by
  simp only [w4, o3_3]; after_results_simp; simp only [w4_s2_arg16] <;> rfl
theorem w4_v239 : w4 V0 (no_index (Proc.devRef .tc main_v239)) = t1x64x1_6 F (res_main_v225 V0) := by
  simp only [w4, o3_3]; after_results_simp; simp only [w4_s2_arg16] <;> rfl
theorem w4_v237 : w4 V0 (no_index (Proc.devRef .tc main_v237)) = t1x64x1_5 F (res_main_v225 V0) := by
  simp only [w4, o3_3]; after_results_simp; simp only [w4_s2_arg16] <;> rfl
theorem w4_v235 : w4 V0 (no_index (Proc.devRef .tc main_v235)) = t1x64x1_4 F (res_main_v225 V0) := by
  simp only [w4, o3_3]; after_results_simp; simp only [w4_s2_arg16] <;> rfl
theorem w4_v233 : w4 V0 (no_index (Proc.devRef .tc main_v233)) = t1x64x1_3 F (res_main_v225 V0) := by
  simp only [w4, o3_3]; after_results_simp; simp only [w4_s2_arg16] <;> rfl
theorem w4_v231 : w4 V0 (no_index (Proc.devRef .tc main_v231)) = t1x64x1_2 F (res_main_v225 V0) := by
  simp only [w4, o3_3]; after_results_simp; simp only [w4_s2_arg16] <;> rfl
theorem w4_v229 : w4 V0 (no_index (Proc.devRef .tc main_v229)) = t1x64x1_1 F (res_main_v225 V0) := by
  simp only [w4, o3_3]; after_results_simp; simp only [w4_s2_arg16] <;> rfl
theorem w4_v227 : w4 V0 (no_index (Proc.devRef .tc main_v227)) = t1x64x1_0 F (res_main_v225 V0) := by
  simp only [w4, o3_3]; after_results_simp; simp only [w4_s2_arg16] <;> rfl
theorem w5_s0_arg18 : w5_s0 V0 (no_index (Proc.devRef .tc main_arg18)) = V0 (Proc.devRef .tc main_arg18) :=
  w5_s0_arg V0 main_arg18 (by decide)
theorem w5_s0_v243 : w5_s0 V0 (no_index (Proc.devRef .tc main_v243)) = t1x64x1_8 F (res_main_v225 V0) := by
  simp only [w5_s0, o4_0]; after_results_simp; simp only [w4_v225] <;> rfl
theorem w5_s0_v241 : w5_s0 V0 (no_index (Proc.devRef .tc main_v241)) = t1x64x1_7 F (res_main_v225 V0) := by
  simp only [w5_s0, o4_0]; after_results_simp; simp only [w4_v225] <;> rfl
theorem w5_s1_arg20 : w5_s1 V0 (no_index (Proc.devRef .tc main_arg20)) = V0 (Proc.devRef .tc main_arg20) :=
  w5_s1_arg V0 main_arg20 (by decide)
theorem w5_s1_v262 : w5_s1 V0 (no_index (Proc.devRef .tc main_v262)) = t64x1x1_8 F (res_main_v244 V0) := by
  simp only [w5_s1, o4_1]; after_results_simp; simp only [w5_s0_arg18] <;> rfl
theorem w5_s1_v260 : w5_s1 V0 (no_index (Proc.devRef .tc main_v260)) = t64x1x1_7 F (res_main_v244 V0) := by
  simp only [w5_s1, o4_1]; after_results_simp; simp only [w5_s0_arg18] <;> rfl
theorem w5_s1_v258 : w5_s1 V0 (no_index (Proc.devRef .tc main_v258)) = t64x1x1_6 F (res_main_v244 V0) := by
  simp only [w5_s1, o4_1]; after_results_simp; simp only [w5_s0_arg18] <;> rfl
theorem w5_s1_v256 : w5_s1 V0 (no_index (Proc.devRef .tc main_v256)) = t64x1x1_5 F (res_main_v244 V0) := by
  simp only [w5_s1, o4_1]; after_results_simp; simp only [w5_s0_arg18] <;> rfl
theorem w5_s1_v254 : w5_s1 V0 (no_index (Proc.devRef .tc main_v254)) = t64x1x1_4 F (res_main_v244 V0) := by
  simp only [w5_s1, o4_1]; after_results_simp; simp only [w5_s0_arg18] <;> rfl
theorem w5_s1_v252 : w5_s1 V0 (no_index (Proc.devRef .tc main_v252)) = t64x1x1_3 F (res_main_v244 V0) := by
  simp only [w5_s1, o4_1]; after_results_simp; simp only [w5_s0_arg18] <;> rfl
theorem w5_s1_v250 : w5_s1 V0 (no_index (Proc.devRef .tc main_v250)) = t64x1x1_2 F (res_main_v244 V0) := by
  simp only [w5_s1, o4_1]; after_results_simp; simp only [w5_s0_arg18] <;> rfl
theorem w5_s1_v248 : w5_s1 V0 (no_index (Proc.devRef .tc main_v248)) = t64x1x1_1 F (res_main_v244 V0) := by
  simp only [w5_s1, o4_1]; after_results_simp; simp only [w5_s0_arg18] <;> rfl
theorem w5_s1_v246 : w5_s1 V0 (no_index (Proc.devRef .tc main_v246)) = t64x1x1_0 F (res_main_v244 V0) := by
  simp only [w5_s1, o4_1]; after_results_simp; simp only [w5_s0_arg18] <;> rfl
theorem w5_s2_arg20 : w5_s2 V0 (no_index (Proc.devRef .tc main_arg20)) = V0 (Proc.devRef .tc main_arg20) :=
  w5_s2_arg V0 main_arg20 (by decide)
theorem w5_s2_v283 : w5_s2 V0 (no_index (Proc.devRef .tc main_v283)) = t64x64x1_8 F (res_main_v265 V0) := by
  simp only [w5_s2, o4_2]; after_results_simp; simp only [w5_s1_arg20] <;> rfl
theorem w5_s2_v281 : w5_s2 V0 (no_index (Proc.devRef .tc main_v281)) = t64x64x1_7 F (res_main_v265 V0) := by
  simp only [w5_s2, o4_2]; after_results_simp; simp only [w5_s1_arg20] <;> rfl
theorem w5_s2_v279 : w5_s2 V0 (no_index (Proc.devRef .tc main_v279)) = t64x64x1_6 F (res_main_v265 V0) := by
  simp only [w5_s2, o4_2]; after_results_simp; simp only [w5_s1_arg20] <;> rfl
theorem w5_s2_v277 : w5_s2 V0 (no_index (Proc.devRef .tc main_v277)) = t64x64x1_5 F (res_main_v265 V0) := by
  simp only [w5_s2, o4_2]; after_results_simp; simp only [w5_s1_arg20] <;> rfl
theorem w5_s2_v275 : w5_s2 V0 (no_index (Proc.devRef .tc main_v275)) = t64x64x1_4 F (res_main_v265 V0) := by
  simp only [w5_s2, o4_2]; after_results_simp; simp only [w5_s1_arg20] <;> rfl
theorem w5_s2_v273 : w5_s2 V0 (no_index (Proc.devRef .tc main_v273)) = t64x64x1_3 F (res_main_v265 V0) := by
  simp only [w5_s2, o4_2]; after_results_simp; simp only [w5_s1_arg20] <;> rfl
theorem w5_s2_v271 : w5_s2 V0 (no_index (Proc.devRef .tc main_v271)) = t64x64x1_2 F (res_main_v265 V0) := by
  simp only [w5_s2, o4_2]; after_results_simp; simp only [w5_s1_arg20] <;> rfl
theorem w5_s2_v269 : w5_s2 V0 (no_index (Proc.devRef .tc main_v269)) = t64x64x1_1 F (res_main_v265 V0) := by
  simp only [w5_s2, o4_2]; after_results_simp; simp only [w5_s1_arg20] <;> rfl
theorem w5_s2_v267 : w5_s2 V0 (no_index (Proc.devRef .tc main_v267)) = t64x64x1_0 F (res_main_v265 V0) := by
  simp only [w5_s2, o4_2]; after_results_simp; simp only [w5_s1_arg20] <;> rfl
theorem w5_arg22 : w5 V0 (no_index (Proc.devRef .tc main_arg22)) = V0 (Proc.devRef .tc main_arg22) :=
  w5_arg V0 main_arg22 (by decide)
theorem w5_arg20 : w5 V0 (no_index (Proc.devRef .tc main_arg20)) = V0 (Proc.devRef .tc main_arg20) :=
  w5_arg V0 main_arg20 (by decide)
theorem w5_v286 : w5 V0 (no_index (Proc.devRef .tc main_v286)) = res_main_v286 V0 := by
  simp only [w5, o4_3]; after_results_simp; simp only [w5_s2_arg20] <;> rfl
theorem w5_v299 : w5 V0 (no_index (Proc.devRef .tc main_v299)) = extractStridedSlice S64x64x1 ![0, 0, 6] (res_main_v286 V0) slices_S64x64x9_S64x64x1_0_0_6 := by
  simp only [w5, o4_3]; after_results_simp; simp only [w5_s2_arg20] <;> rfl
theorem w5_v298 : w5 V0 (no_index (Proc.devRef .tc main_v298)) = t64x64x1_5 F (res_main_v286 V0) := by
  simp only [w5, o4_3]; after_results_simp; simp only [w5_s2_arg20] <;> rfl
theorem w5_v296 : w5 V0 (no_index (Proc.devRef .tc main_v296)) = t64x64x1_4 F (res_main_v286 V0) := by
  simp only [w5, o4_3]; after_results_simp; simp only [w5_s2_arg20] <;> rfl
theorem w5_v294 : w5 V0 (no_index (Proc.devRef .tc main_v294)) = t64x64x1_3 F (res_main_v286 V0) := by
  simp only [w5, o4_3]; after_results_simp; simp only [w5_s2_arg20] <;> rfl
theorem w5_v292 : w5 V0 (no_index (Proc.devRef .tc main_v292)) = t64x64x1_2 F (res_main_v286 V0) := by
  simp only [w5, o4_3]; after_results_simp; simp only [w5_s2_arg20] <;> rfl
theorem w5_v290 : w5 V0 (no_index (Proc.devRef .tc main_v290)) = t64x64x1_1 F (res_main_v286 V0) := by
  simp only [w5, o4_3]; after_results_simp; simp only [w5_s2_arg20] <;> rfl
theorem w5_v288 : w5 V0 (no_index (Proc.devRef .tc main_v288)) = t64x64x1_0 F (res_main_v286 V0) := by
  simp only [w5, o4_3]; after_results_simp; simp only [w5_s2_arg20] <;> rfl
theorem w5_1_v326 : w5_1 V0 (no_index (Proc.devRef .tc main_v326)) = res_main_v326 V0 := by
  simp only [w5_1, o5_0]; after_results_simp; simp only [w5_arg22] <;> rfl
theorem w5_1_v325 : w5_1 V0 (no_index (Proc.devRef .tc main_v325)) = t64x64x1_8 F (res_main_v307 V0) := by
  simp only [w5_1, o5_0]; after_results_simp; simp only [w5_arg20] <;> rfl
theorem w5_1_v304 : w5_1 V0 (no_index (Proc.devRef .tc main_v304)) = t64x64x1_8 F (res_main_v286 V0) := by
  simp only [w5_1, o5_0]; after_results_simp; simp only [w5_v286] <;> rfl
theorem w5_1_arg0 : w5_1 V0 (no_index (Proc.devRef .tc main_arg0)) = V0 (Proc.devRef .tc main_arg0) :=
  w5_1_arg V0 main_arg0 (by decide)
theorem w5_1_v6 : w5_1 V0 (no_index (Proc.devRef .tc main_v6)) = t64x1x1_2 F (res_main_v0 V0) :=
  (w5_1_back V0 main_v6 (by decide)).symm.trans ((w1_s0_back V0 main_v6 (by decide)).trans (w1_s0_v6 V0))
theorem w5_1_v4 : w5_1 V0 (no_index (Proc.devRef .tc main_v4)) = t64x1x1_1 F (res_main_v0 V0) :=
  (w5_1_back V0 main_v4 (by decide)).symm.trans ((w1_s0_back V0 main_v4 (by decide)).trans (w1_s0_v4 V0))
theorem w5_1_v2 : w5_1 V0 (no_index (Proc.devRef .tc main_v2)) = t64x1x1_0 F (res_main_v0 V0) :=
  (w5_1_back V0 main_v2 (by decide)).symm.trans ((w1_s0_back V0 main_v2 (by decide)).trans (w1_s0_v2 V0))
theorem w5_1_v302 : w5_1 V0 (no_index (Proc.devRef .tc main_v302)) = t64x64x1_7 F (res_main_v286 V0) := by
  simp only [w5_1, o5_0]; after_results_simp; simp only [w5_v286] <;> rfl
theorem w5_1_v300 : w5_1 V0 (no_index (Proc.devRef .tc main_v300)) = t64x64x1_6 F (res_main_v286 V0) := by
  simp only [w5_1, o5_0]; after_results_simp; simp only [w5_v299] <;> rfl
theorem w5_1_v323 : w5_1 V0 (no_index (Proc.devRef .tc main_v323)) = t64x64x1_7 F (res_main_v307 V0) := by
  simp only [w5_1, o5_0]; after_results_simp; simp only [w5_arg20] <;> rfl
theorem w5_1_v321 : w5_1 V0 (no_index (Proc.devRef .tc main_v321)) = t64x64x1_6 F (res_main_v307 V0) := by
  simp only [w5_1, o5_0]; after_results_simp; simp only [w5_arg20] <;> rfl
theorem w5_1_v319 : w5_1 V0 (no_index (Proc.devRef .tc main_v319)) = t64x64x1_5 F (res_main_v307 V0) := by
  simp only [w5_1, o5_0]; after_results_simp; simp only [w5_arg20] <;> rfl
theorem w5_1_v317 : w5_1 V0 (no_index (Proc.devRef .tc main_v317)) = t64x64x1_4 F (res_main_v307 V0) := by
  simp only [w5_1, o5_0]; after_results_simp; simp only [w5_arg20] <;> rfl
theorem w5_1_v315 : w5_1 V0 (no_index (Proc.devRef .tc main_v315)) = t64x64x1_3 F (res_main_v307 V0) := by
  simp only [w5_1, o5_0]; after_results_simp; simp only [w5_arg20] <;> rfl
theorem w5_1_v313 : w5_1 V0 (no_index (Proc.devRef .tc main_v313)) = t64x64x1_2 F (res_main_v307 V0) := by
  simp only [w5_1, o5_0]; after_results_simp; simp only [w5_arg20] <;> rfl
theorem w5_1_v311 : w5_1 V0 (no_index (Proc.devRef .tc main_v311)) = t64x64x1_1 F (res_main_v307 V0) := by
  simp only [w5_1, o5_0]; after_results_simp; simp only [w5_arg20] <;> rfl
theorem w5_1_v309 : w5_1 V0 (no_index (Proc.devRef .tc main_v309)) = t64x64x1_0 F (res_main_v307 V0) := by
  simp only [w5_1, o5_0]; after_results_simp; simp only [w5_arg20] <;> rfl
theorem w5_1_v329 : w5_1 V0 (no_index (Proc.devRef .tc main_v329)) = extractStridedSlice S1x64x1 ![0, 0, 1] (res_main_v326 V0) slices_S1x64x9_S1x64x1_0_0_1 := by
  simp only [w5_1, o5_0]; after_results_simp; simp only [w5_arg22] <;> rfl
theorem w5_1_v328 : w5_1 V0 (no_index (Proc.devRef .tc main_v328)) = t1x64x1_0 F (res_main_v326 V0) := by
  simp only [w5_1, o5_0]; after_results_simp; simp only [w5_arg22] <;> rfl
theorem w5_2_v344 : w5_2 V0 (no_index (Proc.devRef .tc main_v344)) = t1x64x1_8 F (res_main_v326 V0) := by
  simp only [w5_2, o5_1, TRef.binary, TRef.unary, TRef.toBuf, TRef.ofBuf, cast_eq]; after_results_simp; simp only [w5_1_v326] <;> rfl
theorem w5_2_v345 : w5_2 V0 (no_index (Proc.devRef .tc main_v345)) = res_main_v345 V0 := by
  simp only [w5_2, o5_1, TRef.binary, TRef.unary, TRef.toBuf, TRef.ofBuf, cast_eq]; after_results_simp; simp only [w5_1_arg0] <;> rfl
theorem w5_2_v8 : w5_2 V0 (no_index (Proc.devRef .tc main_v8)) = t64x1x1_3 F (res_main_v0 V0) :=
  (w5_2_back V0 main_v8 (by decide)).symm.trans ((w1_s0_back V0 main_v8 (by decide)).trans (w1_s0_v8 V0))
theorem w5_2_v356 : w5_2 V0 (no_index (Proc.devRef .tc main_v356)) = p1_10 F (res_main_v345 V0) := by
  simp only [w5_2, o5_1, TRef.binary, TRef.unary, TRef.toBuf, TRef.ofBuf, cast_eq]; after_results_simp; simp only [w5_1_arg0] <;> rfl
theorem w5_2_v355 : w5_2 V0 (no_index (Proc.devRef .tc main_v355)) = addf (addf (addf (z64 F) (d1_64 F (p1_00 F (res_main_v345 V0)) (t64x1x1_0 F (res_main_v0 V0)))) (d1_64 F (p1_01 F (res_main_v345 V0)) (t64x1x1_1 F (res_main_v0 V0)))) (d1_64 F (p1_02 F (res_main_v345 V0)) (t64x1x1_2 F (res_main_v0 V0))) := by
  simp only [w5_2, o5_1, TRef.binary, TRef.unary, TRef.toBuf, TRef.ofBuf, cast_eq]; after_results_simp; simp only [w5_1_v6, w5_1_arg0, w5_1_v4, w5_1_v2] <;> rfl
theorem w5_2_v342 : w5_2 V0 (no_index (Proc.devRef .tc main_v342)) = t1x64x1_7 F (res_main_v326 V0) := by
  simp only [w5_2, o5_1, TRef.binary, TRef.unary, TRef.toBuf, TRef.ofBuf, cast_eq]; after_results_simp; simp only [w5_1_v326] <;> rfl
theorem w5_2_v340 : w5_2 V0 (no_index (Proc.devRef .tc main_v340)) = t1x64x1_6 F (res_main_v326 V0) := by
  simp only [w5_2, o5_1, TRef.binary, TRef.unary, TRef.toBuf, TRef.ofBuf, cast_eq]; after_results_simp; simp only [w5_1_v326] <;> rfl
theorem w5_2_v338 : w5_2 V0 (no_index (Proc.devRef .tc main_v338)) = t1x64x1_5 F (res_main_v326 V0) := by
  simp only [w5_2, o5_1, TRef.binary, TRef.unary, TRef.toBuf, TRef.ofBuf, cast_eq]; after_results_simp; simp only [w5_1_v326] <;> rfl
theorem w5_2_v336 : w5_2 V0 (no_index (Proc.devRef .tc main_v336)) = t1x64x1_4 F (res_main_v326 V0) := by
  simp only [w5_2, o5_1, TRef.binary, TRef.unary, TRef.toBuf, TRef.ofBuf, cast_eq]; after_results_simp; simp only [w5_1_v326] <;> rfl
theorem w5_2_v334 : w5_2 V0 (no_index (Proc.devRef .tc main_v334)) = t1x64x1_3 F (res_main_v326 V0) := by
  simp only [w5_2, o5_1, TRef.binary, TRef.unary, TRef.toBuf, TRef.ofBuf, cast_eq]; after_results_simp; simp only [w5_1_v326] <;> rfl
theorem w5_2_v332 : w5_2 V0 (no_index (Proc.devRef .tc main_v332)) = t1x64x1_2 F (res_main_v326 V0) := by
  simp only [w5_2, o5_1, TRef.binary, TRef.unary, TRef.toBuf, TRef.ofBuf, cast_eq]; after_results_simp; simp only [w5_1_v326] <;> rfl
theorem w5_2_v330 : w5_2 V0 (no_index (Proc.devRef .tc main_v330)) = t1x64x1_1 F (res_main_v326 V0) := by
  simp only [w5_2, o5_1, TRef.binary, TRef.unary, TRef.toBuf, TRef.ofBuf, cast_eq]; after_results_simp; simp only [w5_1_v329] <;> rfl
theorem w6_arg5 : w6 V0 (no_index (Proc.devRef .tc main_arg5)) = V0 (Proc.devRef .tc main_arg5) :=
  w6_arg V0 main_arg5 (by decide)
theorem w6_arg3 : w6 V0 (no_index (Proc.devRef .tc main_arg3)) = V0 (Proc.devRef .tc main_arg3) :=
  w6_arg V0 main_arg3 (by decide)
theorem w6_v18 : w6 V0 (no_index (Proc.devRef .tc main_v18)) = t64x1x1_8 F (res_main_v0 V0) :=
  (w1_s0_back V0 main_v18 (by decide)).trans (w1_s0_v18 V0)
theorem w6_v345 : w6 V0 (no_index (Proc.devRef .tc main_v345)) = res_main_v345 V0 :=
  (w6_step V0 main_v345 (by decide)).trans (w5_2_v345 V0)
theorem w6_v16 : w6 V0 (no_index (Proc.devRef .tc main_v16)) = t64x1x1_7 F (res_main_v0 V0) :=
  (w1_s0_back V0 main_v16 (by decide)).trans (w1_s0_v16 V0)
theorem w6_v14 : w6 V0 (no_index (Proc.devRef .tc main_v14)) = t64x1x1_6 F (res_main_v0 V0) :=
  (w1_s0_back V0 main_v14 (by decide)).trans (w1_s0_v14 V0)
theorem w6_v12 : w6 V0 (no_index (Proc.devRef .tc main_v12)) = t64x1x1_5 F (res_main_v0 V0) :=
  (w1_s0_back V0 main_v12 (by decide)).trans (w1_s0_v12 V0)
theorem w6_v10 : w6 V0 (no_index (Proc.devRef .tc main_v10)) = t64x1x1_4 F (res_main_v0 V0) :=
  (w1_s0_back V0 main_v10 (by decide)).trans (w1_s0_v10 V0)
theorem w6_v357 : w6 V0 (no_index (Proc.devRef .tc main_v357)) = d1_64 F (p1_10 F (res_main_v345 V0)) (t64x1x1_3 F (res_main_v0 V0)) := by
  simp only [w6, o5_2]; after_results_simp; simp only [w5_2_v8, w5_2_v356] <;> rfl
theorem w6_v355 : w6 V0 (no_index (Proc.devRef .tc main_v355)) = addf (addf (addf (z64 F) (d1_64 F (p1_00 F (res_main_v345 V0)) (t64x1x1_0 F (res_main_v0 V0)))) (d1_64 F (p1_01 F (res_main_v345 V0)) (t64x1x1_1 F (res_main_v0 V0)))) (d1_64 F (p1_02 F (res_main_v345 V0)) (t64x1x1_2 F (res_main_v0 V0))) :=
  (w6_step V0 main_v355 (by decide)).trans (w5_2_v355 V0)
theorem w6_v23 : w6 V0 (no_index (Proc.devRef .tc main_v23)) = t64x64x1_0 F (res_main_v21 V0) :=
  (w1_s1_back V0 main_v23 (by decide)).trans (w1_s1_v23 V0)

end Cert.RefNet

end
-- ==== Proof.RefVals.lean ====
/- The reference's values after each stretch, as terms of the arguments. -/
module

public import proofs.«01_k».proof.Proof.RefTaps

@[expose] public section

set_option maxRecDepth 8192
set_option maxHeartbeats 4000000

noncomputable section

namespace Cert.RefNet

open Cert.ReferenceIdeal Cert.ReferenceIdeal.Gen Idealize.ShloMosaic Idealize.ShloMosaic.TcCoe Idealize.SL.Sem Idealize.ShloMosaic.StableHlo

variable {F : FTy → Type} [FloatOps F]

variable (V0 : Valuation τ sig (Elt F))

def ev410 : Dv F main_v410 := transpose S2x64x224x224 [0, 3, 1, 2] (addf (addf (addf (addf (addf (addf (addf (addf (addf (z64 F) (d64_64 F (p64_00 F (res_main_v381 V0)) (t64x64x1_0 F (res_main_v21 V0)))) (d64_64 F (p64_01 F (res_main_v381 V0)) (t64x64x1_1 F (res_main_v21 V0)))) (d64_64 F (p64_02 F (res_main_v381 V0)) (t64x64x1_2 F (res_main_v21 V0)))) (d64_64 F (p64_10 F (res_main_v381 V0)) (t64x64x1_3 F (res_main_v21 V0)))) (d64_64 F (p64_11 F (res_main_v381 V0)) (t64x64x1_4 F (res_main_v21 V0)))) (d64_64 F (p64_12 F (res_main_v381 V0)) (t64x64x1_5 F (res_main_v21 V0)))) (d64_64 F (p64_20 F (res_main_v381 V0)) (t64x64x1_6 F (res_main_v21 V0)))) (d64_64 F (p64_21 F (res_main_v381 V0)) (t64x64x1_7 F (res_main_v21 V0)))) (d64_64 F (p64_22 F (res_main_v381 V0)) (t64x64x1_8 F (res_main_v21 V0)))) transposes_S2x224x224x64_S2x64x224x224_0_3_1_2
def ev412 : Dv F main_v412 := broadcastInDim S2x64x224x224 ![0, 1, 2, 3] bcast_S1x64x1x1_S2x64x224x224_0_1_2_3 (broadcastInDim S1x64x1x1 ![1] bcast_S64_S1x64x1x1_1 (shapeCast _ (extractStridedSlice S1x64 ![0, 0] (V0 (Proc.devRef .tc main_arg5)) slices_S2x64_S1x64_0_0) shapeCasts_S1x64_S64))
def ev414 : Dv F main_v414 := maximumf (addf (ev410 V0) (ev412 V0)) (broadcastInDim S2x64x224x224 ![] bcast_S_S2x64x224x224 (constant S_ .f32 0x00000000#32))
def ev442 : Dv F main_v442 := addf (addf (addf (addf (addf (addf (addf (addf (z64 F) (d64_64 F (p64_00 F (res_main_v417 V0)) (t64x64x1_0 F (res_main_v42 V0)))) (d64_64 F (p64_01 F (res_main_v417 V0)) (t64x64x1_1 F (res_main_v42 V0)))) (d64_64 F (p64_02 F (res_main_v417 V0)) (t64x64x1_2 F (res_main_v42 V0)))) (d64_64 F (p64_10 F (res_main_v417 V0)) (t64x64x1_3 F (res_main_v42 V0)))) (d64_64 F (p64_11 F (res_main_v417 V0)) (t64x64x1_4 F (res_main_v42 V0)))) (d64_64 F (p64_12 F (res_main_v417 V0)) (t64x64x1_5 F (res_main_v42 V0)))) (d64_64 F (p64_20 F (res_main_v417 V0)) (t64x64x1_6 F (res_main_v42 V0)))) (d64_64 F (p64_21 F (res_main_v417 V0)) (t64x64x1_7 F (res_main_v42 V0)))
def ev467 : Dv F main_v467 := addf (addf (addf (addf (addf (z64 F) (d64_64 F (p64_00 F (res_main_v451 V0)) (t64x64x1_0 F (res_main_v61 V0)))) (d64_64 F (p64_01 F (res_main_v451 V0)) (t64x64x1_1 F (res_main_v61 V0)))) (d64_64 F (p64_02 F (res_main_v451 V0)) (t64x64x1_2 F (res_main_v61 V0)))) (d64_64 F (p64_10 F (res_main_v451 V0)) (t64x64x1_3 F (res_main_v61 V0)))) (d64_64 F (p64_11 F (res_main_v451 V0)) (t64x64x1_4 F (res_main_v61 V0)))
def ev470 : Dv F main_v470 := addf (ev467 V0) (d64_64 F (p64_12 F (res_main_v451 V0)) (t64x64x1_5 F (res_main_v61 V0)))
def ev483 : Dv F main_v483 := addf (transpose S2x64x224x224 [0, 3, 1, 2] (addf (addf (addf (ev470 V0) (d64_64 F (p64_20 F (res_main_v451 V0)) (t64x64x1_6 F (res_main_v61 V0)))) (d64_64 F (p64_21 F (res_main_v451 V0)) (t64x64x1_7 F (res_main_v61 V0)))) (d64_64 F (p64_22 F (res_main_v451 V0)) (t64x64x1_8 F (res_main_v61 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (V0 (Proc.devRef .tc main_arg7))))
def ev497 : Dv F main_v497 := addf (addf (addf (addf (z64 F) (d64_64 F (p64_00 F (res_main_v484 V0)) (t64x64x1_0 F (res_main_v80 V0)))) (d64_64 F (p64_01 F (res_main_v484 V0)) (t64x64x1_1 F (res_main_v80 V0)))) (d64_64 F (p64_02 F (res_main_v484 V0)) (t64x64x1_2 F (res_main_v80 V0)))) (d64_64 F (p64_10 F (res_main_v484 V0)) (t64x64x1_3 F (res_main_v80 V0)))
def ev517 : Dv F main_v517 := Host.exp (addf (transpose S2x64x224x224 [0, 3, 1, 2] (addf (addf (addf (addf (addf (ev497 V0) (d64_64 F (p64_11 F (res_main_v484 V0)) (t64x64x1_4 F (res_main_v80 V0)))) (d64_64 F (p64_12 F (res_main_v484 V0)) (t64x64x1_5 F (res_main_v80 V0)))) (d64_64 F (p64_20 F (res_main_v484 V0)) (t64x64x1_6 F (res_main_v80 V0)))) (d64_64 F (p64_21 F (res_main_v484 V0)) (t64x64x1_7 F (res_main_v80 V0)))) (d64_64 F (p64_22 F (res_main_v484 V0)) (t64x64x1_8 F (res_main_v80 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (V0 (Proc.devRef .tc main_arg9)))))
def ev525 : Dv F main_v525 := Host.divf (Host.reduceAdd (res_main_v522 V0) (constant S_ .f32 0x00000000#32) reducesTo_S2x64x224x224_S2x64_d2_3 h_S_) (broadcastInDim S2x64 ![] bcast_S_S2x64 (constant S_ .f32 0x47440000#32))
def ev526 : Dv F main_v526 := Host.dotGeneral dot_S2x64_S64x3_S2x3_1_0_0_1_n_n none (ev525 V0) (V0 (Proc.devRef .tc main_arg10))
def ev540 : Dv F main_v540 := Host.divf (res_main_v536 V0) (broadcastInDim S2x2 ![0, 1] bcast_S2x1_S2x2_0_1 (broadcastInDim S2x1 ![0] bcast_S2_S2x1_0 (Host.reduceAdd (res_main_v536 V0) (constant S_ .f32 0x00000000#32) reducesTo_S2x2_S2_d1 h_S_)))
def ev548 : Dv F main_v548 := select (cmpi .slt (res_main_v543 V0) (broadcastInDim S2x1 ![] bcast_S_S2x1 (constantI S_ 32 0#32))) (addi (res_main_v543 V0) (broadcastInDim S2x1 ![] bcast_S_S2x1 (constantI S_ 32 2#32))) (res_main_v543 V0)
def ev558 : Dv F main_v558 := Host.scatter scatter_S2x3_S2x2x2_S2x2_n_01_01_2 (fun _ b => b) (broadcastInDim S2x3 ![] bcast_S_S2x3 (constant S_ .f32 0x00000000#32)) (concatenate S2x2x2 2 [⟨S2x2x1, (broadcastInDim S2x2x1 ![0, 1] bcast_S2x2_S2x2x1_0_1 (broadcastInDim S2x2 ![0, 1] bcast_S2x1_S2x2_0_1 (ev548 V0)))⟩, ⟨S2x2x1, (broadcastInDim S2x2x1 ![0, 1] bcast_S2x2_S2x2x1_0_1 (select (cmpi .slt (res_main_indices V0) (broadcastInDim S2x2 ![] bcast_S_S2x2 (constantI S_ 32 0#32))) (addi (res_main_indices V0) (broadcastInDim S2x2 ![] bcast_S_S2x2 (constantI S_ 32 3#32))) (res_main_indices V0)))⟩] concatenates_S2x2x1_S2x2x1_S2x2x2_d2) (ev540 V0)
def ev571 : Dv F main_v571 := addf (addf (addf (z64 F) (d64_64 F (p64_00 F (res_main_v561 V0)) (t64x64x1_0 F (res_main_v101 V0)))) (d64_64 F (p64_01 F (res_main_v561 V0)) (t64x64x1_1 F (res_main_v101 V0)))) (d64_64 F (p64_02 F (res_main_v561 V0)) (t64x64x1_2 F (res_main_v101 V0)))
def ev574 : Dv F main_v574 := addf (ev571 V0) (d64_64 F (p64_10 F (res_main_v561 V0)) (t64x64x1_3 F (res_main_v101 V0)))
def ev629 : Dv F main_v629 := addf (transpose S2x64x224x224 [0, 3, 1, 2] (addf (addf (addf (addf (addf (addf (addf (addf (addf (z64 F) (d64_64 F (p64_00 F (res_main_v597 V0)) (t64x64x1_0 F (res_main_v164 V0)))) (d64_64 F (p64_01 F (res_main_v597 V0)) (t64x64x1_1 F (res_main_v164 V0)))) (d64_64 F (p64_02 F (res_main_v597 V0)) (t64x64x1_2 F (res_main_v164 V0)))) (d64_64 F (p64_10 F (res_main_v597 V0)) (t64x64x1_3 F (res_main_v164 V0)))) (d64_64 F (p64_11 F (res_main_v597 V0)) (t64x64x1_4 F (res_main_v164 V0)))) (d64_64 F (p64_12 F (res_main_v597 V0)) (t64x64x1_5 F (res_main_v164 V0)))) (d64_64 F (p64_20 F (res_main_v597 V0)) (t64x64x1_6 F (res_main_v164 V0)))) (d64_64 F (p64_21 F (res_main_v597 V0)) (t64x64x1_7 F (res_main_v164 V0)))) (d64_64 F (p64_22 F (res_main_v597 V0)) (t64x64x1_8 F (res_main_v164 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![0, 0] (V0 (Proc.devRef .tc main_arg15)) slices_S3x64_S1x64_0_0) shapeCasts_S1x64_S64)))
def ev657 : Dv F main_v657 := addf (addf (addf (addf (addf (addf (addf (addf (z64 F) (d64_64 F (p64_00 F (res_main_v632 V0)) (t64x64x1_0 F (res_main_v122 V0)))) (d64_64 F (p64_01 F (res_main_v632 V0)) (t64x64x1_1 F (res_main_v122 V0)))) (d64_64 F (p64_02 F (res_main_v632 V0)) (t64x64x1_2 F (res_main_v122 V0)))) (d64_64 F (p64_10 F (res_main_v632 V0)) (t64x64x1_3 F (res_main_v122 V0)))) (d64_64 F (p64_11 F (res_main_v632 V0)) (t64x64x1_4 F (res_main_v122 V0)))) (d64_64 F (p64_12 F (res_main_v632 V0)) (t64x64x1_5 F (res_main_v122 V0)))) (d64_64 F (p64_20 F (res_main_v632 V0)) (t64x64x1_6 F (res_main_v122 V0)))) (d64_64 F (p64_21 F (res_main_v632 V0)) (t64x64x1_7 F (res_main_v122 V0)))
def ev684 : Dv F main_v684 := addf (addf (addf (addf (addf (z64 F) (d64_64 F (p64_00 F (res_main_v668 V0)) (t64x64x1_0 F (res_main_v185 V0)))) (d64_64 F (p64_01 F (res_main_v668 V0)) (t64x64x1_1 F (res_main_v185 V0)))) (d64_64 F (p64_02 F (res_main_v668 V0)) (t64x64x1_2 F (res_main_v185 V0)))) (d64_64 F (p64_10 F (res_main_v668 V0)) (t64x64x1_3 F (res_main_v185 V0)))) (d64_64 F (p64_11 F (res_main_v668 V0)) (t64x64x1_4 F (res_main_v185 V0)))
def ev687 : Dv F main_v687 := addf (ev684 V0) (d64_64 F (p64_12 F (res_main_v668 V0)) (t64x64x1_5 F (res_main_v185 V0)))
def ev700 : Dv F main_v700 := addf (transpose S2x64x224x224 [0, 3, 1, 2] (addf (addf (addf (ev687 V0) (d64_64 F (p64_20 F (res_main_v668 V0)) (t64x64x1_6 F (res_main_v185 V0)))) (d64_64 F (p64_21 F (res_main_v668 V0)) (t64x64x1_7 F (res_main_v185 V0)))) (d64_64 F (p64_22 F (res_main_v668 V0)) (t64x64x1_8 F (res_main_v185 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![1, 0] (V0 (Proc.devRef .tc main_arg15)) slices_S3x64_S1x64_1_0) shapeCasts_S1x64_S64)))
def ev713 : Dv F main_v713 := addf (addf (addf (z64 F) (d64_64 F (p64_00 F (res_main_v703 V0)) (t64x64x1_0 F (res_main_v143 V0)))) (d64_64 F (p64_01 F (res_main_v703 V0)) (t64x64x1_1 F (res_main_v143 V0)))) (d64_64 F (p64_02 F (res_main_v703 V0)) (t64x64x1_2 F (res_main_v143 V0)))
def ev772 : Dv F main_v772 := broadcastInDim S1x2x64x224x224 ![1, 2, 3, 4] bcast_S2x64x224x224_S1x2x64x224x224_1_2_3_4 (ev629 V0)
def ev773 : Dv F main_v773 := broadcastInDim S1x2x64x224x224 ![1, 2, 3, 4] bcast_S2x64x224x224_S1x2x64x224x224_1_2_3_4 (ev700 V0)
def ev774 : Dv F main_v774 := broadcastInDim S1x2x64x224x224 ![1, 2, 3, 4] bcast_S2x64x224x224_S1x2x64x224x224_1_2_3_4 (addf (transpose S2x64x224x224 [0, 3, 1, 2] (addf (addf (addf (addf (addf (addf (addf (addf (addf (z64 F) (d64_64 F (p64_00 F (res_main_v739 V0)) (t64x64x1_0 F (res_main_v206 V0)))) (d64_64 F (p64_01 F (res_main_v739 V0)) (t64x64x1_1 F (res_main_v206 V0)))) (d64_64 F (p64_02 F (res_main_v739 V0)) (t64x64x1_2 F (res_main_v206 V0)))) (d64_64 F (p64_10 F (res_main_v739 V0)) (t64x64x1_3 F (res_main_v206 V0)))) (d64_64 F (p64_11 F (res_main_v739 V0)) (t64x64x1_4 F (res_main_v206 V0)))) (d64_64 F (p64_12 F (res_main_v739 V0)) (t64x64x1_5 F (res_main_v206 V0)))) (d64_64 F (p64_20 F (res_main_v739 V0)) (t64x64x1_6 F (res_main_v206 V0)))) (d64_64 F (p64_21 F (res_main_v739 V0)) (t64x64x1_7 F (res_main_v206 V0)))) (d64_64 F (p64_22 F (res_main_v739 V0)) (t64x64x1_8 F (res_main_v206 V0)))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 (shapeCast _ (extractStridedSlice S1x64 ![2, 0] (V0 (Proc.devRef .tc main_arg15)) slices_S3x64_S1x64_2_0) shapeCasts_S1x64_S64))))
def ev799 : Dv F main_v799 := addf (addf (addf (addf (addf (addf (addf (z1 F) (d64_1 F (p64_00 F (res_main_v777 V0)) (t1x64x1_0 F (res_main_v225 V0)))) (d64_1 F (p64_01 F (res_main_v777 V0)) (t1x64x1_1 F (res_main_v225 V0)))) (d64_1 F (p64_02 F (res_main_v777 V0)) (t1x64x1_2 F (res_main_v225 V0)))) (d64_1 F (p64_10 F (res_main_v777 V0)) (t1x64x1_3 F (res_main_v225 V0)))) (d64_1 F (p64_11 F (res_main_v777 V0)) (t1x64x1_4 F (res_main_v225 V0)))) (d64_1 F (p64_12 F (res_main_v777 V0)) (t1x64x1_5 F (res_main_v225 V0)))) (d64_1 F (p64_20 F (res_main_v777 V0)) (t1x64x1_6 F (res_main_v225 V0)))
def ev802 : Dv F main_v802 := addf (ev799 V0) (d64_1 F (p64_21 F (res_main_v777 V0)) (t1x64x1_7 F (res_main_v225 V0)))
def ev809 : Dv F main_v809 := addf (transpose S2x1x224x224 [0, 3, 1, 2] (addf (ev802 V0) (d64_1 F (p64_22 F (res_main_v777 V0)) (t1x64x1_8 F (res_main_v225 V0)))) transposes_S2x224x224x1_S2x1x224x224_0_3_1_2) (broadcastInDim S2x1x224x224 ![0, 1, 2, 3] bcast_S1x1x1x1_S2x1x224x224_0_1_2_3 (broadcastInDim S1x1x1x1 ![1] bcast_S1_S1x1x1x1_1 (V0 (Proc.devRef .tc main_arg17))))
def ev827 : Dv F main_v827 := addf (addf (addf (addf (addf (z64 F) (d1_64 F (p1_00 F (res_main_v811 V0)) (t64x1x1_0 F (res_main_v244 V0)))) (d1_64 F (p1_01 F (res_main_v811 V0)) (t64x1x1_1 F (res_main_v244 V0)))) (d1_64 F (p1_02 F (res_main_v811 V0)) (t64x1x1_2 F (res_main_v244 V0)))) (d1_64 F (p1_10 F (res_main_v811 V0)) (t64x1x1_3 F (res_main_v244 V0)))) (d1_64 F (p1_11 F (res_main_v811 V0)) (t64x1x1_4 F (res_main_v244 V0)))
def ev854 : Dv F main_v854 := addf (addf (z64 F) (d64_64 F (p64_00 F (res_main_v847 V0)) (t64x64x1_0 F (res_main_v265 V0)))) (d64_64 F (p64_01 F (res_main_v847 V0)) (t64x64x1_1 F (res_main_v265 V0)))
def ev857 : Dv F main_v857 := addf (ev854 V0) (d64_64 F (p64_02 F (res_main_v847 V0)) (t64x64x1_2 F (res_main_v265 V0)))
def ev912 : Dv F main_v912 := transpose S2x64x224x224 [0, 3, 1, 2] (addf (addf (addf (addf (addf (addf (addf (addf (addf (z64 F) (d64_64 F (p64_00 F (res_main_v883 V0)) (t64x64x1_0 F (res_main_v286 V0)))) (d64_64 F (p64_01 F (res_main_v883 V0)) (t64x64x1_1 F (res_main_v286 V0)))) (d64_64 F (p64_02 F (res_main_v883 V0)) (t64x64x1_2 F (res_main_v286 V0)))) (d64_64 F (p64_10 F (res_main_v883 V0)) (t64x64x1_3 F (res_main_v286 V0)))) (d64_64 F (p64_11 F (res_main_v883 V0)) (t64x64x1_4 F (res_main_v286 V0)))) (d64_64 F (p64_12 F (res_main_v883 V0)) (t64x64x1_5 F (res_main_v286 V0)))) (d64_64 F (p64_20 F (res_main_v883 V0)) (t64x64x1_6 F (res_main_v286 V0)))) (d64_64 F (p64_21 F (res_main_v883 V0)) (t64x64x1_7 F (res_main_v286 V0)))) (d64_64 F (p64_22 F (res_main_v883 V0)) (t64x64x1_8 F (res_main_v286 V0)))) transposes_S2x224x224x64_S2x64x224x224_0_3_1_2
def ev913 : Dv F main_v913 := broadcastInDim S1x64x1x1 ![1] bcast_S64_S1x64x1x1_1 (shapeCast _ (extractStridedSlice S1x64 ![1, 0] (V0 (Proc.devRef .tc main_arg21)) slices_S3x64_S1x64_1_0) shapeCasts_S1x64_S64)
def ev916 : Dv F main_v916 := maximumf (addf (ev912 V0) (broadcastInDim S2x64x224x224 ![0, 1, 2, 3] bcast_S1x64x1x1_S2x64x224x224_0_1_2_3 (ev913 V0))) (broadcastInDim S2x64x224x224 ![] bcast_S_S2x64x224x224 (constant S_ .f32 0x00000000#32))
def ev941 : Dv F main_v941 := addf (addf (addf (addf (addf (addf (addf (z64 F) (d64_64 F (p64_00 F (res_main_v919 V0)) (t64x64x1_0 F (res_main_v307 V0)))) (d64_64 F (p64_01 F (res_main_v919 V0)) (t64x64x1_1 F (res_main_v307 V0)))) (d64_64 F (p64_02 F (res_main_v919 V0)) (t64x64x1_2 F (res_main_v307 V0)))) (d64_64 F (p64_10 F (res_main_v919 V0)) (t64x64x1_3 F (res_main_v307 V0)))) (d64_64 F (p64_11 F (res_main_v919 V0)) (t64x64x1_4 F (res_main_v307 V0)))) (d64_64 F (p64_12 F (res_main_v919 V0)) (t64x64x1_5 F (res_main_v307 V0)))) (d64_64 F (p64_20 F (res_main_v919 V0)) (t64x64x1_6 F (res_main_v307 V0)))
def ev966 : Dv F main_v966 := addf (addf (addf (addf (z1 F) (d64_1 F (p64_00 F (res_main_v953 V0)) (t1x64x1_0 F (res_main_v326 V0)))) (d64_1 F (p64_01 F (res_main_v953 V0)) (t1x64x1_1 F (res_main_v326 V0)))) (d64_1 F (p64_02 F (res_main_v953 V0)) (t1x64x1_2 F (res_main_v326 V0)))) (d64_1 F (p64_10 F (res_main_v953 V0)) (t1x64x1_3 F (res_main_v326 V0)))
def ev972 : Dv F main_v972 := addf (addf (ev966 V0) (d64_1 F (p64_11 F (res_main_v953 V0)) (t1x64x1_4 F (res_main_v326 V0)))) (d64_1 F (p64_12 F (res_main_v953 V0)) (t1x64x1_5 F (res_main_v326 V0)))
def ev985 : Dv F main_v985 := addf (transpose S2x1x224x224 [0, 3, 1, 2] (addf (addf (addf (ev972 V0) (d64_1 F (p64_20 F (res_main_v953 V0)) (t1x64x1_6 F (res_main_v326 V0)))) (d64_1 F (p64_21 F (res_main_v953 V0)) (t1x64x1_7 F (res_main_v326 V0)))) (d64_1 F (p64_22 F (res_main_v953 V0)) (t1x64x1_8 F (res_main_v326 V0)))) transposes_S2x224x224x1_S2x1x224x224_0_3_1_2) (broadcastInDim S2x1x224x224 ![0, 1, 2, 3] bcast_S1x1x1x1_S2x1x224x224_0_1_2_3 (broadcastInDim S1x1x1x1 ![1] bcast_S1_S1x1x1x1_1 (V0 (Proc.devRef .tc main_arg23))))
theorem w6_1_v380 : w6_1 V0 (no_index (Proc.devRef .tc main_v380)) = shapeCast _ (extractStridedSlice S1x64 ![0, 0] (V0 (Proc.devRef .tc main_arg5)) slices_S2x64_S1x64_0_0) shapeCasts_S1x64_S64 := by
  simp only [w6_1, o6_0, TRef.binary, TRef.nullary, TRef.unary, TRef.toBuf, TRef.ofBuf, cast_eq]; after_results_simp; simp only [w6_arg5] <;> rfl
theorem w6_1_v39 : w6_1 V0 (no_index (Proc.devRef .tc main_v39)) = t64x64x1_8 F (res_main_v21 V0) :=
  (w6_1_low V0 main_v39 (by decide)).trans ((w1_s1_back V0 main_v39 (by decide)).trans (w1_s1_v39 V0))
theorem w6_1_v381 : w6_1 V0 (no_index (Proc.devRef .tc main_v381)) = res_main_v381 V0 := by
  simp only [w6_1, o6_0, TRef.binary, TRef.nullary, TRef.unary, TRef.toBuf, TRef.ofBuf, cast_eq]; after_results_simp; simp only [w6_arg3, w6_v18, w6_v345, w6_v16, w6_v14, w6_v12, w6_v10, w6_v357, w6_v355] <;> rfl
theorem w6_1_v37 : w6_1 V0 (no_index (Proc.devRef .tc main_v37)) = t64x64x1_7 F (res_main_v21 V0) :=
  (w6_1_low V0 main_v37 (by decide)).trans ((w1_s1_back V0 main_v37 (by decide)).trans (w1_s1_v37 V0))
theorem w6_1_v35 : w6_1 V0 (no_index (Proc.devRef .tc main_v35)) = t64x64x1_6 F (res_main_v21 V0) :=
  (w6_1_low V0 main_v35 (by decide)).trans ((w1_s1_back V0 main_v35 (by decide)).trans (w1_s1_v35 V0))
theorem w6_1_v33 : w6_1 V0 (no_index (Proc.devRef .tc main_v33)) = t64x64x1_5 F (res_main_v21 V0) :=
  (w6_1_low V0 main_v33 (by decide)).trans ((w1_s1_back V0 main_v33 (by decide)).trans (w1_s1_v33 V0))
theorem w6_1_v31 : w6_1 V0 (no_index (Proc.devRef .tc main_v31)) = t64x64x1_4 F (res_main_v21 V0) :=
  (w6_1_low V0 main_v31 (by decide)).trans ((w1_s1_back V0 main_v31 (by decide)).trans (w1_s1_v31 V0))
theorem w6_1_v29 : w6_1 V0 (no_index (Proc.devRef .tc main_v29)) = t64x64x1_3 F (res_main_v21 V0) :=
  (w6_1_low V0 main_v29 (by decide)).trans ((w1_s1_back V0 main_v29 (by decide)).trans (w1_s1_v29 V0))
theorem w6_1_v27 : w6_1 V0 (no_index (Proc.devRef .tc main_v27)) = t64x64x1_2 F (res_main_v21 V0) :=
  (w6_1_low V0 main_v27 (by decide)).trans ((w1_s1_back V0 main_v27 (by decide)).trans (w1_s1_v27 V0))
theorem w6_1_v25 : w6_1 V0 (no_index (Proc.devRef .tc main_v25)) = t64x64x1_1 F (res_main_v21 V0) :=
  (w6_1_low V0 main_v25 (by decide)).trans ((w1_s1_back V0 main_v25 (by decide)).trans (w1_s1_v25 V0))
theorem w6_1_v383 : w6_1 V0 (no_index (Proc.devRef .tc main_v383)) = d64_64 F (p64_00 F (res_main_v381 V0)) (t64x64x1_0 F (res_main_v21 V0)) := by
  simp only [w6_1, o6_0, TRef.binary, TRef.nullary, TRef.unary, TRef.toBuf, TRef.ofBuf, cast_eq]; after_results_simp; simp only [w6_v23, w6_arg3, w6_v18, w6_v345, w6_v16, w6_v14, w6_v12, w6_v10, w6_v357, w6_v355] <;> rfl
theorem w6_2_arg5 : w6_2 V0 (no_index (Proc.devRef .tc main_arg5)) = V0 (Proc.devRef .tc main_arg5) :=
  w6_2_arg V0 main_arg5 (by decide)
theorem w6_2_v412 : w6_2 V0 (no_index (Proc.devRef .tc main_v412)) = ev412 V0 := by
  simp only [w6_2, o6_1]; after_results_simp; simp only [w6_1_v380] <;> rfl
theorem w6_2_v410 : w6_2 V0 (no_index (Proc.devRef .tc main_v410)) = ev410 V0 := by
  simp only [w6_2, o6_1]; after_results_simp; simp only [w6_1_v39, w6_1_v381, w6_1_v37, w6_1_v35, w6_1_v33, w6_1_v31, w6_1_v29, w6_1_v27, w6_1_v25, w6_1_v383] <;> rfl
theorem w7_v415 : w7 V0 (no_index (Proc.devRef .tc main_v415)) = extractStridedSlice S1x64 ![1, 0] (V0 (Proc.devRef .tc main_arg5)) slices_S2x64_S1x64_1_0 := by
  simp only [w7, o6_2, TRef.binary, TRef.nullary, TRef.unary, TRef.toBuf, TRef.ofBuf, cast_eq]; after_results_simp; simp only [w6_2_arg5] <;> rfl
theorem w7_v414 : w7 V0 (no_index (Proc.devRef .tc main_v414)) = ev414 V0 := by
  simp only [w7, o6_2, TRef.binary, TRef.nullary, TRef.unary, TRef.toBuf, TRef.ofBuf, cast_eq]; after_results_simp; simp only [w6_2_v412, w6_2_v410] <;> rfl
theorem w7_v58 : w7 V0 (no_index (Proc.devRef .tc main_v58)) = t64x64x1_7 F (res_main_v42 V0) :=
  (w7_low V0 main_v58 (by decide)).trans ((w1_back V0 main_v58 (by decide)).trans (w1_v58 V0))
theorem w7_v56 : w7 V0 (no_index (Proc.devRef .tc main_v56)) = t64x64x1_6 F (res_main_v42 V0) :=
  (w7_low V0 main_v56 (by decide)).trans ((w1_back V0 main_v56 (by decide)).trans (w1_v56 V0))
theorem w7_v54 : w7 V0 (no_index (Proc.devRef .tc main_v54)) = t64x64x1_5 F (res_main_v42 V0) :=
  (w7_low V0 main_v54 (by decide)).trans ((w1_back V0 main_v54 (by decide)).trans (w1_v54 V0))
theorem w7_v52 : w7 V0 (no_index (Proc.devRef .tc main_v52)) = t64x64x1_4 F (res_main_v42 V0) :=
  (w7_low V0 main_v52 (by decide)).trans ((w1_back V0 main_v52 (by decide)).trans (w1_v52 V0))
theorem w7_v50 : w7 V0 (no_index (Proc.devRef .tc main_v50)) = t64x64x1_3 F (res_main_v42 V0) :=
  (w7_low V0 main_v50 (by decide)).trans ((w1_back V0 main_v50 (by decide)).trans (w1_v50 V0))
theorem w7_v48 : w7 V0 (no_index (Proc.devRef .tc main_v48)) = t64x64x1_2 F (res_main_v42 V0) :=
  (w7_low V0 main_v48 (by decide)).trans ((w1_back V0 main_v48 (by decide)).trans (w1_v48 V0))
theorem w7_v46 : w7 V0 (no_index (Proc.devRef .tc main_v46)) = t64x64x1_1 F (res_main_v42 V0) :=
  (w7_low V0 main_v46 (by decide)).trans ((w1_back V0 main_v46 (by decide)).trans (w1_v46 V0))
theorem w7_v44 : w7 V0 (no_index (Proc.devRef .tc main_v44)) = t64x64x1_0 F (res_main_v42 V0) :=
  (w7_low V0 main_v44 (by decide)).trans ((w1_back V0 main_v44 (by decide)).trans (w1_v44 V0))
theorem w7_1_v416 : w7_1 V0 (no_index (Proc.devRef .tc main_v416)) = shapeCast _ (extractStridedSlice S1x64 ![1, 0] (V0 (Proc.devRef .tc main_arg5)) slices_S2x64_S1x64_1_0) shapeCasts_S1x64_S64 := by
  simp only [w7_1, o7_0, TRef.binary, TRef.unary, TRef.toBuf, TRef.ofBuf, cast_eq]; after_results_simp; simp only [w7_v415] <;> rfl
theorem w7_1_v60 : w7_1 V0 (no_index (Proc.devRef .tc main_v60)) = t64x64x1_8 F (res_main_v42 V0) :=
  (w7_1_low V0 main_v60 (by decide)).trans ((w2_s0_back V0 main_v60 (by decide)).trans (w2_s0_v60 V0))
theorem w7_1_v417 : w7_1 V0 (no_index (Proc.devRef .tc main_v417)) = res_main_v417 V0 := by
  simp only [w7_1, o7_0, TRef.binary, TRef.unary, TRef.toBuf, TRef.ofBuf, cast_eq]; after_results_simp; simp only [w7_v414] <;> rfl
theorem w7_1_v442 : w7_1 V0 (no_index (Proc.devRef .tc main_v442)) = ev442 V0 := by
  simp only [w7_1, o7_0, TRef.binary, TRef.unary, TRef.toBuf, TRef.ofBuf, cast_eq]; after_results_simp; simp only [w7_v58, w7_v414, w7_v56, w7_v54, w7_v52, w7_v50, w7_v48, w7_v46, w7_v44] <;> rfl
theorem w7_1_v71 : w7_1 V0 (no_index (Proc.devRef .tc main_v71)) = t64x64x1_4 F (res_main_v61 V0) :=
  (w7_1_low V0 main_v71 (by decide)).trans ((w2_s1_back V0 main_v71 (by decide)).trans (w2_s1_v71 V0))
theorem w7_1_v69 : w7_1 V0 (no_index (Proc.devRef .tc main_v69)) = t64x64x1_3 F (res_main_v61 V0) :=
  (w7_1_low V0 main_v69 (by decide)).trans ((w2_s1_back V0 main_v69 (by decide)).trans (w2_s1_v69 V0))
theorem w7_1_v67 : w7_1 V0 (no_index (Proc.devRef .tc main_v67)) = t64x64x1_2 F (res_main_v61 V0) :=
  (w7_1_low V0 main_v67 (by decide)).trans ((w2_s1_back V0 main_v67 (by decide)).trans (w2_s1_v67 V0))
theorem w7_1_v65 : w7_1 V0 (no_index (Proc.devRef .tc main_v65)) = t64x64x1_1 F (res_main_v61 V0) :=
  (w7_1_low V0 main_v65 (by decide)).trans ((w2_s1_back V0 main_v65 (by decide)).trans (w2_s1_v65 V0))
theorem w7_1_v63 : w7_1 V0 (no_index (Proc.devRef .tc main_v63)) = t64x64x1_0 F (res_main_v61 V0) :=
  (w7_1_low V0 main_v63 (by decide)).trans ((w2_s1_back V0 main_v63 (by decide)).trans (w2_s1_v63 V0))
theorem w7_2_v450 : w7_2 V0 (no_index (Proc.devRef .tc main_v450)) = res_main_v450 V0 := by
  simp only [w7_2, o7_1, TRef.binary, TRef.nullary, TRef.unary, TRef.toBuf, TRef.ofBuf, cast_eq]; after_results_simp; simp only [w7_1_v416, w7_1_v60, w7_1_v417, w7_1_v442] <;> rfl
theorem w7_2_v451 : w7_2 V0 (no_index (Proc.devRef .tc main_v451)) = res_main_v451 V0 := by
  simp only [w7_2, o7_1, TRef.binary, TRef.nullary, TRef.unary, TRef.toBuf, TRef.ofBuf, cast_eq]; after_results_simp; simp only [w7_1_v416, w7_1_v60, w7_1_v417, w7_1_v442] <;> rfl
theorem w7_2_v73 : w7_2 V0 (no_index (Proc.devRef .tc main_v73)) = t64x64x1_5 F (res_main_v61 V0) :=
  (w7_2_low V0 main_v73 (by decide)).trans ((w2_s1_back V0 main_v73 (by decide)).trans (w2_s1_v73 V0))
theorem w7_2_v467 : w7_2 V0 (no_index (Proc.devRef .tc main_v467)) = ev467 V0 := by
  simp only [w7_2, o7_1, TRef.binary, TRef.nullary, TRef.unary, TRef.toBuf, TRef.ofBuf, cast_eq]; after_results_simp; simp only [w7_1_v71, w7_1_v416, w7_1_v60, w7_1_v417, w7_1_v442, w7_1_v69, w7_1_v67, w7_1_v65, w7_1_v63] <;> rfl
theorem w8_v450 : w8 V0 (no_index (Proc.devRef .tc main_v450)) = res_main_v450 V0 :=
  (w8_step V0 main_v450 (by decide)).trans (w7_2_v450 V0)
theorem w8_v88 : w8 V0 (no_index (Proc.devRef .tc main_v88)) = t64x64x1_3 F (res_main_v80 V0) :=
  (w8_low V0 main_v88 (by decide)).trans ((w2_s2_back V0 main_v88 (by decide)).trans (w2_s2_v88 V0))
theorem w8_v86 : w8 V0 (no_index (Proc.devRef .tc main_v86)) = t64x64x1_2 F (res_main_v80 V0) :=
  (w8_low V0 main_v86 (by decide)).trans ((w2_s2_back V0 main_v86 (by decide)).trans (w2_s2_v86 V0))
theorem w8_v84 : w8 V0 (no_index (Proc.devRef .tc main_v84)) = t64x64x1_1 F (res_main_v80 V0) :=
  (w8_low V0 main_v84 (by decide)).trans ((w2_s2_back V0 main_v84 (by decide)).trans (w2_s2_v84 V0))
theorem w8_v82 : w8 V0 (no_index (Proc.devRef .tc main_v82)) = t64x64x1_0 F (res_main_v80 V0) :=
  (w8_low V0 main_v82 (by decide)).trans ((w2_s2_back V0 main_v82 (by decide)).trans (w2_s2_v82 V0))
theorem w8_arg7 : w8 V0 (no_index (Proc.devRef .tc main_arg7)) = V0 (Proc.devRef .tc main_arg7) :=
  w8_arg V0 main_arg7 (by decide)
theorem w8_v79 : w8 V0 (no_index (Proc.devRef .tc main_v79)) = t64x64x1_8 F (res_main_v61 V0) :=
  (w8_low V0 main_v79 (by decide)).trans ((w2_s1_back V0 main_v79 (by decide)).trans (w2_s1_v79 V0))
theorem w8_v451 : w8 V0 (no_index (Proc.devRef .tc main_v451)) = res_main_v451 V0 :=
  (w8_step V0 main_v451 (by decide)).trans (w7_2_v451 V0)
theorem w8_v77 : w8 V0 (no_index (Proc.devRef .tc main_v77)) = t64x64x1_7 F (res_main_v61 V0) :=
  (w8_low V0 main_v77 (by decide)).trans ((w2_s1_back V0 main_v77 (by decide)).trans (w2_s1_v77 V0))
theorem w8_v75 : w8 V0 (no_index (Proc.devRef .tc main_v75)) = t64x64x1_6 F (res_main_v61 V0) :=
  (w8_low V0 main_v75 (by decide)).trans ((w2_s1_back V0 main_v75 (by decide)).trans (w2_s1_v75 V0))
theorem w8_v471 : w8 V0 (no_index (Proc.devRef .tc main_v471)) = p64_20 F (res_main_v451 V0) := by
  simp only [w8, o7_2]; after_results_simp; simp only [w7_2_v451] <;> rfl
theorem w8_v470 : w8 V0 (no_index (Proc.devRef .tc main_v470)) = ev470 V0 := by
  simp only [w8, o7_2]; after_results_simp; simp only [w7_2_v73, w7_2_v451, w7_2_v467] <;> rfl
theorem w8_1_arg1 : w8_1 V0 (no_index (Proc.devRef .tc main_arg1)) = V0 (Proc.devRef .tc main_arg1) :=
  w8_1_arg V0 main_arg1 (by decide)
theorem w8_1_arg9 : w8_1 V0 (no_index (Proc.devRef .tc main_arg9)) = V0 (Proc.devRef .tc main_arg9) :=
  w8_1_arg V0 main_arg9 (by decide)
theorem w8_1_v98 : w8_1 V0 (no_index (Proc.devRef .tc main_v98)) = t64x64x1_8 F (res_main_v80 V0) :=
  (w8_1_low V0 main_v98 (by decide)).trans ((w2_s2_back V0 main_v98 (by decide)).trans (w2_s2_v98 V0))
theorem w8_1_v484 : w8_1 V0 (no_index (Proc.devRef .tc main_v484)) = res_main_v484 V0 := by
  simp only [w8_1, o8_0, TRef.binary, TRef.unary, TRef.toBuf, TRef.ofBuf, cast_eq]; after_results_simp; simp only [w8_v450] <;> rfl
theorem w8_1_v96 : w8_1 V0 (no_index (Proc.devRef .tc main_v96)) = t64x64x1_7 F (res_main_v80 V0) :=
  (w8_1_low V0 main_v96 (by decide)).trans ((w2_s2_back V0 main_v96 (by decide)).trans (w2_s2_v96 V0))
theorem w8_1_v94 : w8_1 V0 (no_index (Proc.devRef .tc main_v94)) = t64x64x1_6 F (res_main_v80 V0) :=
  (w8_1_low V0 main_v94 (by decide)).trans ((w2_s2_back V0 main_v94 (by decide)).trans (w2_s2_v94 V0))
theorem w8_1_v92 : w8_1 V0 (no_index (Proc.devRef .tc main_v92)) = t64x64x1_5 F (res_main_v80 V0) :=
  (w8_1_low V0 main_v92 (by decide)).trans ((w2_s2_back V0 main_v92 (by decide)).trans (w2_s2_v92 V0))
theorem w8_1_v90 : w8_1 V0 (no_index (Proc.devRef .tc main_v90)) = t64x64x1_4 F (res_main_v80 V0) :=
  (w8_1_low V0 main_v90 (by decide)).trans ((w2_s2_back V0 main_v90 (by decide)).trans (w2_s2_v90 V0))
theorem w8_1_v498 : w8_1 V0 (no_index (Proc.devRef .tc main_v498)) = p64_11 F (res_main_v484 V0) := by
  simp only [w8_1, o8_0, TRef.binary, TRef.unary, TRef.toBuf, TRef.ofBuf, cast_eq]; after_results_simp; simp only [w8_v450] <;> rfl
theorem w8_1_v497 : w8_1 V0 (no_index (Proc.devRef .tc main_v497)) = ev497 V0 := by
  simp only [w8_1, o8_0, TRef.binary, TRef.unary, TRef.toBuf, TRef.ofBuf, cast_eq]; after_results_simp; simp only [w8_v88, w8_v450, w8_v86, w8_v84, w8_v82] <;> rfl
theorem w8_1_v483 : w8_1 V0 (no_index (Proc.devRef .tc main_v483)) = ev483 V0 := by
  simp only [w8_1, o8_0, TRef.binary, TRef.unary, TRef.toBuf, TRef.ofBuf, cast_eq]; after_results_simp; simp only [w8_arg7, w8_v79, w8_v451, w8_v77, w8_v75, w8_v471, w8_v470] <;> rfl
theorem w8_2_v522 : w8_2 V0 (no_index (Proc.devRef .tc main_v522)) = res_main_v522 V0 := by
  simp only [w8_2, o8_1]; after_results_simp; simp only [w8_1_arg1, w8_1_arg9, w8_1_v98, w8_1_v484, w8_1_v96, w8_1_v94, w8_1_v92, w8_1_v90, w8_1_v498, w8_1_v497, w8_1_v483] <;> rfl
theorem w8_2_arg10 : w8_2 V0 (no_index (Proc.devRef .tc main_arg10)) = V0 (Proc.devRef .tc main_arg10) :=
  w8_2_arg V0 main_arg10 (by decide)
theorem w8_2_v525 : w8_2 V0 (no_index (Proc.devRef .tc main_v525)) = ev525 V0 := by
  simp only [w8_2, o8_1]; after_results_simp; simp only [w8_1_arg1, w8_1_arg9, w8_1_v98, w8_1_v484, w8_1_v96, w8_1_v94, w8_1_v92, w8_1_v90, w8_1_v498, w8_1_v497, w8_1_v483] <;> rfl
theorem w8_2_v483 : w8_2 V0 (no_index (Proc.devRef .tc main_v483)) = ev483 V0 :=
  (w8_2_step V0 main_v483 (by decide)).trans (w8_1_v483 V0)
theorem w8_2_v517 : w8_2 V0 (no_index (Proc.devRef .tc main_v517)) = ev517 V0 := by
  simp only [w8_2, o8_1]; after_results_simp; simp only [w8_1_arg9, w8_1_v98, w8_1_v484, w8_1_v96, w8_1_v94, w8_1_v92, w8_1_v90, w8_1_v498, w8_1_v497] <;> rfl
theorem w9_v522 : w9 V0 (no_index (Proc.devRef .tc main_v522)) = res_main_v522 V0 :=
  (w9_step V0 main_v522 (by decide)).trans (w8_2_v522 V0)
theorem w9_arg11 : w9 V0 (no_index (Proc.devRef .tc main_arg11)) = V0 (Proc.devRef .tc main_arg11) :=
  w9_arg V0 main_arg11 (by decide)
theorem w9_v526 : w9 V0 (no_index (Proc.devRef .tc main_v526)) = ev526 V0 := by
  simp only [w9, o8_2]; after_results_simp; simp only [w8_2_arg10, w8_2_v525] <;> rfl
theorem w9_v483 : w9 V0 (no_index (Proc.devRef .tc main_v483)) = ev483 V0 :=
  (w9_step V0 main_v483 (by decide)).trans (w8_2_v483 V0)
theorem w9_v517 : w9 V0 (no_index (Proc.devRef .tc main_v517)) = ev517 V0 :=
  (w9_step V0 main_v517 (by decide)).trans (w8_2_v517 V0)
theorem w9_1_v522 : w9_1 V0 (no_index (Proc.devRef .tc main_v522)) = res_main_v522 V0 :=
  (w9_1_step V0 main_v522 (by decide)).trans (w9_v522 V0)
theorem w9_1_arg13 : w9_1 V0 (no_index (Proc.devRef .tc main_arg13)) = V0 (Proc.devRef .tc main_arg13) :=
  w9_1_arg V0 main_arg13 (by decide)
theorem w9_1_v109 : w9_1 V0 (no_index (Proc.devRef .tc main_v109)) = t64x64x1_3 F (res_main_v101 V0) :=
  (w9_1_low V0 main_v109 (by decide)).trans ((w2_back V0 main_v109 (by decide)).trans (w2_v109 V0))
theorem w9_1_v107 : w9_1 V0 (no_index (Proc.devRef .tc main_v107)) = t64x64x1_2 F (res_main_v101 V0) :=
  (w9_1_low V0 main_v107 (by decide)).trans ((w2_back V0 main_v107 (by decide)).trans (w2_v107 V0))
theorem w9_1_v105 : w9_1 V0 (no_index (Proc.devRef .tc main_v105)) = t64x64x1_1 F (res_main_v101 V0) :=
  (w9_1_low V0 main_v105 (by decide)).trans ((w2_back V0 main_v105 (by decide)).trans (w2_v105 V0))
theorem w9_1_v103 : w9_1 V0 (no_index (Proc.devRef .tc main_v103)) = t64x64x1_0 F (res_main_v101 V0) :=
  (w9_1_low V0 main_v103 (by decide)).trans ((w2_back V0 main_v103 (by decide)).trans (w2_v103 V0))
theorem w9_1_v540 : w9_1 V0 (no_index (Proc.devRef .tc main_v540)) = ev540 V0 := by
  simp only [w9_1, o9_0]; after_results_simp; simp only [w9_arg11, w9_v526] <;> rfl
theorem w9_1_indices : w9_1 V0 (no_index (Proc.devRef .tc main_indices)) = res_main_indices V0 := by
  simp only [w9_1, o9_0]; after_results_simp; simp only [w9_arg11, w9_v526] <;> rfl
theorem w9_1_v548 : w9_1 V0 (no_index (Proc.devRef .tc main_v548)) = ev548 V0 := by
  unfold w9_1
  simp only [o9_0]
  after_results_simp
  all_goals rfl
theorem w9_1_v541 : w9_1 V0 (no_index (Proc.devRef .tc main_v541)) = broadcastInDim S2x3 ![] bcast_S_S2x3 (constant S_ .f32 0x00000000#32) := by
  unfold w9_1
  simp only [o9_0]
  after_results_simp
  all_goals rfl
theorem w9_1_v483 : w9_1 V0 (no_index (Proc.devRef .tc main_v483)) = ev483 V0 :=
  (w9_1_step V0 main_v483 (by decide)).trans (w9_v483 V0)
theorem w9_1_v517 : w9_1 V0 (no_index (Proc.devRef .tc main_v517)) = ev517 V0 :=
  (w9_1_step V0 main_v517 (by decide)).trans (w9_v517 V0)
theorem w9_2_v522 : w9_2 V0 (no_index (Proc.devRef .tc main_v522)) = res_main_v522 V0 :=
  (w9_2_step V0 main_v522 (by decide)).trans (w9_1_v522 V0)
theorem w9_2_v560 : w9_2 V0 (no_index (Proc.devRef .tc main_v560)) = shapeCast _ (extractStridedSlice S1x64 ![0, 0] (V0 (Proc.devRef .tc main_arg13)) slices_S3x64_S1x64_0_0) shapeCasts_S1x64_S64 := by
  simp only [w9_2, o9_1, TRef.binary, TRef.unary, TRef.toBuf, TRef.ofBuf, cast_eq]; after_results_simp; simp only [w9_1_arg13] <;> rfl
theorem w9_2_v561 : w9_2 V0 (no_index (Proc.devRef .tc main_v561)) = res_main_v561 V0 := by
  simp only [w9_2, o9_1, TRef.binary, TRef.unary, TRef.toBuf, TRef.ofBuf, cast_eq]; after_results_simp; simp only [w9_1_v522] <;> rfl
theorem w9_2_v573 : w9_2 V0 (no_index (Proc.devRef .tc main_v573)) = d64_64 F (p64_10 F (res_main_v561 V0)) (t64x64x1_3 F (res_main_v101 V0)) := by
  simp only [w9_2, o9_1, TRef.binary, TRef.unary, TRef.toBuf, TRef.ofBuf, cast_eq]; after_results_simp; simp only [w9_1_v109, w9_1_v522] <;> rfl
theorem w9_2_v571 : w9_2 V0 (no_index (Proc.devRef .tc main_v571)) = ev571 V0 := by
  simp only [w9_2, o9_1, TRef.binary, TRef.unary, TRef.toBuf, TRef.ofBuf, cast_eq]; after_results_simp; simp only [w9_1_v107, w9_1_v522, w9_1_v105, w9_1_v103] <;> rfl
theorem w9_2_v558 : w9_2 V0 (no_index (Proc.devRef .tc main_v558)) = ev558 V0 := by
  simp only [w9_2, o9_1, TRef.binary, TRef.unary, TRef.toBuf, TRef.ofBuf, cast_eq]; after_results_simp; simp only [w9_1_v540, w9_1_indices, w9_1_v548, w9_1_v541] <;> rfl
theorem w9_2_v483 : w9_2 V0 (no_index (Proc.devRef .tc main_v483)) = ev483 V0 :=
  (w9_2_step V0 main_v483 (by decide)).trans (w9_1_v483 V0)
theorem w9_2_v517 : w9_2 V0 (no_index (Proc.devRef .tc main_v517)) = ev517 V0 :=
  (w9_2_step V0 main_v517 (by decide)).trans (w9_1_v517 V0)
theorem w10_v522 : w10 V0 (no_index (Proc.devRef .tc main_v522)) = res_main_v522 V0 :=
  (w10_step V0 main_v522 (by decide)).trans (w9_2_v522 V0)
theorem w10_arg15 : w10 V0 (no_index (Proc.devRef .tc main_arg15)) = V0 (Proc.devRef .tc main_arg15) :=
  w10_arg V0 main_arg15 (by decide)
theorem w10_v560 : w10 V0 (no_index (Proc.devRef .tc main_v560)) = shapeCast _ (extractStridedSlice S1x64 ![0, 0] (V0 (Proc.devRef .tc main_arg13)) slices_S3x64_S1x64_0_0) shapeCasts_S1x64_S64 :=
  (w10_step V0 main_v560 (by decide)).trans (w9_2_v560 V0)
theorem w10_v119 : w10 V0 (no_index (Proc.devRef .tc main_v119)) = t64x64x1_8 F (res_main_v101 V0) :=
  (w10_low V0 main_v119 (by decide)).trans ((w2_back V0 main_v119 (by decide)).trans (w2_v119 V0))
theorem w10_v561 : w10 V0 (no_index (Proc.devRef .tc main_v561)) = res_main_v561 V0 :=
  (w10_step V0 main_v561 (by decide)).trans (w9_2_v561 V0)
theorem w10_v117 : w10 V0 (no_index (Proc.devRef .tc main_v117)) = t64x64x1_7 F (res_main_v101 V0) :=
  (w10_low V0 main_v117 (by decide)).trans ((w2_back V0 main_v117 (by decide)).trans (w2_v117 V0))
theorem w10_v115 : w10 V0 (no_index (Proc.devRef .tc main_v115)) = t64x64x1_6 F (res_main_v101 V0) :=
  (w10_low V0 main_v115 (by decide)).trans ((w2_back V0 main_v115 (by decide)).trans (w2_v115 V0))
theorem w10_v113 : w10 V0 (no_index (Proc.devRef .tc main_v113)) = t64x64x1_5 F (res_main_v101 V0) :=
  (w10_low V0 main_v113 (by decide)).trans ((w2_back V0 main_v113 (by decide)).trans (w2_v113 V0))
theorem w10_v111 : w10 V0 (no_index (Proc.devRef .tc main_v111)) = t64x64x1_4 F (res_main_v101 V0) :=
  (w10_low V0 main_v111 (by decide)).trans ((w2_back V0 main_v111 (by decide)).trans (w2_v111 V0))
theorem w10_v574 : w10 V0 (no_index (Proc.devRef .tc main_v574)) = ev574 V0 := by
  simp only [w10, o9_2]; after_results_simp; simp only [w9_2_v573, w9_2_v571] <;> rfl
theorem w10_v166 : w10 V0 (no_index (Proc.devRef .tc main_v166)) = t64x64x1_0 F (res_main_v164 V0) :=
  (w10_low V0 main_v166 (by decide)).trans ((w3_back V0 main_v166 (by decide)).trans (w3_v166 V0))
theorem w10_v558 : w10 V0 (no_index (Proc.devRef .tc main_v558)) = ev558 V0 :=
  (w10_step V0 main_v558 (by decide)).trans (w9_2_v558 V0)
theorem w10_v483 : w10 V0 (no_index (Proc.devRef .tc main_v483)) = ev483 V0 :=
  (w10_step V0 main_v483 (by decide)).trans (w9_2_v483 V0)
theorem w10_v517 : w10 V0 (no_index (Proc.devRef .tc main_v517)) = ev517 V0 :=
  (w10_step V0 main_v517 (by decide)).trans (w9_2_v517 V0)
theorem w10_1_v522 : w10_1 V0 (no_index (Proc.devRef .tc main_v522)) = res_main_v522 V0 :=
  (w10_1_step V0 main_v522 (by decide)).trans (w10_v522 V0)
theorem w10_1_v596 : w10_1 V0 (no_index (Proc.devRef .tc main_v596)) = shapeCast _ (extractStridedSlice S1x64 ![0, 0] (V0 (Proc.devRef .tc main_arg15)) slices_S3x64_S1x64_0_0) shapeCasts_S1x64_S64 := by
  simp only [w10_1, o10_0, TRef.binary, TRef.nullary, TRef.unary, TRef.toBuf, TRef.ofBuf, cast_eq]; after_results_simp; simp only [w10_arg15] <;> rfl
theorem w10_1_v182 : w10_1 V0 (no_index (Proc.devRef .tc main_v182)) = t64x64x1_8 F (res_main_v164 V0) :=
  (w10_1_low V0 main_v182 (by decide)).trans ((w4_s0_back V0 main_v182 (by decide)).trans (w4_s0_v182 V0))
theorem w10_1_v597 : w10_1 V0 (no_index (Proc.devRef .tc main_v597)) = res_main_v597 V0 := by
  simp only [w10_1, o10_0, TRef.binary, TRef.nullary, TRef.unary, TRef.toBuf, TRef.ofBuf, cast_eq]; after_results_simp; simp only [w10_v560, w10_v119, w10_v561, w10_v117, w10_v115, w10_v113, w10_v111, w10_v574] <;> rfl
theorem w10_1_v180 : w10_1 V0 (no_index (Proc.devRef .tc main_v180)) = t64x64x1_7 F (res_main_v164 V0) :=
  (w10_1_low V0 main_v180 (by decide)).trans ((w4_s0_back V0 main_v180 (by decide)).trans (w4_s0_v180 V0))
theorem w10_1_v178 : w10_1 V0 (no_index (Proc.devRef .tc main_v178)) = t64x64x1_6 F (res_main_v164 V0) :=
  (w10_1_low V0 main_v178 (by decide)).trans ((w3_back V0 main_v178 (by decide)).trans (w3_v178 V0))
theorem w10_1_v176 : w10_1 V0 (no_index (Proc.devRef .tc main_v176)) = t64x64x1_5 F (res_main_v164 V0) :=
  (w10_1_low V0 main_v176 (by decide)).trans ((w3_back V0 main_v176 (by decide)).trans (w3_v176 V0))
theorem w10_1_v174 : w10_1 V0 (no_index (Proc.devRef .tc main_v174)) = t64x64x1_4 F (res_main_v164 V0) :=
  (w10_1_low V0 main_v174 (by decide)).trans ((w3_back V0 main_v174 (by decide)).trans (w3_v174 V0))
theorem w10_1_v172 : w10_1 V0 (no_index (Proc.devRef .tc main_v172)) = t64x64x1_3 F (res_main_v164 V0) :=
  (w10_1_low V0 main_v172 (by decide)).trans ((w3_back V0 main_v172 (by decide)).trans (w3_v172 V0))
theorem w10_1_v170 : w10_1 V0 (no_index (Proc.devRef .tc main_v170)) = t64x64x1_2 F (res_main_v164 V0) :=
  (w10_1_low V0 main_v170 (by decide)).trans ((w3_back V0 main_v170 (by decide)).trans (w3_v170 V0))
theorem w10_1_v168 : w10_1 V0 (no_index (Proc.devRef .tc main_v168)) = t64x64x1_1 F (res_main_v164 V0) :=
  (w10_1_low V0 main_v168 (by decide)).trans ((w3_back V0 main_v168 (by decide)).trans (w3_v168 V0))
theorem w10_1_v599 : w10_1 V0 (no_index (Proc.devRef .tc main_v599)) = d64_64 F (p64_00 F (res_main_v597 V0)) (t64x64x1_0 F (res_main_v164 V0)) := by
  simp only [w10_1, o10_0, TRef.binary, TRef.nullary, TRef.unary, TRef.toBuf, TRef.ofBuf, cast_eq]; after_results_simp; simp only [w10_v166, w10_v560, w10_v119, w10_v561, w10_v117, w10_v115, w10_v113, w10_v111, w10_v574] <;> rfl
theorem w10_1_cst_22 : w10_1 V0 (no_index (Proc.devRef .tc main_cst_22)) = constant S_ .f32 0x00000000#32 := by
  unfold w10_1
  simp only [o10_0, TRef.binary, TRef.nullary, TRef.unary, TRef.toBuf, TRef.ofBuf, cast_eq]
  after_results_simp
  all_goals rfl
theorem w10_1_v558 : w10_1 V0 (no_index (Proc.devRef .tc main_v558)) = ev558 V0 :=
  (w10_1_step V0 main_v558 (by decide)).trans (w10_v558 V0)
theorem w10_1_v483 : w10_1 V0 (no_index (Proc.devRef .tc main_v483)) = ev483 V0 :=
  (w10_1_step V0 main_v483 (by decide)).trans (w10_v483 V0)
theorem w10_1_v517 : w10_1 V0 (no_index (Proc.devRef .tc main_v517)) = ev517 V0 :=
  (w10_1_step V0 main_v517 (by decide)).trans (w10_v517 V0)
theorem w10_2_v522 : w10_2 V0 (no_index (Proc.devRef .tc main_v522)) = res_main_v522 V0 :=
  (w10_2_step V0 main_v522 (by decide)).trans (w10_1_v522 V0)
theorem w10_2_arg13 : w10_2 V0 (no_index (Proc.devRef .tc main_arg13)) = V0 (Proc.devRef .tc main_arg13) :=
  w10_2_arg V0 main_arg13 (by decide)
theorem w10_2_v629 : w10_2 V0 (no_index (Proc.devRef .tc main_v629)) = ev629 V0 := by
  simp only [w10_2, o10_1]; after_results_simp; simp only [w10_1_v596, w10_1_v182, w10_1_v597, w10_1_v180, w10_1_v178, w10_1_v176, w10_1_v174, w10_1_v172, w10_1_v170, w10_1_v168, w10_1_v599, w10_1_cst_22] <;> rfl
theorem w10_2_v558 : w10_2 V0 (no_index (Proc.devRef .tc main_v558)) = ev558 V0 :=
  (w10_2_step V0 main_v558 (by decide)).trans (w10_1_v558 V0)
theorem w10_2_v483 : w10_2 V0 (no_index (Proc.devRef .tc main_v483)) = ev483 V0 :=
  (w10_2_step V0 main_v483 (by decide)).trans (w10_1_v483 V0)
theorem w10_2_v517 : w10_2 V0 (no_index (Proc.devRef .tc main_v517)) = ev517 V0 :=
  (w10_2_step V0 main_v517 (by decide)).trans (w10_1_v517 V0)
theorem w11_v522 : w11 V0 (no_index (Proc.devRef .tc main_v522)) = res_main_v522 V0 :=
  (w11_step V0 main_v522 (by decide)).trans (w10_2_v522 V0)
theorem w11_v631 : w11 V0 (no_index (Proc.devRef .tc main_v631)) = shapeCast _ (extractStridedSlice S1x64 ![1, 0] (V0 (Proc.devRef .tc main_arg13)) slices_S3x64_S1x64_1_0) shapeCasts_S1x64_S64 := by
  simp only [w11, o10_2]; after_results_simp; simp only [w10_2_arg13] <;> rfl
theorem w11_v140 : w11 V0 (no_index (Proc.devRef .tc main_v140)) = t64x64x1_8 F (res_main_v122 V0) :=
  (w11_low V0 main_v140 (by decide)).trans ((w3_s0_back V0 main_v140 (by decide)).trans (w3_s0_v140 V0))
theorem w11_c_23 : w11 V0 (no_index (Proc.devRef .tc main_c_23)) = constantI S_ 32 0#32 := by
  unfold w11
  simp only [o10_2]
  after_results_simp
  all_goals rfl
theorem w11_v138 : w11 V0 (no_index (Proc.devRef .tc main_v138)) = t64x64x1_7 F (res_main_v122 V0) :=
  (w11_low V0 main_v138 (by decide)).trans ((w3_s0_back V0 main_v138 (by decide)).trans (w3_s0_v138 V0))
theorem w11_v136 : w11 V0 (no_index (Proc.devRef .tc main_v136)) = t64x64x1_6 F (res_main_v122 V0) :=
  (w11_low V0 main_v136 (by decide)).trans ((w3_s0_back V0 main_v136 (by decide)).trans (w3_s0_v136 V0))
theorem w11_v134 : w11 V0 (no_index (Proc.devRef .tc main_v134)) = t64x64x1_5 F (res_main_v122 V0) :=
  (w11_low V0 main_v134 (by decide)).trans ((w3_s0_back V0 main_v134 (by decide)).trans (w3_s0_v134 V0))
theorem w11_v132 : w11 V0 (no_index (Proc.devRef .tc main_v132)) = t64x64x1_4 F (res_main_v122 V0) :=
  (w11_low V0 main_v132 (by decide)).trans ((w3_s0_back V0 main_v132 (by decide)).trans (w3_s0_v132 V0))
theorem w11_v130 : w11 V0 (no_index (Proc.devRef .tc main_v130)) = t64x64x1_3 F (res_main_v122 V0) :=
  (w11_low V0 main_v130 (by decide)).trans ((w3_s0_back V0 main_v130 (by decide)).trans (w3_s0_v130 V0))
theorem w11_v128 : w11 V0 (no_index (Proc.devRef .tc main_v128)) = t64x64x1_2 F (res_main_v122 V0) :=
  (w11_low V0 main_v128 (by decide)).trans ((w3_s0_back V0 main_v128 (by decide)).trans (w3_s0_v128 V0))
theorem w11_v126 : w11 V0 (no_index (Proc.devRef .tc main_v126)) = t64x64x1_1 F (res_main_v122 V0) :=
  (w11_low V0 main_v126 (by decide)).trans ((w3_s0_back V0 main_v126 (by decide)).trans (w3_s0_v126 V0))
theorem w11_v124 : w11 V0 (no_index (Proc.devRef .tc main_v124)) = t64x64x1_0 F (res_main_v122 V0) :=
  (w11_low V0 main_v124 (by decide)).trans ((w3_s0_back V0 main_v124 (by decide)).trans (w3_s0_v124 V0))
theorem w11_v629 : w11 V0 (no_index (Proc.devRef .tc main_v629)) = ev629 V0 :=
  (w11_step V0 main_v629 (by decide)).trans (w10_2_v629 V0)
theorem w11_v558 : w11 V0 (no_index (Proc.devRef .tc main_v558)) = ev558 V0 :=
  (w11_step V0 main_v558 (by decide)).trans (w10_2_v558 V0)
theorem w11_v483 : w11 V0 (no_index (Proc.devRef .tc main_v483)) = ev483 V0 :=
  (w11_step V0 main_v483 (by decide)).trans (w10_2_v483 V0)
theorem w11_v517 : w11 V0 (no_index (Proc.devRef .tc main_v517)) = ev517 V0 :=
  (w11_step V0 main_v517 (by decide)).trans (w10_2_v517 V0)
theorem w11_1_v522 : w11_1 V0 (no_index (Proc.devRef .tc main_v522)) = res_main_v522 V0 :=
  (w11_1_step V0 main_v522 (by decide)).trans (w11_v522 V0)
theorem w11_1_arg15 : w11_1 V0 (no_index (Proc.devRef .tc main_arg15)) = V0 (Proc.devRef .tc main_arg15) :=
  w11_1_arg V0 main_arg15 (by decide)
theorem w11_1_v631 : w11_1 V0 (no_index (Proc.devRef .tc main_v631)) = shapeCast _ (extractStridedSlice S1x64 ![1, 0] (V0 (Proc.devRef .tc main_arg13)) slices_S3x64_S1x64_1_0) shapeCasts_S1x64_S64 :=
  (w11_1_step V0 main_v631 (by decide)).trans (w11_v631 V0)
theorem w11_1_v659 : w11_1 V0 (no_index (Proc.devRef .tc main_v659)) = d64_64 F (p64_22 F (res_main_v632 V0)) (t64x64x1_8 F (res_main_v122 V0)) := by
  simp only [w11_1, o11_0, TRef.binary, TRef.unary, TRef.toBuf, TRef.ofBuf, cast_eq]; after_results_simp; simp only [w11_v140, w11_c_23, w11_v522] <;> rfl
theorem w11_1_v657 : w11_1 V0 (no_index (Proc.devRef .tc main_v657)) = ev657 V0 := by
  simp only [w11_1, o11_0, TRef.binary, TRef.unary, TRef.toBuf, TRef.ofBuf, cast_eq]; after_results_simp; simp only [w11_v138, w11_c_23, w11_v522, w11_v136, w11_v134, w11_v132, w11_v130, w11_v128, w11_v126, w11_v124] <;> rfl
theorem w11_1_v195 : w11_1 V0 (no_index (Proc.devRef .tc main_v195)) = t64x64x1_4 F (res_main_v185 V0) :=
  (w11_1_low V0 main_v195 (by decide)).trans ((w4_s1_back V0 main_v195 (by decide)).trans (w4_s1_v195 V0))
theorem w11_1_v193 : w11_1 V0 (no_index (Proc.devRef .tc main_v193)) = t64x64x1_3 F (res_main_v185 V0) :=
  (w11_1_low V0 main_v193 (by decide)).trans ((w4_s1_back V0 main_v193 (by decide)).trans (w4_s1_v193 V0))
theorem w11_1_v191 : w11_1 V0 (no_index (Proc.devRef .tc main_v191)) = t64x64x1_2 F (res_main_v185 V0) :=
  (w11_1_low V0 main_v191 (by decide)).trans ((w4_s1_back V0 main_v191 (by decide)).trans (w4_s1_v191 V0))
theorem w11_1_v189 : w11_1 V0 (no_index (Proc.devRef .tc main_v189)) = t64x64x1_1 F (res_main_v185 V0) :=
  (w11_1_low V0 main_v189 (by decide)).trans ((w4_s1_back V0 main_v189 (by decide)).trans (w4_s1_v189 V0))
theorem w11_1_v187 : w11_1 V0 (no_index (Proc.devRef .tc main_v187)) = t64x64x1_0 F (res_main_v185 V0) :=
  (w11_1_low V0 main_v187 (by decide)).trans ((w4_s1_back V0 main_v187 (by decide)).trans (w4_s1_v187 V0))
theorem w11_1_v629 : w11_1 V0 (no_index (Proc.devRef .tc main_v629)) = ev629 V0 :=
  (w11_1_step V0 main_v629 (by decide)).trans (w11_v629 V0)
theorem w11_1_v558 : w11_1 V0 (no_index (Proc.devRef .tc main_v558)) = ev558 V0 :=
  (w11_1_step V0 main_v558 (by decide)).trans (w11_v558 V0)
theorem w11_1_v483 : w11_1 V0 (no_index (Proc.devRef .tc main_v483)) = ev483 V0 :=
  (w11_1_step V0 main_v483 (by decide)).trans (w11_v483 V0)
theorem w11_1_v517 : w11_1 V0 (no_index (Proc.devRef .tc main_v517)) = ev517 V0 :=
  (w11_1_step V0 main_v517 (by decide)).trans (w11_v517 V0)
theorem w11_2_v522 : w11_2 V0 (no_index (Proc.devRef .tc main_v522)) = res_main_v522 V0 :=
  (w11_2_step V0 main_v522 (by decide)).trans (w11_1_v522 V0)
theorem w11_2_v667 : w11_2 V0 (no_index (Proc.devRef .tc main_v667)) = shapeCast _ (extractStridedSlice S1x64 ![1, 0] (V0 (Proc.devRef .tc main_arg15)) slices_S3x64_S1x64_1_0) shapeCasts_S1x64_S64 := by
  simp only [w11_2, o11_1, TRef.binary, TRef.nullary, TRef.unary, TRef.toBuf, TRef.ofBuf, cast_eq]; after_results_simp; simp only [w11_1_arg15] <;> rfl
theorem w11_2_v668 : w11_2 V0 (no_index (Proc.devRef .tc main_v668)) = res_main_v668 V0 := by
  simp only [w11_2, o11_1, TRef.binary, TRef.nullary, TRef.unary, TRef.toBuf, TRef.ofBuf, cast_eq]; after_results_simp; simp only [w11_1_v631, w11_1_v659, w11_1_v657] <;> rfl
theorem w11_2_v197 : w11_2 V0 (no_index (Proc.devRef .tc main_v197)) = t64x64x1_5 F (res_main_v185 V0) :=
  (w11_2_low V0 main_v197 (by decide)).trans ((w4_s1_back V0 main_v197 (by decide)).trans (w4_s1_v197 V0))
theorem w11_2_v684 : w11_2 V0 (no_index (Proc.devRef .tc main_v684)) = ev684 V0 := by
  simp only [w11_2, o11_1, TRef.binary, TRef.nullary, TRef.unary, TRef.toBuf, TRef.ofBuf, cast_eq]; after_results_simp; simp only [w11_1_v195, w11_1_v631, w11_1_v659, w11_1_v657, w11_1_v193, w11_1_v191, w11_1_v189, w11_1_v187] <;> rfl
theorem w11_2_v629 : w11_2 V0 (no_index (Proc.devRef .tc main_v629)) = ev629 V0 :=
  (w11_2_step V0 main_v629 (by decide)).trans (w11_1_v629 V0)
theorem w11_2_v558 : w11_2 V0 (no_index (Proc.devRef .tc main_v558)) = ev558 V0 :=
  (w11_2_step V0 main_v558 (by decide)).trans (w11_1_v558 V0)
theorem w11_2_v483 : w11_2 V0 (no_index (Proc.devRef .tc main_v483)) = ev483 V0 :=
  (w11_2_step V0 main_v483 (by decide)).trans (w11_1_v483 V0)
theorem w11_2_v517 : w11_2 V0 (no_index (Proc.devRef .tc main_v517)) = ev517 V0 :=
  (w11_2_step V0 main_v517 (by decide)).trans (w11_1_v517 V0)
theorem w12_arg13 : w12 V0 (no_index (Proc.devRef .tc main_arg13)) = V0 (Proc.devRef .tc main_arg13) :=
  w12_arg V0 main_arg13 (by decide)
theorem w12_v522 : w12 V0 (no_index (Proc.devRef .tc main_v522)) = res_main_v522 V0 :=
  (w12_step V0 main_v522 (by decide)).trans (w11_2_v522 V0)
theorem w12_v151 : w12 V0 (no_index (Proc.devRef .tc main_v151)) = t64x64x1_3 F (res_main_v143 V0) :=
  (w12_low V0 main_v151 (by decide)).trans ((w3_s1_back V0 main_v151 (by decide)).trans (w3_s1_v151 V0))
theorem w12_v149 : w12 V0 (no_index (Proc.devRef .tc main_v149)) = t64x64x1_2 F (res_main_v143 V0) :=
  (w12_low V0 main_v149 (by decide)).trans ((w3_s1_back V0 main_v149 (by decide)).trans (w3_s1_v149 V0))
theorem w12_v147 : w12 V0 (no_index (Proc.devRef .tc main_v147)) = t64x64x1_1 F (res_main_v143 V0) :=
  (w12_low V0 main_v147 (by decide)).trans ((w3_s1_back V0 main_v147 (by decide)).trans (w3_s1_v147 V0))
theorem w12_v145 : w12 V0 (no_index (Proc.devRef .tc main_v145)) = t64x64x1_0 F (res_main_v143 V0) :=
  (w12_low V0 main_v145 (by decide)).trans ((w3_s1_back V0 main_v145 (by decide)).trans (w3_s1_v145 V0))
theorem w12_v667 : w12 V0 (no_index (Proc.devRef .tc main_v667)) = shapeCast _ (extractStridedSlice S1x64 ![1, 0] (V0 (Proc.devRef .tc main_arg15)) slices_S3x64_S1x64_1_0) shapeCasts_S1x64_S64 :=
  (w12_step V0 main_v667 (by decide)).trans (w11_2_v667 V0)
theorem w12_v203 : w12 V0 (no_index (Proc.devRef .tc main_v203)) = t64x64x1_8 F (res_main_v185 V0) :=
  (w12_low V0 main_v203 (by decide)).trans ((w4_s1_back V0 main_v203 (by decide)).trans (w4_s1_v203 V0))
theorem w12_v668 : w12 V0 (no_index (Proc.devRef .tc main_v668)) = res_main_v668 V0 :=
  (w12_step V0 main_v668 (by decide)).trans (w11_2_v668 V0)
theorem w12_v201 : w12 V0 (no_index (Proc.devRef .tc main_v201)) = t64x64x1_7 F (res_main_v185 V0) :=
  (w12_low V0 main_v201 (by decide)).trans ((w4_s1_back V0 main_v201 (by decide)).trans (w4_s1_v201 V0))
theorem w12_v199 : w12 V0 (no_index (Proc.devRef .tc main_v199)) = t64x64x1_6 F (res_main_v185 V0) :=
  (w12_low V0 main_v199 (by decide)).trans ((w4_s1_back V0 main_v199 (by decide)).trans (w4_s1_v199 V0))
theorem w12_v688 : w12 V0 (no_index (Proc.devRef .tc main_v688)) = p64_20 F (res_main_v668 V0) := by
  simp only [w12, o11_2]; after_results_simp; simp only [w11_2_v668] <;> rfl
theorem w12_v687 : w12 V0 (no_index (Proc.devRef .tc main_v687)) = ev687 V0 := by
  simp only [w12, o11_2]; after_results_simp; simp only [w11_2_v197, w11_2_v668, w11_2_v684] <;> rfl
theorem w12_v629 : w12 V0 (no_index (Proc.devRef .tc main_v629)) = ev629 V0 :=
  (w12_step V0 main_v629 (by decide)).trans (w11_2_v629 V0)
theorem w12_v558 : w12 V0 (no_index (Proc.devRef .tc main_v558)) = ev558 V0 :=
  (w12_step V0 main_v558 (by decide)).trans (w11_2_v558 V0)
theorem w12_v483 : w12 V0 (no_index (Proc.devRef .tc main_v483)) = ev483 V0 :=
  (w12_step V0 main_v483 (by decide)).trans (w11_2_v483 V0)
theorem w12_v517 : w12 V0 (no_index (Proc.devRef .tc main_v517)) = ev517 V0 :=
  (w12_step V0 main_v517 (by decide)).trans (w11_2_v517 V0)
theorem w12_1_arg15 : w12_1 V0 (no_index (Proc.devRef .tc main_arg15)) = V0 (Proc.devRef .tc main_arg15) :=
  w12_1_arg V0 main_arg15 (by decide)
theorem w12_1_v702 : w12_1 V0 (no_index (Proc.devRef .tc main_v702)) = shapeCast _ (extractStridedSlice S1x64 ![2, 0] (V0 (Proc.devRef .tc main_arg13)) slices_S3x64_S1x64_2_0) shapeCasts_S1x64_S64 := by
  simp only [w12_1, o12_0, TRef.binary, TRef.unary, TRef.toBuf, TRef.ofBuf, cast_eq]; after_results_simp; simp only [w12_arg13] <;> rfl
theorem w12_1_v161 : w12_1 V0 (no_index (Proc.devRef .tc main_v161)) = t64x64x1_8 F (res_main_v143 V0) :=
  (w12_1_low V0 main_v161 (by decide)).trans ((w3_s1_back V0 main_v161 (by decide)).trans (w3_s1_v161 V0))
theorem w12_1_v703 : w12_1 V0 (no_index (Proc.devRef .tc main_v703)) = res_main_v703 V0 := by
  simp only [w12_1, o12_0, TRef.binary, TRef.unary, TRef.toBuf, TRef.ofBuf, cast_eq]; after_results_simp; simp only [w12_v522] <;> rfl
theorem w12_1_v159 : w12_1 V0 (no_index (Proc.devRef .tc main_v159)) = t64x64x1_7 F (res_main_v143 V0) :=
  (w12_1_low V0 main_v159 (by decide)).trans ((w3_s1_back V0 main_v159 (by decide)).trans (w3_s1_v159 V0))
theorem w12_1_v157 : w12_1 V0 (no_index (Proc.devRef .tc main_v157)) = t64x64x1_6 F (res_main_v143 V0) :=
  (w12_1_low V0 main_v157 (by decide)).trans ((w3_s1_back V0 main_v157 (by decide)).trans (w3_s1_v157 V0))
theorem w12_1_v155 : w12_1 V0 (no_index (Proc.devRef .tc main_v155)) = t64x64x1_5 F (res_main_v143 V0) :=
  (w12_1_low V0 main_v155 (by decide)).trans ((w3_s1_back V0 main_v155 (by decide)).trans (w3_s1_v155 V0))
theorem w12_1_v153 : w12_1 V0 (no_index (Proc.devRef .tc main_v153)) = t64x64x1_4 F (res_main_v143 V0) :=
  (w12_1_low V0 main_v153 (by decide)).trans ((w3_s1_back V0 main_v153 (by decide)).trans (w3_s1_v153 V0))
theorem w12_1_v715 : w12_1 V0 (no_index (Proc.devRef .tc main_v715)) = d64_64 F (p64_10 F (res_main_v703 V0)) (t64x64x1_3 F (res_main_v143 V0)) := by
  simp only [w12_1, o12_0, TRef.binary, TRef.unary, TRef.toBuf, TRef.ofBuf, cast_eq]; after_results_simp; simp only [w12_v151, w12_v522] <;> rfl
theorem w12_1_v713 : w12_1 V0 (no_index (Proc.devRef .tc main_v713)) = ev713 V0 := by
  simp only [w12_1, o12_0, TRef.binary, TRef.unary, TRef.toBuf, TRef.ofBuf, cast_eq]; after_results_simp; simp only [w12_v149, w12_v522, w12_v147, w12_v145] <;> rfl
theorem w12_1_v208 : w12_1 V0 (no_index (Proc.devRef .tc main_v208)) = t64x64x1_0 F (res_main_v206 V0) :=
  (w12_1_low V0 main_v208 (by decide)).trans ((w4_s2_back V0 main_v208 (by decide)).trans (w4_s2_v208 V0))
theorem w12_1_v700 : w12_1 V0 (no_index (Proc.devRef .tc main_v700)) = ev700 V0 := by
  simp only [w12_1, o12_0, TRef.binary, TRef.unary, TRef.toBuf, TRef.ofBuf, cast_eq]; after_results_simp; simp only [w12_v667, w12_v203, w12_v668, w12_v201, w12_v199, w12_v688, w12_v687] <;> rfl
theorem w12_1_v629 : w12_1 V0 (no_index (Proc.devRef .tc main_v629)) = ev629 V0 :=
  (w12_1_step V0 main_v629 (by decide)).trans (w12_v629 V0)
theorem w12_1_v558 : w12_1 V0 (no_index (Proc.devRef .tc main_v558)) = ev558 V0 :=
  (w12_1_step V0 main_v558 (by decide)).trans (w12_v558 V0)
theorem w12_1_v483 : w12_1 V0 (no_index (Proc.devRef .tc main_v483)) = ev483 V0 :=
  (w12_1_step V0 main_v483 (by decide)).trans (w12_v483 V0)
theorem w12_1_v517 : w12_1 V0 (no_index (Proc.devRef .tc main_v517)) = ev517 V0 :=
  (w12_1_step V0 main_v517 (by decide)).trans (w12_v517 V0)
theorem w12_2_v738 : w12_2 V0 (no_index (Proc.devRef .tc main_v738)) = shapeCast _ (extractStridedSlice S1x64 ![2, 0] (V0 (Proc.devRef .tc main_arg15)) slices_S3x64_S1x64_2_0) shapeCasts_S1x64_S64 := by
  simp only [w12_2, o12_1, TRef.binary, TRef.nullary, TRef.unary, TRef.toBuf, TRef.ofBuf, cast_eq]; after_results_simp; simp only [w12_1_arg15] <;> rfl
theorem w12_2_v739 : w12_2 V0 (no_index (Proc.devRef .tc main_v739)) = res_main_v739 V0 := by
  simp only [w12_2, o12_1, TRef.binary, TRef.nullary, TRef.unary, TRef.toBuf, TRef.ofBuf, cast_eq]; after_results_simp; simp only [w12_1_v702, w12_1_v161, w12_1_v703, w12_1_v159, w12_1_v157, w12_1_v155, w12_1_v153, w12_1_v715, w12_1_v713] <;> rfl
theorem w12_2_v741 : w12_2 V0 (no_index (Proc.devRef .tc main_v741)) = d64_64 F (p64_00 F (res_main_v739 V0)) (t64x64x1_0 F (res_main_v206 V0)) := by
  simp only [w12_2, o12_1, TRef.binary, TRef.nullary, TRef.unary, TRef.toBuf, TRef.ofBuf, cast_eq]; after_results_simp; simp only [w12_1_v208, w12_1_v702, w12_1_v161, w12_1_v703, w12_1_v159, w12_1_v157, w12_1_v155, w12_1_v153, w12_1_v715, w12_1_v713] <;> rfl
theorem w12_2_v700 : w12_2 V0 (no_index (Proc.devRef .tc main_v700)) = ev700 V0 :=
  (w12_2_step V0 main_v700 (by decide)).trans (w12_1_v700 V0)
theorem w12_2_v629 : w12_2 V0 (no_index (Proc.devRef .tc main_v629)) = ev629 V0 :=
  (w12_2_step V0 main_v629 (by decide)).trans (w12_1_v629 V0)
theorem w12_2_v558 : w12_2 V0 (no_index (Proc.devRef .tc main_v558)) = ev558 V0 :=
  (w12_2_step V0 main_v558 (by decide)).trans (w12_1_v558 V0)
theorem w12_2_v483 : w12_2 V0 (no_index (Proc.devRef .tc main_v483)) = ev483 V0 :=
  (w12_2_step V0 main_v483 (by decide)).trans (w12_1_v483 V0)
theorem w12_2_v517 : w12_2 V0 (no_index (Proc.devRef .tc main_v517)) = ev517 V0 :=
  (w12_2_step V0 main_v517 (by decide)).trans (w12_1_v517 V0)
theorem w13_v738 : w13 V0 (no_index (Proc.devRef .tc main_v738)) = shapeCast _ (extractStridedSlice S1x64 ![2, 0] (V0 (Proc.devRef .tc main_arg15)) slices_S3x64_S1x64_2_0) shapeCasts_S1x64_S64 :=
  (w13_step V0 main_v738 (by decide)).trans (w12_2_v738 V0)
theorem w13_v224 : w13 V0 (no_index (Proc.devRef .tc main_v224)) = t64x64x1_8 F (res_main_v206 V0) :=
  (w13_low V0 main_v224 (by decide)).trans ((w4_s2_back V0 main_v224 (by decide)).trans (w4_s2_v224 V0))
theorem w13_v739 : w13 V0 (no_index (Proc.devRef .tc main_v739)) = res_main_v739 V0 :=
  (w13_step V0 main_v739 (by decide)).trans (w12_2_v739 V0)
theorem w13_v222 : w13 V0 (no_index (Proc.devRef .tc main_v222)) = t64x64x1_7 F (res_main_v206 V0) :=
  (w13_low V0 main_v222 (by decide)).trans ((w4_s2_back V0 main_v222 (by decide)).trans (w4_s2_v222 V0))
theorem w13_v220 : w13 V0 (no_index (Proc.devRef .tc main_v220)) = t64x64x1_6 F (res_main_v206 V0) :=
  (w13_low V0 main_v220 (by decide)).trans ((w4_s2_back V0 main_v220 (by decide)).trans (w4_s2_v220 V0))
theorem w13_v218 : w13 V0 (no_index (Proc.devRef .tc main_v218)) = t64x64x1_5 F (res_main_v206 V0) :=
  (w13_low V0 main_v218 (by decide)).trans ((w4_s2_back V0 main_v218 (by decide)).trans (w4_s2_v218 V0))
theorem w13_v216 : w13 V0 (no_index (Proc.devRef .tc main_v216)) = t64x64x1_4 F (res_main_v206 V0) :=
  (w13_low V0 main_v216 (by decide)).trans ((w4_s2_back V0 main_v216 (by decide)).trans (w4_s2_v216 V0))
theorem w13_v214 : w13 V0 (no_index (Proc.devRef .tc main_v214)) = t64x64x1_3 F (res_main_v206 V0) :=
  (w13_low V0 main_v214 (by decide)).trans ((w4_s2_back V0 main_v214 (by decide)).trans (w4_s2_v214 V0))
theorem w13_v212 : w13 V0 (no_index (Proc.devRef .tc main_v212)) = t64x64x1_2 F (res_main_v206 V0) :=
  (w13_low V0 main_v212 (by decide)).trans ((w4_s2_back V0 main_v212 (by decide)).trans (w4_s2_v212 V0))
theorem w13_v210 : w13 V0 (no_index (Proc.devRef .tc main_v210)) = t64x64x1_1 F (res_main_v206 V0) :=
  (w13_low V0 main_v210 (by decide)).trans ((w4_s2_back V0 main_v210 (by decide)).trans (w4_s2_v210 V0))
theorem w13_v744 : w13 V0 (no_index (Proc.devRef .tc main_v744)) = p64_01 F (res_main_v739 V0) := by
  simp only [w13, o12_2]; after_results_simp; simp only [w12_2_v739] <;> rfl
theorem w13_v743 : w13 V0 (no_index (Proc.devRef .tc main_v743)) = addf (z64 F) (d64_64 F (p64_00 F (res_main_v739 V0)) (t64x64x1_0 F (res_main_v206 V0))) := by
  simp only [w13, o12_2]; after_results_simp; simp only [w12_2_v741] <;> rfl
theorem w13_v700 : w13 V0 (no_index (Proc.devRef .tc main_v700)) = ev700 V0 :=
  (w13_step V0 main_v700 (by decide)).trans (w12_2_v700 V0)
theorem w13_v629 : w13 V0 (no_index (Proc.devRef .tc main_v629)) = ev629 V0 :=
  (w13_step V0 main_v629 (by decide)).trans (w12_2_v629 V0)
theorem w13_v558 : w13 V0 (no_index (Proc.devRef .tc main_v558)) = ev558 V0 :=
  (w13_step V0 main_v558 (by decide)).trans (w12_2_v558 V0)
theorem w13_v483 : w13 V0 (no_index (Proc.devRef .tc main_v483)) = ev483 V0 :=
  (w13_step V0 main_v483 (by decide)).trans (w12_2_v483 V0)
theorem w13_v517 : w13 V0 (no_index (Proc.devRef .tc main_v517)) = ev517 V0 :=
  (w13_step V0 main_v517 (by decide)).trans (w12_2_v517 V0)
theorem w13_1_v774 : w13_1 V0 (no_index (Proc.devRef .tc main_v774)) = ev774 V0 := by
  simp only [w13_1, o13_0]; after_results_simp; simp only [w13_v738, w13_v224, w13_v739, w13_v222, w13_v220, w13_v218, w13_v216, w13_v214, w13_v212, w13_v210, w13_v744, w13_v743] <;> rfl
theorem w13_1_v773 : w13_1 V0 (no_index (Proc.devRef .tc main_v773)) = ev773 V0 := by
  simp only [w13_1, o13_0]; after_results_simp; simp only [w13_v700] <;> rfl
theorem w13_1_v772 : w13_1 V0 (no_index (Proc.devRef .tc main_v772)) = ev772 V0 := by
  simp only [w13_1, o13_0]; after_results_simp; simp only [w13_v629] <;> rfl
theorem w13_1_v558 : w13_1 V0 (no_index (Proc.devRef .tc main_v558)) = ev558 V0 :=
  (w13_1_step V0 main_v558 (by decide)).trans (w13_v558 V0)
theorem w13_1_v241 : w13_1 V0 (no_index (Proc.devRef .tc main_v241)) = t1x64x1_7 F (res_main_v225 V0) :=
  (w13_1_low V0 main_v241 (by decide)).trans ((w5_s0_back V0 main_v241 (by decide)).trans (w5_s0_v241 V0))
theorem w13_1_v239 : w13_1 V0 (no_index (Proc.devRef .tc main_v239)) = t1x64x1_6 F (res_main_v225 V0) :=
  (w13_1_low V0 main_v239 (by decide)).trans ((w4_back V0 main_v239 (by decide)).trans (w4_v239 V0))
theorem w13_1_v237 : w13_1 V0 (no_index (Proc.devRef .tc main_v237)) = t1x64x1_5 F (res_main_v225 V0) :=
  (w13_1_low V0 main_v237 (by decide)).trans ((w4_back V0 main_v237 (by decide)).trans (w4_v237 V0))
theorem w13_1_v235 : w13_1 V0 (no_index (Proc.devRef .tc main_v235)) = t1x64x1_4 F (res_main_v225 V0) :=
  (w13_1_low V0 main_v235 (by decide)).trans ((w4_back V0 main_v235 (by decide)).trans (w4_v235 V0))
theorem w13_1_v233 : w13_1 V0 (no_index (Proc.devRef .tc main_v233)) = t1x64x1_3 F (res_main_v225 V0) :=
  (w13_1_low V0 main_v233 (by decide)).trans ((w4_back V0 main_v233 (by decide)).trans (w4_v233 V0))
theorem w13_1_v231 : w13_1 V0 (no_index (Proc.devRef .tc main_v231)) = t1x64x1_2 F (res_main_v225 V0) :=
  (w13_1_low V0 main_v231 (by decide)).trans ((w4_back V0 main_v231 (by decide)).trans (w4_v231 V0))
theorem w13_1_v229 : w13_1 V0 (no_index (Proc.devRef .tc main_v229)) = t1x64x1_1 F (res_main_v225 V0) :=
  (w13_1_low V0 main_v229 (by decide)).trans ((w4_back V0 main_v229 (by decide)).trans (w4_v229 V0))
theorem w13_1_v227 : w13_1 V0 (no_index (Proc.devRef .tc main_v227)) = t1x64x1_0 F (res_main_v225 V0) :=
  (w13_1_low V0 main_v227 (by decide)).trans ((w4_back V0 main_v227 (by decide)).trans (w4_v227 V0))
theorem w13_1_v483 : w13_1 V0 (no_index (Proc.devRef .tc main_v483)) = ev483 V0 :=
  (w13_1_step V0 main_v483 (by decide)).trans (w13_v483 V0)
theorem w13_1_v517 : w13_1 V0 (no_index (Proc.devRef .tc main_v517)) = ev517 V0 :=
  (w13_1_step V0 main_v517 (by decide)).trans (w13_v517 V0)
theorem w13_2_v777 : w13_2 V0 (no_index (Proc.devRef .tc main_v777)) = res_main_v777 V0 := by
  unfold w13_2
  simp only [o13_1, TRef.binary, TRef.unary, TRef.toBuf, TRef.ofBuf, cast_eq]
  after_results_simp
  try dsimp only [Matrix.cons_val]
  try after_results_simp
  simp only [w13_1_v774, w13_1_v773, w13_1_v772, w13_1_v558] <;> rfl
theorem w13_2_v801 : w13_2 V0 (no_index (Proc.devRef .tc main_v801)) = d64_1 F (p64_21 F (res_main_v777 V0)) (t1x64x1_7 F (res_main_v225 V0)) := by
  unfold w13_2
  simp only [o13_1, TRef.binary, TRef.unary, TRef.toBuf, TRef.ofBuf, cast_eq]
  after_results_simp
  try dsimp only [Matrix.cons_val]
  try after_results_simp
  simp only [w13_1_v241, w13_1_v774, w13_1_v773, w13_1_v772, w13_1_v558] <;> rfl
theorem w13_2_v799 : w13_2 V0 (no_index (Proc.devRef .tc main_v799)) = ev799 V0 := by
  unfold w13_2
  simp only [o13_1, TRef.binary, TRef.unary, TRef.toBuf, TRef.ofBuf, cast_eq]
  after_results_simp
  try dsimp only [Matrix.cons_val]
  try after_results_simp
  simp only [w13_1_v239, w13_1_v774, w13_1_v773, w13_1_v772, w13_1_v558, w13_1_v237, w13_1_v235, w13_1_v233, w13_1_v231, w13_1_v229, w13_1_v227] <;> rfl
theorem w13_2_v483 : w13_2 V0 (no_index (Proc.devRef .tc main_v483)) = ev483 V0 :=
  (w13_2_step V0 main_v483 (by decide)).trans (w13_1_v483 V0)
theorem w13_2_v517 : w13_2 V0 (no_index (Proc.devRef .tc main_v517)) = ev517 V0 :=
  (w13_2_step V0 main_v517 (by decide)).trans (w13_1_v517 V0)
theorem w14_arg17 : w14 V0 (no_index (Proc.devRef .tc main_arg17)) = V0 (Proc.devRef .tc main_arg17) :=
  w14_arg V0 main_arg17 (by decide)
theorem w14_v243 : w14 V0 (no_index (Proc.devRef .tc main_v243)) = t1x64x1_8 F (res_main_v225 V0) :=
  (w14_low V0 main_v243 (by decide)).trans ((w5_s0_back V0 main_v243 (by decide)).trans (w5_s0_v243 V0))
theorem w14_v777 : w14 V0 (no_index (Proc.devRef .tc main_v777)) = res_main_v777 V0 :=
  (w14_step V0 main_v777 (by decide)).trans (w13_2_v777 V0)
theorem w14_v802 : w14 V0 (no_index (Proc.devRef .tc main_v802)) = ev802 V0 := by
  simp only [w14, o13_2]; after_results_simp; simp only [w13_2_v801, w13_2_v799] <;> rfl
theorem w14_arg0 : w14 V0 (no_index (Proc.devRef .tc main_arg0)) = V0 (Proc.devRef .tc main_arg0) :=
  w14_arg V0 main_arg0 (by decide)
theorem w14_v256 : w14 V0 (no_index (Proc.devRef .tc main_v256)) = t64x1x1_5 F (res_main_v244 V0) :=
  (w14_low V0 main_v256 (by decide)).trans ((w5_s1_back V0 main_v256 (by decide)).trans (w5_s1_v256 V0))
theorem w14_v254 : w14 V0 (no_index (Proc.devRef .tc main_v254)) = t64x1x1_4 F (res_main_v244 V0) :=
  (w14_low V0 main_v254 (by decide)).trans ((w5_s1_back V0 main_v254 (by decide)).trans (w5_s1_v254 V0))
theorem w14_v252 : w14 V0 (no_index (Proc.devRef .tc main_v252)) = t64x1x1_3 F (res_main_v244 V0) :=
  (w14_low V0 main_v252 (by decide)).trans ((w5_s1_back V0 main_v252 (by decide)).trans (w5_s1_v252 V0))
theorem w14_v250 : w14 V0 (no_index (Proc.devRef .tc main_v250)) = t64x1x1_2 F (res_main_v244 V0) :=
  (w14_low V0 main_v250 (by decide)).trans ((w5_s1_back V0 main_v250 (by decide)).trans (w5_s1_v250 V0))
theorem w14_v248 : w14 V0 (no_index (Proc.devRef .tc main_v248)) = t64x1x1_1 F (res_main_v244 V0) :=
  (w14_low V0 main_v248 (by decide)).trans ((w5_s1_back V0 main_v248 (by decide)).trans (w5_s1_v248 V0))
theorem w14_v246 : w14 V0 (no_index (Proc.devRef .tc main_v246)) = t64x1x1_0 F (res_main_v244 V0) :=
  (w14_low V0 main_v246 (by decide)).trans ((w5_s1_back V0 main_v246 (by decide)).trans (w5_s1_v246 V0))
theorem w14_v483 : w14 V0 (no_index (Proc.devRef .tc main_v483)) = ev483 V0 :=
  (w14_step V0 main_v483 (by decide)).trans (w13_2_v483 V0)
theorem w14_v517 : w14 V0 (no_index (Proc.devRef .tc main_v517)) = ev517 V0 :=
  (w14_step V0 main_v517 (by decide)).trans (w13_2_v517 V0)
theorem w14_1_arg21 : w14_1 V0 (no_index (Proc.devRef .tc main_arg21)) = V0 (Proc.devRef .tc main_arg21) :=
  w14_1_arg V0 main_arg21 (by decide)
theorem w14_1_arg19 : w14_1 V0 (no_index (Proc.devRef .tc main_arg19)) = V0 (Proc.devRef .tc main_arg19) :=
  w14_1_arg V0 main_arg19 (by decide)
theorem w14_1_v262 : w14_1 V0 (no_index (Proc.devRef .tc main_v262)) = t64x1x1_8 F (res_main_v244 V0) :=
  (w14_1_low V0 main_v262 (by decide)).trans ((w5_s1_back V0 main_v262 (by decide)).trans (w5_s1_v262 V0))
theorem w14_1_v811 : w14_1 V0 (no_index (Proc.devRef .tc main_v811)) = res_main_v811 V0 := by
  simp only [w14_1, o14_0, TRef.binary, TRef.unary, TRef.toBuf, TRef.ofBuf, cast_eq]; after_results_simp; simp only [w14_arg17, w14_v243, w14_v777, w14_v802, w14_arg0] <;> rfl
theorem w14_1_v260 : w14_1 V0 (no_index (Proc.devRef .tc main_v260)) = t64x1x1_7 F (res_main_v244 V0) :=
  (w14_1_low V0 main_v260 (by decide)).trans ((w5_s1_back V0 main_v260 (by decide)).trans (w5_s1_v260 V0))
theorem w14_1_v258 : w14_1 V0 (no_index (Proc.devRef .tc main_v258)) = t64x1x1_6 F (res_main_v244 V0) :=
  (w14_1_low V0 main_v258 (by decide)).trans ((w5_s1_back V0 main_v258 (by decide)).trans (w5_s1_v258 V0))
theorem w14_1_v829 : w14_1 V0 (no_index (Proc.devRef .tc main_v829)) = d1_64 F (p1_12 F (res_main_v811 V0)) (t64x1x1_5 F (res_main_v244 V0)) := by
  simp only [w14_1, o14_0, TRef.binary, TRef.unary, TRef.toBuf, TRef.ofBuf, cast_eq]; after_results_simp; simp only [w14_v256, w14_arg17, w14_v243, w14_v777, w14_v802, w14_arg0] <;> rfl
theorem w14_1_v827 : w14_1 V0 (no_index (Proc.devRef .tc main_v827)) = ev827 V0 := by
  simp only [w14_1, o14_0, TRef.binary, TRef.unary, TRef.toBuf, TRef.ofBuf, cast_eq]; after_results_simp; simp only [w14_v254, w14_arg17, w14_v243, w14_v777, w14_v802, w14_arg0, w14_v252, w14_v250, w14_v248, w14_v246] <;> rfl
theorem w14_1_v269 : w14_1 V0 (no_index (Proc.devRef .tc main_v269)) = t64x64x1_1 F (res_main_v265 V0) :=
  (w14_1_low V0 main_v269 (by decide)).trans ((w5_s2_back V0 main_v269 (by decide)).trans (w5_s2_v269 V0))
theorem w14_1_v267 : w14_1 V0 (no_index (Proc.devRef .tc main_v267)) = t64x64x1_0 F (res_main_v265 V0) :=
  (w14_1_low V0 main_v267 (by decide)).trans ((w5_s2_back V0 main_v267 (by decide)).trans (w5_s2_v267 V0))
theorem w14_1_v809 : w14_1 V0 (no_index (Proc.devRef .tc main_v809)) = ev809 V0 := by
  simp only [w14_1, o14_0, TRef.binary, TRef.unary, TRef.toBuf, TRef.ofBuf, cast_eq]; after_results_simp; simp only [w14_arg17, w14_v243, w14_v777, w14_v802] <;> rfl
theorem w14_1_v483 : w14_1 V0 (no_index (Proc.devRef .tc main_v483)) = ev483 V0 :=
  (w14_1_step V0 main_v483 (by decide)).trans (w14_v483 V0)
theorem w14_1_v517 : w14_1 V0 (no_index (Proc.devRef .tc main_v517)) = ev517 V0 :=
  (w14_1_step V0 main_v517 (by decide)).trans (w14_v517 V0)
theorem w14_2_v846 : w14_2 V0 (no_index (Proc.devRef .tc main_v846)) = shapeCast _ (extractStridedSlice S1x64 ![0, 0] (V0 (Proc.devRef .tc main_arg21)) slices_S3x64_S1x64_0_0) shapeCasts_S1x64_S64 := by
  simp only [w14_2, o14_1, TRef.binary, TRef.nullary, TRef.unary, TRef.toBuf, TRef.ofBuf, cast_eq]; after_results_simp; simp only [w14_1_arg21] <;> rfl
theorem w14_2_v847 : w14_2 V0 (no_index (Proc.devRef .tc main_v847)) = res_main_v847 V0 := by
  simp only [w14_2, o14_1, TRef.binary, TRef.nullary, TRef.unary, TRef.toBuf, TRef.ofBuf, cast_eq]; after_results_simp; simp only [w14_1_arg19, w14_1_v262, w14_1_v811, w14_1_v260, w14_1_v258, w14_1_v829, w14_1_v827] <;> rfl
theorem w14_2_v271 : w14_2 V0 (no_index (Proc.devRef .tc main_v271)) = t64x64x1_2 F (res_main_v265 V0) :=
  (w14_2_low V0 main_v271 (by decide)).trans ((w5_s2_back V0 main_v271 (by decide)).trans (w5_s2_v271 V0))
theorem w14_2_v854 : w14_2 V0 (no_index (Proc.devRef .tc main_v854)) = ev854 V0 := by
  simp only [w14_2, o14_1, TRef.binary, TRef.nullary, TRef.unary, TRef.toBuf, TRef.ofBuf, cast_eq]; after_results_simp; simp only [w14_1_v269, w14_1_arg19, w14_1_v262, w14_1_v811, w14_1_v260, w14_1_v258, w14_1_v829, w14_1_v827, w14_1_v267] <;> rfl
theorem w14_2_v809 : w14_2 V0 (no_index (Proc.devRef .tc main_v809)) = ev809 V0 :=
  (w14_2_step V0 main_v809 (by decide)).trans (w14_1_v809 V0)
theorem w14_2_v483 : w14_2 V0 (no_index (Proc.devRef .tc main_v483)) = ev483 V0 :=
  (w14_2_step V0 main_v483 (by decide)).trans (w14_1_v483 V0)
theorem w14_2_v517 : w14_2 V0 (no_index (Proc.devRef .tc main_v517)) = ev517 V0 :=
  (w14_2_step V0 main_v517 (by decide)).trans (w14_1_v517 V0)
theorem w15_arg21 : w15 V0 (no_index (Proc.devRef .tc main_arg21)) = V0 (Proc.devRef .tc main_arg21) :=
  w15_arg V0 main_arg21 (by decide)
theorem w15_v846 : w15 V0 (no_index (Proc.devRef .tc main_v846)) = shapeCast _ (extractStridedSlice S1x64 ![0, 0] (V0 (Proc.devRef .tc main_arg21)) slices_S3x64_S1x64_0_0) shapeCasts_S1x64_S64 :=
  (w15_step V0 main_v846 (by decide)).trans (w14_2_v846 V0)
theorem w15_v283 : w15 V0 (no_index (Proc.devRef .tc main_v283)) = t64x64x1_8 F (res_main_v265 V0) :=
  (w15_low V0 main_v283 (by decide)).trans ((w5_s2_back V0 main_v283 (by decide)).trans (w5_s2_v283 V0))
theorem w15_v847 : w15 V0 (no_index (Proc.devRef .tc main_v847)) = res_main_v847 V0 :=
  (w15_step V0 main_v847 (by decide)).trans (w14_2_v847 V0)
theorem w15_v281 : w15 V0 (no_index (Proc.devRef .tc main_v281)) = t64x64x1_7 F (res_main_v265 V0) :=
  (w15_low V0 main_v281 (by decide)).trans ((w5_s2_back V0 main_v281 (by decide)).trans (w5_s2_v281 V0))
theorem w15_v279 : w15 V0 (no_index (Proc.devRef .tc main_v279)) = t64x64x1_6 F (res_main_v265 V0) :=
  (w15_low V0 main_v279 (by decide)).trans ((w5_s2_back V0 main_v279 (by decide)).trans (w5_s2_v279 V0))
theorem w15_v277 : w15 V0 (no_index (Proc.devRef .tc main_v277)) = t64x64x1_5 F (res_main_v265 V0) :=
  (w15_low V0 main_v277 (by decide)).trans ((w5_s2_back V0 main_v277 (by decide)).trans (w5_s2_v277 V0))
theorem w15_v275 : w15 V0 (no_index (Proc.devRef .tc main_v275)) = t64x64x1_4 F (res_main_v265 V0) :=
  (w15_low V0 main_v275 (by decide)).trans ((w5_s2_back V0 main_v275 (by decide)).trans (w5_s2_v275 V0))
theorem w15_v273 : w15 V0 (no_index (Proc.devRef .tc main_v273)) = t64x64x1_3 F (res_main_v265 V0) :=
  (w15_low V0 main_v273 (by decide)).trans ((w5_s2_back V0 main_v273 (by decide)).trans (w5_s2_v273 V0))
theorem w15_v858 : w15 V0 (no_index (Proc.devRef .tc main_v858)) = p64_10 F (res_main_v847 V0) := by
  simp only [w15, o14_2]; after_results_simp; simp only [w14_2_v847] <;> rfl
theorem w15_v857 : w15 V0 (no_index (Proc.devRef .tc main_v857)) = ev857 V0 := by
  simp only [w15, o14_2]; after_results_simp; simp only [w14_2_v271, w14_2_v847, w14_2_v854] <;> rfl
theorem w15_v809 : w15 V0 (no_index (Proc.devRef .tc main_v809)) = ev809 V0 :=
  (w15_step V0 main_v809 (by decide)).trans (w14_2_v809 V0)
theorem w15_v483 : w15 V0 (no_index (Proc.devRef .tc main_v483)) = ev483 V0 :=
  (w15_step V0 main_v483 (by decide)).trans (w14_2_v483 V0)
theorem w15_v517 : w15 V0 (no_index (Proc.devRef .tc main_v517)) = ev517 V0 :=
  (w15_step V0 main_v517 (by decide)).trans (w14_2_v517 V0)
theorem w15_1_v882 : w15_1 V0 (no_index (Proc.devRef .tc main_v882)) = shapeCast _ (extractStridedSlice S1x64 ![1, 0] (V0 (Proc.devRef .tc main_arg21)) slices_S3x64_S1x64_1_0) shapeCasts_S1x64_S64 := by
  simp only [w15_1, o15_0, TRef.binary, TRef.nullary, TRef.unary, TRef.toBuf, TRef.ofBuf, cast_eq]; after_results_simp; simp only [w15_arg21] <;> rfl
theorem w15_1_v304 : w15_1 V0 (no_index (Proc.devRef .tc main_v304)) = t64x64x1_8 F (res_main_v286 V0) :=
  (w15_1_low V0 main_v304 (by decide)).trans ((w5_1_back V0 main_v304 (by decide)).trans (w5_1_v304 V0))
theorem w15_1_v883 : w15_1 V0 (no_index (Proc.devRef .tc main_v883)) = res_main_v883 V0 := by
  simp only [w15_1, o15_0, TRef.binary, TRef.nullary, TRef.unary, TRef.toBuf, TRef.ofBuf, cast_eq]; after_results_simp; simp only [w15_v846, w15_v283, w15_v847, w15_v281, w15_v279, w15_v277, w15_v275, w15_v273, w15_v858, w15_v857] <;> rfl
theorem w15_1_v302 : w15_1 V0 (no_index (Proc.devRef .tc main_v302)) = t64x64x1_7 F (res_main_v286 V0) :=
  (w15_1_low V0 main_v302 (by decide)).trans ((w5_1_back V0 main_v302 (by decide)).trans (w5_1_v302 V0))
theorem w15_1_v300 : w15_1 V0 (no_index (Proc.devRef .tc main_v300)) = t64x64x1_6 F (res_main_v286 V0) :=
  (w15_1_low V0 main_v300 (by decide)).trans ((w5_1_back V0 main_v300 (by decide)).trans (w5_1_v300 V0))
theorem w15_1_v298 : w15_1 V0 (no_index (Proc.devRef .tc main_v298)) = t64x64x1_5 F (res_main_v286 V0) :=
  (w15_1_low V0 main_v298 (by decide)).trans ((w5_back V0 main_v298 (by decide)).trans (w5_v298 V0))
theorem w15_1_v296 : w15_1 V0 (no_index (Proc.devRef .tc main_v296)) = t64x64x1_4 F (res_main_v286 V0) :=
  (w15_1_low V0 main_v296 (by decide)).trans ((w5_back V0 main_v296 (by decide)).trans (w5_v296 V0))
theorem w15_1_v294 : w15_1 V0 (no_index (Proc.devRef .tc main_v294)) = t64x64x1_3 F (res_main_v286 V0) :=
  (w15_1_low V0 main_v294 (by decide)).trans ((w5_back V0 main_v294 (by decide)).trans (w5_v294 V0))
theorem w15_1_v292 : w15_1 V0 (no_index (Proc.devRef .tc main_v292)) = t64x64x1_2 F (res_main_v286 V0) :=
  (w15_1_low V0 main_v292 (by decide)).trans ((w5_back V0 main_v292 (by decide)).trans (w5_v292 V0))
theorem w15_1_v290 : w15_1 V0 (no_index (Proc.devRef .tc main_v290)) = t64x64x1_1 F (res_main_v286 V0) :=
  (w15_1_low V0 main_v290 (by decide)).trans ((w5_back V0 main_v290 (by decide)).trans (w5_v290 V0))
theorem w15_1_v288 : w15_1 V0 (no_index (Proc.devRef .tc main_v288)) = t64x64x1_0 F (res_main_v286 V0) :=
  (w15_1_low V0 main_v288 (by decide)).trans ((w5_back V0 main_v288 (by decide)).trans (w5_v288 V0))
theorem w15_1_v884 : w15_1 V0 (no_index (Proc.devRef .tc main_v884)) = p64_00 F (res_main_v883 V0) := by
  simp only [w15_1, o15_0, TRef.binary, TRef.nullary, TRef.unary, TRef.toBuf, TRef.ofBuf, cast_eq]; after_results_simp; simp only [w15_v846, w15_v283, w15_v847, w15_v281, w15_v279, w15_v277, w15_v275, w15_v273, w15_v858, w15_v857] <;> rfl
theorem w15_1_v809 : w15_1 V0 (no_index (Proc.devRef .tc main_v809)) = ev809 V0 :=
  (w15_1_step V0 main_v809 (by decide)).trans (w15_v809 V0)
theorem w15_1_v483 : w15_1 V0 (no_index (Proc.devRef .tc main_v483)) = ev483 V0 :=
  (w15_1_step V0 main_v483 (by decide)).trans (w15_v483 V0)
theorem w15_1_v517 : w15_1 V0 (no_index (Proc.devRef .tc main_v517)) = ev517 V0 :=
  (w15_1_step V0 main_v517 (by decide)).trans (w15_v517 V0)
theorem w15_2_v913 : w15_2 V0 (no_index (Proc.devRef .tc main_v913)) = ev913 V0 := by
  simp only [w15_2, o15_1]; after_results_simp; simp only [w15_1_v882] <;> rfl
theorem w15_2_v912 : w15_2 V0 (no_index (Proc.devRef .tc main_v912)) = ev912 V0 := by
  simp only [w15_2, o15_1]; after_results_simp; simp only [w15_1_v304, w15_1_v883, w15_1_v302, w15_1_v300, w15_1_v298, w15_1_v296, w15_1_v294, w15_1_v292, w15_1_v290, w15_1_v288, w15_1_v884] <;> rfl
theorem w15_2_v809 : w15_2 V0 (no_index (Proc.devRef .tc main_v809)) = ev809 V0 :=
  (w15_2_step V0 main_v809 (by decide)).trans (w15_1_v809 V0)
theorem w15_2_v483 : w15_2 V0 (no_index (Proc.devRef .tc main_v483)) = ev483 V0 :=
  (w15_2_step V0 main_v483 (by decide)).trans (w15_1_v483 V0)
theorem w15_2_v517 : w15_2 V0 (no_index (Proc.devRef .tc main_v517)) = ev517 V0 :=
  (w15_2_step V0 main_v517 (by decide)).trans (w15_1_v517 V0)
theorem w16_arg21 : w16 V0 (no_index (Proc.devRef .tc main_arg21)) = V0 (Proc.devRef .tc main_arg21) :=
  w16_arg V0 main_arg21 (by decide)
theorem w16_v916 : w16 V0 (no_index (Proc.devRef .tc main_v916)) = ev916 V0 := by
  simp only [w16, o15_2, TRef.binary, TRef.nullary, TRef.unary, TRef.toBuf, TRef.ofBuf, cast_eq]; after_results_simp; simp only [w15_2_v913, w15_2_v912] <;> rfl
theorem w16_v323 : w16 V0 (no_index (Proc.devRef .tc main_v323)) = t64x64x1_7 F (res_main_v307 V0) :=
  (w16_low V0 main_v323 (by decide)).trans ((w5_1_back V0 main_v323 (by decide)).trans (w5_1_v323 V0))
theorem w16_v321 : w16 V0 (no_index (Proc.devRef .tc main_v321)) = t64x64x1_6 F (res_main_v307 V0) :=
  (w16_low V0 main_v321 (by decide)).trans ((w5_1_back V0 main_v321 (by decide)).trans (w5_1_v321 V0))
theorem w16_v319 : w16 V0 (no_index (Proc.devRef .tc main_v319)) = t64x64x1_5 F (res_main_v307 V0) :=
  (w16_low V0 main_v319 (by decide)).trans ((w5_1_back V0 main_v319 (by decide)).trans (w5_1_v319 V0))
theorem w16_v317 : w16 V0 (no_index (Proc.devRef .tc main_v317)) = t64x64x1_4 F (res_main_v307 V0) :=
  (w16_low V0 main_v317 (by decide)).trans ((w5_1_back V0 main_v317 (by decide)).trans (w5_1_v317 V0))
theorem w16_v315 : w16 V0 (no_index (Proc.devRef .tc main_v315)) = t64x64x1_3 F (res_main_v307 V0) :=
  (w16_low V0 main_v315 (by decide)).trans ((w5_1_back V0 main_v315 (by decide)).trans (w5_1_v315 V0))
theorem w16_v313 : w16 V0 (no_index (Proc.devRef .tc main_v313)) = t64x64x1_2 F (res_main_v307 V0) :=
  (w16_low V0 main_v313 (by decide)).trans ((w5_1_back V0 main_v313 (by decide)).trans (w5_1_v313 V0))
theorem w16_v311 : w16 V0 (no_index (Proc.devRef .tc main_v311)) = t64x64x1_1 F (res_main_v307 V0) :=
  (w16_low V0 main_v311 (by decide)).trans ((w5_1_back V0 main_v311 (by decide)).trans (w5_1_v311 V0))
theorem w16_v309 : w16 V0 (no_index (Proc.devRef .tc main_v309)) = t64x64x1_0 F (res_main_v307 V0) :=
  (w16_low V0 main_v309 (by decide)).trans ((w5_1_back V0 main_v309 (by decide)).trans (w5_1_v309 V0))
theorem w16_v809 : w16 V0 (no_index (Proc.devRef .tc main_v809)) = ev809 V0 :=
  (w16_step V0 main_v809 (by decide)).trans (w15_2_v809 V0)
theorem w16_v483 : w16 V0 (no_index (Proc.devRef .tc main_v483)) = ev483 V0 :=
  (w16_step V0 main_v483 (by decide)).trans (w15_2_v483 V0)
theorem w16_v517 : w16 V0 (no_index (Proc.devRef .tc main_v517)) = ev517 V0 :=
  (w16_step V0 main_v517 (by decide)).trans (w15_2_v517 V0)
theorem w16_1_v918 : w16_1 V0 (no_index (Proc.devRef .tc main_v918)) = shapeCast _ (extractStridedSlice S1x64 ![2, 0] (V0 (Proc.devRef .tc main_arg21)) slices_S3x64_S1x64_2_0) shapeCasts_S1x64_S64 := by
  simp only [w16_1, o16_0, TRef.binary, TRef.unary, TRef.toBuf, TRef.ofBuf, cast_eq]; after_results_simp; simp only [w16_arg21] <;> rfl
theorem w16_1_v325 : w16_1 V0 (no_index (Proc.devRef .tc main_v325)) = t64x64x1_8 F (res_main_v307 V0) :=
  (w16_1_low V0 main_v325 (by decide)).trans ((w5_1_back V0 main_v325 (by decide)).trans (w5_1_v325 V0))
theorem w16_1_v919 : w16_1 V0 (no_index (Proc.devRef .tc main_v919)) = res_main_v919 V0 := by
  simp only [w16_1, o16_0, TRef.binary, TRef.unary, TRef.toBuf, TRef.ofBuf, cast_eq]; after_results_simp; simp only [w16_v916] <;> rfl
theorem w16_1_v943 : w16_1 V0 (no_index (Proc.devRef .tc main_v943)) = d64_64 F (p64_21 F (res_main_v919 V0)) (t64x64x1_7 F (res_main_v307 V0)) := by
  simp only [w16_1, o16_0, TRef.binary, TRef.unary, TRef.toBuf, TRef.ofBuf, cast_eq]; after_results_simp; simp only [w16_v323, w16_v916] <;> rfl
theorem w16_1_v941 : w16_1 V0 (no_index (Proc.devRef .tc main_v941)) = ev941 V0 := by
  simp only [w16_1, o16_0, TRef.binary, TRef.unary, TRef.toBuf, TRef.ofBuf, cast_eq]; after_results_simp; simp only [w16_v321, w16_v916, w16_v319, w16_v317, w16_v315, w16_v313, w16_v311, w16_v309] <;> rfl
theorem w16_1_v336 : w16_1 V0 (no_index (Proc.devRef .tc main_v336)) = t1x64x1_4 F (res_main_v326 V0) :=
  (w16_1_low V0 main_v336 (by decide)).trans ((w5_2_back V0 main_v336 (by decide)).trans (w5_2_v336 V0))
theorem w16_1_v334 : w16_1 V0 (no_index (Proc.devRef .tc main_v334)) = t1x64x1_3 F (res_main_v326 V0) :=
  (w16_1_low V0 main_v334 (by decide)).trans ((w5_2_back V0 main_v334 (by decide)).trans (w5_2_v334 V0))
theorem w16_1_v332 : w16_1 V0 (no_index (Proc.devRef .tc main_v332)) = t1x64x1_2 F (res_main_v326 V0) :=
  (w16_1_low V0 main_v332 (by decide)).trans ((w5_2_back V0 main_v332 (by decide)).trans (w5_2_v332 V0))
theorem w16_1_v330 : w16_1 V0 (no_index (Proc.devRef .tc main_v330)) = t1x64x1_1 F (res_main_v326 V0) :=
  (w16_1_low V0 main_v330 (by decide)).trans ((w5_2_back V0 main_v330 (by decide)).trans (w5_2_v330 V0))
theorem w16_1_v328 : w16_1 V0 (no_index (Proc.devRef .tc main_v328)) = t1x64x1_0 F (res_main_v326 V0) :=
  (w16_1_low V0 main_v328 (by decide)).trans ((w5_1_back V0 main_v328 (by decide)).trans (w5_1_v328 V0))
theorem w16_1_v809 : w16_1 V0 (no_index (Proc.devRef .tc main_v809)) = ev809 V0 :=
  (w16_1_step V0 main_v809 (by decide)).trans (w16_v809 V0)
theorem w16_1_v483 : w16_1 V0 (no_index (Proc.devRef .tc main_v483)) = ev483 V0 :=
  (w16_1_step V0 main_v483 (by decide)).trans (w16_v483 V0)
theorem w16_1_v517 : w16_1 V0 (no_index (Proc.devRef .tc main_v517)) = ev517 V0 :=
  (w16_1_step V0 main_v517 (by decide)).trans (w16_v517 V0)
theorem w16_2_v953 : w16_2 V0 (no_index (Proc.devRef .tc main_v953)) = res_main_v953 V0 := by
  simp only [w16_2, o16_1, TRef.binary, TRef.nullary, TRef.unary, TRef.toBuf, TRef.ofBuf, cast_eq]; after_results_simp; simp only [w16_1_v918, w16_1_v325, w16_1_v919, w16_1_v943, w16_1_v941] <;> rfl
theorem w16_2_v338 : w16_2 V0 (no_index (Proc.devRef .tc main_v338)) = t1x64x1_5 F (res_main_v326 V0) :=
  (w16_2_low V0 main_v338 (by decide)).trans ((w5_2_back V0 main_v338 (by decide)).trans (w5_2_v338 V0))
theorem w16_2_v968 : w16_2 V0 (no_index (Proc.devRef .tc main_v968)) = d64_1 F (p64_11 F (res_main_v953 V0)) (t1x64x1_4 F (res_main_v326 V0)) := by
  simp only [w16_2, o16_1, TRef.binary, TRef.nullary, TRef.unary, TRef.toBuf, TRef.ofBuf, cast_eq]; after_results_simp; simp only [w16_1_v336, w16_1_v918, w16_1_v325, w16_1_v919, w16_1_v943, w16_1_v941] <;> rfl
theorem w16_2_v966 : w16_2 V0 (no_index (Proc.devRef .tc main_v966)) = ev966 V0 := by
  simp only [w16_2, o16_1, TRef.binary, TRef.nullary, TRef.unary, TRef.toBuf, TRef.ofBuf, cast_eq]; after_results_simp; simp only [w16_1_v334, w16_1_v918, w16_1_v325, w16_1_v919, w16_1_v943, w16_1_v941, w16_1_v332, w16_1_v330, w16_1_v328] <;> rfl
theorem w16_2_v809 : w16_2 V0 (no_index (Proc.devRef .tc main_v809)) = ev809 V0 :=
  (w16_2_step V0 main_v809 (by decide)).trans (w16_1_v809 V0)
theorem w16_2_v483 : w16_2 V0 (no_index (Proc.devRef .tc main_v483)) = ev483 V0 :=
  (w16_2_step V0 main_v483 (by decide)).trans (w16_1_v483 V0)
theorem w16_2_v517 : w16_2 V0 (no_index (Proc.devRef .tc main_v517)) = ev517 V0 :=
  (w16_2_step V0 main_v517 (by decide)).trans (w16_1_v517 V0)
theorem w17_arg23 : w17 V0 (no_index (Proc.devRef .tc main_arg23)) = V0 (Proc.devRef .tc main_arg23) :=
  w17_arg V0 main_arg23 (by decide)
theorem w17_v344 : w17 V0 (no_index (Proc.devRef .tc main_v344)) = t1x64x1_8 F (res_main_v326 V0) :=
  (w17_low V0 main_v344 (by decide)).trans ((w5_2_back V0 main_v344 (by decide)).trans (w5_2_v344 V0))
theorem w17_v953 : w17 V0 (no_index (Proc.devRef .tc main_v953)) = res_main_v953 V0 :=
  (w17_step V0 main_v953 (by decide)).trans (w16_2_v953 V0)
theorem w17_v342 : w17 V0 (no_index (Proc.devRef .tc main_v342)) = t1x64x1_7 F (res_main_v326 V0) :=
  (w17_low V0 main_v342 (by decide)).trans ((w5_2_back V0 main_v342 (by decide)).trans (w5_2_v342 V0))
theorem w17_v340 : w17 V0 (no_index (Proc.devRef .tc main_v340)) = t1x64x1_6 F (res_main_v326 V0) :=
  (w17_low V0 main_v340 (by decide)).trans ((w5_2_back V0 main_v340 (by decide)).trans (w5_2_v340 V0))
theorem w17_v972 : w17 V0 (no_index (Proc.devRef .tc main_v972)) = ev972 V0 := by
  simp only [w17, o16_2]; after_results_simp; simp only [w16_2_v338, w16_2_v953, w16_2_v968, w16_2_v966] <;> rfl
theorem w17_v809 : w17 V0 (no_index (Proc.devRef .tc main_v809)) = ev809 V0 :=
  (w17_step V0 main_v809 (by decide)).trans (w16_2_v809 V0)
theorem w17_v483 : w17 V0 (no_index (Proc.devRef .tc main_v483)) = ev483 V0 :=
  (w17_step V0 main_v483 (by decide)).trans (w16_2_v483 V0)
theorem w17_v517 : w17 V0 (no_index (Proc.devRef .tc main_v517)) = ev517 V0 :=
  (w17_step V0 main_v517 (by decide)).trans (w16_2_v517 V0)
theorem w18_v985 : w18 V0 (no_index (Proc.devRef .tc main_v985)) = ev985 V0 := by
  simp only [w18, o17]; after_results_simp; simp only [w17_arg23, w17_v344, w17_v953, w17_v342, w17_v340, w17_v972] <;> rfl
theorem w18_v809 : w18 V0 (no_index (Proc.devRef .tc main_v809)) = ev809 V0 :=
  (w18_step V0 main_v809 (by decide)).trans (w17_v809 V0)
theorem w18_v483 : w18 V0 (no_index (Proc.devRef .tc main_v483)) = ev483 V0 :=
  (w18_step V0 main_v483 (by decide)).trans (w17_v483 V0)
theorem w18_v517 : w18 V0 (no_index (Proc.devRef .tc main_v517)) = ev517 V0 :=
  (w18_step V0 main_v517 (by decide)).trans (w17_v517 V0)

end Cert.RefNet

end
-- ==== Proof.RefSub.lean ====
/- The buffers the reference's operations use. -/
module

public import proofs.«01_k».proof.Proof.RefOps

@[expose] public section

set_option maxRecDepth 8192
set_option maxHeartbeats 4000000

noncomputable section

namespace Cert.RefNet

open Cert.ReferenceIdeal Cert.ReferenceIdeal.Gen Idealize.ShloMosaic Idealize.ShloMosaic.TcCoe Idealize.SL.Sem Idealize.ShloMosaic.StableHlo

variable {F : FTy → Type} [FloatOps F]

/-- An operation uses the core's buffers only and takes none of its own. -/
abbrev Plain (op : HloOp τ sig (Elt F)) : Prop := op.bufs ⊆ tcRefs τ sig ∧ op.fresh = ∅

/-- All operations of a list do. -/
abbrev Fine (ops : List (HloOp τ sig (Elt F))) : Prop := ops.Forall Plain

variable {x y a c e : Ref sig .tc}

theorem nu (v : y.ty.Contents (Elt F)) (hy) : Plain (nullary (τ := τ) y v hy) := ⟨nullary_bufs_sub .., rfl⟩

theorem un (f : x.ty.Contents (Elt F) → y.ty.Contents (Elt F)) (hx hy) : Plain (unary (τ := τ) x y f hx hy) :=
  ⟨unary_bufs_sub .., rfl⟩

theorem bi (f : a.ty.Contents (Elt F) → c.ty.Contents (Elt F) → y.ty.Contents (Elt F)) (ha hc hy) :
    Plain (binary (τ := τ) a c y f ha hc hy) := ⟨binary_bufs_sub .., rfl⟩

theorem te (f : e.ty.Contents (Elt F) → a.ty.Contents (Elt F) → c.ty.Contents (Elt F) → y.ty.Contents (Elt F)) (he ha hc hy) :
    Plain (ternary (τ := τ) e a c y f he ha hc hy) := ⟨ternary_bufs_sub .., rfl⟩

theorem na {n : ℕ} (xs : Fin n → Ref sig .tc) (f : ((k : Fin n) → (xs k).ty.Contents (Elt F)) → y.ty.Contents (Elt F)) (hxs hy) :
    Plain (nary (τ := τ) xs y f hxs hy) := ⟨nary_bufs_sub .., rfl⟩

theorem re (he hn hx hy) : Plain (reshape (τ := τ) (Val := Elt F) x y he hn hx hy) := ⟨reshape_bufs_sub .., rfl⟩

theorem o0_0_fine : Fine (F := F) o0_0 :=
  ⟨re .., un .., re .., un .., re .., un .., re .., un .., re .., un .., re .., un .., re .., un .., re .., un .., re .., un .., re ..⟩
theorem o0_1_fine : Fine (F := F) o0_1 :=
  ⟨un .., re .., re .., un .., re .., un .., re .., un .., re .., un .., re .., un .., re .., un .., re .., un .., re .., un .., re .., un .., re ..⟩
theorem o0_2_fine : Fine (F := F) o0_2 :=
  ⟨un .., re .., re .., un .., re .., un .., re .., un .., re .., un .., re .., un .., re .., un .., re .., un .., re .., un .., re .., un ..⟩
theorem o1_0_fine : Fine (F := F) o1_0 :=
  re ..
theorem o1_1_fine : Fine (F := F) o1_1 :=
  ⟨re .., un .., re .., un .., re .., un .., re .., un .., re .., un .., re .., un .., re .., un .., re .., un .., re .., un .., re ..⟩
theorem o1_2_fine : Fine (F := F) o1_2 :=
  ⟨re .., un .., re .., un .., re .., un .., re .., un .., re .., un .., re .., un .., re .., un .., re .., un .., re .., un .., re ..⟩
theorem o1_3_fine : Fine (F := F) o1_3 :=
  ⟨un .., re .., re .., un .., re .., un .., re .., un .., re .., un .., re .., un .., re .., un .., re .., un .., re .., un .., re .., un .., re ..⟩
theorem o2_0_fine : Fine (F := F) o2_0 :=
  ⟨un .., re .., re .., un .., re .., un .., re .., un .., re .., un .., re .., un .., re .., un .., re .., un .., re .., un .., re .., un .., re ..⟩
theorem o2_1_fine : Fine (F := F) o2_1 :=
  ⟨un .., re .., re .., un .., re .., un .., re .., un .., re .., un .., re .., un .., re .., un .., re .., un .., re .., un .., re .., un .., re ..⟩
theorem o2_2_fine : Fine (F := F) o2_2 :=
  ⟨un .., re .., re .., un .., re .., un .., re .., un .., re .., un .., re .., un .., re .., un .., re .., un .., re .., un ..⟩
theorem o3_0_fine : Fine (F := F) o3_0 :=
  ⟨re .., un .., re ..⟩
theorem o3_1_fine : Fine (F := F) o3_1 :=
  ⟨un .., re .., re .., un .., re .., un .., re .., un .., re .., un .., re .., un .., re .., un .., re .., un .., re .., un .., re .., un .., re ..⟩
theorem o3_2_fine : Fine (F := F) o3_2 :=
  ⟨un .., re .., re .., un .., re .., un .., re .., un .., re .., un .., re .., un .., re .., un .., re .., un .., re .., un .., re .., un .., re ..⟩
theorem o3_3_fine : Fine (F := F) o3_3 :=
  ⟨re .., un .., re .., un .., re .., un .., re .., un .., re .., un .., re .., un .., re .., un .., re ..⟩
theorem o4_0_fine : Fine (F := F) o4_0 :=
  ⟨un .., re .., un .., re ..⟩
theorem o4_1_fine : Fine (F := F) o4_1 :=
  ⟨re .., un .., re .., un .., re .., un .., re .., un .., re .., un .., re .., un .., re .., un .., re .., un .., re .., un .., re ..⟩
theorem o4_2_fine : Fine (F := F) o4_2 :=
  ⟨un .., re .., re .., un .., re .., un .., re .., un .., re .., un .., re .., un .., re .., un .., re .., un .., re .., un .., re .., un .., re ..⟩
theorem o4_3_fine : Fine (F := F) o4_3 :=
  ⟨un .., re .., re .., un .., re .., un .., re .., un .., re .., un .., re .., un .., re .., un .., re .., un ..⟩
theorem o5_0_fine : Fine (F := F) o5_0 :=
  ⟨re .., un .., re .., un .., re .., un .., re .., re .., un .., re .., un .., re .., un .., re .., un .., re .., un .., re .., un .., re .., un .., re .., un .., re .., un .., re .., re .., un .., re .., un ..⟩
theorem o5_1_fine : Fine (F := F) o5_1 :=
  ⟨re .., un .., re .., un .., re .., un .., re .., un .., re .., un .., re .., un .., re .., un .., re .., nu .., un .., bi .., un .., bi .., nu .., un .., bi .., un .., bi .., bi .., un .., bi .., bi .., un ..⟩
theorem o5_2_fine : Fine (F := F) o5_2 :=
  bi ..
theorem o6_0_fine : Fine (F := F) o6_0 :=
  ⟨bi .., un .., bi .., bi .., un .., bi .., bi .., un .., bi .., bi .., un .., bi .., bi .., un .., bi .., bi .., un .., un .., un .., bi .., nu .., un .., bi .., un .., re .., nu .., un .., bi .., un .., bi ..⟩
theorem o6_1_fine : Fine (F := F) o6_1 :=
  ⟨nu .., un .., bi .., un .., bi .., bi .., un .., bi .., bi .., un .., bi .., bi .., un .., bi .., bi .., un .., bi .., bi .., un .., bi .., bi .., un .., bi .., bi .., un .., bi .., bi .., un .., un .., un ..⟩
theorem o6_2_fine : Fine (F := F) o6_2 :=
  ⟨bi .., nu .., un .., bi .., un ..⟩
theorem o7_0_fine : Fine (F := F) o7_0 :=
  ⟨re .., nu .., un .., bi .., un .., bi .., nu .., un .., bi .., un .., bi .., bi .., un .., bi .., bi .., un .., bi .., bi .., un .., bi .., bi .., un .., bi .., bi .., un .., bi .., bi .., un .., bi .., bi ..⟩
theorem o7_1_fine : Fine (F := F) o7_1 :=
  ⟨un .., bi .., bi .., un .., un .., un .., bi .., nu .., un .., bi .., nu .., un .., bi .., un .., bi .., nu .., un .., bi .., un .., bi .., bi .., un .., bi .., bi .., un .., bi .., bi .., un .., bi .., bi ..⟩
theorem o7_2_fine : Fine (F := F) o7_2 :=
  ⟨un .., bi .., bi .., un ..⟩
theorem o8_0_fine : Fine (F := F) o8_0 :=
  ⟨bi .., bi .., un .., bi .., bi .., un .., bi .., bi .., un .., un .., un .., bi .., nu .., un .., bi .., un .., bi .., nu .., un .., bi .., un .., bi .., bi .., un .., bi .., bi .., un .., bi .., bi .., un ..⟩
theorem o8_1_fine : Fine (F := F) o8_1 :=
  ⟨bi .., bi .., un .., bi .., bi .., un .., bi .., bi .., un .., bi .., bi .., un .., bi .., bi .., un .., un .., un .., bi .., un .., un .., nu .., un .., bi .., bi .., bi .., nu .., bi .., nu .., un .., bi ..⟩
theorem o8_2_fine : Fine (F := F) o8_2 :=
  bi ..
theorem o9_0_fine : Fine (F := F) o9_0 :=
  ⟨un .., un .., bi .., un .., un .., nu .., bi .., nu .., un .., bi .., un .., un .., bi .., un .., nu .., bi .., un .., un .., bi .., nu .., un .., nu .., un .., nu .., un .., bi .., nu .., un .., bi .., te ..⟩
theorem o9_1_fine : Fine (F := F) o9_1 :=
  ⟨nu .., un .., bi .., nu .., un .., bi .., te .., un .., un .., un .., bi .., te .., un .., re .., nu .., un .., bi .., un .., bi .., nu .., un .., bi .., un .., bi .., bi .., un .., bi .., bi .., un .., bi ..⟩
theorem o9_2_fine : Fine (F := F) o9_2 :=
  bi ..
theorem o10_0_fine : Fine (F := F) o10_0 :=
  ⟨un .., bi .., bi .., un .., bi .., bi .., un .., bi .., bi .., un .., bi .., bi .., un .., bi .., bi .., un .., un .., un .., bi .., nu .., un .., bi .., un .., re .., nu .., un .., bi .., un .., bi .., nu ..⟩
theorem o10_1_fine : Fine (F := F) o10_1 :=
  ⟨un .., bi .., un .., bi .., bi .., un .., bi .., bi .., un .., bi .., bi .., un .., bi .., bi .., un .., bi .., bi .., un .., bi .., bi .., un .., bi .., bi .., un .., bi .., bi .., un .., un .., un .., bi ..⟩
theorem o10_2_fine : Fine (F := F) o10_2 :=
  ⟨un .., re .., nu ..⟩
theorem o11_0_fine : Fine (F := F) o11_0 :=
  ⟨un .., bi .., un .., bi .., nu .., un .., bi .., un .., bi .., bi .., un .., bi .., bi .., un .., bi .., bi .., un .., bi .., bi .., un .., bi .., bi .., un .., bi .., bi .., un .., bi .., bi .., un .., bi ..⟩
theorem o11_1_fine : Fine (F := F) o11_1 :=
  ⟨bi .., un .., un .., un .., bi .., nu .., un .., bi .., un .., re .., nu .., un .., bi .., un .., bi .., nu .., un .., bi .., un .., bi .., bi .., un .., bi .., bi .., un .., bi .., bi .., un .., bi .., bi ..⟩
theorem o11_2_fine : Fine (F := F) o11_2 :=
  ⟨un .., bi .., bi .., un ..⟩
theorem o12_0_fine : Fine (F := F) o12_0 :=
  ⟨bi .., bi .., un .., bi .., bi .., un .., bi .., bi .., un .., un .., un .., bi .., un .., re .., nu .., un .., bi .., un .., bi .., nu .., un .., bi .., un .., bi .., bi .., un .., bi .., bi .., un .., bi ..⟩
theorem o12_1_fine : Fine (F := F) o12_1 :=
  ⟨bi .., un .., bi .., bi .., un .., bi .., bi .., un .., bi .., bi .., un .., bi .., bi .., un .., bi .., bi .., un .., un .., un .., bi .., nu .., un .., bi .., un .., re .., nu .., un .., bi .., un .., bi ..⟩
theorem o12_2_fine : Fine (F := F) o12_2 :=
  ⟨nu .., un .., bi .., un ..⟩
theorem o13_0_fine : Fine (F := F) o13_0 :=
  ⟨bi .., bi .., un .., bi .., bi .., un .., bi .., bi .., un .., bi .., bi .., un .., bi .., bi .., un .., bi .., bi .., un .., bi .., bi .., un .., bi .., bi .., un .., un .., un .., bi .., un .., un .., un ..⟩
theorem o13_1_fine : Fine (F := F) o13_1 :=
  ⟨na .., bi .., nu .., un .., bi .., un .., bi .., nu .., un .., bi .., un .., bi .., bi .., un .., bi .., bi .., un .., bi .., bi .., un .., bi .., bi .., un .., bi .., bi .., un .., bi .., bi .., un .., bi ..⟩
theorem o13_2_fine : Fine (F := F) o13_2 :=
  bi ..
theorem o14_0_fine : Fine (F := F) o14_0 :=
  ⟨un .., bi .., bi .., un .., un .., un .., bi .., bi .., nu .., un .., bi .., un .., bi .., nu .., un .., bi .., un .., bi .., bi .., un .., bi .., bi .., un .., bi .., bi .., un .., bi .., bi .., un .., bi ..⟩
theorem o14_1_fine : Fine (F := F) o14_1 :=
  ⟨bi .., un .., bi .., bi .., un .., bi .., bi .., un .., bi .., bi .., un .., un .., un .., bi .., nu .., un .., bi .., un .., re .., nu .., un .., bi .., un .., bi .., nu .., un .., bi .., un .., bi .., bi ..⟩
theorem o14_2_fine : Fine (F := F) o14_2 :=
  ⟨un .., bi .., bi .., un ..⟩
theorem o15_0_fine : Fine (F := F) o15_0 :=
  ⟨bi .., bi .., un .., bi .., bi .., un .., bi .., bi .., un .., bi .., bi .., un .., bi .., bi .., un .., bi .., bi .., un .., un .., un .., bi .., nu .., un .., bi .., un .., re .., nu .., un .., bi .., un ..⟩
theorem o15_1_fine : Fine (F := F) o15_1 :=
  ⟨bi .., nu .., un .., bi .., un .., bi .., bi .., un .., bi .., bi .., un .., bi .., bi .., un .., bi .., bi .., un .., bi .., bi .., un .., bi .., bi .., un .., bi .., bi .., un .., bi .., bi .., un .., un ..⟩
theorem o15_2_fine : Fine (F := F) o15_2 :=
  ⟨un .., bi .., nu .., un .., bi ..⟩
theorem o16_0_fine : Fine (F := F) o16_0 :=
  ⟨un .., re .., nu .., un .., bi .., un .., bi .., nu .., un .., bi .., un .., bi .., bi .., un .., bi .., bi .., un .., bi .., bi .., un .., bi .., bi .., un .., bi .., bi .., un .., bi .., bi .., un .., bi ..⟩
theorem o16_1_fine : Fine (F := F) o16_1 :=
  ⟨bi .., un .., bi .., bi .., un .., un .., un .., bi .., nu .., un .., bi .., nu .., un .., bi .., un .., bi .., nu .., un .., bi .., un .., bi .., bi .., un .., bi .., bi .., un .., bi .., bi .., un .., bi ..⟩
theorem o16_2_fine : Fine (F := F) o16_2 :=
  ⟨bi .., un .., bi .., bi ..⟩
theorem o17_fine : Fine (F := F) o17 :=
  ⟨un .., bi .., bi .., un .., bi .., bi .., un .., bi .., bi .., un .., un .., un .., bi ..⟩
theorem ops_fine : ∀ op ∈ (ops : List (HloOp τ sig (Elt F))), Plain op := fun op h => by
    simp only [ops, o0, o1, o2, o3, o4, o5, o6, o7, o8, o9, o10, o11, o12, o13, o14, o15, o16, List.mem_append, or_assoc] at h
    rcases h with h | h | h | h | h | h | h | h | h | h | h | h | h | h | h | h | h | h | h | h | h | h | h | h | h | h | h | h | h | h | h | h | h | h | h | h | h | h | h | h | h | h | h | h | h | h | h | h | h | h | h | h | h | h | h
    exacts [List.forall_iff_forall_mem.mp o0_0_fine op h, List.forall_iff_forall_mem.mp o0_1_fine op h, List.forall_iff_forall_mem.mp o0_2_fine op h, List.forall_iff_forall_mem.mp o1_0_fine op h, List.forall_iff_forall_mem.mp o1_1_fine op h, List.forall_iff_forall_mem.mp o1_2_fine op h, List.forall_iff_forall_mem.mp o1_3_fine op h, List.forall_iff_forall_mem.mp o2_0_fine op h, List.forall_iff_forall_mem.mp o2_1_fine op h, List.forall_iff_forall_mem.mp o2_2_fine op h, List.forall_iff_forall_mem.mp o3_0_fine op h, List.forall_iff_forall_mem.mp o3_1_fine op h, List.forall_iff_forall_mem.mp o3_2_fine op h, List.forall_iff_forall_mem.mp o3_3_fine op h, List.forall_iff_forall_mem.mp o4_0_fine op h, List.forall_iff_forall_mem.mp o4_1_fine op h, List.forall_iff_forall_mem.mp o4_2_fine op h, List.forall_iff_forall_mem.mp o4_3_fine op h, List.forall_iff_forall_mem.mp o5_0_fine op h, List.forall_iff_forall_mem.mp o5_1_fine op h, List.forall_iff_forall_mem.mp o5_2_fine op h, List.forall_iff_forall_mem.mp o6_0_fine op h, List.forall_iff_forall_mem.mp o6_1_fine op h, List.forall_iff_forall_mem.mp o6_2_fine op h, List.forall_iff_forall_mem.mp o7_0_fine op h, List.forall_iff_forall_mem.mp o7_1_fine op h, List.forall_iff_forall_mem.mp o7_2_fine op h, List.forall_iff_forall_mem.mp o8_0_fine op h, List.forall_iff_forall_mem.mp o8_1_fine op h, List.forall_iff_forall_mem.mp o8_2_fine op h, List.forall_iff_forall_mem.mp o9_0_fine op h, List.forall_iff_forall_mem.mp o9_1_fine op h, List.forall_iff_forall_mem.mp o9_2_fine op h, List.forall_iff_forall_mem.mp o10_0_fine op h, List.forall_iff_forall_mem.mp o10_1_fine op h, List.forall_iff_forall_mem.mp o10_2_fine op h, List.forall_iff_forall_mem.mp o11_0_fine op h, List.forall_iff_forall_mem.mp o11_1_fine op h, List.forall_iff_forall_mem.mp o11_2_fine op h, List.forall_iff_forall_mem.mp o12_0_fine op h, List.forall_iff_forall_mem.mp o12_1_fine op h, List.forall_iff_forall_mem.mp o12_2_fine op h, List.forall_iff_forall_mem.mp o13_0_fine op h, List.forall_iff_forall_mem.mp o13_1_fine op h, List.forall_iff_forall_mem.mp o13_2_fine op h, List.forall_iff_forall_mem.mp o14_0_fine op h, List.forall_iff_forall_mem.mp o14_1_fine op h, List.forall_iff_forall_mem.mp o14_2_fine op h, List.forall_iff_forall_mem.mp o15_0_fine op h, List.forall_iff_forall_mem.mp o15_1_fine op h, List.forall_iff_forall_mem.mp o15_2_fine op h, List.forall_iff_forall_mem.mp o16_0_fine op h, List.forall_iff_forall_mem.mp o16_1_fine op h, List.forall_iff_forall_mem.mp o16_2_fine op h, List.forall_iff_forall_mem.mp o17_fine op h]
theorem ops_sub : (ops : List (HloOp τ sig (Elt F))).Forall fun op => op.bufs ⊆ tcRefs τ sig :=
  List.forall_iff_forall_mem.mpr fun op h => (ops_fine op h).1
theorem ops_fresh : ∀ op ∈ (ops : List (HloOp τ sig (Elt F))), op.fresh = ∅ := fun op h => (ops_fine op h).2

end Cert.RefNet

end
-- ==== Proof.RefRun.lean ====
/- The reference's run: each result is the composed term of the arguments, and the arguments keep their contents. -/
module

public import proofs.«01_k».proof.Proof.RefVals
public import proofs.«01_k».proof.Proof.RefSub

@[expose] public section

set_option maxRecDepth 8192
set_option maxHeartbeats 4000000

noncomputable section

namespace Cert.RefNet

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- An argument's buffer holds at the end what it held at the start. -/
theorem kept (m : (ℓ : Loc nD τ sig) → Buf (Elt F) ℓ) {c : Dev nD} {r : Ref sig .tc} {x : (Proc.devRef .tc r : DevRef τ sig).ty.Contents (Elt F)}
    (h : x = after ops (launchContents m c) (Proc.devRef .tc r)) (hr : r.idx.val < 24) : x = launchContents m c (Proc.devRef .tc r) :=
  h.trans ((congrFun (after_ops (launchContents m c)) (Proc.devRef .tc r)).trans (w18_arg (launchContents m c) r hr))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v985) = addf (transpose S2x1x224x224 [0, 3, 1, 2] (addf (addf (addf (addf (addf (addf (addf (addf (addf (z1 F) (d64_1 F (p64_00 F (res_main_v953 (launchContents m c))) (t1x64x1_0 F (res_main_v326 (launchContents m c))))) (d64_1 F (p64_01 F (res_main_v953 (launchContents m c))) (t1x64x1_1 F (res_main_v326 (launchContents m c))))) (d64_1 F (p64_02 F (res_main_v953 (launchContents m c))) (t1x64x1_2 F (res_main_v326 (launchContents m c))))) (d64_1 F (p64_10 F (res_main_v953 (launchContents m c))) (t1x64x1_3 F (res_main_v326 (launchContents m c))))) (d64_1 F (p64_11 F (res_main_v953 (launchContents m c))) (t1x64x1_4 F (res_main_v326 (launchContents m c))))) (d64_1 F (p64_12 F (res_main_v953 (launchContents m c))) (t1x64x1_5 F (res_main_v326 (launchContents m c))))) (d64_1 F (p64_20 F (res_main_v953 (launchContents m c))) (t1x64x1_6 F (res_main_v326 (launchContents m c))))) (d64_1 F (p64_21 F (res_main_v953 (launchContents m c))) (t1x64x1_7 F (res_main_v326 (launchContents m c))))) (d64_1 F (p64_22 F (res_main_v953 (launchContents m c))) (t1x64x1_8 F (res_main_v326 (launchContents m c))))) transposes_S2x224x224x1_S2x1x224x224_0_3_1_2) (broadcastInDim S2x1x224x224 ![0, 1, 2, 3] bcast_S1x1x1x1_S2x1x224x224_0_1_2_3 (broadcastInDim S1x1x1x1 ![1] bcast_S1_S1x1x1x1_1 ((launchContents m c) (Proc.devRef .tc main_arg23))))
      ∧ r.2.mem ((c.tc : Thread nD τ).loc main_v809) = addf (transpose S2x1x224x224 [0, 3, 1, 2] (addf (addf (addf (addf (addf (addf (addf (addf (addf (z1 F) (d64_1 F (p64_00 F (res_main_v777 (launchContents m c))) (t1x64x1_0 F (res_main_v225 (launchContents m c))))) (d64_1 F (p64_01 F (res_main_v777 (launchContents m c))) (t1x64x1_1 F (res_main_v225 (launchContents m c))))) (d64_1 F (p64_02 F (res_main_v777 (launchContents m c))) (t1x64x1_2 F (res_main_v225 (launchContents m c))))) (d64_1 F (p64_10 F (res_main_v777 (launchContents m c))) (t1x64x1_3 F (res_main_v225 (launchContents m c))))) (d64_1 F (p64_11 F (res_main_v777 (launchContents m c))) (t1x64x1_4 F (res_main_v225 (launchContents m c))))) (d64_1 F (p64_12 F (res_main_v777 (launchContents m c))) (t1x64x1_5 F (res_main_v225 (launchContents m c))))) (d64_1 F (p64_20 F (res_main_v777 (launchContents m c))) (t1x64x1_6 F (res_main_v225 (launchContents m c))))) (d64_1 F (p64_21 F (res_main_v777 (launchContents m c))) (t1x64x1_7 F (res_main_v225 (launchContents m c))))) (d64_1 F (p64_22 F (res_main_v777 (launchContents m c))) (t1x64x1_8 F (res_main_v225 (launchContents m c))))) transposes_S2x224x224x1_S2x1x224x224_0_3_1_2) (broadcastInDim S2x1x224x224 ![0, 1, 2, 3] bcast_S1x1x1x1_S2x1x224x224_0_1_2_3 (broadcastInDim S1x1x1x1 ![1] bcast_S1_S1x1x1x1_1 ((launchContents m c) (Proc.devRef .tc main_arg17))))
      ∧ r.2.mem ((c.tc : Thread nD τ).loc main_v483) = addf (transpose S2x64x224x224 [0, 3, 1, 2] (addf (addf (addf (addf (addf (addf (addf (addf (addf (z64 F) (d64_64 F (p64_00 F (res_main_v451 (launchContents m c))) (t64x64x1_0 F (res_main_v61 (launchContents m c))))) (d64_64 F (p64_01 F (res_main_v451 (launchContents m c))) (t64x64x1_1 F (res_main_v61 (launchContents m c))))) (d64_64 F (p64_02 F (res_main_v451 (launchContents m c))) (t64x64x1_2 F (res_main_v61 (launchContents m c))))) (d64_64 F (p64_10 F (res_main_v451 (launchContents m c))) (t64x64x1_3 F (res_main_v61 (launchContents m c))))) (d64_64 F (p64_11 F (res_main_v451 (launchContents m c))) (t64x64x1_4 F (res_main_v61 (launchContents m c))))) (d64_64 F (p64_12 F (res_main_v451 (launchContents m c))) (t64x64x1_5 F (res_main_v61 (launchContents m c))))) (d64_64 F (p64_20 F (res_main_v451 (launchContents m c))) (t64x64x1_6 F (res_main_v61 (launchContents m c))))) (d64_64 F (p64_21 F (res_main_v451 (launchContents m c))) (t64x64x1_7 F (res_main_v61 (launchContents m c))))) (d64_64 F (p64_22 F (res_main_v451 (launchContents m c))) (t64x64x1_8 F (res_main_v61 (launchContents m c))))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 ((launchContents m c) (Proc.devRef .tc main_arg7))))
      ∧ r.2.mem ((c.tc : Thread nD τ).loc main_v517) = Host.exp (addf (transpose S2x64x224x224 [0, 3, 1, 2] (addf (addf (addf (addf (addf (addf (addf (addf (addf (z64 F) (d64_64 F (p64_00 F (res_main_v484 (launchContents m c))) (t64x64x1_0 F (res_main_v80 (launchContents m c))))) (d64_64 F (p64_01 F (res_main_v484 (launchContents m c))) (t64x64x1_1 F (res_main_v80 (launchContents m c))))) (d64_64 F (p64_02 F (res_main_v484 (launchContents m c))) (t64x64x1_2 F (res_main_v80 (launchContents m c))))) (d64_64 F (p64_10 F (res_main_v484 (launchContents m c))) (t64x64x1_3 F (res_main_v80 (launchContents m c))))) (d64_64 F (p64_11 F (res_main_v484 (launchContents m c))) (t64x64x1_4 F (res_main_v80 (launchContents m c))))) (d64_64 F (p64_12 F (res_main_v484 (launchContents m c))) (t64x64x1_5 F (res_main_v80 (launchContents m c))))) (d64_64 F (p64_20 F (res_main_v484 (launchContents m c))) (t64x64x1_6 F (res_main_v80 (launchContents m c))))) (d64_64 F (p64_21 F (res_main_v484 (launchContents m c))) (t64x64x1_7 F (res_main_v80 (launchContents m c))))) (d64_64 F (p64_22 F (res_main_v484 (launchContents m c))) (t64x64x1_8 F (res_main_v80 (launchContents m c))))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 ((launchContents m c) (Proc.devRef .tc main_arg9)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v985).trans ((congrFun (after_ops (launchContents m c)) (Proc.devRef .tc main_v985)).trans (w18_v985 (launchContents m c))),
      (h c main_v809).trans ((congrFun (after_ops (launchContents m c)) (Proc.devRef .tc main_v809)).trans (w18_v809 (launchContents m c))),
      (h c main_v483).trans ((congrFun (after_ops (launchContents m c)) (Proc.devRef .tc main_v483)).trans (w18_v483 (launchContents m c))),
      (h c main_v517).trans ((congrFun (after_ops (launchContents m c)) (Proc.devRef .tc main_v517)).trans (w18_v517 (launchContents m c))),
      kept m (h c main_arg0) (by decide),
      kept m (h c main_arg1) (by decide),
      kept m (h c main_arg2) (by decide),
      kept m (h c main_arg3) (by decide),
      kept m (h c main_arg4) (by decide),
      kept m (h c main_arg5) (by decide),
      kept m (h c main_arg6) (by decide),
      kept m (h c main_arg7) (by decide),
      kept m (h c main_arg8) (by decide),
      kept m (h c main_arg9) (by decide),
      kept m (h c main_arg10) (by decide),
      kept m (h c main_arg11) (by decide),
      kept m (h c main_arg12) (by decide),
      kept m (h c main_arg13) (by decide),
      kept m (h c main_arg14) (by decide),
      kept m (h c main_arg15) (by decide),
      kept m (h c main_arg16) (by decide),
      kept m (h c main_arg17) (by decide),
      kept m (h c main_arg18) (by decide),
      kept m (h c main_arg19) (by decide),
      kept m (h c main_arg20) (by decide),
      kept m (h c main_arg21) (by decide),
      kept m (h c main_arg22) (by decide),
      kept m (h c main_arg23) (by decide)⟩)
    (run_seq scopedRefs_eq scopedSems_eq defs main (fun _ => ops) main_eq (fun _ => ops_sub) m ρ fun _ => ops_fresh)

end Cert.RefNet

end
-- ==== Proof.RefConv.lean ====
module

public import proofs.«01_k».proof.Proof.Img
public import proofs.«01_k».proof.Proof.RefRun
public import Idealize.ShloMosaic.Lib.Claim

/-! The reference's convolutions: nine shifted products each. -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Conv

theorem zero_of_int : (FloatOps.sitofp FTy.f32 0#32 : Ideal .f32) = 0 := by
  show (((0#32).toInt : ℝ) : EReal) = 0
  simp

/-- The image with a border of zeros. -/
def rpad1 (x : FVec Ideal S2x1x224x224 .f32) : FVec Ideal S2x1x226x226 .f32 :=
  pad S2x1x226x226 ![0, 0, 1, 1] ![0, 0, 1, 1] ![0, 0, 0, 0] x (sitofp (F := Ideal) .f32 (constantI S_ 32 0#32)) pads_S2x1x224x224_S2x1x226x226_000_000_110_110 h_S_

theorem rpad1_at (x : FVec Ideal S2x1x224x224 .f32) (b : Fin 2) (o : Fin 1) (h w : Fin 226) : rpad1 x (ix4 b o h w)
    = if hh : (1 ≤ h.val ∧ h.val - 1 < 224) ∧ 1 ≤ w.val ∧ w.val - 1 < 224 then
        x (ix4 b o ⟨h.val - 1, hh.1.2⟩ ⟨w.val - 1, hh.2.2⟩) else 0 := by
  obtain rfl : o = 0 := Subsingleton.elim _ _
  pointwise [rpad1]
  congr 1
  funext _
  exact zero_of_int

/-- The padded image under one tap. -/
theorem rwin1 (x : FVec Ideal S2x1x224x224 .f32) (b : Fin 2) (h w : Fin 224) (dy dx : Fin 3) (c : Fin 1)
    (p q : Fin 226) (hp : p.val = dy.val + h.val) (hq : q.val = dx.val + w.val) :
    rpad1 x (ix4 b c p q) = win (imc x) b h w dy dx c := by
  rw [rpad1_at]
  unfold win imc
  simp only [hp, hq]
/-- The image with a border of zeros. -/
def rpad64 (x : FVec Ideal S2x64x224x224 .f32) : FVec Ideal S2x64x226x226 .f32 :=
  pad S2x64x226x226 ![0, 0, 1, 1] ![0, 0, 1, 1] ![0, 0, 0, 0] x (sitofp (F := Ideal) .f32 (constantI S_ 32 0#32)) pads_S2x64x224x224_S2x64x226x226_000_000_110_110 h_S_

theorem rpad64_at (x : FVec Ideal S2x64x224x224 .f32) (b : Fin 2) (o : Fin 64) (h w : Fin 226) : rpad64 x (ix4 b o h w)
    = if hh : (1 ≤ h.val ∧ h.val - 1 < 224) ∧ 1 ≤ w.val ∧ w.val - 1 < 224 then
        x (ix4 b o ⟨h.val - 1, hh.1.2⟩ ⟨w.val - 1, hh.2.2⟩) else 0 := by

  pointwise [rpad64]
  congr 1
  funext _
  exact zero_of_int

/-- The padded image under one tap. -/
theorem rwin64 (x : FVec Ideal S2x64x224x224 .f32) (b : Fin 2) (h w : Fin 224) (dy dx : Fin 3) (c : Fin 64)
    (p q : Fin 226) (hp : p.val = dy.val + h.val) (hq : q.val = dx.val + w.val) :
    rpad64 x (ix4 b c p q) = win (imc x) b h w dy dx c := by
  rw [rpad64_at]
  unfold win imc
  simp only [hp, hq]

/-- The taps in one row. -/
def nine1_64 (w : FVec Ideal S64x1x3x3 .f32) : FVec Ideal S64x1x9 .f32 :=
  shapeCast _ w shapeCasts_S64x1x3x3_S64x1x9

/-- Nine shifted products added up, the channels put first, and the bias added. -/
def rconv1_64 (P : FVec Ideal S2x1x226x226 .f32) (w : FVec Ideal S64x1x9 .f32) (B : FVec Ideal S64 .f32) : FVec Ideal S2x64x224x224 .f32 :=
  addf (transpose S2x64x224x224 [0, 3, 1, 2] (addf (addf (addf (addf (addf (addf (addf (addf (addf (broadcastInDim S2x224x224x64 ![] bcast_S_S2x224x224x64 (constant S_ .f32 0x00000000#32)) (Host.dotGeneral dot_S2x1x224x224_S64x1_S2x224x224x64_1_1_023_0_n_n none (extractStridedSlice S2x1x224x224 ![0, 0, 0, 0] P slices_S2x1x226x226_S2x1x224x224_0_0_0_0) (shapeCast _ (extractStridedSlice S64x1x1 ![0, 0, 0] w slices_S64x1x9_S64x1x1_0_0_0) shapeCasts_S64x1x1_S64x1))) (Host.dotGeneral dot_S2x1x224x224_S64x1_S2x224x224x64_1_1_023_0_n_n none (extractStridedSlice S2x1x224x224 ![0, 0, 0, 1] P slices_S2x1x226x226_S2x1x224x224_0_0_0_1) (shapeCast _ (extractStridedSlice S64x1x1 ![0, 0, 1] w slices_S64x1x9_S64x1x1_0_0_1) shapeCasts_S64x1x1_S64x1))) (Host.dotGeneral dot_S2x1x224x224_S64x1_S2x224x224x64_1_1_023_0_n_n none (extractStridedSlice S2x1x224x224 ![0, 0, 0, 2] P slices_S2x1x226x226_S2x1x224x224_0_0_0_2) (shapeCast _ (extractStridedSlice S64x1x1 ![0, 0, 2] w slices_S64x1x9_S64x1x1_0_0_2) shapeCasts_S64x1x1_S64x1))) (Host.dotGeneral dot_S2x1x224x224_S64x1_S2x224x224x64_1_1_023_0_n_n none (extractStridedSlice S2x1x224x224 ![0, 0, 1, 0] P slices_S2x1x226x226_S2x1x224x224_0_0_1_0) (shapeCast _ (extractStridedSlice S64x1x1 ![0, 0, 3] w slices_S64x1x9_S64x1x1_0_0_3) shapeCasts_S64x1x1_S64x1))) (Host.dotGeneral dot_S2x1x224x224_S64x1_S2x224x224x64_1_1_023_0_n_n none (extractStridedSlice S2x1x224x224 ![0, 0, 1, 1] P slices_S2x1x226x226_S2x1x224x224_0_0_1_1) (shapeCast _ (extractStridedSlice S64x1x1 ![0, 0, 4] w slices_S64x1x9_S64x1x1_0_0_4) shapeCasts_S64x1x1_S64x1))) (Host.dotGeneral dot_S2x1x224x224_S64x1_S2x224x224x64_1_1_023_0_n_n none (extractStridedSlice S2x1x224x224 ![0, 0, 1, 2] P slices_S2x1x226x226_S2x1x224x224_0_0_1_2) (shapeCast _ (extractStridedSlice S64x1x1 ![0, 0, 5] w slices_S64x1x9_S64x1x1_0_0_5) shapeCasts_S64x1x1_S64x1))) (Host.dotGeneral dot_S2x1x224x224_S64x1_S2x224x224x64_1_1_023_0_n_n none (extractStridedSlice S2x1x224x224 ![0, 0, 2, 0] P slices_S2x1x226x226_S2x1x224x224_0_0_2_0) (shapeCast _ (extractStridedSlice S64x1x1 ![0, 0, 6] w slices_S64x1x9_S64x1x1_0_0_6) shapeCasts_S64x1x1_S64x1))) (Host.dotGeneral dot_S2x1x224x224_S64x1_S2x224x224x64_1_1_023_0_n_n none (extractStridedSlice S2x1x224x224 ![0, 0, 2, 1] P slices_S2x1x226x226_S2x1x224x224_0_0_2_1) (shapeCast _ (extractStridedSlice S64x1x1 ![0, 0, 7] w slices_S64x1x9_S64x1x1_0_0_7) shapeCasts_S64x1x1_S64x1))) (Host.dotGeneral dot_S2x1x224x224_S64x1_S2x224x224x64_1_1_023_0_n_n none (extractStridedSlice S2x1x224x224 ![0, 0, 2, 2] P slices_S2x1x226x226_S2x1x224x224_0_0_2_2) (shapeCast _ (extractStridedSlice S64x1x1 ![0, 0, 8] w slices_S64x1x9_S64x1x1_0_0_8) shapeCasts_S64x1x1_S64x1))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 B))

/-- It is the convolution. -/
theorem rconv1_64_eq (x : FVec Ideal S2x1x224x224 .f32) (w : FVec Ideal S64x1x3x3 .f32) (B : FVec Ideal S64 .f32) :
    imc (rconv1_64 (rpad1 x) (nine1_64 w) B) = conv (imc x) (oihw w) (vec B) := by
  funext b h v o
  unfold conv
  rw [taps_nine]
  unfold oihw vec
  rw [show imc (rconv1_64 (rpad1 x) (nine1_64 w) B) b h v _ = rconv1_64 (rpad1 x) (nine1_64 w) B (ix4 b _ h v) from rfl]
  generalize hP : rpad1 x = P
  pointwise [rconv1_64, nine1_64]
  subst hP
  simp only [Fin.sum_univ_one]
  have e00 := fun c => rwin1 x b h v 0 0 c ⟨h.val, by omega⟩ ⟨v.val, by omega⟩ (Nat.zero_add _).symm (Nat.zero_add _).symm
  have e01 := fun c => rwin1 x b h v 0 1 c ⟨h.val, by omega⟩ ⟨1 + v.val, by omega⟩ (Nat.zero_add _).symm rfl
  have e02 := fun c => rwin1 x b h v 0 2 c ⟨h.val, by omega⟩ ⟨2 + v.val, by omega⟩ (Nat.zero_add _).symm rfl
  have e10 := fun c => rwin1 x b h v 1 0 c ⟨1 + h.val, by omega⟩ ⟨v.val, by omega⟩ rfl (Nat.zero_add _).symm
  have e11 := fun c => rwin1 x b h v 1 1 c ⟨1 + h.val, by omega⟩ ⟨1 + v.val, by omega⟩ rfl rfl
  have e12 := fun c => rwin1 x b h v 1 2 c ⟨1 + h.val, by omega⟩ ⟨2 + v.val, by omega⟩ rfl rfl
  have e20 := fun c => rwin1 x b h v 2 0 c ⟨2 + h.val, by omega⟩ ⟨v.val, by omega⟩ rfl (Nat.zero_add _).symm
  have e21 := fun c => rwin1 x b h v 2 1 c ⟨2 + h.val, by omega⟩ ⟨1 + v.val, by omega⟩ rfl rfl
  have e22 := fun c => rwin1 x b h v 2 2 c ⟨2 + h.val, by omega⟩ ⟨2 + v.val, by omega⟩ rfl rfl
  simp only [e00, e01, e02, e10, e11, e12, e20, e21, e22]

/-- The taps in one row. -/
def nine64_64 (w : FVec Ideal S64x64x3x3 .f32) : FVec Ideal S64x64x9 .f32 :=
  shapeCast _ w shapeCasts_S64x64x3x3_S64x64x9

/-- Nine shifted products added up, the channels put first, and the bias added. -/
def rconv64_64 (P : FVec Ideal S2x64x226x226 .f32) (w : FVec Ideal S64x64x9 .f32) (B : FVec Ideal S64 .f32) : FVec Ideal S2x64x224x224 .f32 :=
  addf (transpose S2x64x224x224 [0, 3, 1, 2] (addf (addf (addf (addf (addf (addf (addf (addf (addf (broadcastInDim S2x224x224x64 ![] bcast_S_S2x224x224x64 (constant S_ .f32 0x00000000#32)) (Host.dotGeneral dot_S2x64x224x224_S64x64_S2x224x224x64_1_1_023_0_n_n none (extractStridedSlice S2x64x224x224 ![0, 0, 0, 0] P slices_S2x64x226x226_S2x64x224x224_0_0_0_0) (shapeCast _ (extractStridedSlice S64x64x1 ![0, 0, 0] w slices_S64x64x9_S64x64x1_0_0_0) shapeCasts_S64x64x1_S64x64))) (Host.dotGeneral dot_S2x64x224x224_S64x64_S2x224x224x64_1_1_023_0_n_n none (extractStridedSlice S2x64x224x224 ![0, 0, 0, 1] P slices_S2x64x226x226_S2x64x224x224_0_0_0_1) (shapeCast _ (extractStridedSlice S64x64x1 ![0, 0, 1] w slices_S64x64x9_S64x64x1_0_0_1) shapeCasts_S64x64x1_S64x64))) (Host.dotGeneral dot_S2x64x224x224_S64x64_S2x224x224x64_1_1_023_0_n_n none (extractStridedSlice S2x64x224x224 ![0, 0, 0, 2] P slices_S2x64x226x226_S2x64x224x224_0_0_0_2) (shapeCast _ (extractStridedSlice S64x64x1 ![0, 0, 2] w slices_S64x64x9_S64x64x1_0_0_2) shapeCasts_S64x64x1_S64x64))) (Host.dotGeneral dot_S2x64x224x224_S64x64_S2x224x224x64_1_1_023_0_n_n none (extractStridedSlice S2x64x224x224 ![0, 0, 1, 0] P slices_S2x64x226x226_S2x64x224x224_0_0_1_0) (shapeCast _ (extractStridedSlice S64x64x1 ![0, 0, 3] w slices_S64x64x9_S64x64x1_0_0_3) shapeCasts_S64x64x1_S64x64))) (Host.dotGeneral dot_S2x64x224x224_S64x64_S2x224x224x64_1_1_023_0_n_n none (extractStridedSlice S2x64x224x224 ![0, 0, 1, 1] P slices_S2x64x226x226_S2x64x224x224_0_0_1_1) (shapeCast _ (extractStridedSlice S64x64x1 ![0, 0, 4] w slices_S64x64x9_S64x64x1_0_0_4) shapeCasts_S64x64x1_S64x64))) (Host.dotGeneral dot_S2x64x224x224_S64x64_S2x224x224x64_1_1_023_0_n_n none (extractStridedSlice S2x64x224x224 ![0, 0, 1, 2] P slices_S2x64x226x226_S2x64x224x224_0_0_1_2) (shapeCast _ (extractStridedSlice S64x64x1 ![0, 0, 5] w slices_S64x64x9_S64x64x1_0_0_5) shapeCasts_S64x64x1_S64x64))) (Host.dotGeneral dot_S2x64x224x224_S64x64_S2x224x224x64_1_1_023_0_n_n none (extractStridedSlice S2x64x224x224 ![0, 0, 2, 0] P slices_S2x64x226x226_S2x64x224x224_0_0_2_0) (shapeCast _ (extractStridedSlice S64x64x1 ![0, 0, 6] w slices_S64x64x9_S64x64x1_0_0_6) shapeCasts_S64x64x1_S64x64))) (Host.dotGeneral dot_S2x64x224x224_S64x64_S2x224x224x64_1_1_023_0_n_n none (extractStridedSlice S2x64x224x224 ![0, 0, 2, 1] P slices_S2x64x226x226_S2x64x224x224_0_0_2_1) (shapeCast _ (extractStridedSlice S64x64x1 ![0, 0, 7] w slices_S64x64x9_S64x64x1_0_0_7) shapeCasts_S64x64x1_S64x64))) (Host.dotGeneral dot_S2x64x224x224_S64x64_S2x224x224x64_1_1_023_0_n_n none (extractStridedSlice S2x64x224x224 ![0, 0, 2, 2] P slices_S2x64x226x226_S2x64x224x224_0_0_2_2) (shapeCast _ (extractStridedSlice S64x64x1 ![0, 0, 8] w slices_S64x64x9_S64x64x1_0_0_8) shapeCasts_S64x64x1_S64x64))) transposes_S2x224x224x64_S2x64x224x224_0_3_1_2) (broadcastInDim S2x64x224x224 ![0, 1, 2, 3] bcast_S1x64x1x1_S2x64x224x224_0_1_2_3 (broadcastInDim S1x64x1x1 ![1] bcast_S64_S1x64x1x1_1 B))

/-- It is the convolution. -/
theorem rconv64_64_eq (x : FVec Ideal S2x64x224x224 .f32) (w : FVec Ideal S64x64x3x3 .f32) (B : FVec Ideal S64 .f32) :
    imc (rconv64_64 (rpad64 x) (nine64_64 w) B) = conv (imc x) (oihw w) (vec B) := by
  funext b h v o
  unfold conv
  rw [taps_nine]
  unfold oihw vec
  rw [show imc (rconv64_64 (rpad64 x) (nine64_64 w) B) b h v _ = rconv64_64 (rpad64 x) (nine64_64 w) B (ix4 b _ h v) from rfl]
  generalize hP : rpad64 x = P
  pointwise [rconv64_64, nine64_64]
  subst hP
  have e00 := fun c => rwin64 x b h v 0 0 c ⟨h.val, by omega⟩ ⟨v.val, by omega⟩ (Nat.zero_add _).symm (Nat.zero_add _).symm
  have e01 := fun c => rwin64 x b h v 0 1 c ⟨h.val, by omega⟩ ⟨1 + v.val, by omega⟩ (Nat.zero_add _).symm rfl
  have e02 := fun c => rwin64 x b h v 0 2 c ⟨h.val, by omega⟩ ⟨2 + v.val, by omega⟩ (Nat.zero_add _).symm rfl
  have e10 := fun c => rwin64 x b h v 1 0 c ⟨1 + h.val, by omega⟩ ⟨v.val, by omega⟩ rfl (Nat.zero_add _).symm
  have e11 := fun c => rwin64 x b h v 1 1 c ⟨1 + h.val, by omega⟩ ⟨1 + v.val, by omega⟩ rfl rfl
  have e12 := fun c => rwin64 x b h v 1 2 c ⟨1 + h.val, by omega⟩ ⟨2 + v.val, by omega⟩ rfl rfl
  have e20 := fun c => rwin64 x b h v 2 0 c ⟨2 + h.val, by omega⟩ ⟨v.val, by omega⟩ rfl (Nat.zero_add _).symm
  have e21 := fun c => rwin64 x b h v 2 1 c ⟨2 + h.val, by omega⟩ ⟨1 + v.val, by omega⟩ rfl rfl
  have e22 := fun c => rwin64 x b h v 2 2 c ⟨2 + h.val, by omega⟩ ⟨2 + v.val, by omega⟩ rfl rfl
  simp only [e00, e01, e02, e10, e11, e12, e20, e21, e22]

/-- The taps in one row. -/
def nine64_1 (w : FVec Ideal S1x64x3x3 .f32) : FVec Ideal S1x64x9 .f32 :=
  shapeCast _ w shapeCasts_S1x64x3x3_S1x64x9

/-- Nine shifted products added up, the channels put first, and the bias added. -/
def rconv64_1 (P : FVec Ideal S2x64x226x226 .f32) (w : FVec Ideal S1x64x9 .f32) (B : FVec Ideal S1 .f32) : FVec Ideal S2x1x224x224 .f32 :=
  addf (transpose S2x1x224x224 [0, 3, 1, 2] (addf (addf (addf (addf (addf (addf (addf (addf (addf (broadcastInDim S2x224x224x1 ![] bcast_S_S2x224x224x1 (constant S_ .f32 0x00000000#32)) (Host.dotGeneral dot_S2x64x224x224_S1x64_S2x224x224x1_1_1_023_0_n_n none (extractStridedSlice S2x64x224x224 ![0, 0, 0, 0] P slices_S2x64x226x226_S2x64x224x224_0_0_0_0) (shapeCast _ (extractStridedSlice S1x64x1 ![0, 0, 0] w slices_S1x64x9_S1x64x1_0_0_0) shapeCasts_S1x64x1_S1x64))) (Host.dotGeneral dot_S2x64x224x224_S1x64_S2x224x224x1_1_1_023_0_n_n none (extractStridedSlice S2x64x224x224 ![0, 0, 0, 1] P slices_S2x64x226x226_S2x64x224x224_0_0_0_1) (shapeCast _ (extractStridedSlice S1x64x1 ![0, 0, 1] w slices_S1x64x9_S1x64x1_0_0_1) shapeCasts_S1x64x1_S1x64))) (Host.dotGeneral dot_S2x64x224x224_S1x64_S2x224x224x1_1_1_023_0_n_n none (extractStridedSlice S2x64x224x224 ![0, 0, 0, 2] P slices_S2x64x226x226_S2x64x224x224_0_0_0_2) (shapeCast _ (extractStridedSlice S1x64x1 ![0, 0, 2] w slices_S1x64x9_S1x64x1_0_0_2) shapeCasts_S1x64x1_S1x64))) (Host.dotGeneral dot_S2x64x224x224_S1x64_S2x224x224x1_1_1_023_0_n_n none (extractStridedSlice S2x64x224x224 ![0, 0, 1, 0] P slices_S2x64x226x226_S2x64x224x224_0_0_1_0) (shapeCast _ (extractStridedSlice S1x64x1 ![0, 0, 3] w slices_S1x64x9_S1x64x1_0_0_3) shapeCasts_S1x64x1_S1x64))) (Host.dotGeneral dot_S2x64x224x224_S1x64_S2x224x224x1_1_1_023_0_n_n none (extractStridedSlice S2x64x224x224 ![0, 0, 1, 1] P slices_S2x64x226x226_S2x64x224x224_0_0_1_1) (shapeCast _ (extractStridedSlice S1x64x1 ![0, 0, 4] w slices_S1x64x9_S1x64x1_0_0_4) shapeCasts_S1x64x1_S1x64))) (Host.dotGeneral dot_S2x64x224x224_S1x64_S2x224x224x1_1_1_023_0_n_n none (extractStridedSlice S2x64x224x224 ![0, 0, 1, 2] P slices_S2x64x226x226_S2x64x224x224_0_0_1_2) (shapeCast _ (extractStridedSlice S1x64x1 ![0, 0, 5] w slices_S1x64x9_S1x64x1_0_0_5) shapeCasts_S1x64x1_S1x64))) (Host.dotGeneral dot_S2x64x224x224_S1x64_S2x224x224x1_1_1_023_0_n_n none (extractStridedSlice S2x64x224x224 ![0, 0, 2, 0] P slices_S2x64x226x226_S2x64x224x224_0_0_2_0) (shapeCast _ (extractStridedSlice S1x64x1 ![0, 0, 6] w slices_S1x64x9_S1x64x1_0_0_6) shapeCasts_S1x64x1_S1x64))) (Host.dotGeneral dot_S2x64x224x224_S1x64_S2x224x224x1_1_1_023_0_n_n none (extractStridedSlice S2x64x224x224 ![0, 0, 2, 1] P slices_S2x64x226x226_S2x64x224x224_0_0_2_1) (shapeCast _ (extractStridedSlice S1x64x1 ![0, 0, 7] w slices_S1x64x9_S1x64x1_0_0_7) shapeCasts_S1x64x1_S1x64))) (Host.dotGeneral dot_S2x64x224x224_S1x64_S2x224x224x1_1_1_023_0_n_n none (extractStridedSlice S2x64x224x224 ![0, 0, 2, 2] P slices_S2x64x226x226_S2x64x224x224_0_0_2_2) (shapeCast _ (extractStridedSlice S1x64x1 ![0, 0, 8] w slices_S1x64x9_S1x64x1_0_0_8) shapeCasts_S1x64x1_S1x64))) transposes_S2x224x224x1_S2x1x224x224_0_3_1_2) (broadcastInDim S2x1x224x224 ![0, 1, 2, 3] bcast_S1x1x1x1_S2x1x224x224_0_1_2_3 (broadcastInDim S1x1x1x1 ![1] bcast_S1_S1x1x1x1_1 B))

/-- It is the convolution. -/
theorem rconv64_1_eq (x : FVec Ideal S2x64x224x224 .f32) (w : FVec Ideal S1x64x3x3 .f32) (B : FVec Ideal S1 .f32) :
    imc (rconv64_1 (rpad64 x) (nine64_1 w) B) = conv (imc x) (oihw w) (vec B) := by
  funext b h v o
  obtain rfl : o = 0 := Subsingleton.elim _ _
  unfold conv
  rw [taps_nine]
  unfold oihw vec
  rw [show imc (rconv64_1 (rpad64 x) (nine64_1 w) B) b h v _ = rconv64_1 (rpad64 x) (nine64_1 w) B (ix4 b _ h v) from rfl]
  generalize hP : rpad64 x = P
  pointwise [rconv64_1, nine64_1]
  subst hP
  have e00 := fun c => rwin64 x b h v 0 0 c ⟨h.val, by omega⟩ ⟨v.val, by omega⟩ (Nat.zero_add _).symm (Nat.zero_add _).symm
  have e01 := fun c => rwin64 x b h v 0 1 c ⟨h.val, by omega⟩ ⟨1 + v.val, by omega⟩ (Nat.zero_add _).symm rfl
  have e02 := fun c => rwin64 x b h v 0 2 c ⟨h.val, by omega⟩ ⟨2 + v.val, by omega⟩ (Nat.zero_add _).symm rfl
  have e10 := fun c => rwin64 x b h v 1 0 c ⟨1 + h.val, by omega⟩ ⟨v.val, by omega⟩ rfl (Nat.zero_add _).symm
  have e11 := fun c => rwin64 x b h v 1 1 c ⟨1 + h.val, by omega⟩ ⟨1 + v.val, by omega⟩ rfl rfl
  have e12 := fun c => rwin64 x b h v 1 2 c ⟨1 + h.val, by omega⟩ ⟨2 + v.val, by omega⟩ rfl rfl
  have e20 := fun c => rwin64 x b h v 2 0 c ⟨2 + h.val, by omega⟩ ⟨v.val, by omega⟩ rfl (Nat.zero_add _).symm
  have e21 := fun c => rwin64 x b h v 2 1 c ⟨2 + h.val, by omega⟩ ⟨1 + v.val, by omega⟩ rfl rfl
  have e22 := fun c => rwin64 x b h v 2 2 c ⟨2 + h.val, by omega⟩ ⟨2 + v.val, by omega⟩ rfl rfl
  simp only [e00, e01, e02, e10, e11, e12, e20, e21, e22]

end Cert.ReferenceIdeal.Val
-- ==== Proof.RefChain.lean ====
module

public import proofs.«01_k».proof.Proof.RefConv
public import proofs.«01_k».proof.Proof.Net

/-! The reference's stages as images. -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.RefNet Conv

/-- Negative values to zero. -/
def rrelu (x : FVec Ideal S2x64x224x224 .f32) : FVec Ideal S2x64x224x224 .f32 :=
  maximumf x (broadcastInDim S2x64x224x224 ![] bcast_S_S2x64x224x224 (constant S_ .f32 0x00000000#32))

theorem rrelu_eq (x : FVec Ideal S2x64x224x224 .f32) : imc (rrelu x) = relu (imc x) := by
  funext b h w o
  unfold relu imc
  pointwise [rrelu]

/-- Member 0 of a stack of 2 weights. -/
def wm2_0 (w : FVec Ideal S2x64x64x3x3 .f32) : FVec Ideal S64x64x3x3 .f32 :=
  shapeCast _ (extractStridedSlice S1x64x64x3x3 ![0, 0, 0, 0, 0] w slices_S2x64x64x3x3_S1x64x64x3x3_0_0_0_0_0) shapeCasts_S1x64x64x3x3_S64x64x3x3

theorem wm2_0_eq (w : FVec Ideal S2x64x64x3x3 .f32) : oihw (wm2_0 w) = oihwOf w 0 := by
  funext dy dx c o
  unfold oihw oihwOf
  pointwise [wm2_0]

/-- Member 0 of a stack of 2 biases. -/
def bm2_0 (w : FVec Ideal S2x64 .f32) : FVec Ideal S64 .f32 :=
  shapeCast _ (extractStridedSlice S1x64 ![0, 0] w slices_S2x64_S1x64_0_0) shapeCasts_S1x64_S64

theorem bm2_0_eq (w : FVec Ideal S2x64 .f32) : vec (bm2_0 w) = vecOf w 0 := by
  funext o
  unfold vec vecOf
  pointwise [bm2_0]

/-- Member 1 of a stack of 2 weights. -/
def wm2_1 (w : FVec Ideal S2x64x64x3x3 .f32) : FVec Ideal S64x64x3x3 .f32 :=
  shapeCast _ (extractStridedSlice S1x64x64x3x3 ![1, 0, 0, 0, 0] w slices_S2x64x64x3x3_S1x64x64x3x3_1_0_0_0_0) shapeCasts_S1x64x64x3x3_S64x64x3x3

theorem wm2_1_eq (w : FVec Ideal S2x64x64x3x3 .f32) : oihw (wm2_1 w) = oihwOf w 1 := by
  funext dy dx c o
  unfold oihw oihwOf
  pointwise [wm2_1]

/-- Member 1 of a stack of 2 biases. -/
def bm2_1 (w : FVec Ideal S2x64 .f32) : FVec Ideal S64 .f32 :=
  shapeCast _ (extractStridedSlice S1x64 ![1, 0] w slices_S2x64_S1x64_1_0) shapeCasts_S1x64_S64

theorem bm2_1_eq (w : FVec Ideal S2x64 .f32) : vec (bm2_1 w) = vecOf w 1 := by
  funext o
  unfold vec vecOf
  pointwise [bm2_1]

/-- Member 0 of a stack of 3 weights. -/
def wm3_0 (w : FVec Ideal S3x64x64x3x3 .f32) : FVec Ideal S64x64x3x3 .f32 :=
  shapeCast _ (extractStridedSlice S1x64x64x3x3 ![0, 0, 0, 0, 0] w slices_S3x64x64x3x3_S1x64x64x3x3_0_0_0_0_0) shapeCasts_S1x64x64x3x3_S64x64x3x3

theorem wm3_0_eq (w : FVec Ideal S3x64x64x3x3 .f32) : oihw (wm3_0 w) = oihwOf w 0 := by
  funext dy dx c o
  unfold oihw oihwOf
  pointwise [wm3_0]

/-- Member 0 of a stack of 3 biases. -/
def bm3_0 (w : FVec Ideal S3x64 .f32) : FVec Ideal S64 .f32 :=
  shapeCast _ (extractStridedSlice S1x64 ![0, 0] w slices_S3x64_S1x64_0_0) shapeCasts_S1x64_S64

theorem bm3_0_eq (w : FVec Ideal S3x64 .f32) : vec (bm3_0 w) = vecOf w 0 := by
  funext o
  unfold vec vecOf
  pointwise [bm3_0]

/-- Member 1 of a stack of 3 weights. -/
def wm3_1 (w : FVec Ideal S3x64x64x3x3 .f32) : FVec Ideal S64x64x3x3 .f32 :=
  shapeCast _ (extractStridedSlice S1x64x64x3x3 ![1, 0, 0, 0, 0] w slices_S3x64x64x3x3_S1x64x64x3x3_1_0_0_0_0) shapeCasts_S1x64x64x3x3_S64x64x3x3

theorem wm3_1_eq (w : FVec Ideal S3x64x64x3x3 .f32) : oihw (wm3_1 w) = oihwOf w 1 := by
  funext dy dx c o
  unfold oihw oihwOf
  pointwise [wm3_1]

/-- Member 1 of a stack of 3 biases. -/
def bm3_1 (w : FVec Ideal S3x64 .f32) : FVec Ideal S64 .f32 :=
  shapeCast _ (extractStridedSlice S1x64 ![1, 0] w slices_S3x64_S1x64_1_0) shapeCasts_S1x64_S64

theorem bm3_1_eq (w : FVec Ideal S3x64 .f32) : vec (bm3_1 w) = vecOf w 1 := by
  funext o
  unfold vec vecOf
  pointwise [bm3_1]

/-- Member 2 of a stack of 3 weights. -/
def wm3_2 (w : FVec Ideal S3x64x64x3x3 .f32) : FVec Ideal S64x64x3x3 .f32 :=
  shapeCast _ (extractStridedSlice S1x64x64x3x3 ![2, 0, 0, 0, 0] w slices_S3x64x64x3x3_S1x64x64x3x3_2_0_0_0_0) shapeCasts_S1x64x64x3x3_S64x64x3x3

theorem wm3_2_eq (w : FVec Ideal S3x64x64x3x3 .f32) : oihw (wm3_2 w) = oihwOf w 2 := by
  funext dy dx c o
  unfold oihw oihwOf
  pointwise [wm3_2]

/-- Member 2 of a stack of 3 biases. -/
def bm3_2 (w : FVec Ideal S3x64 .f32) : FVec Ideal S64 .f32 :=
  shapeCast _ (extractStridedSlice S1x64 ![2, 0] w slices_S3x64_S1x64_2_0) shapeCasts_S1x64_S64

theorem bm3_2_eq (w : FVec Ideal S3x64 .f32) : vec (bm3_2 w) = vecOf w 2 := by
  funext o
  unfold vec vecOf
  pointwise [bm3_2]

/-- The denoiser's arguments. -/
def net (V0 : Valuation τ sig (Elt Ideal)) : Net where
  img := imc (V0 (Proc.devRef .tc main_arg0))
  eps := imc (V0 (Proc.devRef .tc main_arg1))
  w2 := oihw (V0 (Proc.devRef .tc main_arg2))
  b3 := vec (V0 (Proc.devRef .tc main_arg3))
  w4 := oihwOf (V0 (Proc.devRef .tc main_arg4))
  b5 := vecOf (V0 (Proc.devRef .tc main_arg5))
  w6 := oihw (V0 (Proc.devRef .tc main_arg6))
  b7 := vec (V0 (Proc.devRef .tc main_arg7))
  w8 := oihw (V0 (Proc.devRef .tc main_arg8))
  b9 := vec (V0 (Proc.devRef .tc main_arg9))
  w10 := vecOf (V0 (Proc.devRef .tc main_arg10))
  b11 := vec (V0 (Proc.devRef .tc main_arg11))
  w12 := oihwOf (V0 (Proc.devRef .tc main_arg12))
  b13 := vecOf (V0 (Proc.devRef .tc main_arg13))
  w14 := oihwOf (V0 (Proc.devRef .tc main_arg14))
  b15 := vecOf (V0 (Proc.devRef .tc main_arg15))
  w16 := oihw (V0 (Proc.devRef .tc main_arg16))
  b17 := vec (V0 (Proc.devRef .tc main_arg17))
  w18 := oihw (V0 (Proc.devRef .tc main_arg18))
  b19 := vec (V0 (Proc.devRef .tc main_arg19))
  w20 := oihwOf (V0 (Proc.devRef .tc main_arg20))
  b21 := vecOf (V0 (Proc.devRef .tc main_arg21))
  w22 := oihw (V0 (Proc.devRef .tc main_arg22))
  b23 := vec (V0 (Proc.devRef .tc main_arg23))

section
variable (V0 : Valuation τ sig (Elt Ideal))

def x0 : FVec Ideal S2x64x224x224 .f32 := rrelu (rconv1_64 (rpad1 (V0 (Proc.devRef .tc main_arg0))) (nine1_64 (V0 (Proc.devRef .tc main_arg2))) (V0 (Proc.devRef .tc main_arg3)))
def x1 : FVec Ideal S2x64x224x224 .f32 := rrelu (rconv64_64 (rpad64 (x0 V0)) (nine64_64 (wm2_0 (V0 (Proc.devRef .tc main_arg4)))) (bm2_0 (V0 (Proc.devRef .tc main_arg5))))
def x2 : FVec Ideal S2x64x224x224 .f32 := rrelu (rconv64_64 (rpad64 (x1 V0)) (nine64_64 (wm2_1 (V0 (Proc.devRef .tc main_arg4)))) (bm2_1 (V0 (Proc.devRef .tc main_arg5))))
def xmu : FVec Ideal S2x64x224x224 .f32 := rconv64_64 (rpad64 (x2 V0)) (nine64_64 (V0 (Proc.devRef .tc main_arg6))) (V0 (Proc.devRef .tc main_arg7))
def xlv : FVec Ideal S2x64x224x224 .f32 := rconv64_64 (rpad64 (x2 V0)) (nine64_64 (V0 (Proc.devRef .tc main_arg8))) (V0 (Proc.devRef .tc main_arg9))
def xs2 : FVec Ideal S2x64x224x224 .f32 := Host.exp (xlv V0)
def xz : FVec Ideal S2x64x224x224 .f32 :=
  addf (xmu V0) (mulf (mulf (broadcastInDim S2x64x224x224 ![] bcast_S_S2x64x224x224 (constant S_ .f32 0x3F800000#32)) (Host.sqrt (xs2 V0))) (V0 (Proc.devRef .tc main_arg1)))

theorem x0_eq : imc (x0 V0) = relu (conv (net V0).img (net V0).w2 (net V0).b3) := by
  rw [x0, rrelu_eq, rconv1_64_eq]; rfl

theorem x1_eq : imc (x1 V0) = relu (conv (imc (x0 V0)) ((net V0).w4 0) ((net V0).b5 0)) := by
  rw [x1, rrelu_eq, rconv64_64_eq, wm2_0_eq, bm2_0_eq]; rfl

theorem x2_eq : imc (x2 V0) = (net V0).feat := by
  rw [x2, rrelu_eq, rconv64_64_eq, wm2_1_eq, bm2_1_eq, x1_eq, x0_eq]; rfl

theorem xmu_eq : imc (xmu V0) = (net V0).mean := by
  rw [xmu, rconv64_64_eq, x2_eq]; rfl

theorem xlv_eq : imc (xlv V0) = (net V0).logvar := by
  rw [xlv, rconv64_64_eq, x2_eq]; rfl

theorem xs2_eq : imc (xs2 V0) = (net V0).variance := by
  funext b h w o
  unfold Net.variance
  rw [← xlv_eq]
  unfold imc
  pointwise [xs2]

theorem xz_eq : imc (xz V0) = (net V0).drawRoot := by
  funext b h w o
  unfold Net.drawRoot
  rw [← xmu_eq, ← xs2_eq]
  unfold imc
  pointwise [xz]
  rfl

theorem r381 : res_main_v381 V0 = rpad64 (x0 V0) := rfl
theorem r21 : res_main_v21 V0 = nine64_64 (wm2_0 (V0 (Proc.devRef .tc main_arg4))) := rfl
theorem r417 : res_main_v417 V0 = rpad64 (x1 V0) := by
  unfold res_main_v417; rw [r381, r21]; rfl
theorem r42 : res_main_v42 V0 = nine64_64 (wm2_1 (V0 (Proc.devRef .tc main_arg4))) := rfl
theorem r61 : res_main_v61 V0 = nine64_64 (V0 (Proc.devRef .tc main_arg6)) := rfl
theorem r80 : res_main_v80 V0 = nine64_64 (V0 (Proc.devRef .tc main_arg8)) := rfl
theorem r450 : res_main_v450 V0 = x2 V0 := by
  unfold res_main_v450; rw [r417, r42]; rfl
theorem r451 : res_main_v451 V0 = rpad64 (x2 V0) := by
  unfold res_main_v451; rw [r450]; rfl
theorem r484 : res_main_v484 V0 = rpad64 (x2 V0) := by
  unfold res_main_v484; rw [r450]; rfl
theorem r522 : res_main_v522 V0 = xz V0 := by
  unfold res_main_v522; rw [r451, r484, r61, r80]; rfl

/-- The reference's logits. -/
theorem r529 : res_main_v529 V0 = (net V0).logits (net V0).drawRoot := by
  unfold res_main_v529
  rw [r522, ← xz_eq]
  funext j
  obtain ⟨b, e, rfl⟩ : ∃ (b : Fin 2) (e : Fin 3), j = ix2 b e := ⟨j 0, j 1, by funext a; match a with | ⟨0, _⟩ => rfl | ⟨1, _⟩ => rfl⟩
  generalize xz V0 = z
  pointwise []
  rfl

end

end Cert.ReferenceIdeal.Val
-- ==== Proof.RefGate.lean ====
module

public import proofs.«01_k».proof.Proof.RefChain

/-! The reference's gates: the two weights put at their experts' places in a row of zeros. -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.RefNet Conv

theorem toInt3 (e : Fin 3) : (BitVec.ofNat 32 e.val).toInt = (e.val : Int) := by revert e; decide
theorem toInt2 (e : Fin 2) : (BitVec.ofNat 32 e.val).toInt = (e.val : Int) := by revert e; decide

/-- An update lands in its row at the place its index names. -/
theorem lands (idx : IVec S2x2x2 32) (b k : Fin 2) (e : Fin 3)
    (h0 : idx (ix3 b k 0) = BitVec.ofNat 32 b.val) (h1 : idx (ix3 b k 1) = BitVec.ofNat 32 e.val) :
    scatter_S2x3_S2x2x2_S2x2_n_01_01_2.resultIdx? (ix2 b k) idx = some (ix2 b e) := by
  have hsi : ∀ c, (scatter_S2x3_S2x2x2_S2x2_n_01_01_2).siIdx (ix2 b k) c = (ix3 b k (⟨c.val, c.isLt⟩ : Fin 2)) := by
    intro c
    funext q
    match q with
    | ⟨0, _⟩ => rfl
    | ⟨1, _⟩ => rfl
    | ⟨2, _⟩ => rfl
  have s0 : (scatter_S2x3_S2x2x2_S2x2_n_01_01_2).start (ix2 b k) idx 0 = (b.val : Int) := by
    unfold ScatterDims.start
    rw [dif_pos (show (0 : Fin 2) ∈ (scatter_S2x3_S2x2x2_S2x2_n_01_01_2).scatterDimsToOperandDims from (by decide : (0 : Fin 2) ∈ [(0 : Fin 2), 1])), hsi]
    exact (congrArg BitVec.toInt h0).trans (toInt2 b)
  have s1 : (scatter_S2x3_S2x2x2_S2x2_n_01_01_2).start (ix2 b k) idx 1 = (e.val : Int) := by
    unfold ScatterDims.start
    rw [dif_pos (show (1 : Fin 2) ∈ (scatter_S2x3_S2x2x2_S2x2_n_01_01_2).scatterDimsToOperandDims from (by decide : (1 : Fin 2) ∈ [(0 : Fin 2), 1])), hsi]
    exact (congrArg BitVec.toInt h1).trans (toInt3 e)
  have w : ∀ a, (scatter_S2x3_S2x2x2_S2x2_n_01_01_2).window (ix2 b k) a = 0 := by
    intro a
    match a with
    | ⟨0, _⟩ => rfl
    | ⟨1, _⟩ => rfl
  have hin : ∀ a, 0 ≤ (scatter_S2x3_S2x2x2_S2x2_n_01_01_2).start (ix2 b k) idx a + (scatter_S2x3_S2x2x2_S2x2_n_01_01_2).window (ix2 b k) a
      ∧ (scatter_S2x3_S2x2x2_S2x2_n_01_01_2).start (ix2 b k) idx a + (scatter_S2x3_S2x2x2_S2x2_n_01_01_2).window (ix2 b k) a < S2x3.size a := by
    intro a
    match a with
    | ⟨0, _⟩ =>
      rw [w, show (scatter_S2x3_S2x2x2_S2x2_n_01_01_2).start (ix2 b k) idx ⟨0, _⟩ = _ from s0]
      show _ ∧ _ < ((2 : Nat) : Int)
      omega
    | ⟨1, _⟩ =>
      rw [w, show (scatter_S2x3_S2x2x2_S2x2_n_01_01_2).start (ix2 b k) idx ⟨1, _⟩ = _ from s1]
      show _ ∧ _ < ((3 : Nat) : Int)
      omega
  unfold ScatterDims.resultIdx?
  rw [dif_pos hin]
  refine congrArg some ?_
  funext a
  refine Fin.ext ?_
  match a with
  | ⟨0, _⟩ =>
    show (_ + _ : Int).toNat = b.val
    rw [w, show (scatter_S2x3_S2x2x2_S2x2_n_01_01_2).start (ix2 b k) idx ⟨0, _⟩ = _ from s0]
    omega
  | ⟨1, _⟩ =>
    show (_ + _ : Int).toNat = e.val
    rw [w, show (scatter_S2x3_S2x2x2_S2x2_n_01_01_2).start (ix2 b k) idx ⟨1, _⟩ = _ from s1]
    omega

/-- Two different places of each row written, the row's rest kept. -/
theorem put_rows (x : S2x3.Idx → EReal) (u : S2x2.Idx → EReal) (idx : IVec S2x2x2 32) (σ : Fin 2 → Fin 2 → Fin 3)
    (hσ : ∀ b, Function.Injective (σ b))
    (h0 : ∀ b k, idx (ix3 b k 0) = BitVec.ofNat 32 b.val) (h1 : ∀ b k, idx (ix3 b k 1) = BitVec.ofNat 32 (σ b k).val)
    (b : Fin 2) (e : Fin 3) :
    Host.scatter scatter_S2x3_S2x2x2_S2x2_n_01_01_2 (fun _ b => b) x idx u (ix2 b e)
      = if e = σ b 0 then u (ix2 b 0) else if e = σ b 1 then u (ix2 b 1) else x (ix2 b e) := by
  have hl : ∀ b k, _ := fun b k => lands idx b k (σ b k) (h0 b k) (h1 b k)
  have hi : ∀ (b b' : Fin 2) (e e' : Fin 3), ((ix2 b e : S2x3.Idx) = ix2 b' e') ↔ (b = b' ∧ e = e') := by
    intro b b' e e'
    constructor
    · intro h
      exact ⟨congrFun h 0, congrFun h 1⟩
    · rintro ⟨rfl, rfl⟩; rfl
  have hne : σ b 1 ≠ σ b 0 := fun h => absurd (hσ b h) (by decide)
  unfold Host.scatter
  rw [show List.finRange S2x2.numel = [(⟨0, by decide⟩ : Fin S2x2.numel), ⟨1, by decide⟩, ⟨2, by decide⟩, ⟨3, by decide⟩] from rfl]
  simp only [List.foldl_cons, List.foldl_nil]
  rw [show S2x2.rowMajor.symm ⟨0, by decide⟩ = ix2 0 0 from by decide,
    show S2x2.rowMajor.symm ⟨1, by decide⟩ = ix2 0 1 from by decide,
    show S2x2.rowMajor.symm ⟨2, by decide⟩ = ix2 1 0 from by decide,
    show S2x2.rowMajor.symm ⟨3, by decide⟩ = ix2 1 1 from by decide]
  simp only [hl, hi]
  match b with
  | 0 =>
    by_cases c1 : e = σ 0 1
    · subst c1
      simp [hne]
    · simp [c1]
  | 1 =>
    by_cases c1 : e = σ 1 1
    · subst c1
      simp [hne]
    · simp [c1]

section
variable (V0 : Valuation τ sig (Elt Ideal))

/-- The reference's logits, under its own arguments. -/
abbrev lg : T23.Idx → EReal := (net V0).logits (net V0).drawRoot

theorem ids_at (b k : Fin 2) : res_main_indices V0 (ix2 b k) = BitVec.ofNat 32 (pick (lg V0) b k).val := by
  unfold res_main_indices
  rw [r529]
  exact pick_idx _ _ b k

theorem vals_at (b k : Fin 2) : res_main_values V0 (ix2 b k) = lg V0 (ix2 b (pick (lg V0) b k)) := by
  unfold res_main_values
  rw [r529]
  exact pick_val _ _ b k

/-- The weights of the pair. -/
def rprob (v536 : FVec Ideal S2x2 .f32) : FVec Ideal S2x2 .f32 :=
  Host.divf v536 (broadcastInDim S2x2 ![0, 1] bcast_S2x1_S2x2_0_1 (broadcastInDim S2x1 ![0] bcast_S2_S2x1_0 (Host.reduceAdd v536 (constant S_ .f32 0x00000000#32) reducesTo_S2x2_S2_d1 h_S_)))

/-- The exponentials of a pair, the greater taken away first. -/
def rexp (T : FVec Ideal S2x2 .f32) : FVec Ideal S2x2 .f32 :=
  Host.exp (subf T (broadcastInDim S2x2 ![0, 1] bcast_S2x1_S2x2_0_1 (broadcastInDim S2x1 ![0] bcast_S2_S2x1_0 (maximumf (broadcastInDim S2 ![] bcast_S_S2 (constant S_ .f32 0xFF800000#32)) (Host.reduce FloatOps.maximumf T (constant S_ .f32 0xFF800000#32) reducesTo_S2x2_S2_d1 h_S_)))))

theorem rprob_exp (T : FVec Ideal S2x2 .f32) (b k : Fin 2) : rprob (rexp T) (ix2 b k) = prob (fun k => T (ix2 b k)) k := by
  pointwise [rprob, rexp]
  rfl

theorem rprob_at (b k : Fin 2) : rprob (res_main_v536 V0) (ix2 b k) = gate (lg V0) b k := by
  have h : rprob (res_main_v536 V0) (ix2 b k) = prob (fun k => res_main_values V0 (ix2 b k)) k := by
    exact rprob_exp (res_main_values V0) b k
  rw [h]
  exact congrArg (prob · k) (funext fun k => vals_at V0 b k)

/-- The places written: each row's number beside the index. -/
def rplace (rows : IVec S2x1 32) (ids : IVec S2x2 32) : IVec S2x2x2 32 :=
  concatenate S2x2x2 2 [⟨S2x2x1, (broadcastInDim S2x2x1 ![0, 1] bcast_S2x2_S2x2x1_0_1 (broadcastInDim S2x2 ![0, 1] bcast_S2x1_S2x2_0_1 (select (cmpi .slt rows (broadcastInDim S2x1 ![] bcast_S_S2x1 (constantI S_ 32 0#32))) (addi rows (broadcastInDim S2x1 ![] bcast_S_S2x1 (constantI S_ 32 2#32))) rows)))⟩, ⟨S2x2x1, (broadcastInDim S2x2x1 ![0, 1] bcast_S2x2_S2x2x1_0_1 (select (cmpi .slt ids (broadcastInDim S2x2 ![] bcast_S_S2x2 (constantI S_ 32 0#32))) (addi ids (broadcastInDim S2x2 ![] bcast_S_S2x2 (constantI S_ 32 3#32))) ids))⟩] concatenates_S2x2x1_S2x2x1_S2x2x2_d2

theorem wrap3 (e : Fin 3) :
    Scalar.select (IntOp.cmpi .slt (BitVec.ofNat 32 e.val) 0#32) (IntOp.addi (BitVec.ofNat 32 e.val) 3#32) (BitVec.ofNat 32 e.val) = BitVec.ofNat 32 e.val := by
  revert e; decide

theorem wrap2 (e : Fin 2) :
    Scalar.select (IntOp.cmpi .slt (BitVec.ofNat 32 e.val) 0#32) (IntOp.addi (BitVec.ofNat 32 e.val) 2#32) (BitVec.ofNat 32 e.val) = BitVec.ofNat 32 e.val := by
  revert e; decide

theorem rplace_row (b k : Fin 2) : rplace (res_main_v543 V0) (res_main_indices V0) (ix3 b k 0) = BitVec.ofNat 32 b.val := by
  generalize res_main_indices V0 = ids
  pointwise [rplace, res_main_v543]
  exact wrap2 b

theorem rplace_col (b k : Fin 2) : rplace (res_main_v543 V0) (res_main_indices V0) (ix3 b k 1) = BitVec.ofNat 32 (pick (lg V0) b k).val := by
  have h := ids_at V0 b k
  generalize res_main_indices V0 = ids at h
  pointwise [rplace]
  rw [h]
  exact wrap3 _

/-- The gates: a row of zeros with the two weights at their places. -/
def rgates : FVec Ideal S2x3 .f32 :=
  Host.scatter scatter_S2x3_S2x2x2_S2x2_n_01_01_2 (fun _ b => b) (broadcastInDim S2x3 ![] bcast_S_S2x3 (constant S_ .f32 0x00000000#32))
    (rplace (res_main_v543 V0) (res_main_indices V0)) (rprob (res_main_v536 V0))

theorem rgates_at (b : Fin 2) (e : Fin 3) : rgates V0 (ix2 b e) = Net.gates (lg V0) b e := by
  unfold rgates
  rw [put_rows _ _ _ (pick (lg V0)) (pick_inj _) (rplace_row V0) (rplace_col V0), rprob_at, rprob_at]
  unfold Net.gates
  refine congrArg (ite _ _) (congrArg (ite _ _) ?_)
  pointwise []
end

end Cert.ReferenceIdeal.Val
-- ==== Proof.RefRest.lean ====
module

public import proofs.«01_k».proof.Proof.RefGate

/-! The reference from the experts to its results. -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.RefNet Conv

/-- Three arrays stacked. -/
def rstack (x y z : FVec Ideal S2x64x224x224 .f32) : FVec Ideal S3x2x64x224x224 .f32 :=
  concatenate S3x2x64x224x224 0 [⟨S1x2x64x224x224, (broadcastInDim S1x2x64x224x224 ![1, 2, 3, 4] bcast_S2x64x224x224_S1x2x64x224x224_1_2_3_4 x)⟩, ⟨S1x2x64x224x224, (broadcastInDim S1x2x64x224x224 ![1, 2, 3, 4] bcast_S2x64x224x224_S1x2x64x224x224_1_2_3_4 y)⟩, ⟨S1x2x64x224x224, (broadcastInDim S1x2x64x224x224 ![1, 2, 3, 4] bcast_S2x64x224x224_S1x2x64x224x224_1_2_3_4 z)⟩] concatenates_S1x2x64x224x224_S1x2x64x224x224_S1x2x64x224x224_S3x2x64x224x224_d0

theorem rstack_at (x y z : FVec Ideal S2x64x224x224 .f32) (e : Fin 3) (b : Fin 2) (o : Fin 64) (h w : Fin 224) :
    rstack x y z (ix5 e b o h w) = (![imc x, imc y, imc z] : Fin 3 → Img 64) e b h w o := by
  unfold imc
  pointwise [rstack]
  fin_vals e with hk
  all_goals simp only [hk, Nat.reduceSub, Nat.reduceLT, ↓reduceDIte]
  · obtain rfl : e = 0 := Fin.ext hk
    rfl
  · obtain rfl : e = 1 := Fin.ext hk
    rfl
  · obtain rfl : e = 2 := Fin.ext hk
    rfl

/-- The gates times the stack. -/
def rmix (g : FVec Ideal S2x3 .f32) (s : FVec Ideal S3x2x64x224x224 .f32) : FVec Ideal S2x64x224x224 .f32 :=
  Host.dotGeneral dot_S2x3_S3x2x64x224x224_S2x64x224x224_1_0_n_234_0_1 none g s

theorem rmix_at (g : FVec Ideal S2x3 .f32) (s : FVec Ideal S3x2x64x224x224 .f32) (b : Fin 2) (o : Fin 64) (h w : Fin 224) :
    rmix g s (ix4 b o h w) = ∑ e : Fin 3, g (ix2 b e) * s (ix5 e b o h w) := by
  pointwise [rmix]

section
variable (V0 : Valuation τ sig (Elt Ideal))

def xh0 : FVec Ideal S2x64x224x224 .f32 := rrelu (rconv64_64 (rpad64 (xz V0)) (nine64_64 (wm3_0 (V0 (Proc.devRef .tc main_arg12)))) (bm3_0 (V0 (Proc.devRef .tc main_arg13))))
def xe0 : FVec Ideal S2x64x224x224 .f32 := rconv64_64 (rpad64 (xh0 V0)) (nine64_64 (wm3_0 (V0 (Proc.devRef .tc main_arg14)))) (bm3_0 (V0 (Proc.devRef .tc main_arg15)))

theorem xe0_eq : imc (xe0 V0) = (net V0).expert (net V0).drawRoot 0 := by
  rw [xe0, rconv64_64_eq, wm3_0_eq, bm3_0_eq, xh0, rrelu_eq, rconv64_64_eq, wm3_0_eq, bm3_0_eq, xz_eq]; rfl

theorem r101 : res_main_v101 V0 = nine64_64 (wm3_0 (V0 (Proc.devRef .tc main_arg12))) := rfl
theorem r561 : res_main_v561 V0 = rpad64 (xz V0) := by
  unfold res_main_v561; rw [r522]; rfl
theorem r164 : res_main_v164 V0 = nine64_64 (wm3_0 (V0 (Proc.devRef .tc main_arg14))) := rfl
theorem r597 : res_main_v597 V0 = rpad64 (xh0 V0) := by
  unfold res_main_v597; rw [r101, r561]; rfl

def xh1 : FVec Ideal S2x64x224x224 .f32 := rrelu (rconv64_64 (rpad64 (xz V0)) (nine64_64 (wm3_1 (V0 (Proc.devRef .tc main_arg12)))) (bm3_1 (V0 (Proc.devRef .tc main_arg13))))
def xe1 : FVec Ideal S2x64x224x224 .f32 := rconv64_64 (rpad64 (xh1 V0)) (nine64_64 (wm3_1 (V0 (Proc.devRef .tc main_arg14)))) (bm3_1 (V0 (Proc.devRef .tc main_arg15)))

theorem xe1_eq : imc (xe1 V0) = (net V0).expert (net V0).drawRoot 1 := by
  rw [xe1, rconv64_64_eq, wm3_1_eq, bm3_1_eq, xh1, rrelu_eq, rconv64_64_eq, wm3_1_eq, bm3_1_eq, xz_eq]; rfl

theorem r122 : res_main_v122 V0 = nine64_64 (wm3_1 (V0 (Proc.devRef .tc main_arg12))) := rfl
theorem r632 : res_main_v632 V0 = rpad64 (xz V0) := by
  unfold res_main_v632; rw [r522]; rfl
theorem r185 : res_main_v185 V0 = nine64_64 (wm3_1 (V0 (Proc.devRef .tc main_arg14))) := rfl
theorem r668 : res_main_v668 V0 = rpad64 (xh1 V0) := by
  unfold res_main_v668; rw [r122, r632]; rfl

def xh2 : FVec Ideal S2x64x224x224 .f32 := rrelu (rconv64_64 (rpad64 (xz V0)) (nine64_64 (wm3_2 (V0 (Proc.devRef .tc main_arg12)))) (bm3_2 (V0 (Proc.devRef .tc main_arg13))))
def xe2 : FVec Ideal S2x64x224x224 .f32 := rconv64_64 (rpad64 (xh2 V0)) (nine64_64 (wm3_2 (V0 (Proc.devRef .tc main_arg14)))) (bm3_2 (V0 (Proc.devRef .tc main_arg15)))

theorem xe2_eq : imc (xe2 V0) = (net V0).expert (net V0).drawRoot 2 := by
  rw [xe2, rconv64_64_eq, wm3_2_eq, bm3_2_eq, xh2, rrelu_eq, rconv64_64_eq, wm3_2_eq, bm3_2_eq, xz_eq]; rfl

theorem r143 : res_main_v143 V0 = nine64_64 (wm3_2 (V0 (Proc.devRef .tc main_arg12))) := rfl
theorem r703 : res_main_v703 V0 = rpad64 (xz V0) := by
  unfold res_main_v703; rw [r522]; rfl
theorem r206 : res_main_v206 V0 = nine64_64 (wm3_2 (V0 (Proc.devRef .tc main_arg14))) := rfl
theorem r739 : res_main_v739 V0 = rpad64 (xh2 V0) := by
  unfold res_main_v739; rw [r143, r703]; rfl

theorem r775 : res_main_v775 V0 = rstack (xe0 V0) (xe1 V0) (xe2 V0) := by
  have h : res_main_v775 V0 = rstack
      (rconv64_64 (res_main_v597 V0) (res_main_v164 V0) (bm3_0 (V0 (Proc.devRef .tc main_arg15))))
      (rconv64_64 (res_main_v668 V0) (res_main_v185 V0) (bm3_1 (V0 (Proc.devRef .tc main_arg15))))
      (rconv64_64 (res_main_v739 V0) (res_main_v206 V0) (bm3_2 (V0 (Proc.devRef .tc main_arg15)))) := rfl
  rw [h, r164, r597, r185, r668, r206, r739]
  rfl

def xmix : FVec Ideal S2x64x224x224 .f32 := rmix (rgates V0) (rstack (xe0 V0) (xe1 V0) (xe2 V0))

/-- The reference's mixture. -/
abbrev mx : Img 64 := (net V0).mixAll (net V0).drawRoot (lg V0)

theorem xmix_eq : imc (xmix V0) = mx V0 := by
  funext b h w o
  show xmix V0 (ix4 b o h w) = _
  rw [xmix, rmix_at]
  refine Finset.sum_congr rfl fun e _ => ?_
  rw [rgates_at, rstack_at]
  refine congrArg (fun t : EReal => Net.gates (lg V0) b e * t) ?_
  match e with
  | 0 => exact congrFun (congrFun (congrFun (congrFun (xe0_eq V0) b) h) w) o
  | 1 => exact congrFun (congrFun (congrFun (congrFun (xe1_eq V0) b) h) w) o
  | 2 => exact congrFun (congrFun (congrFun (congrFun (xe2_eq V0) b) h) w) o

theorem r777 : res_main_v777 V0 = rpad64 (xmix V0) := by
  have h : res_main_v777 V0 = rpad64 (rmix (rgates V0) (res_main_v775 V0)) := rfl
  rw [h, r775]
  rfl

def xn : FVec Ideal S2x1x224x224 .f32 := rconv64_1 (rpad64 (xmix V0)) (nine64_1 (V0 (Proc.devRef .tc main_arg16))) (V0 (Proc.devRef .tc main_arg17))
def xic : FVec Ideal S2x1x224x224 .f32 := subf (V0 (Proc.devRef .tc main_arg0)) (xn V0)
def y0 : FVec Ideal S2x64x224x224 .f32 := rrelu (rconv1_64 (rpad1 (xic V0)) (nine1_64 (V0 (Proc.devRef .tc main_arg18))) (V0 (Proc.devRef .tc main_arg19)))
def y1 : FVec Ideal S2x64x224x224 .f32 := rrelu (rconv64_64 (rpad64 (y0 V0)) (nine64_64 (wm3_0 (V0 (Proc.devRef .tc main_arg20)))) (bm3_0 (V0 (Proc.devRef .tc main_arg21))))
def y2 : FVec Ideal S2x64x224x224 .f32 := rrelu (rconv64_64 (rpad64 (y1 V0)) (nine64_64 (wm3_1 (V0 (Proc.devRef .tc main_arg20)))) (bm3_1 (V0 (Proc.devRef .tc main_arg21))))
def y3 : FVec Ideal S2x64x224x224 .f32 := rrelu (rconv64_64 (rpad64 (y2 V0)) (nine64_64 (wm3_2 (V0 (Proc.devRef .tc main_arg20)))) (bm3_2 (V0 (Proc.devRef .tc main_arg21))))
def xout : FVec Ideal S2x1x224x224 .f32 := rconv64_1 (rpad64 (y3 V0)) (nine64_1 (V0 (Proc.devRef .tc main_arg22))) (V0 (Proc.devRef .tc main_arg23))

theorem xn_eq : imc (xn V0) = (net V0).noise (mx V0) := by
  rw [xn, rconv64_1_eq, xmix_eq]; rfl

theorem xic_eq : imc (xic V0) = (net V0).clean (mx V0) := by
  funext b h w o
  unfold Net.clean
  rw [← xn_eq]
  rfl

theorem xout_eq : imc (xout V0) = (net V0).refine (mx V0) := by
  rw [xout, rconv64_1_eq, y3, rrelu_eq, rconv64_64_eq, y2, rrelu_eq, rconv64_64_eq, y1, rrelu_eq, rconv64_64_eq,
    y0, rrelu_eq, rconv1_64_eq, xic_eq, wm3_0_eq, wm3_1_eq, wm3_2_eq, bm3_0_eq, bm3_1_eq, bm3_2_eq]
  rfl

theorem r225 : res_main_v225 V0 = nine64_1 (V0 (Proc.devRef .tc main_arg16)) := rfl
theorem r244 : res_main_v244 V0 = nine1_64 (V0 (Proc.devRef .tc main_arg18)) := rfl
theorem r326 : res_main_v326 V0 = nine64_1 (V0 (Proc.devRef .tc main_arg22)) := rfl

theorem r811 : res_main_v811 V0 = rpad1 (xic V0) := by
  unfold res_main_v811; rw [r777, r225]; rfl
theorem r265 : res_main_v265 V0 = nine64_64 (wm3_0 (V0 (Proc.devRef .tc main_arg20))) := rfl
theorem r847 : res_main_v847 V0 = rpad64 (y0 V0) := by
  unfold res_main_v847; rw [r811, r244]; rfl
theorem r286 : res_main_v286 V0 = nine64_64 (wm3_1 (V0 (Proc.devRef .tc main_arg20))) := rfl
theorem r883 : res_main_v883 V0 = rpad64 (y1 V0) := by
  unfold res_main_v883; rw [r847, r265]; rfl
theorem r307 : res_main_v307 V0 = nine64_64 (wm3_2 (V0 (Proc.devRef .tc main_arg20))) := rfl
theorem r919 : res_main_v919 V0 = rpad64 (y2 V0) := by
  unfold res_main_v919; rw [r883, r286]; rfl
theorem r953 : res_main_v953 V0 = rpad64 (y3 V0) := by
  unfold res_main_v953; rw [r919, r307]; rfl

end

/-- The reference's run: its four results are these arrays of its arguments, which it leaves alone. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v985) = xout (StableHlo.launchContents m c)
      ∧ r.2.mem ((c.tc : Thread nD τ).loc main_v809) = xn (StableHlo.launchContents m c)
      ∧ r.2.mem ((c.tc : Thread nD τ).loc main_v483) = xmu (StableHlo.launchContents m c)
      ∧ r.2.mem ((c.tc : Thread nD τ).loc main_v517) = xs2 (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => by
    have hc := h c
    rw [r953, r777, r451, r484, r326, r225, r61, r80] at hc
    exact hc) (run m ρ)

end Cert.ReferenceIdeal.Val
-- ==== Proof.Alg.lean ====
module

public import proofs.«01_k».proof.Proof.Mix
public import proofs.«01_k».proof.Proof.KerNet
public import proofs.«01_k».proof.Proof.KerRun
public import proofs.«01_k».proof.Proof.RefRest

/-! Kernel and reference, run from memories agreeing on the arguments, end with equal results: both are the same denoiser, whose
    two ways of mixing the experts agree on real logits. -/

@[expose] public section

set_option maxRecDepth 16384

noncomputable section

namespace Conv

open Idealize.ShloMosaic

/-- An array is its image. -/
theorem imc_inj {C : ℕ} {x y : (⟨4, ![2, C, 224, 224]⟩ : Shape).Idx → EReal} (h : imc x = imc y) : x = y := by
  funext j
  have e : j = ix4 (j 0) (j 1) (j 2) (j 3) := by
    funext i
    fin_cases i <;> rfl
  rw [e]
  exact congrFun (congrFun (congrFun (congrFun h (j 0)) (j 2)) (j 3)) (j 1)

/-- Denoisers with the same arguments are the same. -/
theorem Net.same {N M : Net} (h0 : N.img = M.img) (h1 : N.eps = M.eps) (h2 : N.w2 = M.w2) (h3 : N.b3 = M.b3) (h4 : N.w4 = M.w4) (h5 : N.b5 = M.b5) (h6 : N.w6 = M.w6) (h7 : N.b7 = M.b7) (h8 : N.w8 = M.w8) (h9 : N.b9 = M.b9) (h10 : N.w10 = M.w10) (h11 : N.b11 = M.b11) (h12 : N.w12 = M.w12) (h13 : N.b13 = M.b13) (h14 : N.w14 = M.w14) (h15 : N.b15 = M.b15) (h16 : N.w16 = M.w16) (h17 : N.b17 = M.b17) (h18 : N.w18 = M.w18) (h19 : N.b19 = M.b19) (h20 : N.w20 = M.w20) (h21 : N.b21 = M.b21) (h22 : N.w22 = M.w22) (h23 : N.b23 = M.b23) : N = M := by
  cases N
  cases M
  simp only [Net.mk.injEq]
  exact ⟨h0, h1, h2, h3, h4, h5, h6, h7, h8, h9, h10, h11, h12, h13, h14, h15, h16, h17, h18, h19, h20, h21, h22, h23⟩

end Conv

namespace Cert.Alg

open Idealize.ShloMosaic Idealize.SL.Sem Conv

/-- The arguments of the two memories, device by device. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      @Eq (((⟨Cert.KernelIdeal.S2x1x224x224, .f32⟩ : BufTy)).Contents (Elt Ideal)) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
      ∧ @Eq (((⟨Cert.KernelIdeal.S2x64x224x224, .f32⟩ : BufTy)).Contents (Elt Ideal)) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
      ∧ @Eq (((⟨Cert.KernelIdeal.S64x1x3x3, .f32⟩ : BufTy)).Contents (Elt Ideal)) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
      ∧ @Eq (((⟨Cert.KernelIdeal.S64, .f32⟩ : BufTy)).Contents (Elt Ideal)) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
      ∧ @Eq (((⟨Cert.KernelIdeal.S2x64x64x3x3, .f32⟩ : BufTy)).Contents (Elt Ideal)) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
      ∧ @Eq (((⟨Cert.KernelIdeal.S2x64, .f32⟩ : BufTy)).Contents (Elt Ideal)) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
      ∧ @Eq (((⟨Cert.KernelIdeal.S64x64x3x3, .f32⟩ : BufTy)).Contents (Elt Ideal)) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
      ∧ @Eq (((⟨Cert.KernelIdeal.S64, .f32⟩ : BufTy)).Contents (Elt Ideal)) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
      ∧ @Eq (((⟨Cert.KernelIdeal.S64x64x3x3, .f32⟩ : BufTy)).Contents (Elt Ideal)) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
      ∧ @Eq (((⟨Cert.KernelIdeal.S64, .f32⟩ : BufTy)).Contents (Elt Ideal)) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
      ∧ @Eq (((⟨Cert.KernelIdeal.S64x3, .f32⟩ : BufTy)).Contents (Elt Ideal)) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
      ∧ @Eq (((⟨Cert.KernelIdeal.S3, .f32⟩ : BufTy)).Contents (Elt Ideal)) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
      ∧ @Eq (((⟨Cert.KernelIdeal.S3x64x64x3x3, .f32⟩ : BufTy)).Contents (Elt Ideal)) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
      ∧ @Eq (((⟨Cert.KernelIdeal.S3x64, .f32⟩ : BufTy)).Contents (Elt Ideal)) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
      ∧ @Eq (((⟨Cert.KernelIdeal.S3x64x64x3x3, .f32⟩ : BufTy)).Contents (Elt Ideal)) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
      ∧ @Eq (((⟨Cert.KernelIdeal.S3x64, .f32⟩ : BufTy)).Contents (Elt Ideal)) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))
      ∧ @Eq (((⟨Cert.KernelIdeal.S1x64x3x3, .f32⟩ : BufTy)).Contents (Elt Ideal)) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16))
      ∧ @Eq (((⟨Cert.KernelIdeal.S1, .f32⟩ : BufTy)).Contents (Elt Ideal)) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17))
      ∧ @Eq (((⟨Cert.KernelIdeal.S64x1x3x3, .f32⟩ : BufTy)).Contents (Elt Ideal)) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18))
      ∧ @Eq (((⟨Cert.KernelIdeal.S64, .f32⟩ : BufTy)).Contents (Elt Ideal)) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19))
      ∧ @Eq (((⟨Cert.KernelIdeal.S3x64x64x3x3, .f32⟩ : BufTy)).Contents (Elt Ideal)) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20))
      ∧ @Eq (((⟨Cert.KernelIdeal.S3x64, .f32⟩ : BufTy)).Contents (Elt Ideal)) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))
      ∧ @Eq (((⟨Cert.KernelIdeal.S1x64x3x3, .f32⟩ : BufTy)).Contents (Elt Ideal)) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg22))
      ∧ @Eq (((⟨Cert.KernelIdeal.S1, .f32⟩ : BufTy)).Contents (Elt Ideal)) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg23))

section
variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)

/-- Agreeing memories hold one denoiser. -/
theorem net_same (hag : Agree m m') : Cert.ReferenceIdeal.Val.net (StableHlo.launchContents m' c) = Cert.KernelIdeal.Val.netK m c := by
  obtain ⟨h0, h1, h2, h3, h4, h5, h6, h7, h8, h9, h10, h11, h12, h13, h14, h15, h16, h17, h18, h19, h20, h21, h22, h23⟩ := hag c
  exact Net.same (congrArg imc h0) (congrArg imc h1) (congrArg oihw h2) (congrArg vec h3) (congrArg oihwOf h4) (congrArg vecOf h5) (congrArg oihw h6) (congrArg vec h7) (congrArg oihw h8) (congrArg vec h9) (congrArg vecOf h10) (congrArg vec h11) (congrArg oihwOf h12) (congrArg vecOf h13) (congrArg oihwOf h14) (congrArg vecOf h15) (congrArg oihw h16) (congrArg vec h17) (congrArg oihw h18) (congrArg vec h19) (congrArg oihwOf h20) (congrArg vecOf h21) (congrArg oihw h22) (congrArg vec h23)

variable (hN : (Cert.KernelIdeal.Val.netK m c).Real) (hag : Agree m m')
include hN hag

theorem mix_same : Cert.ReferenceIdeal.Val.mx (StableHlo.launchContents m' c) = Cert.KernelIdeal.Val.mixK m c := by
  have h : Cert.ReferenceIdeal.Val.mx (StableHlo.launchContents m' c)
      = (Cert.ReferenceIdeal.Val.net (StableHlo.launchContents m' c)).mixAll (Cert.ReferenceIdeal.Val.net (StableHlo.launchContents m' c)).drawRoot
        ((Cert.ReferenceIdeal.Val.net (StableHlo.launchContents m' c)).logits (Cert.ReferenceIdeal.Val.net (StableHlo.launchContents m' c)).drawRoot) := rfl
  rw [h, net_same m m' c hag]
  exact hN.mix.symm

/-- The reference's out is the kernel's. -/
theorem out_same (ρ : Dev Cert.KernelIdeal.nD → PrngReg) : Cert.ReferenceIdeal.Val.xout (StableHlo.launchContents m' c)
    = Cert.KernelIdeal.Gen.W49 m ρ c (Proc.devRef .tc Cert.KernelIdeal.main_v348) :=
  imc_inj (C := 1) ((Cert.ReferenceIdeal.Val.xout_eq (StableHlo.launchContents m' c)).trans (Eq.trans (by rw [net_same m m' c hag, mix_same m m' c hN hag]) (Cert.KernelIdeal.Val.end_v348 m ρ c).symm))

/-- The reference's noise is the kernel's. -/
theorem noise_same (ρ : Dev Cert.KernelIdeal.nD → PrngReg) : Cert.ReferenceIdeal.Val.xn (StableHlo.launchContents m' c)
    = Cert.KernelIdeal.Gen.W49 m ρ c (Proc.devRef .tc Cert.KernelIdeal.main_v349) :=
  imc_inj (C := 1) ((Cert.ReferenceIdeal.Val.xn_eq (StableHlo.launchContents m' c)).trans (Eq.trans (by rw [net_same m m' c hag, mix_same m m' c hN hag]) (Cert.KernelIdeal.Val.end_v349 m ρ c).symm))

/-- The reference's mean is the kernel's. -/
theorem mean_same (ρ : Dev Cert.KernelIdeal.nD → PrngReg) : Cert.ReferenceIdeal.Val.xmu (StableHlo.launchContents m' c)
    = Cert.KernelIdeal.Gen.W49 m ρ c (Proc.devRef .tc Cert.KernelIdeal.main_v350) :=
  imc_inj (C := 64) ((Cert.ReferenceIdeal.Val.xmu_eq (StableHlo.launchContents m' c)).trans (Eq.trans (by rw [net_same m m' c hag]) (Cert.KernelIdeal.Val.end_v350 m ρ c).symm))

/-- The reference's variance is the kernel's. -/
theorem variance_same (ρ : Dev Cert.KernelIdeal.nD → PrngReg) : Cert.ReferenceIdeal.Val.xs2 (StableHlo.launchContents m' c)
    = Cert.KernelIdeal.Gen.W49 m ρ c (Proc.devRef .tc Cert.KernelIdeal.main_v351) :=
  imc_inj (C := 64) ((Cert.ReferenceIdeal.Val.xs2_eq (StableHlo.launchContents m' c)).trans (Eq.trans (by rw [net_same m m' c hag]) (Cert.KernelIdeal.Val.end_v351 m ρ c).symm))

end

/-- The two programs' runs, from memories agreeing on the arguments. -/
theorem runs (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hN : ∀ c, (Cert.KernelIdeal.Val.netK m c).Real) (hag : Agree m m') :
    ∃ (v0 : (c : Dev Cert.KernelIdeal.nD) → Buf (Elt Ideal) ((c.tc : Thread Cert.KernelIdeal.nD Cert.KernelIdeal.τ).loc Cert.KernelIdeal.main_v348)) (v1 : (c : Dev Cert.KernelIdeal.nD) → Buf (Elt Ideal) ((c.tc : Thread Cert.KernelIdeal.nD Cert.KernelIdeal.τ).loc Cert.KernelIdeal.main_v349)) (v2 : (c : Dev Cert.KernelIdeal.nD) → Buf (Elt Ideal) ((c.tc : Thread Cert.KernelIdeal.nD Cert.KernelIdeal.τ).loc Cert.KernelIdeal.main_v350)) (v3 : (c : Dev Cert.KernelIdeal.nD) → Buf (Elt Ideal) ((c.tc : Thread Cert.KernelIdeal.nD Cert.KernelIdeal.τ).loc Cert.KernelIdeal.main_v351)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v348) = v0 c
          ∧ r.2.mem ((c.tc : Thread Cert.KernelIdeal.nD Cert.KernelIdeal.τ).loc Cert.KernelIdeal.main_v349) = v1 c
          ∧ r.2.mem ((c.tc : Thread Cert.KernelIdeal.nD Cert.KernelIdeal.τ).loc Cert.KernelIdeal.main_v350) = v2 c
          ∧ r.2.mem ((c.tc : Thread Cert.KernelIdeal.nD Cert.KernelIdeal.τ).loc Cert.KernelIdeal.main_v351) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v985) = v0 c
          ∧ r.2.mem ((c.tc : Thread Cert.ReferenceIdeal.nD Cert.ReferenceIdeal.τ).loc Cert.ReferenceIdeal.main_v809) = v1 c
          ∧ r.2.mem ((c.tc : Thread Cert.ReferenceIdeal.nD Cert.ReferenceIdeal.τ).loc Cert.ReferenceIdeal.main_v483) = v2 c
          ∧ r.2.mem ((c.tc : Thread Cert.ReferenceIdeal.nD Cert.ReferenceIdeal.τ).loc Cert.ReferenceIdeal.main_v517) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)) :=
  ⟨fun c => Cert.KernelIdeal.Gen.W49 m g c (Proc.devRef .tc Cert.KernelIdeal.main_v348),
    fun c => Cert.KernelIdeal.Gen.W49 m g c (Proc.devRef .tc Cert.KernelIdeal.main_v349),
    fun c => Cert.KernelIdeal.Gen.W49 m g c (Proc.devRef .tc Cert.KernelIdeal.main_v350),
    fun c => Cert.KernelIdeal.Gen.W49 m g c (Proc.devRef .tc Cert.KernelIdeal.main_v351),
    Cert.KernelIdeal.Val.run_ker m g,
    (θ_run _ _ _).mono (fun _ h c =>
      ⟨(h c).1.trans (out_same m m' c (hN c) hag g), (h c).2.1.trans (noise_same m m' c (hN c) hag g),
        (h c).2.2.1.trans (mean_same m m' c (hN c) hag g), (h c).2.2.2.1.trans (variance_same m m' c (hN c) hag g), (h c).2.2.2.2⟩)
      (Cert.ReferenceIdeal.Val.run_ref m' g')⟩

end Cert.Alg
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.PreFin
public import proofs.«01_k».proof.Proof.Alg
public import Idealize.ShloMosaic.Lib.Quiescent

/-! The certificate: the frames, and the equality of kernel and reference over the extended reals. -/

@[expose] public section

set_option maxRecDepth 16384

noncomputable section

namespace Cert.Proof

open Idealize.ShloMosaic Idealize.SL.Sem Conv

/-- Under the precondition, every argument the router's logits are computed from holds real numbers. -/
theorem real_of_pre (m : (ℓ : Loc Cert.KernelIdeal.nD Cert.KernelIdeal.τ Cert.KernelIdeal.sig) → Buf (Elt Ideal) ℓ)
    (h : Cert.Pre_KernelIdeal_router_inputs_finite (hPre_router_inputs_finite := Cert.Pre_router_inputs_finite.facts) m)
    (c : Dev Cert.KernelIdeal.nD) : (Cert.KernelIdeal.Val.netK m c).Real := by
  obtain ⟨h0, h1, h2, h3, h4, h5, h6, h7, h8, h9, h10, h11⟩ := h c
  exact {
    img := fun b y x o => Cert.Pre_router_inputs_finite.rl_of_ones _ _ h0 (ix4 b o y x)
    eps := fun b y x o => Cert.Pre_router_inputs_finite.rl_of_ones _ _ h1 (ix4 b o y x)
    w2 := fun dy dx i o => Cert.Pre_router_inputs_finite.rl_of_ones _ _ h2 (ix4 o i dy dx)
    b3 := fun o => Cert.Pre_router_inputs_finite.rl_of_ones _ _ h3 (ix1 o)
    w4 := fun e dy dx i o => Cert.Pre_router_inputs_finite.rl_of_ones _ _ h4 (ix5 e o i dy dx)
    b5 := fun e o => Cert.Pre_router_inputs_finite.rl_of_ones _ _ h5 (ix2 e o)
    w6 := fun dy dx i o => Cert.Pre_router_inputs_finite.rl_of_ones _ _ h6 (ix4 o i dy dx)
    b7 := fun o => Cert.Pre_router_inputs_finite.rl_of_ones _ _ h7 (ix1 o)
    w8 := fun dy dx i o => Cert.Pre_router_inputs_finite.rl_of_ones _ _ h8 (ix4 o i dy dx)
    b9 := fun o => Cert.Pre_router_inputs_finite.rl_of_ones _ _ h9 (ix1 o)
    w10 := fun i o => Cert.Pre_router_inputs_finite.rl_of_ones _ _ h10 (ix2 i o)
    b11 := fun o => Cert.Pre_router_inputs_finite.rl_of_ones _ _ h11 (ix1 o) }

/-- The reference runs, leaves its arguments unchanged and has no semaphore counter. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0) :=
  (θ_run _ _ _).mono (fun r h => ⟨fun c => (h c).2.2.2.2, sem_eq_zero_of_no_sems rfl r.2⟩) (Cert.ReferenceIdeal.Val.run_ref m g)

/-- Everything the certificate claims. -/
theorem claim : Cert.Claim :=
  ⟨Cert.Kernel.Gen.facts, Cert.KernelIdeal.Gen.facts, Cert.ReferenceIdeal.Gen.facts, Cert.Pre_router_inputs_finite.facts,
    fun m g _ => Cert.Kernel.Gen.frame m g,
    fun m g _ => Cert.KernelIdeal.Gen.frame m g,
    fun m g _ => Cert.KernelIdeal.Gen.frame m g,
    fun m g _ => frame_ref m g,
    fun m g _ => frame_ref m g,
    trivial,
    fun m g m' g' h => Cert.Alg.runs m g m' g' (real_of_pre m h)⟩

end Cert.Proof

end
